-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_ProjW (m : (ℓ : Loc Cert.ProjW.nD Cert.ProjW.τ Cert.ProjW.sig) → Buf (Elt Bits) ℓ) : Prop :=
  True

def Pre_ProjWIdeal (m : (ℓ : Loc Cert.ProjWIdeal.nD Cert.ProjWIdeal.τ Cert.ProjWIdeal.sig) → Buf (Elt Ideal) ℓ) : Prop :=
  True

def Pre_ProjWReferenceIdeal (m : (ℓ : Loc Cert.ProjWReferenceIdeal.nD Cert.ProjWReferenceIdeal.τ Cert.ProjWReferenceIdeal.sig) → Buf (Elt Ideal) ℓ) : Prop :=
  True

def Pre_ProjH (m : (ℓ : Loc Cert.ProjH.nD Cert.ProjH.τ Cert.ProjH.sig) → Buf (Elt Bits) ℓ) : Prop :=
  True

def Pre_ProjHIdeal (m : (ℓ : Loc Cert.ProjHIdeal.nD Cert.ProjHIdeal.τ Cert.ProjHIdeal.sig) → Buf (Elt Ideal) ℓ) : Prop :=
  True

def Pre_ProjHReferenceIdeal (m : (ℓ : Loc Cert.ProjHReferenceIdeal.nD Cert.ProjHReferenceIdeal.τ Cert.ProjHReferenceIdeal.sig) → Buf (Elt Ideal) ℓ) : Prop :=
  True

def Pre_LruOut (m : (ℓ : Loc Cert.LruOut.nD Cert.LruOut.τ Cert.LruOut.sig) → Buf (Elt Bits) ℓ) : Prop :=
  True

def Pre_LruOutIdeal (m : (ℓ : Loc Cert.LruOutIdeal.nD Cert.LruOutIdeal.τ Cert.LruOutIdeal.sig) → Buf (Elt Ideal) ℓ) : Prop :=
  True

def Pre_LruOutReferenceIdeal (m : (ℓ : Loc Cert.LruOutReferenceIdeal.nD Cert.LruOutReferenceIdeal.τ Cert.LruOutReferenceIdeal.sig) → Buf (Elt Ideal) ℓ) : Prop :=
  True

def Pre_MlaOut (m : (ℓ : Loc Cert.MlaOut.nD Cert.MlaOut.τ Cert.MlaOut.sig) → Buf (Elt Bits) ℓ) : Prop :=
  True

def Pre_MlaOutIdeal (m : (ℓ : Loc Cert.MlaOutIdeal.nD Cert.MlaOutIdeal.τ Cert.MlaOutIdeal.sig) → Buf (Elt Ideal) ℓ) : Prop :=
  True

def Pre_MlaOutReferenceIdeal (m : (ℓ : Loc Cert.MlaOutReferenceIdeal.nD Cert.MlaOutReferenceIdeal.τ Cert.MlaOutReferenceIdeal.sig) → Buf (Elt Ideal) ℓ) : Prop :=
  True

def Pre_DilOut (m : (ℓ : Loc Cert.DilOut.nD Cert.DilOut.τ Cert.DilOut.sig) → Buf (Elt Bits) ℓ) : Prop :=
  True

def Pre_DilOutIdeal (m : (ℓ : Loc Cert.DilOutIdeal.nD Cert.DilOutIdeal.τ Cert.DilOutIdeal.sig) → Buf (Elt Ideal) ℓ) : Prop :=
  True

def Pre_DilOutReferenceIdeal (m : (ℓ : Loc Cert.DilOutReferenceIdeal.nD Cert.DilOutReferenceIdeal.τ Cert.DilOutReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_MergedGrad (m : (ℓ : Loc Cert.MergedGrad.nD Cert.MergedGrad.τ Cert.MergedGrad.sig) → Buf (Elt Bits) ℓ) : Prop :=
  True

def Pre_MergedGradIdeal (m : (ℓ : Loc Cert.MergedGradIdeal.nD Cert.MergedGradIdeal.τ Cert.MergedGradIdeal.sig) → Buf (Elt Ideal) ℓ) : Prop :=
  True

def Pre_MergedGradReferenceIdeal (m : (ℓ : Loc Cert.MergedGradReferenceIdeal.nD Cert.MergedGradReferenceIdeal.τ Cert.MergedGradReferenceIdeal.sig) → Buf (Elt Ideal) ℓ) : Prop :=
  True

def Pre_OutWeightGrad (m : (ℓ : Loc Cert.OutWeightGrad.nD Cert.OutWeightGrad.τ Cert.OutWeightGrad.sig) → Buf (Elt Bits) ℓ) : Prop :=
  True

def Pre_OutWeightGradIdeal (m : (ℓ : Loc Cert.OutWeightGradIdeal.nD Cert.OutWeightGradIdeal.τ Cert.OutWeightGradIdeal.sig) → Buf (Elt Ideal) ℓ) : Prop :=
  True

def Pre_OutWeightGradReferenceIdeal (m : (ℓ : Loc Cert.OutWeightGradReferenceIdeal.nD Cert.OutWeightGradReferenceIdeal.τ Cert.OutWeightGradReferenceIdeal.sig) → Buf (Elt Ideal) ℓ) : Prop :=
  True

def Pre_LruGrad (m : (ℓ : Loc Cert.LruGrad.nD Cert.LruGrad.τ Cert.LruGrad.sig) → Buf (Elt Bits) ℓ) : Prop :=
  True

def Pre_LruGradIdeal (m : (ℓ : Loc Cert.LruGradIdeal.nD Cert.LruGradIdeal.τ Cert.LruGradIdeal.sig) → Buf (Elt Ideal) ℓ) : Prop :=
  True

def Pre_LruGradReferenceIdeal (m : (ℓ : Loc Cert.LruGradReferenceIdeal.nD Cert.LruGradReferenceIdeal.τ Cert.LruGradReferenceIdeal.sig) → Buf (Elt Ideal) ℓ) : Prop :=
  True

def Pre_MlaGrad (m : (ℓ : Loc Cert.MlaGrad.nD Cert.MlaGrad.τ Cert.MlaGrad.sig) → Buf (Elt Bits) ℓ) : Prop :=
  True

def Pre_MlaGradIdeal (m : (ℓ : Loc Cert.MlaGradIdeal.nD Cert.MlaGradIdeal.τ Cert.MlaGradIdeal.sig) → Buf (Elt Ideal) ℓ) : Prop :=
  True

def Pre_MlaGradReferenceIdeal (m : (ℓ : Loc Cert.MlaGradReferenceIdeal.nD Cert.MlaGradReferenceIdeal.τ Cert.MlaGradReferenceIdeal.sig) → Buf (Elt Ideal) ℓ) : Prop :=
  True

def Pre_DilGrad (m : (ℓ : Loc Cert.DilGrad.nD Cert.DilGrad.τ Cert.DilGrad.sig) → Buf (Elt Bits) ℓ) : Prop :=
  True

def Pre_DilGradIdeal (m : (ℓ : Loc Cert.DilGradIdeal.nD Cert.DilGradIdeal.τ Cert.DilGradIdeal.sig) → Buf (Elt Ideal) ℓ) : Prop :=
  True

def Pre_DilGradReferenceIdeal (m : (ℓ : Loc Cert.DilGradReferenceIdeal.nD Cert.DilGradReferenceIdeal.τ Cert.DilGradReferenceIdeal.sig) → Buf (Elt Ideal) ℓ) : Prop :=
  True

def Pre_LruWeightGrad (m : (ℓ : Loc Cert.LruWeightGrad.nD Cert.LruWeightGrad.τ Cert.LruWeightGrad.sig) → Buf (Elt Bits) ℓ) : Prop :=
  True

def Pre_LruWeightGradIdeal (m : (ℓ : Loc Cert.LruWeightGradIdeal.nD Cert.LruWeightGradIdeal.τ Cert.LruWeightGradIdeal.sig) → Buf (Elt Ideal) ℓ) : Prop :=
  True

def Pre_LruWeightGradReferenceIdeal (m : (ℓ : Loc Cert.LruWeightGradReferenceIdeal.nD Cert.LruWeightGradReferenceIdeal.τ Cert.LruWeightGradReferenceIdeal.sig) → Buf (Elt Ideal) ℓ) : Prop :=
  True

def Pre_MlaWeightGrad (m : (ℓ : Loc Cert.MlaWeightGrad.nD Cert.MlaWeightGrad.τ Cert.MlaWeightGrad.sig) → Buf (Elt Bits) ℓ) : Prop :=
  True

def Pre_MlaWeightGradIdeal (m : (ℓ : Loc Cert.MlaWeightGradIdeal.nD Cert.MlaWeightGradIdeal.τ Cert.MlaWeightGradIdeal.sig) → Buf (Elt Ideal) ℓ) : Prop :=
  True

def Pre_MlaWeightGradReferenceIdeal (m : (ℓ : Loc Cert.MlaWeightGradReferenceIdeal.nD Cert.MlaWeightGradReferenceIdeal.τ Cert.MlaWeightGradReferenceIdeal.sig) → Buf (Elt Ideal) ℓ) : Prop :=
  True

def Pre_DilWeightGrad (m : (ℓ : Loc Cert.DilWeightGrad.nD Cert.DilWeightGrad.τ Cert.DilWeightGrad.sig) → Buf (Elt Bits) ℓ) : Prop :=
  True

def Pre_DilWeightGradIdeal (m : (ℓ : Loc Cert.DilWeightGradIdeal.nD Cert.DilWeightGradIdeal.τ Cert.DilWeightGradIdeal.sig) → Buf (Elt Ideal) ℓ) : Prop :=
  True

def Pre_DilWeightGradReferenceIdeal (m : (ℓ : Loc Cert.DilWeightGradReferenceIdeal.nD Cert.DilWeightGradReferenceIdeal.τ Cert.DilWeightGradReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_qk [hPre_finite_qk : Cert.Pre_finite_qk.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_qk.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_finite_qk [hPre_finite_qk : Cert.Pre_finite_qk.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_finite_qk.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWReferenceIdeal (m : (ℓ : Loc Cert.AdamWReferenceIdeal.nD Cert.AdamWReferenceIdeal.τ Cert.AdamWReferenceIdeal.sig) → Buf (Elt Ideal) ℓ) : Prop :=
  True

def Pre_GateLru (m : (ℓ : Loc Cert.GateLru.nD Cert.GateLru.τ Cert.GateLru.sig) → Buf (Elt Bits) ℓ) : Prop :=
  True

def Pre_GateLruIdeal (m : (ℓ : Loc Cert.GateLruIdeal.nD Cert.GateLruIdeal.τ Cert.GateLruIdeal.sig) → Buf (Elt Ideal) ℓ) : Prop :=
  True

def Pre_GateLruReferenceIdeal (m : (ℓ : Loc Cert.GateLruReferenceIdeal.nD Cert.GateLruReferenceIdeal.τ Cert.GateLruReferenceIdeal.sig) → Buf (Elt Ideal) ℓ) : Prop :=
  True

def Pre_GateMla (m : (ℓ : Loc Cert.GateMla.nD Cert.GateMla.τ Cert.GateMla.sig) → Buf (Elt Bits) ℓ) : Prop :=
  True

def Pre_GateMlaIdeal (m : (ℓ : Loc Cert.GateMlaIdeal.nD Cert.GateMlaIdeal.τ Cert.GateMlaIdeal.sig) → Buf (Elt Ideal) ℓ) : Prop :=
  True

def Pre_GateMlaReferenceIdeal (m : (ℓ : Loc Cert.GateMlaReferenceIdeal.nD Cert.GateMlaReferenceIdeal.τ Cert.GateMlaReferenceIdeal.sig) → Buf (Elt Ideal) ℓ) : Prop :=
  True

def Pre_GateDil (m : (ℓ : Loc Cert.GateDil.nD Cert.GateDil.τ Cert.GateDil.sig) → Buf (Elt Bits) ℓ) : Prop :=
  True

def Pre_GateDilIdeal (m : (ℓ : Loc Cert.GateDilIdeal.nD Cert.GateDilIdeal.τ Cert.GateDilIdeal.sig) → Buf (Elt Ideal) ℓ) : Prop :=
  True

def Pre_GateDilReferenceIdeal (m : (ℓ : Loc Cert.GateDilReferenceIdeal.nD Cert.GateDilReferenceIdeal.τ Cert.GateDilReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_ProjW [hProjW : Cert.ProjW.Facts] : Prop :=
  ∀ (m : (ℓ : Loc Cert.ProjW.nD Cert.ProjW.τ Cert.ProjW.sig) → Buf (Elt Bits) ℓ) (g : Dev Cert.ProjW.nD → PrngReg), Pre_ProjW m →
    θ_run (Cert.ProjW.defs (F := Bits)) (onTc (τ := Cert.ProjW.τ) (Cert.ProjW.main (F := Bits))) ⟨m, fun _ => 0, g⟩ (fun r => (∀ c : Dev Cert.ProjW.nD,
      r.2.mem ((c.tc : Thread Cert.ProjW.nD Cert.ProjW.τ).loc Cert.ProjW.main_arg0) = m ((c.tc : Thread Cert.ProjW.nD Cert.ProjW.τ).loc Cert.ProjW.main_arg0)
      ∧ r.2.mem ((c.tc : Thread Cert.ProjW.nD Cert.ProjW.τ).loc Cert.ProjW.main_arg1) = m ((c.tc : Thread Cert.ProjW.nD Cert.ProjW.τ).loc Cert.ProjW.main_arg1))
      ∧ r.2.sem = fun _ => 0)

def quiescent_ProjWIdeal [hProjWIdeal : Cert.ProjWIdeal.Facts] : Prop :=
  ∀ (m : (ℓ : Loc Cert.ProjWIdeal.nD Cert.ProjWIdeal.τ Cert.ProjWIdeal.sig) → Buf (Elt Ideal) ℓ) (g : Dev Cert.ProjWIdeal.nD → PrngReg), Pre_ProjWIdeal m →
    θ_run (Cert.ProjWIdeal.defs (F := Ideal)) (onTc (τ := Cert.ProjWIdeal.τ) (Cert.ProjWIdeal.main (F := Ideal))) ⟨m, fun _ => 0, g⟩ (fun r => (∀ c : Dev Cert.ProjWIdeal.nD,
      r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
      ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1))
      ∧ r.2.sem = fun _ => 0)

def quiescent_ProjWReferenceIdeal [hProjWReferenceIdeal : Cert.ProjWReferenceIdeal.Facts] : Prop :=
  ∀ (m : (ℓ : Loc Cert.ProjWReferenceIdeal.nD Cert.ProjWReferenceIdeal.τ Cert.ProjWReferenceIdeal.sig) → Buf (Elt Ideal) ℓ) (g : Dev Cert.ProjWReferenceIdeal.nD → PrngReg), Pre_ProjWReferenceIdeal m →
    θ_run (Cert.ProjWReferenceIdeal.defs (F := Ideal)) (onTc (τ := Cert.ProjWReferenceIdeal.τ) (Cert.ProjWReferenceIdeal.main (F := Ideal))) ⟨m, fun _ => 0, g⟩ (fun r => (∀ c : Dev Cert.ProjWReferenceIdeal.nD,
      r.2.mem ((c.tc : Thread Cert.ProjWReferenceIdeal.nD Cert.ProjWReferenceIdeal.τ).loc Cert.ProjWReferenceIdeal.main_arg0) = m ((c.tc : Thread Cert.ProjWReferenceIdeal.nD Cert.ProjWReferenceIdeal.τ).loc Cert.ProjWReferenceIdeal.main_arg0)
      ∧ r.2.mem ((c.tc : Thread Cert.ProjWReferenceIdeal.nD Cert.ProjWReferenceIdeal.τ).loc Cert.ProjWReferenceIdeal.main_arg1) = m ((c.tc : Thread Cert.ProjWReferenceIdeal.nD Cert.ProjWReferenceIdeal.τ).loc Cert.ProjWReferenceIdeal.main_arg1))
      ∧ r.2.sem = fun _ => 0)

def quiescent_ProjH [hProjH : Cert.ProjH.Facts] : Prop :=
  ∀ (m : (ℓ : Loc Cert.ProjH.nD Cert.ProjH.τ Cert.ProjH.sig) → Buf (Elt Bits) ℓ) (g : Dev Cert.ProjH.nD → PrngReg), Pre_ProjH m →
    θ_run (Cert.ProjH.defs (F := Bits)) (onTc (τ := Cert.ProjH.τ) (Cert.ProjH.main (F := Bits))) ⟨m, fun _ => 0, g⟩ (fun r => (∀ c : Dev Cert.ProjH.nD,
      r.2.mem ((c.tc : Thread Cert.ProjH.nD Cert.ProjH.τ).loc Cert.ProjH.main_arg0) = m ((c.tc : Thread Cert.ProjH.nD Cert.ProjH.τ).loc Cert.ProjH.main_arg0)
      ∧ r.2.mem ((c.tc : Thread Cert.ProjH.nD Cert.ProjH.τ).loc Cert.ProjH.main_arg1) = m ((c.tc : Thread Cert.ProjH.nD Cert.ProjH.τ).loc Cert.ProjH.main_arg1))
      ∧ r.2.sem = fun _ => 0)

def quiescent_ProjHIdeal [hProjHIdeal : Cert.ProjHIdeal.Facts] : Prop :=
  ∀ (m : (ℓ : Loc Cert.ProjHIdeal.nD Cert.ProjHIdeal.τ Cert.ProjHIdeal.sig) → Buf (Elt Ideal) ℓ) (g : Dev Cert.ProjHIdeal.nD → PrngReg), Pre_ProjHIdeal m →
    θ_run (Cert.ProjHIdeal.defs (F := Ideal)) (onTc (τ := Cert.ProjHIdeal.τ) (Cert.ProjHIdeal.main (F := Ideal))) ⟨m, fun _ => 0, g⟩ (fun r => (∀ c : Dev Cert.ProjHIdeal.nD,
      r.2.mem ((c.tc : Thread Cert.ProjHIdeal.nD Cert.ProjHIdeal.τ).loc Cert.ProjHIdeal.main_arg0) = m ((c.tc : Thread Cert.ProjHIdeal.nD Cert.ProjHIdeal.τ).loc Cert.ProjHIdeal.main_arg0)
      ∧ r.2.mem ((c.tc : Thread Cert.ProjHIdeal.nD Cert.ProjHIdeal.τ).loc Cert.ProjHIdeal.main_arg1) = m ((c.tc : Thread Cert.ProjHIdeal.nD Cert.ProjHIdeal.τ).loc Cert.ProjHIdeal.main_arg1))
      ∧ r.2.sem = fun _ => 0)

def quiescent_ProjHReferenceIdeal [hProjHReferenceIdeal : Cert.ProjHReferenceIdeal.Facts] : Prop :=
  ∀ (m : (ℓ : Loc Cert.ProjHReferenceIdeal.nD Cert.ProjHReferenceIdeal.τ Cert.ProjHReferenceIdeal.sig) → Buf (Elt Ideal) ℓ) (g : Dev Cert.ProjHReferenceIdeal.nD → PrngReg), Pre_ProjHReferenceIdeal m →
    θ_run (Cert.ProjHReferenceIdeal.defs (F := Ideal)) (onTc (τ := Cert.ProjHReferenceIdeal.τ) (Cert.ProjHReferenceIdeal.main (F := Ideal))) ⟨m, fun _ => 0, g⟩ (fun r => (∀ c : Dev Cert.ProjHReferenceIdeal.nD,
      r.2.mem ((c.tc : Thread Cert.ProjHReferenceIdeal.nD Cert.ProjHReferenceIdeal.τ).loc Cert.ProjHReferenceIdeal.main_arg0) = m ((c.tc : Thread Cert.ProjHReferenceIdeal.nD Cert.ProjHReferenceIdeal.τ).loc Cert.ProjHReferenceIdeal.main_arg0)
      ∧ r.2.mem ((c.tc : Thread Cert.ProjHReferenceIdeal.nD Cert.ProjHReferenceIdeal.τ).loc Cert.ProjHReferenceIdeal.main_arg1) = m ((c.tc : Thread Cert.ProjHReferenceIdeal.nD Cert.ProjHReferenceIdeal.τ).loc Cert.ProjHReferenceIdeal.main_arg1))
      ∧ r.2.sem = fun _ => 0)

def quiescent_LruOut [hLruOut : Cert.LruOut.Facts] : Prop :=
  ∀ (m : (ℓ : Loc Cert.LruOut.nD Cert.LruOut.τ Cert.LruOut.sig) → Buf (Elt Bits) ℓ) (g : Dev Cert.LruOut.nD → PrngReg), Pre_LruOut m →
    θ_run (Cert.LruOut.defs (F := Bits)) (onTc (τ := Cert.LruOut.τ) (Cert.LruOut.main (F := Bits))) ⟨m, fun _ => 0, g⟩ (fun r => (∀ c : Dev Cert.LruOut.nD,
      r.2.mem ((c.tc : Thread Cert.LruOut.nD Cert.LruOut.τ).loc Cert.LruOut.main_arg0) = m ((c.tc : Thread Cert.LruOut.nD Cert.LruOut.τ).loc Cert.LruOut.main_arg0)
      ∧ r.2.mem ((c.tc : Thread Cert.LruOut.nD Cert.LruOut.τ).loc Cert.LruOut.main_arg1) = m ((c.tc : Thread Cert.LruOut.nD Cert.LruOut.τ).loc Cert.LruOut.main_arg1))
      ∧ r.2.sem = fun _ => 0)

def quiescent_LruOutIdeal [hLruOutIdeal : Cert.LruOutIdeal.Facts] : Prop :=
  ∀ (m : (ℓ : Loc Cert.LruOutIdeal.nD Cert.LruOutIdeal.τ Cert.LruOutIdeal.sig) → Buf (Elt Ideal) ℓ) (g : Dev Cert.LruOutIdeal.nD → PrngReg), Pre_LruOutIdeal m →
    θ_run (Cert.LruOutIdeal.defs (F := Ideal)) (onTc (τ := Cert.LruOutIdeal.τ) (Cert.LruOutIdeal.main (F := Ideal))) ⟨m, fun _ => 0, g⟩ (fun r => (∀ c : Dev Cert.LruOutIdeal.nD,
      r.2.mem ((c.tc : Thread Cert.LruOutIdeal.nD Cert.LruOutIdeal.τ).loc Cert.LruOutIdeal.main_arg0) = m ((c.tc : Thread Cert.LruOutIdeal.nD Cert.LruOutIdeal.τ).loc Cert.LruOutIdeal.main_arg0)
      ∧ r.2.mem ((c.tc : Thread Cert.LruOutIdeal.nD Cert.LruOutIdeal.τ).loc Cert.LruOutIdeal.main_arg1) = m ((c.tc : Thread Cert.LruOutIdeal.nD Cert.LruOutIdeal.τ).loc Cert.LruOutIdeal.main_arg1))
      ∧ r.2.sem = fun _ => 0)

def quiescent_LruOutReferenceIdeal [hLruOutReferenceIdeal : Cert.LruOutReferenceIdeal.Facts] : Prop :=
  ∀ (m : (ℓ : Loc Cert.LruOutReferenceIdeal.nD Cert.LruOutReferenceIdeal.τ Cert.LruOutReferenceIdeal.sig) → Buf (Elt Ideal) ℓ) (g : Dev Cert.LruOutReferenceIdeal.nD → PrngReg), Pre_LruOutReferenceIdeal m →
    θ_run (Cert.LruOutReferenceIdeal.defs (F := Ideal)) (onTc (τ := Cert.LruOutReferenceIdeal.τ) (Cert.LruOutReferenceIdeal.main (F := Ideal))) ⟨m, fun _ => 0, g⟩ (fun r => (∀ c : Dev Cert.LruOutReferenceIdeal.nD,
      r.2.mem ((c.tc : Thread Cert.LruOutReferenceIdeal.nD Cert.LruOutReferenceIdeal.τ).loc Cert.LruOutReferenceIdeal.main_arg0) = m ((c.tc : Thread Cert.LruOutReferenceIdeal.nD Cert.LruOutReferenceIdeal.τ).loc Cert.LruOutReferenceIdeal.main_arg0)
      ∧ r.2.mem ((c.tc : Thread Cert.LruOutReferenceIdeal.nD Cert.LruOutReferenceIdeal.τ).loc Cert.LruOutReferenceIdeal.main_arg1) = m ((c.tc : Thread Cert.LruOutReferenceIdeal.nD Cert.LruOutReferenceIdeal.τ).loc Cert.LruOutReferenceIdeal.main_arg1))
      ∧ r.2.sem = fun _ => 0)

def quiescent_MlaOut [hMlaOut : Cert.MlaOut.Facts] : Prop :=
  ∀ (m : (ℓ : Loc Cert.MlaOut.nD Cert.MlaOut.τ Cert.MlaOut.sig) → Buf (Elt Bits) ℓ) (g : Dev Cert.MlaOut.nD → PrngReg), Pre_MlaOut m →
    θ_run (Cert.MlaOut.defs (F := Bits)) (onTc (τ := Cert.MlaOut.τ) (Cert.MlaOut.main (F := Bits))) ⟨m, fun _ => 0, g⟩ (fun r => (∀ c : Dev Cert.MlaOut.nD,
      r.2.mem ((c.tc : Thread Cert.MlaOut.nD Cert.MlaOut.τ).loc Cert.MlaOut.main_arg0) = m ((c.tc : Thread Cert.MlaOut.nD Cert.MlaOut.τ).loc Cert.MlaOut.main_arg0)
      ∧ r.2.mem ((c.tc : Thread Cert.MlaOut.nD Cert.MlaOut.τ).loc Cert.MlaOut.main_arg1) = m ((c.tc : Thread Cert.MlaOut.nD Cert.MlaOut.τ).loc Cert.MlaOut.main_arg1))
      ∧ r.2.sem = fun _ => 0)

def quiescent_MlaOutIdeal [hMlaOutIdeal : Cert.MlaOutIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg), Pre_MlaOutIdeal m →
    θ_run (Cert.MlaOutIdeal.defs (F := Ideal)) (onTc (τ := Cert.MlaOutIdeal.τ) (Cert.MlaOutIdeal.main (F := Ideal))) ⟨m, fun _ => 0, g⟩ (fun r => (∀ c : Dev Cert.MlaOutIdeal.nD,
      r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
      ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1))
      ∧ r.2.sem = fun _ => 0)

def quiescent_MlaOutReferenceIdeal [hMlaOutReferenceIdeal : Cert.MlaOutReferenceIdeal.Facts] : Prop :=
  ∀ (m : (ℓ : Loc Cert.MlaOutReferenceIdeal.nD Cert.MlaOutReferenceIdeal.τ Cert.MlaOutReferenceIdeal.sig) → Buf (Elt Ideal) ℓ) (g : Dev Cert.MlaOutReferenceIdeal.nD → PrngReg), Pre_MlaOutReferenceIdeal m →
    θ_run (Cert.MlaOutReferenceIdeal.defs (F := Ideal)) (onTc (τ := Cert.MlaOutReferenceIdeal.τ) (Cert.MlaOutReferenceIdeal.main (F := Ideal))) ⟨m, fun _ => 0, g⟩ (fun r => (∀ c : Dev Cert.MlaOutReferenceIdeal.nD,
      r.2.mem ((c.tc : Thread Cert.MlaOutReferenceIdeal.nD Cert.MlaOutReferenceIdeal.τ).loc Cert.MlaOutReferenceIdeal.main_arg0) = m ((c.tc : Thread Cert.MlaOutReferenceIdeal.nD Cert.MlaOutReferenceIdeal.τ).loc Cert.MlaOutReferenceIdeal.main_arg0)
      ∧ r.2.mem ((c.tc : Thread Cert.MlaOutReferenceIdeal.nD Cert.MlaOutReferenceIdeal.τ).loc Cert.MlaOutReferenceIdeal.main_arg1) = m ((c.tc : Thread Cert.MlaOutReferenceIdeal.nD Cert.MlaOutReferenceIdeal.τ).loc Cert.MlaOutReferenceIdeal.main_arg1))
      ∧ r.2.sem = fun _ => 0)

def quiescent_DilOut [hDilOut : Cert.DilOut.Facts] : Prop :=
  ∀ (m : (ℓ : Loc Cert.DilOut.nD Cert.DilOut.τ Cert.DilOut.sig) → Buf (Elt Bits) ℓ) (g : Dev Cert.DilOut.nD → PrngReg), Pre_DilOut m →
    θ_run (Cert.DilOut.defs (F := Bits)) (onTc (τ := Cert.DilOut.τ) (Cert.DilOut.main (F := Bits))) ⟨m, fun _ => 0, g⟩ (fun r => (∀ c : Dev Cert.DilOut.nD,
      r.2.mem ((c.tc : Thread Cert.DilOut.nD Cert.DilOut.τ).loc Cert.DilOut.main_arg0) = m ((c.tc : Thread Cert.DilOut.nD Cert.DilOut.τ).loc Cert.DilOut.main_arg0)
      ∧ r.2.mem ((c.tc : Thread Cert.DilOut.nD Cert.DilOut.τ).loc Cert.DilOut.main_arg1) = m ((c.tc : Thread Cert.DilOut.nD Cert.DilOut.τ).loc Cert.DilOut.main_arg1))
      ∧ r.2.sem = fun _ => 0)

def quiescent_DilOutIdeal [hDilOutIdeal : Cert.DilOutIdeal.Facts] : Prop :=
  ∀ (m : (ℓ : Loc Cert.DilOutIdeal.nD Cert.DilOutIdeal.τ Cert.DilOutIdeal.sig) → Buf (Elt Ideal) ℓ) (g : Dev Cert.DilOutIdeal.nD → PrngReg), Pre_DilOutIdeal m →
    θ_run (Cert.DilOutIdeal.defs (F := Ideal)) (onTc (τ := Cert.DilOutIdeal.τ) (Cert.DilOutIdeal.main (F := Ideal))) ⟨m, fun _ => 0, g⟩ (fun r => (∀ c : Dev Cert.DilOutIdeal.nD,
      r.2.mem ((c.tc : Thread Cert.DilOutIdeal.nD Cert.DilOutIdeal.τ).loc Cert.DilOutIdeal.main_arg0) = m ((c.tc : Thread Cert.DilOutIdeal.nD Cert.DilOutIdeal.τ).loc Cert.DilOutIdeal.main_arg0)
      ∧ r.2.mem ((c.tc : Thread Cert.DilOutIdeal.nD Cert.DilOutIdeal.τ).loc Cert.DilOutIdeal.main_arg1) = m ((c.tc : Thread Cert.DilOutIdeal.nD Cert.DilOutIdeal.τ).loc Cert.DilOutIdeal.main_arg1))
      ∧ r.2.sem = fun _ => 0)

def quiescent_DilOutReferenceIdeal [hDilOutReferenceIdeal : Cert.DilOutReferenceIdeal.Facts] : Prop :=
  ∀ (m : (ℓ : Loc Cert.DilOutReferenceIdeal.nD Cert.DilOutReferenceIdeal.τ Cert.DilOutReferenceIdeal.sig) → Buf (Elt Ideal) ℓ) (g : Dev Cert.DilOutReferenceIdeal.nD → PrngReg), Pre_DilOutReferenceIdeal m →
    θ_run (Cert.DilOutReferenceIdeal.defs (F := Ideal)) (onTc (τ := Cert.DilOutReferenceIdeal.τ) (Cert.DilOutReferenceIdeal.main (F := Ideal))) ⟨m, fun _ => 0, g⟩ (fun r => (∀ c : Dev Cert.DilOutReferenceIdeal.nD,
      r.2.mem ((c.tc : Thread Cert.DilOutReferenceIdeal.nD Cert.DilOutReferenceIdeal.τ).loc Cert.DilOutReferenceIdeal.main_arg0) = m ((c.tc : Thread Cert.DilOutReferenceIdeal.nD Cert.DilOutReferenceIdeal.τ).loc Cert.DilOutReferenceIdeal.main_arg0)
      ∧ r.2.mem ((c.tc : Thread Cert.DilOutReferenceIdeal.nD Cert.DilOutReferenceIdeal.τ).loc Cert.DilOutReferenceIdeal.main_arg1) = m ((c.tc : Thread Cert.DilOutReferenceIdeal.nD Cert.DilOutReferenceIdeal.τ).loc Cert.DilOutReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_MergedGrad [hMergedGrad : Cert.MergedGrad.Facts] : Prop :=
  ∀ (m : (ℓ : Loc Cert.MergedGrad.nD Cert.MergedGrad.τ Cert.MergedGrad.sig) → Buf (Elt Bits) ℓ) (g : Dev Cert.MergedGrad.nD → PrngReg), Pre_MergedGrad m →
    θ_run (Cert.MergedGrad.defs (F := Bits)) (onTc (τ := Cert.MergedGrad.τ) (Cert.MergedGrad.main (F := Bits))) ⟨m, fun _ => 0, g⟩ (fun r => (∀ c : Dev Cert.MergedGrad.nD,
      r.2.mem ((c.tc : Thread Cert.MergedGrad.nD Cert.MergedGrad.τ).loc Cert.MergedGrad.main_arg0) = m ((c.tc : Thread Cert.MergedGrad.nD Cert.MergedGrad.τ).loc Cert.MergedGrad.main_arg0)
      ∧ r.2.mem ((c.tc : Thread Cert.MergedGrad.nD Cert.MergedGrad.τ).loc Cert.MergedGrad.main_arg1) = m ((c.tc : Thread Cert.MergedGrad.nD Cert.MergedGrad.τ).loc Cert.MergedGrad.main_arg1))
      ∧ r.2.sem = fun _ => 0)

def quiescent_MergedGradIdeal [hMergedGradIdeal : Cert.MergedGradIdeal.Facts] : Prop :=
  ∀ (m : (ℓ : Loc Cert.MergedGradIdeal.nD Cert.MergedGradIdeal.τ Cert.MergedGradIdeal.sig) → Buf (Elt Ideal) ℓ) (g : Dev Cert.MergedGradIdeal.nD → PrngReg), Pre_MergedGradIdeal m →
    θ_run (Cert.MergedGradIdeal.defs (F := Ideal)) (onTc (τ := Cert.MergedGradIdeal.τ) (Cert.MergedGradIdeal.main (F := Ideal))) ⟨m, fun _ => 0, g⟩ (fun r => (∀ c : Dev Cert.MergedGradIdeal.nD,
      r.2.mem ((c.tc : Thread Cert.MergedGradIdeal.nD Cert.MergedGradIdeal.τ).loc Cert.MergedGradIdeal.main_arg0) = m ((c.tc : Thread Cert.MergedGradIdeal.nD Cert.MergedGradIdeal.τ).loc Cert.MergedGradIdeal.main_arg0)
      ∧ r.2.mem ((c.tc : Thread Cert.MergedGradIdeal.nD Cert.MergedGradIdeal.τ).loc Cert.MergedGradIdeal.main_arg1) = m ((c.tc : Thread Cert.MergedGradIdeal.nD Cert.MergedGradIdeal.τ).loc Cert.MergedGradIdeal.main_arg1))
      ∧ r.2.sem = fun _ => 0)

def quiescent_MergedGradReferenceIdeal [hMergedGradReferenceIdeal : Cert.MergedGradReferenceIdeal.Facts] : Prop :=
  ∀ (m : (ℓ : Loc Cert.MergedGradReferenceIdeal.nD Cert.MergedGradReferenceIdeal.τ Cert.MergedGradReferenceIdeal.sig) → Buf (Elt Ideal) ℓ) (g : Dev Cert.MergedGradReferenceIdeal.nD → PrngReg), Pre_MergedGradReferenceIdeal m →
    θ_run (Cert.MergedGradReferenceIdeal.defs (F := Ideal)) (onTc (τ := Cert.MergedGradReferenceIdeal.τ) (Cert.MergedGradReferenceIdeal.main (F := Ideal))) ⟨m, fun _ => 0, g⟩ (fun r => (∀ c : Dev Cert.MergedGradReferenceIdeal.nD,
      r.2.mem ((c.tc : Thread Cert.MergedGradReferenceIdeal.nD Cert.MergedGradReferenceIdeal.τ).loc Cert.MergedGradReferenceIdeal.main_arg0) = m ((c.tc : Thread Cert.MergedGradReferenceIdeal.nD Cert.MergedGradReferenceIdeal.τ).loc Cert.MergedGradReferenceIdeal.main_arg0)
      ∧ r.2.mem ((c.tc : Thread Cert.MergedGradReferenceIdeal.nD Cert.MergedGradReferenceIdeal.τ).loc Cert.MergedGradReferenceIdeal.main_arg1) = m ((c.tc : Thread Cert.MergedGradReferenceIdeal.nD Cert.MergedGradReferenceIdeal.τ).loc Cert.MergedGradReferenceIdeal.main_arg1))
      ∧ r.2.sem = fun _ => 0)

def quiescent_OutWeightGrad [hOutWeightGrad : Cert.OutWeightGrad.Facts] : Prop :=
  ∀ (m : (ℓ : Loc Cert.OutWeightGrad.nD Cert.OutWeightGrad.τ Cert.OutWeightGrad.sig) → Buf (Elt Bits) ℓ) (g : Dev Cert.OutWeightGrad.nD → PrngReg), Pre_OutWeightGrad m →
    θ_run (Cert.OutWeightGrad.defs (F := Bits)) (onTc (τ := Cert.OutWeightGrad.τ) (Cert.OutWeightGrad.main (F := Bits))) ⟨m, fun _ => 0, g⟩ (fun r => (∀ c : Dev Cert.OutWeightGrad.nD,
      r.2.mem ((c.tc : Thread Cert.OutWeightGrad.nD Cert.OutWeightGrad.τ).loc Cert.OutWeightGrad.main_arg0) = m ((c.tc : Thread Cert.OutWeightGrad.nD Cert.OutWeightGrad.τ).loc Cert.OutWeightGrad.main_arg0)
      ∧ r.2.mem ((c.tc : Thread Cert.OutWeightGrad.nD Cert.OutWeightGrad.τ).loc Cert.OutWeightGrad.main_arg1) = m ((c.tc : Thread Cert.OutWeightGrad.nD Cert.OutWeightGrad.τ).loc Cert.OutWeightGrad.main_arg1))
      ∧ r.2.sem = fun _ => 0)

def quiescent_OutWeightGradIdeal [hOutWeightGradIdeal : Cert.OutWeightGradIdeal.Facts] : Prop :=
  ∀ (m : (ℓ : Loc Cert.OutWeightGradIdeal.nD Cert.OutWeightGradIdeal.τ Cert.OutWeightGradIdeal.sig) → Buf (Elt Ideal) ℓ) (g : Dev Cert.OutWeightGradIdeal.nD → PrngReg), Pre_OutWeightGradIdeal m →
    θ_run (Cert.OutWeightGradIdeal.defs (F := Ideal)) (onTc (τ := Cert.OutWeightGradIdeal.τ) (Cert.OutWeightGradIdeal.main (F := Ideal))) ⟨m, fun _ => 0, g⟩ (fun r => (∀ c : Dev Cert.OutWeightGradIdeal.nD,
      r.2.mem ((c.tc : Thread Cert.OutWeightGradIdeal.nD Cert.OutWeightGradIdeal.τ).loc Cert.OutWeightGradIdeal.main_arg0) = m ((c.tc : Thread Cert.OutWeightGradIdeal.nD Cert.OutWeightGradIdeal.τ).loc Cert.OutWeightGradIdeal.main_arg0)
      ∧ r.2.mem ((c.tc : Thread Cert.OutWeightGradIdeal.nD Cert.OutWeightGradIdeal.τ).loc Cert.OutWeightGradIdeal.main_arg1) = m ((c.tc : Thread Cert.OutWeightGradIdeal.nD Cert.OutWeightGradIdeal.τ).loc Cert.OutWeightGradIdeal.main_arg1))
      ∧ r.2.sem = fun _ => 0)

def quiescent_OutWeightGradReferenceIdeal [hOutWeightGradReferenceIdeal : Cert.OutWeightGradReferenceIdeal.Facts] : Prop :=
  ∀ (m : (ℓ : Loc Cert.OutWeightGradReferenceIdeal.nD Cert.OutWeightGradReferenceIdeal.τ Cert.OutWeightGradReferenceIdeal.sig) → Buf (Elt Ideal) ℓ) (g : Dev Cert.OutWeightGradReferenceIdeal.nD → PrngReg), Pre_OutWeightGradReferenceIdeal m →
    θ_run (Cert.OutWeightGradReferenceIdeal.defs (F := Ideal)) (onTc (τ := Cert.OutWeightGradReferenceIdeal.τ) (Cert.OutWeightGradReferenceIdeal.main (F := Ideal))) ⟨m, fun _ => 0, g⟩ (fun r => (∀ c : Dev Cert.OutWeightGradReferenceIdeal.nD,
      r.2.mem ((c.tc : Thread Cert.OutWeightGradReferenceIdeal.nD Cert.OutWeightGradReferenceIdeal.τ).loc Cert.OutWeightGradReferenceIdeal.main_arg0) = m ((c.tc : Thread Cert.OutWeightGradReferenceIdeal.nD Cert.OutWeightGradReferenceIdeal.τ).loc Cert.OutWeightGradReferenceIdeal.main_arg0)
      ∧ r.2.mem ((c.tc : Thread Cert.OutWeightGradReferenceIdeal.nD Cert.OutWeightGradReferenceIdeal.τ).loc Cert.OutWeightGradReferenceIdeal.main_arg1) = m ((c.tc : Thread Cert.OutWeightGradReferenceIdeal.nD Cert.OutWeightGradReferenceIdeal.τ).loc Cert.OutWeightGradReferenceIdeal.main_arg1))
      ∧ r.2.sem = fun _ => 0)

def quiescent_LruGrad [hLruGrad : Cert.LruGrad.Facts] : Prop :=
  ∀ (m : (ℓ : Loc Cert.LruGrad.nD Cert.LruGrad.τ Cert.LruGrad.sig) → Buf (Elt Bits) ℓ) (g : Dev Cert.LruGrad.nD → PrngReg), Pre_LruGrad m →
    θ_run (Cert.LruGrad.defs (F := Bits)) (onTc (τ := Cert.LruGrad.τ) (Cert.LruGrad.main (F := Bits))) ⟨m, fun _ => 0, g⟩ (fun r => (∀ c : Dev Cert.LruGrad.nD,
      r.2.mem ((c.tc : Thread Cert.LruGrad.nD Cert.LruGrad.τ).loc Cert.LruGrad.main_arg0) = m ((c.tc : Thread Cert.LruGrad.nD Cert.LruGrad.τ).loc Cert.LruGrad.main_arg0)
      ∧ r.2.mem ((c.tc : Thread Cert.LruGrad.nD Cert.LruGrad.τ).loc Cert.LruGrad.main_arg1) = m ((c.tc : Thread Cert.LruGrad.nD Cert.LruGrad.τ).loc Cert.LruGrad.main_arg1))
      ∧ r.2.sem = fun _ => 0)

def quiescent_LruGradIdeal [hLruGradIdeal : Cert.LruGradIdeal.Facts] : Prop :=
  ∀ (m : (ℓ : Loc Cert.LruGradIdeal.nD Cert.LruGradIdeal.τ Cert.LruGradIdeal.sig) → Buf (Elt Ideal) ℓ) (g : Dev Cert.LruGradIdeal.nD → PrngReg), Pre_LruGradIdeal m →
    θ_run (Cert.LruGradIdeal.defs (F := Ideal)) (onTc (τ := Cert.LruGradIdeal.τ) (Cert.LruGradIdeal.main (F := Ideal))) ⟨m, fun _ => 0, g⟩ (fun r => (∀ c : Dev Cert.LruGradIdeal.nD,
      r.2.mem ((c.tc : Thread Cert.LruGradIdeal.nD Cert.LruGradIdeal.τ).loc Cert.LruGradIdeal.main_arg0) = m ((c.tc : Thread Cert.LruGradIdeal.nD Cert.LruGradIdeal.τ).loc Cert.LruGradIdeal.main_arg0)
      ∧ r.2.mem ((c.tc : Thread Cert.LruGradIdeal.nD Cert.LruGradIdeal.τ).loc Cert.LruGradIdeal.main_arg1) = m ((c.tc : Thread Cert.LruGradIdeal.nD Cert.LruGradIdeal.τ).loc Cert.LruGradIdeal.main_arg1))
      ∧ r.2.sem = fun _ => 0)

def quiescent_LruGradReferenceIdeal [hLruGradReferenceIdeal : Cert.LruGradReferenceIdeal.Facts] : Prop :=
  ∀ (m : (ℓ : Loc Cert.LruGradReferenceIdeal.nD Cert.LruGradReferenceIdeal.τ Cert.LruGradReferenceIdeal.sig) → Buf (Elt Ideal) ℓ) (g : Dev Cert.LruGradReferenceIdeal.nD → PrngReg), Pre_LruGradReferenceIdeal m →
    θ_run (Cert.LruGradReferenceIdeal.defs (F := Ideal)) (onTc (τ := Cert.LruGradReferenceIdeal.τ) (Cert.LruGradReferenceIdeal.main (F := Ideal))) ⟨m, fun _ => 0, g⟩ (fun r => (∀ c : Dev Cert.LruGradReferenceIdeal.nD,
      r.2.mem ((c.tc : Thread Cert.LruGradReferenceIdeal.nD Cert.LruGradReferenceIdeal.τ).loc Cert.LruGradReferenceIdeal.main_arg0) = m ((c.tc : Thread Cert.LruGradReferenceIdeal.nD Cert.LruGradReferenceIdeal.τ).loc Cert.LruGradReferenceIdeal.main_arg0)
      ∧ r.2.mem ((c.tc : Thread Cert.LruGradReferenceIdeal.nD Cert.LruGradReferenceIdeal.τ).loc Cert.LruGradReferenceIdeal.main_arg1) = m ((c.tc : Thread Cert.LruGradReferenceIdeal.nD Cert.LruGradReferenceIdeal.τ).loc Cert.LruGradReferenceIdeal.main_arg1))
      ∧ r.2.sem = fun _ => 0)

def quiescent_MlaGrad [hMlaGrad : Cert.MlaGrad.Facts] : Prop :=
  ∀ (m : (ℓ : Loc Cert.MlaGrad.nD Cert.MlaGrad.τ Cert.MlaGrad.sig) → Buf (Elt Bits) ℓ) (g : Dev Cert.MlaGrad.nD → PrngReg), Pre_MlaGrad m →
    θ_run (Cert.MlaGrad.defs (F := Bits)) (onTc (τ := Cert.MlaGrad.τ) (Cert.MlaGrad.main (F := Bits))) ⟨m, fun _ => 0, g⟩ (fun r => (∀ c : Dev Cert.MlaGrad.nD,
      r.2.mem ((c.tc : Thread Cert.MlaGrad.nD Cert.MlaGrad.τ).loc Cert.MlaGrad.main_arg0) = m ((c.tc : Thread Cert.MlaGrad.nD Cert.MlaGrad.τ).loc Cert.MlaGrad.main_arg0)
      ∧ r.2.mem ((c.tc : Thread Cert.MlaGrad.nD Cert.MlaGrad.τ).loc Cert.MlaGrad.main_arg1) = m ((c.tc : Thread Cert.MlaGrad.nD Cert.MlaGrad.τ).loc Cert.MlaGrad.main_arg1))
      ∧ r.2.sem = fun _ => 0)

def quiescent_MlaGradIdeal [hMlaGradIdeal : Cert.MlaGradIdeal.Facts] : Prop :=
  ∀ (m : (ℓ : Loc Cert.MlaGradIdeal.nD Cert.MlaGradIdeal.τ Cert.MlaGradIdeal.sig) → Buf (Elt Ideal) ℓ) (g : Dev Cert.MlaGradIdeal.nD → PrngReg), Pre_MlaGradIdeal m →
    θ_run (Cert.MlaGradIdeal.defs (F := Ideal)) (onTc (τ := Cert.MlaGradIdeal.τ) (Cert.MlaGradIdeal.main (F := Ideal))) ⟨m, fun _ => 0, g⟩ (fun r => (∀ c : Dev Cert.MlaGradIdeal.nD,
      r.2.mem ((c.tc : Thread Cert.MlaGradIdeal.nD Cert.MlaGradIdeal.τ).loc Cert.MlaGradIdeal.main_arg0) = m ((c.tc : Thread Cert.MlaGradIdeal.nD Cert.MlaGradIdeal.τ).loc Cert.MlaGradIdeal.main_arg0)
      ∧ r.2.mem ((c.tc : Thread Cert.MlaGradIdeal.nD Cert.MlaGradIdeal.τ).loc Cert.MlaGradIdeal.main_arg1) = m ((c.tc : Thread Cert.MlaGradIdeal.nD Cert.MlaGradIdeal.τ).loc Cert.MlaGradIdeal.main_arg1))
      ∧ r.2.sem = fun _ => 0)

def quiescent_MlaGradReferenceIdeal [hMlaGradReferenceIdeal : Cert.MlaGradReferenceIdeal.Facts] : Prop :=
  ∀ (m : (ℓ : Loc Cert.MlaGradReferenceIdeal.nD Cert.MlaGradReferenceIdeal.τ Cert.MlaGradReferenceIdeal.sig) → Buf (Elt Ideal) ℓ) (g : Dev Cert.MlaGradReferenceIdeal.nD → PrngReg), Pre_MlaGradReferenceIdeal m →
    θ_run (Cert.MlaGradReferenceIdeal.defs (F := Ideal)) (onTc (τ := Cert.MlaGradReferenceIdeal.τ) (Cert.MlaGradReferenceIdeal.main (F := Ideal))) ⟨m, fun _ => 0, g⟩ (fun r => (∀ c : Dev Cert.MlaGradReferenceIdeal.nD,
      r.2.mem ((c.tc : Thread Cert.MlaGradReferenceIdeal.nD Cert.MlaGradReferenceIdeal.τ).loc Cert.MlaGradReferenceIdeal.main_arg0) = m ((c.tc : Thread Cert.MlaGradReferenceIdeal.nD Cert.MlaGradReferenceIdeal.τ).loc Cert.MlaGradReferenceIdeal.main_arg0)
      ∧ r.2.mem ((c.tc : Thread Cert.MlaGradReferenceIdeal.nD Cert.MlaGradReferenceIdeal.τ).loc Cert.MlaGradReferenceIdeal.main_arg1) = m ((c.tc : Thread Cert.MlaGradReferenceIdeal.nD Cert.MlaGradReferenceIdeal.τ).loc Cert.MlaGradReferenceIdeal.main_arg1))
      ∧ r.2.sem = fun _ => 0)

def quiescent_DilGrad [hDilGrad : Cert.DilGrad.Facts] : Prop :=
  ∀ (m : (ℓ : Loc Cert.DilGrad.nD Cert.DilGrad.τ Cert.DilGrad.sig) → Buf (Elt Bits) ℓ) (g : Dev Cert.DilGrad.nD → PrngReg), Pre_DilGrad m →
    θ_run (Cert.DilGrad.defs (F := Bits)) (onTc (τ := Cert.DilGrad.τ) (Cert.DilGrad.main (F := Bits))) ⟨m, fun _ => 0, g⟩ (fun r => (∀ c : Dev Cert.DilGrad.nD,
      r.2.mem ((c.tc : Thread Cert.DilGrad.nD Cert.DilGrad.τ).loc Cert.DilGrad.main_arg0) = m ((c.tc : Thread Cert.DilGrad.nD Cert.DilGrad.τ).loc Cert.DilGrad.main_arg0)
      ∧ r.2.mem ((c.tc : Thread Cert.DilGrad.nD Cert.DilGrad.τ).loc Cert.DilGrad.main_arg1) = m ((c.tc : Thread Cert.DilGrad.nD Cert.DilGrad.τ).loc Cert.DilGrad.main_arg1))
      ∧ r.2.sem = fun _ => 0)

def quiescent_DilGradIdeal [hDilGradIdeal : Cert.DilGradIdeal.Facts] : Prop :=
  ∀ (m : (ℓ : Loc Cert.DilGradIdeal.nD Cert.DilGradIdeal.τ Cert.DilGradIdeal.sig) → Buf (Elt Ideal) ℓ) (g : Dev Cert.DilGradIdeal.nD → PrngReg), Pre_DilGradIdeal m →
    θ_run (Cert.DilGradIdeal.defs (F := Ideal)) (onTc (τ := Cert.DilGradIdeal.τ) (Cert.DilGradIdeal.main (F := Ideal))) ⟨m, fun _ => 0, g⟩ (fun r => (∀ c : Dev Cert.DilGradIdeal.nD,
      r.2.mem ((c.tc : Thread Cert.DilGradIdeal.nD Cert.DilGradIdeal.τ).loc Cert.DilGradIdeal.main_arg0) = m ((c.tc : Thread Cert.DilGradIdeal.nD Cert.DilGradIdeal.τ).loc Cert.DilGradIdeal.main_arg0)
      ∧ r.2.mem ((c.tc : Thread Cert.DilGradIdeal.nD Cert.DilGradIdeal.τ).loc Cert.DilGradIdeal.main_arg1) = m ((c.tc : Thread Cert.DilGradIdeal.nD Cert.DilGradIdeal.τ).loc Cert.DilGradIdeal.main_arg1))
      ∧ r.2.sem = fun _ => 0)

def quiescent_DilGradReferenceIdeal [hDilGradReferenceIdeal : Cert.DilGradReferenceIdeal.Facts] : Prop :=
  ∀ (m : (ℓ : Loc Cert.DilGradReferenceIdeal.nD Cert.DilGradReferenceIdeal.τ Cert.DilGradReferenceIdeal.sig) → Buf (Elt Ideal) ℓ) (g : Dev Cert.DilGradReferenceIdeal.nD → PrngReg), Pre_DilGradReferenceIdeal m →
    θ_run (Cert.DilGradReferenceIdeal.defs (F := Ideal)) (onTc (τ := Cert.DilGradReferenceIdeal.τ) (Cert.DilGradReferenceIdeal.main (F := Ideal))) ⟨m, fun _ => 0, g⟩ (fun r => (∀ c : Dev Cert.DilGradReferenceIdeal.nD,
      r.2.mem ((c.tc : Thread Cert.DilGradReferenceIdeal.nD Cert.DilGradReferenceIdeal.τ).loc Cert.DilGradReferenceIdeal.main_arg0) = m ((c.tc : Thread Cert.DilGradReferenceIdeal.nD Cert.DilGradReferenceIdeal.τ).loc Cert.DilGradReferenceIdeal.main_arg0)
      ∧ r.2.mem ((c.tc : Thread Cert.DilGradReferenceIdeal.nD Cert.DilGradReferenceIdeal.τ).loc Cert.DilGradReferenceIdeal.main_arg1) = m ((c.tc : Thread Cert.DilGradReferenceIdeal.nD Cert.DilGradReferenceIdeal.τ).loc Cert.DilGradReferenceIdeal.main_arg1))
      ∧ r.2.sem = fun _ => 0)

def quiescent_LruWeightGrad [hLruWeightGrad : Cert.LruWeightGrad.Facts] : Prop :=
  ∀ (m : (ℓ : Loc Cert.LruWeightGrad.nD Cert.LruWeightGrad.τ Cert.LruWeightGrad.sig) → Buf (Elt Bits) ℓ) (g : Dev Cert.LruWeightGrad.nD → PrngReg), Pre_LruWeightGrad m →
    θ_run (Cert.LruWeightGrad.defs (F := Bits)) (onTc (τ := Cert.LruWeightGrad.τ) (Cert.LruWeightGrad.main (F := Bits))) ⟨m, fun _ => 0, g⟩ (fun r => (∀ c : Dev Cert.LruWeightGrad.nD,
      r.2.mem ((c.tc : Thread Cert.LruWeightGrad.nD Cert.LruWeightGrad.τ).loc Cert.LruWeightGrad.main_arg0) = m ((c.tc : Thread Cert.LruWeightGrad.nD Cert.LruWeightGrad.τ).loc Cert.LruWeightGrad.main_arg0)
      ∧ r.2.mem ((c.tc : Thread Cert.LruWeightGrad.nD Cert.LruWeightGrad.τ).loc Cert.LruWeightGrad.main_arg1) = m ((c.tc : Thread Cert.LruWeightGrad.nD Cert.LruWeightGrad.τ).loc Cert.LruWeightGrad.main_arg1))
      ∧ r.2.sem = fun _ => 0)

def quiescent_LruWeightGradIdeal [hLruWeightGradIdeal : Cert.LruWeightGradIdeal.Facts] : Prop :=
  ∀ (m : (ℓ : Loc Cert.LruWeightGradIdeal.nD Cert.LruWeightGradIdeal.τ Cert.LruWeightGradIdeal.sig) → Buf (Elt Ideal) ℓ) (g : Dev Cert.LruWeightGradIdeal.nD → PrngReg), Pre_LruWeightGradIdeal m →
    θ_run (Cert.LruWeightGradIdeal.defs (F := Ideal)) (onTc (τ := Cert.LruWeightGradIdeal.τ) (Cert.LruWeightGradIdeal.main (F := Ideal))) ⟨m, fun _ => 0, g⟩ (fun r => (∀ c : Dev Cert.LruWeightGradIdeal.nD,
      r.2.mem ((c.tc : Thread Cert.LruWeightGradIdeal.nD Cert.LruWeightGradIdeal.τ).loc Cert.LruWeightGradIdeal.main_arg0) = m ((c.tc : Thread Cert.LruWeightGradIdeal.nD Cert.LruWeightGradIdeal.τ).loc Cert.LruWeightGradIdeal.main_arg0)
      ∧ r.2.mem ((c.tc : Thread Cert.LruWeightGradIdeal.nD Cert.LruWeightGradIdeal.τ).loc Cert.LruWeightGradIdeal.main_arg1) = m ((c.tc : Thread Cert.LruWeightGradIdeal.nD Cert.LruWeightGradIdeal.τ).loc Cert.LruWeightGradIdeal.main_arg1))
      ∧ r.2.sem = fun _ => 0)

def quiescent_LruWeightGradReferenceIdeal [hLruWeightGradReferenceIdeal : Cert.LruWeightGradReferenceIdeal.Facts] : Prop :=
  ∀ (m : (ℓ : Loc Cert.LruWeightGradReferenceIdeal.nD Cert.LruWeightGradReferenceIdeal.τ Cert.LruWeightGradReferenceIdeal.sig) → Buf (Elt Ideal) ℓ) (g : Dev Cert.LruWeightGradReferenceIdeal.nD → PrngReg), Pre_LruWeightGradReferenceIdeal m →
    θ_run (Cert.LruWeightGradReferenceIdeal.defs (F := Ideal)) (onTc (τ := Cert.LruWeightGradReferenceIdeal.τ) (Cert.LruWeightGradReferenceIdeal.main (F := Ideal))) ⟨m, fun _ => 0, g⟩ (fun r => (∀ c : Dev Cert.LruWeightGradReferenceIdeal.nD,
      r.2.mem ((c.tc : Thread Cert.LruWeightGradReferenceIdeal.nD Cert.LruWeightGradReferenceIdeal.τ).loc Cert.LruWeightGradReferenceIdeal.main_arg0) = m ((c.tc : Thread Cert.LruWeightGradReferenceIdeal.nD Cert.LruWeightGradReferenceIdeal.τ).loc Cert.LruWeightGradReferenceIdeal.main_arg0)
      ∧ r.2.mem ((c.tc : Thread Cert.LruWeightGradReferenceIdeal.nD Cert.LruWeightGradReferenceIdeal.τ).loc Cert.LruWeightGradReferenceIdeal.main_arg1) = m ((c.tc : Thread Cert.LruWeightGradReferenceIdeal.nD Cert.LruWeightGradReferenceIdeal.τ).loc Cert.LruWeightGradReferenceIdeal.main_arg1))
      ∧ r.2.sem = fun _ => 0)

def quiescent_MlaWeightGrad [hMlaWeightGrad : Cert.MlaWeightGrad.Facts] : Prop :=
  ∀ (m : (ℓ : Loc Cert.MlaWeightGrad.nD Cert.MlaWeightGrad.τ Cert.MlaWeightGrad.sig) → Buf (Elt Bits) ℓ) (g : Dev Cert.MlaWeightGrad.nD → PrngReg), Pre_MlaWeightGrad m →
    θ_run (Cert.MlaWeightGrad.defs (F := Bits)) (onTc (τ := Cert.MlaWeightGrad.τ) (Cert.MlaWeightGrad.main (F := Bits))) ⟨m, fun _ => 0, g⟩ (fun r => (∀ c : Dev Cert.MlaWeightGrad.nD,
      r.2.mem ((c.tc : Thread Cert.MlaWeightGrad.nD Cert.MlaWeightGrad.τ).loc Cert.MlaWeightGrad.main_arg0) = m ((c.tc : Thread Cert.MlaWeightGrad.nD Cert.MlaWeightGrad.τ).loc Cert.MlaWeightGrad.main_arg0)
      ∧ r.2.mem ((c.tc : Thread Cert.MlaWeightGrad.nD Cert.MlaWeightGrad.τ).loc Cert.MlaWeightGrad.main_arg1) = m ((c.tc : Thread Cert.MlaWeightGrad.nD Cert.MlaWeightGrad.τ).loc Cert.MlaWeightGrad.main_arg1))
      ∧ r.2.sem = fun _ => 0)

def quiescent_MlaWeightGradIdeal [hMlaWeightGradIdeal : Cert.MlaWeightGradIdeal.Facts] : Prop :=
  ∀ (m : (ℓ : Loc Cert.MlaWeightGradIdeal.nD Cert.MlaWeightGradIdeal.τ Cert.MlaWeightGradIdeal.sig) → Buf (Elt Ideal) ℓ) (g : Dev Cert.MlaWeightGradIdeal.nD → PrngReg), Pre_MlaWeightGradIdeal m →
    θ_run (Cert.MlaWeightGradIdeal.defs (F := Ideal)) (onTc (τ := Cert.MlaWeightGradIdeal.τ) (Cert.MlaWeightGradIdeal.main (F := Ideal))) ⟨m, fun _ => 0, g⟩ (fun r => (∀ c : Dev Cert.MlaWeightGradIdeal.nD,
      r.2.mem ((c.tc : Thread Cert.MlaWeightGradIdeal.nD Cert.MlaWeightGradIdeal.τ).loc Cert.MlaWeightGradIdeal.main_arg0) = m ((c.tc : Thread Cert.MlaWeightGradIdeal.nD Cert.MlaWeightGradIdeal.τ).loc Cert.MlaWeightGradIdeal.main_arg0)
      ∧ r.2.mem ((c.tc : Thread Cert.MlaWeightGradIdeal.nD Cert.MlaWeightGradIdeal.τ).loc Cert.MlaWeightGradIdeal.main_arg1) = m ((c.tc : Thread Cert.MlaWeightGradIdeal.nD Cert.MlaWeightGradIdeal.τ).loc Cert.MlaWeightGradIdeal.main_arg1))
      ∧ r.2.sem = fun _ => 0)

def quiescent_MlaWeightGradReferenceIdeal [hMlaWeightGradReferenceIdeal : Cert.MlaWeightGradReferenceIdeal.Facts] : Prop :=
  ∀ (m : (ℓ : Loc Cert.MlaWeightGradReferenceIdeal.nD Cert.MlaWeightGradReferenceIdeal.τ Cert.MlaWeightGradReferenceIdeal.sig) → Buf (Elt Ideal) ℓ) (g : Dev Cert.MlaWeightGradReferenceIdeal.nD → PrngReg), Pre_MlaWeightGradReferenceIdeal m →
    θ_run (Cert.MlaWeightGradReferenceIdeal.defs (F := Ideal)) (onTc (τ := Cert.MlaWeightGradReferenceIdeal.τ) (Cert.MlaWeightGradReferenceIdeal.main (F := Ideal))) ⟨m, fun _ => 0, g⟩ (fun r => (∀ c : Dev Cert.MlaWeightGradReferenceIdeal.nD,
      r.2.mem ((c.tc : Thread Cert.MlaWeightGradReferenceIdeal.nD Cert.MlaWeightGradReferenceIdeal.τ).loc Cert.MlaWeightGradReferenceIdeal.main_arg0) = m ((c.tc : Thread Cert.MlaWeightGradReferenceIdeal.nD Cert.MlaWeightGradReferenceIdeal.τ).loc Cert.MlaWeightGradReferenceIdeal.main_arg0)
      ∧ r.2.mem ((c.tc : Thread Cert.MlaWeightGradReferenceIdeal.nD Cert.MlaWeightGradReferenceIdeal.τ).loc Cert.MlaWeightGradReferenceIdeal.main_arg1) = m ((c.tc : Thread Cert.MlaWeightGradReferenceIdeal.nD Cert.MlaWeightGradReferenceIdeal.τ).loc Cert.MlaWeightGradReferenceIdeal.main_arg1))
      ∧ r.2.sem = fun _ => 0)

def quiescent_DilWeightGrad [hDilWeightGrad : Cert.DilWeightGrad.Facts] : Prop :=
  ∀ (m : (ℓ : Loc Cert.DilWeightGrad.nD Cert.DilWeightGrad.τ Cert.DilWeightGrad.sig) → Buf (Elt Bits) ℓ) (g : Dev Cert.DilWeightGrad.nD → PrngReg), Pre_DilWeightGrad m →
    θ_run (Cert.DilWeightGrad.defs (F := Bits)) (onTc (τ := Cert.DilWeightGrad.τ) (Cert.DilWeightGrad.main (F := Bits))) ⟨m, fun _ => 0, g⟩ (fun r => (∀ c : Dev Cert.DilWeightGrad.nD,
      r.2.mem ((c.tc : Thread Cert.DilWeightGrad.nD Cert.DilWeightGrad.τ).loc Cert.DilWeightGrad.main_arg0) = m ((c.tc : Thread Cert.DilWeightGrad.nD Cert.DilWeightGrad.τ).loc Cert.DilWeightGrad.main_arg0)
      ∧ r.2.mem ((c.tc : Thread Cert.DilWeightGrad.nD Cert.DilWeightGrad.τ).loc Cert.DilWeightGrad.main_arg1) = m ((c.tc : Thread Cert.DilWeightGrad.nD Cert.DilWeightGrad.τ).loc Cert.DilWeightGrad.main_arg1))
      ∧ r.2.sem = fun _ => 0)

def quiescent_DilWeightGradIdeal [hDilWeightGradIdeal : Cert.DilWeightGradIdeal.Facts] : Prop :=
  ∀ (m : (ℓ : Loc Cert.DilWeightGradIdeal.nD Cert.DilWeightGradIdeal.τ Cert.DilWeightGradIdeal.sig) → Buf (Elt Ideal) ℓ) (g : Dev Cert.DilWeightGradIdeal.nD → PrngReg), Pre_DilWeightGradIdeal m →
    θ_run (Cert.DilWeightGradIdeal.defs (F := Ideal)) (onTc (τ := Cert.DilWeightGradIdeal.τ) (Cert.DilWeightGradIdeal.main (F := Ideal))) ⟨m, fun _ => 0, g⟩ (fun r => (∀ c : Dev Cert.DilWeightGradIdeal.nD,
      r.2.mem ((c.tc : Thread Cert.DilWeightGradIdeal.nD Cert.DilWeightGradIdeal.τ).loc Cert.DilWeightGradIdeal.main_arg0) = m ((c.tc : Thread Cert.DilWeightGradIdeal.nD Cert.DilWeightGradIdeal.τ).loc Cert.DilWeightGradIdeal.main_arg0)
      ∧ r.2.mem ((c.tc : Thread Cert.DilWeightGradIdeal.nD Cert.DilWeightGradIdeal.τ).loc Cert.DilWeightGradIdeal.main_arg1) = m ((c.tc : Thread Cert.DilWeightGradIdeal.nD Cert.DilWeightGradIdeal.τ).loc Cert.DilWeightGradIdeal.main_arg1))
      ∧ r.2.sem = fun _ => 0)

def quiescent_DilWeightGradReferenceIdeal [hDilWeightGradReferenceIdeal : Cert.DilWeightGradReferenceIdeal.Facts] : Prop :=
  ∀ (m : (ℓ : Loc Cert.DilWeightGradReferenceIdeal.nD Cert.DilWeightGradReferenceIdeal.τ Cert.DilWeightGradReferenceIdeal.sig) → Buf (Elt Ideal) ℓ) (g : Dev Cert.DilWeightGradReferenceIdeal.nD → PrngReg), Pre_DilWeightGradReferenceIdeal m →
    θ_run (Cert.DilWeightGradReferenceIdeal.defs (F := Ideal)) (onTc (τ := Cert.DilWeightGradReferenceIdeal.τ) (Cert.DilWeightGradReferenceIdeal.main (F := Ideal))) ⟨m, fun _ => 0, g⟩ (fun r => (∀ c : Dev Cert.DilWeightGradReferenceIdeal.nD,
      r.2.mem ((c.tc : Thread Cert.DilWeightGradReferenceIdeal.nD Cert.DilWeightGradReferenceIdeal.τ).loc Cert.DilWeightGradReferenceIdeal.main_arg0) = m ((c.tc : Thread Cert.DilWeightGradReferenceIdeal.nD Cert.DilWeightGradReferenceIdeal.τ).loc Cert.DilWeightGradReferenceIdeal.main_arg0)
      ∧ r.2.mem ((c.tc : Thread Cert.DilWeightGradReferenceIdeal.nD Cert.DilWeightGradReferenceIdeal.τ).loc Cert.DilWeightGradReferenceIdeal.main_arg1) = m ((c.tc : Thread Cert.DilWeightGradReferenceIdeal.nD Cert.DilWeightGradReferenceIdeal.τ).loc Cert.DilWeightGradReferenceIdeal.main_arg1))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionIdeal_pre_finite_qk [hAttentionIdeal : Cert.AttentionIdeal.Facts] [hPre_finite_qk : Cert.Pre_finite_qk.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_qk m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3))
      ∧ r.2.sem = fun _ => 0)

def quiescent_AttentionReferenceIdeal_pre_finite_qk [hAttentionReferenceIdeal : Cert.AttentionReferenceIdeal.Facts] [hPre_finite_qk : Cert.Pre_finite_qk.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_finite_qk m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWReferenceIdeal [hAdamWReferenceIdeal : Cert.AdamWReferenceIdeal.Facts] : Prop :=
  ∀ (m : (ℓ : Loc Cert.AdamWReferenceIdeal.nD Cert.AdamWReferenceIdeal.τ Cert.AdamWReferenceIdeal.sig) → Buf (Elt Ideal) ℓ) (g : Dev Cert.AdamWReferenceIdeal.nD → PrngReg), Pre_AdamWReferenceIdeal m →
    θ_run (Cert.AdamWReferenceIdeal.defs (F := Ideal)) (onTc (τ := Cert.AdamWReferenceIdeal.τ) (Cert.AdamWReferenceIdeal.main (F := Ideal))) ⟨m, fun _ => 0, g⟩ (fun r => (∀ c : Dev Cert.AdamWReferenceIdeal.nD,
      r.2.mem ((c.tc : Thread Cert.AdamWReferenceIdeal.nD Cert.AdamWReferenceIdeal.τ).loc Cert.AdamWReferenceIdeal.main_arg0) = m ((c.tc : Thread Cert.AdamWReferenceIdeal.nD Cert.AdamWReferenceIdeal.τ).loc Cert.AdamWReferenceIdeal.main_arg0)
      ∧ r.2.mem ((c.tc : Thread Cert.AdamWReferenceIdeal.nD Cert.AdamWReferenceIdeal.τ).loc Cert.AdamWReferenceIdeal.main_arg1) = m ((c.tc : Thread Cert.AdamWReferenceIdeal.nD Cert.AdamWReferenceIdeal.τ).loc Cert.AdamWReferenceIdeal.main_arg1)
      ∧ r.2.mem ((c.tc : Thread Cert.AdamWReferenceIdeal.nD Cert.AdamWReferenceIdeal.τ).loc Cert.AdamWReferenceIdeal.main_arg2) = m ((c.tc : Thread Cert.AdamWReferenceIdeal.nD Cert.AdamWReferenceIdeal.τ).loc Cert.AdamWReferenceIdeal.main_arg2)
      ∧ r.2.mem ((c.tc : Thread Cert.AdamWReferenceIdeal.nD Cert.AdamWReferenceIdeal.τ).loc Cert.AdamWReferenceIdeal.main_arg3) = m ((c.tc : Thread Cert.AdamWReferenceIdeal.nD Cert.AdamWReferenceIdeal.τ).loc Cert.AdamWReferenceIdeal.main_arg3))
      ∧ r.2.sem = fun _ => 0)

def quiescent_GateLru [hGateLru : Cert.GateLru.Facts] : Prop :=
  ∀ (m : (ℓ : Loc Cert.GateLru.nD Cert.GateLru.τ Cert.GateLru.sig) → Buf (Elt Bits) ℓ) (g : Dev Cert.GateLru.nD → PrngReg), Pre_GateLru m →
    θ_run (Cert.GateLru.defs (F := Bits)) (onTc (τ := Cert.GateLru.τ) (Cert.GateLru.main (F := Bits))) ⟨m, fun _ => 0, g⟩ (fun r => (∀ c : Dev Cert.GateLru.nD,
      r.2.mem ((c.tc : Thread Cert.GateLru.nD Cert.GateLru.τ).loc Cert.GateLru.main_arg0) = m ((c.tc : Thread Cert.GateLru.nD Cert.GateLru.τ).loc Cert.GateLru.main_arg0)
      ∧ r.2.mem ((c.tc : Thread Cert.GateLru.nD Cert.GateLru.τ).loc Cert.GateLru.main_arg1) = m ((c.tc : Thread Cert.GateLru.nD Cert.GateLru.τ).loc Cert.GateLru.main_arg1)
      ∧ r.2.mem ((c.tc : Thread Cert.GateLru.nD Cert.GateLru.τ).loc Cert.GateLru.main_arg2) = m ((c.tc : Thread Cert.GateLru.nD Cert.GateLru.τ).loc Cert.GateLru.main_arg2)
      ∧ r.2.mem ((c.tc : Thread Cert.GateLru.nD Cert.GateLru.τ).loc Cert.GateLru.main_arg3) = m ((c.tc : Thread Cert.GateLru.nD Cert.GateLru.τ).loc Cert.GateLru.main_arg3)
      ∧ r.2.mem ((c.tc : Thread Cert.GateLru.nD Cert.GateLru.τ).loc Cert.GateLru.main_arg4) = m ((c.tc : Thread Cert.GateLru.nD Cert.GateLru.τ).loc Cert.GateLru.main_arg4))
      ∧ r.2.sem = fun _ => 0)

def quiescent_GateLruIdeal [hGateLruIdeal : Cert.GateLruIdeal.Facts] : Prop :=
  ∀ (m : (ℓ : Loc Cert.GateLruIdeal.nD Cert.GateLruIdeal.τ Cert.GateLruIdeal.sig) → Buf (Elt Ideal) ℓ) (g : Dev Cert.GateLruIdeal.nD → PrngReg), Pre_GateLruIdeal m →
    θ_run (Cert.GateLruIdeal.defs (F := Ideal)) (onTc (τ := Cert.GateLruIdeal.τ) (Cert.GateLruIdeal.main (F := Ideal))) ⟨m, fun _ => 0, g⟩ (fun r => (∀ c : Dev Cert.GateLruIdeal.nD,
      r.2.mem ((c.tc : Thread Cert.GateLruIdeal.nD Cert.GateLruIdeal.τ).loc Cert.GateLruIdeal.main_arg0) = m ((c.tc : Thread Cert.GateLruIdeal.nD Cert.GateLruIdeal.τ).loc Cert.GateLruIdeal.main_arg0)
      ∧ r.2.mem ((c.tc : Thread Cert.GateLruIdeal.nD Cert.GateLruIdeal.τ).loc Cert.GateLruIdeal.main_arg1) = m ((c.tc : Thread Cert.GateLruIdeal.nD Cert.GateLruIdeal.τ).loc Cert.GateLruIdeal.main_arg1)
      ∧ r.2.mem ((c.tc : Thread Cert.GateLruIdeal.nD Cert.GateLruIdeal.τ).loc Cert.GateLruIdeal.main_arg2) = m ((c.tc : Thread Cert.GateLruIdeal.nD Cert.GateLruIdeal.τ).loc Cert.GateLruIdeal.main_arg2)
      ∧ r.2.mem ((c.tc : Thread Cert.GateLruIdeal.nD Cert.GateLruIdeal.τ).loc Cert.GateLruIdeal.main_arg3) = m ((c.tc : Thread Cert.GateLruIdeal.nD Cert.GateLruIdeal.τ).loc Cert.GateLruIdeal.main_arg3)
      ∧ r.2.mem ((c.tc : Thread Cert.GateLruIdeal.nD Cert.GateLruIdeal.τ).loc Cert.GateLruIdeal.main_arg4) = m ((c.tc : Thread Cert.GateLruIdeal.nD Cert.GateLruIdeal.τ).loc Cert.GateLruIdeal.main_arg4))
      ∧ r.2.sem = fun _ => 0)

def quiescent_GateLruReferenceIdeal [hGateLruReferenceIdeal : Cert.GateLruReferenceIdeal.Facts] : Prop :=
  ∀ (m : (ℓ : Loc Cert.GateLruReferenceIdeal.nD Cert.GateLruReferenceIdeal.τ Cert.GateLruReferenceIdeal.sig) → Buf (Elt Ideal) ℓ) (g : Dev Cert.GateLruReferenceIdeal.nD → PrngReg), Pre_GateLruReferenceIdeal m →
    θ_run (Cert.GateLruReferenceIdeal.defs (F := Ideal)) (onTc (τ := Cert.GateLruReferenceIdeal.τ) (Cert.GateLruReferenceIdeal.main (F := Ideal))) ⟨m, fun _ => 0, g⟩ (fun r => (∀ c : Dev Cert.GateLruReferenceIdeal.nD,
      r.2.mem ((c.tc : Thread Cert.GateLruReferenceIdeal.nD Cert.GateLruReferenceIdeal.τ).loc Cert.GateLruReferenceIdeal.main_arg0) = m ((c.tc : Thread Cert.GateLruReferenceIdeal.nD Cert.GateLruReferenceIdeal.τ).loc Cert.GateLruReferenceIdeal.main_arg0)
      ∧ r.2.mem ((c.tc : Thread Cert.GateLruReferenceIdeal.nD Cert.GateLruReferenceIdeal.τ).loc Cert.GateLruReferenceIdeal.main_arg1) = m ((c.tc : Thread Cert.GateLruReferenceIdeal.nD Cert.GateLruReferenceIdeal.τ).loc Cert.GateLruReferenceIdeal.main_arg1)
      ∧ r.2.mem ((c.tc : Thread Cert.GateLruReferenceIdeal.nD Cert.GateLruReferenceIdeal.τ).loc Cert.GateLruReferenceIdeal.main_arg2) = m ((c.tc : Thread Cert.GateLruReferenceIdeal.nD Cert.GateLruReferenceIdeal.τ).loc Cert.GateLruReferenceIdeal.main_arg2)
      ∧ r.2.mem ((c.tc : Thread Cert.GateLruReferenceIdeal.nD Cert.GateLruReferenceIdeal.τ).loc Cert.GateLruReferenceIdeal.main_arg3) = m ((c.tc : Thread Cert.GateLruReferenceIdeal.nD Cert.GateLruReferenceIdeal.τ).loc Cert.GateLruReferenceIdeal.main_arg3)
      ∧ r.2.mem ((c.tc : Thread Cert.GateLruReferenceIdeal.nD Cert.GateLruReferenceIdeal.τ).loc Cert.GateLruReferenceIdeal.main_arg4) = m ((c.tc : Thread Cert.GateLruReferenceIdeal.nD Cert.GateLruReferenceIdeal.τ).loc Cert.GateLruReferenceIdeal.main_arg4))
      ∧ r.2.sem = fun _ => 0)

def quiescent_GateMla [hGateMla : Cert.GateMla.Facts] : Prop :=
  ∀ (m : (ℓ : Loc Cert.GateMla.nD Cert.GateMla.τ Cert.GateMla.sig) → Buf (Elt Bits) ℓ) (g : Dev Cert.GateMla.nD → PrngReg), Pre_GateMla m →
    θ_run (Cert.GateMla.defs (F := Bits)) (onTc (τ := Cert.GateMla.τ) (Cert.GateMla.main (F := Bits))) ⟨m, fun _ => 0, g⟩ (fun r => (∀ c : Dev Cert.GateMla.nD,
      r.2.mem ((c.tc : Thread Cert.GateMla.nD Cert.GateMla.τ).loc Cert.GateMla.main_arg0) = m ((c.tc : Thread Cert.GateMla.nD Cert.GateMla.τ).loc Cert.GateMla.main_arg0)
      ∧ r.2.mem ((c.tc : Thread Cert.GateMla.nD Cert.GateMla.τ).loc Cert.GateMla.main_arg1) = m ((c.tc : Thread Cert.GateMla.nD Cert.GateMla.τ).loc Cert.GateMla.main_arg1)
      ∧ r.2.mem ((c.tc : Thread Cert.GateMla.nD Cert.GateMla.τ).loc Cert.GateMla.main_arg2) = m ((c.tc : Thread Cert.GateMla.nD Cert.GateMla.τ).loc Cert.GateMla.main_arg2)
      ∧ r.2.mem ((c.tc : Thread Cert.GateMla.nD Cert.GateMla.τ).loc Cert.GateMla.main_arg3) = m ((c.tc : Thread Cert.GateMla.nD Cert.GateMla.τ).loc Cert.GateMla.main_arg3)
      ∧ r.2.mem ((c.tc : Thread Cert.GateMla.nD Cert.GateMla.τ).loc Cert.GateMla.main_arg4) = m ((c.tc : Thread Cert.GateMla.nD Cert.GateMla.τ).loc Cert.GateMla.main_arg4))
      ∧ r.2.sem = fun _ => 0)

def quiescent_GateMlaIdeal [hGateMlaIdeal : Cert.GateMlaIdeal.Facts] : Prop :=
  ∀ (m : (ℓ : Loc Cert.GateMlaIdeal.nD Cert.GateMlaIdeal.τ Cert.GateMlaIdeal.sig) → Buf (Elt Ideal) ℓ) (g : Dev Cert.GateMlaIdeal.nD → PrngReg), Pre_GateMlaIdeal m →
    θ_run (Cert.GateMlaIdeal.defs (F := Ideal)) (onTc (τ := Cert.GateMlaIdeal.τ) (Cert.GateMlaIdeal.main (F := Ideal))) ⟨m, fun _ => 0, g⟩ (fun r => (∀ c : Dev Cert.GateMlaIdeal.nD,
      r.2.mem ((c.tc : Thread Cert.GateMlaIdeal.nD Cert.GateMlaIdeal.τ).loc Cert.GateMlaIdeal.main_arg0) = m ((c.tc : Thread Cert.GateMlaIdeal.nD Cert.GateMlaIdeal.τ).loc Cert.GateMlaIdeal.main_arg0)
      ∧ r.2.mem ((c.tc : Thread Cert.GateMlaIdeal.nD Cert.GateMlaIdeal.τ).loc Cert.GateMlaIdeal.main_arg1) = m ((c.tc : Thread Cert.GateMlaIdeal.nD Cert.GateMlaIdeal.τ).loc Cert.GateMlaIdeal.main_arg1)
      ∧ r.2.mem ((c.tc : Thread Cert.GateMlaIdeal.nD Cert.GateMlaIdeal.τ).loc Cert.GateMlaIdeal.main_arg2) = m ((c.tc : Thread Cert.GateMlaIdeal.nD Cert.GateMlaIdeal.τ).loc Cert.GateMlaIdeal.main_arg2)
      ∧ r.2.mem ((c.tc : Thread Cert.GateMlaIdeal.nD Cert.GateMlaIdeal.τ).loc Cert.GateMlaIdeal.main_arg3) = m ((c.tc : Thread Cert.GateMlaIdeal.nD Cert.GateMlaIdeal.τ).loc Cert.GateMlaIdeal.main_arg3)
      ∧ r.2.mem ((c.tc : Thread Cert.GateMlaIdeal.nD Cert.GateMlaIdeal.τ).loc Cert.GateMlaIdeal.main_arg4) = m ((c.tc : Thread Cert.GateMlaIdeal.nD Cert.GateMlaIdeal.τ).loc Cert.GateMlaIdeal.main_arg4))
      ∧ r.2.sem = fun _ => 0)

def quiescent_GateMlaReferenceIdeal [hGateMlaReferenceIdeal : Cert.GateMlaReferenceIdeal.Facts] : Prop :=
  ∀ (m : (ℓ : Loc Cert.GateMlaReferenceIdeal.nD Cert.GateMlaReferenceIdeal.τ Cert.GateMlaReferenceIdeal.sig) → Buf (Elt Ideal) ℓ) (g : Dev Cert.GateMlaReferenceIdeal.nD → PrngReg), Pre_GateMlaReferenceIdeal m →
    θ_run (Cert.GateMlaReferenceIdeal.defs (F := Ideal)) (onTc (τ := Cert.GateMlaReferenceIdeal.τ) (Cert.GateMlaReferenceIdeal.main (F := Ideal))) ⟨m, fun _ => 0, g⟩ (fun r => (∀ c : Dev Cert.GateMlaReferenceIdeal.nD,
      r.2.mem ((c.tc : Thread Cert.GateMlaReferenceIdeal.nD Cert.GateMlaReferenceIdeal.τ).loc Cert.GateMlaReferenceIdeal.main_arg0) = m ((c.tc : Thread Cert.GateMlaReferenceIdeal.nD Cert.GateMlaReferenceIdeal.τ).loc Cert.GateMlaReferenceIdeal.main_arg0)
      ∧ r.2.mem ((c.tc : Thread Cert.GateMlaReferenceIdeal.nD Cert.GateMlaReferenceIdeal.τ).loc Cert.GateMlaReferenceIdeal.main_arg1) = m ((c.tc : Thread Cert.GateMlaReferenceIdeal.nD Cert.GateMlaReferenceIdeal.τ).loc Cert.GateMlaReferenceIdeal.main_arg1)
      ∧ r.2.mem ((c.tc : Thread Cert.GateMlaReferenceIdeal.nD Cert.GateMlaReferenceIdeal.τ).loc Cert.GateMlaReferenceIdeal.main_arg2) = m ((c.tc : Thread Cert.GateMlaReferenceIdeal.nD Cert.GateMlaReferenceIdeal.τ).loc Cert.GateMlaReferenceIdeal.main_arg2)
      ∧ r.2.mem ((c.tc : Thread Cert.GateMlaReferenceIdeal.nD Cert.GateMlaReferenceIdeal.τ).loc Cert.GateMlaReferenceIdeal.main_arg3) = m ((c.tc : Thread Cert.GateMlaReferenceIdeal.nD Cert.GateMlaReferenceIdeal.τ).loc Cert.GateMlaReferenceIdeal.main_arg3)
      ∧ r.2.mem ((c.tc : Thread Cert.GateMlaReferenceIdeal.nD Cert.GateMlaReferenceIdeal.τ).loc Cert.GateMlaReferenceIdeal.main_arg4) = m ((c.tc : Thread Cert.GateMlaReferenceIdeal.nD Cert.GateMlaReferenceIdeal.τ).loc Cert.GateMlaReferenceIdeal.main_arg4))
      ∧ r.2.sem = fun _ => 0)

def quiescent_GateDil [hGateDil : Cert.GateDil.Facts] : Prop :=
  ∀ (m : (ℓ : Loc Cert.GateDil.nD Cert.GateDil.τ Cert.GateDil.sig) → Buf (Elt Bits) ℓ) (g : Dev Cert.GateDil.nD → PrngReg), Pre_GateDil m →
    θ_run (Cert.GateDil.defs (F := Bits)) (onTc (τ := Cert.GateDil.τ) (Cert.GateDil.main (F := Bits))) ⟨m, fun _ => 0, g⟩ (fun r => (∀ c : Dev Cert.GateDil.nD,
      r.2.mem ((c.tc : Thread Cert.GateDil.nD Cert.GateDil.τ).loc Cert.GateDil.main_arg0) = m ((c.tc : Thread Cert.GateDil.nD Cert.GateDil.τ).loc Cert.GateDil.main_arg0)
      ∧ r.2.mem ((c.tc : Thread Cert.GateDil.nD Cert.GateDil.τ).loc Cert.GateDil.main_arg1) = m ((c.tc : Thread Cert.GateDil.nD Cert.GateDil.τ).loc Cert.GateDil.main_arg1)
      ∧ r.2.mem ((c.tc : Thread Cert.GateDil.nD Cert.GateDil.τ).loc Cert.GateDil.main_arg2) = m ((c.tc : Thread Cert.GateDil.nD Cert.GateDil.τ).loc Cert.GateDil.main_arg2)
      ∧ r.2.mem ((c.tc : Thread Cert.GateDil.nD Cert.GateDil.τ).loc Cert.GateDil.main_arg3) = m ((c.tc : Thread Cert.GateDil.nD Cert.GateDil.τ).loc Cert.GateDil.main_arg3)
      ∧ r.2.mem ((c.tc : Thread Cert.GateDil.nD Cert.GateDil.τ).loc Cert.GateDil.main_arg4) = m ((c.tc : Thread Cert.GateDil.nD Cert.GateDil.τ).loc Cert.GateDil.main_arg4))
      ∧ r.2.sem = fun _ => 0)

def quiescent_GateDilIdeal [hGateDilIdeal : Cert.GateDilIdeal.Facts] : Prop :=
  ∀ (m : (ℓ : Loc Cert.GateDilIdeal.nD Cert.GateDilIdeal.τ Cert.GateDilIdeal.sig) → Buf (Elt Ideal) ℓ) (g : Dev Cert.GateDilIdeal.nD → PrngReg), Pre_GateDilIdeal m →
    θ_run (Cert.GateDilIdeal.defs (F := Ideal)) (onTc (τ := Cert.GateDilIdeal.τ) (Cert.GateDilIdeal.main (F := Ideal))) ⟨m, fun _ => 0, g⟩ (fun r => (∀ c : Dev Cert.GateDilIdeal.nD,
      r.2.mem ((c.tc : Thread Cert.GateDilIdeal.nD Cert.GateDilIdeal.τ).loc Cert.GateDilIdeal.main_arg0) = m ((c.tc : Thread Cert.GateDilIdeal.nD Cert.GateDilIdeal.τ).loc Cert.GateDilIdeal.main_arg0)
      ∧ r.2.mem ((c.tc : Thread Cert.GateDilIdeal.nD Cert.GateDilIdeal.τ).loc Cert.GateDilIdeal.main_arg1) = m ((c.tc : Thread Cert.GateDilIdeal.nD Cert.GateDilIdeal.τ).loc Cert.GateDilIdeal.main_arg1)
      ∧ r.2.mem ((c.tc : Thread Cert.GateDilIdeal.nD Cert.GateDilIdeal.τ).loc Cert.GateDilIdeal.main_arg2) = m ((c.tc : Thread Cert.GateDilIdeal.nD Cert.GateDilIdeal.τ).loc Cert.GateDilIdeal.main_arg2)
      ∧ r.2.mem ((c.tc : Thread Cert.GateDilIdeal.nD Cert.GateDilIdeal.τ).loc Cert.GateDilIdeal.main_arg3) = m ((c.tc : Thread Cert.GateDilIdeal.nD Cert.GateDilIdeal.τ).loc Cert.GateDilIdeal.main_arg3)
      ∧ r.2.mem ((c.tc : Thread Cert.GateDilIdeal.nD Cert.GateDilIdeal.τ).loc Cert.GateDilIdeal.main_arg4) = m ((c.tc : Thread Cert.GateDilIdeal.nD Cert.GateDilIdeal.τ).loc Cert.GateDilIdeal.main_arg4))
      ∧ r.2.sem = fun _ => 0)

def quiescent_GateDilReferenceIdeal [hGateDilReferenceIdeal : Cert.GateDilReferenceIdeal.Facts] : Prop :=
  ∀ (m : (ℓ : Loc Cert.GateDilReferenceIdeal.nD Cert.GateDilReferenceIdeal.τ Cert.GateDilReferenceIdeal.sig) → Buf (Elt Ideal) ℓ) (g : Dev Cert.GateDilReferenceIdeal.nD → PrngReg), Pre_GateDilReferenceIdeal m →
    θ_run (Cert.GateDilReferenceIdeal.defs (F := Ideal)) (onTc (τ := Cert.GateDilReferenceIdeal.τ) (Cert.GateDilReferenceIdeal.main (F := Ideal))) ⟨m, fun _ => 0, g⟩ (fun r => (∀ c : Dev Cert.GateDilReferenceIdeal.nD,
      r.2.mem ((c.tc : Thread Cert.GateDilReferenceIdeal.nD Cert.GateDilReferenceIdeal.τ).loc Cert.GateDilReferenceIdeal.main_arg0) = m ((c.tc : Thread Cert.GateDilReferenceIdeal.nD Cert.GateDilReferenceIdeal.τ).loc Cert.GateDilReferenceIdeal.main_arg0)
      ∧ r.2.mem ((c.tc : Thread Cert.GateDilReferenceIdeal.nD Cert.GateDilReferenceIdeal.τ).loc Cert.GateDilReferenceIdeal.main_arg1) = m ((c.tc : Thread Cert.GateDilReferenceIdeal.nD Cert.GateDilReferenceIdeal.τ).loc Cert.GateDilReferenceIdeal.main_arg1)
      ∧ r.2.mem ((c.tc : Thread Cert.GateDilReferenceIdeal.nD Cert.GateDilReferenceIdeal.τ).loc Cert.GateDilReferenceIdeal.main_arg2) = m ((c.tc : Thread Cert.GateDilReferenceIdeal.nD Cert.GateDilReferenceIdeal.τ).loc Cert.GateDilReferenceIdeal.main_arg2)
      ∧ r.2.mem ((c.tc : Thread Cert.GateDilReferenceIdeal.nD Cert.GateDilReferenceIdeal.τ).loc Cert.GateDilReferenceIdeal.main_arg3) = m ((c.tc : Thread Cert.GateDilReferenceIdeal.nD Cert.GateDilReferenceIdeal.τ).loc Cert.GateDilReferenceIdeal.main_arg3)
      ∧ r.2.mem ((c.tc : Thread Cert.GateDilReferenceIdeal.nD Cert.GateDilReferenceIdeal.τ).loc Cert.GateDilReferenceIdeal.main_arg4) = m ((c.tc : Thread Cert.GateDilReferenceIdeal.nD Cert.GateDilReferenceIdeal.τ).loc Cert.GateDilReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_ProjW_ProjWIdeal : Prop :=
  True

def algebraic_ProjWIdeal_ProjWReferenceIdeal [hProjWIdeal : Cert.ProjWIdeal.Facts] [hProjWReferenceIdeal : Cert.ProjWReferenceIdeal.Facts] : Prop :=
  ∀ (m : (ℓ : Loc Cert.ProjWIdeal.nD Cert.ProjWIdeal.τ Cert.ProjWIdeal.sig) → Buf (Elt Ideal) ℓ) (g : Dev Cert.ProjWIdeal.nD → PrngReg)
    (m' : (ℓ : Loc Cert.ProjWReferenceIdeal.nD Cert.ProjWReferenceIdeal.τ Cert.ProjWReferenceIdeal.sig) → Buf (Elt Ideal) ℓ) (g' : Dev Cert.ProjWReferenceIdeal.nD → PrngReg), Pre_ProjWIdeal m →
    (∀ c : Dev Cert.ProjWIdeal.nD,
      m' ((c.tc : Thread Cert.ProjWReferenceIdeal.nD Cert.ProjWReferenceIdeal.τ).loc Cert.ProjWReferenceIdeal.main_arg0) = m ((c.tc : Thread Cert.ProjWIdeal.nD Cert.ProjWIdeal.τ).loc Cert.ProjWIdeal.main_arg0)
      ∧ m' ((c.tc : Thread Cert.ProjWReferenceIdeal.nD Cert.ProjWReferenceIdeal.τ).loc Cert.ProjWReferenceIdeal.main_arg1) = m ((c.tc : Thread Cert.ProjWIdeal.nD Cert.ProjWIdeal.τ).loc Cert.ProjWIdeal.main_arg1)) →
    ∃ (v0 : (c : Dev Cert.ProjWIdeal.nD) → Buf (Elt Ideal) ((c.tc : Thread Cert.ProjWIdeal.nD Cert.ProjWIdeal.τ).loc Cert.ProjWIdeal.main_v0)),
      θ_run (Cert.ProjWIdeal.defs (F := Ideal)) (onTc (τ := Cert.ProjWIdeal.τ) (Cert.ProjWIdeal.main (F := Ideal))) ⟨m, fun _ => 0, g⟩ (fun r => ∀ c : Dev Cert.ProjWIdeal.nD,
          r.2.mem ((c.tc : Thread Cert.ProjWIdeal.nD Cert.ProjWIdeal.τ).loc Cert.ProjWIdeal.main_v0) = v0 c
          ∧ r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
          ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1))
      ∧ θ_run (Cert.ProjWReferenceIdeal.defs (F := Ideal)) (onTc (τ := Cert.ProjWReferenceIdeal.τ) (Cert.ProjWReferenceIdeal.main (F := Ideal))) ⟨m', fun _ => 0, g'⟩ (fun r => ∀ c : Dev Cert.ProjWReferenceIdeal.nD,
          r.2.mem ((c.tc : Thread Cert.ProjWReferenceIdeal.nD Cert.ProjWReferenceIdeal.τ).loc Cert.ProjWReferenceIdeal.main_v6) = v0 c
          ∧ r.2.mem ((c.tc : Thread Cert.ProjWReferenceIdeal.nD Cert.ProjWReferenceIdeal.τ).loc Cert.ProjWReferenceIdeal.main_arg0) = m' ((c.tc : Thread Cert.ProjWReferenceIdeal.nD Cert.ProjWReferenceIdeal.τ).loc Cert.ProjWReferenceIdeal.main_arg0)
          ∧ r.2.mem ((c.tc : Thread Cert.ProjWReferenceIdeal.nD Cert.ProjWReferenceIdeal.τ).loc Cert.ProjWReferenceIdeal.main_arg1) = m' ((c.tc : Thread Cert.ProjWReferenceIdeal.nD Cert.ProjWReferenceIdeal.τ).loc Cert.ProjWReferenceIdeal.main_arg1))

def preserves_ProjH_ProjHIdeal : Prop :=
  True

def algebraic_ProjHIdeal_ProjHReferenceIdeal [hProjHIdeal : Cert.ProjHIdeal.Facts] [hProjHReferenceIdeal : Cert.ProjHReferenceIdeal.Facts] : Prop :=
  ∀ (m : (ℓ : Loc Cert.ProjHIdeal.nD Cert.ProjHIdeal.τ Cert.ProjHIdeal.sig) → Buf (Elt Ideal) ℓ) (g : Dev Cert.ProjHIdeal.nD → PrngReg)
    (m' : (ℓ : Loc Cert.ProjHReferenceIdeal.nD Cert.ProjHReferenceIdeal.τ Cert.ProjHReferenceIdeal.sig) → Buf (Elt Ideal) ℓ) (g' : Dev Cert.ProjHReferenceIdeal.nD → PrngReg), Pre_ProjHIdeal m →
    (∀ c : Dev Cert.ProjHIdeal.nD,
      m' ((c.tc : Thread Cert.ProjHReferenceIdeal.nD Cert.ProjHReferenceIdeal.τ).loc Cert.ProjHReferenceIdeal.main_arg0) = m ((c.tc : Thread Cert.ProjHIdeal.nD Cert.ProjHIdeal.τ).loc Cert.ProjHIdeal.main_arg0)
      ∧ m' ((c.tc : Thread Cert.ProjHReferenceIdeal.nD Cert.ProjHReferenceIdeal.τ).loc Cert.ProjHReferenceIdeal.main_arg1) = m ((c.tc : Thread Cert.ProjHIdeal.nD Cert.ProjHIdeal.τ).loc Cert.ProjHIdeal.main_arg1)) →
    ∃ (v0 : (c : Dev Cert.ProjHIdeal.nD) → Buf (Elt Ideal) ((c.tc : Thread Cert.ProjHIdeal.nD Cert.ProjHIdeal.τ).loc Cert.ProjHIdeal.main_v0)),
      θ_run (Cert.ProjHIdeal.defs (F := Ideal)) (onTc (τ := Cert.ProjHIdeal.τ) (Cert.ProjHIdeal.main (F := Ideal))) ⟨m, fun _ => 0, g⟩ (fun r => ∀ c : Dev Cert.ProjHIdeal.nD,
          r.2.mem ((c.tc : Thread Cert.ProjHIdeal.nD Cert.ProjHIdeal.τ).loc Cert.ProjHIdeal.main_v0) = v0 c
          ∧ r.2.mem ((c.tc : Thread Cert.ProjHIdeal.nD Cert.ProjHIdeal.τ).loc Cert.ProjHIdeal.main_arg0) = m ((c.tc : Thread Cert.ProjHIdeal.nD Cert.ProjHIdeal.τ).loc Cert.ProjHIdeal.main_arg0)
          ∧ r.2.mem ((c.tc : Thread Cert.ProjHIdeal.nD Cert.ProjHIdeal.τ).loc Cert.ProjHIdeal.main_arg1) = m ((c.tc : Thread Cert.ProjHIdeal.nD Cert.ProjHIdeal.τ).loc Cert.ProjHIdeal.main_arg1))
      ∧ θ_run (Cert.ProjHReferenceIdeal.defs (F := Ideal)) (onTc (τ := Cert.ProjHReferenceIdeal.τ) (Cert.ProjHReferenceIdeal.main (F := Ideal))) ⟨m', fun _ => 0, g'⟩ (fun r => ∀ c : Dev Cert.ProjHReferenceIdeal.nD,
          r.2.mem ((c.tc : Thread Cert.ProjHReferenceIdeal.nD Cert.ProjHReferenceIdeal.τ).loc Cert.ProjHReferenceIdeal.main_v4) = v0 c
          ∧ r.2.mem ((c.tc : Thread Cert.ProjHReferenceIdeal.nD Cert.ProjHReferenceIdeal.τ).loc Cert.ProjHReferenceIdeal.main_arg0) = m' ((c.tc : Thread Cert.ProjHReferenceIdeal.nD Cert.ProjHReferenceIdeal.τ).loc Cert.ProjHReferenceIdeal.main_arg0)
          ∧ r.2.mem ((c.tc : Thread Cert.ProjHReferenceIdeal.nD Cert.ProjHReferenceIdeal.τ).loc Cert.ProjHReferenceIdeal.main_arg1) = m' ((c.tc : Thread Cert.ProjHReferenceIdeal.nD Cert.ProjHReferenceIdeal.τ).loc Cert.ProjHReferenceIdeal.main_arg1))

def preserves_LruOut_LruOutIdeal : Prop :=
  True

def algebraic_LruOutIdeal_LruOutReferenceIdeal [hLruOutIdeal : Cert.LruOutIdeal.Facts] [hLruOutReferenceIdeal : Cert.LruOutReferenceIdeal.Facts] : Prop :=
  ∀ (m : (ℓ : Loc Cert.LruOutIdeal.nD Cert.LruOutIdeal.τ Cert.LruOutIdeal.sig) → Buf (Elt Ideal) ℓ) (g : Dev Cert.LruOutIdeal.nD → PrngReg)
    (m' : (ℓ : Loc Cert.LruOutReferenceIdeal.nD Cert.LruOutReferenceIdeal.τ Cert.LruOutReferenceIdeal.sig) → Buf (Elt Ideal) ℓ) (g' : Dev Cert.LruOutReferenceIdeal.nD → PrngReg), Pre_LruOutIdeal m →
    (∀ c : Dev Cert.LruOutIdeal.nD,
      m' ((c.tc : Thread Cert.LruOutReferenceIdeal.nD Cert.LruOutReferenceIdeal.τ).loc Cert.LruOutReferenceIdeal.main_arg0) = m ((c.tc : Thread Cert.LruOutIdeal.nD Cert.LruOutIdeal.τ).loc Cert.LruOutIdeal.main_arg0)
      ∧ m' ((c.tc : Thread Cert.LruOutReferenceIdeal.nD Cert.LruOutReferenceIdeal.τ).loc Cert.LruOutReferenceIdeal.main_arg1) = m ((c.tc : Thread Cert.LruOutIdeal.nD Cert.LruOutIdeal.τ).loc Cert.LruOutIdeal.main_arg1)) →
    ∃ (v0 : (c : Dev Cert.LruOutIdeal.nD) → Buf (Elt Ideal) ((c.tc : Thread Cert.LruOutIdeal.nD Cert.LruOutIdeal.τ).loc Cert.LruOutIdeal.main_v0)),
      θ_run (Cert.LruOutIdeal.defs (F := Ideal)) (onTc (τ := Cert.LruOutIdeal.τ) (Cert.LruOutIdeal.main (F := Ideal))) ⟨m, fun _ => 0, g⟩ (fun r => ∀ c : Dev Cert.LruOutIdeal.nD,
          r.2.mem ((c.tc : Thread Cert.LruOutIdeal.nD Cert.LruOutIdeal.τ).loc Cert.LruOutIdeal.main_v0) = v0 c
          ∧ r.2.mem ((c.tc : Thread Cert.LruOutIdeal.nD Cert.LruOutIdeal.τ).loc Cert.LruOutIdeal.main_arg0) = m ((c.tc : Thread Cert.LruOutIdeal.nD Cert.LruOutIdeal.τ).loc Cert.LruOutIdeal.main_arg0)
          ∧ r.2.mem ((c.tc : Thread Cert.LruOutIdeal.nD Cert.LruOutIdeal.τ).loc Cert.LruOutIdeal.main_arg1) = m ((c.tc : Thread Cert.LruOutIdeal.nD Cert.LruOutIdeal.τ).loc Cert.LruOutIdeal.main_arg1))
      ∧ θ_run (Cert.LruOutReferenceIdeal.defs (F := Ideal)) (onTc (τ := Cert.LruOutReferenceIdeal.τ) (Cert.LruOutReferenceIdeal.main (F := Ideal))) ⟨m', fun _ => 0, g'⟩ (fun r => ∀ c : Dev Cert.LruOutReferenceIdeal.nD,
          r.2.mem ((c.tc : Thread Cert.LruOutReferenceIdeal.nD Cert.LruOutReferenceIdeal.τ).loc Cert.LruOutReferenceIdeal.main_v3) = v0 c
          ∧ r.2.mem ((c.tc : Thread Cert.LruOutReferenceIdeal.nD Cert.LruOutReferenceIdeal.τ).loc Cert.LruOutReferenceIdeal.main_arg0) = m' ((c.tc : Thread Cert.LruOutReferenceIdeal.nD Cert.LruOutReferenceIdeal.τ).loc Cert.LruOutReferenceIdeal.main_arg0)
          ∧ r.2.mem ((c.tc : Thread Cert.LruOutReferenceIdeal.nD Cert.LruOutReferenceIdeal.τ).loc Cert.LruOutReferenceIdeal.main_arg1) = m' ((c.tc : Thread Cert.LruOutReferenceIdeal.nD Cert.LruOutReferenceIdeal.τ).loc Cert.LruOutReferenceIdeal.main_arg1))

def preserves_MlaOut_MlaOutIdeal : Prop :=
  True

def algebraic_MlaOutIdeal_MlaOutReferenceIdeal [hMlaOutIdeal : Cert.MlaOutIdeal.Facts] [hMlaOutReferenceIdeal : Cert.MlaOutReferenceIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg)
    (m' : (ℓ : Loc Cert.MlaOutReferenceIdeal.nD Cert.MlaOutReferenceIdeal.τ Cert.MlaOutReferenceIdeal.sig) → Buf (Elt Ideal) ℓ) (g' : Dev Cert.MlaOutReferenceIdeal.nD → PrngReg), Pre_MlaOutIdeal m →
    (∀ c : Dev Cert.MlaOutIdeal.nD,
      m' ((c.tc : Thread Cert.MlaOutReferenceIdeal.nD Cert.MlaOutReferenceIdeal.τ).loc Cert.MlaOutReferenceIdeal.main_arg0) = m ((c.tc : Thread Cert.MlaOutIdeal.nD Cert.MlaOutIdeal.τ).loc Cert.MlaOutIdeal.main_arg0)
      ∧ m' ((c.tc : Thread Cert.MlaOutReferenceIdeal.nD Cert.MlaOutReferenceIdeal.τ).loc Cert.MlaOutReferenceIdeal.main_arg1) = m ((c.tc : Thread Cert.MlaOutIdeal.nD Cert.MlaOutIdeal.τ).loc Cert.MlaOutIdeal.main_arg1)) →
    ∃ (v0 : (c : Dev Cert.MlaOutIdeal.nD) → Buf (Elt Ideal) ((c.tc : Thread Cert.MlaOutIdeal.nD Cert.MlaOutIdeal.τ).loc Cert.MlaOutIdeal.main_v0)),
      θ_run (Cert.MlaOutIdeal.defs (F := Ideal)) (onTc (τ := Cert.MlaOutIdeal.τ) (Cert.MlaOutIdeal.main (F := Ideal))) ⟨m, fun _ => 0, g⟩ (fun r => ∀ c : Dev Cert.MlaOutIdeal.nD,
          r.2.mem ((c.tc : Thread Cert.MlaOutIdeal.nD Cert.MlaOutIdeal.τ).loc Cert.MlaOutIdeal.main_v0) = v0 c
          ∧ r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
          ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1))
      ∧ θ_run (Cert.MlaOutReferenceIdeal.defs (F := Ideal)) (onTc (τ := Cert.MlaOutReferenceIdeal.τ) (Cert.MlaOutReferenceIdeal.main (F := Ideal))) ⟨m', fun _ => 0, g'⟩ (fun r => ∀ c : Dev Cert.MlaOutReferenceIdeal.nD,
          r.2.mem ((c.tc : Thread Cert.MlaOutReferenceIdeal.nD Cert.MlaOutReferenceIdeal.τ).loc Cert.MlaOutReferenceIdeal.main_v3) = v0 c
          ∧ r.2.mem ((c.tc : Thread Cert.MlaOutReferenceIdeal.nD Cert.MlaOutReferenceIdeal.τ).loc Cert.MlaOutReferenceIdeal.main_arg0) = m' ((c.tc : Thread Cert.MlaOutReferenceIdeal.nD Cert.MlaOutReferenceIdeal.τ).loc Cert.MlaOutReferenceIdeal.main_arg0)
          ∧ r.2.mem ((c.tc : Thread Cert.MlaOutReferenceIdeal.nD Cert.MlaOutReferenceIdeal.τ).loc Cert.MlaOutReferenceIdeal.main_arg1) = m' ((c.tc : Thread Cert.MlaOutReferenceIdeal.nD Cert.MlaOutReferenceIdeal.τ).loc Cert.MlaOutReferenceIdeal.main_arg1))

def preserves_DilOut_DilOutIdeal : Prop :=
  True

def algebraic_DilOutIdeal_DilOutReferenceIdeal [hDilOutIdeal : Cert.DilOutIdeal.Facts] [hDilOutReferenceIdeal : Cert.DilOutReferenceIdeal.Facts] : Prop :=
  ∀ (m : (ℓ : Loc Cert.DilOutIdeal.nD Cert.DilOutIdeal.τ Cert.DilOutIdeal.sig) → Buf (Elt Ideal) ℓ) (g : Dev Cert.DilOutIdeal.nD → PrngReg)
    (m' : (ℓ : Loc Cert.DilOutReferenceIdeal.nD Cert.DilOutReferenceIdeal.τ Cert.DilOutReferenceIdeal.sig) → Buf (Elt Ideal) ℓ) (g' : Dev Cert.DilOutReferenceIdeal.nD → PrngReg), Pre_DilOutIdeal m →
    (∀ c : Dev Cert.DilOutIdeal.nD,
      m' ((c.tc : Thread Cert.DilOutReferenceIdeal.nD Cert.DilOutReferenceIdeal.τ).loc Cert.DilOutReferenceIdeal.main_arg0) = m ((c.tc : Thread Cert.DilOutIdeal.nD Cert.DilOutIdeal.τ).loc Cert.DilOutIdeal.main_arg0)
      ∧ m' ((c.tc : Thread Cert.DilOutReferenceIdeal.nD Cert.DilOutReferenceIdeal.τ).loc Cert.DilOutReferenceIdeal.main_arg1) = m ((c.tc : Thread Cert.DilOutIdeal.nD Cert.DilOutIdeal.τ).loc Cert.DilOutIdeal.main_arg1)) →
    ∃ (v0 : (c : Dev Cert.DilOutIdeal.nD) → Buf (Elt Ideal) ((c.tc : Thread Cert.DilOutIdeal.nD Cert.DilOutIdeal.τ).loc Cert.DilOutIdeal.main_v0)),
      θ_run (Cert.DilOutIdeal.defs (F := Ideal)) (onTc (τ := Cert.DilOutIdeal.τ) (Cert.DilOutIdeal.main (F := Ideal))) ⟨m, fun _ => 0, g⟩ (fun r => ∀ c : Dev Cert.DilOutIdeal.nD,
          r.2.mem ((c.tc : Thread Cert.DilOutIdeal.nD Cert.DilOutIdeal.τ).loc Cert.DilOutIdeal.main_v0) = v0 c
          ∧ r.2.mem ((c.tc : Thread Cert.DilOutIdeal.nD Cert.DilOutIdeal.τ).loc Cert.DilOutIdeal.main_arg0) = m ((c.tc : Thread Cert.DilOutIdeal.nD Cert.DilOutIdeal.τ).loc Cert.DilOutIdeal.main_arg0)
          ∧ r.2.mem ((c.tc : Thread Cert.DilOutIdeal.nD Cert.DilOutIdeal.τ).loc Cert.DilOutIdeal.main_arg1) = m ((c.tc : Thread Cert.DilOutIdeal.nD Cert.DilOutIdeal.τ).loc Cert.DilOutIdeal.main_arg1))
      ∧ θ_run (Cert.DilOutReferenceIdeal.defs (F := Ideal)) (onTc (τ := Cert.DilOutReferenceIdeal.τ) (Cert.DilOutReferenceIdeal.main (F := Ideal))) ⟨m', fun _ => 0, g'⟩ (fun r => ∀ c : Dev Cert.DilOutReferenceIdeal.nD,
          r.2.mem ((c.tc : Thread Cert.DilOutReferenceIdeal.nD Cert.DilOutReferenceIdeal.τ).loc Cert.DilOutReferenceIdeal.main_v3) = v0 c
          ∧ r.2.mem ((c.tc : Thread Cert.DilOutReferenceIdeal.nD Cert.DilOutReferenceIdeal.τ).loc Cert.DilOutReferenceIdeal.main_arg0) = m' ((c.tc : Thread Cert.DilOutReferenceIdeal.nD Cert.DilOutReferenceIdeal.τ).loc Cert.DilOutReferenceIdeal.main_arg0)
          ∧ r.2.mem ((c.tc : Thread Cert.DilOutReferenceIdeal.nD Cert.DilOutReferenceIdeal.τ).loc Cert.DilOutReferenceIdeal.main_arg1) = m' ((c.tc : Thread Cert.DilOutReferenceIdeal.nD Cert.DilOutReferenceIdeal.τ).loc Cert.DilOutReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v3) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_MergedGrad_MergedGradIdeal : Prop :=
  True

def algebraic_MergedGradIdeal_MergedGradReferenceIdeal [hMergedGradIdeal : Cert.MergedGradIdeal.Facts] [hMergedGradReferenceIdeal : Cert.MergedGradReferenceIdeal.Facts] : Prop :=
  ∀ (m : (ℓ : Loc Cert.MergedGradIdeal.nD Cert.MergedGradIdeal.τ Cert.MergedGradIdeal.sig) → Buf (Elt Ideal) ℓ) (g : Dev Cert.MergedGradIdeal.nD → PrngReg)
    (m' : (ℓ : Loc Cert.MergedGradReferenceIdeal.nD Cert.MergedGradReferenceIdeal.τ Cert.MergedGradReferenceIdeal.sig) → Buf (Elt Ideal) ℓ) (g' : Dev Cert.MergedGradReferenceIdeal.nD → PrngReg), Pre_MergedGradIdeal m →
    (∀ c : Dev Cert.MergedGradIdeal.nD,
      m' ((c.tc : Thread Cert.MergedGradReferenceIdeal.nD Cert.MergedGradReferenceIdeal.τ).loc Cert.MergedGradReferenceIdeal.main_arg0) = m ((c.tc : Thread Cert.MergedGradIdeal.nD Cert.MergedGradIdeal.τ).loc Cert.MergedGradIdeal.main_arg0)
      ∧ m' ((c.tc : Thread Cert.MergedGradReferenceIdeal.nD Cert.MergedGradReferenceIdeal.τ).loc Cert.MergedGradReferenceIdeal.main_arg1) = m ((c.tc : Thread Cert.MergedGradIdeal.nD Cert.MergedGradIdeal.τ).loc Cert.MergedGradIdeal.main_arg1)) →
    ∃ (v0 : (c : Dev Cert.MergedGradIdeal.nD) → Buf (Elt Ideal) ((c.tc : Thread Cert.MergedGradIdeal.nD Cert.MergedGradIdeal.τ).loc Cert.MergedGradIdeal.main_v0)),
      θ_run (Cert.MergedGradIdeal.defs (F := Ideal)) (onTc (τ := Cert.MergedGradIdeal.τ) (Cert.MergedGradIdeal.main (F := Ideal))) ⟨m, fun _ => 0, g⟩ (fun r => ∀ c : Dev Cert.MergedGradIdeal.nD,
          r.2.mem ((c.tc : Thread Cert.MergedGradIdeal.nD Cert.MergedGradIdeal.τ).loc Cert.MergedGradIdeal.main_v0) = v0 c
          ∧ r.2.mem ((c.tc : Thread Cert.MergedGradIdeal.nD Cert.MergedGradIdeal.τ).loc Cert.MergedGradIdeal.main_arg0) = m ((c.tc : Thread Cert.MergedGradIdeal.nD Cert.MergedGradIdeal.τ).loc Cert.MergedGradIdeal.main_arg0)
          ∧ r.2.mem ((c.tc : Thread Cert.MergedGradIdeal.nD Cert.MergedGradIdeal.τ).loc Cert.MergedGradIdeal.main_arg1) = m ((c.tc : Thread Cert.MergedGradIdeal.nD Cert.MergedGradIdeal.τ).loc Cert.MergedGradIdeal.main_arg1))
      ∧ θ_run (Cert.MergedGradReferenceIdeal.defs (F := Ideal)) (onTc (τ := Cert.MergedGradReferenceIdeal.τ) (Cert.MergedGradReferenceIdeal.main (F := Ideal))) ⟨m', fun _ => 0, g'⟩ (fun r => ∀ c : Dev Cert.MergedGradReferenceIdeal.nD,
          r.2.mem ((c.tc : Thread Cert.MergedGradReferenceIdeal.nD Cert.MergedGradReferenceIdeal.τ).loc Cert.MergedGradReferenceIdeal.main_v4) = v0 c
          ∧ r.2.mem ((c.tc : Thread Cert.MergedGradReferenceIdeal.nD Cert.MergedGradReferenceIdeal.τ).loc Cert.MergedGradReferenceIdeal.main_arg0) = m' ((c.tc : Thread Cert.MergedGradReferenceIdeal.nD Cert.MergedGradReferenceIdeal.τ).loc Cert.MergedGradReferenceIdeal.main_arg0)
          ∧ r.2.mem ((c.tc : Thread Cert.MergedGradReferenceIdeal.nD Cert.MergedGradReferenceIdeal.τ).loc Cert.MergedGradReferenceIdeal.main_arg1) = m' ((c.tc : Thread Cert.MergedGradReferenceIdeal.nD Cert.MergedGradReferenceIdeal.τ).loc Cert.MergedGradReferenceIdeal.main_arg1))

def preserves_OutWeightGrad_OutWeightGradIdeal : Prop :=
  True

def algebraic_OutWeightGradIdeal_OutWeightGradReferenceIdeal [hOutWeightGradIdeal : Cert.OutWeightGradIdeal.Facts] [hOutWeightGradReferenceIdeal : Cert.OutWeightGradReferenceIdeal.Facts] : Prop :=
  ∀ (m : (ℓ : Loc Cert.OutWeightGradIdeal.nD Cert.OutWeightGradIdeal.τ Cert.OutWeightGradIdeal.sig) → Buf (Elt Ideal) ℓ) (g : Dev Cert.OutWeightGradIdeal.nD → PrngReg)
    (m' : (ℓ : Loc Cert.OutWeightGradReferenceIdeal.nD Cert.OutWeightGradReferenceIdeal.τ Cert.OutWeightGradReferenceIdeal.sig) → Buf (Elt Ideal) ℓ) (g' : Dev Cert.OutWeightGradReferenceIdeal.nD → PrngReg), Pre_OutWeightGradIdeal m →
    (∀ c : Dev Cert.OutWeightGradIdeal.nD,
      m' ((c.tc : Thread Cert.OutWeightGradReferenceIdeal.nD Cert.OutWeightGradReferenceIdeal.τ).loc Cert.OutWeightGradReferenceIdeal.main_arg0) = m ((c.tc : Thread Cert.OutWeightGradIdeal.nD Cert.OutWeightGradIdeal.τ).loc Cert.OutWeightGradIdeal.main_arg0)
      ∧ m' ((c.tc : Thread Cert.OutWeightGradReferenceIdeal.nD Cert.OutWeightGradReferenceIdeal.τ).loc Cert.OutWeightGradReferenceIdeal.main_arg1) = m ((c.tc : Thread Cert.OutWeightGradIdeal.nD Cert.OutWeightGradIdeal.τ).loc Cert.OutWeightGradIdeal.main_arg1)) →
    ∃ (v0 : (c : Dev Cert.OutWeightGradIdeal.nD) → Buf (Elt Ideal) ((c.tc : Thread Cert.OutWeightGradIdeal.nD Cert.OutWeightGradIdeal.τ).loc Cert.OutWeightGradIdeal.main_v0)),
      θ_run (Cert.OutWeightGradIdeal.defs (F := Ideal)) (onTc (τ := Cert.OutWeightGradIdeal.τ) (Cert.OutWeightGradIdeal.main (F := Ideal))) ⟨m, fun _ => 0, g⟩ (fun r => ∀ c : Dev Cert.OutWeightGradIdeal.nD,
          r.2.mem ((c.tc : Thread Cert.OutWeightGradIdeal.nD Cert.OutWeightGradIdeal.τ).loc Cert.OutWeightGradIdeal.main_v0) = v0 c
          ∧ r.2.mem ((c.tc : Thread Cert.OutWeightGradIdeal.nD Cert.OutWeightGradIdeal.τ).loc Cert.OutWeightGradIdeal.main_arg0) = m ((c.tc : Thread Cert.OutWeightGradIdeal.nD Cert.OutWeightGradIdeal.τ).loc Cert.OutWeightGradIdeal.main_arg0)
          ∧ r.2.mem ((c.tc : Thread Cert.OutWeightGradIdeal.nD Cert.OutWeightGradIdeal.τ).loc Cert.OutWeightGradIdeal.main_arg1) = m ((c.tc : Thread Cert.OutWeightGradIdeal.nD Cert.OutWeightGradIdeal.τ).loc Cert.OutWeightGradIdeal.main_arg1))
      ∧ θ_run (Cert.OutWeightGradReferenceIdeal.defs (F := Ideal)) (onTc (τ := Cert.OutWeightGradReferenceIdeal.τ) (Cert.OutWeightGradReferenceIdeal.main (F := Ideal))) ⟨m', fun _ => 0, g'⟩ (fun r => ∀ c : Dev Cert.OutWeightGradReferenceIdeal.nD,
          r.2.mem ((c.tc : Thread Cert.OutWeightGradReferenceIdeal.nD Cert.OutWeightGradReferenceIdeal.τ).loc Cert.OutWeightGradReferenceIdeal.main_v5) = v0 c
          ∧ r.2.mem ((c.tc : Thread Cert.OutWeightGradReferenceIdeal.nD Cert.OutWeightGradReferenceIdeal.τ).loc Cert.OutWeightGradReferenceIdeal.main_arg0) = m' ((c.tc : Thread Cert.OutWeightGradReferenceIdeal.nD Cert.OutWeightGradReferenceIdeal.τ).loc Cert.OutWeightGradReferenceIdeal.main_arg0)
          ∧ r.2.mem ((c.tc : Thread Cert.OutWeightGradReferenceIdeal.nD Cert.OutWeightGradReferenceIdeal.τ).loc Cert.OutWeightGradReferenceIdeal.main_arg1) = m' ((c.tc : Thread Cert.OutWeightGradReferenceIdeal.nD Cert.OutWeightGradReferenceIdeal.τ).loc Cert.OutWeightGradReferenceIdeal.main_arg1))

def preserves_LruGrad_LruGradIdeal : Prop :=
  True

def algebraic_LruGradIdeal_LruGradReferenceIdeal [hLruGradIdeal : Cert.LruGradIdeal.Facts] [hLruGradReferenceIdeal : Cert.LruGradReferenceIdeal.Facts] : Prop :=
  ∀ (m : (ℓ : Loc Cert.LruGradIdeal.nD Cert.LruGradIdeal.τ Cert.LruGradIdeal.sig) → Buf (Elt Ideal) ℓ) (g : Dev Cert.LruGradIdeal.nD → PrngReg)
    (m' : (ℓ : Loc Cert.LruGradReferenceIdeal.nD Cert.LruGradReferenceIdeal.τ Cert.LruGradReferenceIdeal.sig) → Buf (Elt Ideal) ℓ) (g' : Dev Cert.LruGradReferenceIdeal.nD → PrngReg), Pre_LruGradIdeal m →
    (∀ c : Dev Cert.LruGradIdeal.nD,
      m' ((c.tc : Thread Cert.LruGradReferenceIdeal.nD Cert.LruGradReferenceIdeal.τ).loc Cert.LruGradReferenceIdeal.main_arg0) = m ((c.tc : Thread Cert.LruGradIdeal.nD Cert.LruGradIdeal.τ).loc Cert.LruGradIdeal.main_arg0)
      ∧ m' ((c.tc : Thread Cert.LruGradReferenceIdeal.nD Cert.LruGradReferenceIdeal.τ).loc Cert.LruGradReferenceIdeal.main_arg1) = m ((c.tc : Thread Cert.LruGradIdeal.nD Cert.LruGradIdeal.τ).loc Cert.LruGradIdeal.main_arg1)) →
    ∃ (v0 : (c : Dev Cert.LruGradIdeal.nD) → Buf (Elt Ideal) ((c.tc : Thread Cert.LruGradIdeal.nD Cert.LruGradIdeal.τ).loc Cert.LruGradIdeal.main_v0)),
      θ_run (Cert.LruGradIdeal.defs (F := Ideal)) (onTc (τ := Cert.LruGradIdeal.τ) (Cert.LruGradIdeal.main (F := Ideal))) ⟨m, fun _ => 0, g⟩ (fun r => ∀ c : Dev Cert.LruGradIdeal.nD,
          r.2.mem ((c.tc : Thread Cert.LruGradIdeal.nD Cert.LruGradIdeal.τ).loc Cert.LruGradIdeal.main_v0) = v0 c
          ∧ r.2.mem ((c.tc : Thread Cert.LruGradIdeal.nD Cert.LruGradIdeal.τ).loc Cert.LruGradIdeal.main_arg0) = m ((c.tc : Thread Cert.LruGradIdeal.nD Cert.LruGradIdeal.τ).loc Cert.LruGradIdeal.main_arg0)
          ∧ r.2.mem ((c.tc : Thread Cert.LruGradIdeal.nD Cert.LruGradIdeal.τ).loc Cert.LruGradIdeal.main_arg1) = m ((c.tc : Thread Cert.LruGradIdeal.nD Cert.LruGradIdeal.τ).loc Cert.LruGradIdeal.main_arg1))
      ∧ θ_run (Cert.LruGradReferenceIdeal.defs (F := Ideal)) (onTc (τ := Cert.LruGradReferenceIdeal.τ) (Cert.LruGradReferenceIdeal.main (F := Ideal))) ⟨m', fun _ => 0, g'⟩ (fun r => ∀ c : Dev Cert.LruGradReferenceIdeal.nD,
          r.2.mem ((c.tc : Thread Cert.LruGradReferenceIdeal.nD Cert.LruGradReferenceIdeal.τ).loc Cert.LruGradReferenceIdeal.main_v4) = v0 c
          ∧ r.2.mem ((c.tc : Thread Cert.LruGradReferenceIdeal.nD Cert.LruGradReferenceIdeal.τ).loc Cert.LruGradReferenceIdeal.main_arg0) = m' ((c.tc : Thread Cert.LruGradReferenceIdeal.nD Cert.LruGradReferenceIdeal.τ).loc Cert.LruGradReferenceIdeal.main_arg0)
          ∧ r.2.mem ((c.tc : Thread Cert.LruGradReferenceIdeal.nD Cert.LruGradReferenceIdeal.τ).loc Cert.LruGradReferenceIdeal.main_arg1) = m' ((c.tc : Thread Cert.LruGradReferenceIdeal.nD Cert.LruGradReferenceIdeal.τ).loc Cert.LruGradReferenceIdeal.main_arg1))

def preserves_MlaGrad_MlaGradIdeal : Prop :=
  True

def algebraic_MlaGradIdeal_MlaGradReferenceIdeal [hMlaGradIdeal : Cert.MlaGradIdeal.Facts] [hMlaGradReferenceIdeal : Cert.MlaGradReferenceIdeal.Facts] : Prop :=
  ∀ (m : (ℓ : Loc Cert.MlaGradIdeal.nD Cert.MlaGradIdeal.τ Cert.MlaGradIdeal.sig) → Buf (Elt Ideal) ℓ) (g : Dev Cert.MlaGradIdeal.nD → PrngReg)
    (m' : (ℓ : Loc Cert.MlaGradReferenceIdeal.nD Cert.MlaGradReferenceIdeal.τ Cert.MlaGradReferenceIdeal.sig) → Buf (Elt Ideal) ℓ) (g' : Dev Cert.MlaGradReferenceIdeal.nD → PrngReg), Pre_MlaGradIdeal m →
    (∀ c : Dev Cert.MlaGradIdeal.nD,
      m' ((c.tc : Thread Cert.MlaGradReferenceIdeal.nD Cert.MlaGradReferenceIdeal.τ).loc Cert.MlaGradReferenceIdeal.main_arg0) = m ((c.tc : Thread Cert.MlaGradIdeal.nD Cert.MlaGradIdeal.τ).loc Cert.MlaGradIdeal.main_arg0)
      ∧ m' ((c.tc : Thread Cert.MlaGradReferenceIdeal.nD Cert.MlaGradReferenceIdeal.τ).loc Cert.MlaGradReferenceIdeal.main_arg1) = m ((c.tc : Thread Cert.MlaGradIdeal.nD Cert.MlaGradIdeal.τ).loc Cert.MlaGradIdeal.main_arg1)) →
    ∃ (v0 : (c : Dev Cert.MlaGradIdeal.nD) → Buf (Elt Ideal) ((c.tc : Thread Cert.MlaGradIdeal.nD Cert.MlaGradIdeal.τ).loc Cert.MlaGradIdeal.main_v0)),
      θ_run (Cert.MlaGradIdeal.defs (F := Ideal)) (onTc (τ := Cert.MlaGradIdeal.τ) (Cert.MlaGradIdeal.main (F := Ideal))) ⟨m, fun _ => 0, g⟩ (fun r => ∀ c : Dev Cert.MlaGradIdeal.nD,
          r.2.mem ((c.tc : Thread Cert.MlaGradIdeal.nD Cert.MlaGradIdeal.τ).loc Cert.MlaGradIdeal.main_v0) = v0 c
          ∧ r.2.mem ((c.tc : Thread Cert.MlaGradIdeal.nD Cert.MlaGradIdeal.τ).loc Cert.MlaGradIdeal.main_arg0) = m ((c.tc : Thread Cert.MlaGradIdeal.nD Cert.MlaGradIdeal.τ).loc Cert.MlaGradIdeal.main_arg0)
          ∧ r.2.mem ((c.tc : Thread Cert.MlaGradIdeal.nD Cert.MlaGradIdeal.τ).loc Cert.MlaGradIdeal.main_arg1) = m ((c.tc : Thread Cert.MlaGradIdeal.nD Cert.MlaGradIdeal.τ).loc Cert.MlaGradIdeal.main_arg1))
      ∧ θ_run (Cert.MlaGradReferenceIdeal.defs (F := Ideal)) (onTc (τ := Cert.MlaGradReferenceIdeal.τ) (Cert.MlaGradReferenceIdeal.main (F := Ideal))) ⟨m', fun _ => 0, g'⟩ (fun r => ∀ c : Dev Cert.MlaGradReferenceIdeal.nD,
          r.2.mem ((c.tc : Thread Cert.MlaGradReferenceIdeal.nD Cert.MlaGradReferenceIdeal.τ).loc Cert.MlaGradReferenceIdeal.main_v4) = v0 c
          ∧ r.2.mem ((c.tc : Thread Cert.MlaGradReferenceIdeal.nD Cert.MlaGradReferenceIdeal.τ).loc Cert.MlaGradReferenceIdeal.main_arg0) = m' ((c.tc : Thread Cert.MlaGradReferenceIdeal.nD Cert.MlaGradReferenceIdeal.τ).loc Cert.MlaGradReferenceIdeal.main_arg0)
          ∧ r.2.mem ((c.tc : Thread Cert.MlaGradReferenceIdeal.nD Cert.MlaGradReferenceIdeal.τ).loc Cert.MlaGradReferenceIdeal.main_arg1) = m' ((c.tc : Thread Cert.MlaGradReferenceIdeal.nD Cert.MlaGradReferenceIdeal.τ).loc Cert.MlaGradReferenceIdeal.main_arg1))

def preserves_DilGrad_DilGradIdeal : Prop :=
  True

def algebraic_DilGradIdeal_DilGradReferenceIdeal [hDilGradIdeal : Cert.DilGradIdeal.Facts] [hDilGradReferenceIdeal : Cert.DilGradReferenceIdeal.Facts] : Prop :=
  ∀ (m : (ℓ : Loc Cert.DilGradIdeal.nD Cert.DilGradIdeal.τ Cert.DilGradIdeal.sig) → Buf (Elt Ideal) ℓ) (g : Dev Cert.DilGradIdeal.nD → PrngReg)
    (m' : (ℓ : Loc Cert.DilGradReferenceIdeal.nD Cert.DilGradReferenceIdeal.τ Cert.DilGradReferenceIdeal.sig) → Buf (Elt Ideal) ℓ) (g' : Dev Cert.DilGradReferenceIdeal.nD → PrngReg), Pre_DilGradIdeal m →
    (∀ c : Dev Cert.DilGradIdeal.nD,
      m' ((c.tc : Thread Cert.DilGradReferenceIdeal.nD Cert.DilGradReferenceIdeal.τ).loc Cert.DilGradReferenceIdeal.main_arg0) = m ((c.tc : Thread Cert.DilGradIdeal.nD Cert.DilGradIdeal.τ).loc Cert.DilGradIdeal.main_arg0)
      ∧ m' ((c.tc : Thread Cert.DilGradReferenceIdeal.nD Cert.DilGradReferenceIdeal.τ).loc Cert.DilGradReferenceIdeal.main_arg1) = m ((c.tc : Thread Cert.DilGradIdeal.nD Cert.DilGradIdeal.τ).loc Cert.DilGradIdeal.main_arg1)) →
    ∃ (v0 : (c : Dev Cert.DilGradIdeal.nD) → Buf (Elt Ideal) ((c.tc : Thread Cert.DilGradIdeal.nD Cert.DilGradIdeal.τ).loc Cert.DilGradIdeal.main_v0)),
      θ_run (Cert.DilGradIdeal.defs (F := Ideal)) (onTc (τ := Cert.DilGradIdeal.τ) (Cert.DilGradIdeal.main (F := Ideal))) ⟨m, fun _ => 0, g⟩ (fun r => ∀ c : Dev Cert.DilGradIdeal.nD,
          r.2.mem ((c.tc : Thread Cert.DilGradIdeal.nD Cert.DilGradIdeal.τ).loc Cert.DilGradIdeal.main_v0) = v0 c
          ∧ r.2.mem ((c.tc : Thread Cert.DilGradIdeal.nD Cert.DilGradIdeal.τ).loc Cert.DilGradIdeal.main_arg0) = m ((c.tc : Thread Cert.DilGradIdeal.nD Cert.DilGradIdeal.τ).loc Cert.DilGradIdeal.main_arg0)
          ∧ r.2.mem ((c.tc : Thread Cert.DilGradIdeal.nD Cert.DilGradIdeal.τ).loc Cert.DilGradIdeal.main_arg1) = m ((c.tc : Thread Cert.DilGradIdeal.nD Cert.DilGradIdeal.τ).loc Cert.DilGradIdeal.main_arg1))
      ∧ θ_run (Cert.DilGradReferenceIdeal.defs (F := Ideal)) (onTc (τ := Cert.DilGradReferenceIdeal.τ) (Cert.DilGradReferenceIdeal.main (F := Ideal))) ⟨m', fun _ => 0, g'⟩ (fun r => ∀ c : Dev Cert.DilGradReferenceIdeal.nD,
          r.2.mem ((c.tc : Thread Cert.DilGradReferenceIdeal.nD Cert.DilGradReferenceIdeal.τ).loc Cert.DilGradReferenceIdeal.main_v4) = v0 c
          ∧ r.2.mem ((c.tc : Thread Cert.DilGradReferenceIdeal.nD Cert.DilGradReferenceIdeal.τ).loc Cert.DilGradReferenceIdeal.main_arg0) = m' ((c.tc : Thread Cert.DilGradReferenceIdeal.nD Cert.DilGradReferenceIdeal.τ).loc Cert.DilGradReferenceIdeal.main_arg0)
          ∧ r.2.mem ((c.tc : Thread Cert.DilGradReferenceIdeal.nD Cert.DilGradReferenceIdeal.τ).loc Cert.DilGradReferenceIdeal.main_arg1) = m' ((c.tc : Thread Cert.DilGradReferenceIdeal.nD Cert.DilGradReferenceIdeal.τ).loc Cert.DilGradReferenceIdeal.main_arg1))

def preserves_LruWeightGrad_LruWeightGradIdeal : Prop :=
  True

def algebraic_LruWeightGradIdeal_LruWeightGradReferenceIdeal [hLruWeightGradIdeal : Cert.LruWeightGradIdeal.Facts] [hLruWeightGradReferenceIdeal : Cert.LruWeightGradReferenceIdeal.Facts] : Prop :=
  ∀ (m : (ℓ : Loc Cert.LruWeightGradIdeal.nD Cert.LruWeightGradIdeal.τ Cert.LruWeightGradIdeal.sig) → Buf (Elt Ideal) ℓ) (g : Dev Cert.LruWeightGradIdeal.nD → PrngReg)
    (m' : (ℓ : Loc Cert.LruWeightGradReferenceIdeal.nD Cert.LruWeightGradReferenceIdeal.τ Cert.LruWeightGradReferenceIdeal.sig) → Buf (Elt Ideal) ℓ) (g' : Dev Cert.LruWeightGradReferenceIdeal.nD → PrngReg), Pre_LruWeightGradIdeal m →
    (∀ c : Dev Cert.LruWeightGradIdeal.nD,
      m' ((c.tc : Thread Cert.LruWeightGradReferenceIdeal.nD Cert.LruWeightGradReferenceIdeal.τ).loc Cert.LruWeightGradReferenceIdeal.main_arg0) = m ((c.tc : Thread Cert.LruWeightGradIdeal.nD Cert.LruWeightGradIdeal.τ).loc Cert.LruWeightGradIdeal.main_arg0)
      ∧ m' ((c.tc : Thread Cert.LruWeightGradReferenceIdeal.nD Cert.LruWeightGradReferenceIdeal.τ).loc Cert.LruWeightGradReferenceIdeal.main_arg1) = m ((c.tc : Thread Cert.LruWeightGradIdeal.nD Cert.LruWeightGradIdeal.τ).loc Cert.LruWeightGradIdeal.main_arg1)) →
    ∃ (v0 : (c : Dev Cert.LruWeightGradIdeal.nD) → Buf (Elt Ideal) ((c.tc : Thread Cert.LruWeightGradIdeal.nD Cert.LruWeightGradIdeal.τ).loc Cert.LruWeightGradIdeal.main_v0)),
      θ_run (Cert.LruWeightGradIdeal.defs (F := Ideal)) (onTc (τ := Cert.LruWeightGradIdeal.τ) (Cert.LruWeightGradIdeal.main (F := Ideal))) ⟨m, fun _ => 0, g⟩ (fun r => ∀ c : Dev Cert.LruWeightGradIdeal.nD,
          r.2.mem ((c.tc : Thread Cert.LruWeightGradIdeal.nD Cert.LruWeightGradIdeal.τ).loc Cert.LruWeightGradIdeal.main_v0) = v0 c
          ∧ r.2.mem ((c.tc : Thread Cert.LruWeightGradIdeal.nD Cert.LruWeightGradIdeal.τ).loc Cert.LruWeightGradIdeal.main_arg0) = m ((c.tc : Thread Cert.LruWeightGradIdeal.nD Cert.LruWeightGradIdeal.τ).loc Cert.LruWeightGradIdeal.main_arg0)
          ∧ r.2.mem ((c.tc : Thread Cert.LruWeightGradIdeal.nD Cert.LruWeightGradIdeal.τ).loc Cert.LruWeightGradIdeal.main_arg1) = m ((c.tc : Thread Cert.LruWeightGradIdeal.nD Cert.LruWeightGradIdeal.τ).loc Cert.LruWeightGradIdeal.main_arg1))
      ∧ θ_run (Cert.LruWeightGradReferenceIdeal.defs (F := Ideal)) (onTc (τ := Cert.LruWeightGradReferenceIdeal.τ) (Cert.LruWeightGradReferenceIdeal.main (F := Ideal))) ⟨m', fun _ => 0, g'⟩ (fun r => ∀ c : Dev Cert.LruWeightGradReferenceIdeal.nD,
          r.2.mem ((c.tc : Thread Cert.LruWeightGradReferenceIdeal.nD Cert.LruWeightGradReferenceIdeal.τ).loc Cert.LruWeightGradReferenceIdeal.main_v6) = v0 c
          ∧ r.2.mem ((c.tc : Thread Cert.LruWeightGradReferenceIdeal.nD Cert.LruWeightGradReferenceIdeal.τ).loc Cert.LruWeightGradReferenceIdeal.main_arg0) = m' ((c.tc : Thread Cert.LruWeightGradReferenceIdeal.nD Cert.LruWeightGradReferenceIdeal.τ).loc Cert.LruWeightGradReferenceIdeal.main_arg0)
          ∧ r.2.mem ((c.tc : Thread Cert.LruWeightGradReferenceIdeal.nD Cert.LruWeightGradReferenceIdeal.τ).loc Cert.LruWeightGradReferenceIdeal.main_arg1) = m' ((c.tc : Thread Cert.LruWeightGradReferenceIdeal.nD Cert.LruWeightGradReferenceIdeal.τ).loc Cert.LruWeightGradReferenceIdeal.main_arg1))

def preserves_MlaWeightGrad_MlaWeightGradIdeal : Prop :=
  True

def algebraic_MlaWeightGradIdeal_MlaWeightGradReferenceIdeal [hMlaWeightGradIdeal : Cert.MlaWeightGradIdeal.Facts] [hMlaWeightGradReferenceIdeal : Cert.MlaWeightGradReferenceIdeal.Facts] : Prop :=
  ∀ (m : (ℓ : Loc Cert.MlaWeightGradIdeal.nD Cert.MlaWeightGradIdeal.τ Cert.MlaWeightGradIdeal.sig) → Buf (Elt Ideal) ℓ) (g : Dev Cert.MlaWeightGradIdeal.nD → PrngReg)
    (m' : (ℓ : Loc Cert.MlaWeightGradReferenceIdeal.nD Cert.MlaWeightGradReferenceIdeal.τ Cert.MlaWeightGradReferenceIdeal.sig) → Buf (Elt Ideal) ℓ) (g' : Dev Cert.MlaWeightGradReferenceIdeal.nD → PrngReg), Pre_MlaWeightGradIdeal m →
    (∀ c : Dev Cert.MlaWeightGradIdeal.nD,
      m' ((c.tc : Thread Cert.MlaWeightGradReferenceIdeal.nD Cert.MlaWeightGradReferenceIdeal.τ).loc Cert.MlaWeightGradReferenceIdeal.main_arg0) = m ((c.tc : Thread Cert.MlaWeightGradIdeal.nD Cert.MlaWeightGradIdeal.τ).loc Cert.MlaWeightGradIdeal.main_arg0)
      ∧ m' ((c.tc : Thread Cert.MlaWeightGradReferenceIdeal.nD Cert.MlaWeightGradReferenceIdeal.τ).loc Cert.MlaWeightGradReferenceIdeal.main_arg1) = m ((c.tc : Thread Cert.MlaWeightGradIdeal.nD Cert.MlaWeightGradIdeal.τ).loc Cert.MlaWeightGradIdeal.main_arg1)) →
    ∃ (v0 : (c : Dev Cert.MlaWeightGradIdeal.nD) → Buf (Elt Ideal) ((c.tc : Thread Cert.MlaWeightGradIdeal.nD Cert.MlaWeightGradIdeal.τ).loc Cert.MlaWeightGradIdeal.main_v0)),
      θ_run (Cert.MlaWeightGradIdeal.defs (F := Ideal)) (onTc (τ := Cert.MlaWeightGradIdeal.τ) (Cert.MlaWeightGradIdeal.main (F := Ideal))) ⟨m, fun _ => 0, g⟩ (fun r => ∀ c : Dev Cert.MlaWeightGradIdeal.nD,
          r.2.mem ((c.tc : Thread Cert.MlaWeightGradIdeal.nD Cert.MlaWeightGradIdeal.τ).loc Cert.MlaWeightGradIdeal.main_v0) = v0 c
          ∧ r.2.mem ((c.tc : Thread Cert.MlaWeightGradIdeal.nD Cert.MlaWeightGradIdeal.τ).loc Cert.MlaWeightGradIdeal.main_arg0) = m ((c.tc : Thread Cert.MlaWeightGradIdeal.nD Cert.MlaWeightGradIdeal.τ).loc Cert.MlaWeightGradIdeal.main_arg0)
          ∧ r.2.mem ((c.tc : Thread Cert.MlaWeightGradIdeal.nD Cert.MlaWeightGradIdeal.τ).loc Cert.MlaWeightGradIdeal.main_arg1) = m ((c.tc : Thread Cert.MlaWeightGradIdeal.nD Cert.MlaWeightGradIdeal.τ).loc Cert.MlaWeightGradIdeal.main_arg1))
      ∧ θ_run (Cert.MlaWeightGradReferenceIdeal.defs (F := Ideal)) (onTc (τ := Cert.MlaWeightGradReferenceIdeal.τ) (Cert.MlaWeightGradReferenceIdeal.main (F := Ideal))) ⟨m', fun _ => 0, g'⟩ (fun r => ∀ c : Dev Cert.MlaWeightGradReferenceIdeal.nD,
          r.2.mem ((c.tc : Thread Cert.MlaWeightGradReferenceIdeal.nD Cert.MlaWeightGradReferenceIdeal.τ).loc Cert.MlaWeightGradReferenceIdeal.main_v6) = v0 c
          ∧ r.2.mem ((c.tc : Thread Cert.MlaWeightGradReferenceIdeal.nD Cert.MlaWeightGradReferenceIdeal.τ).loc Cert.MlaWeightGradReferenceIdeal.main_arg0) = m' ((c.tc : Thread Cert.MlaWeightGradReferenceIdeal.nD Cert.MlaWeightGradReferenceIdeal.τ).loc Cert.MlaWeightGradReferenceIdeal.main_arg0)
          ∧ r.2.mem ((c.tc : Thread Cert.MlaWeightGradReferenceIdeal.nD Cert.MlaWeightGradReferenceIdeal.τ).loc Cert.MlaWeightGradReferenceIdeal.main_arg1) = m' ((c.tc : Thread Cert.MlaWeightGradReferenceIdeal.nD Cert.MlaWeightGradReferenceIdeal.τ).loc Cert.MlaWeightGradReferenceIdeal.main_arg1))

def preserves_DilWeightGrad_DilWeightGradIdeal : Prop :=
  True

def algebraic_DilWeightGradIdeal_DilWeightGradReferenceIdeal [hDilWeightGradIdeal : Cert.DilWeightGradIdeal.Facts] [hDilWeightGradReferenceIdeal : Cert.DilWeightGradReferenceIdeal.Facts] : Prop :=
  ∀ (m : (ℓ : Loc Cert.DilWeightGradIdeal.nD Cert.DilWeightGradIdeal.τ Cert.DilWeightGradIdeal.sig) → Buf (Elt Ideal) ℓ) (g : Dev Cert.DilWeightGradIdeal.nD → PrngReg)
    (m' : (ℓ : Loc Cert.DilWeightGradReferenceIdeal.nD Cert.DilWeightGradReferenceIdeal.τ Cert.DilWeightGradReferenceIdeal.sig) → Buf (Elt Ideal) ℓ) (g' : Dev Cert.DilWeightGradReferenceIdeal.nD → PrngReg), Pre_DilWeightGradIdeal m →
    (∀ c : Dev Cert.DilWeightGradIdeal.nD,
      m' ((c.tc : Thread Cert.DilWeightGradReferenceIdeal.nD Cert.DilWeightGradReferenceIdeal.τ).loc Cert.DilWeightGradReferenceIdeal.main_arg0) = m ((c.tc : Thread Cert.DilWeightGradIdeal.nD Cert.DilWeightGradIdeal.τ).loc Cert.DilWeightGradIdeal.main_arg0)
      ∧ m' ((c.tc : Thread Cert.DilWeightGradReferenceIdeal.nD Cert.DilWeightGradReferenceIdeal.τ).loc Cert.DilWeightGradReferenceIdeal.main_arg1) = m ((c.tc : Thread Cert.DilWeightGradIdeal.nD Cert.DilWeightGradIdeal.τ).loc Cert.DilWeightGradIdeal.main_arg1)) →
    ∃ (v0 : (c : Dev Cert.DilWeightGradIdeal.nD) → Buf (Elt Ideal) ((c.tc : Thread Cert.DilWeightGradIdeal.nD Cert.DilWeightGradIdeal.τ).loc Cert.DilWeightGradIdeal.main_v0)),
      θ_run (Cert.DilWeightGradIdeal.defs (F := Ideal)) (onTc (τ := Cert.DilWeightGradIdeal.τ) (Cert.DilWeightGradIdeal.main (F := Ideal))) ⟨m, fun _ => 0, g⟩ (fun r => ∀ c : Dev Cert.DilWeightGradIdeal.nD,
          r.2.mem ((c.tc : Thread Cert.DilWeightGradIdeal.nD Cert.DilWeightGradIdeal.τ).loc Cert.DilWeightGradIdeal.main_v0) = v0 c
          ∧ r.2.mem ((c.tc : Thread Cert.DilWeightGradIdeal.nD Cert.DilWeightGradIdeal.τ).loc Cert.DilWeightGradIdeal.main_arg0) = m ((c.tc : Thread Cert.DilWeightGradIdeal.nD Cert.DilWeightGradIdeal.τ).loc Cert.DilWeightGradIdeal.main_arg0)
          ∧ r.2.mem ((c.tc : Thread Cert.DilWeightGradIdeal.nD Cert.DilWeightGradIdeal.τ).loc Cert.DilWeightGradIdeal.main_arg1) = m ((c.tc : Thread Cert.DilWeightGradIdeal.nD Cert.DilWeightGradIdeal.τ).loc Cert.DilWeightGradIdeal.main_arg1))
      ∧ θ_run (Cert.DilWeightGradReferenceIdeal.defs (F := Ideal)) (onTc (τ := Cert.DilWeightGradReferenceIdeal.τ) (Cert.DilWeightGradReferenceIdeal.main (F := Ideal))) ⟨m', fun _ => 0, g'⟩ (fun r => ∀ c : Dev Cert.DilWeightGradReferenceIdeal.nD,
          r.2.mem ((c.tc : Thread Cert.DilWeightGradReferenceIdeal.nD Cert.DilWeightGradReferenceIdeal.τ).loc Cert.DilWeightGradReferenceIdeal.main_v6) = v0 c
          ∧ r.2.mem ((c.tc : Thread Cert.DilWeightGradReferenceIdeal.nD Cert.DilWeightGradReferenceIdeal.τ).loc Cert.DilWeightGradReferenceIdeal.main_arg0) = m' ((c.tc : Thread Cert.DilWeightGradReferenceIdeal.nD Cert.DilWeightGradReferenceIdeal.τ).loc Cert.DilWeightGradReferenceIdeal.main_arg0)
          ∧ r.2.mem ((c.tc : Thread Cert.DilWeightGradReferenceIdeal.nD Cert.DilWeightGradReferenceIdeal.τ).loc Cert.DilWeightGradReferenceIdeal.main_arg1) = m' ((c.tc : Thread Cert.DilWeightGradReferenceIdeal.nD Cert.DilWeightGradReferenceIdeal.τ).loc Cert.DilWeightGradReferenceIdeal.main_arg1))

def preserves_Attention_AttentionIdeal : Prop :=
  IdealRules.named_const.Statement Cert.AttentionIdeal.κ "mask" .f32 0xF149F2CA#32 ⊥
  ∧ IdealRules.named_const.Statement Cert.AttentionIdeal.κ "scale2" .f32 0x3E16C740#32 (((3424635 / 33554432) * (Real.log 2)⁻¹ : ℝ) : EReal)
  ∧ IdealRules.named_const.Statement Cert.AttentionIdeal.κ "ln2" .f32 0x3F317218#32 ((Real.log 2 : ℝ) : EReal)

def algebraic_AttentionIdeal_AttentionReferenceIdeal_pre_finite_qk [hAttentionIdeal : Cert.AttentionIdeal.Facts] [hAttentionReferenceIdeal : Cert.AttentionReferenceIdeal.Facts] [hPre_finite_qk : Cert.Pre_finite_qk.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_finite_qk m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)
      ∧ m' ((c.tc : Thread Cert.AttentionReferenceIdeal.nD Cert.AttentionReferenceIdeal.τ).loc Cert.AttentionReferenceIdeal.main_arg3) = m ((c.tc : Thread Cert.AttentionIdeal.nD Cert.AttentionIdeal.τ).loc Cert.AttentionIdeal.main_arg3)) →
    ∃ (v0 : (c : Dev Cert.AttentionIdeal.nD) → Buf (Elt Ideal) ((c.tc : Thread Cert.AttentionIdeal.nD Cert.AttentionIdeal.τ).loc Cert.AttentionIdeal.main_v0_0)) (v1 : (c : Dev Cert.AttentionIdeal.nD) → Buf (Elt Ideal) ((c.tc : Thread Cert.AttentionIdeal.nD Cert.AttentionIdeal.τ).loc Cert.AttentionIdeal.main_v0_1)) (v2 : (c : Dev Cert.AttentionIdeal.nD) → Buf (Elt Ideal) ((c.tc : Thread Cert.AttentionIdeal.nD Cert.AttentionIdeal.τ).loc Cert.AttentionIdeal.main_v0_2)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0_0) = v0 c
          ∧ r.2.mem ((c.tc : Thread Cert.AttentionIdeal.nD Cert.AttentionIdeal.τ).loc Cert.AttentionIdeal.main_v0_1) = v1 c
          ∧ r.2.mem ((c.tc : Thread Cert.AttentionIdeal.nD Cert.AttentionIdeal.τ).loc Cert.AttentionIdeal.main_v0_2) = v2 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v44) = v0 c
          ∧ r.2.mem ((c.tc : Thread Cert.AttentionReferenceIdeal.nD Cert.AttentionReferenceIdeal.τ).loc Cert.AttentionReferenceIdeal.main_v48) = v1 c
          ∧ r.2.mem ((c.tc : Thread Cert.AttentionReferenceIdeal.nD Cert.AttentionReferenceIdeal.τ).loc Cert.AttentionReferenceIdeal.main_v51) = v2 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2)
          ∧ r.2.mem ((c.tc : Thread Cert.AttentionReferenceIdeal.nD Cert.AttentionReferenceIdeal.τ).loc Cert.AttentionReferenceIdeal.main_arg3) = m' ((c.tc : Thread Cert.AttentionReferenceIdeal.nD Cert.AttentionReferenceIdeal.τ).loc Cert.AttentionReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v24) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v15) = v0 c
          ∧ r.2.mem ((c.tc : Thread Cert.LossReferenceIdeal.nD Cert.LossReferenceIdeal.τ).loc Cert.LossReferenceIdeal.main_v14) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_AdamW_AdamWIdeal : Prop :=
  True

def algebraic_AdamWIdeal_AdamWReferenceIdeal [hAdamWIdeal : Cert.AdamWIdeal.Facts] [hAdamWReferenceIdeal : Cert.AdamWReferenceIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWReferenceIdeal.nD Cert.AdamWReferenceIdeal.τ Cert.AdamWReferenceIdeal.sig) → Buf (Elt Ideal) ℓ) (g' : Dev Cert.AdamWReferenceIdeal.nD → PrngReg), Pre_AdamWIdeal m →
    (∀ c : Dev Cert.AdamWIdeal.nD,
      m' ((c.tc : Thread Cert.AdamWReferenceIdeal.nD Cert.AdamWReferenceIdeal.τ).loc Cert.AdamWReferenceIdeal.main_arg0) = m ((c.tc : Thread Cert.AdamWIdeal.nD Cert.AdamWIdeal.τ).loc Cert.AdamWIdeal.main_arg0)
      ∧ m' ((c.tc : Thread Cert.AdamWReferenceIdeal.nD Cert.AdamWReferenceIdeal.τ).loc Cert.AdamWReferenceIdeal.main_arg1) = m ((c.tc : Thread Cert.AdamWIdeal.nD Cert.AdamWIdeal.τ).loc Cert.AdamWIdeal.main_arg1)
      ∧ m' ((c.tc : Thread Cert.AdamWReferenceIdeal.nD Cert.AdamWReferenceIdeal.τ).loc Cert.AdamWReferenceIdeal.main_arg2) = m ((c.tc : Thread Cert.AdamWIdeal.nD Cert.AdamWIdeal.τ).loc Cert.AdamWIdeal.main_arg2)
      ∧ m' ((c.tc : Thread Cert.AdamWReferenceIdeal.nD Cert.AdamWReferenceIdeal.τ).loc Cert.AdamWReferenceIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWReferenceIdeal.defs (F := Ideal)) (onTc (τ := Cert.AdamWReferenceIdeal.τ) (Cert.AdamWReferenceIdeal.main (F := Ideal))) ⟨m', fun _ => 0, g'⟩ (fun r => ∀ c : Dev Cert.AdamWReferenceIdeal.nD,
          r.2.mem ((c.tc : Thread Cert.AdamWReferenceIdeal.nD Cert.AdamWReferenceIdeal.τ).loc Cert.AdamWReferenceIdeal.main_v23) = v0 c
          ∧ r.2.mem ((c.tc : Thread Cert.AdamWReferenceIdeal.nD Cert.AdamWReferenceIdeal.τ).loc Cert.AdamWReferenceIdeal.main_v4) = v1 c
          ∧ r.2.mem ((c.tc : Thread Cert.AdamWReferenceIdeal.nD Cert.AdamWReferenceIdeal.τ).loc Cert.AdamWReferenceIdeal.main_v10) = v2 c
          ∧ r.2.mem ((c.tc : Thread Cert.AdamWReferenceIdeal.nD Cert.AdamWReferenceIdeal.τ).loc Cert.AdamWReferenceIdeal.main_arg0) = m' ((c.tc : Thread Cert.AdamWReferenceIdeal.nD Cert.AdamWReferenceIdeal.τ).loc Cert.AdamWReferenceIdeal.main_arg0)
          ∧ r.2.mem ((c.tc : Thread Cert.AdamWReferenceIdeal.nD Cert.AdamWReferenceIdeal.τ).loc Cert.AdamWReferenceIdeal.main_arg1) = m' ((c.tc : Thread Cert.AdamWReferenceIdeal.nD Cert.AdamWReferenceIdeal.τ).loc Cert.AdamWReferenceIdeal.main_arg1)
          ∧ r.2.mem ((c.tc : Thread Cert.AdamWReferenceIdeal.nD Cert.AdamWReferenceIdeal.τ).loc Cert.AdamWReferenceIdeal.main_arg2) = m' ((c.tc : Thread Cert.AdamWReferenceIdeal.nD Cert.AdamWReferenceIdeal.τ).loc Cert.AdamWReferenceIdeal.main_arg2)
          ∧ r.2.mem ((c.tc : Thread Cert.AdamWReferenceIdeal.nD Cert.AdamWReferenceIdeal.τ).loc Cert.AdamWReferenceIdeal.main_arg3) = m' ((c.tc : Thread Cert.AdamWReferenceIdeal.nD Cert.AdamWReferenceIdeal.τ).loc Cert.AdamWReferenceIdeal.main_arg3))

def preserves_GateLru_GateLruIdeal : Prop :=
  True

def algebraic_GateLruIdeal_GateLruReferenceIdeal [hGateLruIdeal : Cert.GateLruIdeal.Facts] [hGateLruReferenceIdeal : Cert.GateLruReferenceIdeal.Facts] : Prop :=
  ∀ (m : (ℓ : Loc Cert.GateLruIdeal.nD Cert.GateLruIdeal.τ Cert.GateLruIdeal.sig) → Buf (Elt Ideal) ℓ) (g : Dev Cert.GateLruIdeal.nD → PrngReg)
    (m' : (ℓ : Loc Cert.GateLruReferenceIdeal.nD Cert.GateLruReferenceIdeal.τ Cert.GateLruReferenceIdeal.sig) → Buf (Elt Ideal) ℓ) (g' : Dev Cert.GateLruReferenceIdeal.nD → PrngReg), Pre_GateLruIdeal m →
    (∀ c : Dev Cert.GateLruIdeal.nD,
      m' ((c.tc : Thread Cert.GateLruReferenceIdeal.nD Cert.GateLruReferenceIdeal.τ).loc Cert.GateLruReferenceIdeal.main_arg0) = m ((c.tc : Thread Cert.GateLruIdeal.nD Cert.GateLruIdeal.τ).loc Cert.GateLruIdeal.main_arg0)
      ∧ m' ((c.tc : Thread Cert.GateLruReferenceIdeal.nD Cert.GateLruReferenceIdeal.τ).loc Cert.GateLruReferenceIdeal.main_arg1) = m ((c.tc : Thread Cert.GateLruIdeal.nD Cert.GateLruIdeal.τ).loc Cert.GateLruIdeal.main_arg1)
      ∧ m' ((c.tc : Thread Cert.GateLruReferenceIdeal.nD Cert.GateLruReferenceIdeal.τ).loc Cert.GateLruReferenceIdeal.main_arg2) = m ((c.tc : Thread Cert.GateLruIdeal.nD Cert.GateLruIdeal.τ).loc Cert.GateLruIdeal.main_arg2)
      ∧ m' ((c.tc : Thread Cert.GateLruReferenceIdeal.nD Cert.GateLruReferenceIdeal.τ).loc Cert.GateLruReferenceIdeal.main_arg3) = m ((c.tc : Thread Cert.GateLruIdeal.nD Cert.GateLruIdeal.τ).loc Cert.GateLruIdeal.main_arg3)
      ∧ m' ((c.tc : Thread Cert.GateLruReferenceIdeal.nD Cert.GateLruReferenceIdeal.τ).loc Cert.GateLruReferenceIdeal.main_arg4) = m ((c.tc : Thread Cert.GateLruIdeal.nD Cert.GateLruIdeal.τ).loc Cert.GateLruIdeal.main_arg4)) →
    ∃ (v0 : (c : Dev Cert.GateLruIdeal.nD) → Buf (Elt Ideal) ((c.tc : Thread Cert.GateLruIdeal.nD Cert.GateLruIdeal.τ).loc Cert.GateLruIdeal.main_v0_0)) (v1 : (c : Dev Cert.GateLruIdeal.nD) → Buf (Elt Ideal) ((c.tc : Thread Cert.GateLruIdeal.nD Cert.GateLruIdeal.τ).loc Cert.GateLruIdeal.main_v0_1)) (v2 : (c : Dev Cert.GateLruIdeal.nD) → Buf (Elt Ideal) ((c.tc : Thread Cert.GateLruIdeal.nD Cert.GateLruIdeal.τ).loc Cert.GateLruIdeal.main_v0_2)),
      θ_run (Cert.GateLruIdeal.defs (F := Ideal)) (onTc (τ := Cert.GateLruIdeal.τ) (Cert.GateLruIdeal.main (F := Ideal))) ⟨m, fun _ => 0, g⟩ (fun r => ∀ c : Dev Cert.GateLruIdeal.nD,
          r.2.mem ((c.tc : Thread Cert.GateLruIdeal.nD Cert.GateLruIdeal.τ).loc Cert.GateLruIdeal.main_v0_0) = v0 c
          ∧ r.2.mem ((c.tc : Thread Cert.GateLruIdeal.nD Cert.GateLruIdeal.τ).loc Cert.GateLruIdeal.main_v0_1) = v1 c
          ∧ r.2.mem ((c.tc : Thread Cert.GateLruIdeal.nD Cert.GateLruIdeal.τ).loc Cert.GateLruIdeal.main_v0_2) = v2 c
          ∧ r.2.mem ((c.tc : Thread Cert.GateLruIdeal.nD Cert.GateLruIdeal.τ).loc Cert.GateLruIdeal.main_arg0) = m ((c.tc : Thread Cert.GateLruIdeal.nD Cert.GateLruIdeal.τ).loc Cert.GateLruIdeal.main_arg0)
          ∧ r.2.mem ((c.tc : Thread Cert.GateLruIdeal.nD Cert.GateLruIdeal.τ).loc Cert.GateLruIdeal.main_arg1) = m ((c.tc : Thread Cert.GateLruIdeal.nD Cert.GateLruIdeal.τ).loc Cert.GateLruIdeal.main_arg1)
          ∧ r.2.mem ((c.tc : Thread Cert.GateLruIdeal.nD Cert.GateLruIdeal.τ).loc Cert.GateLruIdeal.main_arg2) = m ((c.tc : Thread Cert.GateLruIdeal.nD Cert.GateLruIdeal.τ).loc Cert.GateLruIdeal.main_arg2)
          ∧ r.2.mem ((c.tc : Thread Cert.GateLruIdeal.nD Cert.GateLruIdeal.τ).loc Cert.GateLruIdeal.main_arg3) = m ((c.tc : Thread Cert.GateLruIdeal.nD Cert.GateLruIdeal.τ).loc Cert.GateLruIdeal.main_arg3)
          ∧ r.2.mem ((c.tc : Thread Cert.GateLruIdeal.nD Cert.GateLruIdeal.τ).loc Cert.GateLruIdeal.main_arg4) = m ((c.tc : Thread Cert.GateLruIdeal.nD Cert.GateLruIdeal.τ).loc Cert.GateLruIdeal.main_arg4))
      ∧ θ_run (Cert.GateLruReferenceIdeal.defs (F := Ideal)) (onTc (τ := Cert.GateLruReferenceIdeal.τ) (Cert.GateLruReferenceIdeal.main (F := Ideal))) ⟨m', fun _ => 0, g'⟩ (fun r => ∀ c : Dev Cert.GateLruReferenceIdeal.nD,
          r.2.mem ((c.tc : Thread Cert.GateLruReferenceIdeal.nD Cert.GateLruReferenceIdeal.τ).loc Cert.GateLruReferenceIdeal.main_v23) = v0 c
          ∧ r.2.mem ((c.tc : Thread Cert.GateLruReferenceIdeal.nD Cert.GateLruReferenceIdeal.τ).loc Cert.GateLruReferenceIdeal.main_v24) = v1 c
          ∧ r.2.mem ((c.tc : Thread Cert.GateLruReferenceIdeal.nD Cert.GateLruReferenceIdeal.τ).loc Cert.GateLruReferenceIdeal.main_v19) = v2 c
          ∧ r.2.mem ((c.tc : Thread Cert.GateLruReferenceIdeal.nD Cert.GateLruReferenceIdeal.τ).loc Cert.GateLruReferenceIdeal.main_arg0) = m' ((c.tc : Thread Cert.GateLruReferenceIdeal.nD Cert.GateLruReferenceIdeal.τ).loc Cert.GateLruReferenceIdeal.main_arg0)
          ∧ r.2.mem ((c.tc : Thread Cert.GateLruReferenceIdeal.nD Cert.GateLruReferenceIdeal.τ).loc Cert.GateLruReferenceIdeal.main_arg1) = m' ((c.tc : Thread Cert.GateLruReferenceIdeal.nD Cert.GateLruReferenceIdeal.τ).loc Cert.GateLruReferenceIdeal.main_arg1)
          ∧ r.2.mem ((c.tc : Thread Cert.GateLruReferenceIdeal.nD Cert.GateLruReferenceIdeal.τ).loc Cert.GateLruReferenceIdeal.main_arg2) = m' ((c.tc : Thread Cert.GateLruReferenceIdeal.nD Cert.GateLruReferenceIdeal.τ).loc Cert.GateLruReferenceIdeal.main_arg2)
          ∧ r.2.mem ((c.tc : Thread Cert.GateLruReferenceIdeal.nD Cert.GateLruReferenceIdeal.τ).loc Cert.GateLruReferenceIdeal.main_arg3) = m' ((c.tc : Thread Cert.GateLruReferenceIdeal.nD Cert.GateLruReferenceIdeal.τ).loc Cert.GateLruReferenceIdeal.main_arg3)
          ∧ r.2.mem ((c.tc : Thread Cert.GateLruReferenceIdeal.nD Cert.GateLruReferenceIdeal.τ).loc Cert.GateLruReferenceIdeal.main_arg4) = m' ((c.tc : Thread Cert.GateLruReferenceIdeal.nD Cert.GateLruReferenceIdeal.τ).loc Cert.GateLruReferenceIdeal.main_arg4))

def preserves_GateMla_GateMlaIdeal : Prop :=
  True

def algebraic_GateMlaIdeal_GateMlaReferenceIdeal [hGateMlaIdeal : Cert.GateMlaIdeal.Facts] [hGateMlaReferenceIdeal : Cert.GateMlaReferenceIdeal.Facts] : Prop :=
  ∀ (m : (ℓ : Loc Cert.GateMlaIdeal.nD Cert.GateMlaIdeal.τ Cert.GateMlaIdeal.sig) → Buf (Elt Ideal) ℓ) (g : Dev Cert.GateMlaIdeal.nD → PrngReg)
    (m' : (ℓ : Loc Cert.GateMlaReferenceIdeal.nD Cert.GateMlaReferenceIdeal.τ Cert.GateMlaReferenceIdeal.sig) → Buf (Elt Ideal) ℓ) (g' : Dev Cert.GateMlaReferenceIdeal.nD → PrngReg), Pre_GateMlaIdeal m →
    (∀ c : Dev Cert.GateMlaIdeal.nD,
      m' ((c.tc : Thread Cert.GateMlaReferenceIdeal.nD Cert.GateMlaReferenceIdeal.τ).loc Cert.GateMlaReferenceIdeal.main_arg0) = m ((c.tc : Thread Cert.GateMlaIdeal.nD Cert.GateMlaIdeal.τ).loc Cert.GateMlaIdeal.main_arg0)
      ∧ m' ((c.tc : Thread Cert.GateMlaReferenceIdeal.nD Cert.GateMlaReferenceIdeal.τ).loc Cert.GateMlaReferenceIdeal.main_arg1) = m ((c.tc : Thread Cert.GateMlaIdeal.nD Cert.GateMlaIdeal.τ).loc Cert.GateMlaIdeal.main_arg1)
      ∧ m' ((c.tc : Thread Cert.GateMlaReferenceIdeal.nD Cert.GateMlaReferenceIdeal.τ).loc Cert.GateMlaReferenceIdeal.main_arg2) = m ((c.tc : Thread Cert.GateMlaIdeal.nD Cert.GateMlaIdeal.τ).loc Cert.GateMlaIdeal.main_arg2)
      ∧ m' ((c.tc : Thread Cert.GateMlaReferenceIdeal.nD Cert.GateMlaReferenceIdeal.τ).loc Cert.GateMlaReferenceIdeal.main_arg3) = m ((c.tc : Thread Cert.GateMlaIdeal.nD Cert.GateMlaIdeal.τ).loc Cert.GateMlaIdeal.main_arg3)
      ∧ m' ((c.tc : Thread Cert.GateMlaReferenceIdeal.nD Cert.GateMlaReferenceIdeal.τ).loc Cert.GateMlaReferenceIdeal.main_arg4) = m ((c.tc : Thread Cert.GateMlaIdeal.nD Cert.GateMlaIdeal.τ).loc Cert.GateMlaIdeal.main_arg4)) →
    ∃ (v0 : (c : Dev Cert.GateMlaIdeal.nD) → Buf (Elt Ideal) ((c.tc : Thread Cert.GateMlaIdeal.nD Cert.GateMlaIdeal.τ).loc Cert.GateMlaIdeal.main_v0_0)) (v1 : (c : Dev Cert.GateMlaIdeal.nD) → Buf (Elt Ideal) ((c.tc : Thread Cert.GateMlaIdeal.nD Cert.GateMlaIdeal.τ).loc Cert.GateMlaIdeal.main_v0_1)) (v2 : (c : Dev Cert.GateMlaIdeal.nD) → Buf (Elt Ideal) ((c.tc : Thread Cert.GateMlaIdeal.nD Cert.GateMlaIdeal.τ).loc Cert.GateMlaIdeal.main_v0_2)),
      θ_run (Cert.GateMlaIdeal.defs (F := Ideal)) (onTc (τ := Cert.GateMlaIdeal.τ) (Cert.GateMlaIdeal.main (F := Ideal))) ⟨m, fun _ => 0, g⟩ (fun r => ∀ c : Dev Cert.GateMlaIdeal.nD,
          r.2.mem ((c.tc : Thread Cert.GateMlaIdeal.nD Cert.GateMlaIdeal.τ).loc Cert.GateMlaIdeal.main_v0_0) = v0 c
          ∧ r.2.mem ((c.tc : Thread Cert.GateMlaIdeal.nD Cert.GateMlaIdeal.τ).loc Cert.GateMlaIdeal.main_v0_1) = v1 c
          ∧ r.2.mem ((c.tc : Thread Cert.GateMlaIdeal.nD Cert.GateMlaIdeal.τ).loc Cert.GateMlaIdeal.main_v0_2) = v2 c
          ∧ r.2.mem ((c.tc : Thread Cert.GateMlaIdeal.nD Cert.GateMlaIdeal.τ).loc Cert.GateMlaIdeal.main_arg0) = m ((c.tc : Thread Cert.GateMlaIdeal.nD Cert.GateMlaIdeal.τ).loc Cert.GateMlaIdeal.main_arg0)
          ∧ r.2.mem ((c.tc : Thread Cert.GateMlaIdeal.nD Cert.GateMlaIdeal.τ).loc Cert.GateMlaIdeal.main_arg1) = m ((c.tc : Thread Cert.GateMlaIdeal.nD Cert.GateMlaIdeal.τ).loc Cert.GateMlaIdeal.main_arg1)
          ∧ r.2.mem ((c.tc : Thread Cert.GateMlaIdeal.nD Cert.GateMlaIdeal.τ).loc Cert.GateMlaIdeal.main_arg2) = m ((c.tc : Thread Cert.GateMlaIdeal.nD Cert.GateMlaIdeal.τ).loc Cert.GateMlaIdeal.main_arg2)
          ∧ r.2.mem ((c.tc : Thread Cert.GateMlaIdeal.nD Cert.GateMlaIdeal.τ).loc Cert.GateMlaIdeal.main_arg3) = m ((c.tc : Thread Cert.GateMlaIdeal.nD Cert.GateMlaIdeal.τ).loc Cert.GateMlaIdeal.main_arg3)
          ∧ r.2.mem ((c.tc : Thread Cert.GateMlaIdeal.nD Cert.GateMlaIdeal.τ).loc Cert.GateMlaIdeal.main_arg4) = m ((c.tc : Thread Cert.GateMlaIdeal.nD Cert.GateMlaIdeal.τ).loc Cert.GateMlaIdeal.main_arg4))
      ∧ θ_run (Cert.GateMlaReferenceIdeal.defs (F := Ideal)) (onTc (τ := Cert.GateMlaReferenceIdeal.τ) (Cert.GateMlaReferenceIdeal.main (F := Ideal))) ⟨m', fun _ => 0, g'⟩ (fun r => ∀ c : Dev Cert.GateMlaReferenceIdeal.nD,
          r.2.mem ((c.tc : Thread Cert.GateMlaReferenceIdeal.nD Cert.GateMlaReferenceIdeal.τ).loc Cert.GateMlaReferenceIdeal.main_v23) = v0 c
          ∧ r.2.mem ((c.tc : Thread Cert.GateMlaReferenceIdeal.nD Cert.GateMlaReferenceIdeal.τ).loc Cert.GateMlaReferenceIdeal.main_v24) = v1 c
          ∧ r.2.mem ((c.tc : Thread Cert.GateMlaReferenceIdeal.nD Cert.GateMlaReferenceIdeal.τ).loc Cert.GateMlaReferenceIdeal.main_v19) = v2 c
          ∧ r.2.mem ((c.tc : Thread Cert.GateMlaReferenceIdeal.nD Cert.GateMlaReferenceIdeal.τ).loc Cert.GateMlaReferenceIdeal.main_arg0) = m' ((c.tc : Thread Cert.GateMlaReferenceIdeal.nD Cert.GateMlaReferenceIdeal.τ).loc Cert.GateMlaReferenceIdeal.main_arg0)
          ∧ r.2.mem ((c.tc : Thread Cert.GateMlaReferenceIdeal.nD Cert.GateMlaReferenceIdeal.τ).loc Cert.GateMlaReferenceIdeal.main_arg1) = m' ((c.tc : Thread Cert.GateMlaReferenceIdeal.nD Cert.GateMlaReferenceIdeal.τ).loc Cert.GateMlaReferenceIdeal.main_arg1)
          ∧ r.2.mem ((c.tc : Thread Cert.GateMlaReferenceIdeal.nD Cert.GateMlaReferenceIdeal.τ).loc Cert.GateMlaReferenceIdeal.main_arg2) = m' ((c.tc : Thread Cert.GateMlaReferenceIdeal.nD Cert.GateMlaReferenceIdeal.τ).loc Cert.GateMlaReferenceIdeal.main_arg2)
          ∧ r.2.mem ((c.tc : Thread Cert.GateMlaReferenceIdeal.nD Cert.GateMlaReferenceIdeal.τ).loc Cert.GateMlaReferenceIdeal.main_arg3) = m' ((c.tc : Thread Cert.GateMlaReferenceIdeal.nD Cert.GateMlaReferenceIdeal.τ).loc Cert.GateMlaReferenceIdeal.main_arg3)
          ∧ r.2.mem ((c.tc : Thread Cert.GateMlaReferenceIdeal.nD Cert.GateMlaReferenceIdeal.τ).loc Cert.GateMlaReferenceIdeal.main_arg4) = m' ((c.tc : Thread Cert.GateMlaReferenceIdeal.nD Cert.GateMlaReferenceIdeal.τ).loc Cert.GateMlaReferenceIdeal.main_arg4))

def preserves_GateDil_GateDilIdeal : Prop :=
  True

def algebraic_GateDilIdeal_GateDilReferenceIdeal [hGateDilIdeal : Cert.GateDilIdeal.Facts] [hGateDilReferenceIdeal : Cert.GateDilReferenceIdeal.Facts] : Prop :=
  ∀ (m : (ℓ : Loc Cert.GateDilIdeal.nD Cert.GateDilIdeal.τ Cert.GateDilIdeal.sig) → Buf (Elt Ideal) ℓ) (g : Dev Cert.GateDilIdeal.nD → PrngReg)
    (m' : (ℓ : Loc Cert.GateDilReferenceIdeal.nD Cert.GateDilReferenceIdeal.τ Cert.GateDilReferenceIdeal.sig) → Buf (Elt Ideal) ℓ) (g' : Dev Cert.GateDilReferenceIdeal.nD → PrngReg), Pre_GateDilIdeal m →
    (∀ c : Dev Cert.GateDilIdeal.nD,
      m' ((c.tc : Thread Cert.GateDilReferenceIdeal.nD Cert.GateDilReferenceIdeal.τ).loc Cert.GateDilReferenceIdeal.main_arg0) = m ((c.tc : Thread Cert.GateDilIdeal.nD Cert.GateDilIdeal.τ).loc Cert.GateDilIdeal.main_arg0)
      ∧ m' ((c.tc : Thread Cert.GateDilReferenceIdeal.nD Cert.GateDilReferenceIdeal.τ).loc Cert.GateDilReferenceIdeal.main_arg1) = m ((c.tc : Thread Cert.GateDilIdeal.nD Cert.GateDilIdeal.τ).loc Cert.GateDilIdeal.main_arg1)
      ∧ m' ((c.tc : Thread Cert.GateDilReferenceIdeal.nD Cert.GateDilReferenceIdeal.τ).loc Cert.GateDilReferenceIdeal.main_arg2) = m ((c.tc : Thread Cert.GateDilIdeal.nD Cert.GateDilIdeal.τ).loc Cert.GateDilIdeal.main_arg2)
      ∧ m' ((c.tc : Thread Cert.GateDilReferenceIdeal.nD Cert.GateDilReferenceIdeal.τ).loc Cert.GateDilReferenceIdeal.main_arg3) = m ((c.tc : Thread Cert.GateDilIdeal.nD Cert.GateDilIdeal.τ).loc Cert.GateDilIdeal.main_arg3)
      ∧ m' ((c.tc : Thread Cert.GateDilReferenceIdeal.nD Cert.GateDilReferenceIdeal.τ).loc Cert.GateDilReferenceIdeal.main_arg4) = m ((c.tc : Thread Cert.GateDilIdeal.nD Cert.GateDilIdeal.τ).loc Cert.GateDilIdeal.main_arg4)) →
    ∃ (v0 : (c : Dev Cert.GateDilIdeal.nD) → Buf (Elt Ideal) ((c.tc : Thread Cert.GateDilIdeal.nD Cert.GateDilIdeal.τ).loc Cert.GateDilIdeal.main_v0_0)) (v1 : (c : Dev Cert.GateDilIdeal.nD) → Buf (Elt Ideal) ((c.tc : Thread Cert.GateDilIdeal.nD Cert.GateDilIdeal.τ).loc Cert.GateDilIdeal.main_v0_1)) (v2 : (c : Dev Cert.GateDilIdeal.nD) → Buf (Elt Ideal) ((c.tc : Thread Cert.GateDilIdeal.nD Cert.GateDilIdeal.τ).loc Cert.GateDilIdeal.main_v0_2)),
      θ_run (Cert.GateDilIdeal.defs (F := Ideal)) (onTc (τ := Cert.GateDilIdeal.τ) (Cert.GateDilIdeal.main (F := Ideal))) ⟨m, fun _ => 0, g⟩ (fun r => ∀ c : Dev Cert.GateDilIdeal.nD,
          r.2.mem ((c.tc : Thread Cert.GateDilIdeal.nD Cert.GateDilIdeal.τ).loc Cert.GateDilIdeal.main_v0_0) = v0 c
          ∧ r.2.mem ((c.tc : Thread Cert.GateDilIdeal.nD Cert.GateDilIdeal.τ).loc Cert.GateDilIdeal.main_v0_1) = v1 c
          ∧ r.2.mem ((c.tc : Thread Cert.GateDilIdeal.nD Cert.GateDilIdeal.τ).loc Cert.GateDilIdeal.main_v0_2) = v2 c
          ∧ r.2.mem ((c.tc : Thread Cert.GateDilIdeal.nD Cert.GateDilIdeal.τ).loc Cert.GateDilIdeal.main_arg0) = m ((c.tc : Thread Cert.GateDilIdeal.nD Cert.GateDilIdeal.τ).loc Cert.GateDilIdeal.main_arg0)
          ∧ r.2.mem ((c.tc : Thread Cert.GateDilIdeal.nD Cert.GateDilIdeal.τ).loc Cert.GateDilIdeal.main_arg1) = m ((c.tc : Thread Cert.GateDilIdeal.nD Cert.GateDilIdeal.τ).loc Cert.GateDilIdeal.main_arg1)
          ∧ r.2.mem ((c.tc : Thread Cert.GateDilIdeal.nD Cert.GateDilIdeal.τ).loc Cert.GateDilIdeal.main_arg2) = m ((c.tc : Thread Cert.GateDilIdeal.nD Cert.GateDilIdeal.τ).loc Cert.GateDilIdeal.main_arg2)
          ∧ r.2.mem ((c.tc : Thread Cert.GateDilIdeal.nD Cert.GateDilIdeal.τ).loc Cert.GateDilIdeal.main_arg3) = m ((c.tc : Thread Cert.GateDilIdeal.nD Cert.GateDilIdeal.τ).loc Cert.GateDilIdeal.main_arg3)
          ∧ r.2.mem ((c.tc : Thread Cert.GateDilIdeal.nD Cert.GateDilIdeal.τ).loc Cert.GateDilIdeal.main_arg4) = m ((c.tc : Thread Cert.GateDilIdeal.nD Cert.GateDilIdeal.τ).loc Cert.GateDilIdeal.main_arg4))
      ∧ θ_run (Cert.GateDilReferenceIdeal.defs (F := Ideal)) (onTc (τ := Cert.GateDilReferenceIdeal.τ) (Cert.GateDilReferenceIdeal.main (F := Ideal))) ⟨m', fun _ => 0, g'⟩ (fun r => ∀ c : Dev Cert.GateDilReferenceIdeal.nD,
          r.2.mem ((c.tc : Thread Cert.GateDilReferenceIdeal.nD Cert.GateDilReferenceIdeal.τ).loc Cert.GateDilReferenceIdeal.main_v23) = v0 c
          ∧ r.2.mem ((c.tc : Thread Cert.GateDilReferenceIdeal.nD Cert.GateDilReferenceIdeal.τ).loc Cert.GateDilReferenceIdeal.main_v24) = v1 c
          ∧ r.2.mem ((c.tc : Thread Cert.GateDilReferenceIdeal.nD Cert.GateDilReferenceIdeal.τ).loc Cert.GateDilReferenceIdeal.main_v19) = v2 c
          ∧ r.2.mem ((c.tc : Thread Cert.GateDilReferenceIdeal.nD Cert.GateDilReferenceIdeal.τ).loc Cert.GateDilReferenceIdeal.main_arg0) = m' ((c.tc : Thread Cert.GateDilReferenceIdeal.nD Cert.GateDilReferenceIdeal.τ).loc Cert.GateDilReferenceIdeal.main_arg0)
          ∧ r.2.mem ((c.tc : Thread Cert.GateDilReferenceIdeal.nD Cert.GateDilReferenceIdeal.τ).loc Cert.GateDilReferenceIdeal.main_arg1) = m' ((c.tc : Thread Cert.GateDilReferenceIdeal.nD Cert.GateDilReferenceIdeal.τ).loc Cert.GateDilReferenceIdeal.main_arg1)
          ∧ r.2.mem ((c.tc : Thread Cert.GateDilReferenceIdeal.nD Cert.GateDilReferenceIdeal.τ).loc Cert.GateDilReferenceIdeal.main_arg2) = m' ((c.tc : Thread Cert.GateDilReferenceIdeal.nD Cert.GateDilReferenceIdeal.τ).loc Cert.GateDilReferenceIdeal.main_arg2)
          ∧ r.2.mem ((c.tc : Thread Cert.GateDilReferenceIdeal.nD Cert.GateDilReferenceIdeal.τ).loc Cert.GateDilReferenceIdeal.main_arg3) = m' ((c.tc : Thread Cert.GateDilReferenceIdeal.nD Cert.GateDilReferenceIdeal.τ).loc Cert.GateDilReferenceIdeal.main_arg3)
          ∧ r.2.mem ((c.tc : Thread Cert.GateDilReferenceIdeal.nD Cert.GateDilReferenceIdeal.τ).loc Cert.GateDilReferenceIdeal.main_arg4) = m' ((c.tc : Thread Cert.GateDilReferenceIdeal.nD Cert.GateDilReferenceIdeal.τ).loc Cert.GateDilReferenceIdeal.main_arg4))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hProjW : Cert.ProjW.Facts) (hProjWIdeal : Cert.ProjWIdeal.Facts) (hProjWReferenceIdeal : Cert.ProjWReferenceIdeal.Facts) (hProjH : Cert.ProjH.Facts) (hProjHIdeal : Cert.ProjHIdeal.Facts) (hProjHReferenceIdeal : Cert.ProjHReferenceIdeal.Facts) (hLruOut : Cert.LruOut.Facts) (hLruOutIdeal : Cert.LruOutIdeal.Facts) (hLruOutReferenceIdeal : Cert.LruOutReferenceIdeal.Facts) (hMlaOut : Cert.MlaOut.Facts) (hMlaOutIdeal : Cert.MlaOutIdeal.Facts) (hMlaOutReferenceIdeal : Cert.MlaOutReferenceIdeal.Facts) (hDilOut : Cert.DilOut.Facts) (hDilOutIdeal : Cert.DilOutIdeal.Facts) (hDilOutReferenceIdeal : Cert.DilOutReferenceIdeal.Facts) (hOutProj : Cert.OutProj.Facts) (hOutProjIdeal : Cert.OutProjIdeal.Facts) (hOutProjReferenceIdeal : Cert.OutProjReferenceIdeal.Facts) (hMergedGrad : Cert.MergedGrad.Facts) (hMergedGradIdeal : Cert.MergedGradIdeal.Facts) (hMergedGradReferenceIdeal : Cert.MergedGradReferenceIdeal.Facts) (hOutWeightGrad : Cert.OutWeightGrad.Facts) (hOutWeightGradIdeal : Cert.OutWeightGradIdeal.Facts) (hOutWeightGradReferenceIdeal : Cert.OutWeightGradReferenceIdeal.Facts) (hLruGrad : Cert.LruGrad.Facts) (hLruGradIdeal : Cert.LruGradIdeal.Facts) (hLruGradReferenceIdeal : Cert.LruGradReferenceIdeal.Facts) (hMlaGrad : Cert.MlaGrad.Facts) (hMlaGradIdeal : Cert.MlaGradIdeal.Facts) (hMlaGradReferenceIdeal : Cert.MlaGradReferenceIdeal.Facts) (hDilGrad : Cert.DilGrad.Facts) (hDilGradIdeal : Cert.DilGradIdeal.Facts) (hDilGradReferenceIdeal : Cert.DilGradReferenceIdeal.Facts) (hLruWeightGrad : Cert.LruWeightGrad.Facts) (hLruWeightGradIdeal : Cert.LruWeightGradIdeal.Facts) (hLruWeightGradReferenceIdeal : Cert.LruWeightGradReferenceIdeal.Facts) (hMlaWeightGrad : Cert.MlaWeightGrad.Facts) (hMlaWeightGradIdeal : Cert.MlaWeightGradIdeal.Facts) (hMlaWeightGradReferenceIdeal : Cert.MlaWeightGradReferenceIdeal.Facts) (hDilWeightGrad : Cert.DilWeightGrad.Facts) (hDilWeightGradIdeal : Cert.DilWeightGradIdeal.Facts) (hDilWeightGradReferenceIdeal : Cert.DilWeightGradReferenceIdeal.Facts) (hAttention : Cert.Attention.Facts) (hAttentionIdeal : Cert.AttentionIdeal.Facts) (hAttentionReferenceIdeal : Cert.AttentionReferenceIdeal.Facts) (hNorm : Cert.Norm.Facts) (hNormIdeal : Cert.NormIdeal.Facts) (hNormReferenceIdeal : Cert.NormReferenceIdeal.Facts) (hMerge : Cert.Merge.Facts) (hMergeIdeal : Cert.MergeIdeal.Facts) (hMergeReferenceIdeal : Cert.MergeReferenceIdeal.Facts) (hLoss : Cert.Loss.Facts) (hLossIdeal : Cert.LossIdeal.Facts) (hLossReferenceIdeal : Cert.LossReferenceIdeal.Facts) (hAdamW : Cert.AdamW.Facts) (hAdamWIdeal : Cert.AdamWIdeal.Facts) (hAdamWReferenceIdeal : Cert.AdamWReferenceIdeal.Facts) (hGateLru : Cert.GateLru.Facts) (hGateLruIdeal : Cert.GateLruIdeal.Facts) (hGateLruReferenceIdeal : Cert.GateLruReferenceIdeal.Facts) (hGateMla : Cert.GateMla.Facts) (hGateMlaIdeal : Cert.GateMlaIdeal.Facts) (hGateMlaReferenceIdeal : Cert.GateMlaReferenceIdeal.Facts) (hGateDil : Cert.GateDil.Facts) (hGateDilIdeal : Cert.GateDilIdeal.Facts) (hGateDilReferenceIdeal : Cert.GateDilReferenceIdeal.Facts) (hPre_finite : Cert.Pre_finite.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Proj (hProj := hProj)
    ∧ quiescent_ProjIdeal (hProjIdeal := hProjIdeal)
    ∧ quiescent_ProjReferenceIdeal (hProjReferenceIdeal := hProjReferenceIdeal)
    ∧ quiescent_ProjW (hProjW := hProjW)
    ∧ quiescent_ProjWIdeal (hProjWIdeal := hProjWIdeal)
    ∧ quiescent_ProjWReferenceIdeal (hProjWReferenceIdeal := hProjWReferenceIdeal)
    ∧ quiescent_ProjH (hProjH := hProjH)
    ∧ quiescent_ProjHIdeal (hProjHIdeal := hProjHIdeal)
    ∧ quiescent_ProjHReferenceIdeal (hProjHReferenceIdeal := hProjHReferenceIdeal)
    ∧ quiescent_LruOut (hLruOut := hLruOut)
    ∧ quiescent_LruOutIdeal (hLruOutIdeal := hLruOutIdeal)
    ∧ quiescent_LruOutReferenceIdeal (hLruOutReferenceIdeal := hLruOutReferenceIdeal)
    ∧ quiescent_MlaOut (hMlaOut := hMlaOut)
    ∧ quiescent_MlaOutIdeal (hMlaOutIdeal := hMlaOutIdeal)
    ∧ quiescent_MlaOutReferenceIdeal (hMlaOutReferenceIdeal := hMlaOutReferenceIdeal)
    ∧ quiescent_DilOut (hDilOut := hDilOut)
    ∧ quiescent_DilOutIdeal (hDilOutIdeal := hDilOutIdeal)
    ∧ quiescent_DilOutReferenceIdeal (hDilOutReferenceIdeal := hDilOutReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_MergedGrad (hMergedGrad := hMergedGrad)
    ∧ quiescent_MergedGradIdeal (hMergedGradIdeal := hMergedGradIdeal)
    ∧ quiescent_MergedGradReferenceIdeal (hMergedGradReferenceIdeal := hMergedGradReferenceIdeal)
    ∧ quiescent_OutWeightGrad (hOutWeightGrad := hOutWeightGrad)
    ∧ quiescent_OutWeightGradIdeal (hOutWeightGradIdeal := hOutWeightGradIdeal)
    ∧ quiescent_OutWeightGradReferenceIdeal (hOutWeightGradReferenceIdeal := hOutWeightGradReferenceIdeal)
    ∧ quiescent_LruGrad (hLruGrad := hLruGrad)
    ∧ quiescent_LruGradIdeal (hLruGradIdeal := hLruGradIdeal)
    ∧ quiescent_LruGradReferenceIdeal (hLruGradReferenceIdeal := hLruGradReferenceIdeal)
    ∧ quiescent_MlaGrad (hMlaGrad := hMlaGrad)
    ∧ quiescent_MlaGradIdeal (hMlaGradIdeal := hMlaGradIdeal)
    ∧ quiescent_MlaGradReferenceIdeal (hMlaGradReferenceIdeal := hMlaGradReferenceIdeal)
    ∧ quiescent_DilGrad (hDilGrad := hDilGrad)
    ∧ quiescent_DilGradIdeal (hDilGradIdeal := hDilGradIdeal)
    ∧ quiescent_DilGradReferenceIdeal (hDilGradReferenceIdeal := hDilGradReferenceIdeal)
    ∧ quiescent_LruWeightGrad (hLruWeightGrad := hLruWeightGrad)
    ∧ quiescent_LruWeightGradIdeal (hLruWeightGradIdeal := hLruWeightGradIdeal)
    ∧ quiescent_LruWeightGradReferenceIdeal (hLruWeightGradReferenceIdeal := hLruWeightGradReferenceIdeal)
    ∧ quiescent_MlaWeightGrad (hMlaWeightGrad := hMlaWeightGrad)
    ∧ quiescent_MlaWeightGradIdeal (hMlaWeightGradIdeal := hMlaWeightGradIdeal)
    ∧ quiescent_MlaWeightGradReferenceIdeal (hMlaWeightGradReferenceIdeal := hMlaWeightGradReferenceIdeal)
    ∧ quiescent_DilWeightGrad (hDilWeightGrad := hDilWeightGrad)
    ∧ quiescent_DilWeightGradIdeal (hDilWeightGradIdeal := hDilWeightGradIdeal)
    ∧ quiescent_DilWeightGradReferenceIdeal (hDilWeightGradReferenceIdeal := hDilWeightGradReferenceIdeal)
    ∧ quiescent_Attention (hAttention := hAttention)
    ∧ quiescent_AttentionIdeal (hAttentionIdeal := hAttentionIdeal)
    ∧ quiescent_AttentionIdeal_pre_finite_qk (hAttentionIdeal := hAttentionIdeal) (hPre_finite_qk := hPre_finite_qk)
    ∧ quiescent_AttentionReferenceIdeal (hAttentionReferenceIdeal := hAttentionReferenceIdeal)
    ∧ quiescent_AttentionReferenceIdeal_pre_finite_qk (hAttentionReferenceIdeal := hAttentionReferenceIdeal) (hPre_finite_qk := hPre_finite_qk)
    ∧ quiescent_Norm (hNorm := hNorm)
    ∧ quiescent_NormIdeal (hNormIdeal := hNormIdeal)
    ∧ quiescent_NormReferenceIdeal (hNormReferenceIdeal := hNormReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_AdamW (hAdamW := hAdamW)
    ∧ quiescent_AdamWIdeal (hAdamWIdeal := hAdamWIdeal)
    ∧ quiescent_AdamWReferenceIdeal (hAdamWReferenceIdeal := hAdamWReferenceIdeal)
    ∧ quiescent_GateLru (hGateLru := hGateLru)
    ∧ quiescent_GateLruIdeal (hGateLruIdeal := hGateLruIdeal)
    ∧ quiescent_GateLruReferenceIdeal (hGateLruReferenceIdeal := hGateLruReferenceIdeal)
    ∧ quiescent_GateMla (hGateMla := hGateMla)
    ∧ quiescent_GateMlaIdeal (hGateMlaIdeal := hGateMlaIdeal)
    ∧ quiescent_GateMlaReferenceIdeal (hGateMlaReferenceIdeal := hGateMlaReferenceIdeal)
    ∧ quiescent_GateDil (hGateDil := hGateDil)
    ∧ quiescent_GateDilIdeal (hGateDilIdeal := hGateDilIdeal)
    ∧ quiescent_GateDilReferenceIdeal (hGateDilReferenceIdeal := hGateDilReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Proj_ProjIdeal
    ∧ algebraic_ProjIdeal_ProjReferenceIdeal (hProjIdeal := hProjIdeal) (hProjReferenceIdeal := hProjReferenceIdeal)
    ∧ preserves_ProjW_ProjWIdeal
    ∧ algebraic_ProjWIdeal_ProjWReferenceIdeal (hProjWIdeal := hProjWIdeal) (hProjWReferenceIdeal := hProjWReferenceIdeal)
    ∧ preserves_ProjH_ProjHIdeal
    ∧ algebraic_ProjHIdeal_ProjHReferenceIdeal (hProjHIdeal := hProjHIdeal) (hProjHReferenceIdeal := hProjHReferenceIdeal)
    ∧ preserves_LruOut_LruOutIdeal
    ∧ algebraic_LruOutIdeal_LruOutReferenceIdeal (hLruOutIdeal := hLruOutIdeal) (hLruOutReferenceIdeal := hLruOutReferenceIdeal)
    ∧ preserves_MlaOut_MlaOutIdeal
    ∧ algebraic_MlaOutIdeal_MlaOutReferenceIdeal (hMlaOutIdeal := hMlaOutIdeal) (hMlaOutReferenceIdeal := hMlaOutReferenceIdeal)
    ∧ preserves_DilOut_DilOutIdeal
    ∧ algebraic_DilOutIdeal_DilOutReferenceIdeal (hDilOutIdeal := hDilOutIdeal) (hDilOutReferenceIdeal := hDilOutReferenceIdeal)
    ∧ preserves_OutProj_OutProjIdeal
    ∧ algebraic_OutProjIdeal_OutProjReferenceIdeal (hOutProjIdeal := hOutProjIdeal) (hOutProjReferenceIdeal := hOutProjReferenceIdeal)
    ∧ preserves_MergedGrad_MergedGradIdeal
    ∧ algebraic_MergedGradIdeal_MergedGradReferenceIdeal (hMergedGradIdeal := hMergedGradIdeal) (hMergedGradReferenceIdeal := hMergedGradReferenceIdeal)
    ∧ preserves_OutWeightGrad_OutWeightGradIdeal
    ∧ algebraic_OutWeightGradIdeal_OutWeightGradReferenceIdeal (hOutWeightGradIdeal := hOutWeightGradIdeal) (hOutWeightGradReferenceIdeal := hOutWeightGradReferenceIdeal)
    ∧ preserves_LruGrad_LruGradIdeal
    ∧ algebraic_LruGradIdeal_LruGradReferenceIdeal (hLruGradIdeal := hLruGradIdeal) (hLruGradReferenceIdeal := hLruGradReferenceIdeal)
    ∧ preserves_MlaGrad_MlaGradIdeal
    ∧ algebraic_MlaGradIdeal_MlaGradReferenceIdeal (hMlaGradIdeal := hMlaGradIdeal) (hMlaGradReferenceIdeal := hMlaGradReferenceIdeal)
    ∧ preserves_DilGrad_DilGradIdeal
    ∧ algebraic_DilGradIdeal_DilGradReferenceIdeal (hDilGradIdeal := hDilGradIdeal) (hDilGradReferenceIdeal := hDilGradReferenceIdeal)
    ∧ preserves_LruWeightGrad_LruWeightGradIdeal
    ∧ algebraic_LruWeightGradIdeal_LruWeightGradReferenceIdeal (hLruWeightGradIdeal := hLruWeightGradIdeal) (hLruWeightGradReferenceIdeal := hLruWeightGradReferenceIdeal)
    ∧ preserves_MlaWeightGrad_MlaWeightGradIdeal
    ∧ algebraic_MlaWeightGradIdeal_MlaWeightGradReferenceIdeal (hMlaWeightGradIdeal := hMlaWeightGradIdeal) (hMlaWeightGradReferenceIdeal := hMlaWeightGradReferenceIdeal)
    ∧ preserves_DilWeightGrad_DilWeightGradIdeal
    ∧ algebraic_DilWeightGradIdeal_DilWeightGradReferenceIdeal (hDilWeightGradIdeal := hDilWeightGradIdeal) (hDilWeightGradReferenceIdeal := hDilWeightGradReferenceIdeal)
    ∧ preserves_Attention_AttentionIdeal
    ∧ algebraic_AttentionIdeal_AttentionReferenceIdeal_pre_finite_qk (hAttentionIdeal := hAttentionIdeal) (hAttentionReferenceIdeal := hAttentionReferenceIdeal) (hPre_finite_qk := hPre_finite_qk)
    ∧ preserves_Norm_NormIdeal
    ∧ algebraic_NormIdeal_NormReferenceIdeal (hNormIdeal := hNormIdeal) (hNormReferenceIdeal := hNormReferenceIdeal)
    ∧ preserves_Merge_MergeIdeal
    ∧ algebraic_MergeIdeal_MergeReferenceIdeal (hMergeIdeal := hMergeIdeal) (hMergeReferenceIdeal := hMergeReferenceIdeal)
    ∧ preserves_Loss_LossIdeal
    ∧ algebraic_LossIdeal_LossReferenceIdeal (hLossIdeal := hLossIdeal) (hLossReferenceIdeal := hLossReferenceIdeal)
    ∧ preserves_AdamW_AdamWIdeal
    ∧ algebraic_AdamWIdeal_AdamWReferenceIdeal (hAdamWIdeal := hAdamWIdeal) (hAdamWReferenceIdeal := hAdamWReferenceIdeal)
    ∧ preserves_GateLru_GateLruIdeal
    ∧ algebraic_GateLruIdeal_GateLruReferenceIdeal (hGateLruIdeal := hGateLruIdeal) (hGateLruReferenceIdeal := hGateLruReferenceIdeal)
    ∧ preserves_GateMla_GateMlaIdeal
    ∧ algebraic_GateMlaIdeal_GateMlaReferenceIdeal (hGateMlaIdeal := hGateMlaIdeal) (hGateMlaReferenceIdeal := hGateMlaReferenceIdeal)
    ∧ preserves_GateDil_GateDilIdeal
    ∧ algebraic_GateDilIdeal_GateDilReferenceIdeal (hGateDilIdeal := hGateDilIdeal) (hGateDilReferenceIdeal := hGateDilReferenceIdeal)
-- ==== Pre_finite.lean ====
abbrev S4096x1024 : Shape := ⟨2, ![4096, 1024]⟩
abbrev S4096x512 : Shape := ⟨2, ![4096, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x1024 .bf16) (main_arg1 : FVec F S4096x1024 .bf16) (main_arg2 : FVec F S4096x512 .bf16) (main_arg3 : FVec F S4096x512 .bf16) : IVec S_ 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .bf16 := Host.absf main_arg1
  let main_cst_0 : FVec F S_ .bf16 := constant S_ .bf16 0x7F80#16
  let main_v5 : FVec F S4096x1024 .bf16 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x512 .bf16 := Host.absf main_arg2
  let main_cst_2 : FVec F S_ .bf16 := constant S_ .bf16 0x7F80#16
  let main_v10 : FVec F S4096x512 .bf16 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .bf16 := Host.absf main_arg3
  let main_cst_4 : FVec F S_ .bf16 := constant S_ .bf16 0x7F80#16
  let main_v15 : FVec F S4096x512 .bf16 := broadcastInDim S4096x512 ![] bcast_S_S4096x512 main_cst_4
  let main_v16 : IVec S4096x512 1 := cmpf .olt main_v14 main_v15
  fn_part1 (F := F) main_v13 main_v16
-- ==== Pre_finite_qk.lean ====
abbrev S4096x1024 : Shape := ⟨2, ![4096, 1024]⟩
abbrev S4096x512 : Shape := ⟨2, ![4096, 512]⟩
abbrev S4096x11264 : Shape := ⟨2, ![4096, 11264]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .bf16) (main_arg1 : FVec F S4096x1024 .bf16) (main_arg2 : FVec F S4096x512 .bf16) (main_arg3 : FVec F S4096x11264 .f32) : IVec S_ 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .bf16 := Host.absf main_arg1
  let main_cst_0 : FVec F S_ .bf16 := constant S_ .bf16 0x7F80#16
  let main_v5 : FVec F S4096x1024 .bf16 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S4096x512 : Shape := ⟨2, ![4096, 512]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S4096x8x64 : Shape := ⟨3, ![4096, 8, 64]⟩
abbrev S8x4096x64 : Shape := ⟨3, ![8, 4096, 64]⟩
abbrev S4096x8x1 : Shape := ⟨3, ![4096, 8, 1]⟩
abbrev S4096x256 : Shape := ⟨2, ![4096, 256]⟩
abbrev S4096x128 : Shape := ⟨2, ![4096, 128]⟩
abbrev S512x256 : Shape := ⟨2, ![512, 256]⟩
abbrev S512x128 : Shape := ⟨2, ![512, 128]⟩
abbrev S512x512 : Shape := ⟨2, ![512, 512]⟩

abbrev nBuf : Space → Nat
  | .hbm => 59
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x1024, .f32⟩
  | .hbm, ⟨5, _⟩ => ⟨S4096x8x128, .f32⟩
  | .hbm, ⟨6, _⟩ => ⟨S8x4096x128, .f32⟩
  | .hbm, ⟨7, _⟩ => ⟨S4096x1024, .f32⟩
  | .hbm, ⟨8, _⟩ => ⟨S4096x8x128, .f32⟩
  | .hbm, ⟨9, _⟩ => ⟨S8x4096x128, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S8x4096x4096, .i1⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x4096, .f32⟩
  | .hbm, ⟨36, _⟩ => ⟨S8x4096x4096, .f32⟩
  | .hbm, ⟨37, _⟩ => ⟨S4096x512, .f32⟩
  | .hbm, ⟨38, _⟩ => ⟨S4096x8x64, .f32⟩
  | .hbm, ⟨39, _⟩ => ⟨S8x4096x64, .f32⟩
  | .hbm, ⟨40, _⟩ => ⟨S8x4096x64, .f32⟩
  | .hbm, ⟨41, _⟩ => ⟨S8x4096x1, .f32⟩
  | .hbm, ⟨42, _⟩ => ⟨S8x4096x1, .f32⟩
  | .hbm, ⟨43, _⟩ => ⟨S4096x512, .f32⟩
  | .hbm, ⟨44, _⟩ => ⟨S4096x8x64, .f32⟩
  | .hbm, ⟨45, _⟩ => ⟨S8x4096x64, .f32⟩
  | .hbm, ⟨46, _⟩ => ⟨S8x4096x64, .f32⟩
  | .hbm, ⟨47, _⟩ => ⟨S_, .f32⟩
  | .hbm, ⟨48, _⟩ => ⟨S8x4096, .f32⟩
  | .hbm, ⟨49, _⟩ => ⟨S8x4096x1, .f32⟩
  | .hbm, ⟨50, _⟩ => ⟨S4096x8x1, .f32⟩
  | .hbm, ⟨51, _⟩ => ⟨S4096x8x128, .f32⟩
  | .hbm, ⟨52, _⟩ => ⟨S4096x1024, .f32⟩
  | .hbm, ⟨53, _⟩ => ⟨S4096x8x1, .f32⟩
  | .hbm, ⟨54, _⟩ => ⟨S4096x8x128, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x512, .f32⟩
  | .local _ .vmem, ⟨0, _⟩ => ⟨S4096x256, .bf16⟩
  | .local _ .vmem, ⟨1, _⟩ => ⟨S4096x256, .bf16⟩
  | .local _ .vmem, ⟨2, _⟩ => ⟨S4096x128, .bf16⟩
  | .local _ .vmem, ⟨3, _⟩ => ⟨S4096x128, .bf16⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S512x256, .bf16⟩
  | .local _ .vmem, ⟨9, _⟩ => ⟨S512x256, .bf16⟩
  | .local _ .vmem, ⟨10, _⟩ => ⟨S512x128, .bf16⟩
  | .local _ .vmem, ⟨11, _⟩ => ⟨S512x128, .bf16⟩
  | .local _ .vmem, ⟨12, _⟩ => ⟨S4096x256, .f32⟩
  | .local _ .vmem, ⟨13, _⟩ => ⟨S4096x256, .f32⟩
  | .local _ .vmem, ⟨14, _⟩ => ⟨S512x256, .f32⟩
  | .local _ .vmem, ⟨15, _⟩ => ⟨S512x256, .f32⟩
  | .local _ .vmem, ⟨16, _⟩ => ⟨S512x128, .f32⟩
  | .local _ .vmem, ⟨17, _⟩ => ⟨S512x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44_0 : Ref sig .tc := ⟨.hbm, 56, rfl⟩
abbrev main_v44_1 : Ref sig .tc := ⟨.hbm, 57, rfl⟩
abbrev main_v44_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v14 : BitVec 32 := Scalar.muli arg1 c512_i32
  v14
def k0_off1 (i : grid0.Coords) : Fin 2 → Nat :=
  let arg1 : BitVec 32 := BitVec.ofNat 32 (i 1).val
  let c512_i32 : BitVec 32 := 512#32
  let v14 : BitVec 32 := Scalar.muli arg1 c512_i32
  let v15 : BitVec 32 := v14
  let v16 : Index := Scalar.indexCast v15
  let c0_6 : Index := 0#32
  ![v16.toNat, 0]
def k0_off2 (i : grid0.Coords) : Fin 2 → Nat :=
  let arg1 : BitVec 32 := BitVec.ofNat 32 (i 1).val
  let c512_i32 : BitVec 32 := 512#32
  let v14 : BitVec 32 := Scalar.muli arg1 c512_i32
  let v15 : BitVec 32 := v14
  let v18 : Index := Scalar.indexCast v15
  let c0_7 : Index := 0#32
  ![v18.toNat, 0]
@[reducible] def k0_t1_loop (i : grid0.Coords) : Scf.Loop 32 :=
  let arg1 : BitVec 32 := BitVec.ofNat 32 (i 1).val
  let c1_i32 : BitVec 32 := 1#32
  let v54 : BitVec 32 := Scalar.addi arg1 c1_i32
  let c8_i32 : BitVec 32 := 8#32
  let v55 : BitVec 32 := Scalar.subi c8_i32 v54
  let c1_i32_20 : BitVec 32 := 1#32
  let v57 : BitVec 32 := Scalar.divsi v55 c1_i32_20
  let v58 : BitVec 32 := Scalar.muli v57 c1_i32_20
  let v59 : BitVec 32 := Scalar.addi v54 v58
  let c1_i32_21 : BitVec 32 := 1#32
  ⟨v54, v59, c1_i32_21⟩
def k0_mult2 (i : grid0.Coords) (k0_t1 : Fin (k0_t1_loop i).trips) : BitVec 32 :=
  let arg1 : BitVec 32 := BitVec.ofNat 32 (i 1).val
  let c1_i32 : BitVec 32 := 1#32
  let v54 : BitVec 32 := Scalar.addi arg1 c1_i32
  let c1_i32_21 : BitVec 32 := 1#32
  let arg11 : BitVec 32 := Scf.iv v54 c1_i32_21 k0_t1
  let c512_i32_57 : BitVec 32 := 512#32
  let v126 : BitVec 32 := Scalar.muli arg11 c512_i32_57
  v126
def k0_off3 (i : grid0.Coords) (k0_t1 : Fin (k0_t1_loop i).trips) : Fin 2 → Nat :=
  let arg1 : BitVec 32 := BitVec.ofNat 32 (i 1).val
  let c1_i32 : BitVec 32 := 1#32
  let v54 : BitVec 32 := Scalar.addi arg1 c1_i32
  let c1_i32_21 : BitVec 32 := 1#32
  let arg11 : BitVec 32 := Scf.iv v54 c1_i32_21 k0_t1
  let c512_i32_57 : BitVec 32 := 512#32
  let v126 : BitVec 32 := Scalar.muli arg11 c512_i32_57
  let v127 : BitVec 32 := v126
  let v128 : Index := Scalar.indexCast v127
  let c0_58 : Index := 0#32
  ![v128.toNat, 0]
def k0_off4 (i : grid0.Coords) (k0_t1 : Fin (k0_t1_loop i).trips) : Fin 2 → Nat :=
  let arg1 : BitVec 32 := BitVec.ofNat 32 (i 1).val
  let c1_i32 : BitVec 32 := 1#32
  let v54 : BitVec 32 := Scalar.addi arg1 c1_i32
  let c1_i32_21 : BitVec 32 := 1#32
  let arg11 : BitVec 32 := Scf.iv v54 c1_i32_21 k0_t1
  let c512_i32_57 : BitVec 32 := 512#32
  let v126 : BitVec 32 := Scalar.muli arg11 c512_i32_57
  let v127 : BitVec 32 := v126
  let v130 : Index := Scalar.indexCast v127
  let c0_59 : Index := 0#32
  ![v130.toNat, 0]
@[reducible] def k0_t2_loop (i : grid0.Coords) : Scf.Loop 32 :=
  let arg1 : BitVec 32 := BitVec.ofNat 32 (i 1).val
  let c1_i32 : BitVec 32 := 1#32
  let v54 : BitVec 32 := Scalar.addi arg1 c1_i32
  let c8_i32 : BitVec 32 := 8#32
  let v55 : BitVec 32 := Scalar.subi c8_i32 v54
  let c1_i32_20 : BitVec 32 := 1#32
  let v57 : BitVec 32 := Scalar.divsi v55 c1_i32_20
  let v58 : BitVec 32 := Scalar.muli v57 c1_i32_20
  let v59 : BitVec 32 := Scalar.addi v54 v58
  let v56 : BitVec 32 := Scalar.addi v54 v55
  let c1_i32_22 : BitVec 32 := 1#32
  ⟨v59, v56, c1_i32_22⟩
def k0_mult3 (i : grid0.Coords) (k0_t2 : Fin (k0_t2_loop i).trips) : BitVec 32 :=
  let arg1 : BitVec 32 := BitVec.ofNat 32 (i 1).val
  let c1_i32 : BitVec 32 := 1#32
  let v54 : BitVec 32 := Scalar.addi arg1 c1_i32
  let c8_i32 : BitVec 32 := 8#32
  let v55 : BitVec 32 := Scalar.subi c8_i32 v54
  let c1_i32_20 : BitVec 32 := 1#32
  let v57 : BitVec 32 := Scalar.divsi v55 c1_i32_20
  let v58 : BitVec 32 := Scalar.muli v57 c1_i32_20
  let v59 : BitVec 32 := Scalar.addi v54 v58
  let c1_i32_22 : BitVec 32 := 1#32
  let arg11 : BitVec 32 := Scf.iv v59 c1_i32_22 k0_t2
  let c512_i32_57 : BitVec 32 := 512#32
  let v126 : BitVec 32 := Scalar.muli arg11 c512_i32_57
  v126
def k0_off5 (i : grid0.Coords) (k0_t2 : Fin (k0_t2_loop i).trips) : Fin 2 → Nat :=
  let arg1 : BitVec 32 := BitVec.ofNat 32 (i 1).val
  let c1_i32 : BitVec 32 := 1#32
  let v54 : BitVec 32 := Scalar.addi arg1 c1_i32
  let c8_i32 : BitVec 32 := 8#32
  let v55 : BitVec 32 := Scalar.subi c8_i32 v54
  let c1_i32_20 : BitVec 32 := 1#32
  let v57 : BitVec 32 := Scalar.divsi v55 c1_i32_20
  let v58 : BitVec 32 := Scalar.muli v57 c1_i32_20
  let v59 : BitVec 32 := Scalar.addi v54 v58
  let c1_i32_22 : BitVec 32 := 1#32
  let arg11 : BitVec 32 := Scf.iv v59 c1_i32_22 k0_t2
  let c512_i32_57 : BitVec 32 := 512#32
  let v126 : BitVec 32 := Scalar.muli arg11 c512_i32_57
  let v127 : BitVec 32 := v126
  let v128 : Index := Scalar.indexCast v127
  let c0_58 : Index := 0#32
  ![v128.toNat, 0]
def k0_off6 (i : grid0.Coords) (k0_t2 : Fin (k0_t2_loop i).trips) : Fin 2 → Nat :=
  let arg1 : BitVec 32 := BitVec.ofNat 32 (i 1).val
  let c1_i32 : BitVec 32 := 1#32
  let v54 : BitVec 32 := Scalar.addi arg1 c1_i32
  let c8_i32 : BitVec 32 := 8#32
  let v55 : BitVec 32 := Scalar.subi c8_i32 v54
  let c1_i32_20 : BitVec 32 := 1#32
  let v57 : BitVec 32 := Scalar.divsi v55 c1_i32_20
  let v58 : BitVec 32 := Scalar.muli v57 c1_i32_20
  let v59 : BitVec 32 := Scalar.addi v54 v58
  let c1_i32_22 : BitVec 32 := 1#32
  let arg11 : BitVec 32 := Scf.iv v59 c1_i32_22 k0_t2
  let c512_i32_57 : BitVec 32 := 512#32
  let v126 : BitVec 32 := Scalar.muli arg11 c512_i32_57
  let v127 : BitVec 32 := v126
  let v130 : Index := Scalar.indexCast v127
  let c0_59 : Index := 0#32
  ![v130.toNat, 0]
def k0_mult4 (i : grid0.Coords) : BitVec 32 :=
  let arg1 : BitVec 32 := BitVec.ofNat 32 (i 1).val
  let c512_i32_32 : BitVec 32 := 512#32
  let v73 : BitVec 32 := Scalar.muli arg1 c512_i32_32
  v73
def k0_off7 (i : grid0.Coords) : Fin 2 → Nat :=
  let arg1 : BitVec 32 := BitVec.ofNat 32 (i 1).val
  let c512_i32_32 : BitVec 32 := 512#32
  let v73 : BitVec 32 := Scalar.muli arg1 c512_i32_32
  let v74 : BitVec 32 := v73
  let v75 : Index := Scalar.indexCast v74
  let c128_33 : Index := 128#32
  ![v75.toNat, 128]
@[reducible] def k0_t3_loop (i : grid0.Coords) : Scf.Loop 32 :=
  let arg1 : BitVec 32 := BitVec.ofNat 32 (i 1).val
  let c1_i32_47 : BitVec 32 := 1#32
  let v113 : BitVec 32 := Scalar.addi arg1 c1_i32_47
  let c8_i32_48 : BitVec 32 := 8#32
  let v114 : BitVec 32 := Scalar.subi c8_i32_48 v113
  let c1_i32_49 : BitVec 32 := 1#32
  let v116 : BitVec 32 := Scalar.divsi v114 c1_i32_49
  let v117 : BitVec 32 := Scalar.muli v116 c1_i32_49
  let v118 : BitVec 32 := Scalar.addi v113 v117
  let c1_i32_50 : BitVec 32 := 1#32
  ⟨v113, v118, c1_i32_50⟩
def k0_mult5 (i : grid0.Coords) (k0_t3 : Fin (k0_t3_loop i).trips) : BitVec 32 :=
  let arg1 : BitVec 32 := BitVec.ofNat 32 (i 1).val
  let c1_i32_47 : BitVec 32 := 1#32
  let v113 : BitVec 32 := Scalar.addi arg1 c1_i32_47
  let c1_i32_50 : BitVec 32 := 1#32
  let arg11 : BitVec 32 := Scf.iv v113 c1_i32_50 k0_t3
  let c512_i32_57 : BitVec 32 := 512#32
  let v126 : BitVec 32 := Scalar.muli arg11 c512_i32_57
  v126
def k0_off8 (i : grid0.Coords) (k0_t3 : Fin (k0_t3_loop i).trips) : Fin 2 → Nat :=
  let arg1 : BitVec 32 := BitVec.ofNat 32 (i 1).val
  let c1_i32_47 : BitVec 32 := 1#32
  let v113 : BitVec 32 := Scalar.addi arg1 c1_i32_47
  let c1_i32_50 : BitVec 32 := 1#32
  let arg11 : BitVec 32 := Scf.iv v113 c1_i32_50 k0_t3
  let c512_i32_57 : BitVec 32 := 512#32
  let v126 : BitVec 32 := Scalar.muli arg11 c512_i32_57
  let v127 : BitVec 32 := v126
  let v128 : Index := Scalar.indexCast v127
  let c128_58 : Index := 128#32
  ![v128.toNat, 128]
def k0_off9 (i : grid0.Coords) (k0_t3 : Fin (k0_t3_loop i).trips) : Fin 2 → Nat :=
  let arg1 : BitVec 32 := BitVec.ofNat 32 (i 1).val
  let c1_i32_47 : BitVec 32 := 1#32
  let v113 : BitVec 32 := Scalar.addi arg1 c1_i32_47
  let c1_i32_50 : BitVec 32 := 1#32
  let arg11 : BitVec 32 := Scf.iv v113 c1_i32_50 k0_t3
  let c512_i32_57 : BitVec 32 := 512#32
  let v126 : BitVec 32 := Scalar.muli arg11 c512_i32_57
  let v127 : BitVec 32 := v126
  let v130 : Index := Scalar.indexCast v127
  let c0_59 : Index := 0#32
  ![v130.toNat, 0]
@[reducible] def k0_t4_loop (i : grid0.Coords) : Scf.Loop 32 :=
  let arg1 : BitVec 32 := BitVec.ofNat 32 (i 1).val
  let c1_i32_47 : BitVec 32 := 1#32
  let v113 : BitVec 32 := Scalar.addi arg1 c1_i32_47
  let c8_i32_48 : BitVec 32 := 8#32
  let v114 : BitVec 32 := Scalar.subi c8_i32_48 v113
  let c1_i32_49 : BitVec 32 := 1#32
  let v116 : BitVec 32 := Scalar.divsi v114 c1_i32_49
  let v117 : BitVec 32 := Scalar.muli v116 c1_i32_49
  let v118 : BitVec 32 := Scalar.addi v113 v117
  let v115 : BitVec 32 := Scalar.addi v113 v114
  let c1_i32_51 : BitVec 32 := 1#32
  ⟨v118, v115, c1_i32_51⟩
def k0_mult6 (i : grid0.Coords) (k0_t4 : Fin (k0_t4_loop i).trips) : BitVec 32 :=
  let arg1 : BitVec 32 := BitVec.ofNat 32 (i 1).val
  let c1_i32_47 : BitVec 32 := 1#32
  let v113 : BitVec 32 := Scalar.addi arg1 c1_i32_47
  let c8_i32_48 : BitVec 32 := 8#32
  let v114 : BitVec 32 := Scalar.subi c8_i32_48 v113
  let c1_i32_49 : BitVec 32 := 1#32
  let v116 : BitVec 32 := Scalar.divsi v114 c1_i32_49
  let v117 : BitVec 32 := Scalar.muli v116 c1_i32_49
  let v118 : BitVec 32 := Scalar.addi v113 v117
  let c1_i32_51 : BitVec 32 := 1#32
  let arg11 : BitVec 32 := Scf.iv v118 c1_i32_51 k0_t4
  let c512_i32_57 : BitVec 32 := 512#32
  let v126 : BitVec 32 := Scalar.muli arg11 c512_i32_57
  v126
def k0_off10 (i : grid0.Coords) (k0_t4 : Fin (k0_t4_loop i).trips) : Fin 2 → Nat :=
  let arg1 : BitVec 32 := BitVec.ofNat 32 (i 1).val
  let c1_i32_47 : BitVec 32 := 1#32
  let v113 : BitVec 32 := Scalar.addi arg1 c1_i32_47
  let c8_i32_48 : BitVec 32 := 8#32
  let v114 : BitVec 32 := Scalar.subi c8_i32_48 v113
  let c1_i32_49 : BitVec 32 := 1#32
  let v116 : BitVec 32 := Scalar.divsi v114 c1_i32_49
  let v117 : BitVec 32 := Scalar.muli v116 c1_i32_49
  let v118 : BitVec 32 := Scalar.addi v113 v117
  let c1_i32_51 : BitVec 32 := 1#32
  let arg11 : BitVec 32 := Scf.iv v118 c1_i32_51 k0_t4
  let c512_i32_57 : BitVec 32 := 512#32
  let v126 : BitVec 32 := Scalar.muli arg11 c512_i32_57
  let v127 : BitVec 32 := v126
  let v128 : Index := Scalar.indexCast v127
  let c128_58 : Index := 128#32
  ![v128.toNat, 128]
def k0_off11 (i : grid0.Coords) (k0_t4 : Fin (k0_t4_loop i).trips) : Fin 2 → Nat :=
  let arg1 : BitVec 32 := BitVec.ofNat 32 (i 1).val
  let c1_i32_47 : BitVec 32 := 1#32
  let v113 : BitVec 32 := Scalar.addi arg1 c1_i32_47
  let c8_i32_48 : BitVec 32 := 8#32
  let v114 : BitVec 32 := Scalar.subi c8_i32_48 v113
  let c1_i32_49 : BitVec 32 := 1#32
  let v116 : BitVec 32 := Scalar.divsi v114 c1_i32_49
  let v117 : BitVec 32 := Scalar.muli v116 c1_i32_49
  let v118 : BitVec 32 := Scalar.addi v113 v117
  let c1_i32_51 : BitVec 32 := 1#32
  let arg11 : BitVec 32 := Scf.iv v118 c1_i32_51 k0_t4
  let c512_i32_57 : BitVec 32 := 512#32
  let v126 : BitVec 32 := Scalar.muli arg11 c512_i32_57
  let v127 : BitVec 32 := v126
  let v130 : Index := Scalar.indexCast v127
  let c0_59 : Index := 0#32
  ![v130.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x512 : Shape := ⟨2, ![4096, 512]⟩
abbrev S4096x8x128 : Shape := ⟨3, ![4096, 8, 128]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x128 : Shape := ⟨3, ![8, 4096, 128]⟩

abbrev nBuf : Space → Nat
  | .hbm => 101
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x1024, .f32⟩
  | .hbm, ⟨5, _⟩ => ⟨S4096x1024, .f32⟩
  | .hbm, ⟨6, _⟩ => ⟨S4096x512, .f32⟩
  | .hbm, ⟨7, _⟩ => ⟨S4096x512, .f32⟩
  | .hbm, ⟨8, _⟩ => ⟨S4096x8x128, .f32⟩
  | .hbm, ⟨9, _⟩ => ⟨S4096x8x128, .f32⟩
  | .hbm, ⟨10, _⟩ => ⟨S4096x8x64, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S8x4096x4096, .i1⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .i1⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S_, .f32⟩
  | .hbm, ⟨37, _⟩ => ⟨S8x4096, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .i1⟩
  | .hbm, ⟨42, _⟩ => ⟨S_, .f32⟩
  | .hbm, ⟨43, _⟩ => ⟨S8x4096, .f32⟩
  | .hbm, ⟨44, _⟩ => ⟨S8x4096, .i1⟩
  | .hbm, ⟨45, _⟩ => ⟨S_, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S8x4096, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S8x4096x4096, .f32⟩
  | .hbm, ⟨61, _⟩ => ⟨S8x4096x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x64x4096, .f32⟩
  | .hbm, ⟨67, _⟩ => ⟨S4096x8x64, .f32⟩
  | .hbm, ⟨68, _⟩ => ⟨S4096x512, .f32⟩
  | .hbm, ⟨69, _⟩ => ⟨S4096x8x64, .f32⟩
  | .hbm, ⟨70, _⟩ => ⟨S8x64x4096, .f32⟩
  | .hbm, ⟨71, _⟩ => ⟨S8x4096x4096, .f32⟩
  | .hbm, ⟨72, _⟩ => ⟨S8x64x4096, .f32⟩
  | .hbm, ⟨73, _⟩ => ⟨S4096x8x64, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096x1, .f32⟩
  | .hbm, ⟨80, _⟩ => ⟨S8x4096x1, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096x4096, .f32⟩
  | .hbm, ⟨90, _⟩ => ⟨S8x4096x4096, .f32⟩
  | .hbm, ⟨91, _⟩ => ⟨S_, .f32⟩
  | .hbm, ⟨92, _⟩ => ⟨S8x4096x4096, .f32⟩
  | .hbm, ⟨93, _⟩ => ⟨S8x4096x4096, .f32⟩
  | .hbm, ⟨94, _⟩ => ⟨S8x4096x128, .f32⟩
  | .hbm, ⟨95, _⟩ => ⟨S4096x8x128, .f32⟩
  | .hbm, ⟨96, _⟩ => ⟨S8x4096x128, .f32⟩
  | .hbm, ⟨97, _⟩ => ⟨S4096x8x128, .f32⟩
  | .hbm, ⟨98, _⟩ => ⟨S4096x512, .f32⟩
  | .hbm, ⟨99, _⟩ => ⟨S4096x1024, .f32⟩
  | .hbm, ⟨100, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_v16_1 : Ref sig .tc := ⟨.hbm, 23, rfl⟩
abbrev main_call0_v2 : Ref sig .tc := ⟨.hbm, 24, rfl⟩
abbrev main_v16_0 : Ref sig .tc := ⟨.hbm, 25, rfl⟩
abbrev main_call0_cst : Ref sig .tc := ⟨.hbm, 26, rfl⟩
abbrev main_v16_2 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call1_cst : Ref sig .tc := ⟨.hbm, 88, rfl⟩
abbrev main_call1_v0 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Proj.lean ====
abbrev S4096x1024 : Shape := ⟨2, ![4096, 1024]⟩
abbrev S1024x11264 : Shape := ⟨2, ![1024, 11264]⟩
abbrev S4096x11264 : Shape := ⟨2, ![4096, 11264]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x11264, .bf16⟩
  | .hbm, ⟨2, _⟩ => ⟨S4096x11264, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S4096x1024 : Shape := ⟨2, ![4096, 1024]⟩
abbrev S1024x11264 : Shape := ⟨2, ![1024, 11264]⟩
abbrev S4096x11264 : Shape := ⟨2, ![4096, 11264]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x11264, .bf16⟩
  | .hbm, ⟨2, _⟩ => ⟨S4096x1024, .f32⟩
  | .hbm, ⟨3, _⟩ => ⟨S1024x11264, .f32⟩
  | .hbm, ⟨4, _⟩ => ⟨S4096x11264, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjW.lean ====
abbrev S4096x1024 : Shape := ⟨2, ![4096, 1024]⟩
abbrev S4096x11264 : Shape := ⟨2, ![4096, 11264]⟩
abbrev S1024x11264 : Shape := ⟨2, ![1024, 11264]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x11264, .bf16⟩
  | .hbm, ⟨2, _⟩ => ⟨S1024x11264, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjWReferenceIdeal.lean ====
abbrev S4096x1024 : Shape := ⟨2, ![4096, 1024]⟩
abbrev S4096x11264 : Shape := ⟨2, ![4096, 11264]⟩
abbrev S_ : Shape := ⟨0, ![]⟩
abbrev S1024x11264 : Shape := ⟨2, ![1024, 11264]⟩
abbrev S11264x1024 : Shape := ⟨2, ![11264, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x11264, .bf16⟩
  | .hbm, ⟨2, _⟩ => ⟨S4096x1024, .f32⟩
  | .hbm, ⟨3, _⟩ => ⟨S4096x11264, .f32⟩
  | .hbm, ⟨4, _⟩ => ⟨S_, .f32⟩
  | .hbm, ⟨5, _⟩ => ⟨S1024x11264, .f32⟩
  | .hbm, ⟨6, _⟩ => ⟨S4096x11264, .f32⟩
  | .hbm, ⟨7, _⟩ => ⟨S11264x1024, .f32⟩
  | .hbm, ⟨8, _⟩ => ⟨S1024x11264, .f32⟩
  | .hbm, ⟨9, _⟩ => ⟨S1024x11264, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjH.lean ====
abbrev S4096x11264 : Shape := ⟨2, ![4096, 11264]⟩
abbrev S1024x11264 : Shape := ⟨2, ![1024, 11264]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S1024x11264, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjHReferenceIdeal.lean ====
abbrev S4096x11264 : Shape := ⟨2, ![4096, 11264]⟩
abbrev S1024x11264 : Shape := ⟨2, ![1024, 11264]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S1024x11264, .bf16⟩
  | .hbm, ⟨2, _⟩ => ⟨S1024x11264, .f32⟩
  | .hbm, ⟨3, _⟩ => ⟨S4096x11264, .f32⟩
  | .hbm, ⟨4, _⟩ => ⟨S_, .f32⟩
  | .hbm, ⟨5, _⟩ => ⟨S4096x1024, .f32⟩
  | .hbm, ⟨6, _⟩ => ⟨S4096x11264, .f32⟩
  | .hbm, ⟨7, _⟩ => ⟨S4096x1024, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LruOut.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruOutReferenceIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MlaOut.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaOutReferenceIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S512x1024, .f32⟩
  | .hbm, ⟨4, _⟩ => ⟨S4096x1024, .f32⟩
  | .hbm, ⟨5, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DilOut.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilOutReferenceIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S512x1024, .f32⟩
  | .hbm, ⟨4, _⟩ => ⟨S4096x1024, .f32⟩
  | .hbm, ⟨5, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjReferenceIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MergedGrad.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MergedGradReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutWeightGrad.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWeightGradReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== LruGrad.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruGradReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaGrad.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaGradReferenceIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x1024, .f32⟩
  | .hbm, ⟨3, _⟩ => ⟨S512x1024, .f32⟩
  | .hbm, ⟨4, _⟩ => ⟨S_, .f32⟩
  | .hbm, ⟨5, _⟩ => ⟨S4096x512, .f32⟩
  | .hbm, ⟨6, _⟩ => ⟨S4096x1024, .f32⟩
  | .hbm, ⟨7, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DilGrad.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilGradReferenceIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x1024, .f32⟩
  | .hbm, ⟨3, _⟩ => ⟨S512x1024, .f32⟩
  | .hbm, ⟨4, _⟩ => ⟨S_, .f32⟩
  | .hbm, ⟨5, _⟩ => ⟨S4096x512, .f32⟩
  | .hbm, ⟨6, _⟩ => ⟨S4096x1024, .f32⟩
  | .hbm, ⟨7, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LruWeightGrad.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LruWeightGradReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlaWeightGrad.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaWeightGradReferenceIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S4096x1024, .f32⟩
  | .hbm, ⟨4, _⟩ => ⟨S_, .f32⟩
  | .hbm, ⟨5, _⟩ => ⟨S512x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DilWeightGrad.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DilWeightGradReferenceIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S4096x1024, .f32⟩
  | .hbm, ⟨4, _⟩ => ⟨S_, .f32⟩
  | .hbm, ⟨5, _⟩ => ⟨S512x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Attention.lean ====
abbrev S4096x1024 : Shape := ⟨2, ![4096, 1024]⟩
abbrev S4096x512 : Shape := ⟨2, ![4096, 512]⟩
abbrev S4096x11264 : Shape := ⟨2, ![4096, 11264]⟩
abbrev S512x256 : Shape := ⟨2, ![512, 256]⟩
abbrev S4096x256 : Shape := ⟨2, ![4096, 256]⟩
abbrev S4096x128 : Shape := ⟨2, ![4096, 128]⟩
abbrev S512x128 : Shape := ⟨2, ![512, 128]⟩
abbrev S512x512 : Shape := ⟨2, ![512, 512]⟩
abbrev S512x1 : Shape := ⟨2, ![512, 1]⟩
abbrev S512 : Shape := ⟨1, ![512]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x11264, .f32⟩
  | .hbm, ⟨4, _⟩ => ⟨S4096x512, .f32⟩
  | .hbm, ⟨5, _⟩ => ⟨S4096x1024, .f32⟩
  | .hbm, ⟨6, _⟩ => ⟨S4096x512, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x256, .f32⟩
  | .local _ .vmem, ⟨11, _⟩ => ⟨S512x256, .f32⟩
  | .local _ .vmem, ⟨12, _⟩ => ⟨S512x128, .bf16⟩
  | .local _ .vmem, ⟨13, _⟩ => ⟨S512x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_3 : BitVec 32 := 1#32
  ⟨c0_i32, v13, c1_i32_3⟩
def k0_mult1 (i : grid0.Coords) (k0_t1 : Fin (k0_t1_loop i).trips) : BitVec 32 :=
  let c0_i32 : BitVec 32 := 0#32
  let c1_i32_3 : BitVec 32 := 1#32
  let arg9 : BitVec 32 := Scf.iv c0_i32 c1_i32_3 k0_t1
  let c512_i32_57 : BitVec 32 := 512#32
  let v139 : BitVec 32 := Scalar.muli arg9 c512_i32_57
  v139
def k0_off1 (i : grid0.Coords) (k0_t1 : Fin (k0_t1_loop i).trips) : Fin 2 → Nat :=
  let c0_i32 : BitVec 32 := 0#32
  let c1_i32_3 : BitVec 32 := 1#32
  let arg9 : BitVec 32 := Scf.iv c0_i32 c1_i32_3 k0_t1
  let c512_i32_57 : BitVec 32 := 512#32
  let v139 : BitVec 32 := Scalar.muli arg9 c512_i32_57
  let v140 : BitVec 32 := v139
  let v141 : Index := Scalar.indexCast v140
  let c0_58 : Index := 0#32
  ![v141.toNat, 0]
def k0_off2 (i : grid0.Coords) (k0_t1 : Fin (k0_t1_loop i).trips) : Fin 2 → Nat :=
  let c0_i32 : BitVec 32 := 0#32
  let c1_i32_3 : BitVec 32 := 1#32
  let arg9 : BitVec 32 := Scf.iv c0_i32 c1_i32_3 k0_t1
  let c512_i32_57 : BitVec 32 := 512#32
  let v139 : BitVec 32 := Scalar.muli arg9 c512_i32_57
  let v140 : BitVec 32 := v139
  let v143 : Index := Scalar.indexCast v140
  let c0_59 : Index := 0#32
  ![v143.toNat, 0]
@[reducible] def k0_t2_loop (i : grid0.Coords) : Scf.Loop 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let v10 : BitVec 32 := Scalar.addi c0_i32 v9
  let c1_i32_4 : BitVec 32 := 1#32
  ⟨v13, v10, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_4 : BitVec 32 := 1#32
  let arg9 : BitVec 32 := Scf.iv v13 c1_i32_4 k0_t2
  let c512_i32_57 : BitVec 32 := 512#32
  let v139 : BitVec 32 := Scalar.muli arg9 c512_i32_57
  v139
def k0_off3 (i : grid0.Coords) (k0_t2 : Fin (k0_t2_loop i).trips) : Fin 2 → Nat :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_4 : BitVec 32 := 1#32
  let arg9 : BitVec 32 := Scf.iv v13 c1_i32_4 k0_t2
  let c512_i32_57 : BitVec 32 := 512#32
  let v139 : BitVec 32 := Scalar.muli arg9 c512_i32_57
  let v140 : BitVec 32 := v139
  let v141 : Index := Scalar.indexCast v140
  let c0_58 : Index := 0#32
  ![v141.toNat, 0]
def k0_off4 (i : grid0.Coords) (k0_t2 : Fin (k0_t2_loop i).trips) : Fin 2 → Nat :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_4 : BitVec 32 := 1#32
  let arg9 : BitVec 32 := Scf.iv v13 c1_i32_4 k0_t2
  let c512_i32_57 : BitVec 32 := 512#32
  let v139 : BitVec 32 := Scalar.muli arg9 c512_i32_57
  let v140 : BitVec 32 := v139
  let v143 : Index := Scalar.indexCast v140
  let c0_59 : Index := 0#32
  ![v143.toNat, 0]
def k0_mult3 (i : grid0.Coords) : BitVec 32 :=
  let arg1 : BitVec 32 := BitVec.ofNat 32 (i 1).val
  let c512_i32 : BitVec 32 := 512#32
  let v16 : BitVec 32 := Scalar.muli arg1 c512_i32
  v16
def k0_off5 (i : grid0.Coords) : Fin 2 → Nat :=
  let arg1 : BitVec 32 := BitVec.ofNat 32 (i 1).val
  let c512_i32 : BitVec 32 := 512#32
  let v16 : BitVec 32 := Scalar.muli arg1 c512_i32
  let v17 : BitVec 32 := v16
  let v18 : Index := Scalar.indexCast v17
  let c0_5 : Index := 0#32
  ![v18.toNat, 0]
def k0_off6 (i : grid0.Coords) : Fin 2 → Nat :=
  let arg1 : BitVec 32 := BitVec.ofNat 32 (i 1).val
  let c512_i32 : BitVec 32 := 512#32
  let v16 : BitVec 32 := Scalar.muli arg1 c512_i32
  let v17 : BitVec 32 := v16
  let v20 : Index := Scalar.indexCast v17
  let c0_6 : Index := 0#32
  ![v20.toNat, 0]
@[reducible] def k0_t3_loop (i : grid0.Coords) : Scf.Loop 32 :=
  let c0_i32_26 : BitVec 32 := 0#32
  let arg1 : BitVec 32 := BitVec.ofNat 32 (i 1).val
  let v70 : BitVec 32 := Scalar.subi arg1 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let c1_i32_28 : BitVec 32 := 1#32
  ⟨c0_i32_26, v74, c1_i32_28⟩
def k0_mult4 (i : grid0.Coords) (k0_t3 : Fin (k0_t3_loop i).trips) : BitVec 32 :=
  let c0_i32_26 : BitVec 32 := 0#32
  let c1_i32_28 : BitVec 32 := 1#32
  let arg9 : BitVec 32 := Scf.iv c0_i32_26 c1_i32_28 k0_t3
  let c512_i32_57 : BitVec 32 := 512#32
  let v139 : BitVec 32 := Scalar.muli arg9 c512_i32_57
  v139
def k0_off7 (i : grid0.Coords) (k0_t3 : Fin (k0_t3_loop i).trips) : Fin 2 → Nat :=
  let c0_i32_26 : BitVec 32 := 0#32
  let c1_i32_28 : BitVec 32 := 1#32
  let arg9 : BitVec 32 := Scf.iv c0_i32_26 c1_i32_28 k0_t3
  let c512_i32_57 : BitVec 32 := 512#32
  let v139 : BitVec 32 := Scalar.muli arg9 c512_i32_57
  let v140 : BitVec 32 := v139
  let v141 : Index := Scalar.indexCast v140
  let c128_58 : Index := 128#32
  ![v141.toNat, 128]
def k0_off8 (i : grid0.Coords) (k0_t3 : Fin (k0_t3_loop i).trips) : Fin 2 → Nat :=
  let c0_i32_26 : BitVec 32 := 0#32
  let c1_i32_28 : BitVec 32 := 1#32
  let arg9 : BitVec 32 := Scf.iv c0_i32_26 c1_i32_28 k0_t3
  let c512_i32_57 : BitVec 32 := 512#32
  let v139 : BitVec 32 := Scalar.muli arg9 c512_i32_57
  let v140 : BitVec 32 := v139
  let v143 : Index := Scalar.indexCast v140
  let c0_59 : Index := 0#32
  ![v143.toNat, 0]
@[reducible] def k0_t4_loop (i : grid0.Coords) : Scf.Loop 32 :=
  let c0_i32_26 : BitVec 32 := 0#32
  let arg1 : BitVec 32 := BitVec.ofNat 32 (i 1).val
  let v70 : BitVec 32 := Scalar.subi arg1 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let v71 : BitVec 32 := Scalar.addi c0_i32_26 v70
  let c1_i32_29 : BitVec 32 := 1#32
  ⟨v74, v71, c1_i32_29⟩
def k0_mult5 (i : grid0.Coords) (k0_t4 : Fin (k0_t4_loop i).trips) : BitVec 32 :=
  let c0_i32_26 : BitVec 32 := 0#32
  let arg1 : BitVec 32 := BitVec.ofNat 32 (i 1).val
  let v70 : BitVec 32 := Scalar.subi arg1 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let c1_i32_29 : BitVec 32 := 1#32
  let arg9 : BitVec 32 := Scf.iv v74 c1_i32_29 k0_t4
  let c512_i32_57 : BitVec 32 := 512#32
  let v139 : BitVec 32 := Scalar.muli arg9 c512_i32_57
  v139
def k0_off9 (i : grid0.Coords) (k0_t4 : Fin (k0_t4_loop i).trips) : Fin 2 → Nat :=
  let c0_i32_26 : BitVec 32 := 0#32
  let arg1 : BitVec 32 := BitVec.ofNat 32 (i 1).val
  let v70 : BitVec 32 := Scalar.subi arg1 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let c1_i32_29 : BitVec 32 := 1#32
  let arg9 : BitVec 32 := Scf.iv v74 c1_i32_29 k0_t4
  let c512_i32_57 : BitVec 32 := 512#32
  let v139 : BitVec 32 := Scalar.muli arg9 c512_i32_57
  let v140 : BitVec 32 := v139
  let v141 : Index := Scalar.indexCast v140
  let c128_58 : Index := 128#32
  ![v141.toNat, 128]
def k0_off10 (i : grid0.Coords) (k0_t4 : Fin (k0_t4_loop i).trips) : Fin 2 → Nat :=
  let c0_i32_26 : BitVec 32 := 0#32
  let arg1 : BitVec 32 := BitVec.ofNat 32 (i 1).val
  let v70 : BitVec 32 := Scalar.subi arg1 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let c1_i32_29 : BitVec 32 := 1#32
  let arg9 : BitVec 32 := Scf.iv v74 c1_i32_29 k0_t4
  let c512_i32_57 : BitVec 32 := 512#32
  let v139 : BitVec 32 := Scalar.muli arg9 c512_i32_57
  let v140 : BitVec 32 := v139
  let v143 : Index := Scalar.indexCast v140
  let c0_59 : Index := 0#32
  ![v143.toNat, 0]
def k0_mult6 (i : grid0.Coords) : BitVec 32 :=
  let arg1 : BitVec 32 := BitVec.ofNat 32 (i 1).val
  let c512_i32_30 : BitVec 32 := 512#32
  let v77 : BitVec 32 := Scalar.muli arg1 c512_i32_30
  v77
def k0_off11 (i : grid0.Coords) : Fin 2 → Nat :=
  let arg1 : BitVec 32 := BitVec.ofNat 32 (i 1).val
  let c512_i32_30 : BitVec 32 := 512#32
  let v77 : BitVec 32 := Scalar.muli arg1 c512_i32_30
  let v78 : BitVec 32 := v77
  let v79 : Index := Scalar.indexCast v78
  let c128_31 : Index := 128#32
  ![v79.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttentionIdeal.lean ====
variable {F : FTy → Type} [FloatOps F] [Named F]
def κ : String → Option EReal := fun
  | "ln2" => some ((Real.log 2 : ℝ) : EReal)
  | "mask" => some ⊥
  | "scale2" => some (((3424635 / 33554432) * (Real.log 2)⁻¹ : ℝ) : EReal)
  | _ => none
-- ==== AttentionReferenceIdeal.lean ====
abbrev S4096x1024 : Shape := ⟨2, ![4096, 1024]⟩
abbrev S4096x512 : Shape := ⟨2, ![4096, 512]⟩
abbrev S4096x11264 : Shape := ⟨2, ![4096, 11264]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S4096x8x64 : Shape := ⟨3, ![4096, 8, 64]⟩
abbrev S8x4096x1 : Shape := ⟨3, ![8, 4096, 1]⟩
abbrev S8x64x4096 : Shape := ⟨3, ![8, 64, 4096]⟩
abbrev S4096x8 : Shape := ⟨2, ![4096, 8]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x11264, .f32⟩
  | .hbm, ⟨4, _⟩ => ⟨S4096x1024, .f32⟩
  | .hbm, ⟨5, _⟩ => ⟨S4096x1024, .f32⟩
  | .hbm, ⟨6, _⟩ => ⟨S4096x512, .f32⟩
  | .hbm, ⟨7, _⟩ => ⟨S4096x8x128, .f32⟩
  | .hbm, ⟨8, _⟩ => ⟨S4096x8x128, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S8x4096x4096, .i1⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096, .f32⟩
  | .hbm, ⟨27, _⟩ => ⟨S8x4096, .f32⟩
  | .hbm, ⟨28, _⟩ => ⟨S4096x8x128, .f32⟩
  | .hbm, ⟨29, _⟩ => ⟨S4096x8x128, .f32⟩
  | .hbm, ⟨30, _⟩ => ⟨S4096x8x64, .f32⟩
  | .hbm, ⟨31, _⟩ => ⟨S8x4096x4096, .f32⟩
  | .hbm, ⟨32, _⟩ => ⟨S_, .f32⟩
  | .hbm, ⟨33, _⟩ => ⟨S8x4096x4096, .f32⟩
  | .hbm, ⟨34, _⟩ => ⟨S8x4096x4096, .f32⟩
  | .hbm, ⟨35, _⟩ => ⟨S4096, .i32⟩
  | .hbm, ⟨36, _⟩ => ⟨S1x4096, .i32⟩
  | .hbm, ⟨37, _⟩ => ⟨S4096x1, .i32⟩
  | .hbm, ⟨38, _⟩ => ⟨S4096x4096, .i32⟩
  | .hbm, ⟨39, _⟩ => ⟨S4096x4096, .i32⟩
  | .hbm, ⟨40, _⟩ => ⟨S4096x4096, .i1⟩
  | .hbm, ⟨41, _⟩ => ⟨S_, .f32⟩
  | .hbm, ⟨42, _⟩ => ⟨S_, .f32⟩
  | .hbm, ⟨43, _⟩ => ⟨S8x4096x4096, .i1⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S8x4096, .f32⟩
  | .hbm, ⟨48, _⟩ => ⟨S_, .f32⟩
  | .hbm, ⟨49, _⟩ => ⟨S8x4096, .f32⟩
  | .hbm, ⟨50, _⟩ => ⟨S8x4096, .f32⟩
  | .hbm, ⟨51, _⟩ => ⟨S8x4096x1, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S8x4096x4096, .f32⟩
  | .hbm, ⟨59, _⟩ => ⟨S8x4096x4096, .f32⟩
  | .hbm, ⟨60, _⟩ => ⟨S8x64x4096, .f32⟩
  | .hbm, ⟨61, _⟩ => ⟨S4096x8x64, .f32⟩
  | .hbm, ⟨62, _⟩ => ⟨S4096x512, .f32⟩
  | .hbm, ⟨63, _⟩ => ⟨S4096x512, .f32⟩
  | .hbm, ⟨64, _⟩ => ⟨S4096x8, .f32⟩
  | .hbm, ⟨65, _⟩ => ⟨S4096x8x128, .f32⟩
  | .hbm, ⟨66, _⟩ => ⟨S4096x1024, .f32⟩
  | .hbm, ⟨67, _⟩ => ⟨S4096x512, .f32⟩
  | .hbm, ⟨68, _⟩ => ⟨S4096x512, .f32⟩
  | .hbm, ⟨69, _⟩ => ⟨S_, .f32⟩
  | .hbm, ⟨70, _⟩ => ⟨S4096x512, .f32⟩
  | .hbm, ⟨71, _⟩ => ⟨S4096x512, .f32⟩
  | .hbm, ⟨72, _⟩ => ⟨S_, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call2_v0 : Ref sig .tc := ⟨.hbm, 67, rfl⟩
abbrev main_call2_v1 : Ref sig .tc := ⟨.hbm, 68, rfl⟩
abbrev main_call2_cst : Ref sig .tc := ⟨.hbm, 69, rfl⟩
abbrev main_call2_v2 : Ref sig .tc := ⟨.hbm, 70, rfl⟩
abbrev main_call2_v3 : Ref sig .tc := ⟨.hbm, 71, rfl⟩
abbrev main_call2_cst_0 : Ref sig .tc := ⟨.hbm, 72, rfl⟩
abbrev main_call2_v4 : Ref sig .tc := ⟨.hbm, 73, rfl⟩
abbrev main_call2_v5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Merge.lean ====
abbrev S4096x1024 : Shape := ⟨2, ![4096, 1024]⟩
abbrev S4096x11264 : Shape := ⟨2, ![4096, 11264]⟩
abbrev S1x3072 : Shape := ⟨2, ![1, 3072]⟩
abbrev S512x1024 : Shape := ⟨2, ![512, 1024]⟩
abbrev S1x1024 : Shape := ⟨2, ![1, 1024]⟩

abbrev nBuf : Space → Nat
  | .hbm => 6
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x11264, .f32⟩
  | .hbm, ⟨4, _⟩ => ⟨S1x3072, .f32⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x3072, .f32⟩
  | .local _ .vmem, ⟨13, _⟩ => ⟨S512x1024, .bf16⟩
  | .local _ .vmem, ⟨14, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeReferenceIdeal.lean ====
abbrev S4096x1024 : Shape := ⟨2, ![4096, 1024]⟩
abbrev S4096x11264 : Shape := ⟨2, ![4096, 11264]⟩
abbrev S1x3072 : Shape := ⟨2, ![1, 3072]⟩
abbrev S4096x3072 : Shape := ⟨2, ![4096, 3072]⟩
abbrev S_ : Shape := ⟨0, ![]⟩
abbrev S4096x3x1024 : Shape := ⟨3, ![4096, 3, 1024]⟩
abbrev S4096x1x1024 : Shape := ⟨3, ![4096, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x11264, .f32⟩
  | .hbm, ⟨4, _⟩ => ⟨S1x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S4096x3072, .f32⟩
  | .hbm, ⟨10, _⟩ => ⟨S_, .f32⟩
  | .hbm, ⟨11, _⟩ => ⟨S4096x3072, .f32⟩
  | .hbm, ⟨12, _⟩ => ⟨S4096x3072, .f32⟩
  | .hbm, ⟨13, _⟩ => ⟨S_, .f32⟩
  | .hbm, ⟨14, _⟩ => ⟨S4096x3072, .f32⟩
  | .hbm, ⟨15, _⟩ => ⟨S4096x3072, .f32⟩
  | .hbm, ⟨16, _⟩ => ⟨S4096x3x1024, .f32⟩
  | .hbm, ⟨17, _⟩ => ⟨S4096x1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Loss.lean ====
abbrev S4096x1024 : Shape := ⟨2, ![4096, 1024]⟩
abbrev S1x1 : Shape := ⟨2, ![1, 1]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_7 : BitVec 32 := 0#32
  let v16 : BitVec 1 := Scalar.cmpi .ne v15 c0_i32_7
  v16

def k0_cond2 (i : grid0.Coords) : BitVec 1 :=
  let arg0 : BitVec 32 := BitVec.ofNat 32 (i 0).val
  let c0_i32_8 : BitVec 32 := 0#32
  let v17 : BitVec 1 := Scalar.cmpi .sgt arg0 c0_i32_8
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossReferenceIdeal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== AdamW.lean ====
abbrev S1x256x1024 : Shape := ⟨3, ![1, 256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamWReferenceIdeal.lean ====
abbrev S1x256x1024 : Shape := ⟨3, ![1, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GateLru.lean ====
abbrev S4096x1024 : Shape := ⟨2, ![4096, 1024]⟩
abbrev S4096x11264 : Shape := ⟨2, ![4096, 11264]⟩
abbrev S1x1024 : Shape := ⟨2, ![1, 1024]⟩
abbrev S512x1024 : Shape := ⟨2, ![512, 1024]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x11264, .f32⟩
  | .hbm, ⟨3, _⟩ => ⟨S1x1024, .f32⟩
  | .hbm, ⟨4, _⟩ => ⟨S4096x11264, .bf16⟩
  | .hbm, ⟨5, _⟩ => ⟨S4096x11264, .bf16⟩
  | .hbm, ⟨6, _⟩ => ⟨S4096x1024, .bf16⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v27 : BitVec 1 := Scalar.cmpi .eq arg0 c0_i32
  let v28 : BitVec 32 := Scalar.extui v27
  let c0_i32_15 : BitVec 32 := 0#32
  let v29 : BitVec 1 := Scalar.cmpi .ne v28 c0_i32_15
  v29

def k0_cond2 (i : grid0.Coords) : BitVec 1 :=
  let arg0 : BitVec 32 := BitVec.ofNat 32 (i 0).val
  let c0_i32_16 : BitVec 32 := 0#32
  let v30 : BitVec 1 := Scalar.cmpi .sgt arg0 c0_i32_16
  let v31 : BitVec 32 := Scalar.extui v30
  let c0_i32_17 : BitVec 32 := 0#32
  let v32 : BitVec 1 := Scalar.cmpi .ne v31 c0_i32_17
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateLruReferenceIdeal.lean ====
abbrev S4096x1024 : Shape := ⟨2, ![4096, 1024]⟩
abbrev S4096x11264 : Shape := ⟨2, ![4096, 11264]⟩
abbrev S1x1024 : Shape := ⟨2, ![1, 1024]⟩
abbrev S_ : Shape := ⟨0, ![]⟩
abbrev S1024 : Shape := ⟨1, ![1024]⟩
abbrev S4096x8192 : Shape := ⟨2, ![4096, 8192]⟩
abbrev S4096x2048 : Shape := ⟨2, ![4096, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x11264, .f32⟩
  | .hbm, ⟨3, _⟩ => ⟨S1x1024, .f32⟩
  | .hbm, ⟨4, _⟩ => ⟨S4096x11264, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x8192, .bf16⟩
  | .hbm, ⟨30, _⟩ => ⟨S4096x1024, .bf16⟩
  | .hbm, ⟨31, _⟩ => ⟨S4096x2048, .bf16⟩
  | .hbm, ⟨32, _⟩ => ⟨S4096x11264, .bf16⟩
  | .hbm, ⟨33, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== GateMla.lean ====
abbrev S4096x1024 : Shape := ⟨2, ![4096, 1024]⟩
abbrev S4096x11264 : Shape := ⟨2, ![4096, 11264]⟩
abbrev S1x1024 : Shape := ⟨2, ![1, 1024]⟩
abbrev S512x1024 : Shape := ⟨2, ![512, 1024]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x11264, .f32⟩
  | .hbm, ⟨3, _⟩ => ⟨S1x1024, .f32⟩
  | .hbm, ⟨4, _⟩ => ⟨S4096x11264, .bf16⟩
  | .hbm, ⟨5, _⟩ => ⟨S4096x11264, .bf16⟩
  | .hbm, ⟨6, _⟩ => ⟨S4096x1024, .bf16⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v27 : BitVec 1 := Scalar.cmpi .eq arg0 c0_i32
  let v28 : BitVec 32 := Scalar.extui v27
  let c0_i32_15 : BitVec 32 := 0#32
  let v29 : BitVec 1 := Scalar.cmpi .ne v28 c0_i32_15
  v29

def k0_cond2 (i : grid0.Coords) : BitVec 1 :=
  let arg0 : BitVec 32 := BitVec.ofNat 32 (i 0).val
  let c0_i32_16 : BitVec 32 := 0#32
  let v30 : BitVec 1 := Scalar.cmpi .sgt arg0 c0_i32_16
  let v31 : BitVec 32 := Scalar.extui v30
  let c0_i32_17 : BitVec 32 := 0#32
  let v32 : BitVec 1 := Scalar.cmpi .ne v31 c0_i32_17
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateMlaReferenceIdeal.lean ====
abbrev S4096x1024 : Shape := ⟨2, ![4096, 1024]⟩
abbrev S4096x11264 : Shape := ⟨2, ![4096, 11264]⟩
abbrev S1x1024 : Shape := ⟨2, ![1, 1024]⟩
abbrev S_ : Shape := ⟨0, ![]⟩
abbrev S1024 : Shape := ⟨1, ![1024]⟩
abbrev S4096x9216 : Shape := ⟨2, ![4096, 9216]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x11264, .f32⟩
  | .hbm, ⟨3, _⟩ => ⟨S1x1024, .f32⟩
  | .hbm, ⟨4, _⟩ => ⟨S4096x11264, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x9216, .bf16⟩
  | .hbm, ⟨30, _⟩ => ⟨S4096x1024, .bf16⟩
  | .hbm, ⟨31, _⟩ => ⟨S4096x1024, .bf16⟩
  | .hbm, ⟨32, _⟩ => ⟨S4096x11264, .bf16⟩
  | .hbm, ⟨33, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== GateDil.lean ====
abbrev S4096x1024 : Shape := ⟨2, ![4096, 1024]⟩
abbrev S4096x11264 : Shape := ⟨2, ![4096, 11264]⟩
abbrev S1x1024 : Shape := ⟨2, ![1, 1024]⟩
abbrev S512x1024 : Shape := ⟨2, ![512, 1024]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x11264, .f32⟩
  | .hbm, ⟨3, _⟩ => ⟨S1x1024, .f32⟩
  | .hbm, ⟨4, _⟩ => ⟨S4096x11264, .bf16⟩
  | .hbm, ⟨5, _⟩ => ⟨S4096x11264, .bf16⟩
  | .hbm, ⟨6, _⟩ => ⟨S4096x1024, .bf16⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v27 : BitVec 1 := Scalar.cmpi .eq arg0 c0_i32
  let v28 : BitVec 32 := Scalar.extui v27
  let c0_i32_15 : BitVec 32 := 0#32
  let v29 : BitVec 1 := Scalar.cmpi .ne v28 c0_i32_15
  v29

def k0_cond2 (i : grid0.Coords) : BitVec 1 :=
  let arg0 : BitVec 32 := BitVec.ofNat 32 (i 0).val
  let c0_i32_16 : BitVec 32 := 0#32
  let v30 : BitVec 1 := Scalar.cmpi .sgt arg0 c0_i32_16
  let v31 : BitVec 32 := Scalar.extui v30
  let c0_i32_17 : BitVec 32 := 0#32
  let v32 : BitVec 1 := Scalar.cmpi .ne v31 c0_i32_17
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateDilReferenceIdeal.lean ====
abbrev S4096x1024 : Shape := ⟨2, ![4096, 1024]⟩
abbrev S4096x11264 : Shape := ⟨2, ![4096, 11264]⟩
abbrev S1x1024 : Shape := ⟨2, ![1, 1024]⟩
abbrev S_ : Shape := ⟨0, ![]⟩
abbrev S1024 : Shape := ⟨1, ![1024]⟩
abbrev S4096x10240 : Shape := ⟨2, ![4096, 10240]⟩
abbrev S4096x0 : Shape := ⟨2, ![4096, 0]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x11264, .f32⟩
  | .hbm, ⟨3, _⟩ => ⟨S1x1024, .f32⟩
  | .hbm, ⟨4, _⟩ => ⟨S4096x11264, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x10240, .bf16⟩
  | .hbm, ⟨30, _⟩ => ⟨S4096x1024, .bf16⟩
  | .hbm, ⟨31, _⟩ => ⟨S4096x0, .bf16⟩
  | .hbm, ⟨32, _⟩ => ⟨S4096x11264, .bf16⟩
  | .hbm, ⟨33, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.KernelRun.lean ====
module

public import proofs.«01_k».proof.Proof.Gen.Kernel.Frame
public import proofs.«01_k».proof.Proof.Gen.Kernel.Loops
public import Idealize.ShloMosaic.Lib.Claim

/-!
# The kernel's run, at any number format

The claim here is only that the program ends and leaves its arguments as they were, so nothing is said of the numbers the body stores. The
body is executed once for a pair's first key block and once for the others; the launch theorem does the rest.
-/

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases of the body -/

abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [isFirst, e0, e1]
    word_cmp
   : ∀ t : Fin grid0.N, isFirst (grid0.coords t) ↔ t.val % 8 = 0)

abbrev ms0_0 (t : Fin cfg0.N) : Memref sig .tc .vmem S4096x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .f32 := win0_8.stage (cfg0.slots t 8)
abbrev hs0_8 (t : Fin cfg0.N) : (ms0_8 t).IsWhole := hstage0_8 ((cfg0.slots t 8).cast nbuf0_8)

set_option maxHeartbeats 1000000 in
/-- The body at the first key block of a pair, the three outputs at any contents before and after. -/
theorem runFirst (c : Dev nD) (i : grid0.Coords) (arg2 : Memref sig .tc .vmem S4096x256 .bf16) (harg2 : arg2.IsWhole) (arg3 : Memref sig .tc .vmem S4096x128 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S4096x256 .f32) (harg8 : arg8.IsWhole) (arg9 : Memref sig .tc .vmem S512x256 .f32) (harg9 : arg9.IsWhole) (arg10 : Memref sig .tc .vmem S512x128 .f32) (harg10 : arg10.IsWhole) (hc0 : isFirst i)
    (x0 : Vec F S4096x256 .bf16) (x1 : Vec F S4096x128 .bf16) (x2 : Vec F S4096x256 .f32) (x3 : Vec F S4096x256 .f32) (x4 : Vec F S512x256 .bf16) (x5 : Vec F S512x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_mla_attn_bwd i arg2 harg2 arg3 harg3 arg4 harg4 arg5 harg5 arg6 harg6 arg7 harg7 arg8 harg8 arg9 harg9 arg10 harg10) K := by
    intro E K
    simp only [cc0_mla_attn_bwd_eq_skeleton]; unfold cc0_mla_attn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

set_option maxHeartbeats 1000000 in
/-- The body at a later key block. -/
theorem runNext (c : Dev nD) (i : grid0.Coords) (arg2 : Memref sig .tc .vmem S4096x256 .bf16) (harg2 : arg2.IsWhole) (arg3 : Memref sig .tc .vmem S4096x128 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S4096x256 .f32) (harg8 : arg8.IsWhole) (arg9 : Memref sig .tc .vmem S512x256 .f32) (harg9 : arg9.IsWhole) (arg10 : Memref sig .tc .vmem S512x128 .f32) (harg10 : arg10.IsWhole) (hc0 : ¬isFirst i)
    (x0 : Vec F S4096x256 .bf16) (x1 : Vec F S4096x128 .bf16) (x2 : Vec F S4096x256 .f32) (x3 : Vec F S4096x256 .f32) (x4 : Vec F S512x256 .bf16) (x5 : Vec F S512x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_mla_attn_bwd i arg2 harg2 arg3 harg3 arg4 harg4 arg5 harg5 arg6 harg6 arg7 harg7 arg8 harg8 arg9 harg9 arg10 harg10) K := by
    intro E K
    simp only [cc0_mla_attn_bwd_eq_skeleton]; unfold cc0_mla_attn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

/-! ## The pipeline's data, the body's obligation and the launch -/

/-- The arguments end as they were, from a run of the pipeline. -/
theorem args_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 4 rfl).trans ((hA c 4).trans (V_main_arg1 m c)),
      (Pipeline.RDat.FramePost.arr_in h c 5 rfl).trans ((hA c 5).trans (V_main_arg2 m c)),
      (Pipeline.RDat.FramePost.arr_in h c 1 rfl).trans ((hA c 1).trans (V_main_arg3 m c))⟩) h

def forgets0 : Fin 9 → Bool := fun w => w.val == 6 || w.val == 7 || w.val == 8

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 32 := lt_of_lt_of_eq t.isLt (show cfg0.N = 32 from N_0)
  by_cases h0 : t.val % 8 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst c (grid0.coords t) _ _ _ _ _ _ _ _ _ _ _ _ _ _ _ _ _ _ ((isFirst_iff t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runNext c (grid0.coords t) _ _ _ _ _ _ _ _ _ _ _ _ _ _ _ _ _ _ (fun h => h0 ((isFirst_iff t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  args_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Body

end
-- ==== Proof.Tile.lean ====
module

public import proofs.«01_k».proof.Proof.Gen.KernelIdeal.Skeleton
public import Idealize.ShloMosaic.PureOps.Ideal.Laws
public import Idealize.ShloMosaic.PureOps.IdealRules
public import Idealize.ShloMosaic.Lib.Pointwise.Tactic
public import Idealize.ShloMosaic.Lib.Pointwise.Contract
public import Idealize.ShloMosaic.Lib.Pipeline.Value
public import Idealize.ShloMosaic.Lib.WordCmp

/-!
# One tile of the attention's backward pass

The kernel's body works on pairs of a block of 512 queries and a block of 512 keys. Here the values it computes on such a pair are
stated as functions of the blocks — the probabilities `prob`, the difference `gap` of the probabilities' gradient and the row's mean, the
scores' gradient `slope`, and the two kinds of products `rowsBy` (contracting the queries) and `by` (contracting the keys) — and every value
the body names is shown to be one of them.
-/

@[expose] public section

set_option maxRecDepth 16384

noncomputable section

namespace Cert.KernelIdeal.Tile

open Idealize.ShloMosaic Idealize.SL.Sem
open Cert.KernelIdeal Cert.KernelIdeal.Gen

/-- The softmax's scale, `96 ** -0.5` as the program's 32-bit literal. -/
def scale : EReal := Ideal.ofBits .f32 0x3DD105EC#32

/-- A 512-by-128 block and a 512-by-512 one of extended reals. -/
abbrev Blk : Type := (⟨2, ![512, 128]⟩ : Shape).Idx → EReal
abbrev Sq : Type := (⟨2, ![512, 512]⟩ : Shape).Idx → EReal

/-- A key's lane in a block whose 128 lanes repeat one number per row. -/
def lane (j : Fin 512) : Fin 128 := ⟨j.val % 128, Nat.mod_lt _ (by norm_num)⟩

/-- The products of the query rows and the key rows. -/
def inner (a b : Blk) : Sq := fun j => ∑ d : Fin 128, a (ix2 (j 0) d) * b (ix2 (j 1) d)

/-- The probabilities of a tile: with `m`, those of the keys after the query are masked. -/
def prob (m : Bool) (q k ls : Blk) : Sq := fun j =>
  Ideal.exp ((if m = true ∧ (j 0).val < (j 1).val then ⊥ else inner q k j * scale) - ls (ix2 (j 0) (lane (j 1))))

/-- The gradient of the probabilities less the row's mean. -/
def gap (o v dd : Blk) : Sq := fun j => inner o v j - dd (ix2 (j 0) (lane (j 1)))

/-- The gradient of the scores before the scale. -/
def slope (p g : Sq) : Sq := fun j => p j * g j * scale

/-- A square's product with a block, contracting the queries. -/
def rowsBy (a : Sq) (b : Blk) : Blk := fun j => ∑ r : Fin 512, a (ix2 r (j 0)) * b (ix2 r (j 1))

/-- A square's product with a block, contracting the keys. -/
def colsBy (a : Sq) (b : Blk) : Blk := fun j => ∑ r : Fin 512, a (ix2 (j 0) r) * b (ix2 r (j 1))

/-- A block kept in the lanes of head `h` of the two that share them, zero in the other 64. -/
def half (h : ℕ) (x : Blk) : Blk := fun j => if (j 1).val / 64 = h then x j else 0

theorem inner_eq {φ₁ φ₂ : FTy} (a : FVec Ideal S512x128 φ₁) (b : FVec Ideal S512x128 φ₂) :
    matmul dot_S512x128_S512x128_S512x512_1_1_0_0_n_n none a b (constant (F := Ideal) S512x512 .f32 0x00000000#32) = inner a b := by
  funext j
  simp only [pointwise]
  exact zero_add _

theorem rowsBy_eq {φ₁ φ₂ : FTy} (a : FVec Ideal S512x512 φ₁) (b : FVec Ideal S512x128 φ₂) :
    matmul dot_S512x512_S512x128_S512x128_0_0_1_1_n_n none a b (constant (F := Ideal) S512x128 .f32 0x00000000#32) = rowsBy a b := by
  funext j
  simp only [pointwise]
  exact zero_add _

theorem colsBy_eq {φ₁ φ₂ : FTy} (a : FVec Ideal S512x512 φ₁) (b : FVec Ideal S512x128 φ₂) :
    matmul dot_S512x512_S512x128_S512x128_1_0_0_1_n_n none a b (constant (F := Ideal) S512x128 .f32 0x00000000#32) = colsBy a b := by
  funext j
  simp only [pointwise]
  exact zero_add _

/-- Four copies of a block side by side, at an index. -/
theorem four_eq (x : Vec Ideal S512x128 .f32)
    (h : Shape.Concatenates (([⟨S512x128, x⟩, ⟨S512x128, x⟩, ⟨S512x128, x⟩, ⟨S512x128, x⟩] : List ((s : Shape) × (s.Idx → EReal))).map (·.1)) S512x512 1)
    (j : S512x512.Idx) :
    concatenate S512x512 1 [⟨S512x128, x⟩, ⟨S512x128, x⟩, ⟨S512x128, x⟩, ⟨S512x128, x⟩] h j = x (ix2 (n0 := 512) (n1 := 128) (j 0) (lane (j 1))) :=
  concatenate_replicate_apply (1 : Fin S512x512.rank) 4 x h rfl j (ix2 (n0 := 512) (n1 := 128) (j 0) (lane (j 1))) rfl (by
    intro b hb
    fin_cases b
    · rfl
    · exact absurd rfl hb)

theorem recast (x : Vec Ideal S512x128 .f32) : shapeCast S512x128 x shapeCasts_S512x128_S512x128 = x :=
  shapeCast_self _ _

theorem mask_eq : (Named.named κ "mask" 0xF149F2CA#32 : Ideal .f32) = (⊥ : EReal) :=
  IdealRules.named_const.ideal_named_scalar _ _ _ _ rfl

/-- Whether a lane belongs to the first of the two heads, and to the second. -/
theorem first_apply (j : S512x128.Idx) : k0_pay14 j = if (j 1).val / 64 = 0 then 1#1 else 0#1 := by
  have h := (j 1).isLt
  change (j 1).val < 128 at h
  unfold k0_pay14
  show IntOp.cmpi .slt (iota .tc S512x128 32 [1] iota_S512x128_d1_w32 j) (64#32) = _
  rw [iota_single_apply, show (64#32) = BitVec.ofNat 32 64 from rfl, WordCmp.cmpi_slt_ofNat (by omega) (by norm_num)]
  by_cases hl : (j 1).val < 64
  · rw [if_pos (by omega)]; simp [hl]
  · rw [if_neg (by omega)]; simp [hl]

theorem second_apply (j : S512x128.Idx) :
    k0_pay34 (iota .tc S512x128 32 [1] iota_S512x128_d1_w32) j = if (j 1).val / 64 = 1 then 1#1 else 0#1 := by
  have h := (j 1).isLt
  change (j 1).val < 128 at h
  unfold k0_pay34
  show IntOp.cmpi .sge (iota .tc S512x128 32 [1] iota_S512x128_d1_w32 j) (64#32) = _
  rw [iota_single_apply, show (64#32) = BitVec.ofNat 32 64 from rfl, WordCmp.cmpi_sge_ofNat (by omega) (by norm_num)]
  by_cases hl : 64 ≤ (j 1).val
  · rw [if_pos (by omega)]; simp [hl]
  · rw [if_neg (by omega)]; simp [hl]

/-- A selection on a lane's head keeps that head's half. -/
theorem half_of (h : ℕ) (c : IVec S512x128 1) (hc : ∀ j : S512x128.Idx, c j = if (j 1).val / 64 = h then 1#1 else 0#1) (x z : Blk)
    (hz : ∀ j, z j = 0) : select c x z = half h x := by
  funext j
  show Scalar.select (c j) (x j) (z j) = _
  rw [hc, hz]; unfold half
  split <;> rfl

theorem v_first (v : Vec Ideal S512x128 .bf16) : k0_pay15 v = half 0 v :=
  half_of 0 _ first_apply _ _ fun _ => Ideal.ofBits_zero_bf16

theorem v_second (v : Vec Ideal S512x128 .bf16) : k0_pay35 (iota .tc S512x128 32 [1] iota_S512x128_d1_w32) v = half 1 v :=
  half_of 1 _ second_apply _ _ fun _ => Ideal.ofBits_zero_bf16

/-- The masked scores of a tile whose queries and keys are the same block of positions. -/
theorem masked_eq (a : Sq) :
    select (cmpi .sge (iota .tc S512x512 32 [0] iota_S512x512_d0_w32) (iota .tc S512x512 32 [1] iota_S512x512_d1_w32)) a
      (broadcast S512x512 (Named.named κ "mask" 0xF149F2CA#32 : Ideal .f32)) = fun j => if (j 0).val < (j 1).val then ⊥ else a j := by
  funext j
  have h0 := (j 0).isLt
  have h1 := (j 1).isLt
  change (j 0).val < 512 at h0
  change (j 1).val < 512 at h1
  show Scalar.select (IntOp.cmpi .sge (iota .tc S512x512 32 [0] iota_S512x512_d0_w32 j) (iota .tc S512x512 32 [1] iota_S512x512_d1_w32 j))
    (a j) (Named.named κ "mask" 0xF149F2CA#32 : Ideal .f32) = _
  rw [iota_single_apply, iota_single_apply, WordCmp.cmpi_sge_ofNat (by omega) (by omega), mask_eq]
  by_cases hl : (j 0).val < (j 1).val
  · rw [if_pos hl, decide_eq_false (by omega)]; rfl
  · rw [if_neg hl, decide_eq_true (by omega)]; rfl

variable (k q o v : Vec Ideal S512x128 .bf16) (ls dd w acc : Vec Ideal S512x128 .f32) (p g : FVec Ideal S512x512 .f32)

/-! ### The tile on the diagonal, first head -/

theorem pay17_eq : k0_pay17 k q ls = prob true q k ls := by
  unfold k0_pay17
  dsimp only
  rw [inner_eq, masked_eq, recast]
  funext j
  show Ideal.exp ((if (j 0).val < (j 1).val then ⊥ else inner q k j * scale)
    - concatenate S512x512 1 [⟨S512x128, ls⟩, ⟨S512x128, ls⟩, ⟨S512x128, ls⟩, ⟨S512x128, ls⟩] _ j) = _
  rw [four_eq]; unfold prob
  simp only [true_and]

theorem pay18_eq : k0_pay18 v o dd = gap o (half 0 v) dd := by
  unfold k0_pay18
  dsimp only
  rw [v_first, inner_eq, recast]
  funext j
  show inner o (half 0 v) j - concatenate S512x512 1 [⟨S512x128, dd⟩, ⟨S512x128, dd⟩, ⟨S512x128, dd⟩, ⟨S512x128, dd⟩] _ j = _
  rw [four_eq]; rfl

theorem pay19_eq : k0_pay19 p g = slope p g := rfl

theorem pay20_eq : k0_pay20 acc o p = fun j => acc j + rowsBy p o j := by
  unfold k0_pay20; dsimp only; rw [rowsBy_eq]; rfl

theorem pay21_eq : k0_pay21 acc q p g = fun j => acc j + rowsBy (slope p g) q j := by
  unfold k0_pay21; dsimp only; rw [rowsBy_eq]; rfl

theorem pay22_eq : k0_pay22 k p g w = fun j => w j + colsBy (slope p g) k j := by
  unfold k0_pay22; dsimp only; rw [colsBy_eq, recast]; rfl

/-! ### The tiles below the diagonal, first head -/

theorem pay23_eq : k0_pay23 k q ls = prob false q k ls := by
  unfold k0_pay23
  dsimp only
  rw [inner_eq, recast]
  funext j
  show Ideal.exp (inner q k j * scale - concatenate S512x512 1 [⟨S512x128, ls⟩, ⟨S512x128, ls⟩, ⟨S512x128, ls⟩, ⟨S512x128, ls⟩] _ j) = _
  rw [four_eq]; unfold prob
  simp only [Bool.false_eq_true, false_and, if_false]

theorem pay24_eq : k0_pay24 k v q o ls dd = slope (prob false q k ls) (gap o v dd) := by
  unfold k0_pay24
  dsimp only
  rw [inner_eq, recast, pay23_eq]
  funext j
  show prob false q k ls j * (inner o v j - concatenate S512x512 1 [⟨S512x128, dd⟩, ⟨S512x128, dd⟩, ⟨S512x128, dd⟩, ⟨S512x128, dd⟩] _ j) * scale = _
  rw [four_eq]; rfl

theorem pay25_eq : k0_pay25 k acc q o ls = fun j => acc j + rowsBy (prob false q k ls) o j := by
  unfold k0_pay25; dsimp only; rw [rowsBy_eq, pay23_eq]; rfl

theorem pay26_eq : k0_pay26 k v acc q o ls dd = fun j => acc j + rowsBy (slope (prob false q k ls) (gap o v dd)) q j := by
  unfold k0_pay26; dsimp only; rw [rowsBy_eq, pay24_eq]; rfl

theorem pay27_eq : k0_pay27 k v q o ls dd w = fun j => w j + colsBy (slope (prob false q k ls) (gap o v dd)) k j := by
  unfold k0_pay27; dsimp only; rw [colsBy_eq, pay24_eq, recast]; rfl

/-! ### The second head -/

abbrev rowNo : IVec S512x512 32 := iota .tc S512x512 32 [0] iota_S512x512_d0_w32
abbrev colNo : IVec S512x512 32 := iota .tc S512x512 32 [1] iota_S512x512_d1_w32

theorem pay37_eq : k0_pay37 rowNo colNo k q ls = prob true q k ls := pay17_eq k q ls

theorem pay38_eq : k0_pay38 rowNo colNo k v q o ls dd = slope (prob true q k ls) (gap o v dd) := by
  unfold k0_pay38
  dsimp only
  rw [inner_eq, recast, pay37_eq]
  funext j
  show prob true q k ls j * (inner o v j - concatenate S512x512 1 [⟨S512x128, dd⟩, ⟨S512x128, dd⟩, ⟨S512x128, dd⟩, ⟨S512x128, dd⟩] _ j) * scale = _
  rw [four_eq]; rfl

theorem pay39_eq : k0_pay39 rowNo colNo k acc q o ls = fun j => acc j + rowsBy (prob true q k ls) o j := by
  unfold k0_pay39; dsimp only; rw [rowsBy_eq, pay37_eq]; rfl

theorem pay40_eq : k0_pay40 rowNo colNo k v acc q o ls dd = fun j => acc j + rowsBy (slope (prob true q k ls) (gap o v dd)) q j := by
  unfold k0_pay40; dsimp only; rw [rowsBy_eq, pay38_eq]; rfl

theorem pay41_eq : k0_pay41 rowNo colNo k v q o ls dd w = fun j => w j + colsBy (slope (prob true q k ls) (gap o v dd)) k j := by
  unfold k0_pay41; dsimp only; rw [colsBy_eq, pay38_eq, recast]; rfl

theorem pay3_eq : k0_pay3 k acc q o ls = fun j => acc j + rowsBy (prob false q k ls) o j := pay25_eq k q o ls acc

theorem pay4_eq : k0_pay4 k v acc q o ls dd = fun j => acc j + rowsBy (slope (prob false q k ls) (gap o v dd)) q j := pay26_eq k q o v ls dd acc

theorem pay5_eq : k0_pay5 k v q o ls dd w = fun j => w j + colsBy (slope (prob false q k ls) (gap o v dd)) k j := pay27_eq k q o v ls dd w

/-! ### The gradient of the values -/

theorem pay33_eq : k0_pay33 (F := Ideal) acc k0_pay14 w = fun j => acc j + half 0 w j := by
  unfold k0_pay33; dsimp only
  rw [half_of 0 _ first_apply w (broadcast S512x128 (FloatOps.ofBits (F := Ideal) .f32 0x00000000#32)) fun _ => Ideal.ofBits_zero_f32]; rfl

theorem pay11_eq : k0_pay11 (F := Ideal) acc (k0_pay34 (iota .tc S512x128 32 [1] iota_S512x128_d1_w32)) w = fun j => acc j + half 1 w j := by
  unfold k0_pay11; dsimp only
  rw [half_of 1 _ second_apply w (broadcast S512x128 (FloatOps.ofBits (F := Ideal) .f32 0x00000000#32)) fun _ => Ideal.ofBits_zero_f32]; rfl

theorem pay12_apply (j : S4096x256.Idx) : k0_pay12 (F := Ideal) j = 0 := Ideal.ofBits_zero_f32
theorem pay13_apply (j : S512x128.Idx) : k0_pay13 (F := Ideal) j = 0 := Ideal.ofBits_zero_f32
theorem pay16_apply (j : S512x128.Idx) : k0_pay16 (F := Ideal) j = 0 := Ideal.ofBits_zero_f32
theorem pay36_apply (j : S512x128.Idx) : k0_pay36 (F := Ideal) j = 0 := Ideal.ofBits_zero_f32

end Cert.KernelIdeal.Tile

end
-- ==== Proof.Store.lean ====
module

public import proofs.«01_k».proof.Proof.Tile
public import Idealize.ShloMosaic.Lib.Pipeline.FrameBody
public import Idealize.ShloMosaic.Lib.Writes

/-!
# Reading and adding to parts of a buffer

A load of a 512-by-128 part of a buffer reads the buffer's contents there (`blkAt`), and a store that adds a block to a part of the
gradient of the queries adds that block's numbers there and zero elsewhere (`spread`).
-/

@[expose] public section

set_option maxRecDepth 16384

noncomputable section

namespace Cert.KernelIdeal.Tile

open Idealize.ShloMosaic Idealize.SL.Sem
open Cert.KernelIdeal Cert.KernelIdeal.Gen

/-- An array of two axes at a row and a column given as numbers. -/
def at2 {α : Type} {n m : ℕ} [NeZero n] [NeZero m] (x : (⟨2, ![n, m]⟩ : Shape).Idx → α) (r l : ℕ) : α :=
  x (ix2 (Fin.ofNat n r) (Fin.ofNat m l))

theorem at2_coords {α : Type} {n m : ℕ} [NeZero n] [NeZero m] (x : (⟨2, ![n, m]⟩ : Shape).Idx → α) (j : (⟨2, ![n, m]⟩ : Shape).Idx) (r l : ℕ)
    (hr : (j 0).val = r) (hl : (j 1).val = l) : x j = at2 x r l := by
  subst hr hl
  unfold at2
  congr 1
  rw [eq_ix2 j]
  congr 1
  · exact Fin.ext (Nat.mod_eq_of_lt (j 0).isLt).symm
  · exact Fin.ext (Nat.mod_eq_of_lt (j 1).isLt).symm

/-- The 512-by-128 part of an array that starts at a row and a column. -/
def blkAt {α : Type} {n m : ℕ} [NeZero n] [NeZero m] (x : (⟨2, ![n, m]⟩ : Shape).Idx → α) (r l : ℕ) : (⟨2, ![512, 128]⟩ : Shape).Idx → α :=
  fun j => at2 x (r + (j 0).val) (l + (j 1).val)

/-- A block's numbers in rows `512 n …` and the 128 columns of head `h`; zero elsewhere. -/
def spread (n h : ℕ) (C : Blk) : (⟨2, ![4096, 256]⟩ : Shape).Idx → EReal := fun y =>
  if (y 0).val / 512 = n ∧ (y 1).val / 128 = h then at2 C ((y 0).val % 512) ((y 1).val % 128) else 0

theorem readAt_blk {κ : Kind} {sp : Space} {e : EltTy} {n m : ℕ} [NeZero n] [NeZero m] (v : View sig κ sp ⟨2, ![n, m]⟩ e)
    (off : Fin 2 → ℕ) (inb : ∀ a, off a + S512x128.size a ≤ (⟨2, ![n, m]⟩ : Shape).size a) (f : v.ty.Contents (Elt Ideal)) :
    v.readAt (Elt Ideal) (Rect.unit (s := ⟨2, ![n, m]⟩) off S512x128.size inb).toLoadRect f = blkAt (v.read (Elt Ideal) f) (off 0) (off 1) := by
  funext j
  rw [View.readAt_eq_ld]
  refine at2_coords (n := n) (m := m) _ _ _ _ ?_ ?_
  · show off 0 + 1 * (j 0).val = _; omega
  · show off 1 + 1 * (j 1).val = _; omega

/-- A store that adds a block to one part of the buffer. -/
theorem read_add {κ : Kind} {sp : Space} (v : View sig κ sp S4096x256 .f32) (f : v.ty.Contents (Elt Ideal)) (L : List (View.Piece (Elt Ideal) S4096x256 .f32))
    (off : Fin 2 → ℕ) (inb : ∀ a, off a + S512x128.size a ≤ S4096x256.size a) (n h : ℕ) (h0 : off 0 = 512 * n) (h1 : off 1 = 128 * h)
    (w C : Blk) (hw : ∀ j : (⟨2, ![512, 128]⟩ : Shape).Idx, w j = blkAt (v.read (Elt Ideal) (v.writes (Elt Ideal) f L)) (512 * n) (128 * h) j + C j) (y : S4096x256.Idx) :
    v.read (Elt Ideal) (v.writes (Elt Ideal) f (⟨Rect.unit (s := S4096x256) off S512x128.size inb, w⟩ :: L)) y
      = v.read (Elt Ideal) (v.writes (Elt Ideal) f L) y + spread n h C y := by
  have e0 := h0
  by_cases hy : y ∈ (Rect.unit (s := S4096x256) off S512x128.size inb).set
  · obtain ⟨x, rfl⟩ := (Rect.unit (s := S4096x256) off S512x128.size inb).exists_idx_of_mem hy
    refine Eq.trans (View.read_writes_cons_emb v f (Rect.unit (s := S4096x256) off S512x128.size inb) w L x) ?_
    have hx0 : (x 0).val < 512 := (x 0).isLt
    have hx1 : (x 1).val < 128 := (x 1).isLt
    have c0 : (((Rect.unit (s := S4096x256) off S512x128.size inb).idx x) 0).val = 512 * n + (x 0).val := by
      show off 0 + 1 * (x 0).val = _; omega
    have c1 : (((Rect.unit (s := S4096x256) off S512x128.size inb).idx x) 1).val = 128 * h + (x 1).val := by
      show off 1 + 1 * (x 1).val = _; omega
    rw [hw x]
    congr 1
    · exact (at2_coords _ _ _ _ c0 c1).symm
    · unfold spread
      rw [if_pos ⟨by rw [c0]; omega, by rw [c1]; omega⟩]
      exact at2_coords C x _ _ (by rw [c0]; omega) (by rw [c1]; omega)
  · rw [View.writes_cons, View.read_slice_write_of_not_mem _ _ _ _ (by rw [Rect.map_emb_univ]; exact hy)]
    have : spread n h C y = 0 := by
      unfold spread
      rw [if_neg]
      rintro ⟨a, b⟩
      refine hy ?_
      rw [Rect.mem_set_unit]
      intro d
      fin_cases d
      · show off 0 ≤ (y 0).val ∧ (y 0).val < off 0 + 512
        omega
      · show off 1 ≤ (y 1).val ∧ (y 1).val < off 1 + 128
        omega
    rw [this]
    exact (add_zero (M := EReal) _).symm

/-! ### Trips and offsets, as numbers -/

theorem trips1 (i : grid0.Coords) : (k0_t1_loop i).trips = 7 - (i 1).val := by
  have h : ∀ n : Fin 8, Scf.trips (Scalar.addi (BitVec.ofNat 32 n.val) 1#32) (Scalar.addi (Scalar.addi (BitVec.ofNat 32 n.val) 1#32)
    (Scalar.muli (Scalar.divsi (Scalar.subi (8#32) (Scalar.addi (BitVec.ofNat 32 n.val) 1#32)) 1#32) 1#32)) 1#32 = 7 - n.val := by decide +kernel
  exact h (i 1)

theorem trips2 (i : grid0.Coords) : (k0_t2_loop i).trips = 0 := by
  have h : ∀ n : Fin 8, Scf.trips (Scalar.addi (Scalar.addi (BitVec.ofNat 32 n.val) 1#32)
    (Scalar.muli (Scalar.divsi (Scalar.subi (8#32) (Scalar.addi (BitVec.ofNat 32 n.val) 1#32)) 1#32) 1#32))
    (Scalar.addi (Scalar.addi (BitVec.ofNat 32 n.val) 1#32) (Scalar.subi (8#32) (Scalar.addi (BitVec.ofNat 32 n.val) 1#32))) 1#32 = 0 := by decide +kernel
  exact h (i 1)

theorem trips3 (i : grid0.Coords) : (k0_t3_loop i).trips = 7 - (i 1).val := trips1 i
theorem trips4 (i : grid0.Coords) : (k0_t4_loop i).trips = 0 := trips2 i

theorem off1_row (i : grid0.Coords) : k0_off1 i 0 = 512 * (i 1).val := by
  have h : ∀ n : Fin 8, (Scalar.indexCast (Scalar.muli (BitVec.ofNat 32 n.val) 512#32)).toNat = 512 * n.val := by decide +kernel
  exact h (i 1)

theorem off3_row (i : grid0.Coords) (k : Fin (k0_t1_loop i).trips) : k0_off3 i k 0 = 512 * ((i 1).val + 1 + k.val) := by
  have h : ∀ (n : Fin 8) (k : Fin 7), n.val + k.val < 7 → (Scalar.indexCast (Scalar.muli (Scf.iv (Scalar.addi (BitVec.ofNat 32 n.val) 1#32) 1#32 k.val) 512#32)).toNat
      = 512 * (n.val + 1 + k.val) := by decide +kernel
  have hk := k.isLt
  have ht := trips1 i
  have hi : (i 1).val < 8 := (i 1).isLt
  exact h (i 1) ⟨k.val, by omega⟩ (by show (i 1).val + k.val < 7; omega)

end Cert.KernelIdeal.Tile

end
-- ==== Proof.Trips.lean ====
module

public import proofs.«01_k».proof.Proof.Store
public import proofs.«01_k».proof.Proof.Gen.KernelIdeal.Loops

/-!
# The loops over the query blocks below the diagonal

For each of the two heads of a grid point a counted loop visits the blocks of queries after the block of keys. A trip adds the tile's products to the
two carried gradients (of the keys and of the values) and to its rows of the gradient of the queries. Here each loop's trip is read as a
value, and then, by induction, what the loop has added after any number of trips.
-/

@[expose] public section

set_option maxRecDepth 16384

noncomputable section

namespace Cert.KernelIdeal.Tile

open Idealize.ShloMosaic Idealize.ShloMosaic.TcCoe Idealize.SL.Sem
open Cert.KernelIdeal Cert.KernelIdeal.Gen

/-- The arrays of extended reals the tiles are cut from: 256 columns (two heads of 128), and 128 columns (two heads of 64). -/
abbrev Wide : Type := (⟨2, ![4096, 256]⟩ : Shape).Idx → EReal
abbrev Narrow : Type := (⟨2, ![4096, 128]⟩ : Shape).Idx → EReal

/-- The probabilities of head `h`'s queries of block `n` at the keys `k`. -/
def tileP (m : Bool) (X0 X2 : Wide) (k : Blk) (h n : ℕ) : Sq := prob m (blkAt X0 (512 * n) (128 * h)) k (blkAt X2 (512 * n) (128 * h))

/-- The scores' gradient of head `h`'s queries of block `n` at the keys `k` with the values `v`. -/
def tileS (m : Bool) (X0 : Wide) (X1 : Narrow) (X2 X3 : Wide) (k v : Blk) (h n : ℕ) : Sq :=
  slope (tileP m X0 X2 k h n) (gap (blkAt X1 (512 * n) 0) v (blkAt X3 (512 * n) (128 * h)))

/-- What a tile adds to the keys' gradient, to the values' and, in its rows, to the queries'. -/
def addK (m : Bool) (X0 : Wide) (X1 : Narrow) (X2 X3 : Wide) (k v : Blk) (h n : ℕ) : Blk := rowsBy (tileS m X0 X1 X2 X3 k v h n) (blkAt X0 (512 * n) (128 * h))
def addV (m : Bool) (X0 : Wide) (X1 : Narrow) (X2 : Wide) (k : Blk) (h n : ℕ) : Blk := rowsBy (tileP m X0 X2 k h n) (blkAt X1 (512 * n) 0)
def addQ (m : Bool) (X0 : Wide) (X1 : Narrow) (X2 X3 : Wide) (k v : Blk) (h n : ℕ) : Blk := colsBy (tileS m X0 X1 X2 X3 k v h n) k

theorem off7_row (i : grid0.Coords) : k0_off7 i 0 = 512 * (i 1).val := off1_row i
theorem off2_row (i : grid0.Coords) : k0_off2 i 0 = 512 * (i 1).val := off1_row i
theorem off4_row (i : grid0.Coords) (k : Fin (k0_t1_loop i).trips) : k0_off4 i k 0 = 512 * ((i 1).val + 1 + k.val) := off3_row i k
theorem off8_row (i : grid0.Coords) (k : Fin (k0_t3_loop i).trips) : k0_off8 i k 0 = 512 * ((i 1).val + 1 + k.val) := off3_row i k
theorem off9_row (i : grid0.Coords) (k : Fin (k0_t3_loop i).trips) : k0_off9 i k 0 = 512 * ((i 1).val + 1 + k.val) := off3_row i k

section

variable (𝒱 : Variants) (c : Dev nD) (bd : Option 𝒱.V) (i : grid0.Coords) (arg2 : Memref sig .tc .vmem S4096x256 .bf16) (harg2 : arg2.IsWhole) (arg3 : Memref sig .tc .vmem S4096x128 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S4096x256 .f32) (harg8 : arg8.IsWhole) (arg9 : Memref sig .tc .vmem S512x256 .f32) (harg9 : arg9.IsWhole) (arg10 : Memref sig .tc .vmem S512x128 .f32) (harg10 : arg10.IsWhole) (arg1 : BitVec 32) (v3 : IVec S512x128 32) (v6 : FVec Ideal S512x128 .f32) (v8 : IVec S512x128 1) (v9 : Vec Ideal S512x128 .bf16) (v12 : Vec Ideal S512x128 .bf16) (v13 : FVec Ideal S512x128 .f32) (v15 : BitVec 32) (v17 : Vec Ideal S512x128 .bf16) (v19 : Vec Ideal S512x128 .bf16) (v35 : FVec Ideal S512x512 .f32) (v37 : FVec Ideal S512x512 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)

theorem pieces1 (k : Fin (k0_t1_loop i).trips) (acc : FVec Ideal S512x128 .f32 × FVec Ideal S512x128 .f32) (f_arg8 : BufTy.Contents (Elt Ideal) arg8.view.ty) :
    tripL_k0_t1 (F := Ideal) 𝒱 c bd i arg2 harg2 arg3 harg3 arg4 harg4 arg5 harg5 arg6 harg6 arg7 harg7 arg8 harg8 arg9 harg9 arg10 harg10 arg1 v3 v6 v8 v9 v12 v13 v15 v17 v19 v35 v37 X_arg2 X_arg3 X_arg4 X_arg5 k acc f_arg8
      = [⟨Rect.unit (s := S4096x256) (k0_off3 i k) S512x128.size (k0_off3_inb i k), fun j : (⟨2, ![512, 128]⟩ : Shape).Idx => blkAt (arg8.view.read (Elt Ideal) f_arg8) (512 * ((i 1).val + 1 + k.val)) (128 * 0) j
          + addQ false (arg2.view.read (Elt Ideal) X_arg2) (arg3.view.read (Elt Ideal) X_arg3) (arg4.view.read (Elt Ideal) X_arg4) (arg5.view.read (Elt Ideal) X_arg5) v9 v12 0 ((i 1).val + 1 + k.val) j⟩] := by
  have e : tripL_k0_t1 (F := Ideal) 𝒱 c bd i arg2 harg2 arg3 harg3 arg4 harg4 arg5 harg5 arg6 harg6 arg7 harg7 arg8 harg8 arg9 harg9 arg10 harg10 arg1 v3 v6 v8 v9 v12 v13 v15 v17 v19 v35 v37 X_arg2 X_arg3 X_arg4 X_arg5 k acc f_arg8
      = [⟨Rect.unit (s := S4096x256) (k0_off3 i k) S512x128.size (k0_off3_inb i k), k0_pay27 v9 v12 (arg2.view.readAt (Elt Ideal) (Rect.unit (s := S4096x256) (k0_off3 i k) S512x128.size (k0_off3_inb i k)).toLoadRect X_arg2)
          (arg3.view.readAt (Elt Ideal) (Rect.unit (s := S4096x128) (k0_off4 i k) S512x128.size (k0_off4_inb i k)).toLoadRect X_arg3) (arg4.view.readAt (Elt Ideal) (Rect.unit (s := S4096x256) (k0_off3 i k) S512x128.size (k0_off3_inb i k)).toLoadRect X_arg4)
          (arg5.view.readAt (Elt Ideal) (Rect.unit (s := S4096x256) (k0_off3 i k) S512x128.size (k0_off3_inb i k)).toLoadRect X_arg5) (arg8.view.readAt (Elt Ideal) (Rect.unit (s := S4096x256) (k0_off3 i k) S512x128.size (k0_off3_inb i k)).toLoadRect f_arg8)⟩] := by
    unfold tripL_k0_t1 trip_k0_t1; rfl
  rw [e, pay27_eq, readAt_blk, readAt_blk, readAt_blk, readAt_blk, readAt_blk, off3_row, off4_row]
  rfl

theorem result1 (k : Fin (k0_t1_loop i).trips) (acc : FVec Ideal S512x128 .f32 × FVec Ideal S512x128 .f32) (f_arg8 : BufTy.Contents (Elt Ideal) arg8.view.ty) :
    tripR_k0_t1 (F := Ideal) 𝒱 c bd i arg2 harg2 arg3 harg3 arg4 harg4 arg5 harg5 arg6 harg6 arg7 harg7 arg8 harg8 arg9 harg9 arg10 harg10 arg1 v3 v6 v8 v9 v12 v13 v15 v17 v19 v35 v37 X_arg2 X_arg3 X_arg4 X_arg5 k acc f_arg8
      = (fun j => acc.1 j + addK false (arg2.view.read (Elt Ideal) X_arg2) (arg3.view.read (Elt Ideal) X_arg3) (arg4.view.read (Elt Ideal) X_arg4) (arg5.view.read (Elt Ideal) X_arg5) v9 v12 0 ((i 1).val + 1 + k.val) j,
         fun j => acc.2 j + addV false (arg2.view.read (Elt Ideal) X_arg2) (arg3.view.read (Elt Ideal) X_arg3) (arg4.view.read (Elt Ideal) X_arg4) v9 0 ((i 1).val + 1 + k.val) j) := by
  have e : tripR_k0_t1 (F := Ideal) 𝒱 c bd i arg2 harg2 arg3 harg3 arg4 harg4 arg5 harg5 arg6 harg6 arg7 harg7 arg8 harg8 arg9 harg9 arg10 harg10 arg1 v3 v6 v8 v9 v12 v13 v15 v17 v19 v35 v37 X_arg2 X_arg3 X_arg4 X_arg5 k acc f_arg8
      = (k0_pay26 v9 v12 acc.1 (arg2.view.readAt (Elt Ideal) (Rect.unit (s := S4096x256) (k0_off3 i k) S512x128.size (k0_off3_inb i k)).toLoadRect X_arg2)
          (arg3.view.readAt (Elt Ideal) (Rect.unit (s := S4096x128) (k0_off4 i k) S512x128.size (k0_off4_inb i k)).toLoadRect X_arg3) (arg4.view.readAt (Elt Ideal) (Rect.unit (s := S4096x256) (k0_off3 i k) S512x128.size (k0_off3_inb i k)).toLoadRect X_arg4)
          (arg5.view.readAt (Elt Ideal) (Rect.unit (s := S4096x256) (k0_off3 i k) S512x128.size (k0_off3_inb i k)).toLoadRect X_arg5),
         k0_pay25 v9 acc.2 (arg2.view.readAt (Elt Ideal) (Rect.unit (s := S4096x256) (k0_off3 i k) S512x128.size (k0_off3_inb i k)).toLoadRect X_arg2)
          (arg3.view.readAt (Elt Ideal) (Rect.unit (s := S4096x128) (k0_off4 i k) S512x128.size (k0_off4_inb i k)).toLoadRect X_arg3) (arg4.view.readAt (Elt Ideal) (Rect.unit (s := S4096x256) (k0_off3 i k) S512x128.size (k0_off3_inb i k)).toLoadRect X_arg4)) := by
    unfold tripR_k0_t1 trip_k0_t1; rfl
  rw [e, pay26_eq, pay25_eq, readAt_blk, readAt_blk, readAt_blk, readAt_blk, off3_row, off4_row]
  rfl

/-- What the loop of head 0 has added before trip `k`. -/
theorem loop1 (G_arg8 : BufTy.Contents (Elt Ideal) arg8.view.ty) (init : FVec Ideal S512x128 .f32 × FVec Ideal S512x128 .f32) (k : ℕ) (hk : k ≤ (k0_t1_loop i).trips) :
    (∀ j, (st_k0_t1 (F := Ideal) 𝒱 c bd i arg2 harg2 arg3 harg3 arg4 harg4 arg5 harg5 arg6 harg6 arg7 harg7 arg8 harg8 arg9 harg9 arg10 harg10 arg1 v3 v6 v8 v9 v12 v13 v15 v17 v19 v35 v37 X_arg2 X_arg3 X_arg4 X_arg5 G_arg8 init k).1.1 j
      = init.1 j + ∑ b ∈ Finset.range k, addK false (arg2.view.read (Elt Ideal) X_arg2) (arg3.view.read (Elt Ideal) X_arg3) (arg4.view.read (Elt Ideal) X_arg4) (arg5.view.read (Elt Ideal) X_arg5) v9 v12 0 ((i 1).val + 1 + b) j)
    ∧ (∀ j, (st_k0_t1 (F := Ideal) 𝒱 c bd i arg2 harg2 arg3 harg3 arg4 harg4 arg5 harg5 arg6 harg6 arg7 harg7 arg8 harg8 arg9 harg9 arg10 harg10 arg1 v3 v6 v8 v9 v12 v13 v15 v17 v19 v35 v37 X_arg2 X_arg3 X_arg4 X_arg5 G_arg8 init k).1.2 j
      = init.2 j + ∑ b ∈ Finset.range k, addV false (arg2.view.read (Elt Ideal) X_arg2) (arg3.view.read (Elt Ideal) X_arg3) (arg4.view.read (Elt Ideal) X_arg4) v9 0 ((i 1).val + 1 + b) j)
    ∧ ∀ y, arg8.view.read (Elt Ideal) (arg8.view.writes (Elt Ideal) G_arg8 (st_k0_t1 (F := Ideal) 𝒱 c bd i arg2 harg2 arg3 harg3 arg4 harg4 arg5 harg5 arg6 harg6 arg7 harg7 arg8 harg8 arg9 harg9 arg10 harg10 arg1 v3 v6 v8 v9 v12 v13 v15 v17 v19 v35 v37 X_arg2 X_arg3 X_arg4 X_arg5 G_arg8 init k).2) y
      = arg8.view.read (Elt Ideal) G_arg8 y + ∑ b ∈ Finset.range k, spread ((i 1).val + 1 + b) 0 (addQ false (arg2.view.read (Elt Ideal) X_arg2) (arg3.view.read (Elt Ideal) X_arg3) (arg4.view.read (Elt Ideal) X_arg4) (arg5.view.read (Elt Ideal) X_arg5) v9 v12 0 ((i 1).val + 1 + b)) y := by
  induction k with
  | zero =>
    refine ⟨fun j => ?_, fun j => ?_, fun y => ?_⟩ <;>
      · rw [Finset.range_zero, Finset.sum_empty]; exact (add_zero (M := EReal) _).symm
  | succ k ih =>
    obtain ⟨ih1, ih2, ih3⟩ := ih (by omega)
    have hs := st_k0_t1_succ (F := Ideal) 𝒱 c bd i arg2 harg2 arg3 harg3 arg4 harg4 arg5 harg5 arg6 harg6 arg7 harg7 arg8 harg8 arg9 harg9 arg10 harg10 arg1 v3 v6 v8 v9 v12 v13 v15 v17 v19 v35 v37 X_arg2 X_arg3 X_arg4 X_arg5 G_arg8 init ⟨k, by omega⟩
    rw [result1, pieces1] at hs
    rw [show (st_k0_t1 (F := Ideal) 𝒱 c bd i arg2 harg2 arg3 harg3 arg4 harg4 arg5 harg5 arg6 harg6 arg7 harg7 arg8 harg8 arg9 harg9 arg10 harg10 arg1 v3 v6 v8 v9 v12 v13 v15 v17 v19 v35 v37 X_arg2 X_arg3 X_arg4 X_arg5 G_arg8 init (k + 1)) = _ from hs]
    refine ⟨fun j => ?_, fun j => ?_, fun y => ?_⟩
    · rw [Finset.sum_range_succ, ← add_assoc, ← ih1]
    · rw [Finset.sum_range_succ, ← add_assoc, ← ih2]
    · rw [Finset.sum_range_succ, ← add_assoc, ← ih3]
      exact read_add arg8.view G_arg8 _ (k0_off3 i ⟨k, by omega⟩) (k0_off3_inb i ⟨k, by omega⟩) ((i 1).val + 1 + k) 0 (off3_row i ⟨k, by omega⟩) rfl _
        (addQ false (arg2.view.read (Elt Ideal) X_arg2) (arg3.view.read (Elt Ideal) X_arg3) (arg4.view.read (Elt Ideal) X_arg4) (arg5.view.read (Elt Ideal) X_arg5) v9 v12 0 ((i 1).val + 1 + k)) (fun j => rfl) y

end

section

variable (𝒱 : Variants) (c : Dev nD) (bd : Option 𝒱.V) (i : grid0.Coords) (arg2 : Memref sig .tc .vmem S4096x256 .bf16) (harg2 : arg2.IsWhole) (arg3 : Memref sig .tc .vmem S4096x128 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S4096x256 .f32) (harg8 : arg8.IsWhole) (arg9 : Memref sig .tc .vmem S512x256 .f32) (harg9 : arg9.IsWhole) (arg10 : Memref sig .tc .vmem S512x128 .f32) (harg10 : arg10.IsWhole) (v68 : Vec Ideal S512x128 .bf16) (v71 : Vec Ideal S512x128 .bf16) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)

theorem pieces3 (k : Fin (k0_t3_loop i).trips) (acc : FVec Ideal S512x128 .f32 × FVec Ideal S512x128 .f32) (f_arg8 : BufTy.Contents (Elt Ideal) arg8.view.ty) :
    tripL_k0_t3 (F := Ideal) 𝒱 c bd i arg2 harg2 arg3 harg3 arg4 harg4 arg5 harg5 arg6 harg6 arg7 harg7 arg8 harg8 arg9 harg9 arg10 harg10 v68 v71 X_arg2 X_arg3 X_arg4 X_arg5 k acc f_arg8
      = [⟨Rect.unit (s := S4096x256) (k0_off8 i k) S512x128.size (k0_off8_inb i k), fun j : (⟨2, ![512, 128]⟩ : Shape).Idx => blkAt (arg8.view.read (Elt Ideal) f_arg8) (512 * ((i 1).val + 1 + k.val)) (128 * 1) j
          + addQ false (arg2.view.read (Elt Ideal) X_arg2) (arg3.view.read (Elt Ideal) X_arg3) (arg4.view.read (Elt Ideal) X_arg4) (arg5.view.read (Elt Ideal) X_arg5) v68 v71 1 ((i 1).val + 1 + k.val) j⟩] := by
  have e : tripL_k0_t3 (F := Ideal) 𝒱 c bd i arg2 harg2 arg3 harg3 arg4 harg4 arg5 harg5 arg6 harg6 arg7 harg7 arg8 harg8 arg9 harg9 arg10 harg10 v68 v71 X_arg2 X_arg3 X_arg4 X_arg5 k acc f_arg8
      = [⟨Rect.unit (s := S4096x256) (k0_off8 i k) S512x128.size (k0_off8_inb i k), k0_pay5 v68 v71 (arg2.view.readAt (Elt Ideal) (Rect.unit (s := S4096x256) (k0_off8 i k) S512x128.size (k0_off8_inb i k)).toLoadRect X_arg2)
          (arg3.view.readAt (Elt Ideal) (Rect.unit (s := S4096x128) (k0_off9 i k) S512x128.size (k0_off9_inb i k)).toLoadRect X_arg3) (arg4.view.readAt (Elt Ideal) (Rect.unit (s := S4096x256) (k0_off8 i k) S512x128.size (k0_off8_inb i k)).toLoadRect X_arg4)
          (arg5.view.readAt (Elt Ideal) (Rect.unit (s := S4096x256) (k0_off8 i k) S512x128.size (k0_off8_inb i k)).toLoadRect X_arg5) (arg8.view.readAt (Elt Ideal) (Rect.unit (s := S4096x256) (k0_off8 i k) S512x128.size (k0_off8_inb i k)).toLoadRect f_arg8)⟩] := by
    unfold tripL_k0_t3 trip_k0_t3; rfl
  rw [e, pay5_eq, readAt_blk, readAt_blk, readAt_blk, readAt_blk, readAt_blk, off8_row, off9_row]
  rfl

theorem result3 (k : Fin (k0_t3_loop i).trips) (acc : FVec Ideal S512x128 .f32 × FVec Ideal S512x128 .f32) (f_arg8 : BufTy.Contents (Elt Ideal) arg8.view.ty) :
    tripR_k0_t3 (F := Ideal) 𝒱 c bd i arg2 harg2 arg3 harg3 arg4 harg4 arg5 harg5 arg6 harg6 arg7 harg7 arg8 harg8 arg9 harg9 arg10 harg10 v68 v71 X_arg2 X_arg3 X_arg4 X_arg5 k acc f_arg8
      = (fun j => acc.1 j + addK false (arg2.view.read (Elt Ideal) X_arg2) (arg3.view.read (Elt Ideal) X_arg3) (arg4.view.read (Elt Ideal) X_arg4) (arg5.view.read (Elt Ideal) X_arg5) v68 v71 1 ((i 1).val + 1 + k.val) j,
         fun j => acc.2 j + addV false (arg2.view.read (Elt Ideal) X_arg2) (arg3.view.read (Elt Ideal) X_arg3) (arg4.view.read (Elt Ideal) X_arg4) v68 1 ((i 1).val + 1 + k.val) j) := by
  have e : tripR_k0_t3 (F := Ideal) 𝒱 c bd i arg2 harg2 arg3 harg3 arg4 harg4 arg5 harg5 arg6 harg6 arg7 harg7 arg8 harg8 arg9 harg9 arg10 harg10 v68 v71 X_arg2 X_arg3 X_arg4 X_arg5 k acc f_arg8
      = (k0_pay4 v68 v71 acc.1 (arg2.view.readAt (Elt Ideal) (Rect.unit (s := S4096x256) (k0_off8 i k) S512x128.size (k0_off8_inb i k)).toLoadRect X_arg2)
          (arg3.view.readAt (Elt Ideal) (Rect.unit (s := S4096x128) (k0_off9 i k) S512x128.size (k0_off9_inb i k)).toLoadRect X_arg3) (arg4.view.readAt (Elt Ideal) (Rect.unit (s := S4096x256) (k0_off8 i k) S512x128.size (k0_off8_inb i k)).toLoadRect X_arg4)
          (arg5.view.readAt (Elt Ideal) (Rect.unit (s := S4096x256) (k0_off8 i k) S512x128.size (k0_off8_inb i k)).toLoadRect X_arg5),
         k0_pay3 v68 acc.2 (arg2.view.readAt (Elt Ideal) (Rect.unit (s := S4096x256) (k0_off8 i k) S512x128.size (k0_off8_inb i k)).toLoadRect X_arg2)
          (arg3.view.readAt (Elt Ideal) (Rect.unit (s := S4096x128) (k0_off9 i k) S512x128.size (k0_off9_inb i k)).toLoadRect X_arg3) (arg4.view.readAt (Elt Ideal) (Rect.unit (s := S4096x256) (k0_off8 i k) S512x128.size (k0_off8_inb i k)).toLoadRect X_arg4)) := by
    unfold tripR_k0_t3 trip_k0_t3; rfl
  rw [e, pay4_eq, pay3_eq, readAt_blk, readAt_blk, readAt_blk, readAt_blk, off8_row, off9_row]
  rfl

/-- What the loop of head 1 has added before trip `k`. -/
theorem loop3 (G_arg8 : BufTy.Contents (Elt Ideal) arg8.view.ty) (init : FVec Ideal S512x128 .f32 × FVec Ideal S512x128 .f32) (k : ℕ) (hk : k ≤ (k0_t3_loop i).trips) :
    (∀ j, (st_k0_t3 (F := Ideal) 𝒱 c bd i arg2 harg2 arg3 harg3 arg4 harg4 arg5 harg5 arg6 harg6 arg7 harg7 arg8 harg8 arg9 harg9 arg10 harg10 v68 v71 X_arg2 X_arg3 X_arg4 X_arg5 G_arg8 init k).1.1 j
      = init.1 j + ∑ b ∈ Finset.range k, addK false (arg2.view.read (Elt Ideal) X_arg2) (arg3.view.read (Elt Ideal) X_arg3) (arg4.view.read (Elt Ideal) X_arg4) (arg5.view.read (Elt Ideal) X_arg5) v68 v71 1 ((i 1).val + 1 + b) j)
    ∧ (∀ j, (st_k0_t3 (F := Ideal) 𝒱 c bd i arg2 harg2 arg3 harg3 arg4 harg4 arg5 harg5 arg6 harg6 arg7 harg7 arg8 harg8 arg9 harg9 arg10 harg10 v68 v71 X_arg2 X_arg3 X_arg4 X_arg5 G_arg8 init k).1.2 j
      = init.2 j + ∑ b ∈ Finset.range k, addV false (arg2.view.read (Elt Ideal) X_arg2) (arg3.view.read (Elt Ideal) X_arg3) (arg4.view.read (Elt Ideal) X_arg4) v68 1 ((i 1).val + 1 + b) j)
    ∧ ∀ y, arg8.view.read (Elt Ideal) (arg8.view.writes (Elt Ideal) G_arg8 (st_k0_t3 (F := Ideal) 𝒱 c bd i arg2 harg2 arg3 harg3 arg4 harg4 arg5 harg5 arg6 harg6 arg7 harg7 arg8 harg8 arg9 harg9 arg10 harg10 v68 v71 X_arg2 X_arg3 X_arg4 X_arg5 G_arg8 init k).2) y
      = arg8.view.read (Elt Ideal) G_arg8 y + ∑ b ∈ Finset.range k, spread ((i 1).val + 1 + b) 1 (addQ false (arg2.view.read (Elt Ideal) X_arg2) (arg3.view.read (Elt Ideal) X_arg3) (arg4.view.read (Elt Ideal) X_arg4) (arg5.view.read (Elt Ideal) X_arg5) v68 v71 1 ((i 1).val + 1 + b)) y := by
  induction k with
  | zero =>
    refine ⟨fun j => ?_, fun j => ?_, fun y => ?_⟩ <;>
      · rw [Finset.range_zero, Finset.sum_empty]; exact (add_zero (M := EReal) _).symm
  | succ k ih =>
    obtain ⟨ih1, ih2, ih3⟩ := ih (by omega)
    have hs := st_k0_t3_succ (F := Ideal) 𝒱 c bd i arg2 harg2 arg3 harg3 arg4 harg4 arg5 harg5 arg6 harg6 arg7 harg7 arg8 harg8 arg9 harg9 arg10 harg10 v68 v71 X_arg2 X_arg3 X_arg4 X_arg5 G_arg8 init ⟨k, by omega⟩
    rw [result3, pieces3] at hs
    rw [show (st_k0_t3 (F := Ideal) 𝒱 c bd i arg2 harg2 arg3 harg3 arg4 harg4 arg5 harg5 arg6 harg6 arg7 harg7 arg8 harg8 arg9 harg9 arg10 harg10 v68 v71 X_arg2 X_arg3 X_arg4 X_arg5 G_arg8 init (k + 1)) = _ from hs]
    refine ⟨fun j => ?_, fun j => ?_, fun y => ?_⟩
    · rw [Finset.sum_range_succ, ← add_assoc, ← ih1]
    · rw [Finset.sum_range_succ, ← add_assoc, ← ih2]
    · rw [Finset.sum_range_succ, ← add_assoc, ← ih3]
      exact read_add arg8.view G_arg8 _ (k0_off8 i ⟨k, by omega⟩) (k0_off8_inb i ⟨k, by omega⟩) ((i 1).val + 1 + k) 1 (off8_row i ⟨k, by omega⟩) rfl _
        (addQ false (arg2.view.read (Elt Ideal) X_arg2) (arg3.view.read (Elt Ideal) X_arg3) (arg4.view.read (Elt Ideal) X_arg4) (arg5.view.read (Elt Ideal) X_arg5) v68 v71 1 ((i 1).val + 1 + k)) (fun j => rfl) y

end

end Cert.KernelIdeal.Tile

end
-- ==== Proof.RunFirst.lean ====
module

public import proofs.«01_k».proof.Proof.Gen.KernelIdeal.Frame
public import proofs.«01_k».proof.Proof.Gen.KernelIdeal.Loops
public import Idealize.ShloMosaic.Lib.Ring
public import Idealize.ShloMosaic.Lib.Tactic

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The branch the body takes at a pair's first key block: the gradient of the queries is cleared. -/
abbrev isFirst (i : grid0.Coords) : Prop := (Scalar.cmpi .ne (Scalar.extui (Scalar.cmpi .eq (BitVec.ofNat 32 (i 1).val) 0#32)) 0#32) = 1#1

set_option maxHeartbeats 1000000 in
/-- The body at a pair's first key block. On whole buffers with known contents the body ends with the inputs as they were and the three
    output buffers at contents the execution finds (`.1`, `.2.1`, `.2.2.1`). -/
def runFirst (c : Dev nD) (i : grid0.Coords) (arg2 : Memref sig .tc .vmem S4096x256 .bf16) (harg2 : arg2.IsWhole) (arg3 : Memref sig .tc .vmem S4096x128 .bf16) (harg3 : arg3.IsWhole) (arg4 : Memref sig .tc .vmem S4096x256 .f32) (harg4 : arg4.IsWhole) (arg5 : Memref sig .tc .vmem S4096x256 .f32) (harg5 : arg5.IsWhole)
    (arg6 : Memref sig .tc .vmem S512x256 .bf16) (harg6 : arg6.IsWhole) (arg7 : Memref sig .tc .vmem S512x128 .bf16) (harg7 : arg7.IsWhole) (arg8 : Memref sig .tc .vmem S4096x256 .f32) (harg8 : arg8.IsWhole) (arg9 : Memref sig .tc .vmem S512x256 .f32) (harg9 : arg9.IsWhole) (arg10 : Memref sig .tc .vmem S512x128 .f32) (harg10 : arg10.IsWhole) (hc0 : isFirst i)
    (x0 : Vec F S4096x256 .bf16) (x1 : Vec F S4096x128 .bf16) (x2 : Vec F S4096x256 .f32) (x3 : Vec F S4096x256 .f32) (x4 : Vec F S512x256 .bf16) (x5 : Vec F S512x128 .bf16)
    (y6 : Vec F S4096x256 .f32) (y7 : Vec F S512x256 .f32) (y8 : Vec F S512x128 .f32) :
    Σ' (o6 : Vec F S4096x256 .f32) (o7 : Vec F S512x256 .f32), { o8 : Vec F S512x128 .f32 // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare o8) -∗ K ⟨⟩))
          ⊢ wp frame (wpE (defs₀ (F := F)) Variants.none c none) E (cc0_mla_attn_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_mla_attn_bwd_eq_skeleton]; unfold cc0_mla_attn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; rfl
    isplitl [H7]
    · iexists _; isplitr; swap; · iexact H7
      ipureintro; rfl
    iexists _; isplitr; swap; · iexact H8
    ipureintro; rfl

end Cert.KernelIdeal.Body

end
-- ==== Proof.BodyValue.lean ====
module

public import proofs.«01_k».proof.Proof.Trips
public import proofs.«01_k».proof.Proof.RunFirst
public import proofs.«01_k».proof.Proof.RunNext

/-!
# What the body leaves in its three output buffers

At key block `n0` of a pair of heads the body adds, for each head, the tile on the diagonal and the tiles of the query blocks after it.
The gradient of the queries gets them on top of what the buffer held (zeros at the pair's first block); the gradients of the keys and of
the values are stored whole.
-/

@[expose] public section

set_option maxRecDepth 16384

noncomputable section

namespace Cert.KernelIdeal.Tile

open Idealize.ShloMosaic Idealize.ShloMosaic.TcCoe Idealize.SL.Sem
open Cert.KernelIdeal Cert.KernelIdeal.Gen Cert.KernelIdeal.Body

/-- One head's gradient of the keys, and of the values, at key block `n0`: the diagonal's tile and the later query blocks' tiles. -/
def totK (X0 : Wide) (X1 : Narrow) (X2 X3 : Wide) (k v : Blk) (h n0 : ℕ) : Blk := fun j =>
  addK true X0 X1 X2 X3 k v h n0 j + ∑ b ∈ Finset.range (7 - n0), addK false X0 X1 X2 X3 k v h (n0 + 1 + b) j
def totV (X0 : Wide) (X1 : Narrow) (X2 : Wide) (k : Blk) (h n0 : ℕ) : Blk := fun j =>
  addV true X0 X1 X2 k h n0 j + ∑ b ∈ Finset.range (7 - n0), addV false X0 X1 X2 k h (n0 + 1 + b) j

/-- What one head adds to the gradient of the queries at key block `n0`. -/
def totQ (X0 : Wide) (X1 : Narrow) (X2 X3 : Wide) (k v : Blk) (h n0 : ℕ) : Wide := fun y =>
  spread n0 h (addQ true X0 X1 X2 X3 k v h n0) y + ∑ b ∈ Finset.range (7 - n0), spread (n0 + 1 + b) h (addQ false X0 X1 X2 X3 k v h (n0 + 1 + b)) y

/-- The keys and the values of head `h` in the two staged blocks. -/
def keys (x4 : (⟨2, ![512, 256]⟩ : Shape).Idx → EReal) (h : ℕ) : Blk := blkAt x4 0 (128 * h)
def vals (x5 : Blk) (h : ℕ) : Blk := half h x5

/-- The three buffers' closed forms. -/
def sumQ (x0 : Wide) (x1 : Narrow) (x2 x3 : Wide) (x4 : (⟨2, ![512, 256]⟩ : Shape).Idx → EReal) (x5 : Blk) (n0 : ℕ) : Wide := fun y =>
  totQ x0 x1 x2 x3 (keys x4 0) (vals x5 0) 0 n0 y + totQ x0 x1 x2 x3 (keys x4 1) (vals x5 1) 1 n0 y
def newK (x0 : Wide) (x1 : Narrow) (x2 x3 : Wide) (x4 : (⟨2, ![512, 256]⟩ : Shape).Idx → EReal) (x5 : Blk) (n0 : ℕ) : (⟨2, ![512, 256]⟩ : Shape).Idx → EReal := fun y =>
  if (y 1).val / 128 = 1 then at2 (totK x0 x1 x2 x3 (keys x4 1) (vals x5 1) 1 n0) (y 0).val ((y 1).val % 128)
  else at2 (totK x0 x1 x2 x3 (keys x4 0) (vals x5 0) 0 n0) (y 0).val ((y 1).val % 128)
def newV (x0 : Wide) (x1 : Narrow) (x2 : Wide) (x4 : (⟨2, ![512, 256]⟩ : Shape).Idx → EReal) (n0 : ℕ) : Blk := fun y =>
  half 0 (totV x0 x1 x2 (keys x4 0) 0 n0) y + half 1 (totV x0 x1 x2 (keys x4 1) 1 n0) y

theorem keys0 (x4 : (⟨2, ![512, 256]⟩ : Shape).Idx → EReal) : blkAt x4 0 0 = keys x4 0 := rfl
theorem keys1 (x4 : (⟨2, ![512, 256]⟩ : Shape).Idx → EReal) : blkAt x4 0 128 = keys x4 1 := rfl
theorem blkAt_whole (x : Blk) : blkAt (n := 512) (m := 128) x 0 0 = x := by
  funext j
  exact (at2_coords (n := 512) (m := 128) x j _ _ (Nat.zero_add _).symm (Nat.zero_add _).symm).symm

/-- A buffer of 256 columns after its two halves of columns are stored. -/
theorem read_halves {κ : Kind} {sp : Space} (v : View sig κ sp S512x256 .f32) (f : v.ty.Contents (Elt Ideal)) (inb0 inb1) (w0 w1 : Blk) (y : S512x256.Idx) :
    v.read (Elt Ideal) (v.writes (Elt Ideal) f [⟨Rect.unit (s := S512x256) ![0, 128] S512x128.size inb1, w1⟩, ⟨Rect.unit (s := S512x256) ![0, 0] S512x128.size inb0, w0⟩]) y
      = if (y 1).val / 128 = 1 then at2 w1 (y 0).val ((y 1).val % 128) else at2 w0 (y 0).val ((y 1).val % 128) := by
  have hy0 : (y 0).val < 512 := (y 0).isLt
  have hy1 : (y 1).val < 256 := (y 1).isLt
  by_cases h : (y 1).val / 128 = 1
  · rw [if_pos h]
    have e : y = (Rect.unit (s := S512x256) ![0, 128] S512x128.size inb1).idx (ix2 (Fin.ofNat 512 (y 0).val) (Fin.ofNat 128 ((y 1).val % 128))) := by
      funext d
      fin_cases d <;> apply Fin.ext
      · show (y 0).val = 0 + 1 * ((y 0).val % 512); omega
      · show (y 1).val = 128 + 1 * ((y 1).val % 128 % 128); omega
    conv_lhs => rw [e]
    exact View.read_writes_cons_emb v f (Rect.unit (s := S512x256) ![0, 128] S512x128.size inb1) w1 _ _
  · rw [if_neg h]
    have hn : y ∉ (Rect.unit (s := S512x256) ![0, 128] S512x128.size inb1).set := by
      rw [Rect.mem_set_unit]
      intro hd
      have h1 : 128 ≤ (y 1).val ∧ _ := hd 1
      omega
    rw [View.writes_cons, View.read_slice_write_of_not_mem _ _ _ _ (by rw [Rect.map_emb_univ]; exact hn)]
    have e : y = (Rect.unit (s := S512x256) ![0, 0] S512x128.size inb0).idx (ix2 (Fin.ofNat 512 (y 0).val) (Fin.ofNat 128 ((y 1).val % 128))) := by
      funext d
      fin_cases d <;> apply Fin.ext
      · show (y 0).val = 0 + 1 * ((y 0).val % 512); omega
      · show (y 1).val = 0 + 1 * ((y 1).val % 128 % 128); omega
    conv_lhs => rw [e]
    exact View.read_writes_cons_emb v f (Rect.unit (s := S512x256) ![0, 0] S512x128.size inb0) w0 _ _

/-- A buffer after a store of the whole of it. -/
theorem read_whole {κ : Kind} {sp : Space} {n m : ℕ} (v : View sig κ sp ⟨2, ![n, m]⟩ .f32) (f : v.ty.Contents (Elt Ideal)) (inb) (w : (⟨2, ![n, m]⟩ : Shape).Idx → EReal) (y : (⟨2, ![n, m]⟩ : Shape).Idx) :
    v.read (Elt Ideal) (v.writes (Elt Ideal) f [⟨Rect.unit (s := ⟨2, ![n, m]⟩) ![0, 0] ![n, m] inb, w⟩]) y = w y := by
  have e : y = (Rect.unit (s := ⟨2, ![n, m]⟩) ![0, 0] ![n, m] inb).idx y := by
    funext d
    fin_cases d <;> apply Fin.ext
    · show (y 0).val = 0 + 1 * (y 0).val; omega
    · show (y 1).val = 0 + 1 * (y 1).val; omega
  conv_lhs => rw [e]
  exact View.read_writes_cons_emb v f (Rect.unit (s := ⟨2, ![n, m]⟩) ![0, 0] ![n, m] inb) w _ _

/-- The stores to the gradient of the queries, in their order: head 0's diagonal tile and later tiles, then head 1's. -/
theorem chain {κ : Kind} {sp : Space} (v : View sig κ sp S4096x256 .f32) (f : v.ty.Contents (Elt Ideal)) (L0 L1 L3 : List (View.Piece (Elt Ideal) S4096x256 .f32))
    (o1 o7 : Fin 2 → ℕ) (inb1 : ∀ a, o1 a + S512x128.size a ≤ S4096x256.size a) (inb7 : ∀ a, o7 a + S512x128.size a ≤ S4096x256.size a) (n : ℕ)
    (r1 : o1 0 = 512 * n) (c1 : o1 1 = 128 * 0) (r7 : o7 0 = 512 * n) (c7 : o7 1 = 128 * 1) (w1 w7 C1 C7 : Blk) (s1 s3 : EReal) (y : S4096x256.Idx)
    (hw1 : ∀ j : (⟨2, ![512, 128]⟩ : Shape).Idx, w1 j = blkAt (v.read (Elt Ideal) (v.writes (Elt Ideal) f L0)) (512 * n) (128 * 0) j + C1 j)
    (h1 : v.read (Elt Ideal) (v.writes (Elt Ideal) (v.writes (Elt Ideal) f (⟨Rect.unit (s := S4096x256) o1 S512x128.size inb1, w1⟩ :: L0)) L1) y
      = v.read (Elt Ideal) (v.writes (Elt Ideal) f (⟨Rect.unit (s := S4096x256) o1 S512x128.size inb1, w1⟩ :: L0)) y + s1)
    (hw7 : ∀ j : (⟨2, ![512, 128]⟩ : Shape).Idx, w7 j = blkAt (v.read (Elt Ideal) (v.writes (Elt Ideal) f (L1 ++ (⟨Rect.unit (s := S4096x256) o1 S512x128.size inb1, w1⟩ :: L0)))) (512 * n) (128 * 1) j + C7 j)
    (h3 : v.read (Elt Ideal) (v.writes (Elt Ideal) (v.writes (Elt Ideal) f (⟨Rect.unit (s := S4096x256) o7 S512x128.size inb7, w7⟩ :: (L1 ++ (⟨Rect.unit (s := S4096x256) o1 S512x128.size inb1, w1⟩ :: L0)))) L3) y
      = v.read (Elt Ideal) (v.writes (Elt Ideal) f (⟨Rect.unit (s := S4096x256) o7 S512x128.size inb7, w7⟩ :: (L1 ++ (⟨Rect.unit (s := S4096x256) o1 S512x128.size inb1, w1⟩ :: L0)))) y + s3) :
    v.read (Elt Ideal) (v.writes (Elt Ideal) f (L3 ++ (⟨Rect.unit (s := S4096x256) o7 S512x128.size inb7, w7⟩ :: (L1 ++ (⟨Rect.unit (s := S4096x256) o1 S512x128.size inb1, w1⟩ :: L0))))) y
      = v.read (Elt Ideal) (v.writes (Elt Ideal) f L0) y + ((spread n 0 C1 y + s1) + (spread n 1 C7 y + s3)) := by
  rw [View.writes_append, h3, read_add v f _ o7 inb7 n 1 r7 c7 w7 C7 hw7 y, View.writes_append, h1, read_add v f _ o1 inb1 n 0 r1 c1 w1 C1 hw1 y]
  simp only [add_assoc]

/-- The loop left over when the trips are a multiple of the unrolling has no trip. -/
theorem none2 (𝒱 : Variants) (c : Dev nD) (bd : Option 𝒱.V) (i : grid0.Coords) (arg2 : Memref sig .tc .vmem S4096x256 .bf16) (harg2 : arg2.IsWhole) (arg3 : Memref sig .tc .vmem S4096x128 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S4096x256 .f32) (harg8 : arg8.IsWhole) (arg9 : Memref sig .tc .vmem S512x256 .f32) (harg9 : arg9.IsWhole) (arg10 : Memref sig .tc .vmem S512x128 .f32) (harg10 : arg10.IsWhole) (arg1 : BitVec 32) (v3 : IVec S512x128 32) (v6 : FVec Ideal S512x128 .f32) (v8 : IVec S512x128 1) (v9 : Vec Ideal S512x128 .bf16) (v12 : Vec Ideal S512x128 .bf16) (v13 : FVec Ideal S512x128 .f32) (v15 : BitVec 32) (v17 : Vec Ideal S512x128 .bf16) (v19 : Vec Ideal S512x128 .bf16) (v35 : FVec Ideal S512x512 .f32) (v37 : FVec Ideal S512x512 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (G_arg8 : BufTy.Contents (Elt Ideal) arg8.view.ty) (init : FVec Ideal S512x128 .f32 × FVec Ideal S512x128 .f32) :
    st_k0_t2 (F := Ideal) 𝒱 c bd i arg2 harg2 arg3 harg3 arg4 harg4 arg5 harg5 arg6 harg6 arg7 harg7 arg8 harg8 arg9 harg9 arg10 harg10 arg1 v3 v6 v8 v9 v12 v13 v15 v17 v19 v35 v37 X_arg2 X_arg3 X_arg4 X_arg5 G_arg8 init (Scf.trips (Scalar.addi (Scalar.addi (BitVec.ofNat 32 (i 1).val) 1#32)
    (Scalar.muli (Scalar.divsi (Scalar.subi (8#32) (Scalar.addi (BitVec.ofNat 32 (i 1).val) 1#32)) 1#32) 1#32))
    (Scalar.addi (Scalar.addi (BitVec.ofNat 32 (i 1).val) 1#32) (Scalar.subi (8#32) (Scalar.addi (BitVec.ofNat 32 (i 1).val) 1#32))) 1#32) = (init, []) := by
  have h : (Scf.trips (Scalar.addi (Scalar.addi (BitVec.ofNat 32 (i 1).val) 1#32)
    (Scalar.muli (Scalar.divsi (Scalar.subi (8#32) (Scalar.addi (BitVec.ofNat 32 (i 1).val) 1#32)) 1#32) 1#32))
    (Scalar.addi (Scalar.addi (BitVec.ofNat 32 (i 1).val) 1#32) (Scalar.subi (8#32) (Scalar.addi (BitVec.ofNat 32 (i 1).val) 1#32))) 1#32) = 0 := trips2 i
  rw [h]; rfl

/-- The loop left over when the trips are a multiple of the unrolling has no trip. -/
theorem none4 (𝒱 : Variants) (c : Dev nD) (bd : Option 𝒱.V) (i : grid0.Coords) (arg2 : Memref sig .tc .vmem S4096x256 .bf16) (harg2 : arg2.IsWhole) (arg3 : Memref sig .tc .vmem S4096x128 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S4096x256 .f32) (harg8 : arg8.IsWhole) (arg9 : Memref sig .tc .vmem S512x256 .f32) (harg9 : arg9.IsWhole) (arg10 : Memref sig .tc .vmem S512x128 .f32) (harg10 : arg10.IsWhole) (v68 : Vec Ideal S512x128 .bf16) (v71 : Vec Ideal S512x128 .bf16) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (G_arg8 : BufTy.Contents (Elt Ideal) arg8.view.ty) (init : FVec Ideal S512x128 .f32 × FVec Ideal S512x128 .f32) :
    st_k0_t4 (F := Ideal) 𝒱 c bd i arg2 harg2 arg3 harg3 arg4 harg4 arg5 harg5 arg6 harg6 arg7 harg7 arg8 harg8 arg9 harg9 arg10 harg10 v68 v71 X_arg2 X_arg3 X_arg4 X_arg5 G_arg8 init (Scf.trips (Scalar.addi (Scalar.addi (BitVec.ofNat 32 (i 1).val) 1#32)
    (Scalar.muli (Scalar.divsi (Scalar.subi (8#32) (Scalar.addi (BitVec.ofNat 32 (i 1).val) 1#32)) 1#32) 1#32))
    (Scalar.addi (Scalar.addi (BitVec.ofNat 32 (i 1).val) 1#32) (Scalar.subi (8#32) (Scalar.addi (BitVec.ofNat 32 (i 1).val) 1#32))) 1#32) = (init, []) := by
  have h : (Scf.trips (Scalar.addi (Scalar.addi (BitVec.ofNat 32 (i 1).val) 1#32)
    (Scalar.muli (Scalar.divsi (Scalar.subi (8#32) (Scalar.addi (BitVec.ofNat 32 (i 1).val) 1#32)) 1#32) 1#32))
    (Scalar.addi (Scalar.addi (BitVec.ofNat 32 (i 1).val) 1#32) (Scalar.subi (8#32) (Scalar.addi (BitVec.ofNat 32 (i 1).val) 1#32))) 1#32) = 0 := trips4 i
  rw [h]; rfl

theorem count1 (i : grid0.Coords) : (Scf.trips (Scalar.addi (BitVec.ofNat 32 (i 1).val) 1#32)
    (Scalar.addi (Scalar.addi (BitVec.ofNat 32 (i 1).val) 1#32)
      (Scalar.muli (Scalar.divsi (Scalar.subi (8#32) (Scalar.addi (BitVec.ofNat 32 (i 1).val) 1#32)) 1#32) 1#32)) 1#32) = 7 - (i 1).val := trips1 i
theorem count3 (i : grid0.Coords) : (Scf.trips (Scalar.addi (BitVec.ofNat 32 (i 1).val) 1#32)
    (Scalar.addi (Scalar.addi (BitVec.ofNat 32 (i 1).val) 1#32)
      (Scalar.muli (Scalar.divsi (Scalar.subi (8#32) (Scalar.addi (BitVec.ofNat 32 (i 1).val) 1#32)) 1#32) 1#32)) 1#32) = 7 - (i 1).val := trips3 i

section

variable (c : Dev nD) (i : grid0.Coords) (arg2 : Memref sig .tc .vmem S4096x256 .bf16) (harg2 : arg2.IsWhole) (arg3 : Memref sig .tc .vmem S4096x128 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S4096x256 .f32) (harg8 : arg8.IsWhole) (arg9 : Memref sig .tc .vmem S512x256 .f32) (harg9 : arg9.IsWhole) (arg10 : Memref sig .tc .vmem S512x128 .f32) (harg10 : arg10.IsWhole) (x0 : Vec Ideal S4096x256 .bf16) (x1 : Vec Ideal S4096x128 .bf16) (x2 : Vec Ideal S4096x256 .f32) (x3 : Vec Ideal S4096x256 .f32) (x4 : Vec Ideal S512x256 .bf16) (x5 : Vec Ideal S512x128 .bf16)
    (y6 : Vec Ideal S4096x256 .f32) (y7 : Vec Ideal S512x256 .f32) (y8 : Vec Ideal S512x128 .f32)

/-! ### The loaded parts and the first sums, run next -/

theorem next_k0 : runNext.sl.r c arg6 harg6 x4 = keys x4 0 := by
  unfold runNext.sl.r; rw [readAt_blk, harg6.read_unread]; rfl
theorem next_v0 : runNext.sl.r_1 c arg7 harg7 x5 = vals x5 0 := by
  unfold runNext.sl.r_1; rw [readAt_blk, harg7.read_unread, v_first]; exact congrArg (half 0) (blkAt_whole x5)
theorem next_q0 : runNext.sl.r_2 c i arg2 harg2 x0 = blkAt x0 (512 * (i 1).val) (128 * 0) := by
  unfold runNext.sl.r_2; rw [readAt_blk, harg2.read_unread, off1_row]; rfl
theorem next_o0 : runNext.sl.r_3 c i arg3 harg3 x1 = blkAt x1 (512 * (i 1).val) 0 := by
  unfold runNext.sl.r_3; rw [readAt_blk, harg3.read_unread, off2_row]; rfl
theorem next_p0 : runNext.sl.r_4 c i arg2 harg2 arg4 harg4 arg6 harg6 x0 x2 x4 = tileP true x0 x2 (keys x4 0) 0 (i 1).val := by
  unfold runNext.sl.r_4; rw [pay17_eq, readAt_blk, readAt_blk, readAt_blk, harg2.read_unread, harg4.read_unread, harg6.read_unread, off1_row]; rfl
theorem next_g0 : runNext.sl.r_5 c i arg3 harg3 arg5 harg5 arg7 harg7 x1 x3 x5 = gap (blkAt x1 (512 * (i 1).val) 0) (vals x5 0) (blkAt x3 (512 * (i 1).val) (128 * 0)) := by
  unfold runNext.sl.r_5; rw [pay18_eq, readAt_blk, readAt_blk, readAt_blk, harg3.read_unread, harg5.read_unread, harg7.read_unread, off1_row, off2_row]
  exact congrArg (fun z => gap _ (half 0 z) _) (blkAt_whole x5)
theorem next_k1 : runNext.sl.r_7 c arg6 harg6 x4 = keys x4 1 := by
  unfold runNext.sl.r_7; rw [readAt_blk, harg6.read_unread]; rfl
theorem next_v1 : runNext.sl.r_8 c arg7 harg7 x5 = vals x5 1 := by
  unfold runNext.sl.r_8 runNext.sl.v3; rw [readAt_blk, harg7.read_unread, v_second]; exact congrArg (half 1) (blkAt_whole x5)

theorem next_V1 (j : (⟨2, ![512, 128]⟩ : Shape).Idx) : runNext.sl.r_9 c i arg2 harg2 arg3 harg3 arg4 harg4 arg6 harg6 x0 x1 x2 x4 j = addV true x0 x1 x2 (keys x4 1) 1 (i 1).val j := by
  have e : runNext.sl.r_9 c i arg2 harg2 arg3 harg3 arg4 harg4 arg6 harg6 x0 x1 x2 x4 = fun j => k0_pay36 (F := Ideal) j + addV true x0 x1 x2 (keys x4 1) 1 (i 1).val j := by
    unfold runNext.sl.r_9 runNext.sl.v4 runNext.sl.v5
    rw [pay39_eq, next_k1, readAt_blk, readAt_blk, readAt_blk, harg2.read_unread, harg3.read_unread, harg4.read_unread, off7_row, off2_row]; rfl
  rw [e]; dsimp only; rw [pay36_apply]; exact zero_add (M := EReal) _
theorem next_K1 (j : (⟨2, ![512, 128]⟩ : Shape).Idx) : runNext.sl.r_10 c i arg2 harg2 arg3 harg3 arg4 harg4 arg5 harg5 arg6 harg6 arg7 harg7 x0 x1 x2 x3 x4 x5 j = addK true x0 x1 x2 x3 (keys x4 1) (vals x5 1) 1 (i 1).val j := by
  have e : runNext.sl.r_10 c i arg2 harg2 arg3 harg3 arg4 harg4 arg5 harg5 arg6 harg6 arg7 harg7 x0 x1 x2 x3 x4 x5 = fun j => k0_pay36 (F := Ideal) j + addK true x0 x1 x2 x3 (keys x4 1) (vals x5 1) 1 (i 1).val j := by
    unfold runNext.sl.r_10 runNext.sl.v4 runNext.sl.v5
    rw [pay40_eq, next_k1, next_v1, readAt_blk, readAt_blk, readAt_blk, readAt_blk, harg2.read_unread, harg3.read_unread, harg4.read_unread, harg5.read_unread, off7_row, off2_row]; rfl
  rw [e]; dsimp only; rw [pay36_apply]; exact zero_add (M := EReal) _

/-! ### The three outputs, run next -/

theorem next_q (hc0 : ¬isFirst i) (y : S4096x256.Idx) : (runNext (F := Ideal) c i arg2 harg2 arg3 harg3 arg4 harg4 arg5 harg5 arg6 harg6 arg7 harg7 arg8 harg8 arg9 harg9 arg10 harg10 hc0 x0 x1 x2 x3 x4 x5 y6 y7 y8).1 y = y6 y + sumQ x0 x1 x2 x3 x4 x5 (i 1).val y := by
  unfold runNext
  dsimp only
  simp only [none2, none4, List.nil_append, count1, count3]
  refine (chain arg8.view _ [] _ _ (k0_off1 i) (k0_off7 i) _ _ (i 1).val (off1_row i) rfl (off7_row i) rfl _ _
    (addQ true x0 x1 x2 x3 (keys x4 0) (vals x5 0) 0 (i 1).val) (addQ true x0 x1 x2 x3 (keys x4 1) (vals x5 1) 1 (i 1).val)
    (∑ b ∈ Finset.range (7 - (i 1).val), spread ((i 1).val + 1 + b) 0 (addQ false x0 x1 x2 x3 (keys x4 0) (vals x5 0) 0 ((i 1).val + 1 + b)) y)
    (∑ b ∈ Finset.range (7 - (i 1).val), spread ((i 1).val + 1 + b) 1 (addQ false x0 x1 x2 x3 (keys x4 1) (vals x5 1) 1 ((i 1).val + 1 + b)) y) y (fun j => ?_) ?_ (fun j => ?_) ?_).trans ?_
  · rw [pay22_eq, next_k0, next_p0, next_g0, readAt_blk, off1_row]; rfl
  · refine (((loop1 _ _ _ _ _ _ _ _ _ _ _ _ _ _ _ _ _ _ _ _ _ _ _ _ _ _ _ _ _ _ _ _ _ _ _ _ _ _ _ _ (7 - (i 1).val) (le_of_eq (trips1 i).symm)).2.2 y)).trans ?_
    refine congrArg (_ + ·) ?_
    simp only [harg2.read_unread, harg3.read_unread, harg4.read_unread, harg5.read_unread, next_k0, next_v0]
  · unfold runNext.sl.v4 runNext.sl.v5 runNext.sl.v107
    simp only [none2, none4, List.nil_append, count1, count3]
    rw [pay41_eq, next_k1, next_v1, readAt_blk arg2.view, readAt_blk arg3.view, readAt_blk arg4.view, readAt_blk arg5.view, readAt_blk arg8.view (k0_off7 i), off7_row, off2_row, harg2.read_unread, harg3.read_unread, harg4.read_unread, harg5.read_unread]; rfl
  · refine (((loop3 _ _ _ _ _ _ _ _ _ _ _ _ _ _ _ _ _ _ _ _ _ _ _ _ _ _ _ _ _ _ (7 - (i 1).val) (le_of_eq (trips3 i).symm)).2.2 y)).trans ?_
    refine congrArg (_ + ·) ?_
    simp only [harg2.read_unread, harg3.read_unread, harg4.read_unread, harg5.read_unread, next_k1, next_v1]
  · rw [View.writes_nil, harg8.read_unread]; rfl

theorem next_k (hc0 : ¬isFirst i) (y : S512x256.Idx) : (runNext (F := Ideal) c i arg2 harg2 arg3 harg3 arg4 harg4 arg5 harg5 arg6 harg6 arg7 harg7 arg8 harg8 arg9 harg9 arg10 harg10 hc0 x0 x1 x2 x3 x4 x5 y6 y7 y8).2.1 y = newK x0 x1 x2 x3 x4 x5 (i 1).val y := by
  unfold runNext
  dsimp only
  simp only [none2, none4, List.nil_append, count1, count3]
  refine (read_halves arg9.view _ _ _ _ _ y).trans ?_
  unfold newK
  refine if_congr Iff.rfl ?_ ?_
  · refine congrArg (fun z => at2 (n := 512) (m := 128) z _ _) (funext fun j => ?_)
    refine ((loop3 _ _ _ _ _ _ _ _ _ _ _ _ _ _ _ _ _ _ _ _ _ _ _ _ _ _ _ _ _ _ (7 - (i 1).val) (le_of_eq (trips3 i).symm)).1 j).trans ?_
    simp only [harg2.read_unread, harg3.read_unread, harg4.read_unread, harg5.read_unread, next_k1, next_v1, next_K1]; rfl
  · refine congrArg (fun z => at2 (n := 512) (m := 128) z _ _) (funext fun j => ?_)
    refine ((loop1 _ _ _ _ _ _ _ _ _ _ _ _ _ _ _ _ _ _ _ _ _ _ _ _ _ _ _ _ _ _ _ _ _ _ _ _ _ _ _ _ (7 - (i 1).val) (le_of_eq (trips1 i).symm)).1 j).trans ?_
    simp only [harg2.read_unread, harg3.read_unread, harg4.read_unread, harg5.read_unread, next_k0, next_v0, next_p0, next_g0, next_q0, pay21_eq, pay16_apply, zero_add]
    rfl

theorem next_v (hc0 : ¬isFirst i) (y : S512x128.Idx) : (runNext (F := Ideal) c i arg2 harg2 arg3 harg3 arg4 harg4 arg5 harg5 arg6 harg6 arg7 harg7 arg8 harg8 arg9 harg9 arg10 harg10 hc0 x0 x1 x2 x3 x4 x5 y6 y7 y8).2.2.1 y = newV x0 x1 x2 x4 (i 1).val y := by
  unfold runNext
  dsimp only
  simp only [none2, none4, List.nil_append, count1, count3]
  refine (read_whole arg10.view _ _ _ y).trans ?_
  unfold runNext.sl.v3
  rw [pay11_eq]
  refine congrArg₂ (fun a b : EReal => a + b) ?_ (congrFun (congrArg (half 1) (funext fun j => ?_)) y)
  · unfold runNext.sl.r_6
    simp only [none2, none4, List.nil_append, count1, count3]
    rw [pay33_eq]
    dsimp only
    rw [pay13_apply]
    refine Eq.trans (zero_add (M := EReal) _) (congrFun (congrArg (half 0) (funext fun j => ?_)) y)
    refine ((loop1 _ _ _ _ _ _ _ _ _ _ _ _ _ _ _ _ _ _ _ _ _ _ _ _ _ _ _ _ _ _ _ _ _ _ _ _ _ _ _ _ (7 - (i 1).val) (le_of_eq (trips1 i).symm)).2.1 j).trans ?_
    simp only [harg2.read_unread, harg3.read_unread, harg4.read_unread, harg5.read_unread, next_k0, next_v0, next_p0, next_o0, pay20_eq, pay16_apply, zero_add]
    rfl
  · refine ((loop3 _ _ _ _ _ _ _ _ _ _ _ _ _ _ _ _ _ _ _ _ _ _ _ _ _ _ _ _ _ _ (7 - (i 1).val) (le_of_eq (trips3 i).symm)).2.1 j).trans ?_
    simp only [harg2.read_unread, harg3.read_unread, harg4.read_unread, harg5.read_unread, next_k1, next_v1, next_V1]; rfl

/-! ### The loaded parts and the first sums, run first -/

theorem first_k0 : runFirst.sl.r c arg6 harg6 x4 = keys x4 0 := by
  unfold runFirst.sl.r; rw [readAt_blk, harg6.read_unread]; rfl
theorem first_v0 : runFirst.sl.r_1 c arg7 harg7 x5 = vals x5 0 := by
  unfold runFirst.sl.r_1; rw [readAt_blk, harg7.read_unread, v_first]; exact congrArg (half 0) (blkAt_whole x5)
theorem first_q0 : runFirst.sl.r_2 c i arg2 harg2 x0 = blkAt x0 (512 * (i 1).val) (128 * 0) := by
  unfold runFirst.sl.r_2; rw [readAt_blk, harg2.read_unread, off1_row]; rfl
theorem first_o0 : runFirst.sl.r_3 c i arg3 harg3 x1 = blkAt x1 (512 * (i 1).val) 0 := by
  unfold runFirst.sl.r_3; rw [readAt_blk, harg3.read_unread, off2_row]; rfl
theorem first_p0 : runFirst.sl.r_4 c i arg2 harg2 arg4 harg4 arg6 harg6 x0 x2 x4 = tileP true x0 x2 (keys x4 0) 0 (i 1).val := by
  unfold runFirst.sl.r_4; rw [pay17_eq, readAt_blk, readAt_blk, readAt_blk, harg2.read_unread, harg4.read_unread, harg6.read_unread, off1_row]; rfl
theorem first_g0 : runFirst.sl.r_5 c i arg3 harg3 arg5 harg5 arg7 harg7 x1 x3 x5 = gap (blkAt x1 (512 * (i 1).val) 0) (vals x5 0) (blkAt x3 (512 * (i 1).val) (128 * 0)) := by
  unfold runFirst.sl.r_5; rw [pay18_eq, readAt_blk, readAt_blk, readAt_blk, harg3.read_unread, harg5.read_unread, harg7.read_unread, off1_row, off2_row]
  exact congrArg (fun z => gap _ (half 0 z) _) (blkAt_whole x5)
theorem first_k1 : runFirst.sl.r_7 c arg6 harg6 x4 = keys x4 1 := by
  unfold runFirst.sl.r_7; rw [readAt_blk, harg6.read_unread]; rfl
theorem first_v1 : runFirst.sl.r_8 c arg7 harg7 x5 = vals x5 1 := by
  unfold runFirst.sl.r_8 runFirst.sl.v3; rw [readAt_blk, harg7.read_unread, v_second]; exact congrArg (half 1) (blkAt_whole x5)

theorem first_V1 (j : (⟨2, ![512, 128]⟩ : Shape).Idx) : runFirst.sl.r_9 c i arg2 harg2 arg3 harg3 arg4 harg4 arg6 harg6 x0 x1 x2 x4 j = addV true x0 x1 x2 (keys x4 1) 1 (i 1).val j := by
  have e : runFirst.sl.r_9 c i arg2 harg2 arg3 harg3 arg4 harg4 arg6 harg6 x0 x1 x2 x4 = fun j => k0_pay36 (F := Ideal) j + addV true x0 x1 x2 (keys x4 1) 1 (i 1).val j := by
    unfold runFirst.sl.r_9 runFirst.sl.v4 runFirst.sl.v5
    rw [pay39_eq, first_k1, readAt_blk, readAt_blk, readAt_blk, harg2.read_unread, harg3.read_unread, harg4.read_unread, off7_row, off2_row]; rfl
  rw [e]; dsimp only; rw [pay36_apply]; exact zero_add (M := EReal) _
theorem first_K1 (j : (⟨2, ![512, 128]⟩ : Shape).Idx) : runFirst.sl.r_10 c i arg2 harg2 arg3 harg3 arg4 harg4 arg5 harg5 arg6 harg6 arg7 harg7 x0 x1 x2 x3 x4 x5 j = addK true x0 x1 x2 x3 (keys x4 1) (vals x5 1) 1 (i 1).val j := by
  have e : runFirst.sl.r_10 c i arg2 harg2 arg3 harg3 arg4 harg4 arg5 harg5 arg6 harg6 arg7 harg7 x0 x1 x2 x3 x4 x5 = fun j => k0_pay36 (F := Ideal) j + addK true x0 x1 x2 x3 (keys x4 1) (vals x5 1) 1 (i 1).val j := by
    unfold runFirst.sl.r_10 runFirst.sl.v4 runFirst.sl.v5
    rw [pay40_eq, first_k1, first_v1, readAt_blk, readAt_blk, readAt_blk, readAt_blk, harg2.read_unread, harg3.read_unread, harg4.read_unread, harg5.read_unread, off7_row, off2_row]; rfl
  rw [e]; dsimp only; rw [pay36_apply]; exact zero_add (M := EReal) _

theorem first_zero : arg8.view.read (Elt Ideal) (arg8.view.writes (Elt Ideal) arg8.view.junk (runFirst.sl.H6_1 (F := Ideal))) = fun _ => 0 := by
  funext y
  unfold runFirst.sl.H6_1
  exact (read_whole arg8.view _ _ _ y).trans (pay12_apply y)

/-! ### The three outputs, run first -/

theorem first_q (hc0 : isFirst i) (y : S4096x256.Idx) : (runFirst (F := Ideal) c i arg2 harg2 arg3 harg3 arg4 harg4 arg5 harg5 arg6 harg6 arg7 harg7 arg8 harg8 arg9 harg9 arg10 harg10 hc0 x0 x1 x2 x3 x4 x5 y6 y7 y8).1 y = 0 + sumQ x0 x1 x2 x3 x4 x5 (i 1).val y := by
  unfold runFirst
  dsimp only
  simp only [none2, none4, List.nil_append, count1, count3]
  refine (chain arg8.view _ runFirst.sl.H6_1 _ _ (k0_off1 i) (k0_off7 i) _ _ (i 1).val (off1_row i) rfl (off7_row i) rfl _ _
    (addQ true x0 x1 x2 x3 (keys x4 0) (vals x5 0) 0 (i 1).val) (addQ true x0 x1 x2 x3 (keys x4 1) (vals x5 1) 1 (i 1).val)
    (∑ b ∈ Finset.range (7 - (i 1).val), spread ((i 1).val + 1 + b) 0 (addQ false x0 x1 x2 x3 (keys x4 0) (vals x5 0) 0 ((i 1).val + 1 + b)) y)
    (∑ b ∈ Finset.range (7 - (i 1).val), spread ((i 1).val + 1 + b) 1 (addQ false x0 x1 x2 x3 (keys x4 1) (vals x5 1) 1 ((i 1).val + 1 + b)) y) y (fun j => ?_) ?_ (fun j => ?_) ?_).trans ?_
  · rw [pay22_eq, first_k0, first_p0, first_g0, readAt_blk, off1_row]; rfl
  · refine (((loop1 _ _ _ _ _ _ _ _ _ _ _ _ _ _ _ _ _ _ _ _ _ _ _ _ _ _ _ _ _ _ _ _ _ _ _ _ _ _ _ _ (7 - (i 1).val) (le_of_eq (trips1 i).symm)).2.2 y)).trans ?_
    refine congrArg (_ + ·) ?_
    simp only [harg2.read_unread, harg3.read_unread, harg4.read_unread, harg5.read_unread, first_k0, first_v0]
  · unfold runFirst.sl.v4 runFirst.sl.v5 runFirst.sl.v107
    simp only [none2, none4, List.nil_append, count1, count3]
    rw [pay41_eq, first_k1, first_v1, readAt_blk arg2.view, readAt_blk arg3.view, readAt_blk arg4.view, readAt_blk arg5.view, readAt_blk arg8.view (k0_off7 i), off7_row, off2_row, harg2.read_unread, harg3.read_unread, harg4.read_unread, harg5.read_unread]; rfl
  · refine (((loop3 _ _ _ _ _ _ _ _ _ _ _ _ _ _ _ _ _ _ _ _ _ _ _ _ _ _ _ _ _ _ (7 - (i 1).val) (le_of_eq (trips3 i).symm)).2.2 y)).trans ?_
    refine congrArg (_ + ·) ?_
    simp only [harg2.read_unread, harg3.read_unread, harg4.read_unread, harg5.read_unread, first_k1, first_v1]
  · rw [first_zero]; rfl

theorem first_k (hc0 : isFirst i) (y : S512x256.Idx) : (runFirst (F := Ideal) c i arg2 harg2 arg3 harg3 arg4 harg4 arg5 harg5 arg6 harg6 arg7 harg7 arg8 harg8 arg9 harg9 arg10 harg10 hc0 x0 x1 x2 x3 x4 x5 y6 y7 y8).2.1 y = newK x0 x1 x2 x3 x4 x5 (i 1).val y := by
  unfold runFirst
  dsimp only
  simp only [none2, none4, List.nil_append, count1, count3]
  refine (read_halves arg9.view _ _ _ _ _ y).trans ?_
  unfold newK
  refine if_congr Iff.rfl ?_ ?_
  · refine congrArg (fun z => at2 (n := 512) (m := 128) z _ _) (funext fun j => ?_)
    refine ((loop3 _ _ _ _ _ _ _ _ _ _ _ _ _ _ _ _ _ _ _ _ _ _ _ _ _ _ _ _ _ _ (7 - (i 1).val) (le_of_eq (trips3 i).symm)).1 j).trans ?_
    simp only [harg2.read_unread, harg3.read_unread, harg4.read_unread, harg5.read_unread, first_k1, first_v1, first_K1]; rfl
  · refine congrArg (fun z => at2 (n := 512) (m := 128) z _ _) (funext fun j => ?_)
    refine ((loop1 _ _ _ _ _ _ _ _ _ _ _ _ _ _ _ _ _ _ _ _ _ _ _ _ _ _ _ _ _ _ _ _ _ _ _ _ _ _ _ _ (7 - (i 1).val) (le_of_eq (trips1 i).symm)).1 j).trans ?_
    simp only [harg2.read_unread, harg3.read_unread, harg4.read_unread, harg5.read_unread, first_k0, first_v0, first_p0, first_g0, first_q0, pay21_eq, pay16_apply, zero_add]
    rfl

theorem first_v (hc0 : isFirst i) (y : S512x128.Idx) : (runFirst (F := Ideal) c i arg2 harg2 arg3 harg3 arg4 harg4 arg5 harg5 arg6 harg6 arg7 harg7 arg8 harg8 arg9 harg9 arg10 harg10 hc0 x0 x1 x2 x3 x4 x5 y6 y7 y8).2.2.1 y = newV x0 x1 x2 x4 (i 1).val y := by
  unfold runFirst
  dsimp only
  simp only [none2, none4, List.nil_append, count1, count3]
  refine (read_whole arg10.view _ _ _ y).trans ?_
  unfold runFirst.sl.v3
  rw [pay11_eq]
  refine congrArg₂ (fun a b : EReal => a + b) ?_ (congrFun (congrArg (half 1) (funext fun j => ?_)) y)
  · unfold runFirst.sl.r_6
    simp only [none2, none4, List.nil_append, count1, count3]
    rw [pay33_eq]
    dsimp only
    rw [pay13_apply]
    refine Eq.trans (zero_add (M := EReal) _) (congrFun (congrArg (half 0) (funext fun j => ?_)) y)
    refine ((loop1 _ _ _ _ _ _ _ _ _ _ _ _ _ _ _ _ _ _ _ _ _ _ _ _ _ _ _ _ _ _ _ _ _ _ _ _ _ _ _ _ (7 - (i 1).val) (le_of_eq (trips1 i).symm)).2.1 j).trans ?_
    simp only [harg2.read_unread, harg3.read_unread, harg4.read_unread, harg5.read_unread, first_k0, first_v0, first_p0, first_o0, pay20_eq, pay16_apply, zero_add]
    rfl
  · refine ((loop3 _ _ _ _ _ _ _ _ _ _ _ _ _ _ _ _ _ _ _ _ _ _ _ _ _ _ _ _ _ _ (7 - (i 1).val) (le_of_eq (trips3 i).symm)).2.1 j).trans ?_
    simp only [harg2.read_unread, harg3.read_unread, harg4.read_unread, harg5.read_unread, first_k1, first_v1, first_V1]; rfl

end

end Cert.KernelIdeal.Tile

end
-- ==== Proof.IdealRun.lean ====
module

public import proofs.«01_k».proof.Proof.BodyValue
public import Idealize.ShloMosaic.Lib.Pipeline.FrameBody
public import Idealize.ShloMosaic.Lib.Pipeline.Value
public import Idealize.ShloMosaic.Lib.Ring
public import Idealize.ShloMosaic.Lib.WordCmp
public import Idealize.ShloMosaic.Lib.Claim

/-!
# The run of the kernel over the extended reals

The pipeline's data name what the body leaves in each buffer at each grid point: the gradient of the queries is a sum over the key blocks
of the pair so far; the gradients of the keys and of the values are the point's own.
-/

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body Cert.KernelIdeal.Tile

local notation "𝕄" => MT nD τ sig Unit (Elt Ideal) ℕ (UR sig nD τ) ℕ

variable (m : (ℓ : Loc nD τ sig) → Buf (Elt Ideal) ℓ) (ρ : Dev nD → PrngReg)

/-- A point is its pair's first exactly when it is a multiple of 8. -/
theorem isFirst_iff : ∀ t : Fin cfg0.N, isFirst (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [isFirst, e0, e1]
    word_cmp
   : ∀ t : Fin grid0.N, isFirst (grid0.coords t) ↔ t.val % 8 = 0)

abbrev ms0_0 (t : Fin cfg0.N) : Memref sig .tc .vmem S4096x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .f32 := win0_8.stage (cfg0.slots t 8)
abbrev hs0_8 (t : Fin cfg0.N) : (ms0_8 t).IsWhole := hstage0_8 ((cfg0.slots t 8).cast nbuf0_8)

/-- What point `t` adds to the gradient of the queries, and the two gradients it stores. -/
def stepQ (c : Dev nD) (t : Fin cfg0.N) : Vec Ideal S4096x256 .f32 := sumQ (iblk m c 0 t) (iblk m c 1 t) (iblk m c 2 t) (iblk m c 3 t) (iblk m c 4 t) (iblk m c 5 t) ((grid0.coords t) 1).val
def stepK (c : Dev nD) (t : Fin cfg0.N) : Vec Ideal S512x256 .f32 := newK (iblk m c 0 t) (iblk m c 1 t) (iblk m c 2 t) (iblk m c 3 t) (iblk m c 4 t) (iblk m c 5 t) ((grid0.coords t) 1).val
def stepV (c : Dev nD) (t : Fin cfg0.N) : Vec Ideal S512x128 .f32 := newV (iblk m c 0 t) (iblk m c 1 t) (iblk m c 2 t) (iblk m c 4 t) ((grid0.coords t) 1).val

/-- The gradient of the queries after point `n`: the sum over the pair's key blocks so far. -/
def heldQ (c : Dev nD) : (n : ℕ) → n < cfg0.N → Vec Ideal S4096x256 .f32
  | 0, h => stepQ m c ⟨0, h⟩
  | n + 1, h => if (n + 1) % 8 = 0 then stepQ m c ⟨n + 1, h⟩ else fun y => heldQ c n (Nat.lt_of_succ_lt h) y + stepQ m c ⟨n + 1, h⟩ y

theorem heldQ_first (c : Dev nD) (t : Fin cfg0.N) (h : t.val % 8 = 0) : heldQ m c t.val t.isLt = stepQ m c t := by
  obtain ⟨n, hn⟩ := t
  cases n with
  | zero => rfl
  | succ n => exact if_pos h

theorem heldQ_next (c : Dev nD) (t : Fin cfg0.N) (h : ¬t.val % 8 = 0) :
    heldQ m c t.val t.isLt = fun y => heldQ m c (t.val - 1) (Nat.lt_of_le_of_lt (Nat.sub_le _ _) t.isLt) y + stepQ m c t y := by
  obtain ⟨n, hn⟩ := t
  cases n with
  | zero => exact absurd rfl h
  | succ n => exact if_neg h

/-- The body at a first key block, with the closed forms of what it leaves. -/
theorem body_first (c : Dev nD) (i : grid0.Coords) (arg2 : Memref sig .tc .vmem S4096x256 .bf16) (harg2 : arg2.IsWhole) (arg3 : Memref sig .tc .vmem S4096x128 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S4096x256 .f32) (harg8 : arg8.IsWhole) (arg9 : Memref sig .tc .vmem S512x256 .f32) (harg9 : arg9.IsWhole) (arg10 : Memref sig .tc .vmem S512x128 .f32) (harg10 : arg10.IsWhole) (hc0 : isFirst i) (x0 : Vec Ideal S4096x256 .bf16) (x1 : Vec Ideal S4096x128 .bf16) (x2 : Vec Ideal S4096x256 .f32) (x3 : Vec Ideal S4096x256 .f32) (x4 : Vec Ideal S512x256 .bf16) (x5 : Vec Ideal S512x128 .bf16)
    (y6 : Vec Ideal S4096x256 .f32) (y7 : Vec Ideal S512x256 .f32) (y8 : Vec Ideal S512x128 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (sumQ x0 x1 x2 x3 x4 x5 (i 1).val) ∗ owns (c : Thread nD τ) arg9 fullShare (newK x0 x1 x2 x3 x4 x5 (i 1).val) ∗ owns (c : Thread nD τ) arg10 fullShare (newV x0 x1 x2 x4 (i 1).val)) -∗ K ⟨⟩))
          ⊢ wp frame (wpE (defs₀ (F := Ideal)) Variants.none c none) E (cc0_mla_attn_bwd i arg2 harg2 arg3 harg3 arg4 harg4 arg5 harg5 arg6 harg6 arg7 harg7 arg8 harg8 arg9 harg9 arg10 harg10) K := by
  have hq : (runFirst (F := Ideal) c i arg2 harg2 arg3 harg3 arg4 harg4 arg5 harg5 arg6 harg6 arg7 harg7 arg8 harg8 arg9 harg9 arg10 harg10 hc0 x0 x1 x2 x3 x4 x5 y6 y7 y8).1 = (sumQ x0 x1 x2 x3 x4 x5 (i 1).val) := funext fun y => (first_q c i arg2 harg2 arg3 harg3 arg4 harg4 arg5 harg5 arg6 harg6 arg7 harg7 arg8 harg8 arg9 harg9 arg10 harg10 x0 x1 x2 x3 x4 x5 y6 y7 y8 hc0 y).trans (zero_add (M := EReal) _)
  have hk : (runFirst (F := Ideal) c i arg2 harg2 arg3 harg3 arg4 harg4 arg5 harg5 arg6 harg6 arg7 harg7 arg8 harg8 arg9 harg9 arg10 harg10 hc0 x0 x1 x2 x3 x4 x5 y6 y7 y8).2.1 = newK x0 x1 x2 x3 x4 x5 (i 1).val := funext fun y => first_k c i arg2 harg2 arg3 harg3 arg4 harg4 arg5 harg5 arg6 harg6 arg7 harg7 arg8 harg8 arg9 harg9 arg10 harg10 x0 x1 x2 x3 x4 x5 y6 y7 y8 hc0 y
  have hv : (runFirst (F := Ideal) c i arg2 harg2 arg3 harg3 arg4 harg4 arg5 harg5 arg6 harg6 arg7 harg7 arg8 harg8 arg9 harg9 arg10 harg10 hc0 x0 x1 x2 x3 x4 x5 y6 y7 y8).2.2.1 = newV x0 x1 x2 x4 (i 1).val := funext fun y => first_v c i arg2 harg2 arg3 harg3 arg4 harg4 arg5 harg5 arg6 harg6 arg7 harg7 arg8 harg8 arg9 harg9 arg10 harg10 x0 x1 x2 x3 x4 x5 y6 y7 y8 hc0 y
  generalize runFirst (F := Ideal) c i arg2 harg2 arg3 harg3 arg4 harg4 arg5 harg5 arg6 harg6 arg7 harg7 arg8 harg8 arg9 harg9 arg10 harg10 hc0 x0 x1 x2 x3 x4 x5 y6 y7 y8 = r at hq hk hv
  obtain ⟨o6, o7, o8, ho⟩ := r
  dsimp only at hq hk hv
  subst hq hk hv
  exact ho E K

/-- The body at a later key block, with the closed forms of what it leaves. -/
theorem body_next (c : Dev nD) (i : grid0.Coords) (arg2 : Memref sig .tc .vmem S4096x256 .bf16) (harg2 : arg2.IsWhole) (arg3 : Memref sig .tc .vmem S4096x128 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S4096x256 .f32) (harg8 : arg8.IsWhole) (arg9 : Memref sig .tc .vmem S512x256 .f32) (harg9 : arg9.IsWhole) (arg10 : Memref sig .tc .vmem S512x128 .f32) (harg10 : arg10.IsWhole) (hc0 : ¬isFirst i) (x0 : Vec Ideal S4096x256 .bf16) (x1 : Vec Ideal S4096x128 .bf16) (x2 : Vec Ideal S4096x256 .f32) (x3 : Vec Ideal S4096x256 .f32) (x4 : Vec Ideal S512x256 .bf16) (x5 : Vec Ideal S512x128 .bf16)
    (y6 : Vec Ideal S4096x256 .f32) (y7 : Vec Ideal S512x256 .f32) (y8 : Vec Ideal S512x128 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fun y => y6 y + sumQ x0 x1 x2 x3 x4 x5 (i 1).val y) ∗ owns (c : Thread nD τ) arg9 fullShare (newK x0 x1 x2 x3 x4 x5 (i 1).val) ∗ owns (c : Thread nD τ) arg10 fullShare (newV x0 x1 x2 x4 (i 1).val)) -∗ K ⟨⟩))
          ⊢ wp frame (wpE (defs₀ (F := Ideal)) Variants.none c none) E (cc0_mla_attn_bwd i arg2 harg2 arg3 harg3 arg4 harg4 arg5 harg5 arg6 harg6 arg7 harg7 arg8 harg8 arg9 harg9 arg10 harg10) K := by
  have hq : (runNext (F := Ideal) c i arg2 harg2 arg3 harg3 arg4 harg4 arg5 harg5 arg6 harg6 arg7 harg7 arg8 harg8 arg9 harg9 arg10 harg10 hc0 x0 x1 x2 x3 x4 x5 y6 y7 y8).1 = (fun y => y6 y + sumQ x0 x1 x2 x3 x4 x5 (i 1).val y) := funext fun y => next_q c i arg2 harg2 arg3 harg3 arg4 harg4 arg5 harg5 arg6 harg6 arg7 harg7 arg8 harg8 arg9 harg9 arg10 harg10 x0 x1 x2 x3 x4 x5 y6 y7 y8 hc0 y
  have hk : (runNext (F := Ideal) c i arg2 harg2 arg3 harg3 arg4 harg4 arg5 harg5 arg6 harg6 arg7 harg7 arg8 harg8 arg9 harg9 arg10 harg10 hc0 x0 x1 x2 x3 x4 x5 y6 y7 y8).2.1 = newK x0 x1 x2 x3 x4 x5 (i 1).val := funext fun y => next_k c i arg2 harg2 arg3 harg3 arg4 harg4 arg5 harg5 arg6 harg6 arg7 harg7 arg8 harg8 arg9 harg9 arg10 harg10 x0 x1 x2 x3 x4 x5 y6 y7 y8 hc0 y
  have hv : (runNext (F := Ideal) c i arg2 harg2 arg3 harg3 arg4 harg4 arg5 harg5 arg6 harg6 arg7 harg7 arg8 harg8 arg9 harg9 arg10 harg10 hc0 x0 x1 x2 x3 x4 x5 y6 y7 y8).2.2.1 = newV x0 x1 x2 x4 (i 1).val := funext fun y => next_v c i arg2 harg2 arg3 harg3 arg4 harg4 arg5 harg5 arg6 harg6 arg7 harg7 arg8 harg8 arg9 harg9 arg10 harg10 x0 x1 x2 x3 x4 x5 y6 y7 y8 hc0 y
  generalize runNext (F := Ideal) c i arg2 harg2 arg3 harg3 arg4 harg4 arg5 harg5 arg6 harg6 arg7 harg7 arg8 harg8 arg9 harg9 arg10 harg10 hc0 x0 x1 x2 x3 x4 x5 y6 y7 y8 = r at hq hk hv
  obtain ⟨o6, o7, o8, ho⟩ := r
  dsimp only at hq hk hv
  subst hq hk hv
  exact ho E K

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => heldQ m c t.val t.isLt
    | ⟨7, _⟩ => stepK m c t
    | ⟨8, _⟩ => stepV m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem after0_6 (c : Dev nD) (t : Fin cfg0.N) : (dats m 0 c).after 6 t = heldQ m c t.val t.isLt := by dsimp only [dats]
theorem after0_7 (c : Dev nD) (t : Fin cfg0.N) : (dats m 0 c).after 7 t = stepK m c t := by dsimp only [dats]
theorem after0_8 (c : Dev nD) (t : Fin cfg0.N) : (dats m 0 c).after 8 t = stepV m c t := by dsimp only [dats]

/-- At a later key block the buffer of the queries' gradient holds what the block before left. -/
theorem before0_6 (c : Dev nD) (t : Fin cfg0.N) (h : ¬t.val % 8 = 0) (d) :
    (dats m 0 c).before 6 t d = heldQ m c (t.val - 1) (Nat.lt_of_le_of_lt (Nat.sub_le _ _) t.isLt) := by
  rw [(dats m 0 c).before_out_kept 6 rfl t (by omega) (Bool.eq_false_iff.mpr fun hf => by
    have h7 := (flush0_6 _).mp hf
    simp only at h7
    omega) (fun _ => rfl) (fun _ _ => rfl) d, after0_6]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point, from the two runs and the closed forms of what they leave. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  by_cases h0 : t.val % 8 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c (grid0.coords t) _ _ _ _ _ _ _ _ _ _ _ _ _ _ _ _ _ _ ((isFirst_iff t).mpr h0) (iblk m c 0 t) (iblk m c 1 t) (iblk m c 2 t) (iblk m c 3 t) (iblk m c 4 t) (iblk m c 5 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · rw [heldQ_first m c t h0]; iexact H6
    isplitl [H7]; · iexact H7
    iexact H8
  · simp only [before0_6 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_next c (grid0.coords t) _ _ _ _ _ _ _ _ _ _ _ _ _ _ _ _ _ _ (fun h => h0 ((isFirst_iff t).mp h)) (iblk m c 0 t) (iblk m c 1 t) (iblk m c 2 t) (iblk m c 3 t) (iblk m c 4 t) (iblk m c 5 t) (heldQ m c (t.val - 1) (Nat.lt_of_le_of_lt (Nat.sub_le _ _) t.isLt)) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · rw [heldQ_next m c t h0]; iexact H6
    isplitl [H7]; · iexact H7
    iexact H8

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch: every run of the program ends, with the pipeline's arrays at what the data name and no counter left. -/
theorem run_main : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program ends with its arguments as they were and no counter left. -/
theorem quiet : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelIdeal.Launch

end
-- ==== Proof.Reals.lean ====
module

public import Idealize.ShloMosaic.PureOps.Ideal
public import Mathlib.Analysis.SpecialFunctions.Log.Basic
public import Mathlib.Algebra.BigOperators.Intervals

/-!
# The gradient of the causal attention over the real numbers

The attention's probabilities and the gradients of its three arguments as sums of real numbers, with positions and columns counted by
natural numbers, and the facts that join the two ways of computing them: with the rows' log-sums, and with a normalised exponential.
-/

@[expose] public section

noncomputable section

namespace Cert.Spec

open Finset Idealize.ShloMosaic

variable (σ : ℝ) (q k v o : ℕ → ℕ → ℝ)

/-- The score of head `h`'s query `i` at key `j`. -/
def score (h i j : ℕ) : ℝ := (∑ d ∈ range 128, q i (128 * h + d) * k j (128 * h + d)) * σ

/-- Its exponential, zero at the keys after the query. -/
def weight (h i j : ℕ) : ℝ := if i < j then 0 else Real.exp (score σ q k h i j)

/-- A query's sum of exponentials. -/
def total (h i : ℕ) : ℝ := ∑ j ∈ range 4096, weight σ q k h i j

/-- The attention's probability. -/
def share (h i j : ℕ) : ℝ := weight σ q k h i j / total σ q k h i

/-- The gradient of a probability. -/
def dshare (h i j : ℕ) : ℝ := ∑ d ∈ range 64, o i (64 * h + d) * v j (64 * h + d)

/-- A row's mean of the probabilities' gradients. -/
def mean (h i : ℕ) : ℝ := ∑ j ∈ range 4096, share σ q k h i j * dshare v o h i j

/-- The gradient of a score, times the scale. -/
def dscore (h i j : ℕ) : ℝ := share σ q k h i j * (dshare v o h i j - mean σ q k v o h i) * σ

/-- The gradients of the queries, of the keys and of the values, at a position and a column. -/
def gradQ (i c : ℕ) : ℝ := ∑ j ∈ range 4096, dscore σ q k v o (c / 128) i j * k j c
def gradK (j c : ℕ) : ℝ := ∑ i ∈ range 4096, dscore σ q k v o (c / 128) i j * q i c
def gradV (j c : ℕ) : ℝ := ∑ i ∈ range 4096, share σ q k (c / 64) i j * o i c

theorem weight_nonneg (h i j : ℕ) : 0 ≤ weight σ q k h i j := by
  unfold weight; split
  · exact le_rfl
  · exact (Real.exp_pos _).le

theorem total_pos (h i : ℕ) : 0 < total σ q k h i := by
  unfold total
  refine sum_pos' (fun j _ => weight_nonneg σ q k h i j) ⟨0, by simp, ?_⟩
  unfold weight
  rw [if_neg (Nat.not_lt_zero i)]
  exact Real.exp_pos _

theorem share_after (h i j : ℕ) (hj : i < j) : share σ q k h i j = 0 := by
  unfold share weight; rw [if_pos hj, zero_div]

theorem dscore_after (h i j : ℕ) (hj : i < j) : dscore σ q k v o h i j = 0 := by
  unfold dscore; rw [share_after σ q k h i j hj, zero_mul, zero_mul]

/-- The exponentials taken after a row's number `M` is subtracted: the row's weights times one factor. -/
def shifted (M : ℝ) (h i j : ℕ) : ℝ := if i < j then 0 else Real.exp (score σ q k h i j - M)

theorem shifted_eq (M : ℝ) (h i j : ℕ) : shifted σ q k M h i j = weight σ q k h i j * Real.exp (-M) := by
  unfold shifted weight; split
  · rw [zero_mul]
  · rw [sub_eq_add_neg, Real.exp_add]

theorem sum_shifted (M : ℝ) (h i : ℕ) : ∑ j ∈ range 4096, shifted σ q k M h i j = total σ q k h i * Real.exp (-M) := by
  unfold total; rw [sum_mul]; exact sum_congr rfl fun j _ => shifted_eq σ q k M h i j

theorem sum_shifted_pos (M : ℝ) (h i : ℕ) : 0 < ∑ j ∈ range 4096, shifted σ q k M h i j := by
  rw [sum_shifted]; exact mul_pos (total_pos σ q k h i) (Real.exp_pos _)

/-- The normalised exponentials are the probabilities, whatever was subtracted. -/
theorem share_of_shifted (M : ℝ) (h i j : ℕ) :
    shifted σ q k M h i j / ∑ j' ∈ range 4096, shifted σ q k M h i j' = share σ q k h i j := by
  rw [sum_shifted, shifted_eq]; unfold share
  exact mul_div_mul_right _ _ (Real.exp_pos _).ne'

/-- The exponential of a score less the row's log-sum is the probability. -/
theorem share_of_logsum (M : ℝ) (h i j : ℕ) (hj : ¬i < j) :
    Real.exp (score σ q k h i j - (M + Real.log (∑ j' ∈ range 4096, shifted σ q k M h i j'))) = share σ q k h i j := by
  rw [← share_of_shifted σ q k M h i j, ← sub_sub, Real.exp_sub, Real.exp_log (sum_shifted_pos σ q k M h i)]
  unfold shifted; rw [if_neg hj]

/-- A row's sum of the output times its gradient is the row's mean. -/
theorem mean_of_output (h i : ℕ) :
    ∑ d ∈ range 64, o i (64 * h + d) * ∑ j ∈ range 4096, share σ q k h i j * v j (64 * h + d) = mean σ q k v o h i := by
  unfold mean dshare
  simp only [mul_sum]
  rw [sum_comm]
  exact sum_congr rfl fun j _ => sum_congr rfl fun d _ => by ring

/-- The scores' gradient by the derivative of the quotient of the exponentials by their sum. -/
theorem dscore_of_quotient (M : ℝ) (h i j : ℕ) (D : ℝ) (hD : D = ∑ j' ∈ range 4096, shifted σ q k M h i j') :
    (dshare v o h i j / D + -∑ j' ∈ range 4096, dshare v o h i j' * (1 / (D * D)) * shifted σ q k M h i j') * shifted σ q k M h i j * σ
      = dscore σ q k v o h i j := by
  have hp : 0 < D := hD ▸ sum_shifted_pos σ q k M h i
  have hs : ∀ j, shifted σ q k M h i j = share σ q k h i j * D := fun j => by
    rw [← share_of_shifted σ q k M h i j, ← hD]; field_simp
  have hm : ∑ j' ∈ range 4096, dshare v o h i j' * (1 / (D * D)) * shifted σ q k M h i j' = mean σ q k v o h i / D := by
    unfold mean; rw [sum_div]
    refine sum_congr rfl fun j' _ => ?_
    rw [hs]; field_simp
  rw [hm, hs]; unfold dscore
  field_simp
  ring

/-- A sum over `512 * N` numbers, block by block. -/
theorem sum_blocks (f : ℕ → ℝ) (N : ℕ) : ∑ i ∈ range (512 * N), f i = ∑ n ∈ range N, ∑ r ∈ range 512, f (512 * n + r) := by
  induction N with
  | zero => simp
  | succ N ih =>
    rw [Nat.mul_succ, sum_range_add, ih]
    exact (sum_range_succ (fun n => ∑ r ∈ range 512, f (512 * n + r)) N).symm

/-- A sum over the eight blocks whose terms before block `n0` are zero. -/
theorem sum_from (B : ℕ → ℝ) (n0 : ℕ) (h0 : n0 < 8) (hB : ∀ n, n < n0 → B n = 0) :
    ∑ n ∈ range 8, B n = B n0 + ∑ b ∈ range (7 - n0), B (n0 + 1 + b) := by
  have e : (8 : ℕ) = n0 + 1 + (7 - n0) := by omega
  conv_lhs => rw [e]
  rw [sum_range_add, sum_range_succ, sum_eq_zero fun n hn => hB n (mem_range.mp hn), zero_add]

/-- A sum over 128 lanes that keeps the 64 of one head. -/
theorem sum_half (f g : ℕ → ℝ) (h : ℕ) (hh : h < 2) :
    ∑ d ∈ range 128, f d * (if d / 64 = h then g d else 0) = ∑ d ∈ range 64, f (64 * h + d) * g (64 * h + d) := by
  rw [show (128 : ℕ) = 64 + 64 from rfl, sum_range_add]
  interval_cases h
  · rw [sum_congr rfl fun d hd => by rw [if_pos (by have := mem_range.mp hd; omega)],
      sum_eq_zero (s := range 64) (f := fun d => f (64 + d) * _) fun d hd => by
        rw [if_neg (by have := mem_range.mp hd; omega), mul_zero], add_zero]
    exact sum_congr rfl fun d _ => by rw [Nat.mul_zero, Nat.zero_add]
  · rw [sum_eq_zero fun d hd => by rw [if_neg (by have := mem_range.mp hd; omega), mul_zero], zero_add]
    exact sum_congr rfl fun d hd => by rw [if_pos (by have := mem_range.mp hd; omega), Nat.mul_one]

/-! ### Real numbers among the extended ones -/

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

/-- A sum over positions of real numbers, counted by natural numbers. -/
theorem coe_sum_fin {n : ℕ} (f : Fin n → EReal) (g : ℕ → ℝ) (h : ∀ i : Fin n, f i = (g i.val : EReal)) :
    ∑ i, f i = ((∑ i ∈ range n, g i : ℝ) : EReal) := by
  rw [sum_congr rfl fun i _ => h i, coe_sum, sum_range]

theorem exp_coe (r : ℝ) : Ideal.exp (r : EReal) = ((Real.exp r : ℝ) : EReal) := rfl
theorem exp_bot : Ideal.exp ⊥ = 0 := rfl
theorem log_coe (r : ℝ) (h : 0 < r) : Ideal.log (r : EReal) = ((Real.log r : ℝ) : EReal) := if_neg (not_le.mpr h)
theorem div_coe (x y : ℝ) (h : y ≠ 0) : Ideal.div (x : EReal) (y : EReal) = ((x / y : ℝ) : EReal) := by
  unfold Ideal.div
  rw [if_neg (by exact_mod_cast h), div_eq_mul_inv, EReal.coe_mul, EReal.coe_inv]

end Cert.Spec

end
-- ==== Proof.TileReal.lean ====
module

public import proofs.«01_k».proof.Proof.Reals
public import proofs.«01_k».proof.Proof.BodyValue

/-!
# What the body adds, over the real numbers

On staged blocks that hold real numbers — a pair of heads' queries, output gradients, log-sums and means, and one block of keys and values —
the body's three closed forms are the gradients' sums: the keys' and the values' whole, the queries' over the block's 512 keys.
-/

@[expose] public section

set_option maxRecDepth 16384

noncomputable section

namespace Cert.KernelIdeal.Body

open Idealize.ShloMosaic Idealize.SL.Sem
open Cert.KernelIdeal Cert.KernelIdeal.Gen Cert.KernelIdeal.Tile Cert.Spec
open Finset

/-- The staged blocks of pair `p` and key block `n0` hold the real arrays' numbers. -/
structure Staged (σ : ℝ) (q k v o : ℕ → ℕ → ℝ) (L : ℕ → ℕ → ℝ) (p n0 : ℕ) (X0 : Wide) (X1 : Narrow) (X2 X3 : Wide)
    (x4 : (⟨2, ![512, 256]⟩ : Shape).Idx → EReal) (x5 : Blk) : Prop where
  sc : scale = (σ : EReal)
  qq : ∀ r l, r < 4096 → l < 256 → at2 X0 r l = (q r (256 * p + l) : EReal)
  oo : ∀ r l, r < 4096 → l < 128 → at2 X1 r l = (o r (128 * p + l) : EReal)
  ls : ∀ r l, r < 4096 → l < 256 → at2 X2 r l = (L (2 * p + l / 128) r : EReal)
  dd : ∀ r l, r < 4096 → l < 256 → at2 X3 r l = (mean σ q k v o (2 * p + l / 128) r : EReal)
  kk : ∀ r l, r < 512 → l < 256 → at2 x4 r l = (k (512 * n0 + r) (256 * p + l) : EReal)
  vv : ∀ r l, r < 512 → l < 128 → at2 x5 r l = (v (512 * n0 + r) (128 * p + l) : EReal)
  lsum : ∀ h i j, ¬i < j → Real.exp (score σ q k h i j - L h i) = share σ q k h i j
  hn : n0 < 8

variable {σ : ℝ} {q k v o L : ℕ → ℕ → ℝ} {p n0 : ℕ} {X0 : Wide} {X1 : Narrow} {X2 X3 : Wide}
  {x4 : (⟨2, ![512, 256]⟩ : Shape).Idx → EReal} {x5 : Blk}

/-- The tiles the body meets: the masked one on the diagonal, the others below it. -/
def Met (m : Bool) (n n0 : ℕ) : Prop := n < 8 ∧ (m = true ∧ n = n0 ∨ m = false ∧ n0 < n)

theorem at2_blk (C : Blk) (f : ℕ → ℕ → EReal) (hC : ∀ j, C j = f (j 0).val (j 1).val) (a b : ℕ) (ha : a < 512) (hb : b < 128) : at2 C a b = f a b := by
  unfold at2
  rw [hC]
  show f (a % 512) (b % 128) = _
  rw [Nat.mod_eq_of_lt ha, Nat.mod_eq_of_lt hb]

variable (S : Staged σ q k v o L p n0 X0 X1 X2 X3 x4 x5)
include S

theorem tileP_real (m : Bool) (n h : ℕ) (hm : Met m n n0) (hh : h < 2) (j : (⟨2, ![512, 512]⟩ : Shape).Idx) :
    tileP m X0 X2 (keys x4 h) h n j = (share σ q k (2 * p + h) (512 * n + (j 0).val) (512 * n0 + (j 1).val) : EReal) := by
  have h0 : (j 0).val < 512 := (j 0).isLt
  have h1 : (j 1).val < 512 := (j 1).isLt
  have hn := hm.1
  have hin : inner (blkAt X0 (512 * n) (128 * h)) (keys x4 h) j * scale = (score σ q k (2 * p + h) (512 * n + (j 0).val) (512 * n0 + (j 1).val) : EReal) := by
    unfold score
    rw [EReal.coe_mul, ← S.sc]
    refine congrArg (· * scale) (coe_sum_fin _ _ fun d => ?_)
    have hd := d.isLt
    show at2 X0 (512 * n + (j 0).val) (128 * h + d.val) * at2 x4 (0 + (j 1).val) (128 * h + d.val) = _
    rw [S.qq _ _ (by omega) (by omega), S.kk _ _ (by omega) (by omega), ← EReal.coe_mul,
      show 256 * p + (128 * h + d.val) = 128 * (2 * p + h) + d.val by omega, Nat.zero_add]
  have hl : blkAt X2 (512 * n) (128 * h) (ix2 (j 0) (lane (j 1))) = (L (2 * p + h) (512 * n + (j 0).val) : EReal) := by
    show at2 X2 (512 * n + (j 0).val) (128 * h + (j 1).val % 128) = _
    rw [S.ls _ _ (by omega) (by omega), show (128 * h + (j 1).val % 128) / 128 = h by omega]
  show Ideal.exp ((if m = true ∧ (j 0).val < (j 1).val then ⊥ else inner (blkAt X0 (512 * n) (128 * h)) (keys x4 h) j * scale)
    - blkAt X2 (512 * n) (128 * h) (ix2 (j 0) (lane (j 1)))) = _
  rw [hin, hl]
  by_cases hc : 512 * n + (j 0).val < 512 * n0 + (j 1).val
  · rw [if_pos (by
      rcases hm.2 with ⟨e, e'⟩ | ⟨e, e'⟩
      · exact ⟨e, by omega⟩
      · omega), EReal.bot_sub, exp_bot, share_after σ q k _ _ _ hc, EReal.coe_zero]
  · rw [if_neg (by
      rintro ⟨e, e'⟩
      rcases hm.2 with ⟨f, f'⟩ | ⟨f, f'⟩
      · omega
      · rw [e] at f; exact absurd f (by decide)), ← EReal.coe_sub, exp_coe, S.lsum _ _ _ hc]

theorem tileS_real (m : Bool) (n h : ℕ) (hm : Met m n n0) (hh : h < 2) (j : (⟨2, ![512, 512]⟩ : Shape).Idx) :
    tileS m X0 X1 X2 X3 (keys x4 h) (vals x5 h) h n j
      = (dscore σ q k v o (2 * p + h) (512 * n + (j 0).val) (512 * n0 + (j 1).val) : EReal) := by
  have h0 : (j 0).val < 512 := (j 0).isLt
  have h1 : (j 1).val < 512 := (j 1).isLt
  have hn := hm.1
  have hg : inner (blkAt X1 (512 * n) 0) (vals x5 h) j = (dshare v o (2 * p + h) (512 * n + (j 0).val) (512 * n0 + (j 1).val) : EReal) := by
    have e := sum_half (fun d => o (512 * n + (j 0).val) (128 * p + d)) (fun d => v (512 * n0 + (j 1).val) (128 * p + d)) h hh
    unfold dshare
    rw [show ∑ d ∈ range 64, o (512 * n + (j 0).val) (64 * (2 * p + h) + d) * v (512 * n0 + (j 1).val) (64 * (2 * p + h) + d)
      = ∑ d ∈ range 64, o (512 * n + (j 0).val) (128 * p + (64 * h + d)) * v (512 * n0 + (j 1).val) (128 * p + (64 * h + d)) from
      sum_congr rfl fun d _ => by rw [show 64 * (2 * p + h) + d = 128 * p + (64 * h + d) by omega], ← e]
    refine coe_sum_fin _ _ fun d => ?_
    have hd := d.isLt
    show at2 X1 (512 * n + (j 0).val) (0 + d.val) * (if d.val / 64 = h then x5 (ix2 (j 1) d) else 0) = _
    rw [S.oo _ _ (by omega) (by omega), Nat.zero_add, at2_coords (n := 512) (m := 128) x5 (ix2 (j 1) d) (j 1).val d.val rfl rfl, S.vv _ _ h1 hd]
    split
    · rw [EReal.coe_mul]
    · rw [mul_zero, mul_zero, EReal.coe_zero]
  have hd : blkAt X3 (512 * n) (128 * h) (ix2 (j 0) (lane (j 1))) = (mean σ q k v o (2 * p + h) (512 * n + (j 0).val) : EReal) := by
    show at2 X3 (512 * n + (j 0).val) (128 * h + (j 1).val % 128) = _
    rw [S.dd _ _ (by omega) (by omega), show (128 * h + (j 1).val % 128) / 128 = h by omega]
  show tileP m X0 X2 (keys x4 h) h n j * (inner (blkAt X1 (512 * n) 0) (vals x5 h) j
    - blkAt X3 (512 * n) (128 * h) (ix2 (j 0) (lane (j 1)))) * scale = _
  rw [tileP_real S m n h hm hh, hg, hd, S.sc]
  unfold dscore
  rw [EReal.coe_mul, EReal.coe_mul, EReal.coe_sub]

/-- One tile's part of the keys' gradient, of the values' and of the queries'. -/
theorem addK_real (m : Bool) (n h : ℕ) (hm : Met m n n0) (hh : h < 2) (j : (⟨2, ![512, 128]⟩ : Shape).Idx) :
    addK m X0 X1 X2 X3 (keys x4 h) (vals x5 h) h n j
      = ((∑ r ∈ range 512, dscore σ q k v o (2 * p + h) (512 * n + r) (512 * n0 + (j 0).val) * q (512 * n + r) (256 * p + (128 * h + (j 1).val)) : ℝ) : EReal) := by
  have h1 : (j 1).val < 128 := (j 1).isLt
  have hn := hm.1
  refine coe_sum_fin _ _ fun r => ?_
  have hr := r.isLt
  rw [tileS_real S m n h hm hh]
  show _ * at2 X0 (512 * n + r.val) (128 * h + (j 1).val) = _
  rw [S.qq _ _ (by omega) (by omega), EReal.coe_mul]
  rfl

theorem addV_real (m : Bool) (n h : ℕ) (hm : Met m n n0) (hh : h < 2) (j : (⟨2, ![512, 128]⟩ : Shape).Idx) :
    addV m X0 X1 X2 (keys x4 h) h n j
      = ((∑ r ∈ range 512, share σ q k (2 * p + h) (512 * n + r) (512 * n0 + (j 0).val) * o (512 * n + r) (128 * p + (j 1).val) : ℝ) : EReal) := by
  have h1 : (j 1).val < 128 := (j 1).isLt
  have hn := hm.1
  refine coe_sum_fin _ _ fun r => ?_
  have hr := r.isLt
  rw [tileP_real S m n h hm hh]
  show _ * at2 X1 (512 * n + r.val) (0 + (j 1).val) = _
  rw [S.oo _ _ (by omega) (by omega), EReal.coe_mul, Nat.zero_add]
  rfl

theorem addQ_real (m : Bool) (n h : ℕ) (hm : Met m n n0) (hh : h < 2) (j : (⟨2, ![512, 128]⟩ : Shape).Idx) :
    addQ m X0 X1 X2 X3 (keys x4 h) (vals x5 h) h n j
      = ((∑ r ∈ range 512, dscore σ q k v o (2 * p + h) (512 * n + (j 0).val) (512 * n0 + r) * k (512 * n0 + r) (256 * p + (128 * h + (j 1).val)) : ℝ) : EReal) := by
  have h1 : (j 1).val < 128 := (j 1).isLt
  refine coe_sum_fin _ _ fun r => ?_
  have hr := r.isLt
  rw [tileS_real S m n h hm hh]
  show _ * at2 x4 (0 + r.val) (128 * h + (j 1).val) = _
  rw [S.kk _ _ (by omega) (by omega), EReal.coe_mul, Nat.zero_add]
  rfl

theorem met_diag : Met true n0 n0 := ⟨S.hn, Or.inl ⟨rfl, rfl⟩⟩
omit S in
theorem met_below (b : ℕ) (hb : b < 7 - n0) : Met false (n0 + 1 + b) n0 := ⟨by omega, Or.inr ⟨rfl, by omega⟩⟩

theorem totK_real (h : ℕ) (hh : h < 2) (j : (⟨2, ![512, 128]⟩ : Shape).Idx) :
    totK X0 X1 X2 X3 (keys x4 h) (vals x5 h) h n0 j = (gradK σ q k v o (512 * n0 + (j 0).val) (256 * p + (128 * h + (j 1).val)) : EReal) := by
  have h1 : (j 1).val < 128 := (j 1).isLt
  unfold totK gradK
  rw [show (4096 : ℕ) = 512 * 8 from rfl, sum_blocks, sum_from _ n0 S.hn fun n hn => sum_eq_zero fun r hr => by
      rw [dscore_after σ q k v o _ _ _ (by have := mem_range.mp hr; omega), zero_mul],
    show (256 * p + (128 * h + (j 1).val)) / 128 = 2 * p + h by omega, addK_real S true n0 h (met_diag S) hh,
    sum_congr rfl fun b hb => addK_real S false _ h (met_below b (mem_range.mp hb)) hh j, coe_sum, ← EReal.coe_add]

theorem totV_real (h : ℕ) (hh : h < 2) (j : (⟨2, ![512, 128]⟩ : Shape).Idx) (hj : (j 1).val / 64 = h) :
    totV X0 X1 X2 (keys x4 h) h n0 j = (gradV σ q k o (512 * n0 + (j 0).val) (128 * p + (j 1).val) : EReal) := by
  have h1 : (j 1).val < 128 := (j 1).isLt
  unfold totV gradV
  rw [show (4096 : ℕ) = 512 * 8 from rfl, sum_blocks, sum_from _ n0 S.hn fun n hn => sum_eq_zero fun r hr => by
      rw [share_after σ q k _ _ _ (by have := mem_range.mp hr; omega), zero_mul],
    show (128 * p + (j 1).val) / 64 = 2 * p + h by omega, addV_real S true n0 h (met_diag S) hh,
    sum_congr rfl fun b hb => addV_real S false _ h (met_below b (mem_range.mp hb)) hh j, coe_sum, ← EReal.coe_add]

/-- The keys' gradient that the body stores. -/
theorem newK_real (y : (⟨2, ![512, 256]⟩ : Shape).Idx) :
    newK X0 X1 X2 X3 x4 x5 n0 y = (gradK σ q k v o (512 * n0 + (y 0).val) (256 * p + (y 1).val) : EReal) := by
  have h0 : (y 0).val < 512 := (y 0).isLt
  have h1 : (y 1).val < 256 := (y 1).isLt
  unfold newK
  split
  · rw [at2_blk _ (fun a b => (gradK σ q k v o (512 * n0 + a) (256 * p + (128 * 1 + b)) : EReal)) (totK_real S 1 (by norm_num)) _ _ h0 (by omega),
      show 128 * 1 + (y 1).val % 128 = (y 1).val by omega]
  · rw [at2_blk _ (fun a b => (gradK σ q k v o (512 * n0 + a) (256 * p + (128 * 0 + b)) : EReal)) (totK_real S 0 (by norm_num)) _ _ h0 (by omega),
      show 128 * 0 + (y 1).val % 128 = (y 1).val by omega]

/-- The values' gradient that the body stores. -/
theorem newV_real (y : (⟨2, ![512, 128]⟩ : Shape).Idx) :
    newV X0 X1 X2 x4 n0 y = (gradV σ q k o (512 * n0 + (y 0).val) (128 * p + (y 1).val) : EReal) := by
  have h1 : (y 1).val < 128 := (y 1).isLt
  unfold newV half
  by_cases e : (y 1).val / 64 = 0
  · rw [if_pos e, if_neg (by omega), totV_real S 0 (by norm_num) y e, add_zero]
  · have e' : (y 1).val / 64 = 1 := by omega
    rw [if_neg e, if_pos e', totV_real S 1 (by norm_num) y e', zero_add]

/-- What one head adds to the queries' gradient. -/
theorem totQ_real (h : ℕ) (hh : h < 2) (y : (⟨2, ![4096, 256]⟩ : Shape).Idx) :
    totQ X0 X1 X2 X3 (keys x4 h) (vals x5 h) h n0 y
      = ((if (y 1).val / 128 = h then ∑ r ∈ range 512, dscore σ q k v o (2 * p + h) (y 0).val (512 * n0 + r) * k (512 * n0 + r) (256 * p + (y 1).val) else 0 : ℝ) : EReal) := by
  have h0 : (y 0).val < 4096 := (y 0).isLt
  have h1 : (y 1).val < 256 := (y 1).isLt
  have term : ∀ (m : Bool) (n : ℕ), Met m n n0 → spread n h (addQ m X0 X1 X2 X3 (keys x4 h) (vals x5 h) h n) y
      = ((if (y 0).val / 512 = n ∧ (y 1).val / 128 = h then ∑ r ∈ range 512, dscore σ q k v o (2 * p + h) (y 0).val (512 * n0 + r) * k (512 * n0 + r) (256 * p + (y 1).val) else 0 : ℝ) : EReal) := by
    intro m n hm
    unfold spread
    split
    · rename_i hc
      rw [at2_blk _ (fun a b => ((∑ r ∈ range 512, dscore σ q k v o (2 * p + h) (512 * n + a) (512 * n0 + r) * k (512 * n0 + r) (256 * p + (128 * h + b)) : ℝ) : EReal))
        (addQ_real S m n h hm hh) _ _ (by omega) (by omega), show 512 * n + (y 0).val % 512 = (y 0).val by omega,
        show 128 * h + (y 1).val % 128 = (y 1).val by omega]
    · exact EReal.coe_zero.symm
  unfold totQ
  rw [term true n0 (met_diag S), sum_congr rfl fun b hb => term false _ (met_below b (mem_range.mp hb)), coe_sum, ← EReal.coe_add]
  congr 1
  by_cases e : (y 1).val / 128 = h
  · simp only [e, and_true, if_true]
    rcases Nat.lt_trichotomy ((y 0).val / 512) n0 with hl | hl | hl
    · rw [if_neg hl.ne, sum_eq_zero fun b _ => if_neg (by omega), add_zero]
      exact (sum_eq_zero fun r _ => by rw [dscore_after σ q k v o _ _ _ (by omega), zero_mul]).symm
    · rw [if_pos hl, sum_eq_zero fun b _ => if_neg (by omega), add_zero]
    · rw [if_neg hl.ne', zero_add, sum_eq_single ((y 0).val / 512 - (n0 + 1)) (fun b _ hb => if_neg (by omega))
        (fun hb => absurd (mem_range.mpr (by omega)) hb), if_pos (by omega)]
  · simp only [e, and_false, if_false, sum_const_zero, add_zero]

/-- What the body adds to the queries' gradient. -/
theorem sumQ_real (y : (⟨2, ![4096, 256]⟩ : Shape).Idx) :
    sumQ X0 X1 X2 X3 x4 x5 n0 y = ((∑ r ∈ range 512, dscore σ q k v o (2 * p + (y 1).val / 128) (y 0).val (512 * n0 + r) * k (512 * n0 + r) (256 * p + (y 1).val) : ℝ) : EReal) := by
  have h1 : (y 1).val < 256 := (y 1).isLt
  unfold sumQ
  rw [totQ_real S 0 (by norm_num), totQ_real S 1 (by norm_num), ← EReal.coe_add]
  congr 1
  by_cases e : (y 1).val / 128 = 0
  · rw [if_pos e, if_neg (by omega), add_zero, e]
  · have e' : (y 1).val / 128 = 1 := by omega
    rw [if_neg e, if_pos e', zero_add, e']

end Cert.KernelIdeal.Body

end
-- ==== Proof.Arrays.lean ====
module

public import proofs.«01_k».proof.Proof.TileReal
public import proofs.«01_k».proof.Proof.IdealRun

/-!
# The kernel's results, over the real numbers

When the arrays the launch is given hold real numbers, every point's staged blocks are the blocks of those arrays, so the three result arrays
end holding the gradients at every row and column.
-/

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.KernelIdeal Cert.KernelIdeal.Gen Cert.KernelIdeal.Body Cert.KernelIdeal.Tile Cert.Spec
open Finset

/-- Which block of its array each window is on at point `t`: pair `t / 8`, key block `t % 8`. -/
theorem block_0 : ∀ t : Fin cfg0.N, win0_0.index t 0 = 0 ∧ win0_0.index t 1 = t.val / 8 :=
  (by decide +kernel : ∀ t : Fin grid0.N, win0_0.index t 0 = 0 ∧ win0_0.index t 1 = t.val / 8)
theorem block_1 : ∀ t : Fin cfg0.N, win0_1.index t 0 = 0 ∧ win0_1.index t 1 = t.val / 8 :=
  (by decide +kernel : ∀ t : Fin grid0.N, win0_1.index t 0 = 0 ∧ win0_1.index t 1 = t.val / 8)
theorem block_2 : ∀ t : Fin cfg0.N, win0_2.index t 0 = 0 ∧ win0_2.index t 1 = t.val / 8 :=
  (by decide +kernel : ∀ t : Fin grid0.N, win0_2.index t 0 = 0 ∧ win0_2.index t 1 = t.val / 8)
theorem block_3 : ∀ t : Fin cfg0.N, win0_3.index t 0 = 0 ∧ win0_3.index t 1 = t.val / 8 :=
  (by decide +kernel : ∀ t : Fin grid0.N, win0_3.index t 0 = 0 ∧ win0_3.index t 1 = t.val / 8)
theorem block_4 : ∀ t : Fin cfg0.N, win0_4.index t 0 = t.val % 8 ∧ win0_4.index t 1 = t.val / 8 :=
  (by decide +kernel : ∀ t : Fin grid0.N, win0_4.index t 0 = t.val % 8 ∧ win0_4.index t 1 = t.val / 8)
theorem block_5 : ∀ t : Fin cfg0.N, win0_5.index t 0 = t.val % 8 ∧ win0_5.index t 1 = t.val / 8 :=
  (by decide +kernel : ∀ t : Fin grid0.N, win0_5.index t 0 = t.val % 8 ∧ win0_5.index t 1 = t.val / 8)
theorem block_6 : ∀ t : Fin cfg0.N, win0_6.index t 0 = 0 ∧ win0_6.index t 1 = t.val / 8 :=
  (by decide +kernel : ∀ t : Fin grid0.N, win0_6.index t 0 = 0 ∧ win0_6.index t 1 = t.val / 8)
theorem block_7 : ∀ t : Fin cfg0.N, win0_7.index t 0 = t.val % 8 ∧ win0_7.index t 1 = t.val / 8 :=
  (by decide +kernel : ∀ t : Fin grid0.N, win0_7.index t 0 = t.val % 8 ∧ win0_7.index t 1 = t.val / 8)
theorem block_8 : ∀ t : Fin cfg0.N, win0_8.index t 0 = t.val % 8 ∧ win0_8.index t 1 = t.val / 8 :=
  (by decide +kernel : ∀ t : Fin grid0.N, win0_8.index t 0 = t.val % 8 ∧ win0_8.index t 1 = t.val / 8)

theorem key_block (t : Fin cfg0.N) : ((grid0.coords t) 1).val = t.val % 8 := by
  have e1 : (grid0.coords t 1).val = t.val / 1 % 8 := Pipeline.Grid.coords_val t 1 (by decide) rfl
  omega

/-- The arrays the launch is given hold real numbers: the queries, keys, values, output gradients, log-sums and means. -/
structure Given (m : (ℓ : Loc nD τ sig) → Buf (Elt Ideal) ℓ) (c : Dev nD) (σ : ℝ) (q k v o L : ℕ → ℕ → ℝ) : Prop where
  sc : scale = (σ : EReal)
  qq : V m c main_arg0 = (fun y => (q (y 0).val (y 1).val : EReal) : Vec Ideal S4096x1024 .bf16)
  oo : V m c main_arg3 = (fun y => (o (y 0).val (y 1).val : EReal) : Vec Ideal S4096x512 .bf16)
  ls : V m c main_v40 = (fun y => (L ((y 1).val / 128) (y 0).val : EReal) : Vec Ideal S4096x1024 .f32)
  dd : V m c main_v43 = (fun y => (mean σ q k v o ((y 1).val / 128) (y 0).val : EReal) : Vec Ideal S4096x1024 .f32)
  kk : V m c main_arg1 = (fun y => (k (y 0).val (y 1).val : EReal) : Vec Ideal S4096x1024 .bf16)
  vv : V m c main_arg2 = (fun y => (v (y 0).val (y 1).val : EReal) : Vec Ideal S4096x512 .bf16)
  lsum : ∀ h i j, ¬i < j → Real.exp (score σ q k h i j - L h i) = share σ q k h i j

variable (m : (ℓ : Loc nD τ sig) → Buf (Elt Ideal) ℓ) (c : Dev nD)

/-- Window 0's staged block at a row and a column is its array at the block's. -/
theorem staged_0 (t : Fin cfg0.N) (G : ℕ → ℕ → EReal) (hG : V m c main_arg0 = (fun y => G (y 0).val (y 1).val : Vec Ideal S4096x1024 .bf16))
    (r l : ℕ) (hr : r < 4096) (hl : l < 256) : at2 (iblk m c 0 t : Vec Ideal S4096x256 .bf16) r l = G (r) (256 * (t.val / 8) + l) := by
  obtain ⟨b0, b1⟩ := block_0 t
  have e : iblk m c 0 t = ((cfg0.win 0).blk t).view.read (Elt Ideal) (fun y => G (y 0).val (y 1).val : Vec Ideal S4096x1024 .bf16) :=
    congrArg (((cfg0.win 0).blk t).view.read (Elt Ideal)) hG
  rw [e]
  unfold at2
  rw [View.read_apply]
  refine congrArg₂ G ?_ ?_
  · show win0_0.index t 0 * 4096 + 1 * (r % 4096) = _
    rw [b0, Nat.mod_eq_of_lt hr]; omega
  · show win0_0.index t 1 * 256 + 1 * (l % 256) = _
    rw [b1, Nat.mod_eq_of_lt hl]; omega

/-- Window 1's staged block at a row and a column is its array at the block's. -/
theorem staged_1 (t : Fin cfg0.N) (G : ℕ → ℕ → EReal) (hG : V m c main_arg3 = (fun y => G (y 0).val (y 1).val : Vec Ideal S4096x512 .bf16))
    (r l : ℕ) (hr : r < 4096) (hl : l < 128) : at2 (iblk m c 1 t : Vec Ideal S4096x128 .bf16) r l = G (r) (128 * (t.val / 8) + l) := by
  obtain ⟨b0, b1⟩ := block_1 t
  have e : iblk m c 1 t = ((cfg0.win 1).blk t).view.read (Elt Ideal) (fun y => G (y 0).val (y 1).val : Vec Ideal S4096x512 .bf16) :=
    congrArg (((cfg0.win 1).blk t).view.read (Elt Ideal)) hG
  rw [e]
  unfold at2
  rw [View.read_apply]
  refine congrArg₂ G ?_ ?_
  · show win0_1.index t 0 * 4096 + 1 * (r % 4096) = _
    rw [b0, Nat.mod_eq_of_lt hr]; omega
  · show win0_1.index t 1 * 128 + 1 * (l % 128) = _
    rw [b1, Nat.mod_eq_of_lt hl]; omega

/-- Window 2's staged block at a row and a column is its array at the block's. -/
theorem staged_2 (t : Fin cfg0.N) (G : ℕ → ℕ → EReal) (hG : V m c main_v40 = (fun y => G (y 0).val (y 1).val : Vec Ideal S4096x1024 .f32))
    (r l : ℕ) (hr : r < 4096) (hl : l < 256) : at2 (iblk m c 2 t : Vec Ideal S4096x256 .f32) r l = G (r) (256 * (t.val / 8) + l) := by
  obtain ⟨b0, b1⟩ := block_2 t
  have e : iblk m c 2 t = ((cfg0.win 2).blk t).view.read (Elt Ideal) (fun y => G (y 0).val (y 1).val : Vec Ideal S4096x1024 .f32) :=
    congrArg (((cfg0.win 2).blk t).view.read (Elt Ideal)) hG
  rw [e]
  unfold at2
  rw [View.read_apply]
  refine congrArg₂ G ?_ ?_
  · show win0_2.index t 0 * 4096 + 1 * (r % 4096) = _
    rw [b0, Nat.mod_eq_of_lt hr]; omega
  · show win0_2.index t 1 * 256 + 1 * (l % 256) = _
    rw [b1, Nat.mod_eq_of_lt hl]; omega

/-- Window 3's staged block at a row and a column is its array at the block's. -/
theorem staged_3 (t : Fin cfg0.N) (G : ℕ → ℕ → EReal) (hG : V m c main_v43 = (fun y => G (y 0).val (y 1).val : Vec Ideal S4096x1024 .f32))
    (r l : ℕ) (hr : r < 4096) (hl : l < 256) : at2 (iblk m c 3 t : Vec Ideal S4096x256 .f32) r l = G (r) (256 * (t.val / 8) + l) := by
  obtain ⟨b0, b1⟩ := block_3 t
  have e : iblk m c 3 t = ((cfg0.win 3).blk t).view.read (Elt Ideal) (fun y => G (y 0).val (y 1).val : Vec Ideal S4096x1024 .f32) :=
    congrArg (((cfg0.win 3).blk t).view.read (Elt Ideal)) hG
  rw [e]
  unfold at2
  rw [View.read_apply]
  refine congrArg₂ G ?_ ?_
  · show win0_3.index t 0 * 4096 + 1 * (r % 4096) = _
    rw [b0, Nat.mod_eq_of_lt hr]; omega
  · show win0_3.index t 1 * 256 + 1 * (l % 256) = _
    rw [b1, Nat.mod_eq_of_lt hl]; omega

/-- Window 4's staged block at a row and a column is its array at the block's. -/
theorem staged_4 (t : Fin cfg0.N) (G : ℕ → ℕ → EReal) (hG : V m c main_arg1 = (fun y => G (y 0).val (y 1).val : Vec Ideal S4096x1024 .bf16))
    (r l : ℕ) (hr : r < 512) (hl : l < 256) : at2 (iblk m c 4 t : Vec Ideal S512x256 .bf16) r l = G (512 * (t.val % 8) + r) (256 * (t.val / 8) + l) := by
  obtain ⟨b0, b1⟩ := block_4 t
  have e : iblk m c 4 t = ((cfg0.win 4).blk t).view.read (Elt Ideal) (fun y => G (y 0).val (y 1).val : Vec Ideal S4096x1024 .bf16) :=
    congrArg (((cfg0.win 4).blk t).view.read (Elt Ideal)) hG
  rw [e]
  unfold at2
  rw [View.read_apply]
  refine congrArg₂ G ?_ ?_
  · show win0_4.index t 0 * 512 + 1 * (r % 512) = _
    rw [b0, Nat.mod_eq_of_lt hr]; omega
  · show win0_4.index t 1 * 256 + 1 * (l % 256) = _
    rw [b1, Nat.mod_eq_of_lt hl]; omega

/-- Window 5's staged block at a row and a column is its array at the block's. -/
theorem staged_5 (t : Fin cfg0.N) (G : ℕ → ℕ → EReal) (hG : V m c main_arg2 = (fun y => G (y 0).val (y 1).val : Vec Ideal S4096x512 .bf16))
    (r l : ℕ) (hr : r < 512) (hl : l < 128) : at2 (iblk m c 5 t : Vec Ideal S512x128 .bf16) r l = G (512 * (t.val % 8) + r) (128 * (t.val / 8) + l) := by
  obtain ⟨b0, b1⟩ := block_5 t
  have e : iblk m c 5 t = ((cfg0.win 5).blk t).view.read (Elt Ideal) (fun y => G (y 0).val (y 1).val : Vec Ideal S4096x512 .bf16) :=
    congrArg (((cfg0.win 5).blk t).view.read (Elt Ideal)) hG
  rw [e]
  unfold at2
  rw [View.read_apply]
  refine congrArg₂ G ?_ ?_
  · show win0_5.index t 0 * 512 + 1 * (r % 512) = _
    rw [b0, Nat.mod_eq_of_lt hr]; omega
  · show win0_5.index t 1 * 128 + 1 * (l % 128) = _
    rw [b1, Nat.mod_eq_of_lt hl]; omega

variable {m c} {σ : ℝ} {q k v o L : ℕ → ℕ → ℝ} (H : Given m c σ q k v o L)
include H

theorem staged (t : Fin cfg0.N) : Staged σ q k v o L (t.val / 8) (t.val % 8) (iblk m c 0 t) (iblk m c 1 t) (iblk m c 2 t) (iblk m c 3 t)
    (iblk m c 4 t) (iblk m c 5 t) where
  sc := H.sc
  qq r l hr hl := staged_0 m c t (fun a b => (q a b : EReal)) H.qq r l hr hl
  oo r l hr hl := staged_1 m c t (fun a b => (o a b : EReal)) H.oo r l hr hl
  ls r l hr hl := (staged_2 m c t (fun a b => (L (b / 128) a : EReal)) H.ls r l hr hl).trans
    (by rw [show (256 * (t.val / 8) + l) / 128 = 2 * (t.val / 8) + l / 128 by omega])
  dd r l hr hl := (staged_3 m c t (fun a b => (mean σ q k v o (b / 128) a : EReal)) H.dd r l hr hl).trans
    (by rw [show (256 * (t.val / 8) + l) / 128 = 2 * (t.val / 8) + l / 128 by omega])
  kk r l hr hl := staged_4 m c t (fun a b => (k a b : EReal)) H.kk r l hr hl
  vv r l hr hl := staged_5 m c t (fun a b => (v a b : EReal)) H.vv r l hr hl
  lsum := H.lsum
  hn := Nat.mod_lt _ (by decide)

theorem stepK_real (t : Fin cfg0.N) (y : S512x256.Idx) :
    stepK m c t y = (gradK σ q k v o (512 * (t.val % 8) + (y 0).val) (256 * (t.val / 8) + (y 1).val) : EReal) := by
  unfold stepK
  rw [key_block]
  exact newK_real (staged H t) y

theorem stepV_real (t : Fin cfg0.N) (y : S512x128.Idx) :
    stepV m c t y = (gradV σ q k o (512 * (t.val % 8) + (y 0).val) (128 * (t.val / 8) + (y 1).val) : EReal) := by
  unfold stepV
  rw [key_block]
  exact newV_real (staged H t) y

theorem stepQ_real (t : Fin cfg0.N) (y : S4096x256.Idx) :
    stepQ m c t y = ((∑ r ∈ range 512, dscore σ q k v o (2 * (t.val / 8) + (y 1).val / 128) (y 0).val (512 * (t.val % 8) + r)
      * k (512 * (t.val % 8) + r) (256 * (t.val / 8) + (y 1).val) : ℝ) : EReal) := by
  unfold stepQ
  rw [key_block]
  exact sumQ_real (staged H t) y

/-- After a point, the queries' gradient is the sum over the pair's key blocks so far. -/
theorem heldQ_real (y : S4096x256.Idx) : ∀ (n : ℕ) (hn : n < cfg0.N), heldQ m c n hn y
    = ((∑ b ∈ range (n % 8 + 1), ∑ r ∈ range 512, dscore σ q k v o (2 * (n / 8) + (y 1).val / 128) (y 0).val (512 * b + r)
      * k (512 * b + r) (256 * (n / 8) + (y 1).val) : ℝ) : EReal) := by
  intro n
  induction n with
  | zero =>
    intro hn
    refine (stepQ_real H ⟨0, hn⟩ y).trans (congrArg _ ?_)
    simp only [Nat.zero_mod, Nat.zero_add, sum_range_one]
  | succ n ih =>
    intro hn
    by_cases h : (n + 1) % 8 = 0
    · rw [heldQ_first m c ⟨n + 1, hn⟩ h, stepQ_real H]
      exact congrArg _ (by rw [show ((n + 1) % 8 + 1) = 1 by omega, sum_range_one]; simp only [h])
    · rw [heldQ_next m c ⟨n + 1, hn⟩ h]
      refine (congrArg₂ (· + ·) (ih (by omega)) (stepQ_real H ⟨n + 1, hn⟩ y)).trans ?_
      rw [← EReal.coe_add]
      refine congrArg _ ?_
      have e0 : (n + 1) % 8 = n % 8 + 1 := by omega
      have e1 : (n + 1) / 8 = n / 8 := by omega
      show _ + ∑ r ∈ range 512, dscore σ q k v o (2 * ((n + 1) / 8) + (y 1).val / 128) (y 0).val (512 * ((n + 1) % 8) + r)
        * k (512 * ((n + 1) % 8) + r) (256 * ((n + 1) / 8) + (y 1).val) = _
      rw [e0, e1]
      exact (sum_range_succ (fun b => ∑ r ∈ range 512, dscore σ q k v o (2 * (n / 8) + (y 1).val / 128) (y 0).val (512 * b + r)
        * k (512 * b + r) (256 * (n / 8) + (y 1).val)) (n % 8 + 1)).symm

theorem heldQ_last (t : Fin cfg0.N) (h : t.val % 8 = 7) (y : S4096x256.Idx) :
    heldQ m c t.val t.isLt y = (gradQ σ q k v o (y 0).val (256 * (t.val / 8) + (y 1).val) : EReal) := by
  rw [heldQ_real H y t.val t.isLt, h]
  refine congrArg _ ?_
  have hy : (y 1).val < 256 := (y 1).isLt
  unfold gradQ
  rw [show (256 * (t.val / 8) + (y 1).val) / 128 = 2 * (t.val / 8) + (y 1).val / 128 by omega]
  exact (sum_blocks (fun j => dscore σ q k v o (2 * (t.val / 8) + (y 1).val / 128) (y 0).val j * k j (256 * (t.val / 8) + (y 1).val)) 8).symm

/-- The gradient of the queries, at the end of the run. -/
theorem final_6 : (dats m 0 c).arrAt 6 cfg0.N = (fun i : S4096x1024.Idx => (gradQ σ q k v o (i 0).val (i 1).val : EReal)) := by
  refine (dats m 0 c).arrAt_eq_of_cover 6 (fun i : S4096x1024.Idx => (gradQ σ q k v o (i 0).val (i 1).val : EReal)) (fun t hf => ?_) fun i => ?_
  · obtain ⟨b0, b1⟩ := block_6 t
    show (cfg0.win 6).cut (grid0.coords t) ((dats m 0 c).after 6 t) = _
    rw [after0_6]
    funext j
    rw [View.read_apply]
    refine (heldQ_last H t ((flush0_6 t).mp hf) ((cfg0.win 6).xinj (grid0.coords t) j)).trans ?_
    refine congrArg₂ (fun a b => (gradQ σ q k v o a b : EReal)) ?_ ?_
    · show (j 0).val = win0_6.index t 0 * 4096 + 1 * (j 0).val
      rw [b0]; omega
    · show 256 * (t.val / 8) + (j 1).val = win0_6.index t 1 * 256 + 1 * (j 1).val
      rw [b1]; omega
  · have h0 : (i 0 : ℕ) < 4096 := (i 0).isLt
    have h1 : (i 1 : ℕ) < 1024 := (i 1).isLt
    have hN : 8 * ((i 1).val / 256) + 7 < cfg0.N := by rw [show cfg0.N = 32 from N_0]; omega
    obtain ⟨b0, b1⟩ := block_6 ⟨8 * ((i 1).val / 256) + 7, hN⟩
    refine ⟨⟨8 * ((i 1).val / 256) + 7, hN⟩, (flush0_6 _).mpr (by show (8 * ((i 1).val / 256) + 7) % 8 = 7; omega), ?_⟩
    show i ∈ ((View.whole main_v44_0).slice (win0_6.rect ⟨8 * ((i 1).val / 256) + 7, hN⟩)).set
    rw [View.set_slice_whole, Rect.mem_set_unit]
    intro a
    match a with
    | ⟨0, _⟩ =>
      show win0_6.index ⟨8 * ((i 1).val / 256) + 7, hN⟩ 0 * 4096 ≤ (i 0 : ℕ) ∧ (i 0 : ℕ) < win0_6.index ⟨8 * ((i 1).val / 256) + 7, hN⟩ 0 * 4096 + 4096
      rw [b0]
      omega
    | ⟨1, _⟩ =>
      show win0_6.index ⟨8 * ((i 1).val / 256) + 7, hN⟩ 1 * 256 ≤ (i 1 : ℕ) ∧ (i 1 : ℕ) < win0_6.index ⟨8 * ((i 1).val / 256) + 7, hN⟩ 1 * 256 + 256
      rw [b1]
      dsimp only
      omega

/-- The gradient of the keys, at the end of the run. -/
theorem final_7 : (dats m 0 c).arrAt 7 cfg0.N = (fun i : S4096x1024.Idx => (gradK σ q k v o (i 0).val (i 1).val : EReal)) := by
  refine (dats m 0 c).arrAt_eq_of_cover 7 (fun i : S4096x1024.Idx => (gradK σ q k v o (i 0).val (i 1).val : EReal)) (fun t hf => ?_) fun i => ?_
  · obtain ⟨b0, b1⟩ := block_7 t
    show (cfg0.win 7).cut (grid0.coords t) ((dats m 0 c).after 7 t) = _
    rw [after0_7]
    funext j
    rw [View.read_apply]
    refine (stepK_real H t ((cfg0.win 7).xinj (grid0.coords t) j)).trans ?_
    refine congrArg₂ (fun a b => (gradK σ q k v o a b : EReal)) ?_ ?_
    · show 512 * (t.val % 8) + (j 0).val = win0_7.index t 0 * 512 + 1 * (j 0).val
      rw [b0]; omega
    · show 256 * (t.val / 8) + (j 1).val = win0_7.index t 1 * 256 + 1 * (j 1).val
      rw [b1]; omega
  · have h0 : (i 0 : ℕ) < 4096 := (i 0).isLt
    have h1 : (i 1 : ℕ) < 1024 := (i 1).isLt
    have hN : 8 * ((i 1).val / 256) + (i 0).val / 512 < cfg0.N := by rw [show cfg0.N = 32 from N_0]; omega
    obtain ⟨b0, b1⟩ := block_7 ⟨8 * ((i 1).val / 256) + (i 0).val / 512, hN⟩
    refine ⟨⟨8 * ((i 1).val / 256) + (i 0).val / 512, hN⟩, flush0_7 _, ?_⟩
    show i ∈ ((View.whole main_v44_1).slice (win0_7.rect ⟨8 * ((i 1).val / 256) + (i 0).val / 512, hN⟩)).set
    rw [View.set_slice_whole, Rect.mem_set_unit]
    intro a
    match a with
    | ⟨0, _⟩ =>
      show win0_7.index ⟨8 * ((i 1).val / 256) + (i 0).val / 512, hN⟩ 0 * 512 ≤ (i 0 : ℕ) ∧ (i 0 : ℕ) < win0_7.index ⟨8 * ((i 1).val / 256) + (i 0).val / 512, hN⟩ 0 * 512 + 512
      rw [b0]
      dsimp only
      omega
    | ⟨1, _⟩ =>
      show win0_7.index ⟨8 * ((i 1).val / 256) + (i 0).val / 512, hN⟩ 1 * 256 ≤ (i 1 : ℕ) ∧ (i 1 : ℕ) < win0_7.index ⟨8 * ((i 1).val / 256) + (i 0).val / 512, hN⟩ 1 * 256 + 256
      rw [b1]
      dsimp only
      omega

/-- The gradient of the values, at the end of the run. -/
theorem final_8 : (dats m 0 c).arrAt 8 cfg0.N = (fun i : S4096x512.Idx => (gradV σ q k o (i 0).val (i 1).val : EReal)) := by
  refine (dats m 0 c).arrAt_eq_of_cover 8 (fun i : S4096x512.Idx => (gradV σ q k o (i 0).val (i 1).val : EReal)) (fun t hf => ?_) fun i => ?_
  · obtain ⟨b0, b1⟩ := block_8 t
    show (cfg0.win 8).cut (grid0.coords t) ((dats m 0 c).after 8 t) = _
    rw [after0_8]
    funext j
    rw [View.read_apply]
    refine (stepV_real H t ((cfg0.win 8).xinj (grid0.coords t) j)).trans ?_
    refine congrArg₂ (fun a b => (gradV σ q k o a b : EReal)) ?_ ?_
    · show 512 * (t.val % 8) + (j 0).val = win0_8.index t 0 * 512 + 1 * (j 0).val
      rw [b0]; omega
    · show 128 * (t.val / 8) + (j 1).val = win0_8.index t 1 * 128 + 1 * (j 1).val
      rw [b1]; omega
  · have h0 : (i 0 : ℕ) < 4096 := (i 0).isLt
    have h1 : (i 1 : ℕ) < 512 := (i 1).isLt
    have hN : 8 * ((i 1).val / 128) + (i 0).val / 512 < cfg0.N := by rw [show cfg0.N = 32 from N_0]; omega
    obtain ⟨b0, b1⟩ := block_8 ⟨8 * ((i 1).val / 128) + (i 0).val / 512, hN⟩
    refine ⟨⟨8 * ((i 1).val / 128) + (i 0).val / 512, hN⟩, flush0_8 _, ?_⟩
    show i ∈ ((View.whole main_v44_2).slice (win0_8.rect ⟨8 * ((i 1).val / 128) + (i 0).val / 512, hN⟩)).set
    rw [View.set_slice_whole, Rect.mem_set_unit]
    intro a
    match a with
    | ⟨0, _⟩ =>
      show win0_8.index ⟨8 * ((i 1).val / 128) + (i 0).val / 512, hN⟩ 0 * 512 ≤ (i 0 : ℕ) ∧ (i 0 : ℕ) < win0_8.index ⟨8 * ((i 1).val / 128) + (i 0).val / 512, hN⟩ 0 * 512 + 512
      rw [b0]
      dsimp only
      omega
    | ⟨1, _⟩ =>
      show win0_8.index ⟨8 * ((i 1).val / 128) + (i 0).val / 512, hN⟩ 1 * 128 ≤ (i 1 : ℕ) ∧ (i 1 : ℕ) < win0_8.index ⟨8 * ((i 1).val / 128) + (i 0).val / 512, hN⟩ 1 * 128 + 128
      rw [b1]
      dsimp only
      omega

end Cert.KernelIdeal.Launch

end
-- ==== Proof.Rows.lean ====
module

public import proofs.«01_k».proof.Proof.Reals
public import Idealize.ShloMosaic.Lib.Pointwise.Reduce
public import Idealize.ShloMosaic.PureOps.Reduce
public import Idealize.ShloMosaic.PureOps.Ideal.Laws

/-!
# A row of scores at once

The host's operations along a row of scores: the sum of its entries, its maximum — a real number, for the entries are real or −∞ and the
query's own key is not masked — and the mask itself.
-/

@[expose] public section

set_option maxRecDepth 16384

noncomputable section

namespace Cert.Spec

open Idealize.ShloMosaic
open Finset

/-- The host's sum over the last axis, at a head and a row. -/
theorem row_sum {u : Shape} (x : (⟨3, ![8, 4096, 4096]⟩ : Shape).Idx → EReal) (init : u.Idx → EReal)
    (R : (⟨3, ![8, 4096, 4096]⟩ : Shape).ReducesTo [2] ⟨2, ![8, 4096]⟩) (hu : 0 < u.numel) (j : (⟨2, ![8, 4096]⟩ : Shape).Idx) :
    Host.reduceAdd (F := Ideal) (φ := .f32) x init R hu j = init (Shape.Idx.first hu) + ∑ k : Fin 4096, x (ix3 (j 0) (j 1) k) := by
  simp only [Host.reduceAdd, Ideal.hostReduceAdd_def]
  rw [Ideal.hostReduceAdd_single R (by decide)]
  refine congrArg (_ + ·) (sum_congr rfl fun k _ => ?_)
  exact congrArg x (funext fun a => Fin.ext (by match a with | ⟨0, _⟩ => rfl | ⟨1, _⟩ => rfl | ⟨2, _⟩ => rfl))

theorem row_sum_64 {u : Shape} (x : (⟨3, ![8, 4096, 64]⟩ : Shape).Idx → EReal) (init : u.Idx → EReal)
    (R : (⟨3, ![8, 4096, 64]⟩ : Shape).ReducesTo [2] ⟨2, ![8, 4096]⟩) (hu : 0 < u.numel) (j : (⟨2, ![8, 4096]⟩ : Shape).Idx) :
    Host.reduceAdd (F := Ideal) (φ := .f32) x init R hu j = init (Shape.Idx.first hu) + ∑ k : Fin 64, x (ix3 (j 0) (j 1) k) := by
  simp only [Host.reduceAdd, Ideal.hostReduceAdd_def]
  rw [Ideal.hostReduceAdd_single R (by decide)]
  refine congrArg (_ + ·) (sum_congr rfl fun k _ => ?_)
  exact congrArg x (funext fun a => Fin.ext (by match a with | ⟨0, _⟩ => rfl | ⟨1, _⟩ => rfl | ⟨2, _⟩ => rfl))

/-- The host's maximum over the last axis, at a head and a row. -/
theorem row_max {u : Shape} (x : (⟨3, ![8, 4096, 4096]⟩ : Shape).Idx → EReal) (init : u.Idx → EReal)
    (R : (⟨3, ![8, 4096, 4096]⟩ : Shape).ReducesTo [2] ⟨2, ![8, 4096]⟩) (hu : 0 < u.numel) (j : (⟨2, ![8, 4096]⟩ : Shape).Idx) :
    Host.reduce (FloatOps.maximumf (F := Ideal) (φ := .f32)) x init R hu j
      = (univ : Finset (Fin 4096)).fold max (init (Shape.Idx.first hu)) fun k => x (ix3 (j 0) (j 1) k) := by
  refine (Host.reduce_eq_fold_single (FloatOps.maximumf (F := Ideal) (φ := .f32)) x init R (by decide) hu j).trans ?_
  refine congrArg (fun f => (univ : Finset (Fin 4096)).fold max (init (Shape.Idx.first hu)) f) (funext fun k => ?_)
  exact congrArg x (funext fun a => Fin.ext (by match a with | ⟨0, _⟩ => rfl | ⟨1, _⟩ => rfl | ⟨2, _⟩ => rfl))

/-- The maximum of a row of masked scores is a real number. -/
theorem row_max_real {u : Shape} (s : ℕ → ℕ → ℕ → ℝ) (x : (⟨3, ![8, 4096, 4096]⟩ : Shape).Idx → EReal)
    (hx : ∀ j, x j = if (j 1).val < (j 2).val then (⊥ : EReal) else (s (j 0).val (j 1).val (j 2).val : EReal))
    (init : u.Idx → EReal) (R : (⟨3, ![8, 4096, 4096]⟩ : Shape).ReducesTo [2] ⟨2, ![8, 4096]⟩) (hu : 0 < u.numel)
    (hi : init (Shape.Idx.first hu) = ⊥) :
    ∃ M : ℕ → ℕ → ℝ, ∀ j : (⟨2, ![8, 4096]⟩ : Shape).Idx,
      Host.reduce (FloatOps.maximumf (F := Ideal) (φ := .f32)) x init R hu j = (M (j 0).val (j 1).val : EReal) := by
  refine ⟨fun h i => (Host.reduce (FloatOps.maximumf (F := Ideal) (φ := .f32)) x init R hu (ix2 (Fin.ofNat 8 h) (Fin.ofNat 4096 i))).toReal,
    fun j => ?_⟩
  have e : ix2 (Fin.ofNat 8 (j 0).val) (Fin.ofNat 4096 (j 1).val) = j := by
    rw [eq_ix2 j]
    congr 1
    · exact Fin.ext (Nat.mod_eq_of_lt (j 0).isLt)
    · exact Fin.ext (Nat.mod_eq_of_lt (j 1).isLt)
  show _ = ((Host.reduce (FloatOps.maximumf (F := Ideal) (φ := .f32)) x init R hu (ix2 (Fin.ofNat 8 (j 0).val) (Fin.ofNat 4096 (j 1).val))).toReal : EReal)
  rw [e]
  refine (EReal.coe_toReal ?_ ?_).symm
  · rw [row_max x init R hu j]
    refine ne_of_lt ((fold_max_lt _).mpr ⟨by rw [hi]; exact bot_lt_top, fun k _ => ?_⟩)
    rw [hx]
    split
    · exact bot_lt_top
    · exact EReal.coe_lt_top _
  · rw [row_max x init R hu j]
    refine ne_of_gt ((lt_fold_max _).mpr (Or.inr ⟨j 1, mem_univ _, ?_⟩))
    rw [hx]
    show (⊥ : EReal) < if (j 1).val < (j 1).val then (⊥ : EReal) else _
    rw [if_neg (lt_irrefl _)]
    exact EReal.bot_lt_coe _

/-- The mask: keys after the query get the other value. -/
theorem masked {α : Type} (a b : ℕ) (ha : a < 4096) (hb : b < 4096) (x y : α) :
    Scalar.select (IntOp.cmpi CmpIPredicate.sle (BitVec.ofNat 32 a) (BitVec.ofNat 32 b)) x y = if b < a then y else x := by
  have h : (BitVec.ofNat 32 a).sle (BitVec.ofNat 32 b) = decide (a ≤ b) := by
    have n : ∀ k : ℕ, k < 4096 → (BitVec.ofNat 32 k).toInt = (k : ℤ) := fun k hk => by
      have e : (BitVec.ofNat 32 k).toNat = k := by rw [BitVec.toNat_ofNat]; omega
      rw [BitVec.toInt_eq_toNat_of_lt (by omega), e]
    rw [BitVec.sle_eq_decide, n a ha, n b hb]
    simp only [Nat.cast_le]
  by_cases hab : b < a
  · rw [if_pos hab]
    unfold Scalar.select IntOp.cmpi
    simp [h, Nat.not_le.mpr hab]
  · rw [if_neg hab]
    unfold Scalar.select IntOp.cmpi
    simp [h, Nat.not_lt.mp hab]

/-- The literal the masked scores are set to. -/
theorem minus_infinity : Ideal.ofBits .f32 0xFF800000#32 = (⊥ : EReal) := by
  simp [Ideal.ofBits, Ideal.ieee]

/-- A masked score less its row's number, exponentiated. -/
theorem exp_masked (σ : ℝ) (q k : ℕ → ℕ → ℝ) (M : ℝ) (h i j : ℕ) :
    Ideal.exp ((if i < j then (⊥ : EReal) else (score σ q k h i j : EReal)) - (M : EReal)) = (shifted σ q k M h i j : EReal) := by
  unfold shifted
  split
  · rw [EReal.bot_sub]; exact exp_bot
  · rw [← EReal.coe_sub]; exact exp_coe _

end Cert.Spec

end
-- ==== Proof.Host.lean ====
module

public import proofs.«01_k».proof.Proof.Arrays
public import proofs.«01_k».proof.Proof.Rows
public import Idealize.ShloMosaic.Lib.StableHlo.RunRead
public import Idealize.ShloMosaic.Lib.StableHlo.ReadAt

/-!
# What the host prepares for the launch

The launch's windows hold, besides the arguments, each row's log-sum and each row's mean of the probabilities' gradients. For arguments
that are real numbers the host's operations before the launch compute those.
-/

@[expose] public section

set_option maxRecDepth 16384

noncomputable section

namespace Cert.KernelIdeal.Launch

open Idealize.ShloMosaic Idealize.ShloMosaic.TcCoe Idealize.ShloMosaic.Tactic
open Idealize.SL.Sem
open Cert.KernelIdeal Cert.KernelIdeal.Gen Cert.KernelIdeal.Body Cert.KernelIdeal.Tile Cert.Spec

variable (m : (ℓ : Loc nD τ sig) → Buf (Elt Ideal) ℓ) (c : Dev nD)

/-! ### Each value as the operation on those before it -/

theorem step_17 : V m c main_v17
    = Host.reduce FloatOps.maximumf (V m c main_v16) (constant (F := Ideal) S_ .f32 0xFF800000#32) reducesTo_S8x4096x4096_S8x4096_d2 h_S_ := by
  unfold V
  after_reads_simp

theorem step_21 : V m c main_v21
    = Host.exp (F := Ideal) (s := S8x4096x4096) (φ := .f32) (subf (F := Ideal) (φ := .f32) (V m c main_v16)
        (broadcastInDim S8x4096x4096 ![0, 1, 2] bcast_S8x4096x1_S8x4096x4096_0_1_2
          (broadcastInDim S8x4096x1 ![0, 1] bcast_S8x4096_S8x4096x1_0_1 (V m c main_v17)))) := by
  unfold V
  after_reads_simp

theorem step_22 : V m c main_v22
    = Host.reduceAdd (F := Ideal) (φ := .f32) (V m c main_v21) (constant (F := Ideal) S_ .f32 0x00000000#32)
        reducesTo_S8x4096x4096_S8x4096_d2 h_S_ := by
  unfold V
  after_reads_simp

theorem step_29 : V m c main_v29
    = Host.dotGeneral (F := Ideal) (φ₁ := .f32) (φ₂ := .f32) dot_S8x4096x4096_S8x4096x64_S8x4096x64_2_1_1_2_0_0 none
        (Host.divf (F := Ideal) (φ := .f32) (V m c main_v21) (broadcastInDim S8x4096x4096 ![0, 1, 2] bcast_S8x4096x1_S8x4096x4096_0_1_2
          (broadcastInDim S8x4096x1 ![0, 1] bcast_S8x4096_S8x4096x1_0_1 (V m c main_v22))))
        (V m c main_v28) := by
  unfold V
  after_reads_simp

theorem step_36 : V m c main_v36
    = Host.reduceAdd (F := Ideal) (φ := .f32) (mulf (F := Ideal) (s := S8x4096x64) (φ := .f32) (V m c main_v34) (V m c main_v29))
        (constant (F := Ideal) S_ .f32 0x00000000#32) reducesTo_S8x4096x64_S8x4096_d2 h_S_ := by
  unfold V
  after_reads_simp

theorem step_40 : V m c main_v40
    = shapeCast S4096x1024 (broadcastInDim S4096x8x128 ![0, 1, 2] bcast_S4096x8x1_S4096x8x128_0_1_2
        (transpose S4096x8x1 [1, 0, 2] (addf (F := Ideal) (φ := .f32)
          (broadcastInDim S8x4096x1 ![0, 1] bcast_S8x4096_S8x4096x1_0_1 (V m c main_v17))
          (Host.log (F := Ideal) (φ := .f32) (broadcastInDim S8x4096x1 ![0, 1] bcast_S8x4096_S8x4096x1_0_1 (V m c main_v22))))
          transposes_S8x4096x1_S4096x8x1_1_0_2)) shapeCasts_S4096x8x128_S4096x1024 := by
  unfold V
  after_reads_simp
  rfl

theorem step_43 : V m c main_v43
    = shapeCast S4096x1024 (broadcastInDim S4096x8x128 ![0, 1, 2] bcast_S4096x8x1_S4096x8x128_0_1_2
        (transpose S4096x8x1 [1, 0, 2] (broadcastInDim S8x4096x1 ![0, 1] bcast_S8x4096_S8x4096x1_0_1 (V m c main_v36))
          transposes_S8x4096x1_S4096x8x1_1_0_2)) shapeCasts_S4096x8x128_S4096x1024 := by
  unfold V
  after_reads_simp
  rfl

theorem scale_real : ∃ σ : ℝ, scale = (σ : EReal) := by
  refine ⟨scale.toReal, (EReal.coe_toReal ?_ ?_).symm⟩
  · unfold scale
    simp [Ideal.ofBits, Ideal.ieee, -EReal.coe_mul]
  · unfold scale
    simp [Ideal.ofBits, Ideal.ieee, -EReal.coe_mul]

/-! ### The values for real arguments -/

variable {σ : ℝ} {q k v o : ℕ → ℕ → ℝ}
variable (hσ : scale = (σ : EReal))
variable (hq : ∀ y : S4096x1024.Idx, ((m (c.tc.loc main_arg0) : Vec Ideal S4096x1024 .bf16) y : EReal) = (q (y 0).val (y 1).val : EReal))
variable (hk : ∀ y : S4096x1024.Idx, ((m (c.tc.loc main_arg1) : Vec Ideal S4096x1024 .bf16) y : EReal) = (k (y 0).val (y 1).val : EReal))
variable (hv : ∀ y : S4096x512.Idx, ((m (c.tc.loc main_arg2) : Vec Ideal S4096x512 .bf16) y : EReal) = (v (y 0).val (y 1).val : EReal))
variable (ho : ∀ y : S4096x512.Idx, ((m (c.tc.loc main_arg3) : Vec Ideal S4096x512 .bf16) y : EReal) = (o (y 0).val (y 1).val : EReal))

include hσ hq hk in
theorem scores_eq : V m c main_v16 = (fun j => if (j 1).val < (j 2).val then (⊥ : EReal)
    else (score σ q k (j 0).val (j 1).val (j 2).val : EReal) : Vec Ideal S8x4096x4096 .f32) := by
  refine funext fun j => ?_
  show ((V m c main_v16 : Vec Ideal S8x4096x4096 .f32) j : EReal) = _
  unfold V
  after_reads_at
  rw [masked _ _ (j 2).isLt (j 1).isLt]
  refine congrArg₂ (fun x y : EReal => if (j 1).val < (j 2).val then x else y) minus_infinity ?_
  unfold score
  rw [EReal.coe_mul]
  refine congrArg₂ (· * ·) (coe_sum_fin _ _ fun x => ?_) hσ
  refine (congrArg₂ (fun x y : EReal => x * y) (hq _) (hk _)).trans ?_
  rw [← EReal.coe_mul]
  show ((q (j 1).val ((j 0).val * 128 + x.val) * k (j 2).val ((j 0).val * 128 + x.val) : ℝ) : EReal) = _
  rw [Nat.mul_comm (j 0).val 128]

include hv in
theorem values_eq : V m c main_v28 = (fun j => (v (j 1).val (64 * (j 0).val + (j 2).val) : EReal) : Vec Ideal S8x4096x64 .f32) := by
  refine funext fun j => ?_
  show ((V m c main_v28 : Vec Ideal S8x4096x64 .f32) j : EReal) = _
  unfold V
  after_reads_at
  refine (hv _).trans ?_
  show ((v (j 1).val ((j 0).val * 64 + (j 2).val) : ℝ) : EReal) = _
  rw [Nat.mul_comm (j 0).val 64]

include ho in
theorem cotangents_eq : V m c main_v34 = (fun j => (o (j 1).val (64 * (j 0).val + (j 2).val) : EReal) : Vec Ideal S8x4096x64 .f32) := by
  refine funext fun j => ?_
  show ((V m c main_v34 : Vec Ideal S8x4096x64 .f32) j : EReal) = _
  unfold V
  after_reads_at
  refine (ho _).trans ?_
  show ((o (j 1).val ((j 0).val * 64 + (j 2).val) : ℝ) : EReal) = _
  rw [Nat.mul_comm (j 0).val 64]

include hσ hq hk in
theorem tops_eq : ∃ M : ℕ → ℕ → ℝ, V m c main_v17 = (fun j => (M (j 0).val (j 1).val : EReal) : Vec Ideal S8x4096 .f32) := by
  obtain ⟨M, hM⟩ := row_max_real (fun h i j => score σ q k h i j)
    (fun j => if (j 1).val < (j 2).val then (⊥ : EReal) else (score σ q k (j 0).val (j 1).val (j 2).val : EReal)) (fun j => rfl)
    (constant (F := Ideal) S_ .f32 0xFF800000#32) reducesTo_S8x4096x4096_S8x4096_d2 h_S_ minus_infinity
  refine ⟨M, ?_⟩
  rw [step_17, scores_eq m c hσ hq hk]
  exact funext hM

variable {M : ℕ → ℕ → ℝ}

include hσ hq hk in
theorem exps_eq (hM : V m c main_v17 = (fun j => (M (j 0).val (j 1).val : EReal) : Vec Ideal S8x4096 .f32)) :
    V m c main_v21 = (fun j => (shifted σ q k (M (j 0).val (j 1).val) (j 0).val (j 1).val (j 2).val : EReal) : Vec Ideal S8x4096x4096 .f32) := by
  refine funext fun j => ?_
  show ((V m c main_v21 : Vec Ideal S8x4096x4096 .f32) j : EReal) = _
  rw [step_21, scores_eq m c hσ hq hk, hM]
  pointwise
  exact exp_masked σ q k _ _ _ _

include hσ hq hk in
theorem sums_eq (hM : V m c main_v17 = (fun j => (M (j 0).val (j 1).val : EReal) : Vec Ideal S8x4096 .f32)) :
    V m c main_v22 = (fun j => ((∑ j' ∈ Finset.range 4096, shifted σ q k (M (j 0).val (j 1).val) (j 0).val (j 1).val j' : ℝ) : EReal) :
      Vec Ideal S8x4096 .f32) := by
  refine funext fun j => ?_
  rw [step_22, exps_eq m c hσ hq hk hM]
  refine (row_sum _ _ _ _ j).trans ?_
  rw [show (constant (F := Ideal) S_ .f32 0x00000000#32) (Shape.Idx.first h_S_) = (0 : EReal) from Ideal.ofBits_zero_f32, zero_add]
  exact coe_sum_fin _ _ fun x => rfl

include hσ hq hk hv in
theorem outputs_eq (hM : V m c main_v17 = (fun j => (M (j 0).val (j 1).val : EReal) : Vec Ideal S8x4096 .f32)) :
    V m c main_v29 = (fun j => ((∑ j' ∈ Finset.range 4096, share σ q k (j 0).val (j 1).val j' * v j' (64 * (j 0).val + (j 2).val) : ℝ) : EReal) :
      Vec Ideal S8x4096x64 .f32) := by
  refine funext fun j => ?_
  show ((V m c main_v29 : Vec Ideal S8x4096x64 .f32) j : EReal) = _
  rw [step_29, exps_eq m c hσ hq hk hM, sums_eq m c hσ hq hk hM, values_eq m c hv]
  pointwise
  refine coe_sum_fin _ _ fun x => ?_
  rw [EReal.coe_mul]
  refine congrArg₂ (· * ·) ?_ rfl
  refine (div_coe _ _ (sum_shifted_pos σ q k _ _ _).ne').trans ?_
  exact congrArg _ (share_of_shifted σ q k (M (j 0).val (j 1).val) (j 0).val (j 1).val x.val)

include hσ hq hk hv ho in
theorem means_eq (hM : V m c main_v17 = (fun j => (M (j 0).val (j 1).val : EReal) : Vec Ideal S8x4096 .f32)) :
    V m c main_v36 = (fun j => (mean σ q k v o (j 0).val (j 1).val : EReal) : Vec Ideal S8x4096 .f32) := by
  refine funext fun j => ?_
  rw [step_36, outputs_eq m c hσ hq hk hv hM, cotangents_eq m c ho]
  refine (row_sum_64 _ _ _ _ j).trans ?_
  rw [show (constant (F := Ideal) S_ .f32 0x00000000#32) (Shape.Idx.first h_S_) = (0 : EReal) from Ideal.ofBits_zero_f32, zero_add,
    ← mean_of_output]
  refine coe_sum_fin _ _ fun x => ?_
  rw [EReal.coe_mul]
  rfl

include hσ hq hk hv ho in
/-- What the launch finds for real arguments. -/
theorem given : ∃ L : ℕ → ℕ → ℝ, Given m c σ q k v o L := by
  obtain ⟨M, hM⟩ := tops_eq m c hσ hq hk
  refine ⟨fun h i => M h i + Real.log (∑ j' ∈ Finset.range 4096, shifted σ q k (M h i) h i j'), ?_⟩
  refine ⟨hσ, ?_, ?_, ?_, ?_, ?_, ?_, fun h i j hj => share_of_logsum σ q k (M h i) h i j hj⟩
  · rw [V_main_arg0]; exact funext hq
  · rw [V_main_arg3]; exact funext ho
  · refine funext fun j => ?_
    show ((V m c main_v40 : Vec Ideal S4096x1024 .f32) j : EReal) = _
    rw [step_40, hM, sums_eq m c hσ hq hk hM]
    pointwise
    rw [EReal.coe_add]
    exact congrArg₂ (· + ·) rfl (log_coe _ (sum_shifted_pos σ q k _ _ _))
  · refine funext fun j => ?_
    show ((V m c main_v43 : Vec Ideal S4096x1024 .f32) j : EReal) = _
    rw [step_43, means_eq m c hσ hq hk hv ho hM]
    pointwise
  · rw [V_main_arg1]; exact funext hk
  · rw [V_main_arg2]; exact funext hv

end Cert.KernelIdeal.Launch

end
-- ==== Proof.Finite.lean ====
module

public import proofs.«01_k».proof.Pre_finite
public import Idealize.ShloMosaic.Lib.ReduceAll
public import Idealize.ShloMosaic.Lib.Pointwise
public import Idealize.ShloMosaic.PureOps.Ideal.Laws

/-!
# What the precondition says

Every entry of every argument is a real number.
-/

@[expose] public section

noncomputable section

namespace Cert.Finite

open Idealize.ShloMosaic
open Cert.Pre_finite

instance facts : Cert.Pre_finite.Facts where
  bcast_S_S4096x1024 := by decide
  reducesTo_S4096x1024_S_d0_1 := by decide
  h_S_ := by decide
  bcast_S_S4096x512 := by decide
  reducesTo_S4096x512_S_d0_1 := by decide

theorem infinity : Ideal.ofBits .bf16 0x7F80#16 = (⊤ : EReal) := by
  simp [Ideal.ofBits, Ideal.ieee]

/-- An extended real whose absolute value is below the largest is a real number. -/
theorem real_of_abs_lt (x : EReal) (h : Ideal.cmp CmpFPredicate.olt (max x (-x)) (Ideal.ofBits .bf16 0x7F80#16) = 1#1) :
    x = (x.toReal : EReal) := by
  rw [infinity] at h
  have h' : max x (-x) < ⊤ := by
    by_contra hc
    rw [show Ideal.cmp CmpFPredicate.olt (max x (-x)) ⊤ = BitVec.ofBool (decide (max x (-x) < ⊤)) from rfl, decide_eq_false hc] at h
    exact absurd h (by decide)
  refine (EReal.coe_toReal ?_ ?_).symm
  · exact ne_of_lt (lt_of_le_of_lt (le_max_left _ _) h')
  · intro hb
    refine absurd (lt_of_le_of_lt (le_max_right x (-x)) h') ?_
    rw [hb, EReal.neg_bot]
    exact lt_irrefl _

variable (x0 x1 : FVec Ideal S4096x1024 .bf16) (x2 x3 : FVec Ideal S4096x512 .bf16)

theorem entries (h : Cert.Pre_finite.fn (F := Ideal) x0 x1 x2 x3 = fun _ => 1#1) :
    (∀ y, (x0 y : EReal) = ((x0 y : EReal).toReal : EReal)) ∧ (∀ y, (x1 y : EReal) = ((x1 y : EReal).toReal : EReal))
      ∧ (∀ y, (x2 y : EReal) = ((x2 y : EReal).toReal : EReal)) ∧ (∀ y, (x3 y : EReal) = ((x3 y : EReal).toReal : EReal)) := by
  haveI : Subsingleton S_.Idx := ⟨fun a b => funext fun k => k.elim0⟩
  have h0 := congrFun h (fun k => k.elim0)
  unfold fn fn_part1 at h0
  obtain ⟨h0, h4⟩ := IntOp.andi_eq_one.mp h0
  obtain ⟨h0, h3⟩ := IntOp.andi_eq_one.mp h0
  obtain ⟨h1, h2⟩ := IntOp.andi_eq_one.mp h0
  exact ⟨fun y => real_of_abs_lt _ (Host.reduce_andi_all _ _ _ _ _ h1 y), fun y => real_of_abs_lt _ (Host.reduce_andi_all _ _ _ _ _ h2 y),
    fun y => real_of_abs_lt _ (Host.reduce_andi_all _ _ _ _ _ h3 y), fun y => real_of_abs_lt _ (Host.reduce_andi_all _ _ _ _ _ h4 y)⟩

end Cert.Finite

end
-- ==== Proof.Reference.lean ====
module

public import proofs.«01_k».proof.Proof.Gen.ReferenceIdeal.Read
public import proofs.«01_k».proof.Proof.Rows
public import Idealize.ShloMosaic.Lib.Pointwise

/-!
# What the reference computes

For arguments that are real numbers, the derivative of the attention, operation by operation, is the gradient written as sums of real
numbers.
-/

@[expose] public section

set_option maxRecDepth 16384

noncomputable section

namespace Cert.ReferenceIdeal.Real

open Idealize.ShloMosaic Idealize.ShloMosaic.Tactic
open Cert.ReferenceIdeal Cert.ReferenceIdeal.Read Cert.Spec

variable (x0 x1 : Vec Ideal S4096x1024 .bf16) (x2 x3 : Vec Ideal S4096x512 .bf16)
variable {σ : ℝ} {q k v o : ℕ → ℕ → ℝ} {M : ℕ → ℕ → ℝ}
variable (hσ : Ideal.ofBits .f32 0x3DD105EC#32 = (σ : EReal))
variable (hq : ∀ y : S4096x1024.Idx, (x0 y : EReal) = (q (y 0).val (y 1).val : EReal))
variable (hk : ∀ y : S4096x1024.Idx, (x1 y : EReal) = (k (y 0).val (y 1).val : EReal))
variable (hv : ∀ y : S4096x512.Idx, (x2 y : EReal) = (v (y 0).val (y 1).val : EReal))
variable (ho : ∀ y : S4096x512.Idx, (x3 y : EReal) = (o (y 0).val (y 1).val : EReal))

/-! ### The arguments, split by head -/

include hq in
theorem queries_eq : val_main_v4 (F := Ideal) x0 = (fun j => (q (j 0).val (128 * (j 1).val + (j 2).val) : EReal) : Vec Ideal S4096x8x128 .f32) := by
  refine funext fun j => ?_
  show ((val_main_v4 (F := Ideal) x0 : Vec Ideal S4096x8x128 .f32) j : EReal) = _
  unfold val_main_v4 val_main_v0
  pointwise
  refine (hq _).trans ?_
  show ((q (j 0).val ((j 1).val * 128 + (j 2).val) : ℝ) : EReal) = _
  rw [Nat.mul_comm (j 1).val 128]

include hk in
theorem keys_eq : val_main_v5 (F := Ideal) x1 = (fun j => (k (j 0).val (128 * (j 1).val + (j 2).val) : EReal) : Vec Ideal S4096x8x128 .f32) := by
  refine funext fun j => ?_
  show ((val_main_v5 (F := Ideal) x1 : Vec Ideal S4096x8x128 .f32) j : EReal) = _
  unfold val_main_v5 val_main_v1
  pointwise
  refine (hk _).trans ?_
  show ((k (j 0).val ((j 1).val * 128 + (j 2).val) : ℝ) : EReal) = _
  rw [Nat.mul_comm (j 1).val 128]

include hv in
theorem values_eq : val_main_v6 (F := Ideal) x2 = (fun j => (v (j 0).val (64 * (j 1).val + (j 2).val) : EReal) : Vec Ideal S4096x8x64 .f32) := by
  refine funext fun j => ?_
  show ((val_main_v6 (F := Ideal) x2 : Vec Ideal S4096x8x64 .f32) j : EReal) = _
  unfold val_main_v6 val_main_v2
  pointwise
  refine (hv _).trans ?_
  show ((v (j 0).val ((j 1).val * 64 + (j 2).val) : ℝ) : EReal) = _
  rw [Nat.mul_comm (j 1).val 64]

include ho in
theorem cotangents_eq : val_main_v49 (F := Ideal) x3 = (fun j => (o (j 2).val (64 * (j 0).val + (j 1).val) : EReal) : Vec Ideal S8x64x4096 .f32) := by
  refine funext fun j => ?_
  show ((val_main_v49 (F := Ideal) x3 : Vec Ideal S8x64x4096 .f32) j : EReal) = _
  unfold val_main_v49 val_main_v48 val_main_v3
  pointwise
  refine (ho _).trans ?_
  show ((o (j 2).val ((j 0).val * 64 + (j 1).val) : ℝ) : EReal) = _
  rw [Nat.mul_comm (j 0).val 64]

/-! ### The normalised exponentials -/

include hσ hq hk in
theorem scores_eq : val_main_v16_0 (F := Ideal) x0 x1 = (fun j => if (j 1).val < (j 2).val then (⊥ : EReal)
    else (score σ q k (j 0).val (j 1).val (j 2).val : EReal) : Vec Ideal S8x4096x4096 .f32) := by
  refine funext fun j => ?_
  show ((val_main_v16_0 (F := Ideal) x0 x1 : Vec Ideal S8x4096x4096 .f32) j : EReal) = _
  unfold val_main_v16_0 val_main_v16_1 val_main_v15 val_main_v13 val_main_v14 val_main_v11 val_main_v12 val_main_v10 val_main_call0_v2
    val_main_call0_v0 val_main_cst_0 val_main_v9 val_main_v8 val_main_cst val_main_v7
  rw [queries_eq x0 hq, keys_eq x1 hk]
  pointwise
  rw [masked _ _ (j 2).isLt (j 1).isLt]
  refine congrArg₂ (fun x y : EReal => if (j 1).val < (j 2).val then x else y) minus_infinity ?_
  unfold score
  rw [EReal.coe_mul]
  refine congrArg₂ (· * ·) (coe_sum_fin _ _ fun x => ?_) hσ
  rw [EReal.coe_mul]

include hσ hq hk in
theorem tops_eq : ∃ M : ℕ → ℕ → ℝ, val_main_v24 (F := Ideal) x0 x1 = (fun j => (M (j 0).val (j 1).val : EReal) : Vec Ideal S8x4096 .f32) := by
  obtain ⟨M, hM⟩ := row_max_real (fun h i j => score σ q k h i j)
    (fun j => if (j 1).val < (j 2).val then (⊥ : EReal) else (score σ q k (j 0).val (j 1).val (j 2).val : EReal)) (fun j => rfl)
    (val_main_cst_1 (F := Ideal)) Gen.reducesTo_S8x4096x4096_S8x4096_d2 Gen.h_S_ minus_infinity
  refine ⟨M, funext fun j => ?_⟩
  have e : val_main_v17 (F := Ideal) x0 x1 = (fun j => (M (j 0).val (j 1).val : EReal) : Vec Ideal S8x4096 .f32) := by
    unfold val_main_v17
    rw [scores_eq x0 x1 hσ hq hk]
    exact funext hM
  show ((val_main_v24 (F := Ideal) x0 x1 : Vec Ideal S8x4096 .f32) j : EReal) = _
  unfold val_main_v24 val_main_v23 val_main_cst_3
  rw [e]
  pointwise
  rw [minus_infinity]
  exact max_eq_right bot_le

variable (hM : val_main_v24 (F := Ideal) x0 x1 = (fun j => (M (j 0).val (j 1).val : EReal) : Vec Ideal S8x4096 .f32))

include hσ hq hk hM in
theorem exps_eq : val_main_v37 (F := Ideal) x0 x1
    = (fun j => (shifted σ q k (M (j 0).val (j 1).val) (j 0).val (j 1).val (j 2).val : EReal) : Vec Ideal S8x4096x4096 .f32) := by
  refine funext fun j => ?_
  show ((val_main_v37 (F := Ideal) x0 x1 : Vec Ideal S8x4096x4096 .f32) j : EReal) = _
  unfold val_main_v37 val_main_v36 val_main_v35 val_main_v34
  rw [scores_eq x0 x1 hσ hq hk, hM]
  pointwise
  exact exp_masked σ q k _ _ _ _

/-- A row's sum of shifted exponentials. -/
def den (σ : ℝ) (q k : ℕ → ℕ → ℝ) (M : ℕ → ℕ → ℝ) (h i : ℕ) : ℝ := ∑ j' ∈ Finset.range 4096, shifted σ q k (M h i) h i j'

theorem den_pos (σ : ℝ) (q k : ℕ → ℕ → ℝ) (M : ℕ → ℕ → ℝ) (h i : ℕ) : 0 < den σ q k M h i := sum_shifted_pos σ q k _ _ _

include hσ hq hk hM in
theorem sums_eq : val_main_v38 (F := Ideal) x0 x1 = (fun j => (den σ q k M (j 0).val (j 1).val : EReal) : Vec Ideal S8x4096 .f32) := by
  refine funext fun j => ?_
  unfold val_main_v38
  rw [exps_eq x0 x1 hσ hq hk hM]
  refine (row_sum _ _ _ _ j).trans ?_
  rw [show val_main_cst_9 (F := Ideal) (Shape.Idx.first Gen.h_S_) = (0 : EReal) from Ideal.ofBits_zero_f32, zero_add]
  exact coe_sum_fin _ _ fun x => rfl

include hσ hq hk hM in
theorem shares_eq : val_main_v41 (F := Ideal) x0 x1
    = (fun j => (share σ q k (j 0).val (j 1).val (j 2).val : EReal) : Vec Ideal S8x4096x4096 .f32) := by
  refine funext fun j => ?_
  show ((val_main_v41 (F := Ideal) x0 x1 : Vec Ideal S8x4096x4096 .f32) j : EReal) = _
  unfold val_main_v41 val_main_v40 val_main_v39
  rw [exps_eq x0 x1 hσ hq hk hM, sums_eq x0 x1 hσ hq hk hM]
  pointwise
  refine (div_coe _ _ (den_pos σ q k M _ _).ne').trans ?_
  exact congrArg _ (share_of_shifted σ q k (M (j 0).val (j 1).val) (j 0).val (j 1).val (j 2).val)

include hv ho in
theorem dshares_eq : val_main_v50 (F := Ideal) x2 x3
    = (fun j => (dshare v o (j 0).val (j 1).val (j 2).val : EReal) : Vec Ideal S8x4096x4096 .f32) := by
  refine funext fun j => ?_
  show ((val_main_v50 (F := Ideal) x2 x3 : Vec Ideal S8x4096x4096 .f32) j : EReal) = _
  unfold val_main_v50
  rw [cotangents_eq x3 ho, values_eq x2 hv]
  pointwise
  refine coe_sum_fin _ _ fun x => ?_
  rw [EReal.coe_mul]

/-! ### The scores' gradient -/

/-- A term of the sum that the derivative of the denominator takes. -/
def part (σ : ℝ) (q k v o : ℕ → ℕ → ℝ) (M : ℕ → ℕ → ℝ) (h i j : ℕ) : ℝ :=
  dshare v o h i j * (1 / (den σ q k M h i * den σ q k M h i)) * shifted σ q k (M h i) h i j

include hσ hq hk hv ho hM in
theorem parts_eq : val_main_v55 (F := Ideal) x0 x1 x2 x3
    = (fun j => (part σ q k v o M (j 0).val (j 1).val (j 2).val : EReal) : Vec Ideal S8x4096x4096 .f32) := by
  refine funext fun j => ?_
  show ((val_main_v55 (F := Ideal) x0 x1 x2 x3 : Vec Ideal S8x4096x4096 .f32) j : EReal) = _
  unfold val_main_v55 val_main_v54 val_main_v53 val_main_v44 val_main_v43 val_main_cst_10 val_main_v42 val_main_v39
  rw [exps_eq x0 x1 hσ hq hk hM, sums_eq x0 x1 hσ hq hk hM, dshares_eq x2 x3 hv ho]
  pointwise
  have hp := den_pos σ q k M (j 0).val (j 1).val
  unfold part
  rw [EReal.coe_mul, EReal.coe_mul]
  refine congrArg₂ (· * ·) (congrArg₂ (· * ·) rfl ?_) rfl
  exact div_coe 1 _ (mul_pos hp hp).ne'

include hσ hq hk hv ho hM in
theorem sums_of_parts : val_main_v61 (F := Ideal) x0 x1 x2 x3
    = (fun j => (-∑ j' ∈ Finset.range 4096, part σ q k v o M (j 0).val (j 1).val j' : ℝ) : Vec Ideal S8x4096 .f32) := by
  have e : val_main_v56 (F := Ideal) x0 x1 x2 x3
      = (fun j => ((∑ j' ∈ Finset.range 4096, part σ q k v o M (j 0).val (j 1).val j' : ℝ) : EReal) : Vec Ideal S8x4096 .f32) := by
    refine funext fun j => ?_
    unfold val_main_v56
    rw [parts_eq x0 x1 x2 x3 hσ hq hk hv ho hM]
    refine (row_sum _ _ _ _ j).trans ?_
    rw [show val_main_cst_11 (F := Ideal) (Shape.Idx.first Gen.h_S_) = (0 : EReal) from Ideal.ofBits_zero_f32, zero_add]
    exact coe_sum_fin _ _ fun x => rfl
  have e' : val_main_v58 (F := Ideal) x0 x1 x2 x3
      = (fun j => ((-∑ j' ∈ Finset.range 4096, part σ q k v o M (j 0).val (j 1).val j' : ℝ) : EReal) : Vec Ideal S8x4096x1 .f32) := by
    refine funext fun j => ?_
    show ((val_main_v58 (F := Ideal) x0 x1 x2 x3 : Vec Ideal S8x4096x1 .f32) j : EReal) = _
    unfold val_main_v58 val_main_v57
    rw [e]
    pointwise
    rfl
  refine funext fun j => ?_
  rw [val_main_v61_apply, e']
  rw [show val_main_cst_12 (F := Ideal) (Shape.Idx.first Gen.h_S_) = (0 : EReal) from Ideal.ofBits_zero_f32, zero_add]
  exact Fin.sum_univ_one _

include hσ hq hk hv ho hM in
theorem dscores_eq : val_main_v67 (F := Ideal) x0 x1 x2 x3
    = (fun j => (dscore σ q k v o (j 0).val (j 1).val (j 2).val : EReal) : Vec Ideal S8x4096x4096 .f32) := by
  refine funext fun j => ?_
  show ((val_main_v67 (F := Ideal) x0 x1 x2 x3 : Vec Ideal S8x4096x4096 .f32) j : EReal) = _
  unfold val_main_v67 val_main_v65 val_main_v66 val_main_cst_13 val_main_call1_v0 val_main_call1_cst val_main_v64 val_main_v63 val_main_v62
    val_main_v60 val_main_v59 val_main_v39 val_main_v16_1 val_main_v15 val_main_v13 val_main_v14 val_main_v11 val_main_v12 val_main_v10
  rw [exps_eq x0 x1 hσ hq hk hM, sums_eq x0 x1 hσ hq hk hM, dshares_eq x2 x3 hv ho, sums_of_parts x0 x1 x2 x3 hσ hq hk hv ho hM]
  pointwise
  rw [masked _ _ (j 2).isLt (j 1).isLt, hσ]
  split
  · next h => rw [dscore_after σ q k v o _ _ _ h]; rfl
  · rw [← dscore_of_quotient σ q k v o (M (j 0).val (j 1).val) (j 0).val (j 1).val (j 2).val (den σ q k M (j 0).val (j 1).val) rfl,
      EReal.coe_mul, EReal.coe_mul, EReal.coe_add]
    refine congrArg₂ (· * ·) (congrArg₂ (· * ·) (congrArg₂ (· + ·) ?_ rfl) rfl) rfl
    exact div_coe _ _ (den_pos σ q k M _ _).ne'

/-! ### The results -/

include hσ hq hk hv ho in
theorem result_0 : val_main_v74 (F := Ideal) x0 x1 x2 x3
    = (fun i => (gradQ σ q k v o (i 0).val (i 1).val : EReal) : Vec Ideal S4096x1024 .f32) := by
  obtain ⟨M, hM⟩ := tops_eq x0 x1 hσ hq hk
  refine funext fun i => ?_
  show ((val_main_v74 (F := Ideal) x0 x1 x2 x3 : Vec Ideal S4096x1024 .f32) i : EReal) = _
  unfold val_main_v74 val_main_v71 val_main_v70
  rw [dscores_eq x0 x1 x2 x3 hσ hq hk hv ho hM, keys_eq x1 hk]
  pointwise
  refine coe_sum_fin _ _ fun x => ?_
  rw [EReal.coe_mul]
  refine congrArg₂ (· * ·) rfl ?_
  exact congrArg (fun n => ((k x.val n : ℝ) : EReal)) (Nat.div_add_mod (i 1).val 128)

include hσ hq hk hv ho in
theorem result_1 : val_main_v73 (F := Ideal) x0 x1 x2 x3
    = (fun i => (gradK σ q k v o (i 0).val (i 1).val : EReal) : Vec Ideal S4096x1024 .f32) := by
  obtain ⟨M, hM⟩ := tops_eq x0 x1 hσ hq hk
  refine funext fun i => ?_
  show ((val_main_v73 (F := Ideal) x0 x1 x2 x3 : Vec Ideal S4096x1024 .f32) i : EReal) = _
  unfold val_main_v73 val_main_v69 val_main_v68
  rw [dscores_eq x0 x1 x2 x3 hσ hq hk hv ho hM, queries_eq x0 hq]
  pointwise
  refine coe_sum_fin _ _ fun x => ?_
  rw [EReal.coe_mul]
  refine congrArg₂ (· * ·) rfl ?_
  exact congrArg (fun n => ((q x.val n : ℝ) : EReal)) (Nat.div_add_mod (i 1).val 128)

include hσ hq hk ho in
theorem result_2 : val_main_v72 (F := Ideal) x0 x1 x3
    = (fun i => (gradV σ q k o (i 0).val (i 1).val : EReal) : Vec Ideal S4096x512 .f32) := by
  obtain ⟨M, hM⟩ := tops_eq x0 x1 hσ hq hk
  refine funext fun i => ?_
  show ((val_main_v72 (F := Ideal) x0 x1 x3 : Vec Ideal S4096x512 .f32) i : EReal) = _
  unfold val_main_v72 val_main_v52 val_main_v51
  rw [shares_eq x0 x1 hσ hq hk hM, cotangents_eq x3 ho]
  pointwise
  refine coe_sum_fin _ _ fun x => ?_
  rw [EReal.coe_mul, mul_comm]
  refine congrArg₂ (· * ·) rfl ?_
  exact congrArg (fun n => ((o x.val n : ℝ) : EReal)) (Nat.div_add_mod (i 1).val 64)

end Cert.ReferenceIdeal.Real

end
-- ==== Proof.Equal.lean ====
module

public import proofs.«01_k».proof.Defs
public import proofs.«01_k».proof.Proof.Host
public import proofs.«01_k».proof.Proof.Finite
public import proofs.«01_k».proof.Proof.Reference
public import proofs.«01_k».proof.Proof.Gen.Kernel

/-!
# The kernel and the reference agree

For arguments whose entries are real numbers both programs end with the gradients of the attention's queries, keys and values, written as
sums of real numbers.
-/

@[expose] public section

noncomputable section

namespace Cert.Equal

open Idealize.ShloMosaic Idealize.ShloMosaic.TcCoe Idealize.SL.Sem
open Cert.Spec

/-- An array's entries as real numbers, counted by natural numbers. -/
def real {a b : ℕ} (x : (⟨2, ![a, b]⟩ : Shape).Idx → EReal) (ha : 0 < a) (hb : 0 < b) (r l : ℕ) : ℝ :=
  (x (ix2 ⟨r % a, Nat.mod_lt _ ha⟩ ⟨l % b, Nat.mod_lt _ hb⟩)).toReal

theorem real_at {a b : ℕ} (x : (⟨2, ![a, b]⟩ : Shape).Idx → EReal) (ha : 0 < a) (hb : 0 < b) (hx : ∀ y, x y = ((x y).toReal : EReal))
    (y : (⟨2, ![a, b]⟩ : Shape).Idx) : x y = (real x ha hb (y 0).val (y 1).val : EReal) := by
  have e : ix2 ⟨(y 0).val % a, Nat.mod_lt _ ha⟩ ⟨(y 1).val % b, Nat.mod_lt _ hb⟩ = y := by
    refine (congrArg₂ ix2 (Fin.ext ?_) (Fin.ext ?_)).trans (eq_ix2 y).symm
    · exact Nat.mod_eq_of_lt (y 0).isLt
    · exact Nat.mod_eq_of_lt (y 1).isLt
  unfold real
  rw [e]
  exact hx y

section Kernel
open Cert.KernelIdeal Cert.KernelIdeal.Launch

variable (m : (ℓ : Loc nD τ sig) → Buf (Elt Ideal) ℓ) (ρ : Dev nD → PrngReg)
variable (σ : ℝ) (q k v o : Dev nD → ℕ → ℕ → ℝ)

/-- What the kernel ends with. -/
theorem kernel_run (H : ∀ c, ∃ L : ℕ → ℕ → ℝ, Given m c σ (q c) (k c) (v c) (o c) L) :
    θ_run defs (onTc (τ := τ) (main (F := Ideal))) ⟨m, fun _ => 0, ρ⟩ (fun r => ∀ c : Dev nD,
      r.2.mem ((c.tc : Thread nD τ).loc main_v44_0) = (fun i : S4096x1024.Idx => (gradQ σ (q c) (k c) (v c) (o c) (i 0).val (i 1).val : EReal))
      ∧ r.2.mem ((c.tc : Thread nD τ).loc main_v44_1) = (fun i : S4096x1024.Idx => (gradK σ (q c) (k c) (v c) (o c) (i 0).val (i 1).val : EReal))
      ∧ r.2.mem ((c.tc : Thread nD τ).loc main_v44_2) = (fun i : S4096x512.Idx => (gradV σ (q c) (k c) (o c) (i 0).val (i 1).val : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (quiet m ρ))
  obtain ⟨L, HL⟩ := H c
  exact ⟨((h.1.1 c).1 6).trans (final_6 HL), ((h.1.1 c).1 7).trans (final_7 HL), ((h.1.1 c).1 8).trans (final_8 HL), h.2.1 c⟩

end Kernel

/-- From the same finite arguments the kernel and the reference end with the same results. -/
theorem algebraic : Cert.algebraic_KernelIdeal_ReferenceIdeal_pre_finite (hPre_finite := Cert.Finite.facts) := by
  intro m ρ m' ρ' hpre hargs
  obtain ⟨σ, hσ⟩ := Cert.KernelIdeal.Launch.scale_real
  have hx := fun c => Cert.Finite.entries _ _ _ _ (hpre c)
  let q : Dev Cert.KernelIdeal.nD → ℕ → ℕ → ℝ := fun c =>
    real (m ((c.tc : Thread Cert.KernelIdeal.nD Cert.KernelIdeal.τ).loc Cert.KernelIdeal.main_arg0) : Vec Ideal Cert.KernelIdeal.S4096x1024 .bf16) (by decide) (by decide)
  let k : Dev Cert.KernelIdeal.nD → ℕ → ℕ → ℝ := fun c =>
    real (m ((c.tc : Thread Cert.KernelIdeal.nD Cert.KernelIdeal.τ).loc Cert.KernelIdeal.main_arg1) : Vec Ideal Cert.KernelIdeal.S4096x1024 .bf16) (by decide) (by decide)
  let v : Dev Cert.KernelIdeal.nD → ℕ → ℕ → ℝ := fun c =>
    real (m ((c.tc : Thread Cert.KernelIdeal.nD Cert.KernelIdeal.τ).loc Cert.KernelIdeal.main_arg2) : Vec Ideal Cert.KernelIdeal.S4096x512 .bf16) (by decide) (by decide)
  let o : Dev Cert.KernelIdeal.nD → ℕ → ℕ → ℝ := fun c =>
    real (m ((c.tc : Thread Cert.KernelIdeal.nD Cert.KernelIdeal.τ).loc Cert.KernelIdeal.main_arg3) : Vec Ideal Cert.KernelIdeal.S4096x512 .bf16) (by decide) (by decide)
  have hq := fun c => real_at _ (by decide) (by decide) (hx c).1
  have hk := fun c => real_at _ (by decide) (by decide) (hx c).2.1
  have hv := fun c => real_at _ (by decide) (by decide) (hx c).2.2.1
  have ho := fun c => real_at _ (by decide) (by decide) (hx c).2.2.2
  refine ⟨fun c => (fun i : Cert.KernelIdeal.S4096x1024.Idx => (gradQ σ (q c) (k c) (v c) (o c) (i 0).val (i 1).val : EReal)),
    fun c => (fun i : Cert.KernelIdeal.S4096x1024.Idx => (gradK σ (q c) (k c) (v c) (o c) (i 0).val (i 1).val : EReal)),
    fun c => (fun i : Cert.KernelIdeal.S4096x512.Idx => (gradV σ (q c) (k c) (o c) (i 0).val (i 1).val : EReal)),
    kernel_run m ρ σ q k v o fun c => Cert.KernelIdeal.Launch.given m c hσ (hq c) (hk c) (hv c) (ho c), ?_⟩
  refine (θ_run Cert.ReferenceIdeal.defs _ _).mono (fun r h c => ?_) (Cert.ReferenceIdeal.Value.run (F := Ideal) m' ρ')
  obtain ⟨h0, h1, h2, ha⟩ := h c
  obtain ⟨e0, e1, e2, e3⟩ := hargs c
  refine ⟨h0.trans ((Cert.ReferenceIdeal.Read.val_main_v74_eq m' c).trans ?_), h1.trans ((Cert.ReferenceIdeal.Read.val_main_v73_eq m' c).trans ?_),
    h2.trans ((Cert.ReferenceIdeal.Read.val_main_v72_eq m' c).trans ?_), ha⟩
  · rw [e0, e1, e2, e3]
    exact Cert.ReferenceIdeal.Real.result_0 _ _ _ _ hσ (hq c) (hk c) (hv c) (ho c)
  · rw [e0, e1, e2, e3]
    exact Cert.ReferenceIdeal.Real.result_1 _ _ _ _ hσ (hq c) (hk c) (hv c) (ho c)
  · rw [e0, e1, e3]
    exact Cert.ReferenceIdeal.Real.result_2 _ _ _ hσ (hq c) (hk c) (ho c)

end Cert.Equal

end
-- ==== Proof.ProjectionForward.lean ====
module

public import proofs.«01_k».proof.Defs
public import proofs.«01_k».proof.Proof.Gen.ProjIdeal.Value
public import proofs.«01_k».proof.Proof.Gen.ProjReferenceIdeal.Read
public import Idealize.ShloMosaic.Lib.Pipeline.ValueKit
public import Idealize.ShloMosaic.Lib.Pointwise

/-!
# The combined projection

Every block of the tiled product holds the sums of products of its rows and columns, so the tiled product and the reference's one product
end with the same array.
-/

@[expose] public section

set_option maxRecDepth 16384

noncomputable section

namespace Cert.Projection

open Idealize.ShloMosaic Idealize.ShloMosaic.TcCoe Idealize.ShloMosaic.Tactic Idealize.SL.Sem

/-- The product of the activations and the weights: at a row and a column, the sum over the features. -/
def product (h : (⟨2, ![4096, 1024]⟩ : Shape).Idx → EReal) (w : (⟨2, ![1024, 11264]⟩ : Shape).Idx → EReal) :
    (⟨2, ![4096, 11264]⟩ : Shape).Idx → EReal :=
  fun i => ∑ x : Fin 1024, h (ix2 (i 0) x) * w (ix2 x (i 1))

section Kernel
open Cert.ProjIdeal Cert.ProjIdeal.Gen

/-- A block of the tiled product: the sums over all the features. -/
theorem block_product (a b : Vec Ideal S1024x1024 .bf16) (y : S1024x1024.Idx) :
    (k0_pay1 a b y : EReal) = ∑ x : Fin 1024, a (ix2 (y 0) x) * b (ix2 x (y 1)) := by
  unfold k0_pay1
  pointwise

variable (m : (ℓ : Loc nD τ sig) → Buf (Elt Ideal) ℓ) (c : Dev nD)

/-- Which block each window is on at a point: row block `t / 11`, column block `t % 11`. -/
theorem rows_at : ∀ t : Fin cfg0.N, win0_0.index t 0 = t.val / 11 ∧ win0_0.index t 1 = 0 :=
  (by decide +kernel : ∀ t : Fin grid0.N, win0_0.index t 0 = t.val / 11 ∧ win0_0.index t 1 = 0)
theorem columns_at : ∀ t : Fin cfg0.N, win0_1.index t 0 = 0 ∧ win0_1.index t 1 = t.val % 11 :=
  (by decide +kernel : ∀ t : Fin grid0.N, win0_1.index t 0 = 0 ∧ win0_1.index t 1 = t.val % 11)
theorem result_at : ∀ t : Fin cfg0.N, win0_2.index t 0 = t.val / 11 ∧ win0_2.index t 1 = t.val % 11 :=
  (by decide +kernel : ∀ t : Fin grid0.N, win0_2.index t 0 = t.val / 11 ∧ win0_2.index t 1 = t.val % 11)

/-- The result array, after the run. -/
theorem kernel_result : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨a0, a1⟩ := rows_at t
  obtain ⟨b0, b1⟩ := columns_at t
  obtain ⟨r0, r1⟩ := result_at t
  refine (block_product (iblk m c 0 t) (iblk m c 1 t) y).trans ?_
  unfold product
  refine Finset.sum_congr rfl fun x _ => congrArg₂ (fun p q : EReal => p * q) ?_ ?_
  · show (m ((c.tc : Thread nD τ).loc main_arg0) : Vec Ideal S4096x1024 .bf16) _ = _
    refine congrArg (m ((c.tc : Thread nD τ).loc main_arg0) : Vec Ideal S4096x1024 .bf16) (funext fun a => Fin.ext ?_)
    match a with
    | ⟨0, _⟩ =>
      show win0_0.index t 0 * 1024 + 1 * (y 0).val = win0_2.index t 0 * 1024 + 1 * (y 0).val
      rw [a0, r0]
    | ⟨1, _⟩ =>
      show win0_0.index t 1 * 1024 + 1 * x.val = x.val
      rw [a1]; omega
  · show (m ((c.tc : Thread nD τ).loc main_arg1) : Vec Ideal S1024x11264 .bf16) _ = _
    refine congrArg (m ((c.tc : Thread nD τ).loc main_arg1) : Vec Ideal S1024x11264 .bf16) (funext fun a => Fin.ext ?_)
    match a with
    | ⟨0, _⟩ =>
      show win0_1.index t 0 * 1024 + 1 * x.val = x.val
      rw [b0]; omega
    | ⟨1, _⟩ =>
      show win0_1.index t 1 * 1024 + 1 * (y 1).val = win0_2.index t 1 * 1024 + 1 * (y 1).val
      rw [b1, r1]

end Kernel

section Reference
open Cert.ProjReferenceIdeal Cert.ProjReferenceIdeal.Read

theorem reference_result (h : Vec Ideal S4096x1024 .bf16) (w : Vec Ideal S1024x11264 .bf16) :
    val_main_v2 (F := Ideal) h w = product h w := by
  refine funext fun i => ?_
  show ((val_main_v2 (F := Ideal) h w : Vec Ideal S4096x11264 .f32) i : EReal) = _
  unfold val_main_v2 val_main_v1 val_main_v0 product
  pointwise

end Reference

/-- From the same activations and weights the kernel and the reference end with the same projection. -/
theorem algebraic : Cert.algebraic_ProjIdeal_ProjReferenceIdeal := by
  intro m ρ m' ρ' hpre hargs
  refine ⟨fun c => product (m ((c.tc : Thread Cert.ProjIdeal.nD Cert.ProjIdeal.τ).loc Cert.ProjIdeal.main_arg0))
    (m ((c.tc : Thread Cert.ProjIdeal.nD Cert.ProjIdeal.τ).loc Cert.ProjIdeal.main_arg1)), ?_, ?_⟩
  · exact (θ_run Cert.ProjIdeal.defs _ _).mono (fun r h c => ⟨(h c).1.trans (kernel_result m c), (h c).2⟩)
      (Cert.ProjIdeal.Value.run_blocks (F := Ideal) m ρ)
  · refine (θ_run Cert.ProjReferenceIdeal.defs _ _).mono (fun r h c => ?_) (Cert.ProjReferenceIdeal.Value.run (F := Ideal) m' ρ')
    obtain ⟨e0, e1⟩ := hargs c
    refine ⟨(h c).1.trans ((Cert.ProjReferenceIdeal.Read.val_main_v2_eq _ _).trans ?_), (h c).2⟩
    rw [e0, e1]
    exact reference_result _ _

end Cert.Projection

end
-- ==== Proof.ProjectionWeights.lean ====
module

public import proofs.«01_k».proof.Defs
public import proofs.«01_k».proof.Proof.Gen.ProjWIdeal.Value
public import proofs.«01_k».proof.Proof.Gen.ProjWReferenceIdeal.Read
public import Idealize.ShloMosaic.Lib.Pipeline.ValueKit
public import Idealize.ShloMosaic.Lib.Pointwise

/-!
# The gradient of the combined projection's weights

Every block of the tiled product holds the sums over all the positions, so the tiled product and the reference's one product end with the
same array.
-/

@[expose] public section

set_option maxRecDepth 16384

noncomputable section

namespace Cert.WeightGradient

open Idealize.ShloMosaic Idealize.ShloMosaic.TcCoe Idealize.ShloMosaic.Tactic Idealize.SL.Sem

/-- The activations' product with the projection's gradient: at a feature and a column, the sum over the positions. -/
def product (h : (⟨2, ![4096, 1024]⟩ : Shape).Idx → EReal) (d : (⟨2, ![4096, 11264]⟩ : Shape).Idx → EReal) :
    (⟨2, ![1024, 11264]⟩ : Shape).Idx → EReal :=
  fun i => ∑ x : Fin 4096, h (ix2 x (i 0)) * d (ix2 x (i 1))

section Kernel
open Cert.ProjWIdeal Cert.ProjWIdeal.Gen

/-- A block of the tiled product: the sums over all the positions. -/
theorem block_product (a b : Vec Ideal S4096x1024 .bf16) (y : S1024x1024.Idx) :
    (k0_pay1 a b y : EReal) = ∑ x : Fin 4096, a (ix2 x (y 0)) * b (ix2 x (y 1)) := by
  unfold k0_pay1
  pointwise

variable (m : (ℓ : Loc nD τ sig) → Buf (Elt Ideal) ℓ) (c : Dev nD)

/-- Which block each window is on at a point: the activations whole, column block `t` of the gradient and of the result. -/
theorem rows_at : ∀ t : Fin cfg0.N, win0_0.index t 0 = 0 ∧ win0_0.index t 1 = 0 :=
  (by decide +kernel : ∀ t : Fin grid0.N, win0_0.index t 0 = 0 ∧ win0_0.index t 1 = 0)
theorem columns_at : ∀ t : Fin cfg0.N, win0_1.index t 0 = 0 ∧ win0_1.index t 1 = t.val :=
  (by decide +kernel : ∀ t : Fin grid0.N, win0_1.index t 0 = 0 ∧ win0_1.index t 1 = t.val)
theorem result_at : ∀ t : Fin cfg0.N, win0_2.index t 0 = 0 ∧ win0_2.index t 1 = t.val :=
  (by decide +kernel : ∀ t : Fin grid0.N, win0_2.index t 0 = 0 ∧ win0_2.index t 1 = t.val)

/-- The result array, after the run. -/
theorem kernel_result : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨a0, a1⟩ := rows_at t
  obtain ⟨b0, b1⟩ := columns_at t
  obtain ⟨r0, r1⟩ := result_at t
  refine (block_product (iblk m c 0 t) (iblk m c 1 t) y).trans ?_
  unfold product
  refine Finset.sum_congr rfl fun x _ => congrArg₂ (fun p q : EReal => p * q) ?_ ?_
  · show (m ((c.tc : Thread nD τ).loc main_arg0) : Vec Ideal S4096x1024 .bf16) _ = _
    refine congrArg (m ((c.tc : Thread nD τ).loc main_arg0) : Vec Ideal S4096x1024 .bf16) (funext fun a => Fin.ext ?_)
    match a with
    | ⟨0, _⟩ =>
      show win0_0.index t 0 * 4096 + 1 * x.val = x.val
      rw [a0]; omega
    | ⟨1, _⟩ =>
      show win0_0.index t 1 * 1024 + 1 * (y 0).val = win0_2.index t 0 * 1024 + 1 * (y 0).val
      rw [a1, r0]
  · show (m ((c.tc : Thread nD τ).loc main_arg1) : Vec Ideal S4096x11264 .bf16) _ = _
    refine congrArg (m ((c.tc : Thread nD τ).loc main_arg1) : Vec Ideal S4096x11264 .bf16) (funext fun a => Fin.ext ?_)
    match a with
    | ⟨0, _⟩ =>
      show win0_1.index t 0 * 4096 + 1 * x.val = x.val
      rw [b0]; omega
    | ⟨1, _⟩ =>
      show win0_1.index t 1 * 1024 + 1 * (y 1).val = win0_2.index t 1 * 1024 + 1 * (y 1).val
      rw [b1, r1]

end Kernel

section Reference
open Cert.ProjWReferenceIdeal Cert.ProjWReferenceIdeal.Read

theorem reference_result (h : Vec Ideal S4096x1024 .bf16) (d : Vec Ideal S4096x11264 .bf16) :
    val_main_v6 (F := Ideal) h d = product h d := by
  refine funext fun i => ?_
  show ((val_main_v6 (F := Ideal) h d : Vec Ideal S1024x11264 .bf16) i : EReal) = _
  unfold val_main_v6 val_main_v5 val_main_v4 val_main_v1 val_main_v0 product
  pointwise
  exact Finset.sum_congr rfl fun x _ => mul_comm _ _

end Reference

/-- From the same activations and gradient the kernel and the reference end with the same gradient of the weights. -/
theorem algebraic : Cert.algebraic_ProjWIdeal_ProjWReferenceIdeal := by
  intro m ρ m' ρ' hpre hargs
  refine ⟨fun c => product (m ((c.tc : Thread Cert.ProjWIdeal.nD Cert.ProjWIdeal.τ).loc Cert.ProjWIdeal.main_arg0))
    (m ((c.tc : Thread Cert.ProjWIdeal.nD Cert.ProjWIdeal.τ).loc Cert.ProjWIdeal.main_arg1)), ?_, ?_⟩
  · exact (θ_run Cert.ProjWIdeal.defs _ _).mono (fun r h c => ⟨(h c).1.trans (kernel_result m c), (h c).2⟩)
      (Cert.ProjWIdeal.Value.run_blocks (F := Ideal) m ρ)
  · refine (θ_run Cert.ProjWReferenceIdeal.defs _ _).mono (fun r h c => ?_) (Cert.ProjWReferenceIdeal.Value.run (F := Ideal) m' ρ')
    obtain ⟨e0, e1⟩ := hargs c
    refine ⟨(h c).1.trans ((Cert.ProjWReferenceIdeal.Read.val_main_v6_eq _ _).trans ?_), (h c).2⟩
    rw [e0, e1]
    exact reference_result _ _

end Cert.WeightGradient

end
-- ==== Proof.ProjectionInputs.lean ====
module

public import proofs.«01_k».proof.Defs
public import proofs.«01_k».proof.Proof.Gen.ProjHIdeal.Value
public import proofs.«01_k».proof.Proof.Gen.ProjHReferenceIdeal.Read
public import Idealize.ShloMosaic.Lib.Pipeline.ValueKit
public import Idealize.ShloMosaic.Lib.Pipeline.ReadBack
public import Idealize.ShloMosaic.Lib.Pointwise

/-!
# The gradient of the combined projection's activations

The tiled product adds up four parts of the columns in a scratch buffer, the first stored and the others added, and writes the buffer out
after the fourth. The four parts together are the sum over all the columns, so the tiled product and the reference's one product end with
the same array.
-/

@[expose] public section

set_option maxRecDepth 16384

noncomputable section

namespace Cert.InputGradient

open Idealize.ShloMosaic Idealize.ShloMosaic.TcCoe Idealize.ShloMosaic.Tactic Idealize.SL.Sem

/-- The gradient's product with the weights: at a position and a feature, the sum over the columns. -/
def product (d : (⟨2, ![4096, 11264]⟩ : Shape).Idx → EReal) (w : (⟨2, ![1024, 11264]⟩ : Shape).Idx → EReal) :
    (⟨2, ![4096, 1024]⟩ : Shape).Idx → EReal :=
  fun i => ∑ x : Fin 11264, d (ix2 (i 0) x) * w (ix2 (i 1) x)

section Kernel
open Cert.ProjHIdeal Cert.ProjHIdeal.Gen

/-- One part of the columns' sums. -/
def part (a b : Vec Ideal S1024x2816 .bf16) (y : S1024x1024.Idx) : EReal := ∑ x : Fin 2816, a (ix2 (y 0) x) * b (ix2 (y 1) x)

theorem first_part (a b : Vec Ideal S1024x2816 .bf16) (y : S1024x1024.Idx) : (k0_pay2 a b y : EReal) = part a b y := by
  unfold k0_pay2 k0_pay1 part
  pointwise

theorem next_part (a b : Vec Ideal S1024x2816 .bf16) (z : Vec Ideal S1024x1024 .f32) (y : S1024x1024.Idx) :
    (k0_pay3 a b z y : EReal) = z y + part a b y := by
  unfold k0_pay3 k0_pay1 part
  pointwise

variable (m : (ℓ : Loc nD τ sig) → Buf (Elt Ideal) ℓ) (c : Dev nD)

/-- Which block each window is on at a point: row block `t / 4`, part `t % 4` of the columns. -/
theorem rows_at : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem weights_at : ∀ t : Fin cfg0.N, win0_1.index t 0 = 0 ∧ win0_1.index t 1 = t.val % 4 :=
  (by decide +kernel : ∀ t : Fin grid0.N, win0_1.index t 0 = 0 ∧ win0_1.index t 1 = t.val % 4)
theorem result_at : ∀ t : Fin cfg0.N, win0_2.index t 0 = t.val / 4 ∧ win0_2.index t 1 = 0 :=
  (by decide +kernel : ∀ t : Fin grid0.N, win0_2.index t 0 = t.val / 4 ∧ win0_2.index t 1 = 0)

/-- At the first point of a row block the scratch buffer is stored. -/
theorem held_first (t : Fin cfg0.N) (h : t.val % 4 = 0) (y : S1024x1024.Idx) :
    ((outsAt0 m c t.val t.isLt).2 y : EReal) = part (iblk m c 0 t) (iblk m c 1 t) y := by
  rw [outsAt0_A m c t h (by omega) (by omega)]
  frame_out
  exact first_part _ _ y

/-- At the others it is added to. -/
theorem held_next (t : Fin cfg0.N) (h : ¬t.val % 4 = 0) (y : S1024x1024.Idx) :
    ((outsAt0 m c t.val t.isLt).2 y : EReal)
      = (outsAt0 m c (t.val - 1) (Nat.lt_of_le_of_lt (Nat.sub_le _ _) t.isLt)).2 y + part (iblk m c 0 t) (iblk m c 1 t) y := by
  by_cases h3 : t.val % 4 = 3
  · rw [outsAt0_C m c t h (by omega) h3]
    frame_out
    rw [read_unread_whole]
    exact next_part _ _ _ y
  · rw [outsAt0_B m c t h (by omega) h3]
    frame_out
    rw [read_unread_whole]
    exact next_part _ _ _ y

/-- At the last point of a row block the result's buffer is the scratch buffer. -/
theorem written (t : Fin cfg0.N) (h : t.val % 4 = 3) : (outsAt0 m c t.val t.isLt).1 = (outsAt0 m c t.val t.isLt).2 := by
  rw [outsAt0_C m c t (by omega) (by omega) h]
  frame_out

/-- The result array, after the run. -/
theorem kernel_result : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  have h3 : t.val % 4 = 3 := (flush0_2 t).mp hf
  blk_simp
  rw [after0_2, written m c t h3]
  refine (Pipeline.eq_sum_fin_of_reset_step_apply_of_flush (fun n h => ((outsAt0 m c n h).2 : S1024x1024.Idx → EReal)) 4 (fun _ => 0)
    (fun t y => part (iblk m c 0 t) (iblk m c 1 t) y) (fun t h i => (held_first m c t h i).trans (zero_add _).symm)
    (fun t h i => held_next m c t h i) t h3 y).trans ?_
  refine (zero_add _).trans ?_
  unfold product part
  refine Fin.sum_mul_add_congr fun s x hl => congrArg₂ (fun p q : EReal => p * q) ?_ ?_
  · obtain ⟨a0, a1⟩ := rows_at ⟨4 * (t.val / 4) + s.val, Pipeline.run_point_lt_of_flush t h3 s⟩
    obtain ⟨r0, r1⟩ := result_at t
    have hs := s.isLt
    show (m ((c.tc : Thread nD τ).loc main_arg0) : Vec Ideal S4096x11264 .bf16) _ = _
    refine congrArg (m ((c.tc : Thread nD τ).loc main_arg0) : Vec Ideal S4096x11264 .bf16) (funext fun a => Fin.ext ?_)
    match a with
    | ⟨0, _⟩ =>
      show win0_0.index ⟨4 * (t.val / 4) + s.val, _⟩ 0 * 1024 + 1 * (y 0).val = win0_2.index t 0 * 1024 + 1 * (y 0).val
      rw [a0, r0]; dsimp only; omega
    | ⟨1, _⟩ =>
      show win0_0.index ⟨4 * (t.val / 4) + s.val, _⟩ 1 * 2816 + 1 * x.val = s.val * 2816 + x.val
      rw [a1]; dsimp only; omega
  · obtain ⟨b0, b1⟩ := weights_at ⟨4 * (t.val / 4) + s.val, Pipeline.run_point_lt_of_flush t h3 s⟩
    obtain ⟨r0, r1⟩ := result_at t
    have hs := s.isLt
    show (m ((c.tc : Thread nD τ).loc main_arg1) : Vec Ideal S1024x11264 .bf16) _ = _
    refine congrArg (m ((c.tc : Thread nD τ).loc main_arg1) : Vec Ideal S1024x11264 .bf16) (funext fun a => Fin.ext ?_)
    match a with
    | ⟨0, _⟩ =>
      show win0_1.index ⟨4 * (t.val / 4) + s.val, _⟩ 0 * 1024 + 1 * (y 1).val = win0_2.index t 1 * 1024 + 1 * (y 1).val
      rw [b0, r1]
    | ⟨1, _⟩ =>
      show win0_1.index ⟨4 * (t.val / 4) + s.val, _⟩ 1 * 2816 + 1 * x.val = s.val * 2816 + x.val
      rw [b1]; dsimp only; omega

end Kernel

section Reference
open Cert.ProjHReferenceIdeal Cert.ProjHReferenceIdeal.Read

theorem reference_result (d : Vec Ideal S4096x11264 .bf16) (w : Vec Ideal S1024x11264 .bf16) :
    val_main_v4 (F := Ideal) d w = product d w := by
  refine funext fun i => ?_
  show ((val_main_v4 (F := Ideal) d w : Vec Ideal S4096x1024 .f32) i : EReal) = _
  unfold val_main_v4 val_main_v1 val_main_v0 product
  pointwise

end Reference

/-- From the same gradient and weights the kernel and the reference end with the same gradient of the activations. -/
theorem algebraic : Cert.algebraic_ProjHIdeal_ProjHReferenceIdeal := by
  intro m ρ m' ρ' hpre hargs
  refine ⟨fun c => product (m ((c.tc : Thread Cert.ProjHIdeal.nD Cert.ProjHIdeal.τ).loc Cert.ProjHIdeal.main_arg0))
    (m ((c.tc : Thread Cert.ProjHIdeal.nD Cert.ProjHIdeal.τ).loc Cert.ProjHIdeal.main_arg1)), ?_, ?_⟩
  · exact (θ_run Cert.ProjHIdeal.defs _ _).mono
      (fun r h c => ⟨(h c).1.trans ((Cert.ProjHIdeal.Value.final2 m c).symm.trans (kernel_result m c)), (h c).2⟩)
      (Cert.ProjHIdeal.Value.run (F := Ideal) m ρ)
  · refine (θ_run Cert.ProjHReferenceIdeal.defs _ _).mono (fun r h c => ?_) (Cert.ProjHReferenceIdeal.Value.run (F := Ideal) m' ρ')
    obtain ⟨e0, e1⟩ := hargs c
    refine ⟨(h c).1.trans ((Cert.ProjHReferenceIdeal.Read.val_main_v4_eq _ _).trans ?_), (h c).2⟩
    rw [e0, e1]
    exact reference_result _ _

end Cert.InputGradient

end
-- ==== Proof.LruOutput.lean ====
module

public import proofs.«01_k».proof.Defs
public import proofs.«01_k».proof.Proof.Gen.LruOutIdeal.Value
public import proofs.«01_k».proof.Proof.Gen.LruOutReferenceIdeal.Read
public import Idealize.ShloMosaic.Lib.Pipeline.ValueKit
public import Idealize.ShloMosaic.Lib.Pointwise

/-!
# The output projection of the recurrence

Every block of the tiled product holds the sums of products of its rows and columns, so the tiled product and the reference's one product
end with the same array.
-/

@[expose] public section

set_option maxRecDepth 16384

noncomputable section

namespace Cert.LruOutput

open Idealize.ShloMosaic Idealize.ShloMosaic.TcCoe Idealize.ShloMosaic.Tactic Idealize.SL.Sem

/-- The product of the branch's output and its weights: at a position and a feature, the sum over the branch's channels. -/
def product (h : (⟨2, ![4096, 1024]⟩ : Shape).Idx → EReal) (w : (⟨2, ![1024, 1024]⟩ : Shape).Idx → EReal) :
    (⟨2, ![4096, 1024]⟩ : Shape).Idx → EReal :=
  fun i => (∑ x : Fin 1024, h (ix2 (i 0) x) * w (ix2 x (i 1)))

section Kernel
open Cert.LruOutIdeal Cert.LruOutIdeal.Gen

/-- A block of the tiled product: the sums of all the products. -/
theorem block_product (a : Vec Ideal S1024x1024 .bf16) (b : Vec Ideal S1024x1024 .bf16) (y : S1024x1024.Idx) :
    (k0_pay1 a b y : EReal) = ∑ x : Fin 1024, a (ix2 (y 0) x) * b (ix2 x (y 1)) := by
  unfold k0_pay1
  pointwise

variable (m : (ℓ : Loc nD τ sig) → Buf (Elt Ideal) ℓ) (c : Dev nD)

/-- Which block each window is on at a point. -/
theorem left_at : ∀ t : Fin cfg0.N, win0_0.index t 0 = t.val ∧ win0_0.index t 1 = 0 :=
  (by decide +kernel : ∀ t : Fin grid0.N, win0_0.index t 0 = t.val ∧ win0_0.index t 1 = 0)
theorem right_at : ∀ t : Fin cfg0.N, win0_1.index t 0 = 0 ∧ win0_1.index t 1 = 0 :=
  (by decide +kernel : ∀ t : Fin grid0.N, win0_1.index t 0 = 0 ∧ win0_1.index t 1 = 0)
theorem result_at : ∀ t : Fin cfg0.N, win0_2.index t 0 = t.val ∧ win0_2.index t 1 = 0 :=
  (by decide +kernel : ∀ t : Fin grid0.N, win0_2.index t 0 = t.val ∧ win0_2.index t 1 = 0)

/-- The result array, after the run. -/
theorem kernel_result : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨a0, a1⟩ := left_at t
  obtain ⟨b0, b1⟩ := right_at t
  obtain ⟨r0, r1⟩ := result_at t
  refine (block_product (iblk m c 0 t) (iblk m c 1 t) y).trans ?_
  unfold product
  refine Finset.sum_congr rfl fun x _ => congrArg₂ (fun p q : EReal => p * q) ?_ ?_
  · show (m ((c.tc : Thread nD τ).loc main_arg0) : Vec Ideal S4096x1024 .bf16) _ = _
    refine congrArg (m ((c.tc : Thread nD τ).loc main_arg0) : Vec Ideal S4096x1024 .bf16) (funext fun a => Fin.ext ?_)
    match a with
    | ⟨0, _⟩ =>
      show win0_0.index t 0 * 1024 + 1 * (y 0).val = win0_2.index t 0 * 1024 + 1 * (y 0).val
      rw [a0, r0]
    | ⟨1, _⟩ =>
      show win0_0.index t 1 * 1024 + 1 * x.val = x.val
      rw [a1]; omega
  · show (m ((c.tc : Thread nD τ).loc main_arg1) : Vec Ideal S1024x1024 .bf16) _ = _
    refine congrArg (m ((c.tc : Thread nD τ).loc main_arg1) : Vec Ideal S1024x1024 .bf16) (funext fun a => Fin.ext ?_)
    match a with
    | ⟨0, _⟩ =>
      show win0_1.index t 0 * 1024 + 1 * x.val = x.val
      rw [b0]; omega
    | ⟨1, _⟩ =>
      show win0_1.index t 1 * 1024 + 1 * (y 1).val = win0_2.index t 1 * 1024 + 1 * (y 1).val
      rw [b1, r1]

end Kernel

section Reference
open Cert.LruOutReferenceIdeal Cert.LruOutReferenceIdeal.Read

theorem reference_result (h : Vec Ideal S4096x1024 .bf16) (w : Vec Ideal S1024x1024 .bf16) :
    val_main_v3 (F := Ideal) h w = product h w := by
  refine funext fun i => ?_
  show ((val_main_v3 (F := Ideal) h w : Vec Ideal S4096x1024 .bf16) i : EReal) = _
  unfold val_main_v3 val_main_v2 val_main_v1 val_main_v0 product
  pointwise

end Reference

/-- From the same output of the branch and the same weights the kernel and the reference end with the same projection. -/
theorem algebraic : Cert.algebraic_LruOutIdeal_LruOutReferenceIdeal := by
  intro m ρ m' ρ' hpre hargs
  refine ⟨fun c => product (m ((c.tc : Thread Cert.LruOutIdeal.nD Cert.LruOutIdeal.τ).loc Cert.LruOutIdeal.main_arg0))
    (m ((c.tc : Thread Cert.LruOutIdeal.nD Cert.LruOutIdeal.τ).loc Cert.LruOutIdeal.main_arg1)), ?_, ?_⟩
  · exact (θ_run Cert.LruOutIdeal.defs _ _).mono (fun r h c => ⟨(h c).1.trans (kernel_result m c), (h c).2⟩)
      (Cert.LruOutIdeal.Value.run_blocks (F := Ideal) m ρ)
  · refine (θ_run Cert.LruOutReferenceIdeal.defs _ _).mono (fun r h c => ?_) (Cert.LruOutReferenceIdeal.Value.run (F := Ideal) m' ρ')
    obtain ⟨e0, e1⟩ := hargs c
    refine ⟨(h c).1.trans ((Cert.LruOutReferenceIdeal.Read.val_main_v3_eq _ _).trans ?_), (h c).2⟩
    rw [e0, e1]
    exact reference_result _ _

end Cert.LruOutput

end
-- ==== Proof.MlaOutput.lean ====
module

public import proofs.«01_k».proof.Defs
public import proofs.«01_k».proof.Proof.Gen.MlaOutIdeal.Value
public import proofs.«01_k».proof.Proof.Gen.MlaOutReferenceIdeal.Read
public import Idealize.ShloMosaic.Lib.Pipeline.ValueKit
public import Idealize.ShloMosaic.Lib.Pointwise

/-!
# The output projection of the latent attention

Every block of the tiled product holds the sums of products of its rows and columns, so the tiled product and the reference's one product
end with the same array.
-/

@[expose] public section

set_option maxRecDepth 16384

noncomputable section

namespace Cert.MlaOutput

open Idealize.ShloMosaic Idealize.ShloMosaic.TcCoe Idealize.ShloMosaic.Tactic Idealize.SL.Sem

/-- The product of the branch's output and its weights: at a position and a feature, the sum over the branch's channels. -/
def product (h : (⟨2, ![4096, 512]⟩ : Shape).Idx → EReal) (w : (⟨2, ![512, 1024]⟩ : Shape).Idx → EReal) :
    (⟨2, ![4096, 1024]⟩ : Shape).Idx → EReal :=
  fun i => (∑ x : Fin 512, h (ix2 (i 0) x) * w (ix2 x (i 1)))

section Kernel
open Cert.MlaOutIdeal Cert.MlaOutIdeal.Gen

/-- A block of the tiled product: the sums of all the products. -/
theorem block_product (a : Vec Ideal S1024x512 .bf16) (b : Vec Ideal S512x1024 .bf16) (y : S1024x1024.Idx) :
    (k0_pay1 a b y : EReal) = ∑ x : Fin 512, a (ix2 (y 0) x) * b (ix2 x (y 1)) := by
  unfold k0_pay1
  pointwise

variable (m : (ℓ : Loc nD τ sig) → Buf (Elt Ideal) ℓ) (c : Dev nD)

/-- Which block each window is on at a point. -/
theorem left_at : ∀ t : Fin cfg0.N, win0_0.index t 0 = t.val ∧ win0_0.index t 1 = 0 :=
  (by decide +kernel : ∀ t : Fin grid0.N, win0_0.index t 0 = t.val ∧ win0_0.index t 1 = 0)
theorem right_at : ∀ t : Fin cfg0.N, win0_1.index t 0 = 0 ∧ win0_1.index t 1 = 0 :=
  (by decide +kernel : ∀ t : Fin grid0.N, win0_1.index t 0 = 0 ∧ win0_1.index t 1 = 0)
theorem result_at : ∀ t : Fin cfg0.N, win0_2.index t 0 = t.val ∧ win0_2.index t 1 = 0 :=
  (by decide +kernel : ∀ t : Fin grid0.N, win0_2.index t 0 = t.val ∧ win0_2.index t 1 = 0)

/-- The result array, after the run. -/
theorem kernel_result : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨a0, a1⟩ := left_at t
  obtain ⟨b0, b1⟩ := right_at t
  obtain ⟨r0, r1⟩ := result_at t
  refine (block_product (iblk m c 0 t) (iblk m c 1 t) y).trans ?_
  unfold product
  refine Finset.sum_congr rfl fun x _ => congrArg₂ (fun p q : EReal => p * q) ?_ ?_
  · show (m ((c.tc : Thread nD τ).loc main_arg0) : Vec Ideal S4096x512 .bf16) _ = _
    refine congrArg (m ((c.tc : Thread nD τ).loc main_arg0) : Vec Ideal S4096x512 .bf16) (funext fun a => Fin.ext ?_)
    match a with
    | ⟨0, _⟩ =>
      show win0_0.index t 0 * 1024 + 1 * (y 0).val = win0_2.index t 0 * 1024 + 1 * (y 0).val
      rw [a0, r0]
    | ⟨1, _⟩ =>
      show win0_0.index t 1 * 512 + 1 * x.val = x.val
      rw [a1]; omega
  · show (m ((c.tc : Thread nD τ).loc main_arg1) : Vec Ideal S512x1024 .bf16) _ = _
    refine congrArg (m ((c.tc : Thread nD τ).loc main_arg1) : Vec Ideal S512x1024 .bf16) (funext fun a => Fin.ext ?_)
    match a with
    | ⟨0, _⟩ =>
      show win0_1.index t 0 * 512 + 1 * x.val = x.val
      rw [b0]; omega
    | ⟨1, _⟩ =>
      show win0_1.index t 1 * 1024 + 1 * (y 1).val = win0_2.index t 1 * 1024 + 1 * (y 1).val
      rw [b1, r1]

end Kernel

section Reference
open Cert.MlaOutReferenceIdeal Cert.MlaOutReferenceIdeal.Read

theorem reference_result (h : Vec Ideal S4096x512 .bf16) (w : Vec Ideal S512x1024 .bf16) :
    val_main_v3 (F := Ideal) h w = product h w := by
  refine funext fun i => ?_
  show ((val_main_v3 (F := Ideal) h w : Vec Ideal S4096x1024 .bf16) i : EReal) = _
  unfold val_main_v3 val_main_v2 val_main_v1 val_main_v0 product
  pointwise

end Reference

/-- From the same output of the branch and the same weights the kernel and the reference end with the same projection. -/
theorem algebraic : Cert.algebraic_MlaOutIdeal_MlaOutReferenceIdeal := by
  intro m ρ m' ρ' hpre hargs
  refine ⟨fun c => product (m ((c.tc : Thread Cert.MlaOutIdeal.nD Cert.MlaOutIdeal.τ).loc Cert.MlaOutIdeal.main_arg0))
    (m ((c.tc : Thread Cert.MlaOutIdeal.nD Cert.MlaOutIdeal.τ).loc Cert.MlaOutIdeal.main_arg1)), ?_, ?_⟩
  · exact (θ_run Cert.MlaOutIdeal.defs _ _).mono (fun r h c => ⟨(h c).1.trans (kernel_result m c), (h c).2⟩)
      (Cert.MlaOutIdeal.Value.run_blocks (F := Ideal) m ρ)
  · refine (θ_run Cert.MlaOutReferenceIdeal.defs _ _).mono (fun r h c => ?_) (Cert.MlaOutReferenceIdeal.Value.run (F := Ideal) m' ρ')
    obtain ⟨e0, e1⟩ := hargs c
    refine ⟨(h c).1.trans ((Cert.MlaOutReferenceIdeal.Read.val_main_v3_eq _ _).trans ?_), (h c).2⟩
    rw [e0, e1]
    exact reference_result _ _

end Cert.MlaOutput

end
-- ==== Proof.DilOutput.lean ====
module

public import proofs.«01_k».proof.Defs
public import proofs.«01_k».proof.Proof.Gen.DilOutIdeal.Value
public import proofs.«01_k».proof.Proof.Gen.DilOutReferenceIdeal.Read
public import Idealize.ShloMosaic.Lib.Pipeline.ValueKit
public import Idealize.ShloMosaic.Lib.Pointwise

/-!
# The output projection of the dilated attention

Every block of the tiled product holds the sums of products of its rows and columns, so the tiled product and the reference's one product
end with the same array.
-/

@[expose] public section

set_option maxRecDepth 16384

noncomputable section

namespace Cert.DilOutput

open Idealize.ShloMosaic Idealize.ShloMosaic.TcCoe Idealize.ShloMosaic.Tactic Idealize.SL.Sem

/-- The product of the branch's output and its weights: at a position and a feature, the sum over the branch's channels. -/
def product (h : (⟨2, ![4096, 512]⟩ : Shape).Idx → EReal) (w : (⟨2, ![512, 1024]⟩ : Shape).Idx → EReal) :
    (⟨2, ![4096, 1024]⟩ : Shape).Idx → EReal :=
  fun i => (∑ x : Fin 512, h (ix2 (i 0) x) * w (ix2 x (i 1)))

section Kernel
open Cert.DilOutIdeal Cert.DilOutIdeal.Gen

/-- A block of the tiled product: the sums of all the products. -/
theorem block_product (a : Vec Ideal S1024x512 .bf16) (b : Vec Ideal S512x1024 .bf16) (y : S1024x1024.Idx) :
    (k0_pay1 a b y : EReal) = ∑ x : Fin 512, a (ix2 (y 0) x) * b (ix2 x (y 1)) := by
  unfold k0_pay1
  pointwise

variable (m : (ℓ : Loc nD τ sig) → Buf (Elt Ideal) ℓ) (c : Dev nD)

/-- Which block each window is on at a point. -/
theorem left_at : ∀ t : Fin cfg0.N, win0_0.index t 0 = t.val ∧ win0_0.index t 1 = 0 :=
  (by decide +kernel : ∀ t : Fin grid0.N, win0_0.index t 0 = t.val ∧ win0_0.index t 1 = 0)
theorem right_at : ∀ t : Fin cfg0.N, win0_1.index t 0 = 0 ∧ win0_1.index t 1 = 0 :=
  (by decide +kernel : ∀ t : Fin grid0.N, win0_1.index t 0 = 0 ∧ win0_1.index t 1 = 0)
theorem result_at : ∀ t : Fin cfg0.N, win0_2.index t 0 = t.val ∧ win0_2.index t 1 = 0 :=
  (by decide +kernel : ∀ t : Fin grid0.N, win0_2.index t 0 = t.val ∧ win0_2.index t 1 = 0)

/-- The result array, after the run. -/
theorem kernel_result : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨a0, a1⟩ := left_at t
  obtain ⟨b0, b1⟩ := right_at t
  obtain ⟨r0, r1⟩ := result_at t
  refine (block_product (iblk m c 0 t) (iblk m c 1 t) y).trans ?_
  unfold product
  refine Finset.sum_congr rfl fun x _ => congrArg₂ (fun p q : EReal => p * q) ?_ ?_
  · show (m ((c.tc : Thread nD τ).loc main_arg0) : Vec Ideal S4096x512 .bf16) _ = _
    refine congrArg (m ((c.tc : Thread nD τ).loc main_arg0) : Vec Ideal S4096x512 .bf16) (funext fun a => Fin.ext ?_)
    match a with
    | ⟨0, _⟩ =>
      show win0_0.index t 0 * 1024 + 1 * (y 0).val = win0_2.index t 0 * 1024 + 1 * (y 0).val
      rw [a0, r0]
    | ⟨1, _⟩ =>
      show win0_0.index t 1 * 512 + 1 * x.val = x.val
      rw [a1]; omega
  · show (m ((c.tc : Thread nD τ).loc main_arg1) : Vec Ideal S512x1024 .bf16) _ = _
    refine congrArg (m ((c.tc : Thread nD τ).loc main_arg1) : Vec Ideal S512x1024 .bf16) (funext fun a => Fin.ext ?_)
    match a with
    | ⟨0, _⟩ =>
      show win0_1.index t 0 * 512 + 1 * x.val = x.val
      rw [b0]; omega
    | ⟨1, _⟩ =>
      show win0_1.index t 1 * 1024 + 1 * (y 1).val = win0_2.index t 1 * 1024 + 1 * (y 1).val
      rw [b1, r1]

end Kernel

section Reference
open Cert.DilOutReferenceIdeal Cert.DilOutReferenceIdeal.Read

theorem reference_result (h : Vec Ideal S4096x512 .bf16) (w : Vec Ideal S512x1024 .bf16) :
    val_main_v3 (F := Ideal) h w = product h w := by
  refine funext fun i => ?_
  show ((val_main_v3 (F := Ideal) h w : Vec Ideal S4096x1024 .bf16) i : EReal) = _
  unfold val_main_v3 val_main_v2 val_main_v1 val_main_v0 product
  pointwise

end Reference

/-- From the same output of the branch and the same weights the kernel and the reference end with the same projection. -/
theorem algebraic : Cert.algebraic_DilOutIdeal_DilOutReferenceIdeal := by
  intro m ρ m' ρ' hpre hargs
  refine ⟨fun c => product (m ((c.tc : Thread Cert.DilOutIdeal.nD Cert.DilOutIdeal.τ).loc Cert.DilOutIdeal.main_arg0))
    (m ((c.tc : Thread Cert.DilOutIdeal.nD Cert.DilOutIdeal.τ).loc Cert.DilOutIdeal.main_arg1)), ?_, ?_⟩
  · exact (θ_run Cert.DilOutIdeal.defs _ _).mono (fun r h c => ⟨(h c).1.trans (kernel_result m c), (h c).2⟩)
      (Cert.DilOutIdeal.Value.run_blocks (F := Ideal) m ρ)
  · refine (θ_run Cert.DilOutReferenceIdeal.defs _ _).mono (fun r h c => ?_) (Cert.DilOutReferenceIdeal.Value.run (F := Ideal) m' ρ')
    obtain ⟨e0, e1⟩ := hargs c
    refine ⟨(h c).1.trans ((Cert.DilOutReferenceIdeal.Read.val_main_v3_eq _ _).trans ?_), (h c).2⟩
    rw [e0, e1]
    exact reference_result _ _

end Cert.DilOutput

end
-- ==== Proof.LayerOutput.lean ====
module

public import proofs.«01_k».proof.Defs
public import proofs.«01_k».proof.Proof.Gen.OutProjIdeal.Value
public import proofs.«01_k».proof.Proof.Gen.OutProjReferenceIdeal.Read
public import Idealize.ShloMosaic.Lib.Pipeline.ValueKit
public import Idealize.ShloMosaic.Lib.Pointwise

/-!
# The layer's output projection

Every block of the tiled product holds the sums of products of its rows and columns, added to its block of the layer's input, so the tiled
product and the reference's one product end with the same array.
-/

@[expose] public section

set_option maxRecDepth 16384

noncomputable section

namespace Cert.LayerOutput

open Idealize.ShloMosaic Idealize.ShloMosaic.TcCoe Idealize.ShloMosaic.Tactic Idealize.SL.Sem

/-- The product of the merged branches and the weights, added to the layer's input: at a position and a feature, the sum over the features. -/
def product (h : (⟨2, ![4096, 1024]⟩ : Shape).Idx → EReal) (w : (⟨2, ![1024, 1024]⟩ : Shape).Idx → EReal) (e : (⟨2, ![4096, 1024]⟩ : Shape).Idx → EReal) :
    (⟨2, ![4096, 1024]⟩ : Shape).Idx → EReal :=
  fun i => (∑ x : Fin 1024, h (ix2 (i 0) x) * w (ix2 x (i 1))) + e i

section Kernel
open Cert.OutProjIdeal Cert.OutProjIdeal.Gen

/-- A block of the tiled product: the sums over all the features, and the block that is added. -/
theorem block_product (a : Vec Ideal S1024x1024 .bf16) (b : Vec Ideal S1024x1024 .bf16) (e : Vec Ideal S1024x1024 .f32) (y : S1024x1024.Idx) :
    (k0_pay1 a b e y : EReal) = (∑ x : Fin 1024, a (ix2 (y 0) x) * b (ix2 x (y 1))) + e y := by
  unfold k0_pay1
  pointwise

variable (m : (ℓ : Loc nD τ sig) → Buf (Elt Ideal) ℓ) (c : Dev nD)

/-- Which block each window is on at a point. -/
theorem left_at : ∀ t : Fin cfg0.N, win0_0.index t 0 = t.val ∧ win0_0.index t 1 = 0 :=
  (by decide +kernel : ∀ t : Fin grid0.N, win0_0.index t 0 = t.val ∧ win0_0.index t 1 = 0)
theorem right_at : ∀ t : Fin cfg0.N, win0_1.index t 0 = 0 ∧ win0_1.index t 1 = 0 :=
  (by decide +kernel : ∀ t : Fin grid0.N, win0_1.index t 0 = 0 ∧ win0_1.index t 1 = 0)
theorem added_at : ∀ t : Fin cfg0.N, win0_2.index t 0 = t.val ∧ win0_2.index t 1 = 0 :=
  (by decide +kernel : ∀ t : Fin grid0.N, win0_2.index t 0 = t.val ∧ win0_2.index t 1 = 0)
theorem result_at : ∀ t : Fin cfg0.N, win0_3.index t 0 = t.val ∧ win0_3.index t 1 = 0 :=
  (by decide +kernel : ∀ t : Fin grid0.N, win0_3.index t 0 = t.val ∧ win0_3.index t 1 = 0)

/-- The result array, after the run. -/
theorem kernel_result : (dats m 0 c).arrAt 3 cfg0.N
    = product (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  obtain ⟨a0, a1⟩ := left_at t
  obtain ⟨b0, b1⟩ := right_at t
  obtain ⟨e0, e1⟩ := added_at t
  obtain ⟨r0, r1⟩ := result_at t
  refine (block_product (iblk m c 0 t) (iblk m c 1 t) (iblk m c 2 t) y).trans ?_
  unfold product
  refine congrArg₂ (fun p q : EReal => p + q) ?_ ?_
  swap
  · show (m ((c.tc : Thread nD τ).loc main_arg2) : Vec Ideal S4096x1024 .f32) _ = _
    refine congrArg (m ((c.tc : Thread nD τ).loc main_arg2) : Vec Ideal S4096x1024 .f32) (funext fun a => Fin.ext ?_)
    match a with
    | ⟨0, _⟩ =>
      show win0_2.index t 0 * 1024 + 1 * (y 0).val = win0_3.index t 0 * 1024 + 1 * (y 0).val
      rw [e0, r0]
    | ⟨1, _⟩ =>
      show win0_2.index t 1 * 1024 + 1 * (y 1).val = win0_3.index t 1 * 1024 + 1 * (y 1).val
      rw [e1, r1]
  refine Finset.sum_congr rfl fun x _ => congrArg₂ (fun p q : EReal => p * q) ?_ ?_
  · show (m ((c.tc : Thread nD τ).loc main_arg0) : Vec Ideal S4096x1024 .bf16) _ = _
    refine congrArg (m ((c.tc : Thread nD τ).loc main_arg0) : Vec Ideal S4096x1024 .bf16) (funext fun a => Fin.ext ?_)
    match a with
    | ⟨0, _⟩ =>
      show win0_0.index t 0 * 1024 + 1 * (y 0).val = win0_3.index t 0 * 1024 + 1 * (y 0).val
      rw [a0, r0]
    | ⟨1, _⟩ =>
      show win0_0.index t 1 * 1024 + 1 * x.val = x.val
      rw [a1]; omega
  · show (m ((c.tc : Thread nD τ).loc main_arg1) : Vec Ideal S1024x1024 .bf16) _ = _
    refine congrArg (m ((c.tc : Thread nD τ).loc main_arg1) : Vec Ideal S1024x1024 .bf16) (funext fun a => Fin.ext ?_)
    match a with
    | ⟨0, _⟩ =>
      show win0_1.index t 0 * 1024 + 1 * x.val = x.val
      rw [b0]; omega
    | ⟨1, _⟩ =>
      show win0_1.index t 1 * 1024 + 1 * (y 1).val = win0_3.index t 1 * 1024 + 1 * (y 1).val
      rw [b1, r1]

end Kernel

section Reference
open Cert.OutProjReferenceIdeal Cert.OutProjReferenceIdeal.Read

theorem reference_result (h : Vec Ideal S4096x1024 .bf16) (w : Vec Ideal S1024x1024 .bf16) (e : Vec Ideal S4096x1024 .f32) :
    val_main_v3 (F := Ideal) h w e = product h w e := by
  refine funext fun i => ?_
  show ((val_main_v3 (F := Ideal) h w e : Vec Ideal S4096x1024 .f32) i : EReal) = _
  unfold val_main_v3 val_main_v2 val_main_v1 val_main_v0 product
  pointwise
  exact add_comm _ _

end Reference

/-- From the same arguments the kernel and the reference end with the same output of the layer. -/
theorem algebraic : Cert.algebraic_OutProjIdeal_OutProjReferenceIdeal := by
  intro m ρ m' ρ' hpre hargs
  refine ⟨fun c => product (m ((c.tc : Thread Cert.OutProjIdeal.nD Cert.OutProjIdeal.τ).loc Cert.OutProjIdeal.main_arg0))
    (m ((c.tc : Thread Cert.OutProjIdeal.nD Cert.OutProjIdeal.τ).loc Cert.OutProjIdeal.main_arg1))
    (m ((c.tc : Thread Cert.OutProjIdeal.nD Cert.OutProjIdeal.τ).loc Cert.OutProjIdeal.main_arg2)), ?_, ?_⟩
  · exact (θ_run Cert.OutProjIdeal.defs _ _).mono (fun r h c => ⟨(h c).1.trans (kernel_result m c), (h c).2⟩)
      (Cert.OutProjIdeal.Value.run_blocks (F := Ideal) m ρ)
  · refine (θ_run Cert.OutProjReferenceIdeal.defs _ _).mono (fun r h c => ?_) (Cert.OutProjReferenceIdeal.Value.run (F := Ideal) m' ρ')
    obtain ⟨e0, e1, e2⟩ := hargs c
    refine ⟨(h c).1.trans ((Cert.OutProjReferenceIdeal.Read.val_main_v3_eq _ _ _).trans ?_), (h c).2⟩
    rw [e0, e1, e2]
    exact reference_result _ _ _

end Cert.LayerOutput

end
-- ==== Proof.MergedGradient.lean ====
module

public import proofs.«01_k».proof.Defs
public import proofs.«01_k».proof.Proof.Gen.MergedGradIdeal.Value
public import proofs.«01_k».proof.Proof.Gen.MergedGradReferenceIdeal.Read
public import Idealize.ShloMosaic.Lib.Pipeline.ValueKit
public import Idealize.ShloMosaic.Lib.Pointwise

/-!
# The gradient of the merged branches

Every block of the tiled product holds the sums over all the features, so the tiled product and the reference's one product end with the
same array.
-/

@[expose] public section

set_option maxRecDepth 16384

noncomputable section

namespace Cert.MergedGradient

open Idealize.ShloMosaic Idealize.ShloMosaic.TcCoe Idealize.ShloMosaic.Tactic Idealize.SL.Sem

/-- The output's gradient times the weights: at a position and a merged feature, the sum over the output's features. -/
def product (d : (⟨2, ![4096, 1024]⟩ : Shape).Idx → EReal) (w : (⟨2, ![1024, 1024]⟩ : Shape).Idx → EReal) :
    (⟨2, ![4096, 1024]⟩ : Shape).Idx → EReal :=
  fun i => (∑ x : Fin 1024, d (ix2 (i 0) x) * w (ix2 (i 1) x))

section Kernel
open Cert.MergedGradIdeal Cert.MergedGradIdeal.Gen

/-- A block of the tiled product: the sums of all the products. -/
theorem block_product (a : Vec Ideal S1024x1024 .f32) (b : Vec Ideal S1024x1024 .bf16) (y : S1024x1024.Idx) :
    (k0_pay1 a b y : EReal) = ∑ x : Fin 1024, a (ix2 (y 0) x) * b (ix2 (y 1) x) := by
  unfold k0_pay1
  pointwise

variable (m : (ℓ : Loc nD τ sig) → Buf (Elt Ideal) ℓ) (c : Dev nD)

/-- Which block each window is on at a point. -/
theorem left_at : ∀ t : Fin cfg0.N, win0_0.index t 0 = t.val ∧ win0_0.index t 1 = 0 :=
  (by decide +kernel : ∀ t : Fin grid0.N, win0_0.index t 0 = t.val ∧ win0_0.index t 1 = 0)
theorem right_at : ∀ t : Fin cfg0.N, win0_1.index t 0 = 0 ∧ win0_1.index t 1 = 0 :=
  (by decide +kernel : ∀ t : Fin grid0.N, win0_1.index t 0 = 0 ∧ win0_1.index t 1 = 0)
theorem result_at : ∀ t : Fin cfg0.N, win0_2.index t 0 = t.val ∧ win0_2.index t 1 = 0 :=
  (by decide +kernel : ∀ t : Fin grid0.N, win0_2.index t 0 = t.val ∧ win0_2.index t 1 = 0)

/-- The result array, after the run. -/
theorem kernel_result : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨a0, a1⟩ := left_at t
  obtain ⟨b0, b1⟩ := right_at t
  obtain ⟨r0, r1⟩ := result_at t
  refine (block_product (iblk m c 0 t) (iblk m c 1 t) y).trans ?_
  unfold product
  refine Finset.sum_congr rfl fun x _ => congrArg₂ (fun p q : EReal => p * q) ?_ ?_
  · show (m ((c.tc : Thread nD τ).loc main_arg0) : Vec Ideal S4096x1024 .f32) _ = _
    refine congrArg (m ((c.tc : Thread nD τ).loc main_arg0) : Vec Ideal S4096x1024 .f32) (funext fun a => Fin.ext ?_)
    match a with
    | ⟨0, _⟩ =>
      show win0_0.index t 0 * 1024 + 1 * (y 0).val = win0_2.index t 0 * 1024 + 1 * (y 0).val
      rw [a0, r0]
    | ⟨1, _⟩ =>
      show win0_0.index t 1 * 1024 + 1 * x.val = x.val
      rw [a1]; omega
  · show (m ((c.tc : Thread nD τ).loc main_arg1) : Vec Ideal S1024x1024 .bf16) _ = _
    refine congrArg (m ((c.tc : Thread nD τ).loc main_arg1) : Vec Ideal S1024x1024 .bf16) (funext fun a => Fin.ext ?_)
    match a with
    | ⟨0, _⟩ =>
      show win0_1.index t 0 * 1024 + 1 * (y 1).val = win0_2.index t 1 * 1024 + 1 * (y 1).val
      rw [b0, r1]
    | ⟨1, _⟩ =>
      show win0_1.index t 1 * 1024 + 1 * x.val = x.val
      rw [b1]; omega

end Kernel

section Reference
open Cert.MergedGradReferenceIdeal Cert.MergedGradReferenceIdeal.Read

theorem reference_result (d : Vec Ideal S4096x1024 .f32) (w : Vec Ideal S1024x1024 .bf16) :
    val_main_v4 (F := Ideal) d w = product d w := by
  refine funext fun i => ?_
  show ((val_main_v4 (F := Ideal) d w : Vec Ideal S4096x1024 .bf16) i : EReal) = _
  unfold val_main_v4 val_main_v3 val_main_v0 product
  pointwise

end Reference

/-- From the same gradient and weights the kernel and the reference end with the same gradient of the merged branches. -/
theorem algebraic : Cert.algebraic_MergedGradIdeal_MergedGradReferenceIdeal := by
  intro m ρ m' ρ' hpre hargs
  refine ⟨fun c => product (m ((c.tc : Thread Cert.MergedGradIdeal.nD Cert.MergedGradIdeal.τ).loc Cert.MergedGradIdeal.main_arg0))
    (m ((c.tc : Thread Cert.MergedGradIdeal.nD Cert.MergedGradIdeal.τ).loc Cert.MergedGradIdeal.main_arg1)), ?_, ?_⟩
  · exact (θ_run Cert.MergedGradIdeal.defs _ _).mono (fun r h c => ⟨(h c).1.trans (kernel_result m c), (h c).2⟩)
      (Cert.MergedGradIdeal.Value.run_blocks (F := Ideal) m ρ)
  · refine (θ_run Cert.MergedGradReferenceIdeal.defs _ _).mono (fun r h c => ?_) (Cert.MergedGradReferenceIdeal.Value.run (F := Ideal) m' ρ')
    obtain ⟨e0, e1⟩ := hargs c
    refine ⟨(h c).1.trans ((Cert.MergedGradReferenceIdeal.Read.val_main_v4_eq _ _).trans ?_), (h c).2⟩
    rw [e0, e1]
    exact reference_result _ _

end Cert.MergedGradient

end
-- ==== Proof.OutputWeights.lean ====
module

public import proofs.«01_k».proof.Defs
public import proofs.«01_k».proof.Proof.Gen.OutWeightGradIdeal.Value
public import proofs.«01_k».proof.Proof.Gen.OutWeightGradReferenceIdeal.Read
public import Idealize.ShloMosaic.Lib.Pipeline.ValueKit
public import Idealize.ShloMosaic.Lib.Pipeline.ReadBack
public import Idealize.ShloMosaic.Lib.Pointwise

/-!
# The gradient of the weights of the layer's output projection

The tiled product adds up four parts of the positions in a scratch buffer, the first stored and the others added, and writes the buffer out
after the fourth. The four parts together are the sum over all the positions, so the tiled product and the reference's one product end with
the same array.
-/

@[expose] public section

set_option maxRecDepth 16384

noncomputable section

namespace Cert.OutputWeights

open Idealize.ShloMosaic Idealize.ShloMosaic.TcCoe Idealize.ShloMosaic.Tactic Idealize.SL.Sem

/-- The product with the projection's gradient: at a channel and a feature, the sum over the positions. -/
def product (h : (⟨2, ![4096, 1024]⟩ : Shape).Idx → EReal) (d : (⟨2, ![4096, 1024]⟩ : Shape).Idx → EReal) :
    (⟨2, ![1024, 1024]⟩ : Shape).Idx → EReal :=
  fun i => (∑ x : Fin 4096, h (ix2 x (i 0)) * d (ix2 x (i 1)))

section Kernel
open Cert.OutWeightGradIdeal Cert.OutWeightGradIdeal.Gen

/-- One part of the sums. -/
def part (a : Vec Ideal S1024x1024 .bf16) (b : Vec Ideal S1024x1024 .f32) (y : S1024x1024.Idx) : EReal := ∑ x : Fin 1024, a (ix2 x (y 0)) * b (ix2 x (y 1))

theorem first_part (a : Vec Ideal S1024x1024 .bf16) (b : Vec Ideal S1024x1024 .f32) (y : S1024x1024.Idx) : (k0_pay2 a b y : EReal) = part a b y := by
  unfold k0_pay2 k0_pay1 part
  pointwise

theorem next_part (a : Vec Ideal S1024x1024 .bf16) (b : Vec Ideal S1024x1024 .f32) (z : Vec Ideal S1024x1024 .f32) (y : S1024x1024.Idx) :
    (k0_pay3 a b z y : EReal) = z y + part a b y := by
  unfold k0_pay3 k0_pay1 part
  pointwise

variable (m : (ℓ : Loc nD τ sig) → Buf (Elt Ideal) ℓ) (c : Dev nD)

/-- Which block each window is on at a point. -/
theorem left_at : ∀ t : Fin cfg0.N, win0_0.index t 0 = t.val ∧ win0_0.index t 1 = 0 :=
  (by decide +kernel : ∀ t : Fin grid0.N, win0_0.index t 0 = t.val ∧ win0_0.index t 1 = 0)
theorem right_at : ∀ t : Fin cfg0.N, win0_1.index t 0 = t.val ∧ win0_1.index t 1 = 0 :=
  (by decide +kernel : ∀ t : Fin grid0.N, win0_1.index t 0 = t.val ∧ win0_1.index t 1 = 0)
theorem result_at : ∀ t : Fin cfg0.N, win0_2.index t 0 = 0 ∧ win0_2.index t 1 = 0 :=
  (by decide +kernel : ∀ t : Fin grid0.N, win0_2.index t 0 = 0 ∧ win0_2.index t 1 = 0)

/-- At the first point of a block the scratch buffer is stored. -/
theorem held_first (t : Fin cfg0.N) (h : t.val % 4 = 0) (y : S1024x1024.Idx) :
    ((outsAt0 m c t.val t.isLt).2 y : EReal) = part (iblk m c 0 t) (iblk m c 1 t) y := by
  have ht : t.val < 4 := t.isLt
  rw [outsAt0_A m c t h (by omega) (by omega)]
  frame_out
  exact first_part _ _ y

/-- At the others it is added to. -/
theorem held_next (t : Fin cfg0.N) (h : ¬t.val % 4 = 0) (y : S1024x1024.Idx) :
    ((outsAt0 m c t.val t.isLt).2 y : EReal)
      = (outsAt0 m c (t.val - 1) (Nat.lt_of_le_of_lt (Nat.sub_le _ _) t.isLt)).2 y + part (iblk m c 0 t) (iblk m c 1 t) y := by
  by_cases h3 : t.val % 4 = 3
  · rw [outsAt0_C m c t h (by omega) h3]
    frame_out
    rw [read_unread_whole]
    exact next_part _ _ _ y
  · rw [outsAt0_B m c t h (by omega) h3]
    frame_out
    rw [read_unread_whole]
    exact next_part _ _ _ y

/-- At the last point of a block the result's buffer is the scratch buffer, rounded: over the reals the same numbers. -/
theorem written (t : Fin cfg0.N) (h : t.val % 4 = 3) (y : S1024x1024.Idx) :
    ((outsAt0 m c t.val t.isLt).1 y : EReal) = (outsAt0 m c t.val t.isLt).2 y := by
  rw [outsAt0_C m c t (by omega) (by omega) h]
  frame_out
  rfl

/-- The result array, after the run. -/
theorem kernel_result : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  have h3 : t.val % 4 = 3 := (flush0_2 t).mp hf
  blk_simp
  rw [after0_2]
  refine (written m c t h3 y).trans ?_
  refine (Pipeline.eq_sum_fin_of_reset_step_apply_of_flush (fun n h => ((outsAt0 m c n h).2 : S1024x1024.Idx → EReal)) 4 (fun _ => 0)
    (fun t y => part (iblk m c 0 t) (iblk m c 1 t) y) (fun t h i => (held_first m c t h i).trans (zero_add _).symm)
    (fun t h i => held_next m c t h i) t h3 y).trans ?_
  refine (zero_add _).trans ?_
  unfold product part
  refine Fin.sum_mul_add_congr fun s x hl => congrArg₂ (fun p q : EReal => p * q) ?_ ?_
  · obtain ⟨a0, a1⟩ := left_at ⟨4 * (t.val / 4) + s.val, Pipeline.run_point_lt_of_flush t h3 s⟩
    obtain ⟨r0, r1⟩ := result_at t
    have hs := s.isLt
    have ht : t.val < 4 := t.isLt
    show (m ((c.tc : Thread nD τ).loc main_arg0) : Vec Ideal S4096x1024 .bf16) _ = _
    refine congrArg (m ((c.tc : Thread nD τ).loc main_arg0) : Vec Ideal S4096x1024 .bf16) (funext fun a => Fin.ext ?_)
    match a with
    | ⟨0, _⟩ =>
      show win0_0.index ⟨4 * (t.val / 4) + s.val, _⟩ 0 * 1024 + 1 * x.val = s.val * 1024 + x.val
      rw [a0]; dsimp only; omega
    | ⟨1, _⟩ =>
      show win0_0.index ⟨4 * (t.val / 4) + s.val, _⟩ 1 * 1024 + 1 * (y 0).val = win0_2.index t 0 * 1024 + 1 * (y 0).val
      rw [a1, r0]
  · obtain ⟨b0, b1⟩ := right_at ⟨4 * (t.val / 4) + s.val, Pipeline.run_point_lt_of_flush t h3 s⟩
    obtain ⟨r0, r1⟩ := result_at t
    have hs := s.isLt
    have ht : t.val < 4 := t.isLt
    show (m ((c.tc : Thread nD τ).loc main_arg1) : Vec Ideal S4096x1024 .f32) _ = _
    refine congrArg (m ((c.tc : Thread nD τ).loc main_arg1) : Vec Ideal S4096x1024 .f32) (funext fun a => Fin.ext ?_)
    match a with
    | ⟨0, _⟩ =>
      show win0_1.index ⟨4 * (t.val / 4) + s.val, _⟩ 0 * 1024 + 1 * x.val = s.val * 1024 + x.val
      rw [b0]; dsimp only; omega
    | ⟨1, _⟩ =>
      show win0_1.index ⟨4 * (t.val / 4) + s.val, _⟩ 1 * 1024 + 1 * (y 1).val = win0_2.index t 1 * 1024 + 1 * (y 1).val
      rw [b1, r1]

end Kernel

section Reference
open Cert.OutWeightGradReferenceIdeal Cert.OutWeightGradReferenceIdeal.Read

theorem reference_result (h : Vec Ideal S4096x1024 .bf16) (d : Vec Ideal S4096x1024 .f32) :
    val_main_v5 (F := Ideal) h d = product h d := by
  refine funext fun i => ?_
  show ((val_main_v5 (F := Ideal) h d : Vec Ideal S1024x1024 .bf16) i : EReal) = _
  unfold val_main_v5 val_main_v4 val_main_v3 val_main_v0 product
  pointwise
  exact Finset.sum_congr rfl fun x _ => mul_comm _ _

end Reference

/-- From the same output and gradient the kernel and the reference end with the same gradient of the weights. -/
theorem algebraic : Cert.algebraic_OutWeightGradIdeal_OutWeightGradReferenceIdeal := by
  intro m ρ m' ρ' hpre hargs
  refine ⟨fun c => product (m ((c.tc : Thread Cert.OutWeightGradIdeal.nD Cert.OutWeightGradIdeal.τ).loc Cert.OutWeightGradIdeal.main_arg0))
    (m ((c.tc : Thread Cert.OutWeightGradIdeal.nD Cert.OutWeightGradIdeal.τ).loc Cert.OutWeightGradIdeal.main_arg1)), ?_, ?_⟩
  · exact (θ_run Cert.OutWeightGradIdeal.defs _ _).mono
      (fun r h c => ⟨(h c).1.trans ((Cert.OutWeightGradIdeal.Value.final2 m c).symm.trans (kernel_result m c)), (h c).2⟩)
      (Cert.OutWeightGradIdeal.Value.run (F := Ideal) m ρ)
  · refine (θ_run Cert.OutWeightGradReferenceIdeal.defs _ _).mono (fun r h c => ?_) (Cert.OutWeightGradReferenceIdeal.Value.run (F := Ideal) m' ρ')
    obtain ⟨e0, e1⟩ := hargs c
    refine ⟨(h c).1.trans ((Cert.OutWeightGradReferenceIdeal.Read.val_main_v5_eq _ _).trans ?_), (h c).2⟩
    rw [e0, e1]
    exact reference_result _ _

end Cert.OutputWeights

end
-- ==== Proof.LruGradient.lean ====
module

public import proofs.«01_k».proof.Defs
public import proofs.«01_k».proof.Proof.Gen.LruGradIdeal.Value
public import proofs.«01_k».proof.Proof.Gen.LruGradReferenceIdeal.Read
public import Idealize.ShloMosaic.Lib.Pipeline.ValueKit
public import Idealize.ShloMosaic.Lib.Pointwise

/-!
# The gradient of the recurrence's output

Every block of the tiled product holds the sums over all the features, so the tiled product and the reference's one product end with the
same array.
-/

@[expose] public section

set_option maxRecDepth 16384

noncomputable section

namespace Cert.LruGradient

open Idealize.ShloMosaic Idealize.ShloMosaic.TcCoe Idealize.ShloMosaic.Tactic Idealize.SL.Sem

/-- The projection's gradient times the weights: at a position and a channel of the branch, the sum over the features. -/
def product (d : (⟨2, ![4096, 1024]⟩ : Shape).Idx → EReal) (w : (⟨2, ![1024, 1024]⟩ : Shape).Idx → EReal) :
    (⟨2, ![4096, 1024]⟩ : Shape).Idx → EReal :=
  fun i => (∑ x : Fin 1024, d (ix2 (i 0) x) * w (ix2 (i 1) x))

section Kernel
open Cert.LruGradIdeal Cert.LruGradIdeal.Gen

/-- A block of the tiled product: the sums of all the products. -/
theorem block_product (a : Vec Ideal S1024x1024 .bf16) (b : Vec Ideal S1024x1024 .bf16) (y : S1024x1024.Idx) :
    (k0_pay1 a b y : EReal) = ∑ x : Fin 1024, a (ix2 (y 0) x) * b (ix2 (y 1) x) := by
  unfold k0_pay1
  pointwise

variable (m : (ℓ : Loc nD τ sig) → Buf (Elt Ideal) ℓ) (c : Dev nD)

/-- Which block each window is on at a point. -/
theorem left_at : ∀ t : Fin cfg0.N, win0_0.index t 0 = t.val ∧ win0_0.index t 1 = 0 :=
  (by decide +kernel : ∀ t : Fin grid0.N, win0_0.index t 0 = t.val ∧ win0_0.index t 1 = 0)
theorem right_at : ∀ t : Fin cfg0.N, win0_1.index t 0 = 0 ∧ win0_1.index t 1 = 0 :=
  (by decide +kernel : ∀ t : Fin grid0.N, win0_1.index t 0 = 0 ∧ win0_1.index t 1 = 0)
theorem result_at : ∀ t : Fin cfg0.N, win0_2.index t 0 = t.val ∧ win0_2.index t 1 = 0 :=
  (by decide +kernel : ∀ t : Fin grid0.N, win0_2.index t 0 = t.val ∧ win0_2.index t 1 = 0)

/-- The result array, after the run. -/
theorem kernel_result : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨a0, a1⟩ := left_at t
  obtain ⟨b0, b1⟩ := right_at t
  obtain ⟨r0, r1⟩ := result_at t
  refine (block_product (iblk m c 0 t) (iblk m c 1 t) y).trans ?_
  unfold product
  refine Finset.sum_congr rfl fun x _ => congrArg₂ (fun p q : EReal => p * q) ?_ ?_
  · show (m ((c.tc : Thread nD τ).loc main_arg0) : Vec Ideal S4096x1024 .bf16) _ = _
    refine congrArg (m ((c.tc : Thread nD τ).loc main_arg0) : Vec Ideal S4096x1024 .bf16) (funext fun a => Fin.ext ?_)
    match a with
    | ⟨0, _⟩ =>
      show win0_0.index t 0 * 1024 + 1 * (y 0).val = win0_2.index t 0 * 1024 + 1 * (y 0).val
      rw [a0, r0]
    | ⟨1, _⟩ =>
      show win0_0.index t 1 * 1024 + 1 * x.val = x.val
      rw [a1]; omega
  · show (m ((c.tc : Thread nD τ).loc main_arg1) : Vec Ideal S1024x1024 .bf16) _ = _
    refine congrArg (m ((c.tc : Thread nD τ).loc main_arg1) : Vec Ideal S1024x1024 .bf16) (funext fun a => Fin.ext ?_)
    match a with
    | ⟨0, _⟩ =>
      show win0_1.index t 0 * 1024 + 1 * (y 1).val = win0_2.index t 1 * 1024 + 1 * (y 1).val
      rw [b0, r1]
    | ⟨1, _⟩ =>
      show win0_1.index t 1 * 1024 + 1 * x.val = x.val
      rw [b1]; omega

end Kernel

section Reference
open Cert.LruGradReferenceIdeal Cert.LruGradReferenceIdeal.Read

theorem reference_result (d : Vec Ideal S4096x1024 .bf16) (w : Vec Ideal S1024x1024 .bf16) :
    val_main_v4 (F := Ideal) d w = product d w := by
  refine funext fun i => ?_
  show ((val_main_v4 (F := Ideal) d w : Vec Ideal S4096x1024 .f32) i : EReal) = _
  unfold val_main_v4 val_main_v1 val_main_v0 product
  pointwise

end Reference

/-- From the same gradient and weights the kernel and the reference end with the same gradient of the branch's output. -/
theorem algebraic : Cert.algebraic_LruGradIdeal_LruGradReferenceIdeal := by
  intro m ρ m' ρ' hpre hargs
  refine ⟨fun c => product (m ((c.tc : Thread Cert.LruGradIdeal.nD Cert.LruGradIdeal.τ).loc Cert.LruGradIdeal.main_arg0))
    (m ((c.tc : Thread Cert.LruGradIdeal.nD Cert.LruGradIdeal.τ).loc Cert.LruGradIdeal.main_arg1)), ?_, ?_⟩
  · exact (θ_run Cert.LruGradIdeal.defs _ _).mono (fun r h c => ⟨(h c).1.trans (kernel_result m c), (h c).2⟩)
      (Cert.LruGradIdeal.Value.run_blocks (F := Ideal) m ρ)
  · refine (θ_run Cert.LruGradReferenceIdeal.defs _ _).mono (fun r h c => ?_) (Cert.LruGradReferenceIdeal.Value.run (F := Ideal) m' ρ')
    obtain ⟨e0, e1⟩ := hargs c
    refine ⟨(h c).1.trans ((Cert.LruGradReferenceIdeal.Read.val_main_v4_eq _ _).trans ?_), (h c).2⟩
    rw [e0, e1]
    exact reference_result _ _

end Cert.LruGradient

end
-- ==== Proof.MlaGradient.lean ====
module

public import proofs.«01_k».proof.Defs
public import proofs.«01_k».proof.Proof.Gen.MlaGradIdeal.Value
public import proofs.«01_k».proof.Proof.Gen.MlaGradReferenceIdeal.Read
public import Idealize.ShloMosaic.Lib.Pipeline.ValueKit
public import Idealize.ShloMosaic.Lib.Pointwise

/-!
# The gradient of the latent attention's output

Every block of the tiled product holds the sums over all the features, so the tiled product and the reference's one product end with the
same array.
-/

@[expose] public section

set_option maxRecDepth 16384

noncomputable section

namespace Cert.MlaGradient

open Idealize.ShloMosaic Idealize.ShloMosaic.TcCoe Idealize.ShloMosaic.Tactic Idealize.SL.Sem

/-- The projection's gradient times the weights: at a position and a channel of the branch, the sum over the features. -/
def product (d : (⟨2, ![4096, 1024]⟩ : Shape).Idx → EReal) (w : (⟨2, ![512, 1024]⟩ : Shape).Idx → EReal) :
    (⟨2, ![4096, 512]⟩ : Shape).Idx → EReal :=
  fun i => (∑ x : Fin 1024, d (ix2 (i 0) x) * w (ix2 (i 1) x))

section Kernel
open Cert.MlaGradIdeal Cert.MlaGradIdeal.Gen

/-- A block of the tiled product: the sums of all the products. -/
theorem block_product (a : Vec Ideal S1024x1024 .bf16) (b : Vec Ideal S512x1024 .bf16) (y : S1024x512.Idx) :
    (k0_pay1 a b y : EReal) = ∑ x : Fin 1024, a (ix2 (y 0) x) * b (ix2 (y 1) x) := by
  unfold k0_pay1
  pointwise

variable (m : (ℓ : Loc nD τ sig) → Buf (Elt Ideal) ℓ) (c : Dev nD)

/-- Which block each window is on at a point. -/
theorem left_at : ∀ t : Fin cfg0.N, win0_0.index t 0 = t.val ∧ win0_0.index t 1 = 0 :=
  (by decide +kernel : ∀ t : Fin grid0.N, win0_0.index t 0 = t.val ∧ win0_0.index t 1 = 0)
theorem right_at : ∀ t : Fin cfg0.N, win0_1.index t 0 = 0 ∧ win0_1.index t 1 = 0 :=
  (by decide +kernel : ∀ t : Fin grid0.N, win0_1.index t 0 = 0 ∧ win0_1.index t 1 = 0)
theorem result_at : ∀ t : Fin cfg0.N, win0_2.index t 0 = t.val ∧ win0_2.index t 1 = 0 :=
  (by decide +kernel : ∀ t : Fin grid0.N, win0_2.index t 0 = t.val ∧ win0_2.index t 1 = 0)

/-- The result array, after the run. -/
theorem kernel_result : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨a0, a1⟩ := left_at t
  obtain ⟨b0, b1⟩ := right_at t
  obtain ⟨r0, r1⟩ := result_at t
  refine (block_product (iblk m c 0 t) (iblk m c 1 t) y).trans ?_
  unfold product
  refine Finset.sum_congr rfl fun x _ => congrArg₂ (fun p q : EReal => p * q) ?_ ?_
  · show (m ((c.tc : Thread nD τ).loc main_arg0) : Vec Ideal S4096x1024 .bf16) _ = _
    refine congrArg (m ((c.tc : Thread nD τ).loc main_arg0) : Vec Ideal S4096x1024 .bf16) (funext fun a => Fin.ext ?_)
    match a with
    | ⟨0, _⟩ =>
      show win0_0.index t 0 * 1024 + 1 * (y 0).val = win0_2.index t 0 * 1024 + 1 * (y 0).val
      rw [a0, r0]
    | ⟨1, _⟩ =>
      show win0_0.index t 1 * 1024 + 1 * x.val = x.val
      rw [a1]; omega
  · show (m ((c.tc : Thread nD τ).loc main_arg1) : Vec Ideal S512x1024 .bf16) _ = _
    refine congrArg (m ((c.tc : Thread nD τ).loc main_arg1) : Vec Ideal S512x1024 .bf16) (funext fun a => Fin.ext ?_)
    match a with
    | ⟨0, _⟩ =>
      show win0_1.index t 0 * 512 + 1 * (y 1).val = win0_2.index t 1 * 512 + 1 * (y 1).val
      rw [b0, r1]
    | ⟨1, _⟩ =>
      show win0_1.index t 1 * 1024 + 1 * x.val = x.val
      rw [b1]; omega

end Kernel

section Reference
open Cert.MlaGradReferenceIdeal Cert.MlaGradReferenceIdeal.Read

theorem reference_result (d : Vec Ideal S4096x1024 .bf16) (w : Vec Ideal S512x1024 .bf16) :
    val_main_v4 (F := Ideal) d w = product d w := by
  refine funext fun i => ?_
  show ((val_main_v4 (F := Ideal) d w : Vec Ideal S4096x512 .f32) i : EReal) = _
  unfold val_main_v4 val_main_v1 val_main_v0 product
  pointwise

end Reference

/-- From the same gradient and weights the kernel and the reference end with the same gradient of the branch's output. -/
theorem algebraic : Cert.algebraic_MlaGradIdeal_MlaGradReferenceIdeal := by
  intro m ρ m' ρ' hpre hargs
  refine ⟨fun c => product (m ((c.tc : Thread Cert.MlaGradIdeal.nD Cert.MlaGradIdeal.τ).loc Cert.MlaGradIdeal.main_arg0))
    (m ((c.tc : Thread Cert.MlaGradIdeal.nD Cert.MlaGradIdeal.τ).loc Cert.MlaGradIdeal.main_arg1)), ?_, ?_⟩
  · exact (θ_run Cert.MlaGradIdeal.defs _ _).mono (fun r h c => ⟨(h c).1.trans (kernel_result m c), (h c).2⟩)
      (Cert.MlaGradIdeal.Value.run_blocks (F := Ideal) m ρ)
  · refine (θ_run Cert.MlaGradReferenceIdeal.defs _ _).mono (fun r h c => ?_) (Cert.MlaGradReferenceIdeal.Value.run (F := Ideal) m' ρ')
    obtain ⟨e0, e1⟩ := hargs c
    refine ⟨(h c).1.trans ((Cert.MlaGradReferenceIdeal.Read.val_main_v4_eq _ _).trans ?_), (h c).2⟩
    rw [e0, e1]
    exact reference_result _ _

end Cert.MlaGradient

end
-- ==== Proof.DilGradient.lean ====
module

public import proofs.«01_k».proof.Defs
public import proofs.«01_k».proof.Proof.Gen.DilGradIdeal.Value
public import proofs.«01_k».proof.Proof.Gen.DilGradReferenceIdeal.Read
public import Idealize.ShloMosaic.Lib.Pipeline.ValueKit
public import Idealize.ShloMosaic.Lib.Pointwise

/-!
# The gradient of the dilated attention's output

Every block of the tiled product holds the sums over all the features, so the tiled product and the reference's one product end with the
same array.
-/

@[expose] public section

set_option maxRecDepth 16384

noncomputable section

namespace Cert.DilGradient

open Idealize.ShloMosaic Idealize.ShloMosaic.TcCoe Idealize.ShloMosaic.Tactic Idealize.SL.Sem

/-- The projection's gradient times the weights: at a position and a channel of the branch, the sum over the features. -/
def product (d : (⟨2, ![4096, 1024]⟩ : Shape).Idx → EReal) (w : (⟨2, ![512, 1024]⟩ : Shape).Idx → EReal) :
    (⟨2, ![4096, 512]⟩ : Shape).Idx → EReal :=
  fun i => (∑ x : Fin 1024, d (ix2 (i 0) x) * w (ix2 (i 1) x))

section Kernel
open Cert.DilGradIdeal Cert.DilGradIdeal.Gen

/-- A block of the tiled product: the sums of all the products. -/
theorem block_product (a : Vec Ideal S1024x1024 .bf16) (b : Vec Ideal S512x1024 .bf16) (y : S1024x512.Idx) :
    (k0_pay1 a b y : EReal) = ∑ x : Fin 1024, a (ix2 (y 0) x) * b (ix2 (y 1) x) := by
  unfold k0_pay1
  pointwise

variable (m : (ℓ : Loc nD τ sig) → Buf (Elt Ideal) ℓ) (c : Dev nD)

/-- Which block each window is on at a point. -/
theorem left_at : ∀ t : Fin cfg0.N, win0_0.index t 0 = t.val ∧ win0_0.index t 1 = 0 :=
  (by decide +kernel : ∀ t : Fin grid0.N, win0_0.index t 0 = t.val ∧ win0_0.index t 1 = 0)
theorem right_at : ∀ t : Fin cfg0.N, win0_1.index t 0 = 0 ∧ win0_1.index t 1 = 0 :=
  (by decide +kernel : ∀ t : Fin grid0.N, win0_1.index t 0 = 0 ∧ win0_1.index t 1 = 0)
theorem result_at : ∀ t : Fin cfg0.N, win0_2.index t 0 = t.val ∧ win0_2.index t 1 = 0 :=
  (by decide +kernel : ∀ t : Fin grid0.N, win0_2.index t 0 = t.val ∧ win0_2.index t 1 = 0)

/-- The result array, after the run. -/
theorem kernel_result : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨a0, a1⟩ := left_at t
  obtain ⟨b0, b1⟩ := right_at t
  obtain ⟨r0, r1⟩ := result_at t
  refine (block_product (iblk m c 0 t) (iblk m c 1 t) y).trans ?_
  unfold product
  refine Finset.sum_congr rfl fun x _ => congrArg₂ (fun p q : EReal => p * q) ?_ ?_
  · show (m ((c.tc : Thread nD τ).loc main_arg0) : Vec Ideal S4096x1024 .bf16) _ = _
    refine congrArg (m ((c.tc : Thread nD τ).loc main_arg0) : Vec Ideal S4096x1024 .bf16) (funext fun a => Fin.ext ?_)
    match a with
    | ⟨0, _⟩ =>
      show win0_0.index t 0 * 1024 + 1 * (y 0).val = win0_2.index t 0 * 1024 + 1 * (y 0).val
      rw [a0, r0]
    | ⟨1, _⟩ =>
      show win0_0.index t 1 * 1024 + 1 * x.val = x.val
      rw [a1]; omega
  · show (m ((c.tc : Thread nD τ).loc main_arg1) : Vec Ideal S512x1024 .bf16) _ = _
    refine congrArg (m ((c.tc : Thread nD τ).loc main_arg1) : Vec Ideal S512x1024 .bf16) (funext fun a => Fin.ext ?_)
    match a with
    | ⟨0, _⟩ =>
      show win0_1.index t 0 * 512 + 1 * (y 1).val = win0_2.index t 1 * 512 + 1 * (y 1).val
      rw [b0, r1]
    | ⟨1, _⟩ =>
      show win0_1.index t 1 * 1024 + 1 * x.val = x.val
      rw [b1]; omega

end Kernel

section Reference
open Cert.DilGradReferenceIdeal Cert.DilGradReferenceIdeal.Read

theorem reference_result (d : Vec Ideal S4096x1024 .bf16) (w : Vec Ideal S512x1024 .bf16) :
    val_main_v4 (F := Ideal) d w = product d w := by
  refine funext fun i => ?_
  show ((val_main_v4 (F := Ideal) d w : Vec Ideal S4096x512 .f32) i : EReal) = _
  unfold val_main_v4 val_main_v1 val_main_v0 product
  pointwise

end Reference

/-- From the same gradient and weights the kernel and the reference end with the same gradient of the branch's output. -/
theorem algebraic : Cert.algebraic_DilGradIdeal_DilGradReferenceIdeal := by
  intro m ρ m' ρ' hpre hargs
  refine ⟨fun c => product (m ((c.tc : Thread Cert.DilGradIdeal.nD Cert.DilGradIdeal.τ).loc Cert.DilGradIdeal.main_arg0))
    (m ((c.tc : Thread Cert.DilGradIdeal.nD Cert.DilGradIdeal.τ).loc Cert.DilGradIdeal.main_arg1)), ?_, ?_⟩
  · exact (θ_run Cert.DilGradIdeal.defs _ _).mono (fun r h c => ⟨(h c).1.trans (kernel_result m c), (h c).2⟩)
      (Cert.DilGradIdeal.Value.run_blocks (F := Ideal) m ρ)
  · refine (θ_run Cert.DilGradReferenceIdeal.defs _ _).mono (fun r h c => ?_) (Cert.DilGradReferenceIdeal.Value.run (F := Ideal) m' ρ')
    obtain ⟨e0, e1⟩ := hargs c
    refine ⟨(h c).1.trans ((Cert.DilGradReferenceIdeal.Read.val_main_v4_eq _ _).trans ?_), (h c).2⟩
    rw [e0, e1]
    exact reference_result _ _

end Cert.DilGradient

end
-- ==== Proof.LruWeights.lean ====
module

public import proofs.«01_k».proof.Defs
public import proofs.«01_k».proof.Proof.Gen.LruWeightGradIdeal.Value
public import proofs.«01_k».proof.Proof.Gen.LruWeightGradReferenceIdeal.Read
public import Idealize.ShloMosaic.Lib.Pipeline.ValueKit
public import Idealize.ShloMosaic.Lib.Pipeline.ReadBack
public import Idealize.ShloMosaic.Lib.Pointwise

/-!
# The gradient of the weights of the recurrence's output projection

The tiled product adds up four parts of the positions in a scratch buffer, the first stored and the others added, and writes the buffer out
after the fourth. The four parts together are the sum over all the positions, so the tiled product and the reference's one product end with
the same array.
-/

@[expose] public section

set_option maxRecDepth 16384

noncomputable section

namespace Cert.LruWeights

open Idealize.ShloMosaic Idealize.ShloMosaic.TcCoe Idealize.ShloMosaic.Tactic Idealize.SL.Sem

/-- The product with the projection's gradient: at a channel and a feature, the sum over the positions. -/
def product (h : (⟨2, ![4096, 1024]⟩ : Shape).Idx → EReal) (d : (⟨2, ![4096, 1024]⟩ : Shape).Idx → EReal) :
    (⟨2, ![1024, 1024]⟩ : Shape).Idx → EReal :=
  fun i => (∑ x : Fin 4096, h (ix2 x (i 0)) * d (ix2 x (i 1)))

section Kernel
open Cert.LruWeightGradIdeal Cert.LruWeightGradIdeal.Gen

/-- One part of the sums. -/
def part (a : Vec Ideal S1024x1024 .bf16) (b : Vec Ideal S1024x1024 .bf16) (y : S1024x1024.Idx) : EReal := ∑ x : Fin 1024, a (ix2 x (y 0)) * b (ix2 x (y 1))

theorem first_part (a : Vec Ideal S1024x1024 .bf16) (b : Vec Ideal S1024x1024 .bf16) (y : S1024x1024.Idx) : (k0_pay2 a b y : EReal) = part a b y := by
  unfold k0_pay2 k0_pay1 part
  pointwise

theorem next_part (a : Vec Ideal S1024x1024 .bf16) (b : Vec Ideal S1024x1024 .bf16) (z : Vec Ideal S1024x1024 .f32) (y : S1024x1024.Idx) :
    (k0_pay3 a b z y : EReal) = z y + part a b y := by
  unfold k0_pay3 k0_pay1 part
  pointwise

variable (m : (ℓ : Loc nD τ sig) → Buf (Elt Ideal) ℓ) (c : Dev nD)

/-- Which block each window is on at a point. -/
theorem left_at : ∀ t : Fin cfg0.N, win0_0.index t 0 = t.val ∧ win0_0.index t 1 = 0 :=
  (by decide +kernel : ∀ t : Fin grid0.N, win0_0.index t 0 = t.val ∧ win0_0.index t 1 = 0)
theorem right_at : ∀ t : Fin cfg0.N, win0_1.index t 0 = t.val ∧ win0_1.index t 1 = 0 :=
  (by decide +kernel : ∀ t : Fin grid0.N, win0_1.index t 0 = t.val ∧ win0_1.index t 1 = 0)
theorem result_at : ∀ t : Fin cfg0.N, win0_2.index t 0 = 0 ∧ win0_2.index t 1 = 0 :=
  (by decide +kernel : ∀ t : Fin grid0.N, win0_2.index t 0 = 0 ∧ win0_2.index t 1 = 0)

/-- At the first point of a block the scratch buffer is stored. -/
theorem held_first (t : Fin cfg0.N) (h : t.val % 4 = 0) (y : S1024x1024.Idx) :
    ((outsAt0 m c t.val t.isLt).2 y : EReal) = part (iblk m c 0 t) (iblk m c 1 t) y := by
  have ht : t.val < 4 := t.isLt
  rw [outsAt0_A m c t h (by omega) (by omega)]
  frame_out
  exact first_part _ _ y

/-- At the others it is added to. -/
theorem held_next (t : Fin cfg0.N) (h : ¬t.val % 4 = 0) (y : S1024x1024.Idx) :
    ((outsAt0 m c t.val t.isLt).2 y : EReal)
      = (outsAt0 m c (t.val - 1) (Nat.lt_of_le_of_lt (Nat.sub_le _ _) t.isLt)).2 y + part (iblk m c 0 t) (iblk m c 1 t) y := by
  by_cases h3 : t.val % 4 = 3
  · rw [outsAt0_C m c t h (by omega) h3]
    frame_out
    rw [read_unread_whole]
    exact next_part _ _ _ y
  · rw [outsAt0_B m c t h (by omega) h3]
    frame_out
    rw [read_unread_whole]
    exact next_part _ _ _ y

/-- At the last point of a block the result's buffer is the scratch buffer, rounded: over the reals the same numbers. -/
theorem written (t : Fin cfg0.N) (h : t.val % 4 = 3) (y : S1024x1024.Idx) :
    ((outsAt0 m c t.val t.isLt).1 y : EReal) = (outsAt0 m c t.val t.isLt).2 y := by
  rw [outsAt0_C m c t (by omega) (by omega) h]
  frame_out
  rfl

/-- The result array, after the run. -/
theorem kernel_result : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  have h3 : t.val % 4 = 3 := (flush0_2 t).mp hf
  blk_simp
  rw [after0_2]
  refine (written m c t h3 y).trans ?_
  refine (Pipeline.eq_sum_fin_of_reset_step_apply_of_flush (fun n h => ((outsAt0 m c n h).2 : S1024x1024.Idx → EReal)) 4 (fun _ => 0)
    (fun t y => part (iblk m c 0 t) (iblk m c 1 t) y) (fun t h i => (held_first m c t h i).trans (zero_add _).symm)
    (fun t h i => held_next m c t h i) t h3 y).trans ?_
  refine (zero_add _).trans ?_
  unfold product part
  refine Fin.sum_mul_add_congr fun s x hl => congrArg₂ (fun p q : EReal => p * q) ?_ ?_
  · obtain ⟨a0, a1⟩ := left_at ⟨4 * (t.val / 4) + s.val, Pipeline.run_point_lt_of_flush t h3 s⟩
    obtain ⟨r0, r1⟩ := result_at t
    have hs := s.isLt
    have ht : t.val < 4 := t.isLt
    show (m ((c.tc : Thread nD τ).loc main_arg0) : Vec Ideal S4096x1024 .bf16) _ = _
    refine congrArg (m ((c.tc : Thread nD τ).loc main_arg0) : Vec Ideal S4096x1024 .bf16) (funext fun a => Fin.ext ?_)
    match a with
    | ⟨0, _⟩ =>
      show win0_0.index ⟨4 * (t.val / 4) + s.val, _⟩ 0 * 1024 + 1 * x.val = s.val * 1024 + x.val
      rw [a0]; dsimp only; omega
    | ⟨1, _⟩ =>
      show win0_0.index ⟨4 * (t.val / 4) + s.val, _⟩ 1 * 1024 + 1 * (y 0).val = win0_2.index t 0 * 1024 + 1 * (y 0).val
      rw [a1, r0]
  · obtain ⟨b0, b1⟩ := right_at ⟨4 * (t.val / 4) + s.val, Pipeline.run_point_lt_of_flush t h3 s⟩
    obtain ⟨r0, r1⟩ := result_at t
    have hs := s.isLt
    have ht : t.val < 4 := t.isLt
    show (m ((c.tc : Thread nD τ).loc main_arg1) : Vec Ideal S4096x1024 .bf16) _ = _
    refine congrArg (m ((c.tc : Thread nD τ).loc main_arg1) : Vec Ideal S4096x1024 .bf16) (funext fun a => Fin.ext ?_)
    match a with
    | ⟨0, _⟩ =>
      show win0_1.index ⟨4 * (t.val / 4) + s.val, _⟩ 0 * 1024 + 1 * x.val = s.val * 1024 + x.val
      rw [b0]; dsimp only; omega
    | ⟨1, _⟩ =>
      show win0_1.index ⟨4 * (t.val / 4) + s.val, _⟩ 1 * 1024 + 1 * (y 1).val = win0_2.index t 1 * 1024 + 1 * (y 1).val
      rw [b1, r1]

end Kernel

section Reference
open Cert.LruWeightGradReferenceIdeal Cert.LruWeightGradReferenceIdeal.Read

theorem reference_result (h : Vec Ideal S4096x1024 .bf16) (d : Vec Ideal S4096x1024 .bf16) :
    val_main_v6 (F := Ideal) h d = product h d := by
  refine funext fun i => ?_
  show ((val_main_v6 (F := Ideal) h d : Vec Ideal S1024x1024 .bf16) i : EReal) = _
  unfold val_main_v6 val_main_v5 val_main_v4 val_main_v1 val_main_v0 product
  pointwise
  exact Finset.sum_congr rfl fun x _ => mul_comm _ _

end Reference

/-- From the same output and gradient the kernel and the reference end with the same gradient of the weights. -/
theorem algebraic : Cert.algebraic_LruWeightGradIdeal_LruWeightGradReferenceIdeal := by
  intro m ρ m' ρ' hpre hargs
  refine ⟨fun c => product (m ((c.tc : Thread Cert.LruWeightGradIdeal.nD Cert.LruWeightGradIdeal.τ).loc Cert.LruWeightGradIdeal.main_arg0))
    (m ((c.tc : Thread Cert.LruWeightGradIdeal.nD Cert.LruWeightGradIdeal.τ).loc Cert.LruWeightGradIdeal.main_arg1)), ?_, ?_⟩
  · exact (θ_run Cert.LruWeightGradIdeal.defs _ _).mono
      (fun r h c => ⟨(h c).1.trans ((Cert.LruWeightGradIdeal.Value.final2 m c).symm.trans (kernel_result m c)), (h c).2⟩)
      (Cert.LruWeightGradIdeal.Value.run (F := Ideal) m ρ)
  · refine (θ_run Cert.LruWeightGradReferenceIdeal.defs _ _).mono (fun r h c => ?_) (Cert.LruWeightGradReferenceIdeal.Value.run (F := Ideal) m' ρ')
    obtain ⟨e0, e1⟩ := hargs c
    refine ⟨(h c).1.trans ((Cert.LruWeightGradReferenceIdeal.Read.val_main_v6_eq _ _).trans ?_), (h c).2⟩
    rw [e0, e1]
    exact reference_result _ _

end Cert.LruWeights

end
-- ==== Proof.MlaWeights.lean ====
module

public import proofs.«01_k».proof.Defs
public import proofs.«01_k».proof.Proof.Gen.MlaWeightGradIdeal.Value
public import proofs.«01_k».proof.Proof.Gen.MlaWeightGradReferenceIdeal.Read
public import Idealize.ShloMosaic.Lib.Pipeline.ValueKit
public import Idealize.ShloMosaic.Lib.Pipeline.ReadBack
public import Idealize.ShloMosaic.Lib.Pointwise

/-!
# The gradient of the weights of the latent attention's output projection

The tiled product adds up four parts of the positions in a scratch buffer, the first stored and the others added, and writes the buffer out
after the fourth. The four parts together are the sum over all the positions, so the tiled product and the reference's one product end with
the same array.
-/

@[expose] public section

set_option maxRecDepth 16384

noncomputable section

namespace Cert.MlaWeights

open Idealize.ShloMosaic Idealize.ShloMosaic.TcCoe Idealize.ShloMosaic.Tactic Idealize.SL.Sem

/-- The product with the projection's gradient: at a channel and a feature, the sum over the positions. -/
def product (h : (⟨2, ![4096, 512]⟩ : Shape).Idx → EReal) (d : (⟨2, ![4096, 1024]⟩ : Shape).Idx → EReal) :
    (⟨2, ![512, 1024]⟩ : Shape).Idx → EReal :=
  fun i => (∑ x : Fin 4096, h (ix2 x (i 0)) * d (ix2 x (i 1)))

section Kernel
open Cert.MlaWeightGradIdeal Cert.MlaWeightGradIdeal.Gen

/-- One part of the sums. -/
def part (a : Vec Ideal S1024x512 .bf16) (b : Vec Ideal S1024x1024 .bf16) (y : S512x1024.Idx) : EReal := ∑ x : Fin 1024, a (ix2 x (y 0)) * b (ix2 x (y 1))

theorem first_part (a : Vec Ideal S1024x512 .bf16) (b : Vec Ideal S1024x1024 .bf16) (y : S512x1024.Idx) : (k0_pay2 a b y : EReal) = part a b y := by
  unfold k0_pay2 k0_pay1 part
  pointwise

theorem next_part (a : Vec Ideal S1024x512 .bf16) (b : Vec Ideal S1024x1024 .bf16) (z : Vec Ideal S512x1024 .f32) (y : S512x1024.Idx) :
    (k0_pay3 a b z y : EReal) = z y + part a b y := by
  unfold k0_pay3 k0_pay1 part
  pointwise

variable (m : (ℓ : Loc nD τ sig) → Buf (Elt Ideal) ℓ) (c : Dev nD)

/-- Which block each window is on at a point. -/
theorem left_at : ∀ t : Fin cfg0.N, win0_0.index t 0 = t.val ∧ win0_0.index t 1 = 0 :=
  (by decide +kernel : ∀ t : Fin grid0.N, win0_0.index t 0 = t.val ∧ win0_0.index t 1 = 0)
theorem right_at : ∀ t : Fin cfg0.N, win0_1.index t 0 = t.val ∧ win0_1.index t 1 = 0 :=
  (by decide +kernel : ∀ t : Fin grid0.N, win0_1.index t 0 = t.val ∧ win0_1.index t 1 = 0)
theorem result_at : ∀ t : Fin cfg0.N, win0_2.index t 0 = 0 ∧ win0_2.index t 1 = 0 :=
  (by decide +kernel : ∀ t : Fin grid0.N, win0_2.index t 0 = 0 ∧ win0_2.index t 1 = 0)

/-- At the first point of a block the scratch buffer is stored. -/
theorem held_first (t : Fin cfg0.N) (h : t.val % 4 = 0) (y : S512x1024.Idx) :
    ((outsAt0 m c t.val t.isLt).2 y : EReal) = part (iblk m c 0 t) (iblk m c 1 t) y := by
  have ht : t.val < 4 := t.isLt
  rw [outsAt0_A m c t h (by omega) (by omega)]
  frame_out
  exact first_part _ _ y

/-- At the others it is added to. -/
theorem held_next (t : Fin cfg0.N) (h : ¬t.val % 4 = 0) (y : S512x1024.Idx) :
    ((outsAt0 m c t.val t.isLt).2 y : EReal)
      = (outsAt0 m c (t.val - 1) (Nat.lt_of_le_of_lt (Nat.sub_le _ _) t.isLt)).2 y + part (iblk m c 0 t) (iblk m c 1 t) y := by
  by_cases h3 : t.val % 4 = 3
  · rw [outsAt0_C m c t h (by omega) h3]
    frame_out
    rw [read_unread_whole]
    exact next_part _ _ _ y
  · rw [outsAt0_B m c t h (by omega) h3]
    frame_out
    rw [read_unread_whole]
    exact next_part _ _ _ y

/-- At the last point of a block the result's buffer is the scratch buffer, rounded: over the reals the same numbers. -/
theorem written (t : Fin cfg0.N) (h : t.val % 4 = 3) (y : S512x1024.Idx) :
    ((outsAt0 m c t.val t.isLt).1 y : EReal) = (outsAt0 m c t.val t.isLt).2 y := by
  rw [outsAt0_C m c t (by omega) (by omega) h]
  frame_out
  rfl

/-- The result array, after the run. -/
theorem kernel_result : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  have h3 : t.val % 4 = 3 := (flush0_2 t).mp hf
  blk_simp
  rw [after0_2]
  refine (written m c t h3 y).trans ?_
  refine (Pipeline.eq_sum_fin_of_reset_step_apply_of_flush (fun n h => ((outsAt0 m c n h).2 : S512x1024.Idx → EReal)) 4 (fun _ => 0)
    (fun t y => part (iblk m c 0 t) (iblk m c 1 t) y) (fun t h i => (held_first m c t h i).trans (zero_add _).symm)
    (fun t h i => held_next m c t h i) t h3 y).trans ?_
  refine (zero_add _).trans ?_
  unfold product part
  refine Fin.sum_mul_add_congr fun s x hl => congrArg₂ (fun p q : EReal => p * q) ?_ ?_
  · obtain ⟨a0, a1⟩ := left_at ⟨4 * (t.val / 4) + s.val, Pipeline.run_point_lt_of_flush t h3 s⟩
    obtain ⟨r0, r1⟩ := result_at t
    have hs := s.isLt
    have ht : t.val < 4 := t.isLt
    show (m ((c.tc : Thread nD τ).loc main_arg0) : Vec Ideal S4096x512 .bf16) _ = _
    refine congrArg (m ((c.tc : Thread nD τ).loc main_arg0) : Vec Ideal S4096x512 .bf16) (funext fun a => Fin.ext ?_)
    match a with
    | ⟨0, _⟩ =>
      show win0_0.index ⟨4 * (t.val / 4) + s.val, _⟩ 0 * 1024 + 1 * x.val = s.val * 1024 + x.val
      rw [a0]; dsimp only; omega
    | ⟨1, _⟩ =>
      show win0_0.index ⟨4 * (t.val / 4) + s.val, _⟩ 1 * 512 + 1 * (y 0).val = win0_2.index t 0 * 512 + 1 * (y 0).val
      rw [a1, r0]
  · obtain ⟨b0, b1⟩ := right_at ⟨4 * (t.val / 4) + s.val, Pipeline.run_point_lt_of_flush t h3 s⟩
    obtain ⟨r0, r1⟩ := result_at t
    have hs := s.isLt
    have ht : t.val < 4 := t.isLt
    show (m ((c.tc : Thread nD τ).loc main_arg1) : Vec Ideal S4096x1024 .bf16) _ = _
    refine congrArg (m ((c.tc : Thread nD τ).loc main_arg1) : Vec Ideal S4096x1024 .bf16) (funext fun a => Fin.ext ?_)
    match a with
    | ⟨0, _⟩ =>
      show win0_1.index ⟨4 * (t.val / 4) + s.val, _⟩ 0 * 1024 + 1 * x.val = s.val * 1024 + x.val
      rw [b0]; dsimp only; omega
    | ⟨1, _⟩ =>
      show win0_1.index ⟨4 * (t.val / 4) + s.val, _⟩ 1 * 1024 + 1 * (y 1).val = win0_2.index t 1 * 1024 + 1 * (y 1).val
      rw [b1, r1]

end Kernel

section Reference
open Cert.MlaWeightGradReferenceIdeal Cert.MlaWeightGradReferenceIdeal.Read

theorem reference_result (h : Vec Ideal S4096x512 .bf16) (d : Vec Ideal S4096x1024 .bf16) :
    val_main_v6 (F := Ideal) h d = product h d := by
  refine funext fun i => ?_
  show ((val_main_v6 (F := Ideal) h d : Vec Ideal S512x1024 .bf16) i : EReal) = _
  unfold val_main_v6 val_main_v5 val_main_v4 val_main_v1 val_main_v0 product
  pointwise
  exact Finset.sum_congr rfl fun x _ => mul_comm _ _

end Reference

/-- From the same output and gradient the kernel and the reference end with the same gradient of the weights. -/
theorem algebraic : Cert.algebraic_MlaWeightGradIdeal_MlaWeightGradReferenceIdeal := by
  intro m ρ m' ρ' hpre hargs
  refine ⟨fun c => product (m ((c.tc : Thread Cert.MlaWeightGradIdeal.nD Cert.MlaWeightGradIdeal.τ).loc Cert.MlaWeightGradIdeal.main_arg0))
    (m ((c.tc : Thread Cert.MlaWeightGradIdeal.nD Cert.MlaWeightGradIdeal.τ).loc Cert.MlaWeightGradIdeal.main_arg1)), ?_, ?_⟩
  · exact (θ_run Cert.MlaWeightGradIdeal.defs _ _).mono
      (fun r h c => ⟨(h c).1.trans ((Cert.MlaWeightGradIdeal.Value.final2 m c).symm.trans (kernel_result m c)), (h c).2⟩)
      (Cert.MlaWeightGradIdeal.Value.run (F := Ideal) m ρ)
  · refine (θ_run Cert.MlaWeightGradReferenceIdeal.defs _ _).mono (fun r h c => ?_) (Cert.MlaWeightGradReferenceIdeal.Value.run (F := Ideal) m' ρ')
    obtain ⟨e0, e1⟩ := hargs c
    refine ⟨(h c).1.trans ((Cert.MlaWeightGradReferenceIdeal.Read.val_main_v6_eq _ _).trans ?_), (h c).2⟩
    rw [e0, e1]
    exact reference_result _ _

end Cert.MlaWeights

end
-- ==== Proof.DilWeights.lean ====
module

public import proofs.«01_k».proof.Defs
public import proofs.«01_k».proof.Proof.Gen.DilWeightGradIdeal.Value
public import proofs.«01_k».proof.Proof.Gen.DilWeightGradReferenceIdeal.Read
public import Idealize.ShloMosaic.Lib.Pipeline.ValueKit
public import Idealize.ShloMosaic.Lib.Pipeline.ReadBack
public import Idealize.ShloMosaic.Lib.Pointwise

/-!
# The gradient of the weights of the dilated attention's output projection

The tiled product adds up four parts of the positions in a scratch buffer, the first stored and the others added, and writes the buffer out
after the fourth. The four parts together are the sum over all the positions, so the tiled product and the reference's one product end with
the same array.
-/

@[expose] public section

set_option maxRecDepth 16384

noncomputable section

namespace Cert.DilWeights

open Idealize.ShloMosaic Idealize.ShloMosaic.TcCoe Idealize.ShloMosaic.Tactic Idealize.SL.Sem

/-- The product with the projection's gradient: at a channel and a feature, the sum over the positions. -/
def product (h : (⟨2, ![4096, 512]⟩ : Shape).Idx → EReal) (d : (⟨2, ![4096, 1024]⟩ : Shape).Idx → EReal) :
    (⟨2, ![512, 1024]⟩ : Shape).Idx → EReal :=
  fun i => (∑ x : Fin 4096, h (ix2 x (i 0)) * d (ix2 x (i 1)))

section Kernel
open Cert.DilWeightGradIdeal Cert.DilWeightGradIdeal.Gen

/-- One part of the sums. -/
def part (a : Vec Ideal S1024x512 .bf16) (b : Vec Ideal S1024x1024 .bf16) (y : S512x1024.Idx) : EReal := ∑ x : Fin 1024, a (ix2 x (y 0)) * b (ix2 x (y 1))

theorem first_part (a : Vec Ideal S1024x512 .bf16) (b : Vec Ideal S1024x1024 .bf16) (y : S512x1024.Idx) : (k0_pay2 a b y : EReal) = part a b y := by
  unfold k0_pay2 k0_pay1 part
  pointwise

theorem next_part (a : Vec Ideal S1024x512 .bf16) (b : Vec Ideal S1024x1024 .bf16) (z : Vec Ideal S512x1024 .f32) (y : S512x1024.Idx) :
    (k0_pay3 a b z y : EReal) = z y + part a b y := by
  unfold k0_pay3 k0_pay1 part
  pointwise

variable (m : (ℓ : Loc nD τ sig) → Buf (Elt Ideal) ℓ) (c : Dev nD)

/-- Which block each window is on at a point. -/
theorem left_at : ∀ t : Fin cfg0.N, win0_0.index t 0 = t.val ∧ win0_0.index t 1 = 0 :=
  (by decide +kernel : ∀ t : Fin grid0.N, win0_0.index t 0 = t.val ∧ win0_0.index t 1 = 0)
theorem right_at : ∀ t : Fin cfg0.N, win0_1.index t 0 = t.val ∧ win0_1.index t 1 = 0 :=
  (by decide +kernel : ∀ t : Fin grid0.N, win0_1.index t 0 = t.val ∧ win0_1.index t 1 = 0)
theorem result_at : ∀ t : Fin cfg0.N, win0_2.index t 0 = 0 ∧ win0_2.index t 1 = 0 :=
  (by decide +kernel : ∀ t : Fin grid0.N, win0_2.index t 0 = 0 ∧ win0_2.index t 1 = 0)

/-- At the first point of a block the scratch buffer is stored. -/
theorem held_first (t : Fin cfg0.N) (h : t.val % 4 = 0) (y : S512x1024.Idx) :
    ((outsAt0 m c t.val t.isLt).2 y : EReal) = part (iblk m c 0 t) (iblk m c 1 t) y := by
  have ht : t.val < 4 := t.isLt
  rw [outsAt0_A m c t h (by omega) (by omega)]
  frame_out
  exact first_part _ _ y

/-- At the others it is added to. -/
theorem held_next (t : Fin cfg0.N) (h : ¬t.val % 4 = 0) (y : S512x1024.Idx) :
    ((outsAt0 m c t.val t.isLt).2 y : EReal)
      = (outsAt0 m c (t.val - 1) (Nat.lt_of_le_of_lt (Nat.sub_le _ _) t.isLt)).2 y + part (iblk m c 0 t) (iblk m c 1 t) y := by
  by_cases h3 : t.val % 4 = 3
  · rw [outsAt0_C m c t h (by omega) h3]
    frame_out
    rw [read_unread_whole]
    exact next_part _ _ _ y
  · rw [outsAt0_B m c t h (by omega) h3]
    frame_out
    rw [read_unread_whole]
    exact next_part _ _ _ y

/-- At the last point of a block the result's buffer is the scratch buffer, rounded: over the reals the same numbers. -/
theorem written (t : Fin cfg0.N) (h : t.val % 4 = 3) (y : S512x1024.Idx) :
    ((outsAt0 m c t.val t.isLt).1 y : EReal) = (outsAt0 m c t.val t.isLt).2 y := by
  rw [outsAt0_C m c t (by omega) (by omega) h]
  frame_out
  rfl

/-- The result array, after the run. -/
theorem kernel_result : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  have h3 : t.val % 4 = 3 := (flush0_2 t).mp hf
  blk_simp
  rw [after0_2]
  refine (written m c t h3 y).trans ?_
  refine (Pipeline.eq_sum_fin_of_reset_step_apply_of_flush (fun n h => ((outsAt0 m c n h).2 : S512x1024.Idx → EReal)) 4 (fun _ => 0)
    (fun t y => part (iblk m c 0 t) (iblk m c 1 t) y) (fun t h i => (held_first m c t h i).trans (zero_add _).symm)
    (fun t h i => held_next m c t h i) t h3 y).trans ?_
  refine (zero_add _).trans ?_
  unfold product part
  refine Fin.sum_mul_add_congr fun s x hl => congrArg₂ (fun p q : EReal => p * q) ?_ ?_
  · obtain ⟨a0, a1⟩ := left_at ⟨4 * (t.val / 4) + s.val, Pipeline.run_point_lt_of_flush t h3 s⟩
    obtain ⟨r0, r1⟩ := result_at t
    have hs := s.isLt
    have ht : t.val < 4 := t.isLt
    show (m ((c.tc : Thread nD τ).loc main_arg0) : Vec Ideal S4096x512 .bf16) _ = _
    refine congrArg (m ((c.tc : Thread nD τ).loc main_arg0) : Vec Ideal S4096x512 .bf16) (funext fun a => Fin.ext ?_)
    match a with
    | ⟨0, _⟩ =>
      show win0_0.index ⟨4 * (t.val / 4) + s.val, _⟩ 0 * 1024 + 1 * x.val = s.val * 1024 + x.val
      rw [a0]; dsimp only; omega
    | ⟨1, _⟩ =>
      show win0_0.index ⟨4 * (t.val / 4) + s.val, _⟩ 1 * 512 + 1 * (y 0).val = win0_2.index t 0 * 512 + 1 * (y 0).val
      rw [a1, r0]
  · obtain ⟨b0, b1⟩ := right_at ⟨4 * (t.val / 4) + s.val, Pipeline.run_point_lt_of_flush t h3 s⟩
    obtain ⟨r0, r1⟩ := result_at t
    have hs := s.isLt
    have ht : t.val < 4 := t.isLt
    show (m ((c.tc : Thread nD τ).loc main_arg1) : Vec Ideal S4096x1024 .bf16) _ = _
    refine congrArg (m ((c.tc : Thread nD τ).loc main_arg1) : Vec Ideal S4096x1024 .bf16) (funext fun a => Fin.ext ?_)
    match a with
    | ⟨0, _⟩ =>
      show win0_1.index ⟨4 * (t.val / 4) + s.val, _⟩ 0 * 1024 + 1 * x.val = s.val * 1024 + x.val
      rw [b0]; dsimp only; omega
    | ⟨1, _⟩ =>
      show win0_1.index ⟨4 * (t.val / 4) + s.val, _⟩ 1 * 1024 + 1 * (y 1).val = win0_2.index t 1 * 1024 + 1 * (y 1).val
      rw [b1, r1]

end Kernel

section Reference
open Cert.DilWeightGradReferenceIdeal Cert.DilWeightGradReferenceIdeal.Read

theorem reference_result (h : Vec Ideal S4096x512 .bf16) (d : Vec Ideal S4096x1024 .bf16) :
    val_main_v6 (F := Ideal) h d = product h d := by
  refine funext fun i => ?_
  show ((val_main_v6 (F := Ideal) h d : Vec Ideal S512x1024 .bf16) i : EReal) = _
  unfold val_main_v6 val_main_v5 val_main_v4 val_main_v1 val_main_v0 product
  pointwise
  exact Finset.sum_congr rfl fun x _ => mul_comm _ _

end Reference

/-- From the same output and gradient the kernel and the reference end with the same gradient of the weights. -/
theorem algebraic : Cert.algebraic_DilWeightGradIdeal_DilWeightGradReferenceIdeal := by
  intro m ρ m' ρ' hpre hargs
  refine ⟨fun c => product (m ((c.tc : Thread Cert.DilWeightGradIdeal.nD Cert.DilWeightGradIdeal.τ).loc Cert.DilWeightGradIdeal.main_arg0))
    (m ((c.tc : Thread Cert.DilWeightGradIdeal.nD Cert.DilWeightGradIdeal.τ).loc Cert.DilWeightGradIdeal.main_arg1)), ?_, ?_⟩
  · exact (θ_run Cert.DilWeightGradIdeal.defs _ _).mono
      (fun r h c => ⟨(h c).1.trans ((Cert.DilWeightGradIdeal.Value.final2 m c).symm.trans (kernel_result m c)), (h c).2⟩)
      (Cert.DilWeightGradIdeal.Value.run (F := Ideal) m ρ)
  · refine (θ_run Cert.DilWeightGradReferenceIdeal.defs _ _).mono (fun r h c => ?_) (Cert.DilWeightGradReferenceIdeal.Value.run (F := Ideal) m' ρ')
    obtain ⟨e0, e1⟩ := hargs c
    refine ⟨(h c).1.trans ((Cert.DilWeightGradReferenceIdeal.Read.val_main_v6_eq _ _).trans ?_), (h c).2⟩
    rw [e0, e1]
    exact reference_result _ _

end Cert.DilWeights

end
-- ==== Proof.FiniteScores.lean ====
module

public import proofs.«01_k».proof.Pre_finite_qk
public import proofs.«01_k».proof.Proof.Finite

/-!
# What the attention's precondition says

Every entry of the queries and of the keys is a real number.
-/

@[expose] public section

noncomputable section

namespace Cert.FiniteScores

open Idealize.ShloMosaic
open Cert.Pre_finite_qk

instance facts : Cert.Pre_finite_qk.Facts where
  bcast_S_S4096x1024 := by decide
  reducesTo_S4096x1024_S_d0_1 := by decide
  h_S_ := by decide

variable (x0 x1 : FVec Ideal S4096x1024 .bf16) (x2 : FVec Ideal S4096x512 .bf16) (x3 : FVec Ideal S4096x11264 .f32)

theorem entries (h : Cert.Pre_finite_qk.fn (F := Ideal) x0 x1 x2 x3 = fun _ => 1#1) :
    (∀ y, (x0 y : EReal) = ((x0 y : EReal).toReal : EReal)) ∧ (∀ y, (x1 y : EReal) = ((x1 y : EReal).toReal : EReal)) := by
  haveI : Subsingleton S_.Idx := ⟨fun a b => funext fun k => k.elim0⟩
  have h0 := congrFun h (fun k => k.elim0)
  unfold fn at h0
  obtain ⟨h1, h2⟩ := IntOp.andi_eq_one.mp h0
  exact ⟨fun y => Cert.Finite.real_of_abs_lt _ (Host.reduce_andi_all _ _ _ _ _ h1 y),
    fun y => Cert.Finite.real_of_abs_lt _ (Host.reduce_andi_all _ _ _ _ _ h2 y)⟩

end Cert.FiniteScores

end
-- ==== Proof.AttentionRows.lean ====
module

public import proofs.«01_k».proof.Proof.Reals
public import Idealize.ShloMosaic.PureOps.Ideal
public import Mathlib.Analysis.SpecialFunctions.Pow.Real

/-!
# A row of the causal attention, one block of keys after the other

The forward kernel goes through a row's keys in blocks of 512. It carries a number no smaller than the scores so far — minus infinity before
the first block — and the sum of the values so far, each times two to the power of its key's score less that number. Here a step of that
carried pair is shown to keep its meaning, and the last pair to give the attention's output and its row's log-sum. The scores are real
numbers; the values may be any extended reals.
-/

@[expose] public section

noncomputable section

namespace Cert.AttentionForward

open Finset Idealize.ShloMosaic Cert.Spec

/-! ### Sums of extended reals with real factors -/

/-- A real number that is not negative goes inside a sum of extended reals. -/
theorem coe_mul_sum {ι : Type*} (c : ℝ) (hc : 0 ≤ c) (s : Finset ι) (f : ι → EReal) : (c : EReal) * ∑ i ∈ s, f i = ∑ i ∈ s, (c : EReal) * f i := by
  classical
  induction s using Finset.induction_on with
  | empty => simp
  | insert a s ha ih =>
    rw [sum_insert ha, sum_insert ha, EReal.left_distrib_of_nonneg_of_ne_top (by exact_mod_cast hc) (EReal.coe_ne_top c), ih]

/-- The logarithm of 2 is not zero. -/
theorem log_two_ne : Real.log 2 ≠ 0 := (Real.log_pos (by norm_num)).ne'

theorem two_rpow (r : ℝ) : Real.rpow 2 r = Real.exp (r * Real.log 2) := by
  show (2 : ℝ) ^ r = _
  rw [Real.rpow_def_of_pos (by norm_num), mul_comm]

variable (σ : ℝ) (q k : ℕ → ℕ → ℝ)

/-- A masked score in powers of two: minus infinity at the keys after the query. -/
def masked2 (h i x : ℕ) : EReal := if i < x then (⊥ : EReal) else ((score σ q k h i x * (Real.log 2)⁻¹ : ℝ) : EReal)

/-- Two to the power of a masked score less a number, as the exponential less that number's. -/
theorem exp2_masked2 (T : ℝ) (h i x : ℕ) :
    Ideal.exp2 (masked2 σ q k h i x - (T : EReal)) = (shifted σ q k (T * Real.log 2) h i x : EReal) := by
  unfold masked2 shifted
  split
  · rw [EReal.bot_sub]; rfl
  · rw [← EReal.coe_sub, Ideal.exp2_coe, two_rpow, sub_mul, inv_mul_cancel_right₀ log_two_ne]

/-- The change from one number to another. -/
theorem rescale (T U : ℝ) (h i x : ℕ) :
    Real.rpow 2 (T - U) * shifted σ q k (T * Real.log 2) h i x = shifted σ q k (U * Real.log 2) h i x := by
  rw [two_rpow, shifted_eq, shifted_eq, mul_left_comm, ← Real.exp_add]
  congr 2
  ring

/-- What a row carries after `n` blocks of keys: nothing yet, or a real number and the sum of the values weighted with powers of two. -/
def Carried (h i n : ℕ) (V : ℕ → EReal) (t a : EReal) : Prop :=
  (n = 0 ∧ t = ⊥ ∧ a = 0) ∨
    ∃ T : ℝ, t = (T : EReal) ∧ a = ∑ x ∈ range (512 * n), (shifted σ q k (T * Real.log 2) h i x : EReal) * V x

/-- The new number after a block of scores. -/
def newTop (s : Fin 512 → EReal) (t : EReal) : EReal := max t ((univ : Finset (Fin 512)).fold max ⊥ s)

/-- The new weighted sum after a block of scores and values. -/
def newSum (s v : Fin 512 → EReal) (t a : EReal) : EReal :=
  Ideal.exp2 (t - newTop s t) * a + ∑ r : Fin 512, Ideal.exp2 (s r - newTop s t) * v r

/-- The maximum of a block of masked scores is a real number when the block's first key is not after the query. -/
theorem block_max_real (h i n : ℕ) (hn : 512 * n ≤ i) :
    ∃ U : ℝ, (univ : Finset (Fin 512)).fold max ⊥ (fun r => masked2 σ q k h i (512 * n + r.val)) = (U : EReal) := by
  refine ⟨((univ : Finset (Fin 512)).fold max ⊥ (fun r => masked2 σ q k h i (512 * n + r.val))).toReal, (EReal.coe_toReal ?_ ?_).symm⟩
  · refine ne_of_lt ((fold_max_lt _).mpr ⟨bot_lt_top, fun r _ => ?_⟩)
    unfold masked2
    split
    · exact bot_lt_top
    · exact EReal.coe_lt_top _
  · refine ne_of_gt ((lt_fold_max _).mpr (Or.inr ⟨0, mem_univ _, ?_⟩))
    unfold masked2
    rw [if_neg (by show ¬ i < 512 * n + 0; omega)]
    exact EReal.bot_lt_coe _

theorem carried_first (h i : ℕ) (V : ℕ → EReal) : Carried σ q k h i 0 V ⊥ 0 := Or.inl ⟨rfl, rfl, rfl⟩

/-- A step keeps the carried pair's meaning. -/
theorem carried_step (h i n : ℕ) (V : ℕ → EReal) (t a : EReal) (hn : 512 * n ≤ i) (hc : Carried σ q k h i n V t a)
    (s v : Fin 512 → EReal) (hs : ∀ r, s r = masked2 σ q k h i (512 * n + r.val)) (hv : ∀ r, v r = V (512 * n + r.val)) :
    Carried σ q k h i (n + 1) V (newTop s t) (newSum s v t a) := by
  obtain ⟨U, hU⟩ := block_max_real σ q k h i n hn
  have hs' : s = fun r => masked2 σ q k h i (512 * n + r.val) := funext hs
  have hnew : ∀ W : ℝ, ∑ r : Fin 512, Ideal.exp2 (s r - (W : EReal)) * v r
      = ∑ r ∈ range 512, (shifted σ q k (W * Real.log 2) h i (512 * n + r) : EReal) * V (512 * n + r) := fun W => by
    rw [sum_congr rfl fun r _ => by rw [hs r, exp2_masked2, hv r]]
    exact Fin.sum_univ_eq_sum_range (fun r => (shifted σ q k (W * Real.log 2) h i (512 * n + r) : EReal) * V (512 * n + r)) 512
  rcases hc with ⟨h0, ht, ha⟩ | ⟨T, ht, ha⟩
  · have e : newTop s t = (U : EReal) := by
      unfold newTop
      rw [ht, hs', hU]
      exact max_eq_right bot_le
    refine Or.inr ⟨U, e, ?_⟩
    unfold newSum
    rw [e, hnew, ha, mul_zero, zero_add, h0]
    exact sum_congr rfl fun x _ => by rw [Nat.mul_zero, Nat.zero_add]
  · have e : newTop s t = ((max T U : ℝ) : EReal) := by
      unfold newTop
      rw [ht, hs', hU]
      exact (EReal.coe_strictMono.monotone.map_max).symm
    refine Or.inr ⟨max T U, e, ?_⟩
    unfold newSum
    rw [e, hnew, ha, ht, ← EReal.coe_sub, Ideal.exp2_coe, coe_mul_sum _ (by rw [two_rpow]; exact (Real.exp_pos _).le), Nat.mul_succ, sum_range_add]
    refine congrArg₂ (· + ·) (sum_congr rfl fun x _ => ?_) rfl
    rw [← mul_assoc, ← EReal.coe_mul, rescale]

/-! ### What the last pair gives -/

/-- The sum over a row's blocks of keys is the sum over all the keys. -/
theorem sum_all (M : ℝ) (h i n : ℕ) (hi : i < 512 * n) (hn : n ≤ 8) (V : ℕ → EReal) :
    ∑ x ∈ range (512 * n), (shifted σ q k M h i x : EReal) * V x = ∑ x ∈ range 4096, (shifted σ q k M h i x : EReal) * V x := by
  refine sum_subset (range_mono (by omega)) fun x _ hx => ?_
  have : i < x := by have := mem_range.not.mp hx; omega
  unfold shifted
  rw [if_pos this, EReal.coe_zero, zero_mul]

/-- The attention's output at a value's column. -/
def output (h i : ℕ) (V : ℕ → EReal) : EReal := ∑ x ∈ range 4096, (share σ q k h i x : EReal) * V x

/-- A row's log-sum. -/
def logsum (h i : ℕ) : ℝ := Real.log (total σ q k h i)

/-- The log-sum from the sum of the exponentials less a number. -/
theorem logsum_of (M : ℝ) (h i : ℕ) : M + Real.log (∑ x ∈ range 4096, shifted σ q k M h i x) = logsum σ q k h i := by
  rw [sum_shifted, Real.log_mul (total_pos σ q k h i).ne' (Real.exp_pos _).ne', Real.log_exp]
  unfold logsum
  ring

/-- The output, from the sum of the weighted values over the sum of the weights. -/
theorem output_of (M : ℝ) (h i : ℕ) (V : ℕ → EReal) :
    Ideal.div (∑ x ∈ range 4096, (shifted σ q k M h i x : EReal) * V x) ((∑ x ∈ range 4096, shifted σ q k M h i x : ℝ) : EReal)
      = output σ q k h i V := by
  have hp := sum_shifted_pos σ q k M h i
  rw [Ideal.div_coe hp.ne', mul_comm, coe_mul_sum _ (one_div_pos.mpr hp).le]
  refine sum_congr rfl fun x _ => ?_
  rw [← mul_assoc, ← EReal.coe_mul, ← share_of_shifted σ q k M h i x]
  congr 2
  ring

/-- A value that is 1 at every key: the sum of the weights. -/
theorem carried_ones {h i n : ℕ} {t a : EReal} (hn0 : n ≠ 0) (hi : i < 512 * n) (hn : n ≤ 8) (hc : Carried σ q k h i n (fun _ => 1) t a) :
    ∃ T : ℝ, t = (T : EReal) ∧ a = ((∑ x ∈ range 4096, shifted σ q k (T * Real.log 2) h i x : ℝ) : EReal) := by
  rcases hc with ⟨h0, _⟩ | ⟨T, ht, ha⟩
  · exact absurd h0 hn0
  · refine ⟨T, ht, ?_⟩
    rw [ha, sum_all σ q k _ h i n hi hn, ← coe_sum]
    exact sum_congr rfl fun x _ => mul_one _

/-- The last pair's quotient is the output, -/
theorem output_of_carried {h i n : ℕ} {t a l : EReal} {V : ℕ → EReal} (hn0 : n ≠ 0) (hi : i < 512 * n) (hn : n ≤ 8)
    (hc : Carried σ q k h i n V t a) (hl : Carried σ q k h i n (fun _ => 1) t l) : Ideal.div a l = output σ q k h i V := by
  obtain ⟨T, ht, hl'⟩ := carried_ones σ q k hn0 hi hn hl
  rcases hc with ⟨h0, _⟩ | ⟨T', ht', ha⟩
  · exact absurd h0 hn0
  · have e : T' = T := EReal.coe_injective (ht'.symm.trans ht)
    subst e
    rw [hl', ha, sum_all σ q k _ h i n hi hn]
    exact output_of σ q k _ h i V

/-- its number and sum of weights give the log-sum, -/
theorem logsum_of_carried {h i n : ℕ} {t l : EReal} (hn0 : n ≠ 0) (hi : i < 512 * n) (hn : n ≤ 8) (hl : Carried σ q k h i n (fun _ => 1) t l) :
    t * ((Real.log 2 : ℝ) : EReal) + Ideal.log l = (logsum σ q k h i : EReal) := by
  obtain ⟨T, ht, hl'⟩ := carried_ones σ q k hn0 hi hn hl
  rw [hl', ht, log_coe _ (sum_shifted_pos σ q k _ h i), ← EReal.coe_mul, ← EReal.coe_add, logsum_of]

/-- and zero over its sum of weights is zero. -/
theorem zero_of_carried {h i n : ℕ} {t l : EReal} (hn0 : n ≠ 0) (hi : i < 512 * n) (hn : n ≤ 8) (hl : Carried σ q k h i n (fun _ => 1) t l) :
    Ideal.div 0 l = 0 := by
  obtain ⟨T, ht, hl'⟩ := carried_ones σ q k hn0 hi hn hl
  rw [hl', Ideal.div_coe (sum_shifted_pos σ q k _ h i).ne', zero_mul]

end Cert.AttentionForward

end
-- ==== Proof.AttentionTile.lean ====
module

public import proofs.«01_k».proof.Proof.AttentionRows
public import proofs.«01_k».proof.Proof.Rows
public import proofs.«01_k».proof.Proof.Store
public import proofs.«01_k».proof.Proof.Gen.AttentionIdeal.Skeleton
public import Idealize.ShloMosaic.PureOps.Ideal.Laws
public import Idealize.ShloMosaic.PureOps.IdealRules
public import Idealize.ShloMosaic.Lib.Pointwise.Tactic
public import Idealize.ShloMosaic.Lib.Pointwise.Contract
public import Idealize.ShloMosaic.Lib.Pointwise.Reduce
public import Idealize.ShloMosaic.Lib.WordCmp

/-!
# One block of the attention's forward pass

The kernel's body goes through a block of 512 queries and the blocks of keys up to it. Here the values it computes for a pair of such blocks
are stated as functions of the blocks — the scores in powers of two `scores`, the new maxima `topOf`, the new weighted sums `sumOf`, the
values with a column of ones `extend` — and every value the body names is shown to be one of them.
-/

@[expose] public section

set_option maxRecDepth 16384

noncomputable section

namespace Cert.AttentionIdeal.Tile

open Idealize.ShloMosaic Idealize.SL.Sem
open Cert.AttentionIdeal Cert.AttentionIdeal.Gen Cert.AttentionForward

/-- A 512-by-128 block, a 512-by-512 one and a column of 512 extended reals. -/
abbrev Blk : Type := (⟨2, ![512, 128]⟩ : Shape).Idx → EReal
abbrev Sq : Type := (⟨2, ![512, 512]⟩ : Shape).Idx → EReal
abbrev Col : Type := (⟨2, ![512, 1]⟩ : Shape).Idx → EReal

/-- The softmax's scale over the logarithm of 2. -/
def scale2 : EReal := (((3424635 / 33554432) * (Real.log 2)⁻¹ : ℝ) : EReal)

/-- The products of the query rows and the key rows, scaled; with `m`, those of the keys after the query are masked. -/
def scores (m : Bool) (q k : Blk) : Sq := fun j =>
  if m = true ∧ (j 0).val < (j 1).val then ⊥ else (∑ d : Fin 128, q (ix2 (j 0) d) * k (ix2 (j 1) d)) * scale2

/-- The new maxima, and the new weighted sums. -/
def topOf (s : Sq) (t : Col) : Col := fun j => newTop (fun r => s (ix2 (j 0) r)) (t j)
def sumOf (s : Sq) (v : Blk) (t : Col) (a : Blk) : Blk := fun j =>
  newSum (fun r => s (ix2 (j 0) r)) (fun r => v (ix2 r (j 1))) (t (ix2 (j 0) 0)) (a j)

/-- What a head's last sums and maxima give: the attention's output in its lanes, and its rows' log-sums. -/
def outOf (h : ℕ) (n : Fin 128) (s : Blk) : Blk := fun j => Ideal.div (if (j 1).val / 64 = h then s j else 0) (s (ix2 (j 0) n))
def logOf (n : Fin 128) (t : Col) (s : Blk) : Blk := fun j => t (ix2 (j 0) 0) * ((Real.log 2 : ℝ) : EReal) + Ideal.log (s (ix2 (j 0) n))

/-- The gated output. -/
def gated (o g : Blk) : Blk := fun j => o j * (g j * Ideal.div 1 (1 + Ideal.exp (0 - g j)))

/-- The lane of head `h`'s column of ones, among the lanes of the other head. -/
def onesLane (h : ℕ) : ℕ := 64 * (1 - h)

/-- The values kept in the lanes of head `h`, with a column of ones among the other lanes. -/
def extend (h : ℕ) (v : Blk) : Blk := fun j => if (j 1).val / 64 = h then v j else if (j 1).val = onesLane h then 1 else 0

theorem mask_eq : (Named.named κ "mask" 0xF149F2CA#32 : Ideal .f32) = (⊥ : EReal) :=
  IdealRules.named_const.ideal_named_scalar _ _ _ _ rfl
theorem scale2_eq : (Named.named κ "scale2" 0x3E16C740#32 : Ideal .f32) = scale2 :=
  IdealRules.named_const.ideal_named_scalar _ _ _ _ rfl
theorem ln2_eq : (Named.named κ "ln2" 0x3F317218#32 : Ideal .f32) = ((Real.log 2 : ℝ) : EReal) :=
  IdealRules.named_const.ideal_named_scalar _ _ _ _ rfl

/-! ### The operations -/

theorem inner_eq {φ₁ φ₂ : FTy} (a : FVec Ideal S512x128 φ₁) (b : FVec Ideal S512x128 φ₂) :
    matmul dot_S512x128_S512x128_S512x512_1_1_0_0_n_n none a b (constant (F := Ideal) S512x512 .f32 0x00000000#32)
      = (fun j => ∑ d : Fin 128, (a (ix2 (j 0) d) : EReal) * (b (ix2 (j 1) d) : EReal) : Sq) := by
  funext j
  simp only [pointwise]
  exact zero_add _

/-- A vector of 512 as a column. -/
theorem column_apply (x : FVec Ideal S512 .f32) (j : S512x1.Idx) : shapeCast S512x1 x shapeCasts_S512_S512x1 j = x (ix1 (j 0)) := by
  have h : (j 1).val < 1 := (j 1).isLt
  refine shapeCast_apply x shapeCasts_S512_S512x1 j (ix1 (j 0)) ?_
  rw [Shape.rowMajor_val_one, Shape.rowMajor_val_two]
  show (j 0).val = (j 0).val * 1 + (j 1).val
  omega

/-- A row's maximum, and its sum. -/
theorem reduce_max (s : FVec Ideal S512x512 .f32) (h : S512x512.Reduces [1] S512) (hφ) (hacc) (j : S512.Idx) :
    multiReduction .maximumf [1] S512 s 0xFF800000#32 h hφ hacc j
      = (Finset.univ : Finset (Fin 512)).fold max (FloatOps.ofBits (F := Ideal) .f32 0xFF800000#32) fun k => s (ix2 (j 0) k) := by
  simp only [pointwise]

theorem reduce_add (s : FVec Ideal S512x128 .f32) (h : S512x128.Reduces [1] S512) (hφ) (hacc) (j : S512.Idx) :
    multiReduction .add [1] S512 s 0x00000000#32 h hφ hacc j = ∑ k : Fin 128, s (ix2 (j 0) k) := by
  simp only [pointwise, Ideal.reduceAdd_def]

theorem top_eq (s : FVec Ideal S512x512 .f32) (t : FVec Ideal S512x1 .f32) :
    maximumf t (shapeCast S512x1 (multiReduction .maximumf [1] S512 s 0xFF800000#32 reduces_S512x512_S512 (.inl rfl) rfl) shapeCasts_S512_S512x1)
      = topOf s t := by
  funext j
  show max (t j) _ = max (t j) _
  rw [column_apply]
  refine congrArg (max (t j)) ((reduce_max s _ _ _ (ix1 (j 0))).trans ?_)
  exact congrArg (fun b => Finset.fold max b (fun r => s (ix2 (j 0) r)) Finset.univ) Cert.Spec.minus_infinity

theorem sum_eq (s : FVec Ideal S512x512 .f32) (v : FVec Ideal S512x128 .bf16) (t : FVec Ideal S512x1 .f32) (a : FVec Ideal S512x128 .f32) :
    addf (mulf (broadcastTo S512x128 (exp2 (subf t (topOf s t))) broadcasts_S512x1_S512x128) a)
      (matmul dot_S512x512_S512x128_S512x128_1_0_0_1_n_n none (truncf .bf16 (exp2 (subf s (broadcastTo S512x512 (topOf s t : FVec Ideal S512x1 .f32) broadcasts_S512x1_S512x512))) bitsLt_bf16_f32)
        v (constant (F := Ideal) S512x128 .f32 0x00000000#32)) = sumOf s v t a := by
  funext j
  pointwise
  rfl

theorem masked_eq (a : Sq) :
    select (cmpi .sge (iota .tc S512x512 32 [0] iota_S512x512_d0_w32) (iota .tc S512x512 32 [1] iota_S512x512_d1_w32)) a
      (broadcast S512x512 (Named.named κ "mask" 0xF149F2CA#32 : Ideal .f32)) = fun j => if (j 0).val < (j 1).val then ⊥ else a j := by
  funext j
  have h0 := (j 0).isLt
  have h1 := (j 1).isLt
  change (j 0).val < 512 at h0
  change (j 1).val < 512 at h1
  show Scalar.select (IntOp.cmpi .sge (iota .tc S512x512 32 [0] iota_S512x512_d0_w32 j) (iota .tc S512x512 32 [1] iota_S512x512_d1_w32 j))
    (a j) (Named.named κ "mask" 0xF149F2CA#32 : Ideal .f32) = _
  rw [iota_single_apply, iota_single_apply, WordCmp.cmpi_sge_ofNat (by omega) (by omega), mask_eq]
  by_cases hl : (j 0).val < (j 1).val
  · rw [if_pos hl, decide_eq_false (by omega)]; rfl
  · rw [if_neg hl, decide_eq_true (by omega)]; rfl

/-- The lanes' numbers, and which lane belongs to the first of the two heads, and to the second. -/
abbrev laneNo : IVec S512x128 32 := iota .tc S512x128 32 [1] iota_S512x128_d1_w32
abbrev rowNo : IVec S512x512 32 := iota .tc S512x512 32 [0] iota_S512x512_d0_w32
abbrev colNo : IVec S512x512 32 := iota .tc S512x512 32 [1] iota_S512x512_d1_w32

theorem first_apply (j : S512x128.Idx) : k0_pay4 j = if (j 1).val / 64 = 0 then 1#1 else 0#1 := by
  have h := (j 1).isLt
  change (j 1).val < 128 at h
  unfold k0_pay4
  show IntOp.cmpi .slt (iota .tc S512x128 32 [1] iota_S512x128_d1_w32 j) (64#32) = _
  rw [iota_single_apply, show (64#32) = BitVec.ofNat 32 64 from rfl, WordCmp.cmpi_slt_ofNat (by omega) (by norm_num)]
  by_cases hl : (j 1).val < 64
  · rw [if_pos (by omega)]; simp [hl]
  · rw [if_neg (by omega)]; simp [hl]

theorem second_apply (j : S512x128.Idx) : k0_pay21 laneNo j = if (j 1).val / 64 = 1 then 1#1 else 0#1 := by
  have h := (j 1).isLt
  change (j 1).val < 128 at h
  unfold k0_pay21
  show IntOp.cmpi .sge (iota .tc S512x128 32 [1] iota_S512x128_d1_w32 j) (64#32) = _
  rw [iota_single_apply, show (64#32) = BitVec.ofNat 32 64 from rfl, WordCmp.cmpi_sge_ofNat (by omega) (by norm_num)]
  by_cases hl : 64 ≤ (j 1).val
  · rw [if_pos (by omega)]; simp [hl]
  · rw [if_neg (by omega)]; simp [hl]

theorem ones_apply (n : ℕ) (hn : n < 128) (j : S512x128.Idx) :
    cmpi .eq laneNo (broadcast S512x128 (BitVec.ofNat 32 n)) j = if (j 1).val = n then 1#1 else 0#1 := by
  have h := (j 1).isLt
  change (j 1).val < 128 at h
  show IntOp.cmpi .eq (iota .tc S512x128 32 [1] iota_S512x128_d1_w32 j) (BitVec.ofNat 32 n) = _
  rw [iota_single_apply, WordCmp.cmpi_eq_ofNat (by omega) (by omega)]
  by_cases hl : (j 1).val = n
  · rw [if_pos hl, decide_eq_true (by omega)]; rfl
  · rw [if_neg hl, decide_eq_false (by omega)]; rfl

/-- A one as a 16-bit literal. -/
theorem one_bf16 : Ideal.ofBits .bf16 0x3F80#16 = (1 : EReal) := by
  simp [Ideal.ofBits, Ideal.ieee, -EReal.coe_mul]
  norm_num

/-- The values with the column of ones, as selected on the lanes. -/
theorem extend_of (h : ℕ) (hh : onesLane h < 128) (c : IVec S512x128 1) (hc : ∀ j : S512x128.Idx, c j = if (j 1).val / 64 = h then 1#1 else 0#1) (v : FVec Ideal S512x128 .bf16) :
    select c v (select (cmpi .eq laneNo (broadcast S512x128 (BitVec.ofNat 32 (onesLane h)))) (broadcast S512x128 (Scalar.ofBits (F := Ideal) .bf16 0x3F80#16))
      (broadcast S512x128 (Scalar.ofBits (F := Ideal) .bf16 0x0000#16))) = extend h v := by
  funext j
  show Scalar.select (c j) (v j) (Scalar.select (cmpi .eq laneNo (broadcast S512x128 (BitVec.ofNat 32 (onesLane h))) j) (Ideal.ofBits .bf16 0x3F80#16) (Ideal.ofBits .bf16 0x0000#16)) = _
  rw [hc, ones_apply _ hh, one_bf16, Ideal.ofBits_zero_bf16]
  unfold extend
  split
  · rfl
  · split <;> rfl

/-- The row's sum of weights: its entry in the lane of ones. -/
theorem ones_sum (n : ℕ) (hn : n < 128) (a : FVec Ideal S512x128 .f32) :
    shapeCast S512x1 (multiReduction .add [1] S512 (select (cmpi .eq laneNo (broadcast S512x128 (BitVec.ofNat 32 n))) a
      (broadcast S512x128 (Scalar.ofBits (F := Ideal) .f32 0x00000000#32))) 0x00000000#32 reduces_S512x128_S512 (.inl rfl) rfl) shapeCasts_S512_S512x1
      = (fun j => a (ix2 (j 0) ⟨n, hn⟩) : Col) := by
  funext j
  rw [column_apply]
  refine (reduce_add _ _ _ _ (ix1 (j 0))).trans ?_
  rw [Finset.sum_eq_single (⟨n, hn⟩ : Fin 128)]
  · exact congrArg (fun c => Scalar.select c (a (ix2 (j 0) ⟨n, hn⟩)) (Ideal.ofBits .f32 0x00000000#32)) ((ones_apply n hn (ix2 (j 0) ⟨n, hn⟩)).trans (if_pos (show n = n from rfl)))
  · intro b _ hb
    refine (congrArg (fun c => Scalar.select c (a (ix2 (j 0) b)) (Ideal.ofBits .f32 0x00000000#32)) ((ones_apply n hn _).trans (if_neg fun e => hb (Fin.ext e)))).trans ?_
    exact Ideal.ofBits_zero_f32
  · intro hb
    exact absurd (Finset.mem_univ _) hb

/-- A selection on a lane's head keeps that head's lanes. -/
theorem half_of (h : ℕ) (c : IVec S512x128 1) (hc : ∀ j : S512x128.Idx, c j = if (j 1).val / 64 = h then 1#1 else 0#1) (x : Blk) :
    select c x (broadcast S512x128 (Scalar.ofBits (F := Ideal) .f32 0x00000000#32)) = fun j => if (j 1).val / 64 = h then x j else 0 := by
  funext j
  show Scalar.select (c j) (x j) (Ideal.ofBits .f32 0x00000000#32) = _
  rw [hc, Ideal.ofBits_zero_f32]
  split <;> rfl

variable (q k : FVec Ideal S512x128 .bf16) (v : FVec Ideal S512x128 .bf16) (t : FVec Ideal S512x1 .f32) (a : FVec Ideal S512x128 .f32)

theorem pay5_eq : k0_pay5 (F := Ideal) = fun _ => (⊥ : EReal) := by funext j; exact mask_eq
theorem pay22_eq : k0_pay22 (F := Ideal) = fun _ => (⊥ : EReal) := by funext j; exact mask_eq
theorem pay6_eq : k0_pay6 (F := Ideal) = fun _ => (0 : EReal) := by funext j; exact Ideal.ofBits_zero_f32
theorem pay23_eq : k0_pay23 (F := Ideal) = fun _ => (0 : EReal) := by funext j; exact Ideal.ofBits_zero_f32
theorem pay3_eq : k0_pay3 (F := Ideal) = fun _ => (0 : EReal) := by funext j; exact Ideal.ofBits_zero_f32

theorem pay7_eq : k0_pay7 (F := Ideal) q k = scores false q k := by
  unfold k0_pay7
  dsimp only
  rw [inner_eq]
  funext j
  unfold scores
  rw [if_neg (by simp), ← scale2_eq]
  rfl

theorem pay8_eq : k0_pay8 (F := Ideal) q t k = topOf (scores false q k) t := by
  unfold k0_pay8
  dsimp only
  rw [pay7_eq, top_eq]

theorem pay9_eq : k0_pay9 (F := Ideal) q t a k v = sumOf (scores false q k) (extend 0 v) t a := by
  unfold k0_pay9
  dsimp only
  rw [pay7_eq, pay8_eq, ← sum_eq, ← extend_of 0 (by decide) k0_pay4 first_apply v]
  rfl

theorem pay13_eq : k0_pay13 (F := Ideal) v = extend 0 v := by
  rw [← extend_of 0 (by decide) k0_pay4 first_apply v]
  rfl

theorem pay14_eq : k0_pay14 (F := Ideal) q k = scores true q k := by
  unfold k0_pay14
  dsimp only
  rw [inner_eq, masked_eq]
  funext j
  unfold scores
  simp only [true_and, ← scale2_eq]
  rfl

theorem pay15_eq : k0_pay15 (F := Ideal) q t k = topOf (scores true q k) t := by
  unfold k0_pay15
  dsimp only
  rw [pay14_eq, top_eq]

theorem pay17_eq : k0_pay17 (F := Ideal) a (extend 0 v) (scores true q k) (topOf (scores true q k) t) (k0_pay16 (F := Ideal) q t k)
    = sumOf (scores true q k) (extend 0 v) t a := by
  unfold k0_pay17 k0_pay16
  dsimp only
  rw [pay15_eq, ← sum_eq]

theorem pay24_eq : k0_pay24 (F := Ideal) q k = scores false q k := pay7_eq q k
theorem pay25_eq : k0_pay25 (F := Ideal) q t k = topOf (scores false q k) t := pay8_eq q k t

theorem pay26_eq : k0_pay26 (F := Ideal) laneNo q t a k v = sumOf (scores false q k) (extend 1 v) t a := by
  unfold k0_pay26
  dsimp only
  rw [pay24_eq, pay25_eq, ← sum_eq, ← extend_of 1 (by decide) (k0_pay21 laneNo) second_apply v]
  rfl

theorem pay30_eq : k0_pay30 (F := Ideal) rowNo colNo q k = scores true q k := pay14_eq q k
theorem pay31_eq : k0_pay31 (F := Ideal) rowNo colNo q t k = topOf (scores true q k) t := pay15_eq q k t

theorem pay32_eq : k0_pay32 (F := Ideal) laneNo rowNo colNo (k0_pay21 laneNo) q t a k v = sumOf (scores true q k) (extend 1 v) t a := by
  unfold k0_pay32
  dsimp only
  rw [pay30_eq, pay31_eq, ← sum_eq, ← extend_of 1 (by decide) (k0_pay21 laneNo) second_apply v]
  rfl

theorem pay18_eq : k0_pay18 (F := Ideal) laneNo a (extend 0 v) (scores true q k) (topOf (scores true q k) t) (k0_pay16 (F := Ideal) q t k)
    = fun j => sumOf (scores true q k) (extend 0 v) t a (ix2 (j 0) 64) := by
  unfold k0_pay18
  dsimp only
  rw [pay17_eq]
  exact ones_sum 64 (by decide) _

theorem pay19_eq (w : FVec Ideal S512x128 .f32) : k0_pay19 (F := Ideal) laneNo w k0_pay4 a (extend 0 v) (scores true q k) (topOf (scores true q k) t) (k0_pay16 (F := Ideal) q t k)
    = fun j => w j + outOf 0 64 (sumOf (scores true q k) (extend 0 v) t a) j := by
  unfold k0_pay19
  dsimp only
  rw [pay17_eq, pay18_eq, half_of 0 _ first_apply]
  funext j
  pointwise
  rfl

theorem pay20_eq : k0_pay20 (F := Ideal) laneNo a (extend 0 v) (scores true q k) (topOf (scores true q k) t) (k0_pay16 (F := Ideal) q t k)
    = logOf 64 (topOf (scores true q k) t) (sumOf (scores true q k) (extend 0 v) t a) := by
  unfold k0_pay20
  dsimp only
  rw [pay18_eq, shapeCast_self]
  funext j
  pointwise
  unfold logOf
  rw [← ln2_eq]

theorem pay33_eq : k0_pay33 (F := Ideal) laneNo rowNo colNo (k0_pay21 laneNo) q t a k v
    = fun j => sumOf (scores true q k) (extend 1 v) t a (ix2 (j 0) 0) := by
  unfold k0_pay33
  dsimp only
  rw [pay32_eq]
  exact ones_sum 0 (by decide) _

theorem pay34_eq (w : FVec Ideal S512x128 .f32) : k0_pay34 (F := Ideal) laneNo rowNo colNo w (k0_pay21 laneNo) q t a k v
    = fun j => w j + outOf 1 0 (sumOf (scores true q k) (extend 1 v) t a) j := by
  unfold k0_pay34
  dsimp only
  rw [pay32_eq, pay33_eq, half_of 1 _ second_apply]
  funext j
  pointwise
  rfl

theorem pay35_eq : k0_pay1 (F := Ideal) (k0_pay35 (F := Ideal) laneNo rowNo colNo (k0_pay21 laneNo) q t a k v)
    = logOf 0 (topOf (scores true q k) t) (sumOf (scores true q k) (extend 1 v) t a) := by
  unfold k0_pay1 k0_pay35
  dsimp only
  rw [pay33_eq, pay31_eq, shapeCast_self]
  funext j
  pointwise
  unfold logOf
  rw [← ln2_eq]

theorem pay2_eq (o g : FVec Ideal S512x128 .f32) : k0_pay2 (F := Ideal) o g = gated o g := by
  unfold k0_pay2
  dsimp only
  funext j
  pointwise
  rfl

end Cert.AttentionIdeal.Tile

end
-- ==== Proof.AttentionBody.lean ====
module

public import proofs.«01_k».proof.Proof.AttentionTile
public import proofs.«01_k».proof.Proof.Gen.AttentionIdeal.Frame

/-!
# What the attention's body leaves in its three output buffers

For each of the two heads of a grid point a counted loop visits the blocks of keys before the diagonal one, carrying the rows' maxima and
weighted sums (`carry`); the diagonal block, masked, comes last (`lastTop`, `lastSum`). The body then stores the two heads' outputs, their
rows' log-sums and the gated output.
-/

@[expose] public section

set_option maxRecDepth 16384

noncomputable section

namespace Cert.AttentionIdeal.Tile

open Idealize.ShloMosaic Idealize.ShloMosaic.TcCoe Idealize.SL.Sem
open Cert.AttentionIdeal Cert.AttentionIdeal.Gen Cert.AttentionForward
open Cert.KernelIdeal.Tile (at2 at2_coords blkAt)

/-- All the rows of a pair's keys and of its values, and a block of rows of its queries. -/
abbrev Keys : Type := (⟨2, ![4096, 256]⟩ : Shape).Idx → EReal
abbrev Vals : Type := (⟨2, ![4096, 128]⟩ : Shape).Idx → EReal
abbrev Rows : Type := (⟨2, ![512, 256]⟩ : Shape).Idx → EReal

/-- The maxima and the weighted sums of head `h` after `n` blocks of keys. -/
def carry (h : ℕ) (q : Blk) (K : Keys) (V : Vals) : ℕ → Col × Blk
  | 0 => (fun _ => ⊥, fun _ => 0)
  | n + 1 => (topOf (scores false q (blkAt K (512 * n) (128 * h))) (carry h q K V n).1,
      sumOf (scores false q (blkAt K (512 * n) (128 * h))) (extend h (blkAt V (512 * n) 0)) (carry h q K V n).1 (carry h q K V n).2)

/-- The same after the diagonal block, `n`. -/
def lastTop (h : ℕ) (q : Blk) (K : Keys) (V : Vals) (n : ℕ) : Col := topOf (scores true q (blkAt K (512 * n) (128 * h))) (carry h q K V n).1
def lastSum (h : ℕ) (q : Blk) (K : Keys) (V : Vals) (n : ℕ) : Blk :=
  sumOf (scores true q (blkAt K (512 * n) (128 * h))) (extend h (blkAt V (512 * n) 0)) (carry h q K V n).1 (carry h q K V n).2

/-- The three buffers. -/
def newO (x0 : Rows) (x1 : Keys) (x2 : Vals) (n : ℕ) : Blk := fun j =>
  outOf 0 64 (lastSum 0 (blkAt x0 0 0) x1 x2 n) j + outOf 1 0 (lastSum 1 (blkAt x0 0 128) x1 x2 n) j
def newL (x0 : Rows) (x1 : Keys) (x2 : Vals) (n : ℕ) : Rows := fun y =>
  if (y 1).val / 128 = 1 then at2 (logOf 0 (lastTop 1 (blkAt x0 0 128) x1 x2 n) (lastSum 1 (blkAt x0 0 128) x1 x2 n)) (y 0).val ((y 1).val % 128)
  else at2 (logOf 64 (lastTop 0 (blkAt x0 0 0) x1 x2 n) (lastSum 0 (blkAt x0 0 0) x1 x2 n)) (y 0).val ((y 1).val % 128)

/-! ### Reading and storing parts of a buffer -/

theorem readAt_blk {κ : Kind} {sp : Space} {e : EltTy} {n m : ℕ} [NeZero n] [NeZero m] (v : View sig κ sp ⟨2, ![n, m]⟩ e)
    (off : Fin 2 → ℕ) (inb : ∀ a, off a + S512x128.size a ≤ (⟨2, ![n, m]⟩ : Shape).size a) (f : v.ty.Contents (Elt Ideal)) :
    v.readAt (Elt Ideal) (Rect.unit (s := ⟨2, ![n, m]⟩) off S512x128.size inb).toLoadRect f = blkAt (v.read (Elt Ideal) f) (off 0) (off 1) := by
  funext j
  rw [View.readAt_eq_ld]
  refine at2_coords (n := n) (m := m) _ _ _ _ ?_ ?_
  · show off 0 + 1 * (j 0).val = _; omega
  · show off 1 + 1 * (j 1).val = _; omega

theorem blkAt_whole (x : Blk) : blkAt (n := 512) (m := 128) x 0 0 = x := by
  funext j
  exact (at2_coords (n := 512) (m := 128) x j _ _ (Nat.zero_add _).symm (Nat.zero_add _).symm).symm

/-- A buffer of 256 columns after its two halves of columns are stored. -/
theorem read_halves {κ : Kind} {sp : Space} (v : View sig κ sp S512x256 .f32) (f : v.ty.Contents (Elt Ideal)) (inb0 inb1) (w0 w1 : Blk) (y : S512x256.Idx) :
    v.read (Elt Ideal) (v.writes (Elt Ideal) f [⟨Rect.unit (s := S512x256) ![0, 128] S512x128.size inb1, w1⟩, ⟨Rect.unit (s := S512x256) ![0, 0] S512x128.size inb0, w0⟩]) y
      = if (y 1).val / 128 = 1 then at2 w1 (y 0).val ((y 1).val % 128) else at2 w0 (y 0).val ((y 1).val % 128) := by
  have hy0 : (y 0).val < 512 := (y 0).isLt
  have hy1 : (y 1).val < 256 := (y 1).isLt
  by_cases h : (y 1).val / 128 = 1
  · rw [if_pos h]
    have e : y = (Rect.unit (s := S512x256) ![0, 128] S512x128.size inb1).idx (ix2 (Fin.ofNat 512 (y 0).val) (Fin.ofNat 128 ((y 1).val % 128))) := by
      funext d
      fin_cases d <;> apply Fin.ext
      · show (y 0).val = 0 + 1 * ((y 0).val % 512); omega
      · show (y 1).val = 128 + 1 * ((y 1).val % 128 % 128); omega
    conv_lhs => rw [e]
    exact View.read_writes_cons_emb v f (Rect.unit (s := S512x256) ![0, 128] S512x128.size inb1) w1 _ _
  · rw [if_neg h]
    have hn : y ∉ (Rect.unit (s := S512x256) ![0, 128] S512x128.size inb1).set := by
      rw [Rect.mem_set_unit]
      intro hd
      have h1 : 128 ≤ (y 1).val ∧ _ := hd 1
      omega
    rw [View.writes_cons, View.read_slice_write_of_not_mem _ _ _ _ (by rw [Rect.map_emb_univ]; exact hn)]
    have e : y = (Rect.unit (s := S512x256) ![0, 0] S512x128.size inb0).idx (ix2 (Fin.ofNat 512 (y 0).val) (Fin.ofNat 128 ((y 1).val % 128))) := by
      funext d
      fin_cases d <;> apply Fin.ext
      · show (y 0).val = 0 + 1 * ((y 0).val % 512); omega
      · show (y 1).val = 0 + 1 * ((y 1).val % 128 % 128); omega
    conv_lhs => rw [e]
    exact View.read_writes_cons_emb v f (Rect.unit (s := S512x256) ![0, 0] S512x128.size inb0) w0 _ _

/-- A buffer after a store of the whole of it. -/
theorem read_whole {κ : Kind} {sp : Space} {φ : EltTy} {n m : ℕ} (v : View sig κ sp ⟨2, ![n, m]⟩ φ) (f : v.ty.Contents (Elt Ideal)) (inb) (w : Vec Ideal ⟨2, ![n, m]⟩ φ) (y : (⟨2, ![n, m]⟩ : Shape).Idx) :
    v.read (Elt Ideal) (v.writes (Elt Ideal) f [⟨Rect.unit (s := ⟨2, ![n, m]⟩) ![0, 0] ![n, m] inb, w⟩]) y = w y := by
  have e : y = (Rect.unit (s := ⟨2, ![n, m]⟩) ![0, 0] ![n, m] inb).idx y := by
    funext d
    fin_cases d <;> apply Fin.ext
    · show (y 0).val = 0 + 1 * (y 0).val; omega
    · show (y 1).val = 0 + 1 * (y 1).val; omega
  conv_lhs => rw [e]
  exact View.read_writes_cons_emb v f (Rect.unit (s := ⟨2, ![n, m]⟩) ![0, 0] ![n, m] inb) w _ _

/-! ### Trips and offsets, as numbers -/

theorem trips1 (i : grid0.Coords) : (k0_t1_loop i).trips = (i 1).val := by
  have h : ∀ n : Fin 8, Scf.trips (0#32) (Scalar.addi (0#32) (Scalar.muli (Scalar.divsi (Scalar.subi (BitVec.ofNat 32 n.val) 0#32) 1#32) 1#32)) 1#32 = n.val := by decide +kernel
  exact h (i 1)

theorem trips2 (i : grid0.Coords) : (k0_t2_loop i).trips = 0 := by
  have h : ∀ n : Fin 8, Scf.trips (Scalar.addi (0#32) (Scalar.muli (Scalar.divsi (Scalar.subi (BitVec.ofNat 32 n.val) 0#32) 1#32) 1#32))
    (Scalar.addi (0#32) (Scalar.subi (BitVec.ofNat 32 n.val) 0#32)) 1#32 = 0 := by decide +kernel
  exact h (i 1)

theorem trips3 (i : grid0.Coords) : (k0_t3_loop i).trips = (i 1).val := trips1 i
theorem trips4 (i : grid0.Coords) : (k0_t4_loop i).trips = 0 := trips2 i

theorem off5_row (i : grid0.Coords) : k0_off5 i 0 = 512 * (i 1).val := by
  have h : ∀ n : Fin 8, (Scalar.indexCast (Scalar.muli (BitVec.ofNat 32 n.val) 512#32)).toNat = 512 * n.val := by decide +kernel
  exact h (i 1)
theorem off6_row (i : grid0.Coords) : k0_off6 i 0 = 512 * (i 1).val := off5_row i
theorem off11_row (i : grid0.Coords) : k0_off11 i 0 = 512 * (i 1).val := off5_row i

theorem off1_row (i : grid0.Coords) (k : Fin (k0_t1_loop i).trips) : k0_off1 i k 0 = 512 * k.val := by
  have h : ∀ k : Fin 8, (Scalar.indexCast (Scalar.muli (Scf.iv (0#32) 1#32 k.val) 512#32)).toNat = 512 * k.val := by decide +kernel
  have hk := k.isLt
  have ht := trips1 i
  have hi : (i 1).val < 8 := (i 1).isLt
  exact h ⟨k.val, by omega⟩
theorem off2_row (i : grid0.Coords) (k : Fin (k0_t1_loop i).trips) : k0_off2 i k 0 = 512 * k.val := off1_row i k
theorem off7_row (i : grid0.Coords) (k : Fin (k0_t3_loop i).trips) : k0_off7 i k 0 = 512 * k.val := off1_row i k
theorem off8_row (i : grid0.Coords) (k : Fin (k0_t3_loop i).trips) : k0_off8 i k 0 = 512 * k.val := off1_row i k

/-! ### The loops over the blocks of keys before the diagonal -/

section

variable (𝒱 : Variants) (c : Dev nD) (bd : Option 𝒱.V) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x256 .f32) (harg7 : arg7.IsWhole) (arg8 : Memref sig .tc .vmem S512x128 .bf16) (harg8 : arg8.IsWhole) (X_arg3 : BufTy.Contents (Elt Ideal) arg3.view.ty) (X_arg4 : BufTy.Contents (Elt Ideal) arg4.view.ty)

theorem result1 (v6 : Vec Ideal S512x128 .bf16) (k : Fin (k0_t1_loop i).trips) (acc : FVec Ideal S512x1 .f32 × FVec Ideal S512x128 .f32) :
    tripR_k0_t1 (F := Ideal) 𝒱 c bd i arg2 harg2 arg3 harg3 arg4 harg4 arg5 harg5 arg6 harg6 arg7 harg7 arg8 harg8 v6 X_arg3 X_arg4 k acc
      = (topOf (scores false v6 (blkAt (arg3.view.read (Elt Ideal) X_arg3) (512 * k.val) (128 * 0))) acc.1,
         sumOf (scores false v6 (blkAt (arg3.view.read (Elt Ideal) X_arg3) (512 * k.val) (128 * 0))) (extend 0 (blkAt (arg4.view.read (Elt Ideal) X_arg4) (512 * k.val) 0)) acc.1 acc.2) := by
  have e : tripR_k0_t1 (F := Ideal) 𝒱 c bd i arg2 harg2 arg3 harg3 arg4 harg4 arg5 harg5 arg6 harg6 arg7 harg7 arg8 harg8 v6 X_arg3 X_arg4 k acc
      = (k0_pay8 (F := Ideal) v6 acc.1 (arg3.view.readAt (Elt Ideal) (Rect.unit (s := S4096x256) (k0_off1 i k) S512x128.size (k0_off1_inb i k)).toLoadRect X_arg3),
         k0_pay9 (F := Ideal) v6 acc.1 acc.2 (arg3.view.readAt (Elt Ideal) (Rect.unit (s := S4096x256) (k0_off1 i k) S512x128.size (k0_off1_inb i k)).toLoadRect X_arg3) (arg4.view.readAt (Elt Ideal) (Rect.unit (s := S4096x128) (k0_off2 i k) S512x128.size (k0_off2_inb i k)).toLoadRect X_arg4)) := by
    unfold tripR_k0_t1 trip_k0_t1; rfl
  rw [e, pay8_eq, pay9_eq, readAt_blk, readAt_blk, off1_row, off2_row]
  rfl

/-- What the loop of head 0 carries before trip `k`. -/
theorem loop1 (v6 : Vec Ideal S512x128 .bf16) (k : ℕ) (hk : k ≤ (k0_t1_loop i).trips) :
    st_k0_t1 (F := Ideal) 𝒱 c bd i arg2 harg2 arg3 harg3 arg4 harg4 arg5 harg5 arg6 harg6 arg7 harg7 arg8 harg8 v6 X_arg3 X_arg4 (k0_pay5 (F := Ideal), k0_pay6 (F := Ideal)) k = carry 0 v6 (arg3.view.read (Elt Ideal) X_arg3) (arg4.view.read (Elt Ideal) X_arg4) k := by
  induction k with
  | zero => exact Prod.ext pay5_eq pay6_eq
  | succ k ih =>
    have hs := st_k0_t1_succ (F := Ideal) 𝒱 c bd i arg2 harg2 arg3 harg3 arg4 harg4 arg5 harg5 arg6 harg6 arg7 harg7 arg8 harg8 v6 X_arg3 X_arg4 (k0_pay5 (F := Ideal), k0_pay6 (F := Ideal)) ⟨k, by omega⟩
    rw [result1] at hs
    rw [show (st_k0_t1 (F := Ideal) 𝒱 c bd i arg2 harg2 arg3 harg3 arg4 harg4 arg5 harg5 arg6 harg6 arg7 harg7 arg8 harg8 v6 X_arg3 X_arg4 (k0_pay5 (F := Ideal), k0_pay6 (F := Ideal)) (k + 1)) = _ from hs, ih (by omega)]
    rfl

theorem after1 (v6 : Vec Ideal S512x128 .bf16) : st_k0_t1 (F := Ideal) 𝒱 c bd i arg2 harg2 arg3 harg3 arg4 harg4 arg5 harg5 arg6 harg6 arg7 harg7 arg8 harg8 v6 X_arg3 X_arg4 (k0_pay5 (F := Ideal), k0_pay6 (F := Ideal)) (Scf.trips (k0_t1_loop i).lb (k0_t1_loop i).ub (k0_t1_loop i).st) = carry 0 v6 (arg3.view.read (Elt Ideal) X_arg3) (arg4.view.read (Elt Ideal) X_arg4) (i 1).val :=
  (loop1 𝒱 c bd i arg2 harg2 arg3 harg3 arg4 harg4 arg5 harg5 arg6 harg6 arg7 harg7 arg8 harg8 X_arg3 X_arg4 v6 _ (le_refl _)).trans (congrArg _ (trips1 i))

theorem none2 (v6 : Vec Ideal S512x128 .bf16) (init : FVec Ideal S512x1 .f32 × FVec Ideal S512x128 .f32) :
    st_k0_t2 (F := Ideal) 𝒱 c bd i arg2 harg2 arg3 harg3 arg4 harg4 arg5 harg5 arg6 harg6 arg7 harg7 arg8 harg8 v6 X_arg3 X_arg4 init (Scf.trips (k0_t2_loop i).lb (k0_t2_loop i).ub (k0_t2_loop i).st) = init := by
  have h : Scf.trips (k0_t2_loop i).lb (k0_t2_loop i).ub (k0_t2_loop i).st = 0 := trips2 i
  rw [h]; rfl

theorem result3 (arg1 : BitVec 32) (v3 : FVec Ideal S512x128 .f32) (v5 : IVec S512x128 1) (v15_1 : FVec Ideal S512x128 .f32) (v27 : Vec Ideal S512x128 .bf16) (v33 : FVec Ideal S512x512 .f32) (v36 : FVec Ideal S512x1 .f32) (v37 : FVec Ideal S512x1 .f32) (v67 : Vec Ideal S512x128 .bf16) (k : Fin (k0_t3_loop i).trips) (acc : FVec Ideal S512x1 .f32 × FVec Ideal S512x128 .f32) :
    tripR_k0_t3 (F := Ideal) 𝒱 c bd i arg2 harg2 arg3 harg3 arg4 harg4 arg5 harg5 arg6 harg6 arg7 harg7 arg8 harg8 arg1 laneNo v3 v5 v15_1 v27 v33 v36 v37 v67 X_arg3 X_arg4 k acc
      = (topOf (scores false v67 (blkAt (arg3.view.read (Elt Ideal) X_arg3) (512 * k.val) (128 * 1))) acc.1,
         sumOf (scores false v67 (blkAt (arg3.view.read (Elt Ideal) X_arg3) (512 * k.val) (128 * 1))) (extend 1 (blkAt (arg4.view.read (Elt Ideal) X_arg4) (512 * k.val) 0)) acc.1 acc.2) := by
  have e : tripR_k0_t3 (F := Ideal) 𝒱 c bd i arg2 harg2 arg3 harg3 arg4 harg4 arg5 harg5 arg6 harg6 arg7 harg7 arg8 harg8 arg1 laneNo v3 v5 v15_1 v27 v33 v36 v37 v67 X_arg3 X_arg4 k acc
      = (k0_pay25 (F := Ideal) v67 acc.1 (arg3.view.readAt (Elt Ideal) (Rect.unit (s := S4096x256) (k0_off7 i k) S512x128.size (k0_off7_inb i k)).toLoadRect X_arg3),
         k0_pay26 (F := Ideal) laneNo v67 acc.1 acc.2 (arg3.view.readAt (Elt Ideal) (Rect.unit (s := S4096x256) (k0_off7 i k) S512x128.size (k0_off7_inb i k)).toLoadRect X_arg3) (arg4.view.readAt (Elt Ideal) (Rect.unit (s := S4096x128) (k0_off8 i k) S512x128.size (k0_off8_inb i k)).toLoadRect X_arg4)) := by
    unfold tripR_k0_t3 trip_k0_t3; rfl
  rw [e, pay25_eq, pay26_eq, readAt_blk, readAt_blk, off7_row, off8_row]
  rfl

/-- What the loop of head 1 carries before trip `k`. -/
theorem loop3 (arg1 : BitVec 32) (v3 : FVec Ideal S512x128 .f32) (v5 : IVec S512x128 1) (v15_1 : FVec Ideal S512x128 .f32) (v27 : Vec Ideal S512x128 .bf16) (v33 : FVec Ideal S512x512 .f32) (v36 : FVec Ideal S512x1 .f32) (v37 : FVec Ideal S512x1 .f32) (v67 : Vec Ideal S512x128 .bf16) (k : ℕ) (hk : k ≤ (k0_t3_loop i).trips) :
    st_k0_t3 (F := Ideal) 𝒱 c bd i arg2 harg2 arg3 harg3 arg4 harg4 arg5 harg5 arg6 harg6 arg7 harg7 arg8 harg8 arg1 laneNo v3 v5 v15_1 v27 v33 v36 v37 v67 X_arg3 X_arg4 (k0_pay22 (F := Ideal), k0_pay23 (F := Ideal)) k = carry 1 v67 (arg3.view.read (Elt Ideal) X_arg3) (arg4.view.read (Elt Ideal) X_arg4) k := by
  induction k with
  | zero => exact Prod.ext pay22_eq pay23_eq
  | succ k ih =>
    have hs := st_k0_t3_succ (F := Ideal) 𝒱 c bd i arg2 harg2 arg3 harg3 arg4 harg4 arg5 harg5 arg6 harg6 arg7 harg7 arg8 harg8 arg1 laneNo v3 v5 v15_1 v27 v33 v36 v37 v67 X_arg3 X_arg4 (k0_pay22 (F := Ideal), k0_pay23 (F := Ideal)) ⟨k, by omega⟩
    rw [result3] at hs
    rw [show (st_k0_t3 (F := Ideal) 𝒱 c bd i arg2 harg2 arg3 harg3 arg4 harg4 arg5 harg5 arg6 harg6 arg7 harg7 arg8 harg8 arg1 laneNo v3 v5 v15_1 v27 v33 v36 v37 v67 X_arg3 X_arg4 (k0_pay22 (F := Ideal), k0_pay23 (F := Ideal)) (k + 1)) = _ from hs, ih (by omega)]
    rfl

theorem after3 (arg1 : BitVec 32) (v3 : FVec Ideal S512x128 .f32) (v5 : IVec S512x128 1) (v15_1 : FVec Ideal S512x128 .f32) (v27 : Vec Ideal S512x128 .bf16) (v33 : FVec Ideal S512x512 .f32) (v36 : FVec Ideal S512x1 .f32) (v37 : FVec Ideal S512x1 .f32) (v67 : Vec Ideal S512x128 .bf16) : st_k0_t3 (F := Ideal) 𝒱 c bd i arg2 harg2 arg3 harg3 arg4 harg4 arg5 harg5 arg6 harg6 arg7 harg7 arg8 harg8 arg1 laneNo v3 v5 v15_1 v27 v33 v36 v37 v67 X_arg3 X_arg4 (k0_pay22 (F := Ideal), k0_pay23 (F := Ideal)) (Scf.trips (k0_t3_loop i).lb (k0_t3_loop i).ub (k0_t3_loop i).st) = carry 1 v67 (arg3.view.read (Elt Ideal) X_arg3) (arg4.view.read (Elt Ideal) X_arg4) (i 1).val :=
  (loop3 𝒱 c bd i arg2 harg2 arg3 harg3 arg4 harg4 arg5 harg5 arg6 harg6 arg7 harg7 arg8 harg8 X_arg3 X_arg4 arg1 v3 v5 v15_1 v27 v33 v36 v37 v67 _ (le_refl _)).trans (congrArg _ (trips3 i))

theorem none4 (arg1 : BitVec 32) (v3 : FVec Ideal S512x128 .f32) (v5 : IVec S512x128 1) (v15_1 : FVec Ideal S512x128 .f32) (v27 : Vec Ideal S512x128 .bf16) (v33 : FVec Ideal S512x512 .f32) (v36 : FVec Ideal S512x1 .f32) (v37 : FVec Ideal S512x1 .f32) (v67 : Vec Ideal S512x128 .bf16) (init : FVec Ideal S512x1 .f32 × FVec Ideal S512x128 .f32) :
    st_k0_t4 (F := Ideal) 𝒱 c bd i arg2 harg2 arg3 harg3 arg4 harg4 arg5 harg5 arg6 harg6 arg7 harg7 arg8 harg8 arg1 laneNo v3 v5 v15_1 v27 v33 v36 v37 v67 X_arg3 X_arg4 init (Scf.trips (k0_t4_loop i).lb (k0_t4_loop i).ub (k0_t4_loop i).st) = init := by
  have h : Scf.trips (k0_t4_loop i).lb (k0_t4_loop i).ub (k0_t4_loop i).st = 0 := trips4 i
  rw [h]; rfl

end

/-! ### The values the body names -/

section

variable (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x256 .f32) (harg7 : arg7.IsWhole) (arg8 : Memref sig .tc .vmem S512x128 .bf16) (harg8 : arg8.IsWhole)
  (x0 : Vec Ideal S512x256 .bf16) (x1 : Vec Ideal S4096x256 .bf16) (x2 : Vec Ideal S4096x128 .bf16) (x3 : Vec Ideal S512x128 .f32)

theorem sum0 : kernelRun0_A.sl.r (F := Ideal) c i arg2 harg2 arg3 harg3 arg4 harg4 arg5 harg5 arg6 harg6 arg7 harg7 arg8 harg8 x0 x1 x2 = (carry 0 (blkAt x0 0 0) x1 x2 (i 1).val).2 := by
  unfold kernelRun0_A.sl.r
  rw [none2, after1]
  rw [readAt_blk, harg2.read_unread, harg3.read_unread, harg4.read_unread]
  rfl
theorem vals0 : kernelRun0_A.sl.r_1 (F := Ideal) i arg4 harg4 x2 = extend 0 (blkAt x2 (512 * (i 1).val) 0) := by
  unfold kernelRun0_A.sl.r_1
  rw [pay13_eq, readAt_blk, harg4.read_unread, off6_row]
  rfl
theorem scores0 : kernelRun0_A.sl.r_2 (F := Ideal) c i arg2 harg2 arg3 harg3 x0 x1 = scores true (blkAt x0 0 0) (blkAt x1 (512 * (i 1).val) (128 * 0)) := by
  unfold kernelRun0_A.sl.r_2
  rw [pay14_eq, readAt_blk, readAt_blk, harg2.read_unread, harg3.read_unread, off5_row]
  rfl
theorem top0 : kernelRun0_A.sl.r_3 (F := Ideal) c i arg2 harg2 arg3 harg3 arg4 harg4 arg5 harg5 arg6 harg6 arg7 harg7 arg8 harg8 x0 x1 x2 = lastTop 0 (blkAt x0 0 0) x1 x2 (i 1).val := by
  unfold kernelRun0_A.sl.r_3
  rw [none2, after1, pay15_eq]
  rw [readAt_blk arg2.view, readAt_blk arg3.view, harg2.read_unread, harg3.read_unread, harg4.read_unread, off5_row]
  rfl
theorem weight0 : kernelRun0_A.sl.r_4 (F := Ideal) c i arg2 harg2 arg3 harg3 arg4 harg4 arg5 harg5 arg6 harg6 arg7 harg7 arg8 harg8 x0 x1 x2 = k0_pay16 (F := Ideal) (blkAt x0 0 0) (carry 0 (blkAt x0 0 0) x1 x2 (i 1).val).1 (blkAt x1 (512 * (i 1).val) (128 * 0)) := by
  unfold kernelRun0_A.sl.r_4
  rw [none2, after1]
  rw [readAt_blk arg2.view, readAt_blk arg3.view, harg2.read_unread, harg3.read_unread, harg4.read_unread, off5_row]
  rfl
theorem out0 : kernelRun0_A.sl.r_5 (F := Ideal) c i arg2 harg2 arg3 harg3 arg4 harg4 arg5 harg5 arg6 harg6 arg7 harg7 arg8 harg8 x0 x1 x2 = fun j => k0_pay3 (F := Ideal) j + outOf 0 64 (lastSum 0 (blkAt x0 0 0) x1 x2 (i 1).val) j := by
  unfold kernelRun0_A.sl.r_5
  rw [sum0, vals0, scores0, top0, weight0]
  exact pay19_eq _ _ _ _ _ _
theorem query1 : kernelRun0_A.sl.r_6 (F := Ideal) c arg2 harg2 x0 = (blkAt x0 0 128) := by
  unfold kernelRun0_A.sl.r_6
  rw [readAt_blk, harg2.read_unread]
  rfl
theorem top1 : kernelRun0_A.sl.r_7 (F := Ideal) c i arg2 harg2 arg3 harg3 arg4 harg4 arg5 harg5 arg6 harg6 arg7 harg7 arg8 harg8 x0 x1 x2 = (carry 1 (blkAt x0 0 128) x1 x2 (i 1).val).1 := by
  unfold kernelRun0_A.sl.r_7
  rw [show kernelRun0_A.sl.v0 = laneNo from rfl, none4, after3]
  rw [readAt_blk, harg2.read_unread, harg3.read_unread, harg4.read_unread]
  rfl
theorem sum1 : kernelRun0_A.sl.r_8 (F := Ideal) c i arg2 harg2 arg3 harg3 arg4 harg4 arg5 harg5 arg6 harg6 arg7 harg7 arg8 harg8 x0 x1 x2 = (carry 1 (blkAt x0 0 128) x1 x2 (i 1).val).2 := by
  unfold kernelRun0_A.sl.r_8
  rw [show kernelRun0_A.sl.v0 = laneNo from rfl, none4, after3]
  rw [readAt_blk, harg2.read_unread, harg3.read_unread, harg4.read_unread]
  rfl
theorem out1 : kernelRun0_A.sl.r_9 (F := Ideal) c i arg2 harg2 arg3 harg3 arg4 harg4 arg5 harg5 arg6 harg6 arg7 harg7 arg8 harg8 x0 x1 x2 = newO x0 x1 x2 (i 1).val := by
  unfold kernelRun0_A.sl.r_9
  rw [out0, query1, top1, sum1, readAt_blk, readAt_blk, harg3.read_unread, harg4.read_unread, off11_row, off6_row]
  refine (pay34_eq _ _ _ _ _ _).trans (funext fun j => ?_)
  rw [pay3_eq]
  exact congrArg (fun z : EReal => z + _) (zero_add (M := EReal) _)
theorem log1 : k0_pay1 (F := Ideal) (kernelRun0_A.sl.r_10 (F := Ideal) c i arg2 harg2 arg3 harg3 arg4 harg4 arg5 harg5 arg6 harg6 arg7 harg7 arg8 harg8 x0 x1 x2) = logOf 0 (lastTop 1 (blkAt x0 0 128) x1 x2 (i 1).val) (lastSum 1 (blkAt x0 0 128) x1 x2 (i 1).val) := by
  unfold kernelRun0_A.sl.r_10
  rw [query1, top1, sum1, readAt_blk, readAt_blk, harg3.read_unread, harg4.read_unread, off11_row, off6_row]
  exact pay35_eq _ _ _ _ _

/-! ### The three buffers -/

theorem buffer_o (y : S512x128.Idx) : out0_A_4 (F := Ideal) c i arg2 harg2 arg3 harg3 arg4 harg4 arg5 harg5 arg6 harg6 arg7 harg7 arg8 harg8 x0 x1 x2 x3 y = newO x0 x1 x2 (i 1).val y := by
  unfold out0_A_4 kernelRun0_A
  dsimp only
  refine (read_whole VO0_4 _ _ _ y).trans ?_
  rw [out1]

theorem buffer_l (y : S512x256.Idx) : out0_A_5 (F := Ideal) c i arg2 harg2 arg3 harg3 arg4 harg4 arg5 harg5 arg6 harg6 arg7 harg7 arg8 harg8 x0 x1 x2 x3 y = newL x0 x1 x2 (i 1).val y := by
  unfold out0_A_5 kernelRun0_A
  dsimp only
  refine (read_halves VO0_5 _ _ _ _ _ y).trans ?_
  rw [log1, sum0, vals0, scores0, top0, weight0]
  unfold newL
  refine if_congr Iff.rfl rfl (congrArg (fun z => at2 (n := 512) (m := 128) z _ _) ?_)
  exact pay20_eq _ _ _ _ _

theorem buffer_y (y : S512x128.Idx) : out0_A_6 (F := Ideal) c i arg2 harg2 arg3 harg3 arg4 harg4 arg5 harg5 arg6 harg6 arg7 harg7 arg8 harg8 x0 x1 x2 x3 y = gated (newO x0 x1 x2 (i 1).val) x3 y := by
  unfold out0_A_6 kernelRun0_A
  dsimp only
  refine (read_whole VO0_6 _ _ _ y).trans ?_
  rw [out1, readAt_blk, harg5.read_unread, pay2_eq]
  exact congrArg (fun z => gated _ z y) (blkAt_whole x3)

end

end Cert.AttentionIdeal.Tile

end
-- ==== Proof.AttentionBlock.lean ====
module

public import proofs.«01_k».proof.Proof.AttentionBody

/-!
# The attention's buffers, over the real numbers

When a grid point's staged queries and keys are real numbers, every row of what the body carries has the meaning of
`Cert.AttentionForward.Carried`, so its three buffers hold the attention's outputs, the rows' log-sums and the gated outputs.
-/

@[expose] public section

set_option maxRecDepth 16384

noncomputable section

namespace Cert.AttentionIdeal.Tile

open Idealize.ShloMosaic Cert.AttentionForward Cert.Spec
open Cert.KernelIdeal.Tile (at2 at2_coords blkAt)

/-- The softmax's scale. -/
def sigma : ℝ := 3424635 / 33554432

/-- The values a head's lane sums, key by key: the staged values in its own lanes, ones in its lane of ones. -/
def laneOf (h : ℕ) (v : ℕ → EReal) (l : ℕ) : ℕ → EReal := fun x => if l / 64 = h then v x else if l = onesLane h then 1 else 0

section

variable {x0 : Rows} {x1 : Keys} {x2 : Vals} {q k : ℕ → ℕ → ℝ} {v : ℕ → ℕ → EReal} {p n h : ℕ}
variable (hn : n < 8) (hh : h < 2)
variable (hq : ∀ r l, r < 512 → l < 256 → at2 x0 r l = (q (512 * n + r) (256 * p + l) : EReal))
variable (hk : ∀ r l, r < 4096 → l < 256 → at2 x1 r l = (k r (256 * p + l) : EReal))
variable (hv : ∀ r l, r < 4096 → l < 128 → at2 x2 r l = v r (128 * p + l))

include hn hh hq hk in
theorem scores_at (m : Bool) (b : ℕ) (hb : b ≤ n) (r r' : Fin 512) :
    scores m (blkAt x0 0 (128 * h)) (blkAt x1 (512 * b) (128 * h)) (ix2 r r')
      = if m = true ∧ r.val < r'.val then (⊥ : EReal) else ((score sigma q k (2 * p + h) (512 * n + r.val) (512 * b + r'.val) * (Real.log 2)⁻¹ : ℝ) : EReal) := by
  have hr := r.isLt
  have hr' := r'.isLt
  unfold scores
  refine if_congr Iff.rfl rfl ?_
  unfold score scale2
  rw [mul_assoc, EReal.coe_mul]
  refine congrArg₂ (fun x y : EReal => x * y) (coe_sum_fin _ _ fun d => ?_) rfl
  have hd := d.isLt
  rw [EReal.coe_mul]
  refine congrArg₂ (fun x y : EReal => x * y) ?_ ?_
  · refine (hq (0 + r.val) (128 * h + d.val) (by omega) (by omega)).trans ?_
    rw [show 512 * n + (0 + r.val) = 512 * n + r.val by omega, show 256 * p + (128 * h + d.val) = 128 * (2 * p + h) + d.val by omega]
  · refine (hk (512 * b + r'.val) (128 * h + d.val) (by omega) (by omega)).trans ?_
    rw [show 256 * p + (128 * h + d.val) = 128 * (2 * p + h) + d.val by omega]

include hn hh hq hk in
theorem scores_before (b : ℕ) (hb : b < n) (r r' : Fin 512) :
    scores false (blkAt x0 0 (128 * h)) (blkAt x1 (512 * b) (128 * h)) (ix2 r r') = masked2 sigma q k (2 * p + h) (512 * n + r.val) (512 * b + r'.val) := by
  have hr' := r'.isLt
  rw [scores_at hn hh hq hk false b (by omega) r r', if_neg (by simp)]
  unfold masked2
  rw [if_neg (by omega)]

include hn hh hq hk in
theorem scores_diagonal (r r' : Fin 512) :
    scores true (blkAt x0 0 (128 * h)) (blkAt x1 (512 * n) (128 * h)) (ix2 r r') = masked2 sigma q k (2 * p + h) (512 * n + r.val) (512 * n + r'.val) := by
  rw [scores_at hn hh hq hk true n (le_refl _) r r']
  unfold masked2
  exact if_congr ⟨fun a => by omega, fun a => ⟨rfl, by omega⟩⟩ rfl rfl

include hn hv in
theorem extend_at (b : ℕ) (hb : b ≤ n) (r : Fin 512) (l : Fin 128) :
    extend h (blkAt x2 (512 * b) 0) (ix2 r l) = laneOf h (fun x => v x (128 * p + l.val)) l.val (512 * b + r.val) := by
  have hr := r.isLt
  have hl := l.isLt
  unfold extend laneOf
  refine if_congr Iff.rfl ?_ rfl
  refine (hv (512 * b + r.val) (0 + l.val) (by omega) (by omega)).trans ?_
  rw [show 128 * p + (0 + l.val) = 128 * p + l.val by omega]

include hn hh hq hk hv in
/-- What the loop carries has its meaning, row by row and lane by lane. -/
theorem carry_carried (b : ℕ) (hb : b ≤ n) (r : Fin 512) (l : Fin 128) :
    Carried sigma q k (2 * p + h) (512 * n + r.val) b (laneOf h (fun x => v x (128 * p + l.val)) l.val)
      ((carry h (blkAt x0 0 (128 * h)) x1 x2 b).1 (ix2 r 0)) ((carry h (blkAt x0 0 (128 * h)) x1 x2 b).2 (ix2 r l)) := by
  induction b with
  | zero => exact carried_first sigma q k _ _ _
  | succ b ih =>
    exact carried_step sigma q k _ _ b _ _ _ (by omega) (ih (by omega)) _ _
      (fun r' => scores_before hn hh hq hk b (by omega) r r') (fun r' => extend_at hn hv b (by omega) r' l)

include hn hh hq hk hv in
theorem last_carried (r : Fin 512) (l : Fin 128) :
    Carried sigma q k (2 * p + h) (512 * n + r.val) (n + 1) (laneOf h (fun x => v x (128 * p + l.val)) l.val)
      (lastTop h (blkAt x0 0 (128 * h)) x1 x2 n (ix2 r 0)) (lastSum h (blkAt x0 0 (128 * h)) x1 x2 n (ix2 r l)) :=
  carried_step sigma q k _ _ n _ _ _ (by omega) (carry_carried hn hh hq hk hv n (le_refl _) r l) _ _
    (fun r' => scores_diagonal hn hh hq hk r r') (fun r' => extend_at hn hv n (le_refl _) r' l)

include hn hh hq hk hv in
theorem last_ones (e : Fin 128) (he : e.val = onesLane h) (r : Fin 512) :
    Carried sigma q k (2 * p + h) (512 * n + r.val) (n + 1) (fun _ => 1)
      (lastTop h (blkAt x0 0 (128 * h)) x1 x2 n (ix2 r 0)) (lastSum h (blkAt x0 0 (128 * h)) x1 x2 n (ix2 r e)) := by
  have hc := last_carried hn hh hq hk hv r e
  have : laneOf h (fun x => v x (128 * p + e.val)) e.val = fun _ => 1 := by
    funext x
    unfold laneOf
    rw [if_neg (by rw [he]; unfold onesLane; omega), if_pos he]
  rwa [this] at hc

include hn hh hq hk hv in
theorem out_at (e : Fin 128) (he : e.val = onesLane h) (j : (⟨2, ![512, 128]⟩ : Shape).Idx) :
    outOf h e (lastSum h (blkAt x0 0 (128 * h)) x1 x2 n) j
      = if (j 1).val / 64 = h then output sigma q k (2 * p + h) (512 * n + (j 0).val) (fun x => v x (128 * p + (j 1).val)) else 0 := by
  have hj : (j 0).val < 512 := (j 0).isLt
  have hl := last_ones hn hh hq hk hv e he (j 0)
  unfold outOf
  by_cases hd : (j 1).val / 64 = h
  · rw [if_pos hd, if_pos hd]
    refine (congrArg (fun z => Ideal.div (lastSum h (blkAt x0 0 (128 * h)) x1 x2 n z) _) (eq_ix2 j)).trans ?_
    refine output_of_carried sigma q k (by omega) (by omega) (by omega) ?_ hl
    have hc := last_carried hn hh hq hk hv (j 0) (j 1)
    have : laneOf h (fun x => v x (128 * p + (j 1).val)) (j 1).val = fun x => v x (128 * p + (j 1).val) := by
      funext x
      unfold laneOf
      rw [if_pos hd]
    rwa [this] at hc
  · rw [if_neg hd, if_neg hd]
    exact zero_of_carried sigma q k (by omega) (by omega) (by omega) hl

include hn hh hq hk hv in
theorem log_at (e : Fin 128) (he : e.val = onesLane h) (j : (⟨2, ![512, 128]⟩ : Shape).Idx) :
    logOf e (lastTop h (blkAt x0 0 (128 * h)) x1 x2 n) (lastSum h (blkAt x0 0 (128 * h)) x1 x2 n) j
      = (logsum sigma q k (2 * p + h) (512 * n + (j 0).val) : EReal) := by
  have hj : (j 0).val < 512 := (j 0).isLt
  exact logsum_of_carried sigma q k (by omega) (by omega) (by omega) (last_ones hn hh hq hk hv e he (j 0))

end

section

variable {x0 : Rows} {x1 : Keys} {x2 : Vals} {q k : ℕ → ℕ → ℝ} {v : ℕ → ℕ → EReal} {p n : ℕ}
variable (hn : n < 8)
variable (hq : ∀ r l, r < 512 → l < 256 → at2 x0 r l = (q (512 * n + r) (256 * p + l) : EReal))
variable (hk : ∀ r l, r < 4096 → l < 256 → at2 x1 r l = (k r (256 * p + l) : EReal))
variable (hv : ∀ r l, r < 4096 → l < 128 → at2 x2 r l = v r (128 * p + l))

include hn hq hk hv in
/-- The outputs' buffer: each lane is its own head's output. -/
theorem newO_at (j : (⟨2, ![512, 128]⟩ : Shape).Idx) :
    newO x0 x1 x2 n j = output sigma q k ((128 * p + (j 1).val) / 64) (512 * n + (j 0).val) (fun x => v x (128 * p + (j 1).val)) := by
  have hj : (j 1).val < 128 := (j 1).isLt
  refine (congrArg₂ (fun x y : EReal => x + y) (out_at (h := 0) hn (by omega) hq hk hv 64 rfl j) (out_at (h := 1) hn (by omega) hq hk hv 0 rfl j)).trans ?_
  by_cases hd : (j 1).val / 64 = 0
  · rw [if_pos hd, if_neg (by omega), show (128 * p + (j 1).val) / 64 = 2 * p + 0 by omega]
    exact add_zero (M := EReal) _
  · rw [if_neg hd, if_pos (by omega), show (128 * p + (j 1).val) / 64 = 2 * p + 1 by omega]
    exact zero_add (M := EReal) _

include hn hq hk hv in
/-- The log-sums' buffer. -/
theorem newL_at (y : (⟨2, ![512, 256]⟩ : Shape).Idx) :
    newL x0 x1 x2 n y = (logsum sigma q k ((256 * p + (y 1).val) / 128) (512 * n + (y 0).val) : EReal) := by
  have hy0 : (y 0).val < 512 := (y 0).isLt
  have hy1 : (y 1).val < 256 := (y 1).isLt
  unfold newL
  by_cases hd : (y 1).val / 128 = 1
  · rw [if_pos hd, show (256 * p + (y 1).val) / 128 = 2 * p + 1 by omega]
    refine (log_at (h := 1) hn (by omega) hq hk hv 0 rfl (ix2 (Fin.ofNat 512 (y 0).val) (Fin.ofNat 128 ((y 1).val % 128)))).trans ?_
    show ((logsum sigma q k (2 * p + 1) (512 * n + (y 0).val % 512) : ℝ) : EReal) = _
    rw [Nat.mod_eq_of_lt hy0]
  · rw [if_neg hd, show (256 * p + (y 1).val) / 128 = 2 * p + 0 by omega]
    refine (log_at (h := 0) hn (by omega) hq hk hv 64 rfl (ix2 (Fin.ofNat 512 (y 0).val) (Fin.ofNat 128 ((y 1).val % 128)))).trans ?_
    show ((logsum sigma q k (2 * p + 0) (512 * n + (y 0).val % 512) : ℝ) : EReal) = _
    rw [Nat.mod_eq_of_lt hy0]

end

end Cert.AttentionIdeal.Tile

end
-- ==== Proof.AttentionSpec.lean ====
module

public import proofs.«01_k».proof.Proof.AttentionRows
public import proofs.«01_k».proof.Proof.Store

/-!
# The attention's three results

The outputs, the rows' log-sums in each of their head's 128 lanes, and the outputs times their gates. A column's head is its quotient by
the number of lanes of a head.
-/

@[expose] public section

set_option maxRecDepth 16384

noncomputable section

namespace Cert.AttentionForward

open Idealize.ShloMosaic Cert.Spec
open Cert.KernelIdeal.Tile (at2)

/-- The outputs: at a row and a column, the probabilities' sum of the values of that column. -/
def outputs (σ : ℝ) (q k : ℕ → ℕ → ℝ) (v : (⟨2, ![4096, 512]⟩ : Shape).Idx → EReal) : (⟨2, ![4096, 512]⟩ : Shape).Idx → EReal :=
  fun y => output σ q k ((y 1).val / 64) (y 0).val (fun x => at2 v x (y 1).val)

/-- The rows' log-sums. -/
def logsums (σ : ℝ) (q k : ℕ → ℕ → ℝ) : (⟨2, ![4096, 1024]⟩ : Shape).Idx → EReal :=
  fun y => (logsum σ q k ((y 1).val / 128) (y 0).val : EReal)

/-- The outputs times `g / (1 + exp (-g))` for their gates `g`, the columns of the combined projection from 2560 on. -/
def gatedOutputs (σ : ℝ) (q k : ℕ → ℕ → ℝ) (v : (⟨2, ![4096, 512]⟩ : Shape).Idx → EReal) (z : (⟨2, ![4096, 11264]⟩ : Shape).Idx → EReal) :
    (⟨2, ![4096, 512]⟩ : Shape).Idx → EReal :=
  fun y => outputs σ q k v y
    * (at2 z (y 0).val (2560 + (y 1).val) * Ideal.div 1 (1 + Ideal.exp (-at2 z (y 0).val (2560 + (y 1).val))))

end Cert.AttentionForward

end
-- ==== Proof.AttentionArrays.lean ====
module

public import proofs.«01_k».proof.Proof.AttentionBlock
public import proofs.«01_k».proof.Proof.AttentionSpec
public import proofs.«01_k».proof.Proof.Gen.AttentionIdeal.Value
public import Idealize.ShloMosaic.Lib.Pipeline.ValueKit

/-!
# The attention's result arrays

When the queries and the keys are real numbers, every grid point's staged blocks are the blocks of the arguments, so the three result arrays
end holding the outputs, the rows' log-sums and the gated outputs at every row and column.
-/

@[expose] public section

set_option maxRecDepth 16384

noncomputable section

namespace Cert.AttentionIdeal.Tile

open Idealize.ShloMosaic Idealize.ShloMosaic.TcCoe Idealize.ShloMosaic.Tactic Idealize.SL.Sem
open Cert.AttentionIdeal Cert.AttentionIdeal.Gen Cert.AttentionForward Cert.Spec
open Cert.KernelIdeal.Tile (at2 at2_coords blkAt)

/-- Which block of its array each window is on at point `t`: pair `t / 8`, query block `t % 8`. -/
theorem block_0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem block_1 : ∀ t : Fin cfg0.N, win0_1.index t 0 = 0 ∧ win0_1.index t 1 = t.val / 8 :=
  (by decide +kernel : ∀ t : Fin grid0.N, win0_1.index t 0 = 0 ∧ win0_1.index t 1 = t.val / 8)
theorem block_2 : ∀ t : Fin cfg0.N, win0_2.index t 0 = 0 ∧ win0_2.index t 1 = t.val / 8 :=
  (by decide +kernel : ∀ t : Fin grid0.N, win0_2.index t 0 = 0 ∧ win0_2.index t 1 = t.val / 8)
theorem block_3 : ∀ t : Fin cfg0.N, win0_3.index t 0 = t.val % 8 ∧ win0_3.index t 1 = 20 + t.val / 8 :=
  (by decide +kernel : ∀ t : Fin grid0.N, win0_3.index t 0 = t.val % 8 ∧ win0_3.index t 1 = 20 + t.val / 8)
theorem block_4 : ∀ t : Fin cfg0.N, win0_4.index t 0 = t.val % 8 ∧ win0_4.index t 1 = t.val / 8 :=
  (by decide +kernel : ∀ t : Fin grid0.N, win0_4.index t 0 = t.val % 8 ∧ win0_4.index t 1 = t.val / 8)
theorem block_5 : ∀ t : Fin cfg0.N, win0_5.index t 0 = t.val % 8 ∧ win0_5.index t 1 = t.val / 8 :=
  (by decide +kernel : ∀ t : Fin grid0.N, win0_5.index t 0 = t.val % 8 ∧ win0_5.index t 1 = t.val / 8)
theorem block_6 : ∀ t : Fin cfg0.N, win0_6.index t 0 = t.val % 8 ∧ win0_6.index t 1 = t.val / 8 :=
  (by decide +kernel : ∀ t : Fin grid0.N, win0_6.index t 0 = t.val % 8 ∧ win0_6.index t 1 = t.val / 8)

theorem query_block (t : Fin cfg0.N) : ((grid0.coords t) 1).val = t.val % 8 := by
  have e1 : (grid0.coords t 1).val = t.val / 1 % 8 := Pipeline.Grid.coords_val t 1 (by decide) rfl
  omega

variable (m : (ℓ : Loc nD τ sig) → Buf (Elt Ideal) ℓ) (c : Dev nD)

/-- Window 0's staged block at a row and a column is its array at the block's. -/
theorem staged_0 (t : Fin cfg0.N) (G : ℕ → ℕ → EReal) (hG : V m c main_arg0 = (fun y => G (y 0).val (y 1).val : Vec Ideal S4096x1024 .bf16))
    (r l : ℕ) (hr : r < 512) (hl : l < 256) : at2 (iblk m c 0 t : Vec Ideal S512x256 .bf16) r l = G (512 * (t.val % 8) + r) (256 * (t.val / 8) + l) := by
  obtain ⟨b0, b1⟩ := block_0 t
  have e : iblk m c 0 t = ((cfg0.win 0).blk t).view.read (Elt Ideal) (fun y => G (y 0).val (y 1).val : Vec Ideal S4096x1024 .bf16) :=
    congrArg (((cfg0.win 0).blk t).view.read (Elt Ideal)) hG
  rw [e]
  unfold at2
  rw [View.read_apply]
  refine congrArg₂ G ?_ ?_
  · show win0_0.index t 0 * 512 + 1 * (r % 512) = _
    rw [b0, Nat.mod_eq_of_lt hr]; omega
  · show win0_0.index t 1 * 256 + 1 * (l % 256) = _
    rw [b1, Nat.mod_eq_of_lt hl]; omega

/-- Window 1's staged block at a row and a column is its array at the block's. -/
theorem staged_1 (t : Fin cfg0.N) (G : ℕ → ℕ → EReal) (hG : V m c main_arg1 = (fun y => G (y 0).val (y 1).val : Vec Ideal S4096x1024 .bf16))
    (r l : ℕ) (hr : r < 4096) (hl : l < 256) : at2 (iblk m c 1 t : Vec Ideal S4096x256 .bf16) r l = G (r) (256 * (t.val / 8) + l) := by
  obtain ⟨b0, b1⟩ := block_1 t
  have e : iblk m c 1 t = ((cfg0.win 1).blk t).view.read (Elt Ideal) (fun y => G (y 0).val (y 1).val : Vec Ideal S4096x1024 .bf16) :=
    congrArg (((cfg0.win 1).blk t).view.read (Elt Ideal)) hG
  rw [e]
  unfold at2
  rw [View.read_apply]
  refine congrArg₂ G ?_ ?_
  · show win0_1.index t 0 * 4096 + 1 * (r % 4096) = _
    rw [b0, Nat.mod_eq_of_lt hr]; omega
  · show win0_1.index t 1 * 256 + 1 * (l % 256) = _
    rw [b1, Nat.mod_eq_of_lt hl]; omega

/-- Window 2's staged block at a row and a column is its array at the block's. -/
theorem staged_2 (t : Fin cfg0.N) (G : ℕ → ℕ → EReal) (hG : V m c main_arg2 = (fun y => G (y 0).val (y 1).val : Vec Ideal S4096x512 .bf16))
    (r l : ℕ) (hr : r < 4096) (hl : l < 128) : at2 (iblk m c 2 t : Vec Ideal S4096x128 .bf16) r l = G (r) (128 * (t.val / 8) + l) := by
  obtain ⟨b0, b1⟩ := block_2 t
  have e : iblk m c 2 t = ((cfg0.win 2).blk t).view.read (Elt Ideal) (fun y => G (y 0).val (y 1).val : Vec Ideal S4096x512 .bf16) :=
    congrArg (((cfg0.win 2).blk t).view.read (Elt Ideal)) hG
  rw [e]
  unfold at2
  rw [View.read_apply]
  refine congrArg₂ G ?_ ?_
  · show win0_2.index t 0 * 4096 + 1 * (r % 4096) = _
    rw [b0, Nat.mod_eq_of_lt hr]; omega
  · show win0_2.index t 1 * 128 + 1 * (l % 128) = _
    rw [b1, Nat.mod_eq_of_lt hl]; omega

/-- Window 3's staged block at a row and a column is its array at the block's. -/
theorem staged_3 (t : Fin cfg0.N) (G : ℕ → ℕ → EReal) (hG : V m c main_arg3 = (fun y => G (y 0).val (y 1).val : Vec Ideal S4096x11264 .f32))
    (r l : ℕ) (hr : r < 512) (hl : l < 128) : at2 (iblk m c 3 t : Vec Ideal S512x128 .f32) r l = G (512 * (t.val % 8) + r) (128 * (20 + t.val / 8) + l) := by
  obtain ⟨b0, b1⟩ := block_3 t
  have e : iblk m c 3 t = ((cfg0.win 3).blk t).view.read (Elt Ideal) (fun y => G (y 0).val (y 1).val : Vec Ideal S4096x11264 .f32) :=
    congrArg (((cfg0.win 3).blk t).view.read (Elt Ideal)) hG
  rw [e]
  unfold at2
  rw [View.read_apply]
  refine congrArg₂ G ?_ ?_
  · show win0_3.index t 0 * 512 + 1 * (r % 512) = _
    rw [b0, Nat.mod_eq_of_lt hr]; omega
  · show win0_3.index t 1 * 128 + 1 * (l % 128) = _
    rw [b1, Nat.mod_eq_of_lt hl]; omega

/-- An array as a function of its coordinates. -/
theorem coords_eq {a b : ℕ} [NeZero a] [NeZero b] (x : (⟨2, ![a, b]⟩ : Shape).Idx → EReal) : x = fun y => at2 x (y 0).val (y 1).val :=
  funext fun y => at2_coords x y _ _ rfl rfl

variable {q k : ℕ → ℕ → ℝ}
variable (hq : ∀ y : S4096x1024.Idx, ((m (c.tc.loc main_arg0) : Vec Ideal S4096x1024 .bf16) y : EReal) = (q (y 0).val (y 1).val : EReal))
variable (hk : ∀ y : S4096x1024.Idx, ((m (c.tc.loc main_arg1) : Vec Ideal S4096x1024 .bf16) y : EReal) = (k (y 0).val (y 1).val : EReal))

include hq in
theorem staged_q (t : Fin cfg0.N) (r l : ℕ) (hr : r < 512) (hl : l < 256) :
    at2 (iblk m c 0 t : Vec Ideal S512x256 .bf16) r l = (q (512 * (t.val % 8) + r) (256 * (t.val / 8) + l) : EReal) :=
  staged_0 m c t (fun a b => (q a b : EReal)) (funext hq) r l hr hl

include hk in
theorem staged_k (t : Fin cfg0.N) (r l : ℕ) (hr : r < 4096) (hl : l < 256) :
    at2 (iblk m c 1 t : Vec Ideal S4096x256 .bf16) r l = (k r (256 * (t.val / 8) + l) : EReal) :=
  staged_1 m c t (fun a b => (k a b : EReal)) (funext hk) r l hr hl

theorem staged_v (t : Fin cfg0.N) (r l : ℕ) (hr : r < 4096) (hl : l < 128) :
    at2 (iblk m c 2 t : Vec Ideal S4096x128 .bf16) r l = at2 (m (c.tc.loc main_arg2) : Vec Ideal S4096x512 .bf16) r (128 * (t.val / 8) + l) :=
  staged_2 m c t (at2 (m (c.tc.loc main_arg2) : Vec Ideal S4096x512 .bf16)) (coords_eq (m (c.tc.loc main_arg2) : Vec Ideal S4096x512 .bf16)) r l hr hl

theorem staged_g (t : Fin cfg0.N) (r l : ℕ) (hr : r < 512) (hl : l < 128) :
    at2 (iblk m c 3 t : Vec Ideal S512x128 .f32) r l
      = at2 (m (c.tc.loc main_arg3) : Vec Ideal S4096x11264 .f32) (512 * (t.val % 8) + r) (128 * (20 + t.val / 8) + l) :=
  staged_3 m c t (at2 (m (c.tc.loc main_arg3) : Vec Ideal S4096x11264 .f32)) (coords_eq (m (c.tc.loc main_arg3) : Vec Ideal S4096x11264 .f32)) r l hr hl

/-- What a point leaves in each result's buffer. -/
theorem after_o (t : Fin cfg0.N) : (dats m 0 c).after 4 t = (newO (iblk m c 0 t) (iblk m c 1 t) (iblk m c 2 t) (grid0.coords t 1).val : S512x128.Idx → EReal) := by
  refine (after0_4 m c t).trans ?_
  simp only [outsAt0]
  exact funext (buffer_o c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t))

theorem after_l (t : Fin cfg0.N) : (dats m 0 c).after 5 t = (newL (iblk m c 0 t) (iblk m c 1 t) (iblk m c 2 t) (grid0.coords t 1).val : S512x256.Idx → EReal) := by
  refine (after0_5 m c t).trans ?_
  simp only [outsAt0]
  exact funext (buffer_l c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t))

theorem after_y (t : Fin cfg0.N) : (dats m 0 c).after 6 t = (gated (newO (iblk m c 0 t) (iblk m c 1 t) (iblk m c 2 t) (grid0.coords t 1).val) (iblk m c 3 t) : S512x128.Idx → EReal) := by
  refine (after0_6 m c t).trans ?_
  simp only [outsAt0]
  exact funext (buffer_y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t))

include hq hk in
/-- A point's outputs are its block of the outputs. -/
theorem newO_block (t : Fin cfg0.N) (y : S512x128.Idx) (a b : ℕ) (ha : a = 512 * (t.val % 8) + (y 0).val) (hb : b = 128 * (t.val / 8) + (y 1).val) :
    newO (iblk m c 0 t) (iblk m c 1 t) (iblk m c 2 t) (grid0.coords t 1).val y
      = output sigma q k (b / 64) a (fun x => at2 (m (c.tc.loc main_arg2) : Vec Ideal S4096x512 .bf16) x b) := by
  subst ha hb
  rw [query_block t]
  exact newO_at (by omega) (staged_q m c hq t) (staged_k m c hk t) (staged_v m c t) y

include hq hk in
/-- The array of outputs, after the run. -/
theorem final_o : (dats m 0 c).arrAt 4 cfg0.N = outputs sigma q k (m (c.tc.loc main_arg2)) := by
  refine (dats m 0 c).arrAt_eq_of_covers 4 _ (by decide +kernel) fun t hf y => ?_
  blk_simp
  rw [after_o]
  obtain ⟨r0, r1⟩ := block_4 t
  refine newO_block m c hq hk t y _ _ ?_ ?_
  · show win0_4.index t 0 * 512 + 1 * (y 0).val = _
    rw [r0]; omega
  · show win0_4.index t 1 * 128 + 1 * (y 1).val = _
    rw [r1]; omega

include hq hk in
/-- The array of log-sums, after the run. -/
theorem final_l : (dats m 0 c).arrAt 5 cfg0.N = logsums sigma q k := by
  refine (dats m 0 c).arrAt_eq_of_covers 5 _ (by decide +kernel) fun t hf y => ?_
  blk_simp
  rw [after_l]
  obtain ⟨r0, r1⟩ := block_5 t
  rw [query_block t]
  refine (newL_at (by omega) (staged_q m c hq t) (staged_k m c hk t) (staged_v m c t) y).trans ?_
  unfold logsums
  refine congrArg₂ (fun a b : ℕ => (logsum sigma q k (a / 128) b : EReal)) ?_ ?_
  · show _ = win0_5.index t 1 * 256 + 1 * (y 1).val
    rw [r1]; omega
  · show _ = win0_5.index t 0 * 512 + 1 * (y 0).val
    rw [r0]; omega

include hq hk in
/-- The array of gated outputs, after the run. -/
theorem final_y : (dats m 0 c).arrAt 6 cfg0.N = gatedOutputs sigma q k (m (c.tc.loc main_arg2)) (m (c.tc.loc main_arg3)) := by
  refine (dats m 0 c).arrAt_eq_of_covers 6 _ (by decide +kernel) fun t hf y => ?_
  blk_simp
  rw [after_y]
  obtain ⟨r0, r1⟩ := block_6 t
  have hy0 : (y 0).val < 512 := (y 0).isLt
  have hy1 : (y 1).val < 128 := (y 1).isLt
  unfold gated gatedOutputs
  refine congrArg₂ (fun a b : EReal => a * b) (newO_block m c hq hk t y _ _ ?_ ?_) ?_
  · show win0_6.index t 0 * 512 + 1 * (y 0).val = _
    rw [r0]; omega
  · show win0_6.index t 1 * 128 + 1 * (y 1).val = _
    rw [r1]; omega
  · have e : (iblk m c 3 t : Vec Ideal S512x128 .f32) y
        = at2 (m (c.tc.loc main_arg3) : Vec Ideal S4096x11264 .f32) (win0_6.index t 0 * 512 + 1 * (y 0).val) (2560 + (win0_6.index t 1 * 128 + 1 * (y 1).val)) := by
      refine (at2_coords (iblk m c 3 t : Vec Ideal S512x128 .f32) y _ _ rfl rfl).trans ((staged_g m c t _ _ hy0 hy1).trans ?_)
      rw [r0, r1]
      exact congrArg₂ (at2 (m (c.tc.loc main_arg3) : Vec Ideal S4096x11264 .f32)) (by omega) (by omega)
    refine congrArg₂ (fun a b : EReal => a * Ideal.div 1 (1 + Ideal.exp b)) e ?_
    exact (zero_sub _).trans (congrArg (fun a : EReal => -a) e)

end Cert.AttentionIdeal.Tile

end
-- ==== Proof.AttentionReference.lean ====
module

public import proofs.«01_k».proof.Proof.Gen.AttentionReferenceIdeal.Read
public import proofs.«01_k».proof.Proof.AttentionSpec
public import proofs.«01_k».proof.Proof.Rows
public import Idealize.ShloMosaic.Lib.Pointwise

/-!
# What the attention's reference computes

For queries and keys that are real numbers, the causal attention, operation by operation, is the probabilities' sum of the values; its rows'
log-sums are the logarithms of the sums of the scores' exponentials.
-/

@[expose] public section

set_option maxRecDepth 16384

noncomputable section

namespace Cert.AttentionReferenceIdeal.Real

open Idealize.ShloMosaic Idealize.ShloMosaic.Tactic
open Cert.AttentionReferenceIdeal Cert.AttentionReferenceIdeal.Read Cert.AttentionForward Cert.Spec
open Cert.KernelIdeal.Tile (at2 at2_coords)

variable (x0 x1 : Vec Ideal S4096x1024 .bf16) (x2 : Vec Ideal S4096x512 .bf16) (x3 : Vec Ideal S4096x11264 .f32)
variable {σ : ℝ} {q k : ℕ → ℕ → ℝ} {M : ℕ → ℕ → ℝ}
variable (hσ : Ideal.ofBits .f32 0x3DD105EC#32 = (σ : EReal))
variable (hq : ∀ y : S4096x1024.Idx, (x0 y : EReal) = (q (y 0).val (y 1).val : EReal))
variable (hk : ∀ y : S4096x1024.Idx, (x1 y : EReal) = (k (y 0).val (y 1).val : EReal))

/-! ### The arguments, split by head -/

include hq in
theorem queries_3 : val_main_v3 (F := Ideal) x0 = (fun j => (q (j 0).val (128 * (j 1).val + (j 2).val) : EReal) : Vec Ideal S4096x8x128 .f32) := by
  refine funext fun j => ?_
  show ((val_main_v3 (F := Ideal) x0 : Vec Ideal S4096x8x128 .f32) j : EReal) = _
  unfold val_main_v3 val_main_v0
  pointwise
  refine (hq _).trans ?_
  show ((q (j 0).val ((j 1).val * 128 + (j 2).val) : ℝ) : EReal) = _
  rw [Nat.mul_comm (j 1).val 128]

include hk in
theorem keys_4 : val_main_v4 (F := Ideal) x1 = (fun j => (k (j 0).val (128 * (j 1).val + (j 2).val) : EReal) : Vec Ideal S4096x8x128 .f32) := by
  refine funext fun j => ?_
  show ((val_main_v4 (F := Ideal) x1 : Vec Ideal S4096x8x128 .f32) j : EReal) = _
  unfold val_main_v4 val_main_v1
  pointwise
  refine (hk _).trans ?_
  show ((k (j 0).val ((j 1).val * 128 + (j 2).val) : ℝ) : EReal) = _
  rw [Nat.mul_comm (j 1).val 128]

include hq in
theorem queries_18 : val_main_v18 (F := Ideal) x0 = (fun j => (q (j 0).val (128 * (j 1).val + (j 2).val) : EReal) : Vec Ideal S4096x8x128 .f32) := by
  refine funext fun j => ?_
  show ((val_main_v18 (F := Ideal) x0 : Vec Ideal S4096x8x128 .f32) j : EReal) = _
  unfold val_main_v18 val_main_v0
  pointwise
  refine (hq _).trans ?_
  show ((q (j 0).val ((j 1).val * 128 + (j 2).val) : ℝ) : EReal) = _
  rw [Nat.mul_comm (j 1).val 128]

include hk in
theorem keys_19 : val_main_v19 (F := Ideal) x1 = (fun j => (k (j 0).val (128 * (j 1).val + (j 2).val) : EReal) : Vec Ideal S4096x8x128 .f32) := by
  refine funext fun j => ?_
  show ((val_main_v19 (F := Ideal) x1 : Vec Ideal S4096x8x128 .f32) j : EReal) = _
  unfold val_main_v19 val_main_v1
  pointwise
  refine (hk _).trans ?_
  show ((k (j 0).val ((j 1).val * 128 + (j 2).val) : ℝ) : EReal) = _
  rw [Nat.mul_comm (j 1).val 128]

theorem values_eq : val_main_v20 (F := Ideal) x2 = (fun j => at2 x2 (j 0).val (64 * (j 1).val + (j 2).val) : Vec Ideal S4096x8x64 .f32) := by
  refine funext fun j => ?_
  show ((val_main_v20 (F := Ideal) x2 : Vec Ideal S4096x8x64 .f32) j : EReal) = _
  unfold val_main_v20 val_main_v2
  pointwise
  refine at2_coords x2 _ _ _ rfl ?_
  show (j 1).val * 64 + (j 2).val = _
  rw [Nat.mul_comm (j 1).val 64]

/-! ### The scores -/

include hσ hq hk in
theorem scores_14 : val_main_v14 (F := Ideal) x0 x1 = (fun j => if (j 1).val < (j 2).val then (⊥ : EReal)
    else (score σ q k (j 0).val (j 1).val (j 2).val : EReal) : Vec Ideal S8x4096x4096 .f32) := by
  refine funext fun j => ?_
  show ((val_main_v14 (F := Ideal) x0 x1 : Vec Ideal S8x4096x4096 .f32) j : EReal) = _
  unfold val_main_v14 val_main_call0_v1 val_main_call0_v2 val_main_call0_v0 val_main_cst_0 val_main_v13 val_main_v12 val_main_v11 val_main_v10 val_main_v9 val_main_v8 val_main_v7 val_main_v6 val_main_cst val_main_v5
  rw [queries_3 x0 hq, keys_4 x1 hk]
  pointwise
  rw [masked _ _ (j 2).isLt (j 1).isLt]
  refine congrArg₂ (fun x y : EReal => if (j 1).val < (j 2).val then x else y) minus_infinity ?_
  unfold score
  rw [EReal.coe_mul]
  refine congrArg₂ (· * ·) (coe_sum_fin _ _ fun x => ?_) hσ
  rw [EReal.coe_mul]

include hσ hq hk in
theorem scores_30 : val_main_v30 (F := Ideal) x0 x1 = (fun j => if (j 1).val < (j 2).val then (⊥ : EReal)
    else (score σ q k (j 0).val (j 1).val (j 2).val : EReal) : Vec Ideal S8x4096x4096 .f32) := by
  refine funext fun j => ?_
  show ((val_main_v30 (F := Ideal) x0 x1 : Vec Ideal S8x4096x4096 .f32) j : EReal) = _
  unfold val_main_v30 val_main_call1_v1 val_main_call1_v2 val_main_call1_v0 val_main_cst_3 val_main_v29 val_main_v28 val_main_v27 val_main_v26 val_main_v25 val_main_v24 val_main_v23 val_main_v22 val_main_cst_2 val_main_v21
  rw [queries_18 x0 hq, keys_19 x1 hk]
  pointwise
  rw [masked _ _ (j 2).isLt (j 1).isLt]
  refine congrArg₂ (fun x y : EReal => if (j 1).val < (j 2).val then x else y) minus_infinity ?_
  unfold score
  rw [EReal.coe_mul]
  refine congrArg₂ (· * ·) (coe_sum_fin _ _ fun x => ?_) hσ
  rw [EReal.coe_mul]

/-! ### The log-sums -/

/-- A masked score, exponentiated. -/
theorem exp_weight (h i j : ℕ) : Ideal.exp (if i < j then (⊥ : EReal) else (score σ q k h i j : EReal)) = (weight σ q k h i j : EReal) := by
  unfold weight
  split
  · exact exp_bot
  · exact exp_coe _

include hσ hq hk in
theorem weights_eq : val_main_v15 (F := Ideal) x0 x1 = (fun j => (weight σ q k (j 0).val (j 1).val (j 2).val : EReal) : Vec Ideal S8x4096x4096 .f32) := by
  refine funext fun j => ?_
  show ((val_main_v15 (F := Ideal) x0 x1 : Vec Ideal S8x4096x4096 .f32) j : EReal) = _
  unfold val_main_v15
  rw [scores_14 x0 x1 hσ hq hk]
  pointwise
  exact exp_weight _ _ _

include hσ hq hk in
theorem totals_eq : val_main_v16 (F := Ideal) x0 x1 = (fun j => (total σ q k (j 0).val (j 1).val : EReal) : Vec Ideal S8x4096 .f32) := by
  refine funext fun j => ?_
  unfold val_main_v16
  rw [weights_eq x0 x1 hσ hq hk]
  refine (row_sum _ _ _ _ j).trans ?_
  rw [show val_main_cst_1 (F := Ideal) (Shape.Idx.first Gen.h_S_) = (0 : EReal) from Ideal.ofBits_zero_f32, zero_add]
  exact coe_sum_fin _ _ fun x => rfl

include hσ hq hk in
theorem result_l : val_main_v48 (F := Ideal) x0 x1 = logsums σ q k := by
  refine funext fun y => ?_
  have h0 : (y 0).val < 4096 := (y 0).isLt
  have h1 : (y 1).val < 1024 := (y 1).isLt
  show ((val_main_v48 (F := Ideal) x0 x1 : Vec Ideal S4096x1024 .f32) y : EReal) = _
  unfold val_main_v48 val_main_v47 val_main_v46 val_main_v17
  rw [totals_eq x0 x1 hσ hq hk]
  pointwise
  refine (log_coe _ (total_pos σ q k _ _)).trans ?_
  unfold logsums logsum
  rfl

/-! ### The outputs -/

include hσ hq hk in
theorem tops_eq : ∃ M : ℕ → ℕ → ℝ, val_main_v33 (F := Ideal) x0 x1 = (fun j => (M (j 0).val (j 1).val : EReal) : Vec Ideal S8x4096 .f32) := by
  obtain ⟨M, hM⟩ := row_max_real (fun h i j => score σ q k h i j)
    (fun j => if (j 1).val < (j 2).val then (⊥ : EReal) else (score σ q k (j 0).val (j 1).val (j 2).val : EReal)) (fun j => rfl)
    (val_main_cst_4 (F := Ideal)) Gen.reducesTo_S8x4096x4096_S8x4096_d2 Gen.h_S_ minus_infinity
  refine ⟨M, funext fun j => ?_⟩
  have e : val_main_v31 (F := Ideal) x0 x1 = (fun j => (M (j 0).val (j 1).val : EReal) : Vec Ideal S8x4096 .f32) := by
    unfold val_main_v31
    rw [scores_30 x0 x1 hσ hq hk]
    exact funext hM
  show ((val_main_v33 (F := Ideal) x0 x1 : Vec Ideal S8x4096 .f32) j : EReal) = _
  unfold val_main_v33 val_main_v32 val_main_cst_5
  rw [e]
  pointwise
  rw [minus_infinity]
  exact max_eq_right bot_le

variable (hM : val_main_v33 (F := Ideal) x0 x1 = (fun j => (M (j 0).val (j 1).val : EReal) : Vec Ideal S8x4096 .f32))

include hσ hq hk hM in
theorem exps_eq : val_main_v37 (F := Ideal) x0 x1
    = (fun j => (shifted σ q k (M (j 0).val (j 1).val) (j 0).val (j 1).val (j 2).val : EReal) : Vec Ideal S8x4096x4096 .f32) := by
  refine funext fun j => ?_
  show ((val_main_v37 (F := Ideal) x0 x1 : Vec Ideal S8x4096x4096 .f32) j : EReal) = _
  unfold val_main_v37 val_main_v36 val_main_v35 val_main_v34
  rw [scores_30 x0 x1 hσ hq hk, hM]
  pointwise
  exact exp_masked σ q k _ _ _ _

/-- A row's sum of shifted exponentials. -/
def den (σ : ℝ) (q k : ℕ → ℕ → ℝ) (M : ℕ → ℕ → ℝ) (h i : ℕ) : ℝ := ∑ j' ∈ Finset.range 4096, shifted σ q k (M h i) h i j'

theorem den_pos (σ : ℝ) (q k : ℕ → ℕ → ℝ) (M : ℕ → ℕ → ℝ) (h i : ℕ) : 0 < den σ q k M h i := sum_shifted_pos σ q k _ _ _

include hσ hq hk hM in
theorem sums_eq : val_main_v38 (F := Ideal) x0 x1 = (fun j => (den σ q k M (j 0).val (j 1).val : EReal) : Vec Ideal S8x4096 .f32) := by
  refine funext fun j => ?_
  unfold val_main_v38
  rw [exps_eq x0 x1 hσ hq hk hM]
  refine (row_sum _ _ _ _ j).trans ?_
  rw [show val_main_cst_6 (F := Ideal) (Shape.Idx.first Gen.h_S_) = (0 : EReal) from Ideal.ofBits_zero_f32, zero_add]
  exact coe_sum_fin _ _ fun x => rfl

include hσ hq hk hM in
theorem shares_eq : val_main_v41 (F := Ideal) x0 x1
    = (fun j => (share σ q k (j 0).val (j 1).val (j 2).val : EReal) : Vec Ideal S8x4096x4096 .f32) := by
  refine funext fun j => ?_
  show ((val_main_v41 (F := Ideal) x0 x1 : Vec Ideal S8x4096x4096 .f32) j : EReal) = _
  unfold val_main_v41 val_main_v40 val_main_v39
  rw [exps_eq x0 x1 hσ hq hk hM, sums_eq x0 x1 hσ hq hk hM]
  pointwise
  refine (div_coe _ _ (den_pos σ q k M _ _).ne').trans ?_
  exact congrArg _ (share_of_shifted σ q k (M (j 0).val (j 1).val) (j 0).val (j 1).val (j 2).val)

include hσ hq hk in
theorem products_eq : val_main_v42 (F := Ideal) x0 x1 x2
    = (fun j => output σ q k (j 0).val (j 2).val (fun x => at2 x2 x (64 * (j 0).val + (j 1).val)) : Vec Ideal S8x64x4096 .f32) := by
  obtain ⟨M, hM⟩ := tops_eq x0 x1 hσ hq hk
  refine funext fun j => ?_
  show ((val_main_v42 (F := Ideal) x0 x1 x2 : Vec Ideal S8x64x4096 .f32) j : EReal) = _
  unfold val_main_v42
  rw [values_eq x2, shares_eq x0 x1 hσ hq hk hM]
  pointwise
  unfold output
  rw [Finset.sum_range]
  exact Finset.sum_congr rfl fun x _ => mul_comm (G := EReal) _ _

include hσ hq hk in
theorem result_o : val_main_v44 (F := Ideal) x0 x1 x2 = outputs σ q k x2 := by
  refine funext fun y => ?_
  have h0 : (y 0).val < 4096 := (y 0).isLt
  have h1 : (y 1).val < 512 := (y 1).isLt
  show ((val_main_v44 (F := Ideal) x0 x1 x2 : Vec Ideal S4096x512 .f32) y : EReal) = _
  unfold val_main_v44 val_main_v43
  rw [products_eq x0 x1 x2 hσ hq hk]
  pointwise
  unfold outputs
  have e2 : 64 * ((y 1).val / 64) + (y 1).val % 64 = (y 1).val := by omega
  exact congrArg (fun l : ℕ => output σ q k ((y 1).val / 64) (y 0).val (fun x => at2 x2 x l)) e2

include hσ hq hk in
theorem result_y : val_main_v51 (F := Ideal) x0 x1 x2 x3 = gatedOutputs σ q k x2 x3 := by
  refine funext fun y => ?_
  have h1 : (y 1).val < 512 := (y 1).isLt
  show ((val_main_v51 (F := Ideal) x0 x1 x2 x3 : Vec Ideal S4096x512 .bf16) y : EReal) = _
  unfold val_main_v51 val_main_v50 val_main_v49 val_main_call2_v5 val_main_call2_v4 val_main_call2_cst_0 val_main_call2_v3 val_main_call2_v2
    val_main_call2_cst val_main_call2_v1 val_main_call2_v0 val_main_v45
  rw [result_o x0 x1 x2 hσ hq hk]
  pointwise
  unfold gatedOutputs
  have e := at2_coords x3 (ix2 (y 0) ⟨2560 + (y 1).val, by omega⟩) (y 0).val (2560 + (y 1).val) rfl rfl
  exact congrArg (fun z : EReal => outputs σ q k x2 y * (z * Ideal.div 1 (1 + Ideal.exp (-z)))) e

end Cert.AttentionReferenceIdeal.Real

end
-- ==== Proof.AttentionEqual.lean ====
module

public import proofs.«01_k».proof.Defs
public import proofs.«01_k».proof.Proof.Equal
public import proofs.«01_k».proof.Proof.FiniteScores
public import proofs.«01_k».proof.Proof.AttentionArrays
public import proofs.«01_k».proof.Proof.AttentionReference

/-!
# The attention and its reference agree

For queries and keys whose entries are real numbers both programs end with the same outputs, log-sums and gated outputs.
-/

@[expose] public section

noncomputable section

namespace Cert.AttentionEqual

open Idealize.ShloMosaic Idealize.ShloMosaic.TcCoe Idealize.SL.Sem
open Cert.Spec Cert.AttentionForward
open Cert.Equal (real real_at)

/-- The number that scales the reference's scores. -/
theorem scale_eq : Ideal.ofBits .f32 0x3DD105EC#32 = (Cert.AttentionIdeal.Tile.sigma : EReal) := by
  unfold Cert.AttentionIdeal.Tile.sigma
  simp [Ideal.ofBits, Ideal.ieee, -EReal.coe_mul]
  norm_num

section Kernel
open Cert.AttentionIdeal

variable (m : (ℓ : Loc nD τ sig) → Buf (Elt Ideal) ℓ) (ρ : Dev nD → PrngReg)
variable (q k : Dev nD → ℕ → ℕ → ℝ)

/-- What the kernel ends with. -/
theorem kernel_run
    (hq : ∀ (c : Dev nD) (y : S4096x1024.Idx), ((m (c.tc.loc main_arg0) : Vec Ideal S4096x1024 .bf16) y : EReal) = (q c (y 0).val (y 1).val : EReal))
    (hk : ∀ (c : Dev nD) (y : S4096x1024.Idx), ((m (c.tc.loc main_arg1) : Vec Ideal S4096x1024 .bf16) y : EReal) = (k c (y 0).val (y 1).val : EReal)) :
    θ_run defs (onTc (τ := τ) (main (F := Ideal))) ⟨m, fun _ => 0, ρ⟩ (fun r => ∀ c : Dev nD,
      r.2.mem ((c.tc : Thread nD τ).loc main_v0_0) = outputs Tile.sigma (q c) (k c) (m (c.tc.loc main_arg2))
      ∧ r.2.mem ((c.tc : Thread nD τ).loc main_v0_1) = logsums Tile.sigma (q c) (k c)
      ∧ r.2.mem ((c.tc : Thread nD τ).loc main_v0_2) = gatedOutputs Tile.sigma (q c) (k c) (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Value.run_blocks (F := Ideal) m ρ)
  obtain ⟨h4, h5, h6, ha⟩ := h c
  exact ⟨h4.trans (Tile.final_o m c (hq c) (hk c)), h5.trans (Tile.final_l m c (hq c) (hk c)), h6.trans (Tile.final_y m c (hq c) (hk c)), ha⟩

end Kernel

/-- From the same finite queries and keys the kernel and the reference end with the same results. -/
theorem algebraic : Cert.algebraic_AttentionIdeal_AttentionReferenceIdeal_pre_finite_qk (hPre_finite_qk := Cert.FiniteScores.facts) := by
  intro m ρ m' ρ' hpre hargs
  have hx := fun c => Cert.FiniteScores.entries _ _ _ _ (hpre c)
  let q : Dev Cert.AttentionIdeal.nD → ℕ → ℕ → ℝ := fun c =>
    real (m ((c.tc : Thread Cert.AttentionIdeal.nD Cert.AttentionIdeal.τ).loc Cert.AttentionIdeal.main_arg0) : Vec Ideal Cert.AttentionIdeal.S4096x1024 .bf16) (by decide) (by decide)
  let k : Dev Cert.AttentionIdeal.nD → ℕ → ℕ → ℝ := fun c =>
    real (m ((c.tc : Thread Cert.AttentionIdeal.nD Cert.AttentionIdeal.τ).loc Cert.AttentionIdeal.main_arg1) : Vec Ideal Cert.AttentionIdeal.S4096x1024 .bf16) (by decide) (by decide)
  have hq := fun c => real_at _ (by decide) (by decide) (hx c).1
  have hk := fun c => real_at _ (by decide) (by decide) (hx c).2
  refine ⟨fun c => outputs Cert.AttentionIdeal.Tile.sigma (q c) (k c) (m ((c.tc : Thread Cert.AttentionIdeal.nD Cert.AttentionIdeal.τ).loc Cert.AttentionIdeal.main_arg2)),
    fun c => logsums Cert.AttentionIdeal.Tile.sigma (q c) (k c),
    fun c => gatedOutputs Cert.AttentionIdeal.Tile.sigma (q c) (k c)
      (m ((c.tc : Thread Cert.AttentionIdeal.nD Cert.AttentionIdeal.τ).loc Cert.AttentionIdeal.main_arg2))
      (m ((c.tc : Thread Cert.AttentionIdeal.nD Cert.AttentionIdeal.τ).loc Cert.AttentionIdeal.main_arg3)),
    kernel_run m ρ q k hq hk, ?_⟩
  refine (θ_run Cert.AttentionReferenceIdeal.defs _ _).mono (fun r h c => ?_) (Cert.AttentionReferenceIdeal.Value.run (F := Ideal) m' ρ')
  obtain ⟨h0, h1, h2, ha⟩ := h c
  obtain ⟨e0, e1, e2, e3⟩ := hargs c
  refine ⟨h0.trans ((Cert.AttentionReferenceIdeal.Read.val_main_v44_eq m' c).trans ?_), h1.trans ((Cert.AttentionReferenceIdeal.Read.val_main_v48_eq _ _).trans ?_),
    h2.trans ((Cert.AttentionReferenceIdeal.Read.val_main_v51_eq m' c).trans ?_), ha⟩
  · rw [e0, e1, e2]
    exact Cert.AttentionReferenceIdeal.Real.result_o _ _ _ scale_eq (hq c) (hk c)
  · rw [e0, e1]
    exact Cert.AttentionReferenceIdeal.Real.result_l _ _ scale_eq (hq c) (hk c)
  · rw [e0, e1, e2, e3]
    exact Cert.AttentionReferenceIdeal.Real.result_y _ _ _ _ scale_eq (hq c) (hk c)

end Cert.AttentionEqual

end
-- ==== Proof.LayerNorm.lean ====
module

public import proofs.«01_k».proof.Defs
public import proofs.«01_k».proof.Proof.Gen.NormIdeal.Value
public import proofs.«01_k».proof.Proof.Gen.NormReferenceIdeal.Read
public import Idealize.ShloMosaic.Lib.Pipeline.ValueKit
public import Idealize.ShloMosaic.Lib.Pointwise

/-!
# The layer's input norm

Every block of rows is divided by the root of its rows' mean squares and multiplied by the gains, so the blocks together are the
reference's normalised input.
-/

@[expose] public section

set_option maxRecDepth 16384

noncomputable section

namespace Cert.LayerNorm

open Idealize.ShloMosaic Idealize.ShloMosaic.TcCoe Idealize.ShloMosaic.Tactic Idealize.SL.Sem

/-- The normalised input: at a position and a feature, the input times the reciprocal root of its row's mean square (with the small number
added), times the feature's gain. -/
def normalised (x : (⟨2, ![4096, 1024]⟩ : Shape).Idx → EReal) (g : (⟨2, ![1, 1024]⟩ : Shape).Idx → EReal) : (⟨2, ![4096, 1024]⟩ : Shape).Idx → EReal :=
  fun i => x i * Ideal.rsqrt (Ideal.div (∑ k : Fin 1024, x (ix2 (i 0) k) * x (ix2 (i 0) k)) (Ideal.ofBits .f32 0x44800000#32)
    + Ideal.ofBits .f32 0x358637BD#32) * g (ix2 0 (i 1))

section Kernel
open Cert.NormIdeal Cert.NormIdeal.Gen

/-- A block of rows, normalised. -/
theorem block_value (x : Vec Ideal S512x1024 .f32) (g : Vec Ideal S1x1024 .f32) (y : S512x1024.Idx) :
    (k0_pay1 x g y : EReal) = x y * Ideal.rsqrt (Ideal.div (∑ k : Fin 1024, x (ix2 (y 0) k) * x (ix2 (y 0) k)) (Ideal.ofBits .f32 0x44800000#32)
      + Ideal.ofBits .f32 0x358637BD#32) * g (ix2 0 (y 1)) := by
  unfold k0_pay1
  pointwise

variable (m : (ℓ : Loc nD τ sig) → Buf (Elt Ideal) ℓ) (c : Dev nD)

/-- Which block each window is on at a point. -/
theorem input_at : ∀ t : Fin cfg0.N, win0_0.index t 0 = t.val ∧ win0_0.index t 1 = 0 :=
  (by decide +kernel : ∀ t : Fin grid0.N, win0_0.index t 0 = t.val ∧ win0_0.index t 1 = 0)
theorem gains_at : ∀ t : Fin cfg0.N, win0_1.index t 0 = 0 ∧ win0_1.index t 1 = 0 :=
  (by decide +kernel : ∀ t : Fin grid0.N, win0_1.index t 0 = 0 ∧ win0_1.index t 1 = 0)
theorem result_at : ∀ t : Fin cfg0.N, win0_2.index t 0 = t.val ∧ win0_2.index t 1 = 0 :=
  (by decide +kernel : ∀ t : Fin grid0.N, win0_2.index t 0 = t.val ∧ win0_2.index t 1 = 0)

/-- The result array, after the run. -/
theorem kernel_result : (dats m 0 c).arrAt 2 cfg0.N
    = normalised (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨a0, a1⟩ := input_at t
  obtain ⟨g0, g1⟩ := gains_at t
  obtain ⟨r0, r1⟩ := result_at t
  refine (block_value (iblk m c 0 t) (iblk m c 1 t) y).trans ?_
  unfold normalised
  refine congrArg₂ (fun p q : EReal => p * q) (congrArg₂ (fun p q : EReal => p * q) ?_ (congrArg (fun p : EReal => Ideal.rsqrt (Ideal.div p _ + _))
    (Finset.sum_congr rfl fun k _ => congrArg (fun p : EReal => p * p) ?_))) ?_
  · show (m ((c.tc : Thread nD τ).loc main_arg0) : Vec Ideal S4096x1024 .f32) _ = _
    refine congrArg (m ((c.tc : Thread nD τ).loc main_arg0) : Vec Ideal S4096x1024 .f32) (funext fun a => Fin.ext ?_)
    match a with
    | ⟨0, _⟩ =>
      show win0_0.index t 0 * 512 + 1 * (y 0).val = win0_2.index t 0 * 512 + 1 * (y 0).val
      rw [a0, r0]
    | ⟨1, _⟩ =>
      show win0_0.index t 1 * 1024 + 1 * (y 1).val = win0_2.index t 1 * 1024 + 1 * (y 1).val
      rw [a1, r1]
  · show (m ((c.tc : Thread nD τ).loc main_arg0) : Vec Ideal S4096x1024 .f32) _ = _
    refine congrArg (m ((c.tc : Thread nD τ).loc main_arg0) : Vec Ideal S4096x1024 .f32) (funext fun a => Fin.ext ?_)
    match a with
    | ⟨0, _⟩ =>
      show win0_0.index t 0 * 512 + 1 * (y 0).val = win0_2.index t 0 * 512 + 1 * (y 0).val
      rw [a0, r0]
    | ⟨1, _⟩ =>
      show win0_0.index t 1 * 1024 + 1 * k.val = k.val
      rw [a1]; omega
  · show (m ((c.tc : Thread nD τ).loc main_arg1) : Vec Ideal S1x1024 .f32) _ = _
    refine congrArg (m ((c.tc : Thread nD τ).loc main_arg1) : Vec Ideal S1x1024 .f32) (funext fun a => Fin.ext ?_)
    match a with
    | ⟨0, _⟩ =>
      show win0_1.index t 0 * 1 + 1 * 0 = 0
      rw [g0]
    | ⟨1, _⟩ =>
      show win0_1.index t 1 * 1024 + 1 * (y 1).val = win0_2.index t 1 * 1024 + 1 * (y 1).val
      rw [g1, r1]

end Kernel

section Reference
open Cert.NormReferenceIdeal Cert.NormReferenceIdeal.Read

theorem reference_result (x : Vec Ideal S4096x1024 .f32) (g : Vec Ideal S1x1024 .f32) : val_main_v12 (F := Ideal) x g = normalised x g := by
  refine funext fun i => ?_
  show ((val_main_v12 (F := Ideal) x g : Vec Ideal S4096x1024 .bf16) i : EReal) = _
  unfold val_main_v12 val_main_v11 val_main_v10 val_main_v9 val_main_v8 val_main_v7 val_main_v6 val_main_v5 val_main_v4 val_main_v3 val_main_v2
    val_main_v1 val_main_v0 val_main_cst val_main_cst_0 val_main_cst_1 normalised
  pointwise

end Reference

/-- From the same input and gains the kernel and the reference end with the same normalised input. -/
theorem algebraic : Cert.algebraic_NormIdeal_NormReferenceIdeal := by
  intro m ρ m' ρ' hpre hargs
  refine ⟨fun c => normalised (m ((c.tc : Thread Cert.NormIdeal.nD Cert.NormIdeal.τ).loc Cert.NormIdeal.main_arg0)) (m ((c.tc : Thread Cert.NormIdeal.nD Cert.NormIdeal.τ).loc Cert.NormIdeal.main_arg1)), ?_, ?_⟩
  · exact (θ_run Cert.NormIdeal.defs _ _).mono (fun r h c => ⟨(h c).1.trans (kernel_result m c), (h c).2⟩)
      (Cert.NormIdeal.Value.run_blocks (F := Ideal) m ρ)
  · refine (θ_run Cert.NormReferenceIdeal.defs _ _).mono (fun r h c => ?_) (Cert.NormReferenceIdeal.Value.run (F := Ideal) m' ρ')
    obtain ⟨e0, e1⟩ := hargs c
    refine ⟨(h c).1.trans ((Cert.NormReferenceIdeal.Read.val_main_v12_eq _ _).trans ?_), (h c).2⟩
    rw [e0, e1]
    exact reference_result _ _

end Cert.LayerNorm

end
-- ==== Proof.MergeGates.lean ====
module

public import proofs.«01_k».proof.Defs
public import proofs.«01_k».proof.Proof.Gen.MergeIdeal.Value
public import proofs.«01_k».proof.Proof.Gen.MergeReferenceIdeal.Read
public import Idealize.ShloMosaic.Lib.Pipeline.ValueKit
public import Idealize.ShloMosaic.Lib.Pointwise

/-!
# The merge of the three mixers

Every block of rows is the sum of the three mixers' outputs, each times its gate, so the blocks together are the reference's merged
output. The three gates are read from three blocks of columns of the combined projection.
-/

@[expose] public section

set_option maxRecDepth 16384

noncomputable section

namespace Cert.MergeGates

open Idealize.ShloMosaic Idealize.ShloMosaic.TcCoe Idealize.ShloMosaic.Tactic Idealize.SL.Sem

/-- A gate of a number. -/
def gate (z : EReal) : EReal := Ideal.div 1 (1 + Ideal.exp (-z))

/-- The gate of mixer `j` at a position and a feature: of the combined projection's column and the mixer's bias. -/
def gateOf (zp : (⟨2, ![4096, 11264]⟩ : Shape).Idx → EReal) (b : (⟨2, ![1, 3072]⟩ : Shape).Idx → EReal) (j : Fin 3)
    (i : (⟨2, ![4096, 1024]⟩ : Shape).Idx) : EReal :=
  gate (zp (ix2 (i 0) ⟨8192 + (1024 * j.val + (i 1).val), by have h : (i 1).val < 1024 := (i 1).isLt; have hj := j.isLt; omega⟩)
    + b (ix2 0 ⟨1024 * j.val + (i 1).val, by have h : (i 1).val < 1024 := (i 1).isLt; have hj := j.isLt; omega⟩))

/-- The merged output: the three mixers' outputs, each times its gate. -/
def merged (p0 p1 p2 : (⟨2, ![4096, 1024]⟩ : Shape).Idx → EReal) (zp : (⟨2, ![4096, 11264]⟩ : Shape).Idx → EReal)
    (b : (⟨2, ![1, 3072]⟩ : Shape).Idx → EReal) : (⟨2, ![4096, 1024]⟩ : Shape).Idx → EReal :=
  fun i => gateOf zp b 0 i * p0 i + gateOf zp b 1 i * p1 i + gateOf zp b 2 i * p2 i

section Kernel
open Cert.MergeIdeal Cert.MergeIdeal.Gen

/-- A block of rows of the merged output. -/
theorem block_value (p0 p1 p2 : Vec Ideal S512x1024 .bf16) (z0 z1 z2 : Vec Ideal S512x1024 .f32) (b0 b1 b2 : Vec Ideal S1x1024 .f32)
    (y : S512x1024.Idx) :
    (k0_pay1 (k0_pay2 z0 b0 p0 z1 b1 p1) (k0_pay3 z2 b2) (Scalar.ofBits .f32 0x00000000#32) p2 y : EReal)
      = gate (z0 y + b0 (ix2 0 (y 1))) * p0 y + gate (z1 y + b1 (ix2 0 (y 1))) * p1 y + gate (z2 y + b2 (ix2 0 (y 1))) * p2 y := by
  unfold k0_pay1 k0_pay2 k0_pay3 gate
  pointwise
  simp only [zero_sub]

variable (m : (ℓ : Loc nD τ sig) → Buf (Elt Ideal) ℓ) (c : Dev nD)

/-- Which block each window is on at a point. -/
theorem mixer_0_at : ∀ t : Fin cfg0.N, win0_0.index t 0 = t.val ∧ win0_0.index t 1 = 0 :=
  (by decide +kernel : ∀ t : Fin grid0.N, win0_0.index t 0 = t.val ∧ win0_0.index t 1 = 0)
theorem mixer_1_at : ∀ t : Fin cfg0.N, win0_1.index t 0 = t.val ∧ win0_1.index t 1 = 0 :=
  (by decide +kernel : ∀ t : Fin grid0.N, win0_1.index t 0 = t.val ∧ win0_1.index t 1 = 0)
theorem mixer_2_at : ∀ t : Fin cfg0.N, win0_2.index t 0 = t.val ∧ win0_2.index t 1 = 0 :=
  (by decide +kernel : ∀ t : Fin grid0.N, win0_2.index t 0 = t.val ∧ win0_2.index t 1 = 0)
theorem gate_0_at : ∀ t : Fin cfg0.N, win0_3.index t 0 = t.val ∧ win0_3.index t 1 = 8 :=
  (by decide +kernel : ∀ t : Fin grid0.N, win0_3.index t 0 = t.val ∧ win0_3.index t 1 = 8)
theorem gate_1_at : ∀ t : Fin cfg0.N, win0_4.index t 0 = t.val ∧ win0_4.index t 1 = 9 :=
  (by decide +kernel : ∀ t : Fin grid0.N, win0_4.index t 0 = t.val ∧ win0_4.index t 1 = 9)
theorem gate_2_at : ∀ t : Fin cfg0.N, win0_5.index t 0 = t.val ∧ win0_5.index t 1 = 10 :=
  (by decide +kernel : ∀ t : Fin grid0.N, win0_5.index t 0 = t.val ∧ win0_5.index t 1 = 10)
theorem bias_at : ∀ t : Fin cfg0.N, win0_6.index t 0 = 0 ∧ win0_6.index t 1 = 0 :=
  (by decide +kernel : ∀ t : Fin grid0.N, win0_6.index t 0 = 0 ∧ win0_6.index t 1 = 0)
theorem result_at : ∀ t : Fin cfg0.N, win0_7.index t 0 = t.val ∧ win0_7.index t 1 = 0 :=
  (by decide +kernel : ∀ t : Fin grid0.N, win0_7.index t 0 = t.val ∧ win0_7.index t 1 = 0)

/-- The result array, after the run. -/
theorem kernel_result : (dats m 0 c).arrAt 7 cfg0.N
    = merged (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 7 _ (by decide +kernel) fun t hf y => ?_
  blk_simp
  rw [after0_7]
  frame_out
  obtain ⟨p0, p1⟩ := mixer_0_at t
  obtain ⟨q0, q1⟩ := mixer_1_at t
  obtain ⟨s0, s1⟩ := mixer_2_at t
  obtain ⟨u0, u1⟩ := gate_0_at t
  obtain ⟨v0, v1⟩ := gate_1_at t
  obtain ⟨w0, w1⟩ := gate_2_at t
  obtain ⟨b0, b1⟩ := bias_at t
  obtain ⟨r0, r1⟩ := result_at t
  have hy : (y 1).val < 1024 := (y 1).isLt
  refine (block_value (iblk m c 0 t) (iblk m c 1 t) (iblk m c 2 t) (iblk m c 3 t) (iblk m c 4 t) (iblk m c 5 t) _ _ _ y).trans ?_
  unfold merged gateOf
  refine congrArg₂ (fun p q : EReal => p + q) (congrArg₂ (fun p q : EReal => p + q)
    (congrArg₂ (fun p q : EReal => p * q) (congrArg gate (congrArg₂ (fun p q : EReal => p + q) ?_ ?_)) ?_)
    (congrArg₂ (fun p q : EReal => p * q) (congrArg gate (congrArg₂ (fun p q : EReal => p + q) ?_ ?_)) ?_))
    (congrArg₂ (fun p q : EReal => p * q) (congrArg gate (congrArg₂ (fun p q : EReal => p + q) ?_ ?_)) ?_)
  · show (m ((c.tc : Thread nD τ).loc main_arg3) : Vec Ideal S4096x11264 .f32) _ = _
    refine congrArg (m ((c.tc : Thread nD τ).loc main_arg3) : Vec Ideal S4096x11264 .f32) (funext fun a => Fin.ext ?_)
    match a with
    | ⟨0, _⟩ =>
      show win0_3.index t 0 * 512 + 1 * (y 0).val = win0_7.index t 0 * 512 + 1 * (y 0).val
      rw [u0, r0]
    | ⟨1, _⟩ =>
      show win0_3.index t 1 * 1024 + 1 * (y 1).val = 8192 + (1024 * 0 + (win0_7.index t 1 * 1024 + 1 * (y 1).val))
      rw [u1, r1]; omega
  · show (m ((c.tc : Thread nD τ).loc main_arg4) : Vec Ideal S1x3072 .f32) _ = _
    refine congrArg (m ((c.tc : Thread nD τ).loc main_arg4) : Vec Ideal S1x3072 .f32) (funext fun a => Fin.ext ?_)
    match a with
    | ⟨0, _⟩ =>
      show win0_6.index t 0 * 1 + 1 * (0 + 1 * 0) = 0
      rw [b0]
    | ⟨1, _⟩ =>
      show win0_6.index t 1 * 3072 + 1 * (0 + 1 * (y 1).val) = 1024 * 0 + (win0_7.index t 1 * 1024 + 1 * (y 1).val)
      rw [b1, r1]; omega
  · show (m ((c.tc : Thread nD τ).loc main_arg0) : Vec Ideal S4096x1024 .bf16) _ = _
    refine congrArg (m ((c.tc : Thread nD τ).loc main_arg0) : Vec Ideal S4096x1024 .bf16) (funext fun a => Fin.ext ?_)
    match a with
    | ⟨0, _⟩ =>
      show win0_0.index t 0 * 512 + 1 * (y 0).val = win0_7.index t 0 * 512 + 1 * (y 0).val
      rw [p0, r0]
    | ⟨1, _⟩ =>
      show win0_0.index t 1 * 1024 + 1 * (y 1).val = win0_7.index t 1 * 1024 + 1 * (y 1).val
      rw [p1, r1]
  · show (m ((c.tc : Thread nD τ).loc main_arg3) : Vec Ideal S4096x11264 .f32) _ = _
    refine congrArg (m ((c.tc : Thread nD τ).loc main_arg3) : Vec Ideal S4096x11264 .f32) (funext fun a => Fin.ext ?_)
    match a with
    | ⟨0, _⟩ =>
      show win0_4.index t 0 * 512 + 1 * (y 0).val = win0_7.index t 0 * 512 + 1 * (y 0).val
      rw [v0, r0]
    | ⟨1, _⟩ =>
      show win0_4.index t 1 * 1024 + 1 * (y 1).val = 8192 + (1024 * 1 + (win0_7.index t 1 * 1024 + 1 * (y 1).val))
      rw [v1, r1]; omega
  · show (m ((c.tc : Thread nD τ).loc main_arg4) : Vec Ideal S1x3072 .f32) _ = _
    refine congrArg (m ((c.tc : Thread nD τ).loc main_arg4) : Vec Ideal S1x3072 .f32) (funext fun a => Fin.ext ?_)
    match a with
    | ⟨0, _⟩ =>
      show win0_6.index t 0 * 1 + 1 * (0 + 1 * 0) = 0
      rw [b0]
    | ⟨1, _⟩ =>
      show win0_6.index t 1 * 3072 + 1 * (1024 + 1 * (y 1).val) = 1024 * 1 + (win0_7.index t 1 * 1024 + 1 * (y 1).val)
      rw [b1, r1]; omega
  · show (m ((c.tc : Thread nD τ).loc main_arg1) : Vec Ideal S4096x1024 .bf16) _ = _
    refine congrArg (m ((c.tc : Thread nD τ).loc main_arg1) : Vec Ideal S4096x1024 .bf16) (funext fun a => Fin.ext ?_)
    match a with
    | ⟨0, _⟩ =>
      show win0_1.index t 0 * 512 + 1 * (y 0).val = win0_7.index t 0 * 512 + 1 * (y 0).val
      rw [q0, r0]
    | ⟨1, _⟩ =>
      show win0_1.index t 1 * 1024 + 1 * (y 1).val = win0_7.index t 1 * 1024 + 1 * (y 1).val
      rw [q1, r1]
  · show (m ((c.tc : Thread nD τ).loc main_arg3) : Vec Ideal S4096x11264 .f32) _ = _
    refine congrArg (m ((c.tc : Thread nD τ).loc main_arg3) : Vec Ideal S4096x11264 .f32) (funext fun a => Fin.ext ?_)
    match a with
    | ⟨0, _⟩ =>
      show win0_5.index t 0 * 512 + 1 * (y 0).val = win0_7.index t 0 * 512 + 1 * (y 0).val
      rw [w0, r0]
    | ⟨1, _⟩ =>
      show win0_5.index t 1 * 1024 + 1 * (y 1).val = 8192 + (1024 * 2 + (win0_7.index t 1 * 1024 + 1 * (y 1).val))
      rw [w1, r1]; omega
  · show (m ((c.tc : Thread nD τ).loc main_arg4) : Vec Ideal S1x3072 .f32) _ = _
    refine congrArg (m ((c.tc : Thread nD τ).loc main_arg4) : Vec Ideal S1x3072 .f32) (funext fun a => Fin.ext ?_)
    match a with
    | ⟨0, _⟩ =>
      show win0_6.index t 0 * 1 + 1 * (0 + 1 * 0) = 0
      rw [b0]
    | ⟨1, _⟩ =>
      show win0_6.index t 1 * 3072 + 1 * (2048 + 1 * (y 1).val) = 1024 * 2 + (win0_7.index t 1 * 1024 + 1 * (y 1).val)
      rw [b1, r1]; omega
  · show (m ((c.tc : Thread nD τ).loc main_arg2) : Vec Ideal S4096x1024 .bf16) _ = _
    refine congrArg (m ((c.tc : Thread nD τ).loc main_arg2) : Vec Ideal S4096x1024 .bf16) (funext fun a => Fin.ext ?_)
    match a with
    | ⟨0, _⟩ =>
      show win0_2.index t 0 * 512 + 1 * (y 0).val = win0_7.index t 0 * 512 + 1 * (y 0).val
      rw [s0, r0]
    | ⟨1, _⟩ =>
      show win0_2.index t 1 * 1024 + 1 * (y 1).val = win0_7.index t 1 * 1024 + 1 * (y 1).val
      rw [s1, r1]

end Kernel

section Reference
open Cert.MergeReferenceIdeal Cert.MergeReferenceIdeal.Read

theorem reference_result (p0 p1 p2 : Vec Ideal S4096x1024 .bf16) (zp : Vec Ideal S4096x11264 .f32) (b : Vec Ideal S1x3072 .f32) :
    val_main_v24 (F := Ideal) p0 p1 p2 zp b = merged p0 p1 p2 zp b := by
  refine funext fun i => ?_
  show ((val_main_v24 (F := Ideal) p0 p1 p2 zp b : Vec Ideal S4096x1024 .bf16) i : EReal) = _
  unfold val_main_v24 val_main_v23 val_main_v22 val_main_v21 val_main_v20 val_main_v19 val_main_v18 val_main_v17 val_main_v16 val_main_v15
    val_main_v14 val_main_v13 val_main_v12 val_main_v11 val_main_v10 val_main_v9 val_main_v8 val_main_v7 val_main_v6 val_main_v5 val_main_v4
    val_main_v3 val_main_v2 val_main_v1 val_main_v0 val_main_cst val_main_cst_0
  pointwise
  unfold merged gateOf gate
  refine congrArg₂ (fun p q : EReal => p + q) (congrArg₂ (fun p q : EReal => p + q) ?_ ?_) ?_ <;>
    refine congrArg₂ (fun p q : EReal => p * q) (congrArg (fun z : EReal => Ideal.div 1 (1 + Ideal.exp (-z)))
      (congrArg₂ (fun p q : EReal => p + q) (congrArg (fun k => zp (ix2 (i 0) k)) (Fin.ext ?_)) (congrArg (fun k => b (ix2 0 k)) (Fin.ext ?_)))) rfl
  · show 8192 + (i 1).val = 8192 + (1024 * 0 + (i 1).val); omega
  · show (i 1).val = 1024 * 0 + (i 1).val; omega
  · show 8192 + (1024 + (i 1).val) = 8192 + (1024 * 1 + (i 1).val); omega
  · show 1024 + (i 1).val = 1024 * 1 + (i 1).val; omega
  · show 8192 + (2048 + (i 1).val) = 8192 + (1024 * 2 + (i 1).val); omega
  · show 2048 + (i 1).val = 1024 * 2 + (i 1).val; omega

end Reference

/-- From the same mixers' outputs, projection and biases the kernel and the reference end with the same merged output. -/
theorem algebraic : Cert.algebraic_MergeIdeal_MergeReferenceIdeal := by
  intro m ρ m' ρ' hpre hargs
  refine ⟨fun c => merged (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)), ?_, ?_⟩
  · exact (θ_run Cert.MergeIdeal.defs _ _).mono (fun r h c => ⟨(h c).1.trans (kernel_result m c), (h c).2⟩)
      (Cert.MergeIdeal.Value.run_blocks (F := Ideal) m ρ)
  · refine (θ_run Cert.MergeReferenceIdeal.defs _ _).mono (fun r h c => ?_) (Cert.MergeReferenceIdeal.Value.run (F := Ideal) m' ρ')
    obtain ⟨e0, e1, e2, e3, e4⟩ := hargs c
    refine ⟨(h c).1.trans ((Cert.MergeReferenceIdeal.Read.val_main_v24_eq _ _ _ _ _).trans ?_), (h c).2⟩
    rw [e0, e1, e2, e3, e4]
    exact reference_result _ _ _ _ _

end Cert.MergeGates

end
-- ==== Proof.LossHead.lean ====
module

public import proofs.«01_k».proof.Defs
public import proofs.«01_k».proof.Proof.Gen.LossIdeal.Value
public import proofs.«01_k».proof.Proof.Gen.LossReferenceIdeal.Read
public import Idealize.ShloMosaic.Lib.Pipeline.ValueKit
public import Idealize.ShloMosaic.Lib.Pointwise

/-!
# The loss and its gradient

The call adds up, over eight blocks of rows, the squares of the differences times a constant; the reference takes each row's mean first and
halves the sum of the means. Squares are not negative, so the constants move out of the sums, whether or not the differences are finite.
-/

@[expose] public section

set_option maxRecDepth 16384

noncomputable section

namespace Cert.LossHead

open Idealize.ShloMosaic Idealize.ShloMosaic.TcCoe Idealize.ShloMosaic.Tactic Idealize.SL.Sem

/-- The literals' numbers. -/
theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem features : Ideal.ofBits .f32 0x44800000#32 = ((1024 : ℝ) : EReal) := by
  simp [Ideal.ofBits, Ideal.ieee, -EReal.coe_mul]; norm_num
theorem per_feature : Ideal.ofBits .f32 0x3A800000#32 = ((1 / 1024 : ℝ) : EReal) := by
  simp [Ideal.ofBits, Ideal.ieee, -EReal.coe_mul]; norm_num
theorem half_per_feature : Ideal.ofBits .f32 0x3A000000#32 = ((1 / 2048 : ℝ) : EReal) := by
  simp [Ideal.ofBits, Ideal.ieee, -EReal.coe_mul]; norm_num

/-- A real factor that is not negative moves out of a sum. -/
theorem sum_times {ι : Type*} (s : Finset ι) (f : ι → EReal) {r : ℝ} (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih]
    exact (EReal.right_distrib_of_nonneg_of_ne_top (EReal.coe_nonneg.mpr hr) (EReal.coe_ne_top r) _ _).symm

/-- The sum of the squares of a row's differences. -/
def squares (x u : (⟨2, ![4096, 1024]⟩ : Shape).Idx → EReal) (r : Fin 4096) : EReal :=
  ∑ k : Fin 1024, (x (ix2 r k) - u (ix2 r k)) * (x (ix2 r k) - u (ix2 r k))

/-- The loss: half the sum over the positions of the mean squares. -/
def loss (x u : (⟨2, ![4096, 1024]⟩ : Shape).Idx → EReal) : (⟨2, ![1, 1]⟩ : Shape).Idx → EReal :=
  fun _ => (∑ r : Fin 4096, squares x u r) * ((1 / 2048 : ℝ) : EReal)

/-- Its gradient in the output. -/
def gradient (x u : (⟨2, ![4096, 1024]⟩ : Shape).Idx → EReal) : (⟨2, ![4096, 1024]⟩ : Shape).Idx → EReal :=
  fun i => (x i - u i) * ((1 / 1024 : ℝ) : EReal)

section Kernel
open Cert.LossIdeal Cert.LossIdeal.Gen

/-- A block of the gradient. -/
def slope (a b : Vec Ideal S512x1024 .f32) (y : S512x1024.Idx) : EReal := (a y - b y) * ((1 / 1024 : ℝ) : EReal)

theorem block_gradient (a b : Vec Ideal S512x1024 .f32) (y : S512x1024.Idx) : (k0_pay2 a b y : EReal) = slope a b y := by
  unfold k0_pay2 k0_pay1 slope
  pointwise
  rw [per_feature]

/-- What a block of rows adds to the loss. -/
def part (a b : Vec Ideal S512x1024 .f32) (y : S1x1.Idx) : EReal :=
  (∑ x : Fin 512, ∑ k : Fin 1024, (a (ix2 x k) - b (ix2 x k)) * (a (ix2 x k) - b (ix2 x k))) * ((1 / 2048 : ℝ) : EReal)

theorem first_part (a b : Vec Ideal S512x1024 .f32) (y : S1x1.Idx) : (k0_pay3 a b y : EReal) = part a b y := by
  unfold k0_pay3 k0_pay1 part
  pointwise
  rw [half_per_feature]

theorem next_part (a b : Vec Ideal S512x1024 .f32) (z : Vec Ideal S1x1 .f32) (y : S1x1.Idx) : (k0_pay4 a b z y : EReal) = z y + part a b y := by
  rw [← first_part]
  unfold k0_pay4
  pointwise

variable (m : (ℓ : Loc nD τ sig) → Buf (Elt Ideal) ℓ) (c : Dev nD)

/-- Which block each window is on at a point. -/
theorem output_at : ∀ t : Fin cfg0.N, win0_0.index t 0 = t.val ∧ win0_0.index t 1 = 0 :=
  (by decide +kernel : ∀ t : Fin grid0.N, win0_0.index t 0 = t.val ∧ win0_0.index t 1 = 0)
theorem target_at : ∀ t : Fin cfg0.N, win0_1.index t 0 = t.val ∧ win0_1.index t 1 = 0 :=
  (by decide +kernel : ∀ t : Fin grid0.N, win0_1.index t 0 = t.val ∧ win0_1.index t 1 = 0)
theorem loss_at : ∀ t : Fin cfg0.N, win0_2.index t 0 = 0 ∧ win0_2.index t 1 = 0 :=
  (by decide +kernel : ∀ t : Fin grid0.N, win0_2.index t 0 = 0 ∧ win0_2.index t 1 = 0)
theorem gradient_at : ∀ t : Fin cfg0.N, win0_3.index t 0 = t.val ∧ win0_3.index t 1 = 0 :=
  (by decide +kernel : ∀ t : Fin grid0.N, win0_3.index t 0 = t.val ∧ win0_3.index t 1 = 0)

/-- At the first point the loss is stored. -/
theorem held_first (t : Fin cfg0.N) (h : t.val % 8 = 0) (y : S1x1.Idx) :
    ((outsAt0 m c t.val t.isLt).1 y : EReal) = part (iblk m c 0 t) (iblk m c 1 t) y := by
  have ht : t.val < 8 := t.isLt
  rw [outsAt0_A m c t h (by omega)]
  frame_out
  exact first_part _ _ y

/-- At the others it is added to. -/
theorem held_next (t : Fin cfg0.N) (h : ¬t.val % 8 = 0) (y : S1x1.Idx) :
    ((outsAt0 m c t.val t.isLt).1 y : EReal)
      = (outsAt0 m c (t.val - 1) (Nat.lt_of_le_of_lt (Nat.sub_le _ _) t.isLt)).1 y + part (iblk m c 0 t) (iblk m c 1 t) y := by
  rw [outsAt0_B m c t h (by omega)]
  frame_out
  exact next_part _ _ _ y

/-- At every point the gradient's block is stored. -/
theorem held_gradient (t : Fin cfg0.N) (y : S512x1024.Idx) :
    ((outsAt0 m c t.val t.isLt).2 y : EReal) = slope (iblk m c 0 t) (iblk m c 1 t) y := by
  have ht : t.val < 8 := t.isLt
  by_cases h : t.val % 8 = 0
  · rw [outsAt0_A m c t h (by omega)]
    frame_out
    exact block_gradient _ _ y
  · rw [outsAt0_B m c t h (by omega)]
    frame_out
    exact block_gradient _ _ y

/-- The loss, after the run. -/
theorem kernel_loss : (dats m 0 c).arrAt 2 cfg0.N
    = loss (m ((c.tc : Thread nD τ).loc main_arg0)) (m ((c.tc : Thread nD τ).loc main_arg1)) := by
  refine (dats m 0 c).arrAt_eq_of_covers 2 _ (by decide +kernel) fun t hf y => ?_
  have h7 : t.val % 8 = 7 := (flush0_2 t).mp hf
  blk_simp
  rw [after0_2]
  refine (Pipeline.eq_sum_fin_of_reset_step_apply_of_flush (fun n h => ((outsAt0 m c n h).1 : S1x1.Idx → EReal)) 8 (fun _ => 0)
    (fun t y => part (iblk m c 0 t) (iblk m c 1 t) y) (fun t h i => (held_first m c t h i).trans (zero_add _).symm)
    (fun t h i => held_next m c t h i) t h7 y).trans ?_
  refine (zero_add _).trans ?_
  unfold part
  refine (sum_times _ _ (by norm_num)).trans ?_
  unfold loss squares
  refine congrArg (fun p : EReal => p * ((1 / 2048 : ℝ) : EReal)) ?_
  refine Fin.sum_mul_add_congr fun s x hl => Finset.sum_congr rfl fun k _ => congrArg (fun p : EReal => p * p) ?_
  have hs := s.isLt
  have ht : t.val < 8 := t.isLt
  obtain ⟨a0, a1⟩ := output_at ⟨8 * (t.val / 8) + s.val, Pipeline.run_point_lt_of_flush t h7 s⟩
  obtain ⟨b0, b1⟩ := target_at ⟨8 * (t.val / 8) + s.val, Pipeline.run_point_lt_of_flush t h7 s⟩
  refine congrArg₂ (fun p q : EReal => p - q) ?_ ?_
  · show (m ((c.tc : Thread nD τ).loc main_arg0) : Vec Ideal S4096x1024 .f32) _ = _
    refine congrArg (m ((c.tc : Thread nD τ).loc main_arg0) : Vec Ideal S4096x1024 .f32) (funext fun a => Fin.ext ?_)
    match a with
    | ⟨0, _⟩ =>
      show win0_0.index ⟨8 * (t.val / 8) + s.val, _⟩ 0 * 512 + 1 * x.val = s.val * 512 + x.val
      rw [a0]; dsimp only; omega
    | ⟨1, _⟩ =>
      show win0_0.index ⟨8 * (t.val / 8) + s.val, _⟩ 1 * 1024 + 1 * k.val = k.val
      rw [a1]; omega
  · show (m ((c.tc : Thread nD τ).loc main_arg1) : Vec Ideal S4096x1024 .f32) _ = _
    refine congrArg (m ((c.tc : Thread nD τ).loc main_arg1) : Vec Ideal S4096x1024 .f32) (funext fun a => Fin.ext ?_)
    match a with
    | ⟨0, _⟩ =>
      show win0_1.index ⟨8 * (t.val / 8) + s.val, _⟩ 0 * 512 + 1 * x.val = s.val * 512 + x.val
      rw [b0]; dsimp only; omega
    | ⟨1, _⟩ =>
      show win0_1.index ⟨8 * (t.val / 8) + s.val, _⟩ 1 * 1024 + 1 * k.val = k.val
      rw [b1]; omega

/-- The gradient's array, after the run. -/
theorem kernel_gradient : (dats m 0 c).arrAt 3 cfg0.N
    = gradient (m ((c.tc : Thread nD τ).loc main_arg0)) (m ((c.tc : Thread nD τ).loc main_arg1)) := by
  refine (dats m 0 c).arrAt_eq_of_covers 3 _ (by decide +kernel) fun t hf y => ?_
  blk_simp
  rw [after0_3]
  refine (held_gradient m c t y).trans ?_
  obtain ⟨a0, a1⟩ := output_at t
  obtain ⟨b0, b1⟩ := target_at t
  obtain ⟨r0, r1⟩ := gradient_at t
  unfold gradient slope
  refine congrArg (fun p : EReal => p * ((1 / 1024 : ℝ) : EReal)) (congrArg₂ (fun p q : EReal => p - q) ?_ ?_)
  · show (m ((c.tc : Thread nD τ).loc main_arg0) : Vec Ideal S4096x1024 .f32) _ = _
    refine congrArg (m ((c.tc : Thread nD τ).loc main_arg0) : Vec Ideal S4096x1024 .f32) (funext fun a => Fin.ext ?_)
    match a with
    | ⟨0, _⟩ =>
      show win0_0.index t 0 * 512 + 1 * (y 0).val = win0_3.index t 0 * 512 + 1 * (y 0).val
      rw [a0, r0]
    | ⟨1, _⟩ =>
      show win0_0.index t 1 * 1024 + 1 * (y 1).val = win0_3.index t 1 * 1024 + 1 * (y 1).val
      rw [a1, r1]
  · show (m ((c.tc : Thread nD τ).loc main_arg1) : Vec Ideal S4096x1024 .f32) _ = _
    refine congrArg (m ((c.tc : Thread nD τ).loc main_arg1) : Vec Ideal S4096x1024 .f32) (funext fun a => Fin.ext ?_)
    match a with
    | ⟨0, _⟩ =>
      show win0_1.index t 0 * 512 + 1 * (y 0).val = win0_3.index t 0 * 512 + 1 * (y 0).val
      rw [b0, r0]
    | ⟨1, _⟩ =>
      show win0_1.index t 1 * 1024 + 1 * (y 1).val = win0_3.index t 1 * 1024 + 1 * (y 1).val
      rw [b1, r1]

end Kernel

section Reference
open Cert.LossReferenceIdeal Cert.LossReferenceIdeal.Read

theorem reference_loss (x u : Vec Ideal S4096x1024 .f32) : val_main_v15 (F := Ideal) x u = loss x u := by
  refine funext fun i => ?_
  show ((val_main_v15 (F := Ideal) x u : Vec Ideal S1x1 .f32) i : EReal) = _
  unfold val_main_v15 val_main_v8 val_main_v7 val_main_v6 val_main_v5 val_main_v4 val_main_v1 val_main_v0 val_main_cst_0 val_main_cst_1
    val_main_cst_2 val_main_cst_3
  pointwise
  rw [half, features]
  simp only [Ideal.div_coe (show (1024 : ℝ) ≠ 0 by norm_num)]
  rw [sum_times _ _ (show (0 : ℝ) ≤ 1 / 1024 by norm_num), mul_comm, mul_assoc, ← EReal.coe_mul]
  unfold loss squares
  refine congrArg (fun p : ℝ => _ * (p : EReal)) ?_
  norm_num

theorem reference_gradient (x u : Vec Ideal S4096x1024 .f32) : val_main_v14 (F := Ideal) x u = gradient x u := by
  refine funext fun i => ?_
  show ((val_main_v14 (F := Ideal) x u : Vec Ideal S4096x1024 .f32) i : EReal) = _
  unfold val_main_v14 val_main_v13 val_main_v12 val_main_v11 val_main_v10 val_main_v9 val_main_v3 val_main_v2 val_main_v0 val_main_cst
    val_main_cst_4 val_main_cst_5 val_main_cst_6
  pointwise
  rw [half, features, two, Ideal.div_coe (show (1024 : ℝ) ≠ 0 by norm_num), ← mul_assoc, ← EReal.coe_mul, ← EReal.coe_mul, mul_comm]
  unfold gradient
  refine congrArg (fun p : ℝ => (x i - u i) * (p : EReal)) ?_
  norm_num

end Reference

/-- From the same output and target the kernel and the reference end with the same loss and the same gradient. -/
theorem algebraic : Cert.algebraic_LossIdeal_LossReferenceIdeal := by
  intro m ρ m' ρ' hpre hargs
  refine ⟨fun c => loss (m ((c.tc : Thread Cert.LossIdeal.nD Cert.LossIdeal.τ).loc Cert.LossIdeal.main_arg0)) (m ((c.tc : Thread Cert.LossIdeal.nD Cert.LossIdeal.τ).loc Cert.LossIdeal.main_arg1)), fun c => gradient (m ((c.tc : Thread Cert.LossIdeal.nD Cert.LossIdeal.τ).loc Cert.LossIdeal.main_arg0)) (m ((c.tc : Thread Cert.LossIdeal.nD Cert.LossIdeal.τ).loc Cert.LossIdeal.main_arg1)), ?_, ?_⟩
  · exact (θ_run Cert.LossIdeal.defs _ _).mono (fun r h c => ⟨(h c).1.trans (kernel_loss m c), (h c).2.1.trans (kernel_gradient m c), (h c).2.2⟩)
      (Cert.LossIdeal.Value.run_blocks (F := Ideal) m ρ)
  · refine (θ_run Cert.LossReferenceIdeal.defs _ _).mono (fun r h c => ?_) (Cert.LossReferenceIdeal.Value.run (F := Ideal) m' ρ')
    obtain ⟨e0, e1⟩ := hargs c
    refine ⟨(h c).1.trans ((Cert.LossReferenceIdeal.Read.val_main_v15_eq _ _).trans ?_),
      (h c).2.1.trans ((Cert.LossReferenceIdeal.Read.val_main_v14_eq _ _).trans ?_), (h c).2.2⟩
    · rw [e0, e1]
      exact reference_loss _ _
    · rw [e0, e1]
      exact reference_gradient _ _

end Cert.LossHead

end
-- ==== Proof.Optimiser.lean ====
module

public import proofs.«01_k».proof.Defs
public import proofs.«01_k».proof.Proof.Gen.AdamWIdeal.Value
public import proofs.«01_k».proof.Proof.Gen.AdamWReferenceIdeal.Read
public import Idealize.ShloMosaic.Lib.Pipeline.ValueKit
public import Idealize.ShloMosaic.Lib.Pointwise

/-!
# A step of the optimiser

The call computes every entry's new moments and change of the weight from that entry alone, so its arrays are the reference's at every
index.
-/

@[expose] public section

set_option maxRecDepth 16384

noncomputable section

namespace Cert.Optimiser

open Idealize.ShloMosaic Idealize.ShloMosaic.TcCoe Idealize.ShloMosaic.Tactic Idealize.SL.Sem

/-- The new first moment of an entry, from its gradient and its first moment. -/
def first (g m : EReal) : EReal := Ideal.ofBits .f32 0x3F666666#32 * m + Ideal.ofBits .f32 0x3DCCCCCD#32 * g

/-- The new second moment of an entry. -/
def second (g v : EReal) : EReal := Ideal.ofBits .f32 0x3F7FBE77#32 * v + Ideal.ofBits .f32 0x3A83126F#32 * (g * g)

/-- The change of an entry of the weight. -/
def change (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

section Kernel
open Cert.AdamWIdeal Cert.AdamWIdeal.Gen

theorem block_change (g m v w : Vec Ideal S1x256x1024 .f32) (y : S1x256x1024.Idx) :
    (k0_pay1 (k0_pay4 g m v w) k0_pay5 y : EReal) = change (w y) (g y) (m y) (v y) := by
  unfold k0_pay1 k0_pay4 k0_pay5 k0_pay3 k0_pay2 change first second
  pointwise

theorem block_first (g m : Vec Ideal S1x256x1024 .f32) (y : S1x256x1024.Idx) : (k0_pay2 g m y : EReal) = first (g y) (m y) := by
  unfold k0_pay2 first
  pointwise

theorem block_second (g v : Vec Ideal S1x256x1024 .f32) (y : S1x256x1024.Idx) : (k0_pay3 g v y : EReal) = second (g y) (v y) := by
  unfold k0_pay3 second
  pointwise

variable (m : (ℓ : Loc nD τ sig) → Buf (Elt Ideal) ℓ) (c : Dev nD)

/-- Every window is on its whole array. -/
theorem weight_at : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)
theorem gradient_at : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem first_at : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem second_at : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem change_at : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem new_first_at : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem new_second_at : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)

/-- The result array `0`, after the run. -/
theorem kernel_change : (dats m 0 c).arrAt 4 cfg0.N = fun i => change ((m ((c.tc : Thread nD τ).loc main_arg0) : Vec Ideal S1x256x1024 .f32) i) ((m ((c.tc : Thread nD τ).loc main_arg1) : Vec Ideal S1x256x1024 .f32) i) ((m ((c.tc : Thread nD τ).loc main_arg2) : Vec Ideal S1x256x1024 .f32) i) ((m ((c.tc : Thread nD τ).loc main_arg3) : Vec Ideal S1x256x1024 .f32) i) := by
  refine (dats m 0 c).arrAt_eq_of_covers 4 _ (by decide +kernel) fun t hf y => ?_
  blk_simp
  rw [after0_4]
  frame_out
  obtain ⟨a0_0, a0_1, a0_2⟩ := weight_at t
  obtain ⟨a1_0, a1_1, a1_2⟩ := gradient_at t
  obtain ⟨a2_0, a2_1, a2_2⟩ := first_at t
  obtain ⟨a3_0, a3_1, a3_2⟩ := second_at t
  obtain ⟨r0, r1, r2⟩ := change_at t
  refine (block_change (iblk m c 1 t) (iblk m c 2 t) (iblk m c 3 t) (iblk m c 0 t) y).trans ?_
  refine congr (congr (congr (congrArg change ?_) ?_) ?_) ?_
  · show (m ((c.tc : Thread nD τ).loc main_arg0) : Vec Ideal S1x256x1024 .f32) _ = _
    refine congrArg (m ((c.tc : Thread nD τ).loc main_arg0) : Vec Ideal S1x256x1024 .f32) (funext fun a => Fin.ext ?_)
    match a with
    | ⟨0, _⟩ =>
      show win0_0.index t 0 * 1 + 1 * (y 0).val = win0_4.index t 0 * 1 + 1 * (y 0).val
      rw [a0_0, r0]
    | ⟨1, _⟩ =>
      show win0_0.index t 1 * 256 + 1 * (y 1).val = win0_4.index t 1 * 256 + 1 * (y 1).val
      rw [a0_1, r1]
    | ⟨2, _⟩ =>
      show win0_0.index t 2 * 1024 + 1 * (y 2).val = win0_4.index t 2 * 1024 + 1 * (y 2).val
      rw [a0_2, r2]
  · show (m ((c.tc : Thread nD τ).loc main_arg1) : Vec Ideal S1x256x1024 .f32) _ = _
    refine congrArg (m ((c.tc : Thread nD τ).loc main_arg1) : Vec Ideal S1x256x1024 .f32) (funext fun a => Fin.ext ?_)
    match a with
    | ⟨0, _⟩ =>
      show win0_1.index t 0 * 1 + 1 * (y 0).val = win0_4.index t 0 * 1 + 1 * (y 0).val
      rw [a1_0, r0]
    | ⟨1, _⟩ =>
      show win0_1.index t 1 * 256 + 1 * (y 1).val = win0_4.index t 1 * 256 + 1 * (y 1).val
      rw [a1_1, r1]
    | ⟨2, _⟩ =>
      show win0_1.index t 2 * 1024 + 1 * (y 2).val = win0_4.index t 2 * 1024 + 1 * (y 2).val
      rw [a1_2, r2]
  · show (m ((c.tc : Thread nD τ).loc main_arg2) : Vec Ideal S1x256x1024 .f32) _ = _
    refine congrArg (m ((c.tc : Thread nD τ).loc main_arg2) : Vec Ideal S1x256x1024 .f32) (funext fun a => Fin.ext ?_)
    match a with
    | ⟨0, _⟩ =>
      show win0_2.index t 0 * 1 + 1 * (y 0).val = win0_4.index t 0 * 1 + 1 * (y 0).val
      rw [a2_0, r0]
    | ⟨1, _⟩ =>
      show win0_2.index t 1 * 256 + 1 * (y 1).val = win0_4.index t 1 * 256 + 1 * (y 1).val
      rw [a2_1, r1]
    | ⟨2, _⟩ =>
      show win0_2.index t 2 * 1024 + 1 * (y 2).val = win0_4.index t 2 * 1024 + 1 * (y 2).val
      rw [a2_2, r2]
  · show (m ((c.tc : Thread nD τ).loc main_arg3) : Vec Ideal S1x256x1024 .f32) _ = _
    refine congrArg (m ((c.tc : Thread nD τ).loc main_arg3) : Vec Ideal S1x256x1024 .f32) (funext fun a => Fin.ext ?_)
    match a with
    | ⟨0, _⟩ =>
      show win0_3.index t 0 * 1 + 1 * (y 0).val = win0_4.index t 0 * 1 + 1 * (y 0).val
      rw [a3_0, r0]
    | ⟨1, _⟩ =>
      show win0_3.index t 1 * 256 + 1 * (y 1).val = win0_4.index t 1 * 256 + 1 * (y 1).val
      rw [a3_1, r1]
    | ⟨2, _⟩ =>
      show win0_3.index t 2 * 1024 + 1 * (y 2).val = win0_4.index t 2 * 1024 + 1 * (y 2).val
      rw [a3_2, r2]

/-- The result array `1`, after the run. -/
theorem kernel_first : (dats m 0 c).arrAt 5 cfg0.N = fun i => first ((m ((c.tc : Thread nD τ).loc main_arg1) : Vec Ideal S1x256x1024 .f32) i) ((m ((c.tc : Thread nD τ).loc main_arg2) : Vec Ideal S1x256x1024 .f32) i) := by
  refine (dats m 0 c).arrAt_eq_of_covers 5 _ (by decide +kernel) fun t hf y => ?_
  blk_simp
  rw [after0_5]
  frame_out
  obtain ⟨a1_0, a1_1, a1_2⟩ := gradient_at t
  obtain ⟨a2_0, a2_1, a2_2⟩ := first_at t
  obtain ⟨r0, r1, r2⟩ := new_first_at t
  refine (block_first (iblk m c 1 t) (iblk m c 2 t) y).trans ?_
  refine congr (congrArg first ?_) ?_
  · show (m ((c.tc : Thread nD τ).loc main_arg1) : Vec Ideal S1x256x1024 .f32) _ = _
    refine congrArg (m ((c.tc : Thread nD τ).loc main_arg1) : Vec Ideal S1x256x1024 .f32) (funext fun a => Fin.ext ?_)
    match a with
    | ⟨0, _⟩ =>
      show win0_1.index t 0 * 1 + 1 * (y 0).val = win0_5.index t 0 * 1 + 1 * (y 0).val
      rw [a1_0, r0]
    | ⟨1, _⟩ =>
      show win0_1.index t 1 * 256 + 1 * (y 1).val = win0_5.index t 1 * 256 + 1 * (y 1).val
      rw [a1_1, r1]
    | ⟨2, _⟩ =>
      show win0_1.index t 2 * 1024 + 1 * (y 2).val = win0_5.index t 2 * 1024 + 1 * (y 2).val
      rw [a1_2, r2]
  · show (m ((c.tc : Thread nD τ).loc main_arg2) : Vec Ideal S1x256x1024 .f32) _ = _
    refine congrArg (m ((c.tc : Thread nD τ).loc main_arg2) : Vec Ideal S1x256x1024 .f32) (funext fun a => Fin.ext ?_)
    match a with
    | ⟨0, _⟩ =>
      show win0_2.index t 0 * 1 + 1 * (y 0).val = win0_5.index t 0 * 1 + 1 * (y 0).val
      rw [a2_0, r0]
    | ⟨1, _⟩ =>
      show win0_2.index t 1 * 256 + 1 * (y 1).val = win0_5.index t 1 * 256 + 1 * (y 1).val
      rw [a2_1, r1]
    | ⟨2, _⟩ =>
      show win0_2.index t 2 * 1024 + 1 * (y 2).val = win0_5.index t 2 * 1024 + 1 * (y 2).val
      rw [a2_2, r2]

/-- The result array `2`, after the run. -/
theorem kernel_second : (dats m 0 c).arrAt 6 cfg0.N = fun i => second ((m ((c.tc : Thread nD τ).loc main_arg1) : Vec Ideal S1x256x1024 .f32) i) ((m ((c.tc : Thread nD τ).loc main_arg3) : Vec Ideal S1x256x1024 .f32) i) := by
  refine (dats m 0 c).arrAt_eq_of_covers 6 _ (by decide +kernel) fun t hf y => ?_
  blk_simp
  rw [after0_6]
  frame_out
  obtain ⟨a1_0, a1_1, a1_2⟩ := gradient_at t
  obtain ⟨a3_0, a3_1, a3_2⟩ := second_at t
  obtain ⟨r0, r1, r2⟩ := new_second_at t
  refine (block_second (iblk m c 1 t) (iblk m c 3 t) y).trans ?_
  refine congr (congrArg second ?_) ?_
  · show (m ((c.tc : Thread nD τ).loc main_arg1) : Vec Ideal S1x256x1024 .f32) _ = _
    refine congrArg (m ((c.tc : Thread nD τ).loc main_arg1) : Vec Ideal S1x256x1024 .f32) (funext fun a => Fin.ext ?_)
    match a with
    | ⟨0, _⟩ =>
      show win0_1.index t 0 * 1 + 1 * (y 0).val = win0_6.index t 0 * 1 + 1 * (y 0).val
      rw [a1_0, r0]
    | ⟨1, _⟩ =>
      show win0_1.index t 1 * 256 + 1 * (y 1).val = win0_6.index t 1 * 256 + 1 * (y 1).val
      rw [a1_1, r1]
    | ⟨2, _⟩ =>
      show win0_1.index t 2 * 1024 + 1 * (y 2).val = win0_6.index t 2 * 1024 + 1 * (y 2).val
      rw [a1_2, r2]
  · show (m ((c.tc : Thread nD τ).loc main_arg3) : Vec Ideal S1x256x1024 .f32) _ = _
    refine congrArg (m ((c.tc : Thread nD τ).loc main_arg3) : Vec Ideal S1x256x1024 .f32) (funext fun a => Fin.ext ?_)
    match a with
    | ⟨0, _⟩ =>
      show win0_3.index t 0 * 1 + 1 * (y 0).val = win0_6.index t 0 * 1 + 1 * (y 0).val
      rw [a3_0, r0]
    | ⟨1, _⟩ =>
      show win0_3.index t 1 * 256 + 1 * (y 1).val = win0_6.index t 1 * 256 + 1 * (y 1).val
      rw [a3_1, r1]
    | ⟨2, _⟩ =>
      show win0_3.index t 2 * 1024 + 1 * (y 2).val = win0_6.index t 2 * 1024 + 1 * (y 2).val
      rw [a3_2, r2]

end Kernel

section Reference
open Cert.AdamWReferenceIdeal Cert.AdamWReferenceIdeal.Read

theorem reference_change (w g m v : Vec Ideal S1x256x1024 .f32) :
    val_main_v23 (F := Ideal) w g m v = fun i => change (w i) (g i) (m i) (v i) := by
  refine funext fun i => ?_
  show ((val_main_v23 (F := Ideal) w g m v : Vec Ideal S1x256x1024 .f32) i : EReal) = _
  unfold val_main_v23 val_main_v22 val_main_v21 val_main_v20 val_main_v19 val_main_v18 val_main_v17 val_main_v16 val_main_v15 val_main_v14
    val_main_v13 val_main_v12 val_main_v11 val_main_v10 val_main_v9 val_main_v8 val_main_v7 val_main_v6 val_main_v5 val_main_v4 val_main_v3
    val_main_v2 val_main_v1 val_main_v0 val_main_cst val_main_cst_0 val_main_cst_1 val_main_cst_2 val_main_cst_3 val_main_cst_4 val_main_cst_5
    val_main_cst_6 val_main_cst_7 change first second
  pointwise

theorem reference_first (g m : Vec Ideal S1x256x1024 .f32) : val_main_v4 (F := Ideal) g m = fun i => first (g i) (m i) := by
  refine funext fun i => ?_
  show ((val_main_v4 (F := Ideal) g m : Vec Ideal S1x256x1024 .f32) i : EReal) = _
  unfold val_main_v4 val_main_v3 val_main_v2 val_main_v1 val_main_v0 val_main_cst val_main_cst_0 first
  pointwise

theorem reference_second (g v : Vec Ideal S1x256x1024 .f32) : val_main_v10 (F := Ideal) g v = fun i => second (g i) (v i) := by
  refine funext fun i => ?_
  show ((val_main_v10 (F := Ideal) g v : Vec Ideal S1x256x1024 .f32) i : EReal) = _
  unfold val_main_v10 val_main_v9 val_main_v8 val_main_v7 val_main_v6 val_main_v5 val_main_cst_1 val_main_cst_2 second
  pointwise

end Reference

/-- From the same weight, gradient and moments the kernel and the reference end with the same change and the same new moments. -/
theorem algebraic : Cert.algebraic_AdamWIdeal_AdamWReferenceIdeal := by
  intro m ρ m' ρ' hpre hargs
  refine ⟨fun c i => change ((m ((c.tc : Thread Cert.AdamWIdeal.nD Cert.AdamWIdeal.τ).loc Cert.AdamWIdeal.main_arg0) : Vec Ideal Cert.AdamWIdeal.S1x256x1024 .f32) i) ((m ((c.tc : Thread Cert.AdamWIdeal.nD Cert.AdamWIdeal.τ).loc Cert.AdamWIdeal.main_arg1) : Vec Ideal Cert.AdamWIdeal.S1x256x1024 .f32) i) ((m ((c.tc : Thread Cert.AdamWIdeal.nD Cert.AdamWIdeal.τ).loc Cert.AdamWIdeal.main_arg2) : Vec Ideal Cert.AdamWIdeal.S1x256x1024 .f32) i) ((m ((c.tc : Thread Cert.AdamWIdeal.nD Cert.AdamWIdeal.τ).loc Cert.AdamWIdeal.main_arg3) : Vec Ideal Cert.AdamWIdeal.S1x256x1024 .f32) i),
    fun c i => first ((m ((c.tc : Thread Cert.AdamWIdeal.nD Cert.AdamWIdeal.τ).loc Cert.AdamWIdeal.main_arg1) : Vec Ideal Cert.AdamWIdeal.S1x256x1024 .f32) i) ((m ((c.tc : Thread Cert.AdamWIdeal.nD Cert.AdamWIdeal.τ).loc Cert.AdamWIdeal.main_arg2) : Vec Ideal Cert.AdamWIdeal.S1x256x1024 .f32) i),
    fun c i => second ((m ((c.tc : Thread Cert.AdamWIdeal.nD Cert.AdamWIdeal.τ).loc Cert.AdamWIdeal.main_arg1) : Vec Ideal Cert.AdamWIdeal.S1x256x1024 .f32) i) ((m ((c.tc : Thread Cert.AdamWIdeal.nD Cert.AdamWIdeal.τ).loc Cert.AdamWIdeal.main_arg3) : Vec Ideal Cert.AdamWIdeal.S1x256x1024 .f32) i), ?_, ?_⟩
  · exact (θ_run Cert.AdamWIdeal.defs _ _).mono (fun r h c => ⟨(h c).1.trans (kernel_change m c), (h c).2.1.trans (kernel_first m c),
      (h c).2.2.1.trans (kernel_second m c), (h c).2.2.2⟩) (Cert.AdamWIdeal.Value.run_blocks (F := Ideal) m ρ)
  · refine (θ_run Cert.AdamWReferenceIdeal.defs _ _).mono (fun r h c => ?_) (Cert.AdamWReferenceIdeal.Value.run (F := Ideal) m' ρ')
    obtain ⟨e0, e1, e2, e3⟩ := hargs c
    refine ⟨(h c).1.trans ((Cert.AdamWReferenceIdeal.Read.val_main_v23_eq _ _ _ _).trans ?_),
      (h c).2.1.trans ((Cert.AdamWReferenceIdeal.Read.val_main_v4_eq _ _).trans ?_),
      (h c).2.2.1.trans ((Cert.AdamWReferenceIdeal.Read.val_main_v10_eq _ _).trans ?_), (h c).2.2.2⟩
    · rw [e0, e1, e2, e3]
      exact reference_change _ _ _ _
    · rw [e1, e2]
      exact reference_first _ _
    · rw [e1, e3]
      exact reference_second _ _

end Cert.Optimiser

end
-- ==== Proof.GateGradient.lean ====
module

public import proofs.«01_k».proof.Proof.MergeGates

/-!
# The gradients of a gate

What the three calls that take the merged output's gradient back through the gates leave, in terms of one mixer's gate: the gradient of
the mixer's output, the gradient of the projection's columns the gate is read from, the other columns kept, and the gradient of the bias.
-/

@[expose] public section

noncomputable section

namespace Cert.GateGradient

open Idealize.ShloMosaic Idealize.ShloMosaic.TcCoe Idealize.ShloMosaic.Tactic Idealize.SL.Sem
open Cert.MergeGates (gate)

/-- The gate of mixer `j`, whose bias is `b`, at a position and a feature. -/
def opened (zp : (⟨2, ![4096, 11264]⟩ : Shape).Idx → EReal) (b : (⟨2, ![1, 1024]⟩ : Shape).Idx → EReal) (j : Fin 3)
    (i : (⟨2, ![4096, 1024]⟩ : Shape).Idx) : EReal :=
  gate (zp (ix2 (i 0) ⟨8192 + 1024 * j.val + (i 1).val, by have h : (i 1).val < 1024 := (i 1).isLt; have hj := j.isLt; omega⟩) + b (ix2 0 (i 1)))

/-- The gradient of the mixer's output. -/
def mixer (dm : (⟨2, ![4096, 1024]⟩ : Shape).Idx → EReal) (zp : (⟨2, ![4096, 11264]⟩ : Shape).Idx → EReal)
    (b : (⟨2, ![1, 1024]⟩ : Shape).Idx → EReal) (j : Fin 3) : (⟨2, ![4096, 1024]⟩ : Shape).Idx → EReal :=
  fun i => dm i * opened zp b j i

/-- The gradient of what the gate is taken of. -/
def slopeOf (dm p : (⟨2, ![4096, 1024]⟩ : Shape).Idx → EReal) (zp : (⟨2, ![4096, 11264]⟩ : Shape).Idx → EReal)
    (b : (⟨2, ![1, 1024]⟩ : Shape).Idx → EReal) (j : Fin 3) : (⟨2, ![4096, 1024]⟩ : Shape).Idx → EReal :=
  fun i => dm i * p i * opened zp b j i * (1 - opened zp b j i)

/-- The gradient of the bias: the sum over the positions. -/
def bias (dm p : (⟨2, ![4096, 1024]⟩ : Shape).Idx → EReal) (zp : (⟨2, ![4096, 11264]⟩ : Shape).Idx → EReal)
    (b : (⟨2, ![1, 1024]⟩ : Shape).Idx → EReal) (j : Fin 3) : (⟨2, ![1, 1024]⟩ : Shape).Idx → EReal :=
  fun i => ∑ r : Fin 4096, slopeOf dm p zp b j (ix2 r (i 1))

/-- The gradient of the projection: the gate's columns written, the other columns as they were. -/
def projection (dm p : (⟨2, ![4096, 1024]⟩ : Shape).Idx → EReal) (zp : (⟨2, ![4096, 11264]⟩ : Shape).Idx → EReal)
    (b : (⟨2, ![1, 1024]⟩ : Shape).Idx → EReal) (dz : (⟨2, ![4096, 11264]⟩ : Shape).Idx → EReal) (j : Fin 3) :
    (⟨2, ![4096, 11264]⟩ : Shape).Idx → EReal :=
  fun i => if h : 8192 + 1024 * j.val ≤ (i 1).val ∧ (i 1).val < 8192 + 1024 * j.val + 1024 then
    slopeOf dm p zp b j (ix2 (i 0) ⟨(i 1).val - (8192 + 1024 * j.val), by omega⟩) else dz i

/-- Inside the gate's columns. -/
theorem projection_inside (dm p : (⟨2, ![4096, 1024]⟩ : Shape).Idx → EReal) (zp : (⟨2, ![4096, 11264]⟩ : Shape).Idx → EReal)
    (b : (⟨2, ![1, 1024]⟩ : Shape).Idx → EReal) (dz : (⟨2, ![4096, 11264]⟩ : Shape).Idx → EReal) (j : Fin 3)
    (i : (⟨2, ![4096, 11264]⟩ : Shape).Idx) (k : (⟨2, ![4096, 1024]⟩ : Shape).Idx) (h0 : (i 0).val = (k 0).val)
    (h1 : (i 1).val = 8192 + 1024 * j.val + (k 1).val) : projection dm p zp b dz j i = slopeOf dm p zp b j k := by
  have hk : (k 1).val < 1024 := (k 1).isLt
  unfold projection
  rw [dif_pos ⟨by omega, by omega⟩]
  refine congrArg (slopeOf dm p zp b j) (funext fun a => Fin.ext ?_)
  match a with
  | ⟨0, _⟩ => exact h0
  | ⟨1, _⟩ =>
    show (i 1).val - (8192 + 1024 * j.val) = (k 1).val
    omega

/-- Outside them. -/
theorem projection_outside (dm p : (⟨2, ![4096, 1024]⟩ : Shape).Idx → EReal) (zp : (⟨2, ![4096, 11264]⟩ : Shape).Idx → EReal)
    (b : (⟨2, ![1, 1024]⟩ : Shape).Idx → EReal) (dz : (⟨2, ![4096, 11264]⟩ : Shape).Idx → EReal) (j : Fin 3)
    (i : (⟨2, ![4096, 11264]⟩ : Shape).Idx) (h : ¬(8192 + 1024 * j.val ≤ (i 1).val ∧ (i 1).val < 8192 + 1024 * j.val + 1024)) :
    projection dm p zp b dz j i = dz i := by
  unfold projection
  rw [dif_neg h]

/-- An entry named by its coordinates. -/
theorem same_entry (dz : (⟨2, ![4096, 11264]⟩ : Shape).Idx → EReal) (i : (⟨2, ![4096, 11264]⟩ : Shape).Idx) (k : Fin 11264)
    (h : k.val = (i 1).val) : dz (ix2 (i 0) k) = dz i := by
  refine congrArg dz (funext fun a => Fin.ext ?_)
  match a with
  | ⟨0, _⟩ => rfl
  | ⟨1, _⟩ => exact h

/-- Where a column of the gate is among the gate's columns, and where a position is in its block. -/
theorem column_lt (j n : ℕ) (h : 8192 + 1024 * j ≤ n ∧ n < 8192 + 1024 * j + 1024) : n - (8192 + 1024 * j) < 1024 := by omega
theorem column_eq (j n : ℕ) (h : 8192 + 1024 * j ≤ n ∧ n < 8192 + 1024 * j + 1024) :
    n = (8 + j) * 1024 + 1 * (n - (8192 + 1024 * j)) := by omega
theorem column_of (j n : ℕ) : (8 + j) * 1024 + 1 * n = 8192 + 1024 * j + n := by omega
theorem column_in (j n : ℕ) (h : n < 1024) : 8192 + 1024 * j ≤ (8 + j) * 1024 + 1 * n ∧ (8 + j) * 1024 + 1 * n < 8192 + 1024 * j + 1024 := by
  omega
theorem row_eq (n : ℕ) : n = n / 512 * 512 + 1 * (n % 512) := by omega
theorem row_lt (n : ℕ) (h : n < 4096) : n / 512 < 8 := by omega
theorem row_of (t n : ℕ) (ht : t < 8) (h : n < 512) : t * 512 + n < 4096 := by omega
theorem point_of (t s x : ℕ) (ht : t < 8) : (8 * (t / 8) + s) * 512 + x = s * 512 + x := by omega
theorem feature_of (n : ℕ) : 0 * 1024 + 1 * n = n := by omega

end Cert.GateGradient

end
-- ==== Proof.GateGradientLru.lean ====
module

public import proofs.«01_k».proof.Defs
public import proofs.«01_k».proof.Proof.Gen.GateLruIdeal.Value
public import proofs.«01_k».proof.Proof.Gen.GateLruReferenceIdeal.Read
public import proofs.«01_k».proof.Proof.GateGradient
public import Idealize.ShloMosaic.Lib.Pipeline.ValueKit
public import Idealize.ShloMosaic.Lib.Pointwise

/-!
# The gradients of the gate of the recurrence

Every block of rows is written at its place in the gate's columns of the projection's gradient, whose other columns stay as they were. The
bias's gradient is added up over eight blocks of rows.
-/

@[expose] public section

set_option maxRecDepth 16384

noncomputable section

namespace Cert.GateGradientLru

open Idealize.ShloMosaic Idealize.ShloMosaic.TcCoe Idealize.ShloMosaic.Tactic Idealize.SL.Sem
open Cert.MergeGates (gate)
open Cert.GateGradient (opened mixer slopeOf bias projection projection_inside projection_outside column_lt column_eq column_of column_in row_eq row_lt
  row_of point_of feature_of same_entry)

section Kernel
open Cert.GateLruIdeal Cert.GateLruIdeal.Gen

/-- A block's gate. -/
def blockGate (z : Vec Ideal S512x1024 .f32) (b : Vec Ideal S1x1024 .f32) (y : S512x1024.Idx) : EReal := gate (z y + b (ix2 0 (y 1)))

theorem block_gate (z : Vec Ideal S512x1024 .f32) (b : Vec Ideal S1x1024 .f32) (y : S512x1024.Idx) :
    (k0_pay1 z b y : EReal) = blockGate z b y := by
  unfold k0_pay1 blockGate gate
  pointwise
  simp only [zero_sub]

/-- A block's gradient of the mixer's output. -/
def blockMixer (z : Vec Ideal S512x1024 .f32) (b : Vec Ideal S1x1024 .f32) (d : Vec Ideal S512x1024 .bf16) (y : S512x1024.Idx) : EReal :=
  d y * blockGate z b y

theorem block_mixer (z : Vec Ideal S512x1024 .f32) (b : Vec Ideal S1x1024 .f32) (d : Vec Ideal S512x1024 .bf16) (y : S512x1024.Idx) :
    (k0_pay3 z b d y : EReal) = blockMixer z b d y := by
  unfold blockMixer
  rw [← block_gate]
  unfold k0_pay3 k0_pay2
  pointwise

/-- A block's gradient of what the gate is taken of. -/
def blockSlope (z : Vec Ideal S512x1024 .f32) (b : Vec Ideal S1x1024 .f32) (d p : Vec Ideal S512x1024 .bf16) (y : S512x1024.Idx) : EReal :=
  d y * p y * blockGate z b y * (1 - blockGate z b y)

theorem block_inner (z : Vec Ideal S512x1024 .f32) (b : Vec Ideal S1x1024 .f32) (d p : Vec Ideal S512x1024 .bf16) (y : S512x1024.Idx) :
    (k0_pay4 z b d p y : EReal) = blockSlope z b d p y := by
  unfold blockSlope
  rw [← block_gate]
  unfold k0_pay4 k0_pay2
  pointwise

theorem block_slope (z : Vec Ideal S512x1024 .f32) (b : Vec Ideal S1x1024 .f32) (d p : Vec Ideal S512x1024 .bf16) (y : S512x1024.Idx) :
    (k0_pay5 z b d p y : EReal) = blockSlope z b d p y := by
  rw [← block_inner]
  unfold k0_pay5
  pointwise

/-- What a block of rows adds to the bias's gradient. -/
def part (z : Vec Ideal S512x1024 .f32) (b : Vec Ideal S1x1024 .f32) (d p : Vec Ideal S512x1024 .bf16) (y : S1x1024.Idx) : EReal :=
  ∑ x : Fin 512, blockSlope z b d p (ix2 x (y 1))

theorem first_part (z : Vec Ideal S512x1024 .f32) (b : Vec Ideal S1x1024 .f32) (d p : Vec Ideal S512x1024 .bf16) (y : S1x1024.Idx) :
    (k0_pay6 z b d p y : EReal) = part z b d p y := by
  unfold part
  simp only [← block_inner]
  unfold k0_pay6
  pointwise

theorem next_part (z : Vec Ideal S512x1024 .f32) (b : Vec Ideal S1x1024 .f32) (d p : Vec Ideal S512x1024 .bf16) (w : Vec Ideal S1x1024 .f32)
    (y : S1x1024.Idx) : (k0_pay7 z b d p w y : EReal) = w y + part z b d p y := by
  rw [← first_part]
  unfold k0_pay7
  pointwise

variable (m : (ℓ : Loc nD τ sig) → Buf (Elt Ideal) ℓ) (c : Dev nD)

/-- Which block each window is on at a point. -/
theorem merged_at : ∀ t : Fin cfg0.N, win0_0.index t 0 = t.val ∧ win0_0.index t 1 = 0 :=
  (by decide +kernel : ∀ t : Fin grid0.N, win0_0.index t 0 = t.val ∧ win0_0.index t 1 = 0)
theorem mixer_at : ∀ t : Fin cfg0.N, win0_1.index t 0 = t.val ∧ win0_1.index t 1 = 0 :=
  (by decide +kernel : ∀ t : Fin grid0.N, win0_1.index t 0 = t.val ∧ win0_1.index t 1 = 0)
theorem columns_at : ∀ t : Fin cfg0.N, win0_2.index t 0 = t.val ∧ win0_2.index t 1 = 8 + 0 :=
  (by decide +kernel : ∀ t : Fin grid0.N, win0_2.index t 0 = t.val ∧ win0_2.index t 1 = 8 + 0)
theorem bias_at : ∀ t : Fin cfg0.N, win0_3.index t 0 = 0 ∧ win0_3.index t 1 = 0 :=
  (by decide +kernel : ∀ t : Fin grid0.N, win0_3.index t 0 = 0 ∧ win0_3.index t 1 = 0)
theorem projection_at : ∀ t : Fin cfg0.N, win0_4.index t 0 = t.val ∧ win0_4.index t 1 = 8 + 0 :=
  (by decide +kernel : ∀ t : Fin grid0.N, win0_4.index t 0 = t.val ∧ win0_4.index t 1 = 8 + 0)
theorem output_at : ∀ t : Fin cfg0.N, win0_5.index t 0 = t.val ∧ win0_5.index t 1 = 0 :=
  (by decide +kernel : ∀ t : Fin grid0.N, win0_5.index t 0 = t.val ∧ win0_5.index t 1 = 0)
theorem sum_at : ∀ t : Fin cfg0.N, win0_6.index t 0 = 0 ∧ win0_6.index t 1 = 0 :=
  (by decide +kernel : ∀ t : Fin grid0.N, win0_6.index t 0 = 0 ∧ win0_6.index t 1 = 0)

/-- The projection's gradient holds its operand's contents when the blocks start. -/
theorem copied : V m c main_v0_0 = m ((c.tc : Thread nD τ).loc main_arg4) := by
  unfold V hostOps0
  rw [StableHlo.after_cons, StableHlo.after_nil]
  exact StableHlo.unary_result ..

/-- A block's entry of the merged output's gradient. -/
theorem staged_merged (t : Fin cfg0.N) (y : S512x1024.Idx) (i : S4096x1024.Idx) (h0 : t.val * 512 + (y 0).val = (i 0).val)
    (h1 : (y 1).val = (i 1).val) : iblk m c 0 t y = (m ((c.tc : Thread nD τ).loc main_arg0) : Vec Ideal S4096x1024 .bf16) i := by
  obtain ⟨a0, a1⟩ := merged_at t
  show (V m c main_arg0 : Vec Ideal S4096x1024 .bf16) _ = _
  rw [V_main_arg0 m c]
  refine congrArg (m ((c.tc : Thread nD τ).loc main_arg0) : Vec Ideal S4096x1024 .bf16) (funext fun a => Fin.ext ?_)
  match a with
  | ⟨0, _⟩ =>
    show win0_0.index t 0 * 512 + 1 * (y 0).val = (i 0).val
    rw [a0, one_mul]; exact h0
  | ⟨1, _⟩ =>
    show win0_0.index t 1 * 1024 + 1 * (y 1).val = (i 1).val
    rw [a1, feature_of]; exact h1

/-- A block's entry of the mixer's output. -/
theorem staged_mixer (t : Fin cfg0.N) (y : S512x1024.Idx) (i : S4096x1024.Idx) (h0 : t.val * 512 + (y 0).val = (i 0).val)
    (h1 : (y 1).val = (i 1).val) : iblk m c 1 t y = (m ((c.tc : Thread nD τ).loc main_arg1) : Vec Ideal S4096x1024 .bf16) i := by
  obtain ⟨a0, a1⟩ := mixer_at t
  show (V m c main_arg1 : Vec Ideal S4096x1024 .bf16) _ = _
  rw [V_main_arg1 m c]
  refine congrArg (m ((c.tc : Thread nD τ).loc main_arg1) : Vec Ideal S4096x1024 .bf16) (funext fun a => Fin.ext ?_)
  match a with
  | ⟨0, _⟩ =>
    show win0_1.index t 0 * 512 + 1 * (y 0).val = (i 0).val
    rw [a0, one_mul]; exact h0
  | ⟨1, _⟩ =>
    show win0_1.index t 1 * 1024 + 1 * (y 1).val = (i 1).val
    rw [a1, feature_of]; exact h1

/-- A block's gate is the mixer's. -/
theorem staged_gate (t : Fin cfg0.N) (y : S512x1024.Idx) (i : S4096x1024.Idx) (h0 : t.val * 512 + (y 0).val = (i 0).val)
    (h1 : (y 1).val = (i 1).val) : blockGate (iblk m c 2 t) (iblk m c 3 t) y
      = opened (m ((c.tc : Thread nD τ).loc main_arg2)) (m ((c.tc : Thread nD τ).loc main_arg3)) 0 i := by
  obtain ⟨a0, a1⟩ := columns_at t
  obtain ⟨b0, b1⟩ := bias_at t
  unfold blockGate opened
  refine congrArg gate (congrArg₂ (fun p q : EReal => p + q) ?_ ?_)
  · show (V m c main_arg2 : Vec Ideal S4096x11264 .f32) _ = _
    rw [V_main_arg2 m c]
    refine congrArg (m ((c.tc : Thread nD τ).loc main_arg2) : Vec Ideal S4096x11264 .f32) (funext fun a => Fin.ext ?_)
    match a with
    | ⟨0, _⟩ =>
      show win0_2.index t 0 * 512 + 1 * (y 0).val = (i 0).val
      rw [a0, one_mul]; exact h0
    | ⟨1, _⟩ =>
      show win0_2.index t 1 * 1024 + 1 * (y 1).val = 8192 + 1024 * 0 + (i 1).val
      rw [a1, column_of, h1]
  · show (V m c main_arg3 : Vec Ideal S1x1024 .f32) _ = _
    rw [V_main_arg3 m c]
    refine congrArg (m ((c.tc : Thread nD τ).loc main_arg3) : Vec Ideal S1x1024 .f32) (funext fun a => Fin.ext ?_)
    match a with
    | ⟨0, _⟩ =>
      show win0_3.index t 0 * 1 + 1 * 0 = 0
      rw [b0]
    | ⟨1, _⟩ =>
      show win0_3.index t 1 * 1024 + 1 * (y 1).val = (i 1).val
      rw [b1, feature_of]; exact h1

/-- A block's gradient of what the gate is taken of is the mixer's. -/
theorem staged_slope (t : Fin cfg0.N) (y : S512x1024.Idx) (i : S4096x1024.Idx) (h0 : t.val * 512 + (y 0).val = (i 0).val)
    (h1 : (y 1).val = (i 1).val) : blockSlope (iblk m c 2 t) (iblk m c 3 t) (iblk m c 0 t) (iblk m c 1 t) y
      = slopeOf (m ((c.tc : Thread nD τ).loc main_arg0)) (m ((c.tc : Thread nD τ).loc main_arg1)) (m ((c.tc : Thread nD τ).loc main_arg2))
        (m ((c.tc : Thread nD τ).loc main_arg3)) 0 i := by
  unfold blockSlope slopeOf
  rw [staged_gate m c t y i h0 h1]
  exact congrArg₂ (fun p q : EReal => p * q * _ * _) (staged_merged m c t y i h0 h1) (staged_mixer m c t y i h0 h1)

/-- At every point the block of the projection's gradient is stored. -/
theorem held_projection (t : Fin cfg0.N) (y : S512x1024.Idx) :
    ((outsAt0 m c t.val t.isLt).1 y : EReal) = blockSlope (iblk m c 2 t) (iblk m c 3 t) (iblk m c 0 t) (iblk m c 1 t) y := by
  have ht : t.val < 8 := t.isLt
  by_cases h : t.val % 8 = 0
  · rw [outsAt0_A m c t h (by omega)]
    frame_out
    exact block_slope _ _ _ _ y
  · rw [outsAt0_B m c t h (by omega)]
    frame_out
    exact block_slope _ _ _ _ y

/-- And the block of the mixer's. -/
theorem held_mixer (t : Fin cfg0.N) (y : S512x1024.Idx) :
    ((outsAt0 m c t.val t.isLt).2.1 y : EReal) = blockMixer (iblk m c 2 t) (iblk m c 3 t) (iblk m c 0 t) y := by
  have ht : t.val < 8 := t.isLt
  by_cases h : t.val % 8 = 0
  · rw [outsAt0_A m c t h (by omega)]
    frame_out
    exact block_mixer _ _ _ y
  · rw [outsAt0_B m c t h (by omega)]
    frame_out
    exact block_mixer _ _ _ y

/-- At the first point the bias's gradient is stored. -/
theorem held_first (t : Fin cfg0.N) (h : t.val % 8 = 0) (y : S1x1024.Idx) :
    ((outsAt0 m c t.val t.isLt).2.2 y : EReal) = part (iblk m c 2 t) (iblk m c 3 t) (iblk m c 0 t) (iblk m c 1 t) y := by
  have ht : t.val < 8 := t.isLt
  rw [outsAt0_A m c t h (by omega)]
  frame_out
  exact first_part _ _ _ _ y

/-- At the others it is added to. -/
theorem held_next (t : Fin cfg0.N) (h : ¬t.val % 8 = 0) (y : S1x1024.Idx) :
    ((outsAt0 m c t.val t.isLt).2.2 y : EReal)
      = (outsAt0 m c (t.val - 1) (Nat.lt_of_le_of_lt (Nat.sub_le _ _) t.isLt)).2.2 y
        + part (iblk m c 2 t) (iblk m c 3 t) (iblk m c 0 t) (iblk m c 1 t) y := by
  rw [outsAt0_B m c t h (by omega)]
  frame_out
  exact next_part _ _ _ _ _ y

/-- The array of the mixer's gradient, after the run. -/
theorem kernel_mixer : (dats m 0 c).arrAt 5 cfg0.N
    = mixer (m ((c.tc : Thread nD τ).loc main_arg0)) (m ((c.tc : Thread nD τ).loc main_arg2)) (m ((c.tc : Thread nD τ).loc main_arg3)) 0 := by
  refine (dats m 0 c).arrAt_eq_of_covers 5 _ (by decide +kernel) fun t hf y => ?_
  blk_simp
  rw [after0_5]
  obtain ⟨r0, r1⟩ := output_at t
  refine (held_mixer m c t y).trans ?_
  unfold mixer blockMixer
  have e0 : t.val * 512 + (y 0).val = win0_5.index t 0 * 512 + 1 * (y 0).val := by rw [r0, one_mul]
  have e1 : (y 1).val = win0_5.index t 1 * 1024 + 1 * (y 1).val := by rw [r1, feature_of]
  exact congrArg₂ (fun p q : EReal => p * q) (staged_merged m c t y _ e0 e1) (staged_gate m c t y _ e0 e1)

/-- The bias's gradient, after the run. -/
theorem kernel_bias : (dats m 0 c).arrAt 6 cfg0.N
    = bias (m ((c.tc : Thread nD τ).loc main_arg0)) (m ((c.tc : Thread nD τ).loc main_arg1)) (m ((c.tc : Thread nD τ).loc main_arg2))
      (m ((c.tc : Thread nD τ).loc main_arg3)) 0 := by
  refine (dats m 0 c).arrAt_eq_of_covers 6 _ (by decide +kernel) fun t hf y => ?_
  have h7 : t.val % 8 = 7 := (flush0_6 t).mp hf
  blk_simp
  rw [after0_6]
  refine (Pipeline.eq_sum_fin_of_reset_step_apply_of_flush (fun n h => ((outsAt0 m c n h).2.2 : S1x1024.Idx → EReal)) 8 (fun _ => 0)
    (fun t y => part (iblk m c 2 t) (iblk m c 3 t) (iblk m c 0 t) (iblk m c 1 t) y) (fun t h i => (held_first m c t h i).trans (zero_add _).symm)
    (fun t h i => held_next m c t h i) t h7 y).trans ?_
  refine (zero_add _).trans ?_
  unfold part bias
  refine Fin.sum_mul_add_congr fun s x hl => ?_
  have hs := s.isLt
  have ht : t.val < 8 := t.isLt
  obtain ⟨r0, r1⟩ := sum_at t
  refine staged_slope m c _ _ _ ?_ ?_
  · exact point_of t.val s.val x.val ht
  · show (y 1).val = win0_6.index t 1 * 1024 + 1 * (y 1).val
    rw [r1, feature_of]

/-- What a point writes back is its block of the projection's gradient. -/
theorem flushed_projection (t : Fin cfg0.N) : (dats m 0 c).flushed 4 t = ((cfg0.win 4).blk t).view.read (Elt Ideal)
    (projection (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) 0) := by
  refine funext fun y => ?_
  rw [Cert.GateLruIdeal.Value.flushed4]
  obtain ⟨s0, s1⟩ := projection_at t
  have hy : (y 0).val < 512 := (y 0).isLt
  have htN : t.val < 8 := t.isLt
  refine (held_projection m c t y).trans ((staged_slope m c t y (ix2 ⟨t.val * 512 + (y 0).val, row_of _ _ htN hy⟩ (y 1)) rfl rfl).trans ?_)
  refine (projection_inside _ _ _ _ _ _ _ _ ?_ ?_).symm
  · show win0_4.index t 0 * 512 + 1 * (y 0).val = t.val * 512 + (y 0).val
    rw [s0, one_mul]
  · show win0_4.index t 1 * 1024 + 1 * (y 1).val = 8192 + 1024 * 0 + (y 1).val
    rw [s1, column_of]

/-- An entry of the gate's columns is in the block of its rows. -/
theorem inside (i : S4096x11264.Idx) (h : 8192 + 1024 * 0 ≤ (i 1).val ∧ (i 1).val < 8192 + 1024 * 0 + 1024)
    (ht : (i 0).val / 512 < cfg0.N) : i ∈ ((cfg0.win 4).blk ⟨(i 0).val / 512, ht⟩).view.set := by
  obtain ⟨r0, r1⟩ := projection_at ⟨(i 0).val / 512, ht⟩
  refine Finset.mem_map.mpr ⟨(ix2 ⟨(i 0).val % 512, Nat.mod_lt _ (by norm_num)⟩ ⟨(i 1).val - (8192 + 1024 * 0), column_lt 0 _ h⟩ : S512x1024.Idx),
    Finset.mem_univ _, funext fun a => Fin.ext ?_⟩
  match a with
  | ⟨0, _⟩ =>
    show win0_4.index ⟨(i 0).val / 512, ht⟩ 0 * 512 + 1 * ((i 0).val % 512) = (i 0).val
    rw [r0]; exact (row_eq _).symm
  | ⟨1, _⟩ =>
    show win0_4.index ⟨(i 0).val / 512, ht⟩ 1 * 1024 + 1 * ((i 1).val - (8192 + 1024 * 0)) = (i 1).val
    rw [r1]; exact (column_eq 0 _ h).symm

/-- An entry of another column is in no block. -/
theorem outside (i : S4096x11264.Idx) (h : ¬(8192 + 1024 * 0 ≤ (i 1).val ∧ (i 1).val < 8192 + 1024 * 0 + 1024)) (t : Fin cfg0.N) :
    i ∉ ((cfg0.win 4).blk t).view.set := by
  intro hi
  obtain ⟨y, -, rfl⟩ := Finset.mem_map.mp hi
  obtain ⟨s0, s1⟩ := projection_at t
  have hy : (y 1).val < 1024 := (y 1).isLt
  refine h ?_
  show 8192 + 1024 * 0 ≤ win0_4.index t 1 * 1024 + 1 * (y 1).val ∧ win0_4.index t 1 * 1024 + 1 * (y 1).val < 8192 + 1024 * 0 + 1024
  rw [s1]; exact column_in 0 _ hy

/-- The array of the projection's gradient, after the run. -/
theorem kernel_projection : (dats m 0 c).arrAt 4 cfg0.N
    = projection (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) 0 := by
  refine funext fun i => ?_
  by_cases h : 8192 + 1024 * 0 ≤ (i 1).val ∧ (i 1).val < 8192 + 1024 * 0 + 1024
  · have hi : (i 0).val < 4096 := (i 0).isLt
    have ht : (i 0).val / 512 < cfg0.N := row_lt _ hi
    exact (dats m 0 c).arrAt_apply_of_mem 4 _ (fun t _ => flushed_projection m c t) cfg0.N ⟨(i 0).val / 512, ht⟩ i ht (flush0_4 _) (inside i h ht)
  · refine (Cert.GateLruIdeal.Value.entry4 m c i fun t _ => outside i h t).trans ?_
    rw [projection_outside _ _ _ _ _ _ _ h]
    exact congrFun (copied m c) i

end Kernel

section Reference
open Cert.GateLruReferenceIdeal Cert.GateLruReferenceIdeal.Read

theorem reference_gate (zp : Vec Ideal S4096x11264 .f32) (b : Vec Ideal S1x1024 .f32) (i : S4096x1024.Idx) :
    (val_main_v9 (F := Ideal) zp b i : EReal) = opened zp b 0 i := by
  unfold val_main_v9 val_main_v8 val_main_v7 val_main_v6 val_main_v5 val_main_v4 val_main_v3 val_main_v2 val_main_v1 val_main_cst val_main_cst_0
  pointwise
  unfold opened gate
  refine congrArg (fun z : EReal => Ideal.div 1 (1 + Ideal.exp (-z))) ?_
  rfl

theorem reference_slope (dm p : Vec Ideal S4096x1024 .bf16) (zp : Vec Ideal S4096x11264 .f32) (b : Vec Ideal S1x1024 .f32) (i : S4096x1024.Idx) :
    (val_main_v17 (F := Ideal) dm p zp b i : EReal) = slopeOf dm p zp b 0 i := by
  unfold slopeOf
  rw [← reference_gate]
  unfold val_main_v17 val_main_v16 val_main_v14 val_main_v12 val_main_v11 val_main_v10 val_main_v0 val_main_cst_1
  pointwise
  exact (mul_assoc _ _ _).symm

theorem reference_mixer (dm : Vec Ideal S4096x1024 .bf16) (zp : Vec Ideal S4096x11264 .f32) (b : Vec Ideal S1x1024 .f32) :
    val_main_v24 (F := Ideal) dm zp b = mixer dm zp b 0 := by
  refine funext fun i => ?_
  show ((val_main_v24 (F := Ideal) dm zp b : Vec Ideal S4096x1024 .bf16) i : EReal) = _
  unfold mixer
  rw [← reference_gate]
  unfold val_main_v24 val_main_v15 val_main_v14
  pointwise
  exact mul_comm _ _

theorem reference_bias (dm p : Vec Ideal S4096x1024 .bf16) (zp : Vec Ideal S4096x11264 .f32) (b : Vec Ideal S1x1024 .f32) :
    val_main_v19 (F := Ideal) dm p zp b = bias dm p zp b 0 := by
  refine funext fun i => ?_
  show ((val_main_v19 (F := Ideal) dm p zp b : Vec Ideal S1x1024 .f32) i : EReal) = _
  unfold bias
  simp only [← reference_slope]
  unfold val_main_v19 val_main_v18 val_main_cst_2
  pointwise

theorem reference_projection (dm p : Vec Ideal S4096x1024 .bf16) (zp : Vec Ideal S4096x11264 .f32) (b : Vec Ideal S1x1024 .f32)
    (dz : Vec Ideal S4096x11264 .bf16) : val_main_v23 (F := Ideal) dm p zp b dz = projection dm p zp b dz 0 := by
  refine funext fun i => ?_
  show ((val_main_v23 (F := Ideal) dm p zp b dz : Vec Ideal S4096x11264 .bf16) i : EReal) = _
  have hi : (i 1).val < 11264 := (i 1).isLt
  unfold val_main_v23 val_main_v22 val_main_v21 val_main_v20
  pointwise
  by_cases h1 : (i 1).val < 8192 + 1024 * 0
  · have ho : ¬(8192 + 1024 * 0 ≤ (i 1).val ∧ (i 1).val < 8192 + 1024 * 0 + 1024) := by omega
    rw [dif_pos h1]
    exact (projection_outside dm p zp b dz 0 i ho).symm
  · by_cases h2 : (i 1).val - (8192 + 1024 * 0) < 1024
    · have hc : (i 1).val = 8192 + 1024 * 0 + ((i 1).val - (8192 + 1024 * 0)) := by omega
      rw [dif_neg h1, dif_pos h2]
      exact (reference_slope dm p zp b _).trans
        (projection_inside dm p zp b dz 0 i (ix2 (i 0) ⟨(i 1).val - (8192 + 1024 * 0), h2⟩) rfl hc).symm
    · have ho : ¬(8192 + 1024 * 0 ≤ (i 1).val ∧ (i 1).val < 8192 + 1024 * 0 + 1024) := by omega
      rw [dif_neg h1, dif_neg h2]
      refine (same_entry dz i _ ?_).trans (projection_outside dm p zp b dz 0 i ho).symm
      dsimp only
      omega

end Reference

/-- From the same arguments the kernel and the reference end with the same three gradients. -/
theorem algebraic : Cert.algebraic_GateLruIdeal_GateLruReferenceIdeal := by
  intro m ρ m' ρ' hpre hargs
  refine ⟨fun c => projection (m ((c.tc : Thread Cert.GateLruIdeal.nD Cert.GateLruIdeal.τ).loc Cert.GateLruIdeal.main_arg0)) (m ((c.tc : Thread Cert.GateLruIdeal.nD Cert.GateLruIdeal.τ).loc Cert.GateLruIdeal.main_arg1)) (m ((c.tc : Thread Cert.GateLruIdeal.nD Cert.GateLruIdeal.τ).loc Cert.GateLruIdeal.main_arg2)) (m ((c.tc : Thread Cert.GateLruIdeal.nD Cert.GateLruIdeal.τ).loc Cert.GateLruIdeal.main_arg3)) (m ((c.tc : Thread Cert.GateLruIdeal.nD Cert.GateLruIdeal.τ).loc Cert.GateLruIdeal.main_arg4)) 0,
    fun c => mixer (m ((c.tc : Thread Cert.GateLruIdeal.nD Cert.GateLruIdeal.τ).loc Cert.GateLruIdeal.main_arg0)) (m ((c.tc : Thread Cert.GateLruIdeal.nD Cert.GateLruIdeal.τ).loc Cert.GateLruIdeal.main_arg2)) (m ((c.tc : Thread Cert.GateLruIdeal.nD Cert.GateLruIdeal.τ).loc Cert.GateLruIdeal.main_arg3)) 0,
    fun c => bias (m ((c.tc : Thread Cert.GateLruIdeal.nD Cert.GateLruIdeal.τ).loc Cert.GateLruIdeal.main_arg0)) (m ((c.tc : Thread Cert.GateLruIdeal.nD Cert.GateLruIdeal.τ).loc Cert.GateLruIdeal.main_arg1)) (m ((c.tc : Thread Cert.GateLruIdeal.nD Cert.GateLruIdeal.τ).loc Cert.GateLruIdeal.main_arg2)) (m ((c.tc : Thread Cert.GateLruIdeal.nD Cert.GateLruIdeal.τ).loc Cert.GateLruIdeal.main_arg3)) 0, ?_, ?_⟩
  · exact (θ_run Cert.GateLruIdeal.defs _ _).mono (fun r h c => ⟨(h c).1.trans (kernel_projection m c), (h c).2.1.trans (kernel_mixer m c),
      (h c).2.2.1.trans (kernel_bias m c), (h c).2.2.2⟩) (Cert.GateLruIdeal.Value.run_blocks (F := Ideal) m ρ)
  · refine (θ_run Cert.GateLruReferenceIdeal.defs _ _).mono (fun r h c => ?_) (Cert.GateLruReferenceIdeal.Value.run (F := Ideal) m' ρ')
    obtain ⟨e0, e1, e2, e3, e4⟩ := hargs c
    refine ⟨(h c).1.trans ((Cert.GateLruReferenceIdeal.Read.val_main_v23_eq _ _ _ _ _).trans ?_),
      (h c).2.1.trans ((Cert.GateLruReferenceIdeal.Read.val_main_v24_eq _ _ _).trans ?_),
      (h c).2.2.1.trans ((Cert.GateLruReferenceIdeal.Read.val_main_v19_eq _ _ _ _).trans ?_), (h c).2.2.2⟩
    · rw [e0, e1, e2, e3, e4]
      exact reference_projection _ _ _ _ _
    · rw [e0, e2, e3]
      exact reference_mixer _ _ _
    · rw [e0, e1, e2, e3]
      exact reference_bias _ _ _ _

end Cert.GateGradientLru

end
-- ==== Proof.GateGradientMla.lean ====
module

public import proofs.«01_k».proof.Defs
public import proofs.«01_k».proof.Proof.Gen.GateMlaIdeal.Value
public import proofs.«01_k».proof.Proof.Gen.GateMlaReferenceIdeal.Read
public import proofs.«01_k».proof.Proof.GateGradient
public import Idealize.ShloMosaic.Lib.Pipeline.ValueKit
public import Idealize.ShloMosaic.Lib.Pointwise

/-!
# The gradients of the gate of the attention

Every block of rows is written at its place in the gate's columns of the projection's gradient, whose other columns stay as they were. The
bias's gradient is added up over eight blocks of rows.
-/

@[expose] public section

set_option maxRecDepth 16384

noncomputable section

namespace Cert.GateGradientMla

open Idealize.ShloMosaic Idealize.ShloMosaic.TcCoe Idealize.ShloMosaic.Tactic Idealize.SL.Sem
open Cert.MergeGates (gate)
open Cert.GateGradient (opened mixer slopeOf bias projection projection_inside projection_outside column_lt column_eq column_of column_in row_eq row_lt
  row_of point_of feature_of same_entry)

section Kernel
open Cert.GateMlaIdeal Cert.GateMlaIdeal.Gen

/-- A block's gate. -/
def blockGate (z : Vec Ideal S512x1024 .f32) (b : Vec Ideal S1x1024 .f32) (y : S512x1024.Idx) : EReal := gate (z y + b (ix2 0 (y 1)))

theorem block_gate (z : Vec Ideal S512x1024 .f32) (b : Vec Ideal S1x1024 .f32) (y : S512x1024.Idx) :
    (k0_pay1 z b y : EReal) = blockGate z b y := by
  unfold k0_pay1 blockGate gate
  pointwise
  simp only [zero_sub]

/-- A block's gradient of the mixer's output. -/
def blockMixer (z : Vec Ideal S512x1024 .f32) (b : Vec Ideal S1x1024 .f32) (d : Vec Ideal S512x1024 .bf16) (y : S512x1024.Idx) : EReal :=
  d y * blockGate z b y

theorem block_mixer (z : Vec Ideal S512x1024 .f32) (b : Vec Ideal S1x1024 .f32) (d : Vec Ideal S512x1024 .bf16) (y : S512x1024.Idx) :
    (k0_pay3 z b d y : EReal) = blockMixer z b d y := by
  unfold blockMixer
  rw [← block_gate]
  unfold k0_pay3 k0_pay2
  pointwise

/-- A block's gradient of what the gate is taken of. -/
def blockSlope (z : Vec Ideal S512x1024 .f32) (b : Vec Ideal S1x1024 .f32) (d p : Vec Ideal S512x1024 .bf16) (y : S512x1024.Idx) : EReal :=
  d y * p y * blockGate z b y * (1 - blockGate z b y)

theorem block_inner (z : Vec Ideal S512x1024 .f32) (b : Vec Ideal S1x1024 .f32) (d p : Vec Ideal S512x1024 .bf16) (y : S512x1024.Idx) :
    (k0_pay4 z b d p y : EReal) = blockSlope z b d p y := by
  unfold blockSlope
  rw [← block_gate]
  unfold k0_pay4 k0_pay2
  pointwise

theorem block_slope (z : Vec Ideal S512x1024 .f32) (b : Vec Ideal S1x1024 .f32) (d p : Vec Ideal S512x1024 .bf16) (y : S512x1024.Idx) :
    (k0_pay5 z b d p y : EReal) = blockSlope z b d p y := by
  rw [← block_inner]
  unfold k0_pay5
  pointwise

/-- What a block of rows adds to the bias's gradient. -/
def part (z : Vec Ideal S512x1024 .f32) (b : Vec Ideal S1x1024 .f32) (d p : Vec Ideal S512x1024 .bf16) (y : S1x1024.Idx) : EReal :=
  ∑ x : Fin 512, blockSlope z b d p (ix2 x (y 1))

theorem first_part (z : Vec Ideal S512x1024 .f32) (b : Vec Ideal S1x1024 .f32) (d p : Vec Ideal S512x1024 .bf16) (y : S1x1024.Idx) :
    (k0_pay6 z b d p y : EReal) = part z b d p y := by
  unfold part
  simp only [← block_inner]
  unfold k0_pay6
  pointwise

theorem next_part (z : Vec Ideal S512x1024 .f32) (b : Vec Ideal S1x1024 .f32) (d p : Vec Ideal S512x1024 .bf16) (w : Vec Ideal S1x1024 .f32)
    (y : S1x1024.Idx) : (k0_pay7 z b d p w y : EReal) = w y + part z b d p y := by
  rw [← first_part]
  unfold k0_pay7
  pointwise

variable (m : (ℓ : Loc nD τ sig) → Buf (Elt Ideal) ℓ) (c : Dev nD)

/-- Which block each window is on at a point. -/
theorem merged_at : ∀ t : Fin cfg0.N, win0_0.index t 0 = t.val ∧ win0_0.index t 1 = 0 :=
  (by decide +kernel : ∀ t : Fin grid0.N, win0_0.index t 0 = t.val ∧ win0_0.index t 1 = 0)
theorem mixer_at : ∀ t : Fin cfg0.N, win0_1.index t 0 = t.val ∧ win0_1.index t 1 = 0 :=
  (by decide +kernel : ∀ t : Fin grid0.N, win0_1.index t 0 = t.val ∧ win0_1.index t 1 = 0)
theorem columns_at : ∀ t : Fin cfg0.N, win0_2.index t 0 = t.val ∧ win0_2.index t 1 = 8 + 1 :=
  (by decide +kernel : ∀ t : Fin grid0.N, win0_2.index t 0 = t.val ∧ win0_2.index t 1 = 8 + 1)
theorem bias_at : ∀ t : Fin cfg0.N, win0_3.index t 0 = 0 ∧ win0_3.index t 1 = 0 :=
  (by decide +kernel : ∀ t : Fin grid0.N, win0_3.index t 0 = 0 ∧ win0_3.index t 1 = 0)
theorem projection_at : ∀ t : Fin cfg0.N, win0_4.index t 0 = t.val ∧ win0_4.index t 1 = 8 + 1 :=
  (by decide +kernel : ∀ t : Fin grid0.N, win0_4.index t 0 = t.val ∧ win0_4.index t 1 = 8 + 1)
theorem output_at : ∀ t : Fin cfg0.N, win0_5.index t 0 = t.val ∧ win0_5.index t 1 = 0 :=
  (by decide +kernel : ∀ t : Fin grid0.N, win0_5.index t 0 = t.val ∧ win0_5.index t 1 = 0)
theorem sum_at : ∀ t : Fin cfg0.N, win0_6.index t 0 = 0 ∧ win0_6.index t 1 = 0 :=
  (by decide +kernel : ∀ t : Fin grid0.N, win0_6.index t 0 = 0 ∧ win0_6.index t 1 = 0)

/-- The projection's gradient holds its operand's contents when the blocks start. -/
theorem copied : V m c main_v0_0 = m ((c.tc : Thread nD τ).loc main_arg4) := by
  unfold V hostOps0
  rw [StableHlo.after_cons, StableHlo.after_nil]
  exact StableHlo.unary_result ..

/-- A block's entry of the merged output's gradient. -/
theorem staged_merged (t : Fin cfg0.N) (y : S512x1024.Idx) (i : S4096x1024.Idx) (h0 : t.val * 512 + (y 0).val = (i 0).val)
    (h1 : (y 1).val = (i 1).val) : iblk m c 0 t y = (m ((c.tc : Thread nD τ).loc main_arg0) : Vec Ideal S4096x1024 .bf16) i := by
  obtain ⟨a0, a1⟩ := merged_at t
  show (V m c main_arg0 : Vec Ideal S4096x1024 .bf16) _ = _
  rw [V_main_arg0 m c]
  refine congrArg (m ((c.tc : Thread nD τ).loc main_arg0) : Vec Ideal S4096x1024 .bf16) (funext fun a => Fin.ext ?_)
  match a with
  | ⟨0, _⟩ =>
    show win0_0.index t 0 * 512 + 1 * (y 0).val = (i 0).val
    rw [a0, one_mul]; exact h0
  | ⟨1, _⟩ =>
    show win0_0.index t 1 * 1024 + 1 * (y 1).val = (i 1).val
    rw [a1, feature_of]; exact h1

/-- A block's entry of the mixer's output. -/
theorem staged_mixer (t : Fin cfg0.N) (y : S512x1024.Idx) (i : S4096x1024.Idx) (h0 : t.val * 512 + (y 0).val = (i 0).val)
    (h1 : (y 1).val = (i 1).val) : iblk m c 1 t y = (m ((c.tc : Thread nD τ).loc main_arg1) : Vec Ideal S4096x1024 .bf16) i := by
  obtain ⟨a0, a1⟩ := mixer_at t
  show (V m c main_arg1 : Vec Ideal S4096x1024 .bf16) _ = _
  rw [V_main_arg1 m c]
  refine congrArg (m ((c.tc : Thread nD τ).loc main_arg1) : Vec Ideal S4096x1024 .bf16) (funext fun a => Fin.ext ?_)
  match a with
  | ⟨0, _⟩ =>
    show win0_1.index t 0 * 512 + 1 * (y 0).val = (i 0).val
    rw [a0, one_mul]; exact h0
  | ⟨1, _⟩ =>
    show win0_1.index t 1 * 1024 + 1 * (y 1).val = (i 1).val
    rw [a1, feature_of]; exact h1

/-- A block's gate is the mixer's. -/
theorem staged_gate (t : Fin cfg0.N) (y : S512x1024.Idx) (i : S4096x1024.Idx) (h0 : t.val * 512 + (y 0).val = (i 0).val)
    (h1 : (y 1).val = (i 1).val) : blockGate (iblk m c 2 t) (iblk m c 3 t) y
      = opened (m ((c.tc : Thread nD τ).loc main_arg2)) (m ((c.tc : Thread nD τ).loc main_arg3)) 1 i := by
  obtain ⟨a0, a1⟩ := columns_at t
  obtain ⟨b0, b1⟩ := bias_at t
  unfold blockGate opened
  refine congrArg gate (congrArg₂ (fun p q : EReal => p + q) ?_ ?_)
  · show (V m c main_arg2 : Vec Ideal S4096x11264 .f32) _ = _
    rw [V_main_arg2 m c]
    refine congrArg (m ((c.tc : Thread nD τ).loc main_arg2) : Vec Ideal S4096x11264 .f32) (funext fun a => Fin.ext ?_)
    match a with
    | ⟨0, _⟩ =>
      show win0_2.index t 0 * 512 + 1 * (y 0).val = (i 0).val
      rw [a0, one_mul]; exact h0
    | ⟨1, _⟩ =>
      show win0_2.index t 1 * 1024 + 1 * (y 1).val = 8192 + 1024 * 1 + (i 1).val
      rw [a1, column_of, h1]
  · show (V m c main_arg3 : Vec Ideal S1x1024 .f32) _ = _
    rw [V_main_arg3 m c]
    refine congrArg (m ((c.tc : Thread nD τ).loc main_arg3) : Vec Ideal S1x1024 .f32) (funext fun a => Fin.ext ?_)
    match a with
    | ⟨0, _⟩ =>
      show win0_3.index t 0 * 1 + 1 * 0 = 0
      rw [b0]
    | ⟨1, _⟩ =>
      show win0_3.index t 1 * 1024 + 1 * (y 1).val = (i 1).val
      rw [b1, feature_of]; exact h1

/-- A block's gradient of what the gate is taken of is the mixer's. -/
theorem staged_slope (t : Fin cfg0.N) (y : S512x1024.Idx) (i : S4096x1024.Idx) (h0 : t.val * 512 + (y 0).val = (i 0).val)
    (h1 : (y 1).val = (i 1).val) : blockSlope (iblk m c 2 t) (iblk m c 3 t) (iblk m c 0 t) (iblk m c 1 t) y
      = slopeOf (m ((c.tc : Thread nD τ).loc main_arg0)) (m ((c.tc : Thread nD τ).loc main_arg1)) (m ((c.tc : Thread nD τ).loc main_arg2))
        (m ((c.tc : Thread nD τ).loc main_arg3)) 1 i := by
  unfold blockSlope slopeOf
  rw [staged_gate m c t y i h0 h1]
  exact congrArg₂ (fun p q : EReal => p * q * _ * _) (staged_merged m c t y i h0 h1) (staged_mixer m c t y i h0 h1)

/-- At every point the block of the projection's gradient is stored. -/
theorem held_projection (t : Fin cfg0.N) (y : S512x1024.Idx) :
    ((outsAt0 m c t.val t.isLt).1 y : EReal) = blockSlope (iblk m c 2 t) (iblk m c 3 t) (iblk m c 0 t) (iblk m c 1 t) y := by
  have ht : t.val < 8 := t.isLt
  by_cases h : t.val % 8 = 0
  · rw [outsAt0_A m c t h (by omega)]
    frame_out
    exact block_slope _ _ _ _ y
  · rw [outsAt0_B m c t h (by omega)]
    frame_out
    exact block_slope _ _ _ _ y

/-- And the block of the mixer's. -/
theorem held_mixer (t : Fin cfg0.N) (y : S512x1024.Idx) :
    ((outsAt0 m c t.val t.isLt).2.1 y : EReal) = blockMixer (iblk m c 2 t) (iblk m c 3 t) (iblk m c 0 t) y := by
  have ht : t.val < 8 := t.isLt
  by_cases h : t.val % 8 = 0
  · rw [outsAt0_A m c t h (by omega)]
    frame_out
    exact block_mixer _ _ _ y
  · rw [outsAt0_B m c t h (by omega)]
    frame_out
    exact block_mixer _ _ _ y

/-- At the first point the bias's gradient is stored. -/
theorem held_first (t : Fin cfg0.N) (h : t.val % 8 = 0) (y : S1x1024.Idx) :
    ((outsAt0 m c t.val t.isLt).2.2 y : EReal) = part (iblk m c 2 t) (iblk m c 3 t) (iblk m c 0 t) (iblk m c 1 t) y := by
  have ht : t.val < 8 := t.isLt
  rw [outsAt0_A m c t h (by omega)]
  frame_out
  exact first_part _ _ _ _ y

/-- At the others it is added to. -/
theorem held_next (t : Fin cfg0.N) (h : ¬t.val % 8 = 0) (y : S1x1024.Idx) :
    ((outsAt0 m c t.val t.isLt).2.2 y : EReal)
      = (outsAt0 m c (t.val - 1) (Nat.lt_of_le_of_lt (Nat.sub_le _ _) t.isLt)).2.2 y
        + part (iblk m c 2 t) (iblk m c 3 t) (iblk m c 0 t) (iblk m c 1 t) y := by
  rw [outsAt0_B m c t h (by omega)]
  frame_out
  exact next_part _ _ _ _ _ y

/-- The array of the mixer's gradient, after the run. -/
theorem kernel_mixer : (dats m 0 c).arrAt 5 cfg0.N
    = mixer (m ((c.tc : Thread nD τ).loc main_arg0)) (m ((c.tc : Thread nD τ).loc main_arg2)) (m ((c.tc : Thread nD τ).loc main_arg3)) 1 := by
  refine (dats m 0 c).arrAt_eq_of_covers 5 _ (by decide +kernel) fun t hf y => ?_
  blk_simp
  rw [after0_5]
  obtain ⟨r0, r1⟩ := output_at t
  refine (held_mixer m c t y).trans ?_
  unfold mixer blockMixer
  have e0 : t.val * 512 + (y 0).val = win0_5.index t 0 * 512 + 1 * (y 0).val := by rw [r0, one_mul]
  have e1 : (y 1).val = win0_5.index t 1 * 1024 + 1 * (y 1).val := by rw [r1, feature_of]
  exact congrArg₂ (fun p q : EReal => p * q) (staged_merged m c t y _ e0 e1) (staged_gate m c t y _ e0 e1)

/-- The bias's gradient, after the run. -/
theorem kernel_bias : (dats m 0 c).arrAt 6 cfg0.N
    = bias (m ((c.tc : Thread nD τ).loc main_arg0)) (m ((c.tc : Thread nD τ).loc main_arg1)) (m ((c.tc : Thread nD τ).loc main_arg2))
      (m ((c.tc : Thread nD τ).loc main_arg3)) 1 := by
  refine (dats m 0 c).arrAt_eq_of_covers 6 _ (by decide +kernel) fun t hf y => ?_
  have h7 : t.val % 8 = 7 := (flush0_6 t).mp hf
  blk_simp
  rw [after0_6]
  refine (Pipeline.eq_sum_fin_of_reset_step_apply_of_flush (fun n h => ((outsAt0 m c n h).2.2 : S1x1024.Idx → EReal)) 8 (fun _ => 0)
    (fun t y => part (iblk m c 2 t) (iblk m c 3 t) (iblk m c 0 t) (iblk m c 1 t) y) (fun t h i => (held_first m c t h i).trans (zero_add _).symm)
    (fun t h i => held_next m c t h i) t h7 y).trans ?_
  refine (zero_add _).trans ?_
  unfold part bias
  refine Fin.sum_mul_add_congr fun s x hl => ?_
  have hs := s.isLt
  have ht : t.val < 8 := t.isLt
  obtain ⟨r0, r1⟩ := sum_at t
  refine staged_slope m c _ _ _ ?_ ?_
  · exact point_of t.val s.val x.val ht
  · show (y 1).val = win0_6.index t 1 * 1024 + 1 * (y 1).val
    rw [r1, feature_of]

/-- What a point writes back is its block of the projection's gradient. -/
theorem flushed_projection (t : Fin cfg0.N) : (dats m 0 c).flushed 4 t = ((cfg0.win 4).blk t).view.read (Elt Ideal)
    (projection (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) 1) := by
  refine funext fun y => ?_
  rw [Cert.GateMlaIdeal.Value.flushed4]
  obtain ⟨s0, s1⟩ := projection_at t
  have hy : (y 0).val < 512 := (y 0).isLt
  have htN : t.val < 8 := t.isLt
  refine (held_projection m c t y).trans ((staged_slope m c t y (ix2 ⟨t.val * 512 + (y 0).val, row_of _ _ htN hy⟩ (y 1)) rfl rfl).trans ?_)
  refine (projection_inside _ _ _ _ _ _ _ _ ?_ ?_).symm
  · show win0_4.index t 0 * 512 + 1 * (y 0).val = t.val * 512 + (y 0).val
    rw [s0, one_mul]
  · show win0_4.index t 1 * 1024 + 1 * (y 1).val = 8192 + 1024 * 1 + (y 1).val
    rw [s1, column_of]

/-- An entry of the gate's columns is in the block of its rows. -/
theorem inside (i : S4096x11264.Idx) (h : 8192 + 1024 * 1 ≤ (i 1).val ∧ (i 1).val < 8192 + 1024 * 1 + 1024)
    (ht : (i 0).val / 512 < cfg0.N) : i ∈ ((cfg0.win 4).blk ⟨(i 0).val / 512, ht⟩).view.set := by
  obtain ⟨r0, r1⟩ := projection_at ⟨(i 0).val / 512, ht⟩
  refine Finset.mem_map.mpr ⟨(ix2 ⟨(i 0).val % 512, Nat.mod_lt _ (by norm_num)⟩ ⟨(i 1).val - (8192 + 1024 * 1), column_lt 1 _ h⟩ : S512x1024.Idx),
    Finset.mem_univ _, funext fun a => Fin.ext ?_⟩
  match a with
  | ⟨0, _⟩ =>
    show win0_4.index ⟨(i 0).val / 512, ht⟩ 0 * 512 + 1 * ((i 0).val % 512) = (i 0).val
    rw [r0]; exact (row_eq _).symm
  | ⟨1, _⟩ =>
    show win0_4.index ⟨(i 0).val / 512, ht⟩ 1 * 1024 + 1 * ((i 1).val - (8192 + 1024 * 1)) = (i 1).val
    rw [r1]; exact (column_eq 1 _ h).symm

/-- An entry of another column is in no block. -/
theorem outside (i : S4096x11264.Idx) (h : ¬(8192 + 1024 * 1 ≤ (i 1).val ∧ (i 1).val < 8192 + 1024 * 1 + 1024)) (t : Fin cfg0.N) :
    i ∉ ((cfg0.win 4).blk t).view.set := by
  intro hi
  obtain ⟨y, -, rfl⟩ := Finset.mem_map.mp hi
  obtain ⟨s0, s1⟩ := projection_at t
  have hy : (y 1).val < 1024 := (y 1).isLt
  refine h ?_
  show 8192 + 1024 * 1 ≤ win0_4.index t 1 * 1024 + 1 * (y 1).val ∧ win0_4.index t 1 * 1024 + 1 * (y 1).val < 8192 + 1024 * 1 + 1024
  rw [s1]; exact column_in 1 _ hy

/-- The array of the projection's gradient, after the run. -/
theorem kernel_projection : (dats m 0 c).arrAt 4 cfg0.N
    = projection (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) 1 := by
  refine funext fun i => ?_
  by_cases h : 8192 + 1024 * 1 ≤ (i 1).val ∧ (i 1).val < 8192 + 1024 * 1 + 1024
  · have hi : (i 0).val < 4096 := (i 0).isLt
    have ht : (i 0).val / 512 < cfg0.N := row_lt _ hi
    exact (dats m 0 c).arrAt_apply_of_mem 4 _ (fun t _ => flushed_projection m c t) cfg0.N ⟨(i 0).val / 512, ht⟩ i ht (flush0_4 _) (inside i h ht)
  · refine (Cert.GateMlaIdeal.Value.entry4 m c i fun t _ => outside i h t).trans ?_
    rw [projection_outside _ _ _ _ _ _ _ h]
    exact congrFun (copied m c) i

end Kernel

section Reference
open Cert.GateMlaReferenceIdeal Cert.GateMlaReferenceIdeal.Read

theorem reference_gate (zp : Vec Ideal S4096x11264 .f32) (b : Vec Ideal S1x1024 .f32) (i : S4096x1024.Idx) :
    (val_main_v9 (F := Ideal) zp b i : EReal) = opened zp b 1 i := by
  unfold val_main_v9 val_main_v8 val_main_v7 val_main_v6 val_main_v5 val_main_v4 val_main_v3 val_main_v2 val_main_v1 val_main_cst val_main_cst_0
  pointwise
  unfold opened gate
  refine congrArg (fun z : EReal => Ideal.div 1 (1 + Ideal.exp (-z))) ?_
  rfl

theorem reference_slope (dm p : Vec Ideal S4096x1024 .bf16) (zp : Vec Ideal S4096x11264 .f32) (b : Vec Ideal S1x1024 .f32) (i : S4096x1024.Idx) :
    (val_main_v17 (F := Ideal) dm p zp b i : EReal) = slopeOf dm p zp b 1 i := by
  unfold slopeOf
  rw [← reference_gate]
  unfold val_main_v17 val_main_v16 val_main_v14 val_main_v12 val_main_v11 val_main_v10 val_main_v0 val_main_cst_1
  pointwise
  exact (mul_assoc _ _ _).symm

theorem reference_mixer (dm : Vec Ideal S4096x1024 .bf16) (zp : Vec Ideal S4096x11264 .f32) (b : Vec Ideal S1x1024 .f32) :
    val_main_v24 (F := Ideal) dm zp b = mixer dm zp b 1 := by
  refine funext fun i => ?_
  show ((val_main_v24 (F := Ideal) dm zp b : Vec Ideal S4096x1024 .bf16) i : EReal) = _
  unfold mixer
  rw [← reference_gate]
  unfold val_main_v24 val_main_v15 val_main_v14
  pointwise
  exact mul_comm _ _

theorem reference_bias (dm p : Vec Ideal S4096x1024 .bf16) (zp : Vec Ideal S4096x11264 .f32) (b : Vec Ideal S1x1024 .f32) :
    val_main_v19 (F := Ideal) dm p zp b = bias dm p zp b 1 := by
  refine funext fun i => ?_
  show ((val_main_v19 (F := Ideal) dm p zp b : Vec Ideal S1x1024 .f32) i : EReal) = _
  unfold bias
  simp only [← reference_slope]
  unfold val_main_v19 val_main_v18 val_main_cst_2
  pointwise

theorem reference_projection (dm p : Vec Ideal S4096x1024 .bf16) (zp : Vec Ideal S4096x11264 .f32) (b : Vec Ideal S1x1024 .f32)
    (dz : Vec Ideal S4096x11264 .bf16) : val_main_v23 (F := Ideal) dm p zp b dz = projection dm p zp b dz 1 := by
  refine funext fun i => ?_
  show ((val_main_v23 (F := Ideal) dm p zp b dz : Vec Ideal S4096x11264 .bf16) i : EReal) = _
  have hi : (i 1).val < 11264 := (i 1).isLt
  unfold val_main_v23 val_main_v22 val_main_v21 val_main_v20
  pointwise
  by_cases h1 : (i 1).val < 8192 + 1024 * 1
  · have ho : ¬(8192 + 1024 * 1 ≤ (i 1).val ∧ (i 1).val < 8192 + 1024 * 1 + 1024) := by omega
    rw [dif_pos h1]
    exact (projection_outside dm p zp b dz 1 i ho).symm
  · by_cases h2 : (i 1).val - (8192 + 1024 * 1) < 1024
    · have hc : (i 1).val = 8192 + 1024 * 1 + ((i 1).val - (8192 + 1024 * 1)) := by omega
      rw [dif_neg h1, dif_pos h2]
      exact (reference_slope dm p zp b _).trans
        (projection_inside dm p zp b dz 1 i (ix2 (i 0) ⟨(i 1).val - (8192 + 1024 * 1), h2⟩) rfl hc).symm
    · have ho : ¬(8192 + 1024 * 1 ≤ (i 1).val ∧ (i 1).val < 8192 + 1024 * 1 + 1024) := by omega
      rw [dif_neg h1, dif_neg h2]
      refine (same_entry dz i _ ?_).trans (projection_outside dm p zp b dz 1 i ho).symm
      dsimp only
      omega

end Reference

/-- From the same arguments the kernel and the reference end with the same three gradients. -/
theorem algebraic : Cert.algebraic_GateMlaIdeal_GateMlaReferenceIdeal := by
  intro m ρ m' ρ' hpre hargs
  refine ⟨fun c => projection (m ((c.tc : Thread Cert.GateMlaIdeal.nD Cert.GateMlaIdeal.τ).loc Cert.GateMlaIdeal.main_arg0)) (m ((c.tc : Thread Cert.GateMlaIdeal.nD Cert.GateMlaIdeal.τ).loc Cert.GateMlaIdeal.main_arg1)) (m ((c.tc : Thread Cert.GateMlaIdeal.nD Cert.GateMlaIdeal.τ).loc Cert.GateMlaIdeal.main_arg2)) (m ((c.tc : Thread Cert.GateMlaIdeal.nD Cert.GateMlaIdeal.τ).loc Cert.GateMlaIdeal.main_arg3)) (m ((c.tc : Thread Cert.GateMlaIdeal.nD Cert.GateMlaIdeal.τ).loc Cert.GateMlaIdeal.main_arg4)) 1,
    fun c => mixer (m ((c.tc : Thread Cert.GateMlaIdeal.nD Cert.GateMlaIdeal.τ).loc Cert.GateMlaIdeal.main_arg0)) (m ((c.tc : Thread Cert.GateMlaIdeal.nD Cert.GateMlaIdeal.τ).loc Cert.GateMlaIdeal.main_arg2)) (m ((c.tc : Thread Cert.GateMlaIdeal.nD Cert.GateMlaIdeal.τ).loc Cert.GateMlaIdeal.main_arg3)) 1,
    fun c => bias (m ((c.tc : Thread Cert.GateMlaIdeal.nD Cert.GateMlaIdeal.τ).loc Cert.GateMlaIdeal.main_arg0)) (m ((c.tc : Thread Cert.GateMlaIdeal.nD Cert.GateMlaIdeal.τ).loc Cert.GateMlaIdeal.main_arg1)) (m ((c.tc : Thread Cert.GateMlaIdeal.nD Cert.GateMlaIdeal.τ).loc Cert.GateMlaIdeal.main_arg2)) (m ((c.tc : Thread Cert.GateMlaIdeal.nD Cert.GateMlaIdeal.τ).loc Cert.GateMlaIdeal.main_arg3)) 1, ?_, ?_⟩
  · exact (θ_run Cert.GateMlaIdeal.defs _ _).mono (fun r h c => ⟨(h c).1.trans (kernel_projection m c), (h c).2.1.trans (kernel_mixer m c),
      (h c).2.2.1.trans (kernel_bias m c), (h c).2.2.2⟩) (Cert.GateMlaIdeal.Value.run_blocks (F := Ideal) m ρ)
  · refine (θ_run Cert.GateMlaReferenceIdeal.defs _ _).mono (fun r h c => ?_) (Cert.GateMlaReferenceIdeal.Value.run (F := Ideal) m' ρ')
    obtain ⟨e0, e1, e2, e3, e4⟩ := hargs c
    refine ⟨(h c).1.trans ((Cert.GateMlaReferenceIdeal.Read.val_main_v23_eq _ _ _ _ _).trans ?_),
      (h c).2.1.trans ((Cert.GateMlaReferenceIdeal.Read.val_main_v24_eq _ _ _).trans ?_),
      (h c).2.2.1.trans ((Cert.GateMlaReferenceIdeal.Read.val_main_v19_eq _ _ _ _).trans ?_), (h c).2.2.2⟩
    · rw [e0, e1, e2, e3, e4]
      exact reference_projection _ _ _ _ _
    · rw [e0, e2, e3]
      exact reference_mixer _ _ _
    · rw [e0, e1, e2, e3]
      exact reference_bias _ _ _ _

end Cert.GateGradientMla

end
-- ==== Proof.GateGradientDil.lean ====
module

public import proofs.«01_k».proof.Defs
public import proofs.«01_k».proof.Proof.Gen.GateDilIdeal.Value
public import proofs.«01_k».proof.Proof.Gen.GateDilReferenceIdeal.Read
public import proofs.«01_k».proof.Proof.GateGradient
public import Idealize.ShloMosaic.Lib.Pipeline.ValueKit
public import Idealize.ShloMosaic.Lib.Pointwise

/-!
# The gradients of the gate of the dilated attention

Every block of rows is written at its place in the gate's columns of the projection's gradient, whose other columns stay as they were. The
bias's gradient is added up over eight blocks of rows.
-/

@[expose] public section

set_option maxRecDepth 16384

noncomputable section

namespace Cert.GateGradientDil

open Idealize.ShloMosaic Idealize.ShloMosaic.TcCoe Idealize.ShloMosaic.Tactic Idealize.SL.Sem
open Cert.MergeGates (gate)
open Cert.GateGradient (opened mixer slopeOf bias projection projection_inside projection_outside column_lt column_eq column_of column_in row_eq row_lt
  row_of point_of feature_of same_entry)

section Kernel
open Cert.GateDilIdeal Cert.GateDilIdeal.Gen

/-- A block's gate. -/
def blockGate (z : Vec Ideal S512x1024 .f32) (b : Vec Ideal S1x1024 .f32) (y : S512x1024.Idx) : EReal := gate (z y + b (ix2 0 (y 1)))

theorem block_gate (z : Vec Ideal S512x1024 .f32) (b : Vec Ideal S1x1024 .f32) (y : S512x1024.Idx) :
    (k0_pay1 z b y : EReal) = blockGate z b y := by
  unfold k0_pay1 blockGate gate
  pointwise
  simp only [zero_sub]

/-- A block's gradient of the mixer's output. -/
def blockMixer (z : Vec Ideal S512x1024 .f32) (b : Vec Ideal S1x1024 .f32) (d : Vec Ideal S512x1024 .bf16) (y : S512x1024.Idx) : EReal :=
  d y * blockGate z b y

theorem block_mixer (z : Vec Ideal S512x1024 .f32) (b : Vec Ideal S1x1024 .f32) (d : Vec Ideal S512x1024 .bf16) (y : S512x1024.Idx) :
    (k0_pay3 z b d y : EReal) = blockMixer z b d y := by
  unfold blockMixer
  rw [← block_gate]
  unfold k0_pay3 k0_pay2
  pointwise

/-- A block's gradient of what the gate is taken of. -/
def blockSlope (z : Vec Ideal S512x1024 .f32) (b : Vec Ideal S1x1024 .f32) (d p : Vec Ideal S512x1024 .bf16) (y : S512x1024.Idx) : EReal :=
  d y * p y * blockGate z b y * (1 - blockGate z b y)

theorem block_inner (z : Vec Ideal S512x1024 .f32) (b : Vec Ideal S1x1024 .f32) (d p : Vec Ideal S512x1024 .bf16) (y : S512x1024.Idx) :
    (k0_pay4 z b d p y : EReal) = blockSlope z b d p y := by
  unfold blockSlope
  rw [← block_gate]
  unfold k0_pay4 k0_pay2
  pointwise

theorem block_slope (z : Vec Ideal S512x1024 .f32) (b : Vec Ideal S1x1024 .f32) (d p : Vec Ideal S512x1024 .bf16) (y : S512x1024.Idx) :
    (k0_pay5 z b d p y : EReal) = blockSlope z b d p y := by
  rw [← block_inner]
  unfold k0_pay5
  pointwise

/-- What a block of rows adds to the bias's gradient. -/
def part (z : Vec Ideal S512x1024 .f32) (b : Vec Ideal S1x1024 .f32) (d p : Vec Ideal S512x1024 .bf16) (y : S1x1024.Idx) : EReal :=
  ∑ x : Fin 512, blockSlope z b d p (ix2 x (y 1))

theorem first_part (z : Vec Ideal S512x1024 .f32) (b : Vec Ideal S1x1024 .f32) (d p : Vec Ideal S512x1024 .bf16) (y : S1x1024.Idx) :
    (k0_pay6 z b d p y : EReal) = part z b d p y := by
  unfold part
  simp only [← block_inner]
  unfold k0_pay6
  pointwise

theorem next_part (z : Vec Ideal S512x1024 .f32) (b : Vec Ideal S1x1024 .f32) (d p : Vec Ideal S512x1024 .bf16) (w : Vec Ideal S1x1024 .f32)
    (y : S1x1024.Idx) : (k0_pay7 z b d p w y : EReal) = w y + part z b d p y := by
  rw [← first_part]
  unfold k0_pay7
  pointwise

variable (m : (ℓ : Loc nD τ sig) → Buf (Elt Ideal) ℓ) (c : Dev nD)

/-- Which block each window is on at a point. -/
theorem merged_at : ∀ t : Fin cfg0.N, win0_0.index t 0 = t.val ∧ win0_0.index t 1 = 0 :=
  (by decide +kernel : ∀ t : Fin grid0.N, win0_0.index t 0 = t.val ∧ win0_0.index t 1 = 0)
theorem mixer_at : ∀ t : Fin cfg0.N, win0_1.index t 0 = t.val ∧ win0_1.index t 1 = 0 :=
  (by decide +kernel : ∀ t : Fin grid0.N, win0_1.index t 0 = t.val ∧ win0_1.index t 1 = 0)
theorem columns_at : ∀ t : Fin cfg0.N, win0_2.index t 0 = t.val ∧ win0_2.index t 1 = 8 + 2 :=
  (by decide +kernel : ∀ t : Fin grid0.N, win0_2.index t 0 = t.val ∧ win0_2.index t 1 = 8 + 2)
theorem bias_at : ∀ t : Fin cfg0.N, win0_3.index t 0 = 0 ∧ win0_3.index t 1 = 0 :=
  (by decide +kernel : ∀ t : Fin grid0.N, win0_3.index t 0 = 0 ∧ win0_3.index t 1 = 0)
theorem projection_at : ∀ t : Fin cfg0.N, win0_4.index t 0 = t.val ∧ win0_4.index t 1 = 8 + 2 :=
  (by decide +kernel : ∀ t : Fin grid0.N, win0_4.index t 0 = t.val ∧ win0_4.index t 1 = 8 + 2)
theorem output_at : ∀ t : Fin cfg0.N, win0_5.index t 0 = t.val ∧ win0_5.index t 1 = 0 :=
  (by decide +kernel : ∀ t : Fin grid0.N, win0_5.index t 0 = t.val ∧ win0_5.index t 1 = 0)
theorem sum_at : ∀ t : Fin cfg0.N, win0_6.index t 0 = 0 ∧ win0_6.index t 1 = 0 :=
  (by decide +kernel : ∀ t : Fin grid0.N, win0_6.index t 0 = 0 ∧ win0_6.index t 1 = 0)

/-- The projection's gradient holds its operand's contents when the blocks start. -/
theorem copied : V m c main_v0_0 = m ((c.tc : Thread nD τ).loc main_arg4) := by
  unfold V hostOps0
  rw [StableHlo.after_cons, StableHlo.after_nil]
  exact StableHlo.unary_result ..

/-- A block's entry of the merged output's gradient. -/
theorem staged_merged (t : Fin cfg0.N) (y : S512x1024.Idx) (i : S4096x1024.Idx) (h0 : t.val * 512 + (y 0).val = (i 0).val)
    (h1 : (y 1).val = (i 1).val) : iblk m c 0 t y = (m ((c.tc : Thread nD τ).loc main_arg0) : Vec Ideal S4096x1024 .bf16) i := by
  obtain ⟨a0, a1⟩ := merged_at t
  show (V m c main_arg0 : Vec Ideal S4096x1024 .bf16) _ = _
  rw [V_main_arg0 m c]
  refine congrArg (m ((c.tc : Thread nD τ).loc main_arg0) : Vec Ideal S4096x1024 .bf16) (funext fun a => Fin.ext ?_)
  match a with
  | ⟨0, _⟩ =>
    show win0_0.index t 0 * 512 + 1 * (y 0).val = (i 0).val
    rw [a0, one_mul]; exact h0
  | ⟨1, _⟩ =>
    show win0_0.index t 1 * 1024 + 1 * (y 1).val = (i 1).val
    rw [a1, feature_of]; exact h1

/-- A block's entry of the mixer's output. -/
theorem staged_mixer (t : Fin cfg0.N) (y : S512x1024.Idx) (i : S4096x1024.Idx) (h0 : t.val * 512 + (y 0).val = (i 0).val)
    (h1 : (y 1).val = (i 1).val) : iblk m c 1 t y = (m ((c.tc : Thread nD τ).loc main_arg1) : Vec Ideal S4096x1024 .bf16) i := by
  obtain ⟨a0, a1⟩ := mixer_at t
  show (V m c main_arg1 : Vec Ideal S4096x1024 .bf16) _ = _
  rw [V_main_arg1 m c]
  refine congrArg (m ((c.tc : Thread nD τ).loc main_arg1) : Vec Ideal S4096x1024 .bf16) (funext fun a => Fin.ext ?_)
  match a with
  | ⟨0, _⟩ =>
    show win0_1.index t 0 * 512 + 1 * (y 0).val = (i 0).val
    rw [a0, one_mul]; exact h0
  | ⟨1, _⟩ =>
    show win0_1.index t 1 * 1024 + 1 * (y 1).val = (i 1).val
    rw [a1, feature_of]; exact h1

/-- A block's gate is the mixer's. -/
theorem staged_gate (t : Fin cfg0.N) (y : S512x1024.Idx) (i : S4096x1024.Idx) (h0 : t.val * 512 + (y 0).val = (i 0).val)
    (h1 : (y 1).val = (i 1).val) : blockGate (iblk m c 2 t) (iblk m c 3 t) y
      = opened (m ((c.tc : Thread nD τ).loc main_arg2)) (m ((c.tc : Thread nD τ).loc main_arg3)) 2 i := by
  obtain ⟨a0, a1⟩ := columns_at t
  obtain ⟨b0, b1⟩ := bias_at t
  unfold blockGate opened
  refine congrArg gate (congrArg₂ (fun p q : EReal => p + q) ?_ ?_)
  · show (V m c main_arg2 : Vec Ideal S4096x11264 .f32) _ = _
    rw [V_main_arg2 m c]
    refine congrArg (m ((c.tc : Thread nD τ).loc main_arg2) : Vec Ideal S4096x11264 .f32) (funext fun a => Fin.ext ?_)
    match a with
    | ⟨0, _⟩ =>
      show win0_2.index t 0 * 512 + 1 * (y 0).val = (i 0).val
      rw [a0, one_mul]; exact h0
    | ⟨1, _⟩ =>
      show win0_2.index t 1 * 1024 + 1 * (y 1).val = 8192 + 1024 * 2 + (i 1).val
      rw [a1, column_of, h1]
  · show (V m c main_arg3 : Vec Ideal S1x1024 .f32) _ = _
    rw [V_main_arg3 m c]
    refine congrArg (m ((c.tc : Thread nD τ).loc main_arg3) : Vec Ideal S1x1024 .f32) (funext fun a => Fin.ext ?_)
    match a with
    | ⟨0, _⟩ =>
      show win0_3.index t 0 * 1 + 1 * 0 = 0
      rw [b0]
    | ⟨1, _⟩ =>
      show win0_3.index t 1 * 1024 + 1 * (y 1).val = (i 1).val
      rw [b1, feature_of]; exact h1

/-- A block's gradient of what the gate is taken of is the mixer's. -/
theorem staged_slope (t : Fin cfg0.N) (y : S512x1024.Idx) (i : S4096x1024.Idx) (h0 : t.val * 512 + (y 0).val = (i 0).val)
    (h1 : (y 1).val = (i 1).val) : blockSlope (iblk m c 2 t) (iblk m c 3 t) (iblk m c 0 t) (iblk m c 1 t) y
      = slopeOf (m ((c.tc : Thread nD τ).loc main_arg0)) (m ((c.tc : Thread nD τ).loc main_arg1)) (m ((c.tc : Thread nD τ).loc main_arg2))
        (m ((c.tc : Thread nD τ).loc main_arg3)) 2 i := by
  unfold blockSlope slopeOf
  rw [staged_gate m c t y i h0 h1]
  exact congrArg₂ (fun p q : EReal => p * q * _ * _) (staged_merged m c t y i h0 h1) (staged_mixer m c t y i h0 h1)

/-- At every point the block of the projection's gradient is stored. -/
theorem held_projection (t : Fin cfg0.N) (y : S512x1024.Idx) :
    ((outsAt0 m c t.val t.isLt).1 y : EReal) = blockSlope (iblk m c 2 t) (iblk m c 3 t) (iblk m c 0 t) (iblk m c 1 t) y := by
  have ht : t.val < 8 := t.isLt
  by_cases h : t.val % 8 = 0
  · rw [outsAt0_A m c t h (by omega)]
    frame_out
    exact block_slope _ _ _ _ y
  · rw [outsAt0_B m c t h (by omega)]
    frame_out
    exact block_slope _ _ _ _ y

/-- And the block of the mixer's. -/
theorem held_mixer (t : Fin cfg0.N) (y : S512x1024.Idx) :
    ((outsAt0 m c t.val t.isLt).2.1 y : EReal) = blockMixer (iblk m c 2 t) (iblk m c 3 t) (iblk m c 0 t) y := by
  have ht : t.val < 8 := t.isLt
  by_cases h : t.val % 8 = 0
  · rw [outsAt0_A m c t h (by omega)]
    frame_out
    exact block_mixer _ _ _ y
  · rw [outsAt0_B m c t h (by omega)]
    frame_out
    exact block_mixer _ _ _ y

/-- At the first point the bias's gradient is stored. -/
theorem held_first (t : Fin cfg0.N) (h : t.val % 8 = 0) (y : S1x1024.Idx) :
    ((outsAt0 m c t.val t.isLt).2.2 y : EReal) = part (iblk m c 2 t) (iblk m c 3 t) (iblk m c 0 t) (iblk m c 1 t) y := by
  have ht : t.val < 8 := t.isLt
  rw [outsAt0_A m c t h (by omega)]
  frame_out
  exact first_part _ _ _ _ y

/-- At the others it is added to. -/
theorem held_next (t : Fin cfg0.N) (h : ¬t.val % 8 = 0) (y : S1x1024.Idx) :
    ((outsAt0 m c t.val t.isLt).2.2 y : EReal)
      = (outsAt0 m c (t.val - 1) (Nat.lt_of_le_of_lt (Nat.sub_le _ _) t.isLt)).2.2 y
        + part (iblk m c 2 t) (iblk m c 3 t) (iblk m c 0 t) (iblk m c 1 t) y := by
  rw [outsAt0_B m c t h (by omega)]
  frame_out
  exact next_part _ _ _ _ _ y

/-- The array of the mixer's gradient, after the run. -/
theorem kernel_mixer : (dats m 0 c).arrAt 5 cfg0.N
    = mixer (m ((c.tc : Thread nD τ).loc main_arg0)) (m ((c.tc : Thread nD τ).loc main_arg2)) (m ((c.tc : Thread nD τ).loc main_arg3)) 2 := by
  refine (dats m 0 c).arrAt_eq_of_covers 5 _ (by decide +kernel) fun t hf y => ?_
  blk_simp
  rw [after0_5]
  obtain ⟨r0, r1⟩ := output_at t
  refine (held_mixer m c t y).trans ?_
  unfold mixer blockMixer
  have e0 : t.val * 512 + (y 0).val = win0_5.index t 0 * 512 + 1 * (y 0).val := by rw [r0, one_mul]
  have e1 : (y 1).val = win0_5.index t 1 * 1024 + 1 * (y 1).val := by rw [r1, feature_of]
  exact congrArg₂ (fun p q : EReal => p * q) (staged_merged m c t y _ e0 e1) (staged_gate m c t y _ e0 e1)

/-- The bias's gradient, after the run. -/
theorem kernel_bias : (dats m 0 c).arrAt 6 cfg0.N
    = bias (m ((c.tc : Thread nD τ).loc main_arg0)) (m ((c.tc : Thread nD τ).loc main_arg1)) (m ((c.tc : Thread nD τ).loc main_arg2))
      (m ((c.tc : Thread nD τ).loc main_arg3)) 2 := by
  refine (dats m 0 c).arrAt_eq_of_covers 6 _ (by decide +kernel) fun t hf y => ?_
  have h7 : t.val % 8 = 7 := (flush0_6 t).mp hf
  blk_simp
  rw [after0_6]
  refine (Pipeline.eq_sum_fin_of_reset_step_apply_of_flush (fun n h => ((outsAt0 m c n h).2.2 : S1x1024.Idx → EReal)) 8 (fun _ => 0)
    (fun t y => part (iblk m c 2 t) (iblk m c 3 t) (iblk m c 0 t) (iblk m c 1 t) y) (fun t h i => (held_first m c t h i).trans (zero_add _).symm)
    (fun t h i => held_next m c t h i) t h7 y).trans ?_
  refine (zero_add _).trans ?_
  unfold part bias
  refine Fin.sum_mul_add_congr fun s x hl => ?_
  have hs := s.isLt
  have ht : t.val < 8 := t.isLt
  obtain ⟨r0, r1⟩ := sum_at t
  refine staged_slope m c _ _ _ ?_ ?_
  · exact point_of t.val s.val x.val ht
  · show (y 1).val = win0_6.index t 1 * 1024 + 1 * (y 1).val
    rw [r1, feature_of]

/-- What a point writes back is its block of the projection's gradient. -/
theorem flushed_projection (t : Fin cfg0.N) : (dats m 0 c).flushed 4 t = ((cfg0.win 4).blk t).view.read (Elt Ideal)
    (projection (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) 2) := by
  refine funext fun y => ?_
  rw [Cert.GateDilIdeal.Value.flushed4]
  obtain ⟨s0, s1⟩ := projection_at t
  have hy : (y 0).val < 512 := (y 0).isLt
  have htN : t.val < 8 := t.isLt
  refine (held_projection m c t y).trans ((staged_slope m c t y (ix2 ⟨t.val * 512 + (y 0).val, row_of _ _ htN hy⟩ (y 1)) rfl rfl).trans ?_)
  refine (projection_inside _ _ _ _ _ _ _ _ ?_ ?_).symm
  · show win0_4.index t 0 * 512 + 1 * (y 0).val = t.val * 512 + (y 0).val
    rw [s0, one_mul]
  · show win0_4.index t 1 * 1024 + 1 * (y 1).val = 8192 + 1024 * 2 + (y 1).val
    rw [s1, column_of]

/-- An entry of the gate's columns is in the block of its rows. -/
theorem inside (i : S4096x11264.Idx) (h : 8192 + 1024 * 2 ≤ (i 1).val ∧ (i 1).val < 8192 + 1024 * 2 + 1024)
    (ht : (i 0).val / 512 < cfg0.N) : i ∈ ((cfg0.win 4).blk ⟨(i 0).val / 512, ht⟩).view.set := by
  obtain ⟨r0, r1⟩ := projection_at ⟨(i 0).val / 512, ht⟩
  refine Finset.mem_map.mpr ⟨(ix2 ⟨(i 0).val % 512, Nat.mod_lt _ (by norm_num)⟩ ⟨(i 1).val - (8192 + 1024 * 2), column_lt 2 _ h⟩ : S512x1024.Idx),
    Finset.mem_univ _, funext fun a => Fin.ext ?_⟩
  match a with
  | ⟨0, _⟩ =>
    show win0_4.index ⟨(i 0).val / 512, ht⟩ 0 * 512 + 1 * ((i 0).val % 512) = (i 0).val
    rw [r0]; exact (row_eq _).symm
  | ⟨1, _⟩ =>
    show win0_4.index ⟨(i 0).val / 512, ht⟩ 1 * 1024 + 1 * ((i 1).val - (8192 + 1024 * 2)) = (i 1).val
    rw [r1]; exact (column_eq 2 _ h).symm

/-- An entry of another column is in no block. -/
theorem outside (i : S4096x11264.Idx) (h : ¬(8192 + 1024 * 2 ≤ (i 1).val ∧ (i 1).val < 8192 + 1024 * 2 + 1024)) (t : Fin cfg0.N) :
    i ∉ ((cfg0.win 4).blk t).view.set := by
  intro hi
  obtain ⟨y, -, rfl⟩ := Finset.mem_map.mp hi
  obtain ⟨s0, s1⟩ := projection_at t
  have hy : (y 1).val < 1024 := (y 1).isLt
  refine h ?_
  show 8192 + 1024 * 2 ≤ win0_4.index t 1 * 1024 + 1 * (y 1).val ∧ win0_4.index t 1 * 1024 + 1 * (y 1).val < 8192 + 1024 * 2 + 1024
  rw [s1]; exact column_in 2 _ hy

/-- The array of the projection's gradient, after the run. -/
theorem kernel_projection : (dats m 0 c).arrAt 4 cfg0.N
    = projection (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) 2 := by
  refine funext fun i => ?_
  by_cases h : 8192 + 1024 * 2 ≤ (i 1).val ∧ (i 1).val < 8192 + 1024 * 2 + 1024
  · have hi : (i 0).val < 4096 := (i 0).isLt
    have ht : (i 0).val / 512 < cfg0.N := row_lt _ hi
    exact (dats m 0 c).arrAt_apply_of_mem 4 _ (fun t _ => flushed_projection m c t) cfg0.N ⟨(i 0).val / 512, ht⟩ i ht (flush0_4 _) (inside i h ht)
  · refine (Cert.GateDilIdeal.Value.entry4 m c i fun t _ => outside i h t).trans ?_
    rw [projection_outside _ _ _ _ _ _ _ h]
    exact congrFun (copied m c) i

end Kernel

section Reference
open Cert.GateDilReferenceIdeal Cert.GateDilReferenceIdeal.Read

theorem reference_gate (zp : Vec Ideal S4096x11264 .f32) (b : Vec Ideal S1x1024 .f32) (i : S4096x1024.Idx) :
    (val_main_v9 (F := Ideal) zp b i : EReal) = opened zp b 2 i := by
  unfold val_main_v9 val_main_v8 val_main_v7 val_main_v6 val_main_v5 val_main_v4 val_main_v3 val_main_v2 val_main_v1 val_main_cst val_main_cst_0
  pointwise
  unfold opened gate
  refine congrArg (fun z : EReal => Ideal.div 1 (1 + Ideal.exp (-z))) ?_
  rfl

theorem reference_slope (dm p : Vec Ideal S4096x1024 .bf16) (zp : Vec Ideal S4096x11264 .f32) (b : Vec Ideal S1x1024 .f32) (i : S4096x1024.Idx) :
    (val_main_v17 (F := Ideal) dm p zp b i : EReal) = slopeOf dm p zp b 2 i := by
  unfold slopeOf
  rw [← reference_gate]
  unfold val_main_v17 val_main_v16 val_main_v14 val_main_v12 val_main_v11 val_main_v10 val_main_v0 val_main_cst_1
  pointwise
  exact (mul_assoc _ _ _).symm

theorem reference_mixer (dm : Vec Ideal S4096x1024 .bf16) (zp : Vec Ideal S4096x11264 .f32) (b : Vec Ideal S1x1024 .f32) :
    val_main_v24 (F := Ideal) dm zp b = mixer dm zp b 2 := by
  refine funext fun i => ?_
  show ((val_main_v24 (F := Ideal) dm zp b : Vec Ideal S4096x1024 .bf16) i : EReal) = _
  unfold mixer
  rw [← reference_gate]
  unfold val_main_v24 val_main_v15 val_main_v14
  pointwise
  exact mul_comm _ _

theorem reference_bias (dm p : Vec Ideal S4096x1024 .bf16) (zp : Vec Ideal S4096x11264 .f32) (b : Vec Ideal S1x1024 .f32) :
    val_main_v19 (F := Ideal) dm p zp b = bias dm p zp b 2 := by
  refine funext fun i => ?_
  show ((val_main_v19 (F := Ideal) dm p zp b : Vec Ideal S1x1024 .f32) i : EReal) = _
  unfold bias
  simp only [← reference_slope]
  unfold val_main_v19 val_main_v18 val_main_cst_2
  pointwise

theorem reference_projection (dm p : Vec Ideal S4096x1024 .bf16) (zp : Vec Ideal S4096x11264 .f32) (b : Vec Ideal S1x1024 .f32)
    (dz : Vec Ideal S4096x11264 .bf16) : val_main_v23 (F := Ideal) dm p zp b dz = projection dm p zp b dz 2 := by
  refine funext fun i => ?_
  show ((val_main_v23 (F := Ideal) dm p zp b dz : Vec Ideal S4096x11264 .bf16) i : EReal) = _
  have hi : (i 1).val < 11264 := (i 1).isLt
  unfold val_main_v23 val_main_v22 val_main_v21 val_main_v20
  pointwise
  by_cases h1 : (i 1).val < 8192 + 1024 * 2
  · have ho : ¬(8192 + 1024 * 2 ≤ (i 1).val ∧ (i 1).val < 8192 + 1024 * 2 + 1024) := by omega
    rw [dif_pos h1]
    exact (projection_outside dm p zp b dz 2 i ho).symm
  · by_cases h2 : (i 1).val - (8192 + 1024 * 2) < 1024
    · have hc : (i 1).val = 8192 + 1024 * 2 + ((i 1).val - (8192 + 1024 * 2)) := by omega
      rw [dif_neg h1, dif_pos h2]
      exact (reference_slope dm p zp b _).trans
        (projection_inside dm p zp b dz 2 i (ix2 (i 0) ⟨(i 1).val - (8192 + 1024 * 2), h2⟩) rfl hc).symm
    · have ho : ¬(8192 + 1024 * 2 ≤ (i 1).val ∧ (i 1).val < 8192 + 1024 * 2 + 1024) := by omega
      rw [dif_neg h1, dif_neg h2]
      refine (same_entry dz i _ ?_).trans (projection_outside dm p zp b dz 2 i ho).symm
      dsimp only
      omega

end Reference

/-- From the same arguments the kernel and the reference end with the same three gradients. -/
theorem algebraic : Cert.algebraic_GateDilIdeal_GateDilReferenceIdeal := by
  intro m ρ m' ρ' hpre hargs
  refine ⟨fun c => projection (m ((c.tc : Thread Cert.GateDilIdeal.nD Cert.GateDilIdeal.τ).loc Cert.GateDilIdeal.main_arg0)) (m ((c.tc : Thread Cert.GateDilIdeal.nD Cert.GateDilIdeal.τ).loc Cert.GateDilIdeal.main_arg1)) (m ((c.tc : Thread Cert.GateDilIdeal.nD Cert.GateDilIdeal.τ).loc Cert.GateDilIdeal.main_arg2)) (m ((c.tc : Thread Cert.GateDilIdeal.nD Cert.GateDilIdeal.τ).loc Cert.GateDilIdeal.main_arg3)) (m ((c.tc : Thread Cert.GateDilIdeal.nD Cert.GateDilIdeal.τ).loc Cert.GateDilIdeal.main_arg4)) 2,
    fun c => mixer (m ((c.tc : Thread Cert.GateDilIdeal.nD Cert.GateDilIdeal.τ).loc Cert.GateDilIdeal.main_arg0)) (m ((c.tc : Thread Cert.GateDilIdeal.nD Cert.GateDilIdeal.τ).loc Cert.GateDilIdeal.main_arg2)) (m ((c.tc : Thread Cert.GateDilIdeal.nD Cert.GateDilIdeal.τ).loc Cert.GateDilIdeal.main_arg3)) 2,
    fun c => bias (m ((c.tc : Thread Cert.GateDilIdeal.nD Cert.GateDilIdeal.τ).loc Cert.GateDilIdeal.main_arg0)) (m ((c.tc : Thread Cert.GateDilIdeal.nD Cert.GateDilIdeal.τ).loc Cert.GateDilIdeal.main_arg1)) (m ((c.tc : Thread Cert.GateDilIdeal.nD Cert.GateDilIdeal.τ).loc Cert.GateDilIdeal.main_arg2)) (m ((c.tc : Thread Cert.GateDilIdeal.nD Cert.GateDilIdeal.τ).loc Cert.GateDilIdeal.main_arg3)) 2, ?_, ?_⟩
  · exact (θ_run Cert.GateDilIdeal.defs _ _).mono (fun r h c => ⟨(h c).1.trans (kernel_projection m c), (h c).2.1.trans (kernel_mixer m c),
      (h c).2.2.1.trans (kernel_bias m c), (h c).2.2.2⟩) (Cert.GateDilIdeal.Value.run_blocks (F := Ideal) m ρ)
  · refine (θ_run Cert.GateDilReferenceIdeal.defs _ _).mono (fun r h c => ?_) (Cert.GateDilReferenceIdeal.Value.run (F := Ideal) m' ρ')
    obtain ⟨e0, e1, e2, e3, e4⟩ := hargs c
    refine ⟨(h c).1.trans ((Cert.GateDilReferenceIdeal.Read.val_main_v23_eq _ _ _ _ _).trans ?_),
      (h c).2.1.trans ((Cert.GateDilReferenceIdeal.Read.val_main_v24_eq _ _ _).trans ?_),
      (h c).2.2.1.trans ((Cert.GateDilReferenceIdeal.Read.val_main_v19_eq _ _ _ _).trans ?_), (h c).2.2.2⟩
    · rw [e0, e1, e2, e3, e4]
      exact reference_projection _ _ _ _ _
    · rw [e0, e2, e3]
      exact reference_mixer _ _ _
    · rw [e0, e1, e2, e3]
      exact reference_bias _ _ _ _

end Cert.GateGradientDil

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.IdealRun
public import proofs.«01_k».proof.Proof.Equal
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.ProjW
public import proofs.«01_k».proof.Proof.Gen.ProjW.Frame
public import proofs.«01_k».proof.Proof.Gen.ProjWIdeal
public import proofs.«01_k».proof.Proof.Gen.ProjWIdeal.Frame
public import proofs.«01_k».proof.Proof.Gen.ProjWIdeal.Value
public import proofs.«01_k».proof.Proof.Gen.ProjWReferenceIdeal
public import proofs.«01_k».proof.Proof.Gen.ProjWReferenceIdeal.Run
public import proofs.«01_k».proof.Proof.Gen.ProjWReferenceIdeal.Read
public import proofs.«01_k».proof.Proof.Gen.ProjH
public import proofs.«01_k».proof.Proof.Gen.ProjH.Frame
public import proofs.«01_k».proof.Proof.Gen.ProjHIdeal
public import proofs.«01_k».proof.Proof.Gen.ProjHIdeal.Frame
public import proofs.«01_k».proof.Proof.Gen.ProjHIdeal.Value
public import proofs.«01_k».proof.Proof.Gen.ProjHReferenceIdeal
public import proofs.«01_k».proof.Proof.Gen.ProjHReferenceIdeal.Run
public import proofs.«01_k».proof.Proof.Gen.ProjHReferenceIdeal.Read
public import proofs.«01_k».proof.Proof.Gen.LruOut
public import proofs.«01_k».proof.Proof.Gen.LruOut.Frame
public import proofs.«01_k».proof.Proof.Gen.LruOutIdeal
public import proofs.«01_k».proof.Proof.Gen.LruOutIdeal.Frame
public import proofs.«01_k».proof.Proof.Gen.LruOutIdeal.Value
public import proofs.«01_k».proof.Proof.Gen.LruOutReferenceIdeal
public import proofs.«01_k».proof.Proof.Gen.LruOutReferenceIdeal.Run
public import proofs.«01_k».proof.Proof.Gen.LruOutReferenceIdeal.Read
public import proofs.«01_k».proof.Proof.Gen.MlaOut
public import proofs.«01_k».proof.Proof.Gen.MlaOut.Frame
public import proofs.«01_k».proof.Proof.Gen.MlaOutIdeal
public import proofs.«01_k».proof.Proof.Gen.MlaOutIdeal.Frame
public import proofs.«01_k».proof.Proof.Gen.MlaOutIdeal.Value
public import proofs.«01_k».proof.Proof.Gen.MlaOutReferenceIdeal
public import proofs.«01_k».proof.Proof.Gen.MlaOutReferenceIdeal.Run
public import proofs.«01_k».proof.Proof.Gen.MlaOutReferenceIdeal.Read
public import proofs.«01_k».proof.Proof.Gen.DilOut
public import proofs.«01_k».proof.Proof.Gen.DilOut.Frame
public import proofs.«01_k».proof.Proof.Gen.DilOutIdeal
public import proofs.«01_k».proof.Proof.Gen.DilOutIdeal.Frame
public import proofs.«01_k».proof.Proof.Gen.DilOutIdeal.Value
public import proofs.«01_k».proof.Proof.Gen.DilOutReferenceIdeal
public import proofs.«01_k».proof.Proof.Gen.DilOutReferenceIdeal.Run
public import proofs.«01_k».proof.Proof.Gen.DilOutReferenceIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Proof.Gen.MergedGrad
public import proofs.«01_k».proof.Proof.Gen.MergedGrad.Frame
public import proofs.«01_k».proof.Proof.Gen.MergedGradIdeal
public import proofs.«01_k».proof.Proof.Gen.MergedGradIdeal.Frame
public import proofs.«01_k».proof.Proof.Gen.MergedGradIdeal.Value
public import proofs.«01_k».proof.Proof.Gen.MergedGradReferenceIdeal
public import proofs.«01_k».proof.Proof.Gen.MergedGradReferenceIdeal.Run
public import proofs.«01_k».proof.Proof.Gen.MergedGradReferenceIdeal.Read
public import proofs.«01_k».proof.Proof.Gen.OutWeightGrad
public import proofs.«01_k».proof.Proof.Gen.OutWeightGrad.Frame
public import proofs.«01_k».proof.Proof.Gen.OutWeightGradIdeal
public import proofs.«01_k».proof.Proof.Gen.OutWeightGradIdeal.Frame
public import proofs.«01_k».proof.Proof.Gen.OutWeightGradIdeal.Value
public import proofs.«01_k».proof.Proof.Gen.OutWeightGradReferenceIdeal
public import proofs.«01_k».proof.Proof.Gen.OutWeightGradReferenceIdeal.Run
public import proofs.«01_k».proof.Proof.Gen.OutWeightGradReferenceIdeal.Read
public import proofs.«01_k».proof.Proof.Gen.LruGrad
public import proofs.«01_k».proof.Proof.Gen.LruGrad.Frame
public import proofs.«01_k».proof.Proof.Gen.LruGradIdeal
public import proofs.«01_k».proof.Proof.Gen.LruGradIdeal.Frame
public import proofs.«01_k».proof.Proof.Gen.LruGradIdeal.Value
public import proofs.«01_k».proof.Proof.Gen.LruGradReferenceIdeal
public import proofs.«01_k».proof.Proof.Gen.LruGradReferenceIdeal.Run
public import proofs.«01_k».proof.Proof.Gen.LruGradReferenceIdeal.Read
public import proofs.«01_k».proof.Proof.Gen.MlaGrad
public import proofs.«01_k».proof.Proof.Gen.MlaGrad.Frame
public import proofs.«01_k».proof.Proof.Gen.MlaGradIdeal
public import proofs.«01_k».proof.Proof.Gen.MlaGradIdeal.Frame
public import proofs.«01_k».proof.Proof.Gen.MlaGradIdeal.Value
public import proofs.«01_k».proof.Proof.Gen.MlaGradReferenceIdeal
public import proofs.«01_k».proof.Proof.Gen.MlaGradReferenceIdeal.Run
public import proofs.«01_k».proof.Proof.Gen.MlaGradReferenceIdeal.Read
public import proofs.«01_k».proof.Proof.Gen.DilGrad
public import proofs.«01_k».proof.Proof.Gen.DilGrad.Frame
public import proofs.«01_k».proof.Proof.Gen.DilGradIdeal
public import proofs.«01_k».proof.Proof.Gen.DilGradIdeal.Frame
public import proofs.«01_k».proof.Proof.Gen.DilGradIdeal.Value
public import proofs.«01_k».proof.Proof.Gen.DilGradReferenceIdeal
public import proofs.«01_k».proof.Proof.Gen.DilGradReferenceIdeal.Run
public import proofs.«01_k».proof.Proof.Gen.DilGradReferenceIdeal.Read
public import proofs.«01_k».proof.Proof.Gen.LruWeightGrad
public import proofs.«01_k».proof.Proof.Gen.LruWeightGrad.Frame
public import proofs.«01_k».proof.Proof.Gen.LruWeightGradIdeal
public import proofs.«01_k».proof.Proof.Gen.LruWeightGradIdeal.Frame
public import proofs.«01_k».proof.Proof.Gen.LruWeightGradIdeal.Value
public import proofs.«01_k».proof.Proof.Gen.LruWeightGradReferenceIdeal
public import proofs.«01_k».proof.Proof.Gen.LruWeightGradReferenceIdeal.Run
public import proofs.«01_k».proof.Proof.Gen.LruWeightGradReferenceIdeal.Read
public import proofs.«01_k».proof.Proof.Gen.MlaWeightGrad
public import proofs.«01_k».proof.Proof.Gen.MlaWeightGrad.Frame
public import proofs.«01_k».proof.Proof.Gen.MlaWeightGradIdeal
public import proofs.«01_k».proof.Proof.Gen.MlaWeightGradIdeal.Frame
public import proofs.«01_k».proof.Proof.Gen.MlaWeightGradIdeal.Value
public import proofs.«01_k».proof.Proof.Gen.MlaWeightGradReferenceIdeal
public import proofs.«01_k».proof.Proof.Gen.MlaWeightGradReferenceIdeal.Run
public import proofs.«01_k».proof.Proof.Gen.MlaWeightGradReferenceIdeal.Read
public import proofs.«01_k».proof.Proof.Gen.DilWeightGrad
public import proofs.«01_k».proof.Proof.Gen.DilWeightGrad.Frame
public import proofs.«01_k».proof.Proof.Gen.DilWeightGradIdeal
public import proofs.«01_k».proof.Proof.Gen.DilWeightGradIdeal.Frame
public import proofs.«01_k».proof.Proof.Gen.DilWeightGradIdeal.Value
public import proofs.«01_k».proof.Proof.Gen.DilWeightGradReferenceIdeal
public import proofs.«01_k».proof.Proof.Gen.DilWeightGradReferenceIdeal.Run
public import proofs.«01_k».proof.Proof.Gen.DilWeightGradReferenceIdeal.Read
public import proofs.«01_k».proof.Proof.Gen.Attention
public import proofs.«01_k».proof.Proof.Gen.Attention.Frame
public import proofs.«01_k».proof.Proof.Gen.AttentionIdeal
public import proofs.«01_k».proof.Proof.Gen.AttentionIdeal.Frame
public import proofs.«01_k».proof.Proof.Gen.AttentionIdeal.Value
public import proofs.«01_k».proof.Proof.Gen.AttentionReferenceIdeal
public import proofs.«01_k».proof.Proof.Gen.AttentionReferenceIdeal.Run
public import proofs.«01_k».proof.Proof.Gen.AttentionReferenceIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.AdamW
public import proofs.«01_k».proof.Proof.Gen.AdamW.Frame
public import proofs.«01_k».proof.Proof.Gen.AdamWIdeal
public import proofs.«01_k».proof.Proof.Gen.AdamWIdeal.Frame
public import proofs.«01_k».proof.Proof.Gen.AdamWIdeal.Value
public import proofs.«01_k».proof.Proof.Gen.AdamWReferenceIdeal
public import proofs.«01_k».proof.Proof.Gen.AdamWReferenceIdeal.Run
public import proofs.«01_k».proof.Proof.Gen.AdamWReferenceIdeal.Read
public import proofs.«01_k».proof.Proof.Gen.GateLru
public import proofs.«01_k».proof.Proof.Gen.GateLru.Frame
public import proofs.«01_k».proof.Proof.Gen.GateLruIdeal
public import proofs.«01_k».proof.Proof.Gen.GateLruIdeal.Frame
public import proofs.«01_k».proof.Proof.Gen.GateLruIdeal.Value
public import proofs.«01_k».proof.Proof.Gen.GateLruReferenceIdeal
public import proofs.«01_k».proof.Proof.Gen.GateLruReferenceIdeal.Run
public import proofs.«01_k».proof.Proof.Gen.GateLruReferenceIdeal.Read
public import proofs.«01_k».proof.Proof.Gen.GateMla
public import proofs.«01_k».proof.Proof.Gen.GateMla.Frame
public import proofs.«01_k».proof.Proof.Gen.GateMlaIdeal
public import proofs.«01_k».proof.Proof.Gen.GateMlaIdeal.Frame
public import proofs.«01_k».proof.Proof.Gen.GateMlaIdeal.Value
public import proofs.«01_k».proof.Proof.Gen.GateMlaReferenceIdeal
public import proofs.«01_k».proof.Proof.Gen.GateMlaReferenceIdeal.Run
public import proofs.«01_k».proof.Proof.Gen.GateMlaReferenceIdeal.Read
public import proofs.«01_k».proof.Proof.Gen.GateDil
public import proofs.«01_k».proof.Proof.Gen.GateDil.Frame
public import proofs.«01_k».proof.Proof.Gen.GateDilIdeal
public import proofs.«01_k».proof.Proof.Gen.GateDilIdeal.Frame
public import proofs.«01_k».proof.Proof.Gen.GateDilIdeal.Value
public import proofs.«01_k».proof.Proof.Gen.GateDilReferenceIdeal
public import proofs.«01_k».proof.Proof.Gen.GateDilReferenceIdeal.Run
public import proofs.«01_k».proof.Proof.Gen.GateDilReferenceIdeal.Read
public import proofs.«01_k».proof.Proof.ProjectionForward
public import proofs.«01_k».proof.Proof.ProjectionWeights
public import proofs.«01_k».proof.Proof.ProjectionInputs
public import proofs.«01_k».proof.Proof.LruOutput
public import proofs.«01_k».proof.Proof.MlaOutput
public import proofs.«01_k».proof.Proof.DilOutput
public import proofs.«01_k».proof.Proof.LayerOutput
public import proofs.«01_k».proof.Proof.MergedGradient
public import proofs.«01_k».proof.Proof.OutputWeights
public import proofs.«01_k».proof.Proof.LruGradient
public import proofs.«01_k».proof.Proof.MlaGradient
public import proofs.«01_k».proof.Proof.DilGradient
public import proofs.«01_k».proof.Proof.LruWeights
public import proofs.«01_k».proof.Proof.MlaWeights
public import proofs.«01_k».proof.Proof.DilWeights
public import proofs.«01_k».proof.Proof.AttentionEqual
public import proofs.«01_k».proof.Proof.LayerNorm
public import proofs.«01_k».proof.Proof.MergeGates
public import proofs.«01_k».proof.Proof.LossHead
public import proofs.«01_k».proof.Proof.Optimiser
public import proofs.«01_k».proof.Proof.GateGradientLru
public import proofs.«01_k».proof.Proof.GateGradientMla
public import proofs.«01_k».proof.Proof.GateGradientDil
public import Idealize.ShloMosaic.Adequacy
public import Idealize.ShloMosaic.Init

/-!
# The certificate

The frames of every call's three programs, the reading of each call over the extended reals as the call's own idealization, and the equality
of each call's and its reference's results.
-/

@[expose] public section

noncomputable section

namespace Cert.Proof

open Idealize.ShloMosaic Idealize.SL.Sem

/-- The kernel on machine words ends without fault, with its arguments unchanged and every counter at zero. -/
theorem words_quiet : Cert.quiescent_Kernel := fun m ρ _ => Cert.Kernel.Body.frame m ρ

/-- The kernel over the extended reals ends without fault, with its arguments unchanged and every counter at zero. -/
theorem ideal_quiet : Cert.quiescent_KernelIdeal := fun m ρ _ => Cert.KernelIdeal.Launch.quiet m ρ

/-- The reference over the extended reals ends without fault, with its arguments unchanged; it has no counter. -/
theorem reference_quiet : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The mask's literal stands for minus infinity: the named constant's statement at its two sites. -/
theorem mask_named : Cert.preserves_Kernel_KernelIdeal := IdealRules.named_const.statement Cert.KernelIdeal.κ "mask" .f32 0xF149F2CA#32 ⊥ rfl

/-- The reference of the combined projection ends without fault, with its arguments unchanged; it has no counter. -/
theorem reference_quiet_Proj : Cert.quiescent_ProjReferenceIdeal := fun m ρ _ =>
  (θ_run Cert.ProjReferenceIdeal.defs _ _).mono (fun r h => ⟨fun c => (h c).2, sem_eq_zero_of_no_sems (by decide) r.2⟩)
    (Cert.ProjReferenceIdeal.Value.run (F := Ideal) m ρ)

/-- The reference of the gradient of the projection's weights ends without fault, with its arguments unchanged; it has no counter. -/
theorem reference_quiet_ProjW : Cert.quiescent_ProjWReferenceIdeal := fun m ρ _ =>
  (θ_run Cert.ProjWReferenceIdeal.defs _ _).mono (fun r h => ⟨fun c => (h c).2, sem_eq_zero_of_no_sems (by decide) r.2⟩)
    (Cert.ProjWReferenceIdeal.Value.run (F := Ideal) m ρ)

/-- The reference of the gradient of the projection's activations ends without fault, with its arguments unchanged; it has no counter. -/
theorem reference_quiet_ProjH : Cert.quiescent_ProjHReferenceIdeal := fun m ρ _ =>
  (θ_run Cert.ProjHReferenceIdeal.defs _ _).mono (fun r h => ⟨fun c => (h c).2, sem_eq_zero_of_no_sems (by decide) r.2⟩)
    (Cert.ProjHReferenceIdeal.Value.run (F := Ideal) m ρ)

/-- The reference of the recurrence's output projection ends without fault, with its arguments unchanged; it has no counter. -/
theorem reference_quiet_LruOut : Cert.quiescent_LruOutReferenceIdeal := fun m ρ _ =>
  (θ_run Cert.LruOutReferenceIdeal.defs _ _).mono (fun r h => ⟨fun c => (h c).2, sem_eq_zero_of_no_sems (by decide) r.2⟩)
    (Cert.LruOutReferenceIdeal.Value.run (F := Ideal) m ρ)

/-- The reference of the latent attention's output projection ends without fault, with its arguments unchanged; it has no counter. -/
theorem reference_quiet_MlaOut : Cert.quiescent_MlaOutReferenceIdeal := fun m ρ _ =>
  (θ_run Cert.MlaOutReferenceIdeal.defs _ _).mono (fun r h => ⟨fun c => (h c).2, sem_eq_zero_of_no_sems (by decide) r.2⟩)
    (Cert.MlaOutReferenceIdeal.Value.run (F := Ideal) m ρ)

/-- The reference of the dilated attention's output projection ends without fault, with its arguments unchanged; it has no counter. -/
theorem reference_quiet_DilOut : Cert.quiescent_DilOutReferenceIdeal := fun m ρ _ =>
  (θ_run Cert.DilOutReferenceIdeal.defs _ _).mono (fun r h => ⟨fun c => (h c).2, sem_eq_zero_of_no_sems (by decide) r.2⟩)
    (Cert.DilOutReferenceIdeal.Value.run (F := Ideal) m ρ)

/-- The reference of the layer's output projection ends without fault, with its arguments unchanged; it has no counter. -/
theorem reference_quiet_OutProj : Cert.quiescent_OutProjReferenceIdeal := fun m ρ _ =>
  (θ_run Cert.OutProjReferenceIdeal.defs _ _).mono (fun r h => ⟨fun c => (h c).2, sem_eq_zero_of_no_sems (by decide) r.2⟩)
    (Cert.OutProjReferenceIdeal.Value.run (F := Ideal) m ρ)

/-- The reference of the merged branches' gradient ends without fault, with its arguments unchanged; it has no counter. -/
theorem reference_quiet_MergedGrad : Cert.quiescent_MergedGradReferenceIdeal := fun m ρ _ =>
  (θ_run Cert.MergedGradReferenceIdeal.defs _ _).mono (fun r h => ⟨fun c => (h c).2, sem_eq_zero_of_no_sems (by decide) r.2⟩)
    (Cert.MergedGradReferenceIdeal.Value.run (F := Ideal) m ρ)

/-- The reference of the gradient of the layer's output weights ends without fault, with its arguments unchanged; it has no counter. -/
theorem reference_quiet_OutWeightGrad : Cert.quiescent_OutWeightGradReferenceIdeal := fun m ρ _ =>
  (θ_run Cert.OutWeightGradReferenceIdeal.defs _ _).mono (fun r h => ⟨fun c => (h c).2, sem_eq_zero_of_no_sems (by decide) r.2⟩)
    (Cert.OutWeightGradReferenceIdeal.Value.run (F := Ideal) m ρ)

/-- The reference of the gradient of the recurrence's output ends without fault, with its arguments unchanged; it has no counter. -/
theorem reference_quiet_LruGrad : Cert.quiescent_LruGradReferenceIdeal := fun m ρ _ =>
  (θ_run Cert.LruGradReferenceIdeal.defs _ _).mono (fun r h => ⟨fun c => (h c).2, sem_eq_zero_of_no_sems (by decide) r.2⟩)
    (Cert.LruGradReferenceIdeal.Value.run (F := Ideal) m ρ)

/-- The reference of the gradient of the latent attention's output ends without fault, with its arguments unchanged; it has no counter. -/
theorem reference_quiet_MlaGrad : Cert.quiescent_MlaGradReferenceIdeal := fun m ρ _ =>
  (θ_run Cert.MlaGradReferenceIdeal.defs _ _).mono (fun r h => ⟨fun c => (h c).2, sem_eq_zero_of_no_sems (by decide) r.2⟩)
    (Cert.MlaGradReferenceIdeal.Value.run (F := Ideal) m ρ)

/-- The reference of the gradient of the dilated attention's output ends without fault, with its arguments unchanged; it has no counter. -/
theorem reference_quiet_DilGrad : Cert.quiescent_DilGradReferenceIdeal := fun m ρ _ =>
  (θ_run Cert.DilGradReferenceIdeal.defs _ _).mono (fun r h => ⟨fun c => (h c).2, sem_eq_zero_of_no_sems (by decide) r.2⟩)
    (Cert.DilGradReferenceIdeal.Value.run (F := Ideal) m ρ)

/-- The reference of the gradient of the recurrence's output weights ends without fault, with its arguments unchanged; it has no counter. -/
theorem reference_quiet_LruWeightGrad : Cert.quiescent_LruWeightGradReferenceIdeal := fun m ρ _ =>
  (θ_run Cert.LruWeightGradReferenceIdeal.defs _ _).mono (fun r h => ⟨fun c => (h c).2, sem_eq_zero_of_no_sems (by decide) r.2⟩)
    (Cert.LruWeightGradReferenceIdeal.Value.run (F := Ideal) m ρ)

/-- The reference of the gradient of the latent attention's output weights ends without fault, with its arguments unchanged; it has no counter. -/
theorem reference_quiet_MlaWeightGrad : Cert.quiescent_MlaWeightGradReferenceIdeal := fun m ρ _ =>
  (θ_run Cert.MlaWeightGradReferenceIdeal.defs _ _).mono (fun r h => ⟨fun c => (h c).2, sem_eq_zero_of_no_sems (by decide) r.2⟩)
    (Cert.MlaWeightGradReferenceIdeal.Value.run (F := Ideal) m ρ)

/-- The reference of the gradient of the dilated attention's output weights ends without fault, with its arguments unchanged; it has no counter. -/
theorem reference_quiet_DilWeightGrad : Cert.quiescent_DilWeightGradReferenceIdeal := fun m ρ _ =>
  (θ_run Cert.DilWeightGradReferenceIdeal.defs _ _).mono (fun r h => ⟨fun c => (h c).2, sem_eq_zero_of_no_sems (by decide) r.2⟩)
    (Cert.DilWeightGradReferenceIdeal.Value.run (F := Ideal) m ρ)

/-- The reference of the attention ends without fault, with its arguments unchanged; it has no counter. -/
theorem reference_quiet_Attention : Cert.quiescent_AttentionReferenceIdeal := fun m ρ _ =>
  (θ_run Cert.AttentionReferenceIdeal.defs _ _).mono (fun r h => ⟨fun c => (h c).2.2.2, sem_eq_zero_of_no_sems (by decide) r.2⟩)
    (Cert.AttentionReferenceIdeal.Value.run (F := Ideal) m ρ)

/-- The attention's three literals stand for minus infinity, for the scores' scale over the logarithm of two and for that logarithm. -/
theorem attention_named : Cert.preserves_Attention_AttentionIdeal :=
  ⟨IdealRules.named_const.statement Cert.AttentionIdeal.κ "mask" .f32 0xF149F2CA#32 ⊥ rfl,
    IdealRules.named_const.statement Cert.AttentionIdeal.κ "scale2" .f32 0x3E16C740#32 (((3424635 / 33554432) * (Real.log 2)⁻¹ : ℝ) : EReal) rfl,
    IdealRules.named_const.statement Cert.AttentionIdeal.κ "ln2" .f32 0x3F317218#32 ((Real.log 2 : ℝ) : EReal) rfl⟩

/-- The reference of the layer's input norm ends without fault, with its arguments unchanged; it has no counter. -/
theorem reference_quiet_Norm : Cert.quiescent_NormReferenceIdeal := fun m ρ _ =>
  (θ_run Cert.NormReferenceIdeal.defs _ _).mono (fun r h => ⟨fun c => (h c).2, sem_eq_zero_of_no_sems (by decide) r.2⟩)
    (Cert.NormReferenceIdeal.Value.run (F := Ideal) m ρ)

/-- The reference of the gated sum of the mixers ends without fault, with its arguments unchanged; it has no counter. -/
theorem reference_quiet_Merge : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The reference of the loss and its gradient ends without fault, with its arguments unchanged; it has no counter. -/
theorem reference_quiet_Loss : Cert.quiescent_LossReferenceIdeal := fun m ρ _ =>
  (θ_run Cert.LossReferenceIdeal.defs _ _).mono (fun r h => ⟨fun c => (h c).2.2, sem_eq_zero_of_no_sems (by decide) r.2⟩)
    (Cert.LossReferenceIdeal.Value.run (F := Ideal) m ρ)

/-- The reference of the optimiser's step ends without fault, with its arguments unchanged; it has no counter. -/
theorem reference_quiet_AdamW : Cert.quiescent_AdamWReferenceIdeal := fun m ρ _ =>
  (θ_run Cert.AdamWReferenceIdeal.defs _ _).mono (fun r h => ⟨fun c => (h c).2.2.2, sem_eq_zero_of_no_sems (by decide) r.2⟩)
    (Cert.AdamWReferenceIdeal.Value.run (F := Ideal) m ρ)

/-- The reference of the recurrence's gate's gradients ends without fault, with its arguments unchanged; it has no counter. -/
theorem reference_quiet_GateLru : Cert.quiescent_GateLruReferenceIdeal := fun m ρ _ =>
  (θ_run Cert.GateLruReferenceIdeal.defs _ _).mono (fun r h => ⟨fun c => (h c).2.2.2, sem_eq_zero_of_no_sems (by decide) r.2⟩)
    (Cert.GateLruReferenceIdeal.Value.run (F := Ideal) m ρ)

/-- The reference of the attention's gate's gradients ends without fault, with its arguments unchanged; it has no counter. -/
theorem reference_quiet_GateMla : Cert.quiescent_GateMlaReferenceIdeal := fun m ρ _ =>
  (θ_run Cert.GateMlaReferenceIdeal.defs _ _).mono (fun r h => ⟨fun c => (h c).2.2.2, sem_eq_zero_of_no_sems (by decide) r.2⟩)
    (Cert.GateMlaReferenceIdeal.Value.run (F := Ideal) m ρ)

/-- The reference of the dilated attention's gate's gradients ends without fault, with its arguments unchanged; it has no counter. -/
theorem reference_quiet_GateDil : Cert.quiescent_GateDilReferenceIdeal := fun m ρ _ =>
  (θ_run Cert.GateDilReferenceIdeal.defs _ _).mono (fun r h => ⟨fun c => (h c).2.2.2, sem_eq_zero_of_no_sems (by decide) r.2⟩)
    (Cert.GateDilReferenceIdeal.Value.run (F := Ideal) m ρ)

theorem claim : Cert.Claim := ⟨Cert.Kernel.Gen.facts, Cert.KernelIdeal.Gen.facts, Cert.ReferenceIdeal.Gen.facts,
  Cert.Proj.Gen.facts, Cert.ProjIdeal.Gen.facts, Cert.ProjReferenceIdeal.Gen.facts,
  Cert.ProjW.Gen.facts, Cert.ProjWIdeal.Gen.facts, Cert.ProjWReferenceIdeal.Gen.facts,
  Cert.ProjH.Gen.facts, Cert.ProjHIdeal.Gen.facts, Cert.ProjHReferenceIdeal.Gen.facts,
  Cert.LruOut.Gen.facts, Cert.LruOutIdeal.Gen.facts, Cert.LruOutReferenceIdeal.Gen.facts,
  Cert.MlaOut.Gen.facts, Cert.MlaOutIdeal.Gen.facts, Cert.MlaOutReferenceIdeal.Gen.facts,
  Cert.DilOut.Gen.facts, Cert.DilOutIdeal.Gen.facts, Cert.DilOutReferenceIdeal.Gen.facts,
  Cert.OutProj.Gen.facts, Cert.OutProjIdeal.Gen.facts, Cert.OutProjReferenceIdeal.Gen.facts,
  Cert.MergedGrad.Gen.facts, Cert.MergedGradIdeal.Gen.facts, Cert.MergedGradReferenceIdeal.Gen.facts,
  Cert.OutWeightGrad.Gen.facts, Cert.OutWeightGradIdeal.Gen.facts, Cert.OutWeightGradReferenceIdeal.Gen.facts,
  Cert.LruGrad.Gen.facts, Cert.LruGradIdeal.Gen.facts, Cert.LruGradReferenceIdeal.Gen.facts,
  Cert.MlaGrad.Gen.facts, Cert.MlaGradIdeal.Gen.facts, Cert.MlaGradReferenceIdeal.Gen.facts,
  Cert.DilGrad.Gen.facts, Cert.DilGradIdeal.Gen.facts, Cert.DilGradReferenceIdeal.Gen.facts,
  Cert.LruWeightGrad.Gen.facts, Cert.LruWeightGradIdeal.Gen.facts, Cert.LruWeightGradReferenceIdeal.Gen.facts,
  Cert.MlaWeightGrad.Gen.facts, Cert.MlaWeightGradIdeal.Gen.facts, Cert.MlaWeightGradReferenceIdeal.Gen.facts,
  Cert.DilWeightGrad.Gen.facts, Cert.DilWeightGradIdeal.Gen.facts, Cert.DilWeightGradReferenceIdeal.Gen.facts,
  Cert.Attention.Gen.facts, Cert.AttentionIdeal.Gen.facts, Cert.AttentionReferenceIdeal.Gen.facts,
  Cert.Norm.Gen.facts, Cert.NormIdeal.Gen.facts, Cert.NormReferenceIdeal.Gen.facts,
  Cert.Merge.Gen.facts, Cert.MergeIdeal.Gen.facts, Cert.MergeReferenceIdeal.Gen.facts,
  Cert.Loss.Gen.facts, Cert.LossIdeal.Gen.facts, Cert.LossReferenceIdeal.Gen.facts,
  Cert.AdamW.Gen.facts, Cert.AdamWIdeal.Gen.facts, Cert.AdamWReferenceIdeal.Gen.facts,
  Cert.GateLru.Gen.facts, Cert.GateLruIdeal.Gen.facts, Cert.GateLruReferenceIdeal.Gen.facts,
  Cert.GateMla.Gen.facts, Cert.GateMlaIdeal.Gen.facts, Cert.GateMlaReferenceIdeal.Gen.facts,
  Cert.GateDil.Gen.facts, Cert.GateDilIdeal.Gen.facts, Cert.GateDilReferenceIdeal.Gen.facts,
  Cert.Finite.facts, Cert.FiniteScores.facts,
  words_quiet, ideal_quiet, fun m ρ _ => ideal_quiet m ρ trivial, reference_quiet, fun m ρ _ => reference_quiet m ρ trivial,
  fun m ρ _ => Cert.Proj.Gen.frame m ρ, fun m ρ _ => Cert.ProjIdeal.Gen.frame m ρ, reference_quiet_Proj,
  fun m ρ _ => Cert.ProjW.Gen.frame m ρ, fun m ρ _ => Cert.ProjWIdeal.Gen.frame m ρ, reference_quiet_ProjW,
  fun m ρ _ => Cert.ProjH.Gen.frame m ρ, fun m ρ _ => Cert.ProjHIdeal.Gen.frame m ρ, reference_quiet_ProjH,
  fun m ρ _ => Cert.LruOut.Gen.frame m ρ, fun m ρ _ => Cert.LruOutIdeal.Gen.frame m ρ, reference_quiet_LruOut,
  fun m ρ _ => Cert.MlaOut.Gen.frame m ρ, fun m ρ _ => Cert.MlaOutIdeal.Gen.frame m ρ, reference_quiet_MlaOut,
  fun m ρ _ => Cert.DilOut.Gen.frame m ρ, fun m ρ _ => Cert.DilOutIdeal.Gen.frame m ρ, reference_quiet_DilOut,
  fun m ρ _ => Cert.OutProj.Gen.frame m ρ, fun m ρ _ => Cert.OutProjIdeal.Gen.frame m ρ, reference_quiet_OutProj,
  fun m ρ _ => Cert.MergedGrad.Gen.frame m ρ, fun m ρ _ => Cert.MergedGradIdeal.Gen.frame m ρ, reference_quiet_MergedGrad,
  fun m ρ _ => Cert.OutWeightGrad.Gen.frame m ρ, fun m ρ _ => Cert.OutWeightGradIdeal.Gen.frame m ρ, reference_quiet_OutWeightGrad,
  fun m ρ _ => Cert.LruGrad.Gen.frame m ρ, fun m ρ _ => Cert.LruGradIdeal.Gen.frame m ρ, reference_quiet_LruGrad,
  fun m ρ _ => Cert.MlaGrad.Gen.frame m ρ, fun m ρ _ => Cert.MlaGradIdeal.Gen.frame m ρ, reference_quiet_MlaGrad,
  fun m ρ _ => Cert.DilGrad.Gen.frame m ρ, fun m ρ _ => Cert.DilGradIdeal.Gen.frame m ρ, reference_quiet_DilGrad,
  fun m ρ _ => Cert.LruWeightGrad.Gen.frame m ρ, fun m ρ _ => Cert.LruWeightGradIdeal.Gen.frame m ρ, reference_quiet_LruWeightGrad,
  fun m ρ _ => Cert.MlaWeightGrad.Gen.frame m ρ, fun m ρ _ => Cert.MlaWeightGradIdeal.Gen.frame m ρ, reference_quiet_MlaWeightGrad,
  fun m ρ _ => Cert.DilWeightGrad.Gen.frame m ρ, fun m ρ _ => Cert.DilWeightGradIdeal.Gen.frame m ρ, reference_quiet_DilWeightGrad,
  fun m ρ _ => Cert.Attention.Gen.frame m ρ, fun m ρ _ => Cert.AttentionIdeal.Gen.frame m ρ, fun m ρ _ => Cert.AttentionIdeal.Gen.frame m ρ,
  reference_quiet_Attention, fun m ρ _ => reference_quiet_Attention m ρ trivial,
  fun m ρ _ => Cert.Norm.Gen.frame m ρ, fun m ρ _ => Cert.NormIdeal.Gen.frame m ρ, reference_quiet_Norm,
  fun m ρ _ => Cert.Merge.Gen.frame m ρ, fun m ρ _ => Cert.MergeIdeal.Gen.frame m ρ, reference_quiet_Merge,
  fun m ρ _ => Cert.Loss.Gen.frame m ρ, fun m ρ _ => Cert.LossIdeal.Gen.frame m ρ, reference_quiet_Loss,
  fun m ρ _ => Cert.AdamW.Gen.frame m ρ, fun m ρ _ => Cert.AdamWIdeal.Gen.frame m ρ, reference_quiet_AdamW,
  fun m ρ _ => Cert.GateLru.Gen.frame m ρ, fun m ρ _ => Cert.GateLruIdeal.Gen.frame m ρ, reference_quiet_GateLru,
  fun m ρ _ => Cert.GateMla.Gen.frame m ρ, fun m ρ _ => Cert.GateMlaIdeal.Gen.frame m ρ, reference_quiet_GateMla,
  fun m ρ _ => Cert.GateDil.Gen.frame m ρ, fun m ρ _ => Cert.GateDilIdeal.Gen.frame m ρ, reference_quiet_GateDil,
  mask_named, Cert.Equal.algebraic,
  trivial, Cert.Projection.algebraic, trivial,
  Cert.WeightGradient.algebraic, trivial, Cert.InputGradient.algebraic,
  trivial, Cert.LruOutput.algebraic, trivial,
  Cert.MlaOutput.algebraic, trivial, Cert.DilOutput.algebraic,
  trivial, Cert.LayerOutput.algebraic, trivial,
  Cert.MergedGradient.algebraic, trivial, Cert.OutputWeights.algebraic,
  trivial, Cert.LruGradient.algebraic, trivial,
  Cert.MlaGradient.algebraic, trivial, Cert.DilGradient.algebraic,
  trivial, Cert.LruWeights.algebraic, trivial,
  Cert.MlaWeights.algebraic, trivial, Cert.DilWeights.algebraic,
  attention_named, Cert.AttentionEqual.algebraic, trivial,
  Cert.LayerNorm.algebraic, trivial, Cert.MergeGates.algebraic,
  trivial, Cert.LossHead.algebraic, trivial, Cert.Optimiser.algebraic, trivial,
  Cert.GateGradientLru.algebraic, trivial, Cert.GateGradientMla.algebraic,
  trivial, Cert.GateGradientDil.algebraic⟩

end Cert.Proof

end
